-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_online : Cert.Pre_online.Facts] (m : (ℓ : Loc Cert.Kernel3.nD Cert.Kernel3.τ Cert.Kernel3.sig) → Buf (Elt Bits) ℓ) : Prop :=
  ∀ c : Dev Cert.Kernel3.nD,
    (Cert.Pre_online.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7))) = (fun _ => 1#1)

def Pre_Kernel3Ideal [hPre_online : Cert.Pre_online.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_online.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Kernel3Ideal_online_finite [hPre_online_finite : Cert.Pre_online_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_online_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_online_finite [hPre_online_finite : Cert.Pre_online_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_online_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] [hPre_online : Cert.Pre_online.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] [hPre_online : Cert.Pre_online.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_online_finite [hKernel3Ideal : Cert.Kernel3Ideal.Facts] [hPre_online_finite : Cert.Pre_online_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_online_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_online_finite [hReference3Ideal : Cert.Reference3Ideal.Facts] [hPre_online_finite : Cert.Pre_online_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_online_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v26_0)) (v1 : (c : Dev Cert.Kernel2Ideal.nD) → Buf (Elt Ideal) ((c.tc : Thread Cert.Kernel2Ideal.nD Cert.Kernel2Ideal.τ).loc Cert.Kernel2Ideal.main_v26_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v26_0) = v0 c
          ∧ r.2.mem ((c.tc : Thread Cert.Kernel2Ideal.nD Cert.Kernel2Ideal.τ).loc Cert.Kernel2Ideal.main_v26_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v47) = v0 c
          ∧ r.2.mem ((c.tc : Thread Cert.Reference2Ideal.nD Cert.Reference2Ideal.τ).loc Cert.Reference2Ideal.main_v52) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  IdealRules.named_const.Statement Cert.Kernel3Ideal.κ "mask" .f32 0xF149F2CA#32 ⊥

def algebraic_Kernel3Ideal_Reference3Ideal_pre_online_finite [hKernel3Ideal : Cert.Kernel3Ideal.Facts] [hReference3Ideal : Cert.Reference3Ideal.Facts] [hPre_online_finite : Cert.Pre_online_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_online_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v50) = v0 c
          ∧ r.2.mem ((c.tc : Thread Cert.Reference3Ideal.nD Cert.Reference3Ideal.τ).loc Cert.Reference3Ideal.main_v51) = v1 c
          ∧ r.2.mem ((c.tc : Thread Cert.Reference3Ideal.nD Cert.Reference3Ideal.τ).loc Cert.Reference3Ideal.main_v52) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v82_0)) (v1 : (c : Dev Cert.Kernel4Ideal.nD) → Buf (Elt Ideal) ((c.tc : Thread Cert.Kernel4Ideal.nD Cert.Kernel4Ideal.τ).loc Cert.Kernel4Ideal.main_v82_1)) (v2 : (c : Dev Cert.Kernel4Ideal.nD) → Buf (Elt Ideal) ((c.tc : Thread Cert.Kernel4Ideal.nD Cert.Kernel4Ideal.τ).loc Cert.Kernel4Ideal.main_v82_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v82_0) = v0 c
          ∧ r.2.mem ((c.tc : Thread Cert.Kernel4Ideal.nD Cert.Kernel4Ideal.τ).loc Cert.Kernel4Ideal.main_v82_1) = v1 c
          ∧ r.2.mem ((c.tc : Thread Cert.Kernel4Ideal.nD Cert.Kernel4Ideal.τ).loc Cert.Kernel4Ideal.main_v82_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v57) = v0 c
          ∧ r.2.mem ((c.tc : Thread Cert.Reference4Ideal.nD Cert.Reference4Ideal.τ).loc Cert.Reference4Ideal.main_v59) = v1 c
          ∧ r.2.mem ((c.tc : Thread Cert.Reference4Ideal.nD Cert.Reference4Ideal.τ).loc Cert.Reference4Ideal.main_v60) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_online : Cert.Pre_online.Facts) (hPre_online_finite : Cert.Pre_online_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_online := hPre_online)
    ∧ quiescent_Kernel3Ideal (hKernel3Ideal := hKernel3Ideal) (hPre_online := hPre_online)
    ∧ quiescent_Kernel3Ideal_pre_online_finite (hKernel3Ideal := hKernel3Ideal) (hPre_online_finite := hPre_online_finite)
    ∧ quiescent_Reference3Ideal (hReference3Ideal := hReference3Ideal)
    ∧ quiescent_Reference3Ideal_pre_online_finite (hReference3Ideal := hReference3Ideal) (hPre_online_finite := hPre_online_finite)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_online_finite (hKernel3Ideal := hKernel3Ideal) (hReference3Ideal := hReference3Ideal) (hPre_online_finite := hPre_online_finite)
    ∧ preserves_Kernel4_Kernel4Ideal
    ∧ algebraic_Kernel4Ideal_Reference4Ideal (hKernel4Ideal := hKernel4Ideal) (hReference4Ideal := hReference4Ideal)
-- ==== Pre_online.lean ====
abbrev S257 : Shape := ⟨1, ![257]⟩
abbrev S4x1024x4096 : Shape := ⟨3, ![4, 1024, 4096]⟩
abbrev S4x4096x1024 : Shape := ⟨3, ![4, 4096, 1024]⟩
abbrev S4x8x1024x512 : Shape := ⟨4, ![4, 8, 1024, 512]⟩
abbrev S2048x4096 : Shape := ⟨2, ![2048, 4096]⟩
abbrev S8192x1024 : Shape := ⟨2, ![8192, 1024]⟩
abbrev S1 : Shape := ⟨1, ![1]⟩
abbrev S_ : Shape := ⟨0, ![]⟩

class Facts : Prop where
  slices_S257_S1_256 : S257.Slices ![256] S1
  bcast_S_S1 : S_.BroadcastsInDim S1 (![] : Fin 0 → Fin S1.rank)

variable [Facts]

def fn {F : FTy → Type} [FloatOps F] (main_arg0 : IVec S257 32) (main_arg1 : FVec F S4x1024x4096 .bf16) (main_arg2 : FVec F S4x1024x4096 .bf16) (main_arg3 : FVec F S4x4096x1024 .bf16) (main_arg4 : FVec F S4x4096x1024 .bf16) (main_arg5 : FVec F S4x8x1024x512 .bf16) (main_arg6 : FVec F S2048x4096 .f32) (main_arg7 : FVec F S8192x1024 .f32) : IVec S1 1 :=
  let main_v0 : IVec S1 32 := (extractStridedSlice S1 ![256] · slices_S257_S1_256) main_arg0
  let main_c : IVec S_ 32 := constantI S_ 32 0#32
  let main_v1 : IVec S1 32 := broadcastInDim S1 ![] bcast_S_S1 main_c
  let main_v2 : IVec S1 1 := cmpi .ne main_v0 main_v1
  main_v2
-- ==== Pre_online_finite.lean ====
abbrev S257 : Shape := ⟨1, ![257]⟩
abbrev S4x1024x4096 : Shape := ⟨3, ![4, 1024, 4096]⟩
abbrev S4x4096x1024 : Shape := ⟨3, ![4, 4096, 1024]⟩
abbrev S4x8x1024x512 : Shape := ⟨4, ![4, 8, 1024, 512]⟩
abbrev S2048x4096 : Shape := ⟨2, ![2048, 4096]⟩
abbrev S8192x1024 : Shape := ⟨2, ![8192, 1024]⟩
abbrev S1 : Shape := ⟨1, ![1]⟩
abbrev S_ : Shape := ⟨0, ![]⟩

class Facts : Prop where
  slices_S257_S1_256 : S257.Slices ![256] S1
  shapeCasts_S1_S_ : S1.ShapeCasts S_
  bitsLt_bf16_f32 : FTy.bits .bf16 < FTy.bits .f32
  bcast_S_S4x1024x4096 : S_.BroadcastsInDim S4x1024x4096 (![] : Fin 0 → Fin S4x1024x4096.rank)
  reducesTo_S4x1024x4096_S_d0_1_2 : S4x1024x4096.ReducesTo [0, 1, 2] S_
  h_S_ : 0 < S_.numel
  bcast_S_S4x4096x1024 : S_.BroadcastsInDim S4x4096x1024 (![] : Fin 0 → Fin S4x4096x1024.rank)
  reducesTo_S4x4096x1024_S_d0_1_2 : S4x4096x1024.ReducesTo [0, 1, 2] S_
  bcast_S_S4x8x1024x512 : S_.BroadcastsInDim S4x8x1024x512 (![] : Fin 0 → Fin S4x8x1024x512.rank)
  reducesTo_S4x8x1024x512_S_d0_1_2_3 : S4x8x1024x512.ReducesTo [0, 1, 2, 3] S_

variable [Facts]

def fn_part1 {F : FTy → Type} [FloatOps F] (main_arg4 : FVec F S4x4096x1024 .bf16) (main_arg5 : FVec F S4x8x1024x512 .bf16) (main_v14 : IVec S_ 1) (main_v16 : FVec F S4x4096x1024 .f32) (main_v17 : FVec F S4x4096x1024 .f32) : IVec S_ 1 :=
  let main_v18 : IVec S4x4096x1024 1 := cmpf .olt main_v16 main_v17
  let main_c_4 : IVec S_ 1 := constantI S_ 1 1#1
  let main_v19 : IVec S_ 1 := (fun x v => Host.reduce IntOp.andi x v reducesTo_S4x4096x1024_S_d0_1_2 h_S_) main_v18 main_c_4
  let main_v20 : IVec S_ 1 := andi main_v14 main_v19
  let main_v21 : FVec F S4x4096x1024 .f32 := (extf .f32 · bitsLt_bf16_f32) main_arg4
  let main_v22 : FVec F S4x4096x1024 .f32 := Host.absf main_v21
  let main_cst_5 : FVec F S_ .f32 := constant S_ .f32 0x7F800000#32
  let main_v23 : FVec F S4x4096x1024 .f32 := broadcastInDim S4x4096x1024 ![] bcast_S_S4x4096x1024 main_cst_5
  let main_v24 : IVec S4x4096x1024 1 := cmpf .olt main_v22 main_v23
  let main_c_6 : IVec S_ 1 := constantI S_ 1 1#1
  let main_v25 : IVec S_ 1 := (fun x v => Host.reduce IntOp.andi x v reducesTo_S4x4096x1024_S_d0_1_2 h_S_) main_v24 main_c_6
  let main_v26 : IVec S_ 1 := andi main_v20 main_v25
  let main_v27 : FVec F S4x8x1024x512 .f32 := (extf .f32 · bitsLt_bf16_f32) main_arg5
  let main_v28 : FVec F S4x8x1024x512 .f32 := Host.absf main_v27
  let main_cst_7 : FVec F S_ .f32 := constant S_ .f32 0x7F800000#32
  let main_v29 : FVec F S4x8x1024x512 .f32 := broadcastInDim S4x8x1024x512 ![] bcast_S_S4x8x1024x512 main_cst_7
  let main_v30 : IVec S4x8x1024x512 1 := cmpf .olt main_v28 main_v29
  let main_c_8 : IVec S_ 1 := constantI S_ 1 1#1
  let main_v31 : IVec S_ 1 := (fun x v => Host.reduce IntOp.andi x v reducesTo_S4x8x1024x512_S_d0_1_2_3 h_S_) main_v30 main_c_8
  let main_v32 : IVec S_ 1 := andi main_v26 main_v31
  main_v32

def fn {F : FTy → Type} [FloatOps F] (main_arg0 : IVec S257 32) (main_arg1 : FVec F S4x1024x4096 .bf16) (main_arg2 : FVec F S4x1024x4096 .bf16) (main_arg3 : FVec F S4x4096x1024 .bf16) (main_arg4 : FVec F S4x4096x1024 .bf16) (main_arg5 : FVec F S4x8x1024x512 .bf16) (main_arg6 : FVec F S2048x4096 .f32) (main_arg7 : FVec F S8192x1024 .f32) : IVec S_ 1 :=
  let main_v0 : IVec S1 32 := (extractStridedSlice S1 ![256] · slices_S257_S1_256) main_arg0
  let main_v1 : IVec S_ 32 := shapeCast S_ main_v0 shapeCasts_S1_S_
  let main_c : IVec S_ 32 := constantI S_ 32 0#32
  let main_v2 : IVec S_ 1 := cmpi .ne main_v1 main_c
  let main_v3 : FVec F S4x1024x4096 .f32 := (extf .f32 · bitsLt_bf16_f32) main_arg1
  let main_v4 : FVec F S4x1024x4096 .f32 := Host.absf main_v3
  let main_cst : FVec F S_ .f32 := constant S_ .f32 0x7F800000#32
  let main_v5 : FVec F S4x1024x4096 .f32 := broadcastInDim S4x1024x4096 ![] bcast_S_S4x1024x4096 main_cst
  let main_v6 : IVec S4x1024x4096 1 := cmpf .olt main_v4 main_v5
  let main_c_0 : IVec S_ 1 := constantI S_ 1 1#1
  let main_v7 : IVec S_ 1 := (fun x v => Host.reduce IntOp.andi x v reducesTo_S4x1024x4096_S_d0_1_2 h_S_) main_v6 main_c_0
  let main_v8 : IVec S_ 1 := andi main_v2 main_v7
  let main_v9 : FVec F S4x1024x4096 .f32 := (extf .f32 · bitsLt_bf16_f32) main_arg2
  let main_v10 : FVec F S4x1024x4096 .f32 := Host.absf main_v9
  let main_cst_1 : FVec F S_ .f32 := constant S_ .f32 0x7F800000#32
  let main_v11 : FVec F S4x1024x4096 .f32 := broadcastInDim S4x1024x4096 ![] bcast_S_S4x1024x4096 main_cst_1
  let main_v12 : IVec S4x1024x4096 1 := cmpf .olt main_v10 main_v11
  let main_c_2 : IVec S_ 1 := constantI S_ 1 1#1
  let main_v13 : IVec S_ 1 := (fun x v => Host.reduce IntOp.andi x v reducesTo_S4x1024x4096_S_d0_1_2 h_S_) main_v12 main_c_2
  let main_v14 : IVec S_ 1 := andi main_v8 main_v13
  let main_v15 : FVec F S4x4096x1024 .f32 := (extf .f32 · bitsLt_bf16_f32) main_arg3
  let main_v16 : FVec F S4x4096x1024 .f32 := Host.absf main_v15
  let main_cst_3 : FVec F S_ .f32 := constant S_ .f32 0x7F800000#32
  let main_v17 : FVec F S4x4096x1024 .f32 := broadcastInDim S4x4096x1024 ![] bcast_S_S4x4096x1024 main_cst_3
  fn_part1 (F := F) main_arg4 main_arg5 main_v14 main_v16 main_v17
-- ==== Kernel.lean ====
abbrev S16384x1024 : Shape := ⟨2, ![16384, 1024]⟩
abbrev S1x1024x2048 : Shape := ⟨3, ![1, 1024, 2048]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024x2048 : Shape := ⟨2, ![1024, 2048]⟩
abbrev S1x1024 : Shape := ⟨2, ![1, 1024]⟩
abbrev S1024 : Shape := ⟨1, ![1024]⟩
abbrev S256 : Shape := ⟨1, ![256]⟩
abbrev S1x256 : Shape := ⟨2, ![1, 256]⟩
abbrev S256x1 : Shape := ⟨2, ![256, 1]⟩
abbrev S_ : Shape := ⟨0, ![]⟩
abbrev S256x256 : Shape := ⟨2, ![256, 256]⟩
abbrev S512x1024 : Shape := ⟨2, ![512, 1024]⟩
abbrev S1x1024x4096 : Shape := ⟨3, ![1, 1024, 4096]⟩
abbrev S1x4096x1024 : Shape := ⟨3, ![1, 4096, 1024]⟩
abbrev S256x1024 : Shape := ⟨2, ![256, 1024]⟩
abbrev S512x2048 : Shape := ⟨2, ![512, 2048]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩

abbrev nBuf : Space → Nat
  | .hbm => 69
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1x1024x2048, .f32⟩
  | .hbm, ⟨3, _⟩ => ⟨S2x1024, .f32⟩
  | .hbm, ⟨4, _⟩ => ⟨S2x1024x4096, .bf16⟩
  | .hbm, ⟨5, _⟩ => ⟨S2x4096x1024, .bf16⟩
  | .hbm, ⟨6, _⟩ => ⟨S1024x2048, .f32⟩
  | .hbm, ⟨7, _⟩ => ⟨S1024x2048, .bf16⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S256, .i32⟩
  | .hbm, ⟨12, _⟩ => ⟨S1x256, .i32⟩
  | .hbm, ⟨13, _⟩ => ⟨S256x1, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S256x1, .i32⟩
  | .hbm, ⟨21, _⟩ => ⟨S256x1, .i32⟩
  | .hbm, ⟨22, _⟩ => ⟨S_, .i32⟩
  | .hbm, ⟨23, _⟩ => ⟨S256x1, .i32⟩
  | .hbm, ⟨24, _⟩ => ⟨S256x1, .i1⟩
  | .hbm, ⟨25, _⟩ => ⟨S_, .i32⟩
  | .hbm, ⟨26, _⟩ => ⟨S256x1, .i32⟩
  | .hbm, ⟨27, _⟩ => ⟨S256x1, .i1⟩
  | .hbm, ⟨28, _⟩ => ⟨S_, .i32⟩
  | .hbm, ⟨29, _⟩ => ⟨S_, .i1⟩
  | .hbm, ⟨30, _⟩ => ⟨S256x1, .i1⟩
  | .hbm, ⟨31, _⟩ => ⟨S256x1, .i1⟩
  | .hbm, ⟨32, _⟩ => ⟨S256x1, .i1⟩
  | .hbm, ⟨33, _⟩ => ⟨S256x1, .i32⟩
  | .hbm, ⟨34, _⟩ => ⟨S256x1, .i32⟩
  | .hbm, ⟨35, _⟩ => ⟨S256x1, .i32⟩
  | .hbm, ⟨36, _⟩ => ⟨S_, .i32⟩
  | .hbm, ⟨37, _⟩ => ⟨S256x1, .i32⟩
  | .hbm, ⟨38, _⟩ => ⟨S256x1, .i32⟩
  | .hbm, ⟨39, _⟩ => ⟨S256x1, .i32⟩
  | .hbm, ⟨40, _⟩ => ⟨S_, .i32⟩
  | .hbm, ⟨41, _⟩ => ⟨S_, .i32⟩
  | .hbm, ⟨42, _⟩ => ⟨S256x1, .i32⟩
  | .hbm, ⟨43, _⟩ => ⟨S256x1, .i32⟩
  | .hbm, ⟨44, _⟩ => ⟨S256x1, .i32⟩
  | .hbm, ⟨45, _⟩ => ⟨S_, .i32⟩
  | .hbm, ⟨46, _⟩ => ⟨S256x1, .i32⟩
  | .hbm, ⟨47, _⟩ => ⟨S256x1, .i1⟩
  | .hbm, ⟨48, _⟩ => ⟨S256x1, .i32⟩
  | .hbm, ⟨49, _⟩ => ⟨S256x1, .i32⟩
  | .hbm, ⟨50, _⟩ => ⟨S_, .i32⟩
  | .hbm, ⟨51, _⟩ => ⟨S256x1, .i32⟩
  | .hbm, ⟨52, _⟩ => ⟨S256x1, .i1⟩
  | .hbm, ⟨53, _⟩ => ⟨S256x1, .i1⟩
  | .hbm, ⟨54, _⟩ => ⟨S_, .i32⟩
  | .hbm, ⟨55, _⟩ => ⟨S256x1, .i32⟩
  | .hbm, ⟨56, _⟩ => ⟨S256x1, .i32⟩
  | .hbm, ⟨57, _⟩ => ⟨S256x1, .i32⟩
  | .hbm, ⟨58, _⟩ => ⟨S256x1, .i32⟩
  | .hbm, ⟨59, _⟩ => ⟨S256x256, .i32⟩
  | .hbm, ⟨60, _⟩ => ⟨S256x256, .i32⟩
  | .hbm, ⟨61, _⟩ => ⟨S256x256, .i1⟩
  | .hbm, ⟨62, _⟩ => ⟨S_, .f32⟩
  | .hbm, ⟨63, _⟩ => ⟨S_, .f32⟩
  | .hbm, ⟨64, _⟩ => ⟨S256x256, .f32⟩
  | .hbm, ⟨65, _⟩ => ⟨S256x256, .f32⟩
  | .hbm, ⟨66, _⟩ => ⟨S256x256, .f32⟩
  | .hbm, ⟨67, _⟩ => ⟨S256x256, .bf16⟩
  | .hbm, ⟨68, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1x1024, .f32⟩
  | .local _ .vmem, ⟨6, _⟩ => ⟨S1x1024x4096, .bf16⟩
  | .local _ .vmem, ⟨7, _⟩ => ⟨S1x4096x1024, .bf16⟩
  | .local _ .vmem, ⟨8, _⟩ => ⟨S256x256, .bf16⟩
  | .local _ .vmem, ⟨9, _⟩ => ⟨S512x1024, .f32⟩
  | .local _ .vmem, ⟨10, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_v5 : Ref sig .tc := ⟨.hbm, 23, rfl⟩
abbrev main_call0_v6 : Ref sig .tc := ⟨.hbm, 24, rfl⟩
abbrev main_call0_c_2 : Ref sig .tc := ⟨.hbm, 25, rfl⟩
abbrev main_call0_v7 : Ref sig .tc := ⟨.hbm, 26, rfl⟩
abbrev main_call0_v8 : Ref sig .tc := ⟨.hbm, 27, rfl⟩
abbrev main_call0_c_3 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_v8 : Ref sig .tc := ⟨.hbm, 35, rfl⟩
abbrev main_c_0 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_c_1 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_c : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_0 : Ref sig .tc := ⟨.hbm, 54, rfl⟩
abbrev main_call1_v12 : Ref sig .tc := ⟨.hbm, 55, rfl⟩
abbrev main_call1_v13 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_cst : Ref sig .tc := ⟨.hbm, 62, rfl⟩
abbrev main_cst_2 : Ref sig .tc := ⟨.hbm, 63, rfl⟩
abbrev main_call2_v0 : Ref sig .tc := ⟨.hbm, 64, rfl⟩
abbrev main_call2_v1 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S16384x1024 : Shape := ⟨2, ![16384, 1024]⟩
abbrev S1x1024x2048 : Shape := ⟨3, ![1, 1024, 2048]⟩
abbrev S2x1024 : Shape := ⟨2, ![2, 1024]⟩
abbrev S2x1024x4096 : Shape := ⟨3, ![2, 1024, 4096]⟩
abbrev S2x4096x1024 : Shape := ⟨3, ![2, 4096, 1024]⟩
abbrev S64x16x16x1024 : Shape := ⟨4, ![64, 16, 16, 1024]⟩
abbrev S1024x2048 : Shape := ⟨2, ![1024, 2048]⟩
abbrev S16384x2048 : Shape := ⟨2, ![16384, 2048]⟩
abbrev S_ : Shape := ⟨0, ![]⟩
abbrev S1x1024 : Shape := ⟨2, ![1, 1024]⟩
abbrev S1024 : Shape := ⟨1, ![1024]⟩
abbrev S16384 : Shape := ⟨1, ![16384]⟩
abbrev S16384x1 : Shape := ⟨2, ![16384, 1]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S16384x4096 : Shape := ⟨2, ![16384, 4096]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1x1024x2048, .f32⟩
  | .hbm, ⟨3, _⟩ => ⟨S2x1024, .f32⟩
  | .hbm, ⟨4, _⟩ => ⟨S2x1024x4096, .bf16⟩
  | .hbm, ⟨5, _⟩ => ⟨S2x4096x1024, .bf16⟩
  | .hbm, ⟨6, _⟩ => ⟨S16384x1024, .f32⟩
  | .hbm, ⟨7, _⟩ => ⟨S64x16x16x1024, .f32⟩
  | .hbm, ⟨8, _⟩ => ⟨S64x16x16x1024, .f32⟩
  | .hbm, ⟨9, _⟩ => ⟨S16384x1024, .f32⟩
  | .hbm, ⟨10, _⟩ => ⟨S1024x2048, .f32⟩
  | .hbm, ⟨11, _⟩ => ⟨S16384x2048, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S1024, .f32⟩
  | .hbm, ⟨26, _⟩ => ⟨S16384x1024, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S16384x1024, .f32⟩
  | .hbm, ⟨38, _⟩ => ⟨S16384x1024, .f32⟩
  | .hbm, ⟨39, _⟩ => ⟨S1x1024, .f32⟩
  | .hbm, ⟨40, _⟩ => ⟨S16384x1024, .f32⟩
  | .hbm, ⟨41, _⟩ => ⟨S16384x1024, .f32⟩
  | .hbm, ⟨42, _⟩ => ⟨S1x1024x4096, .bf16⟩
  | .hbm, ⟨43, _⟩ => ⟨S1024x4096, .bf16⟩
  | .hbm, ⟨44, _⟩ => ⟨S1024x4096, .f32⟩
  | .hbm, ⟨45, _⟩ => ⟨S1x4096x1024, .bf16⟩
  | .hbm, ⟨46, _⟩ => ⟨S4096x1024, .bf16⟩
  | .hbm, ⟨47, _⟩ => ⟨S4096x1024, .f32⟩
  | .hbm, ⟨48, _⟩ => ⟨S16384x4096, .f32⟩
  | .hbm, ⟨49, _⟩ => ⟨S_, .f32⟩
  | .hbm, ⟨50, _⟩ => ⟨S16384x4096, .f32⟩
  | .hbm, ⟨51, _⟩ => ⟨S16384x4096, .f32⟩
  | .hbm, ⟨52, _⟩ => ⟨S16384x4096, .f32⟩
  | .hbm, ⟨53, _⟩ => ⟨S16384x1024, .f32⟩
  | .hbm, ⟨54, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_call0_cst : Ref sig .tc := ⟨.hbm, 49, rfl⟩
abbrev main_call0_v0 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Kernel2.lean ====
abbrev S4x4096x1024 : Shape := ⟨3, ![4, 4096, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S16384x1024 : Shape := ⟨2, ![16384, 1024]⟩
abbrev S1024x1024 : Shape := ⟨2, ![1024, 1024]⟩
abbrev S1x1024 : Shape := ⟨2, ![1, 1024]⟩
abbrev S1024 : Shape := ⟨1, ![1024]⟩
abbrev S256 : Shape := ⟨1, ![256]⟩
abbrev S1x256 : Shape := ⟨2, ![1, 256]⟩
abbrev S256x1 : Shape := ⟨2, ![256, 1]⟩
abbrev S_ : Shape := ⟨0, ![]⟩
abbrev S256x256 : Shape := ⟨2, ![256, 256]⟩
abbrev S512x1024 : Shape := ⟨2, ![512, 1024]⟩
abbrev S1x1024x4096 : Shape := ⟨3, ![1, 1024, 4096]⟩
abbrev S1x4096x1024 : Shape := ⟨3, ![1, 4096, 1024]⟩
abbrev S512 : Shape := ⟨1, ![512]⟩
abbrev S512x1 : Shape := ⟨2, ![512, 1]⟩
abbrev S256x1024 : Shape := ⟨2, ![256, 1024]⟩

abbrev nBuf : Space → Nat
  | .hbm => 79
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .bf16⟩
  | .hbm, ⟨2, _⟩ => ⟨S1x1024x1024, .f32⟩
  | .hbm, ⟨3, _⟩ => ⟨S2x1024, .f32⟩
  | .hbm, ⟨4, _⟩ => ⟨S2x1024x4096, .bf16⟩
  | .hbm, ⟨5, _⟩ => ⟨S2x4096x1024, .bf16⟩
  | .hbm, ⟨6, _⟩ => ⟨S2x1024, .f32⟩
  | .hbm, ⟨7, _⟩ => ⟨S1x1024x1024, .f32⟩
  | .hbm, ⟨8, _⟩ => ⟨S16384x1024, .f32⟩
  | .hbm, ⟨9, _⟩ => ⟨S16384x1024, .bf16⟩
  | .hbm, ⟨10, _⟩ => ⟨S1024x1024, .f32⟩
  | .hbm, ⟨11, _⟩ => ⟨S1024x1024, .bf16⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S256, .i32⟩
  | .hbm, ⟨16, _⟩ => ⟨S1x256, .i32⟩
  | .hbm, ⟨17, _⟩ => ⟨S256x1, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S256x1, .i32⟩
  | .hbm, ⟨25, _⟩ => ⟨S256x1, .i32⟩
  | .hbm, ⟨26, _⟩ => ⟨S_, .i32⟩
  | .hbm, ⟨27, _⟩ => ⟨S256x1, .i32⟩
  | .hbm, ⟨28, _⟩ => ⟨S256x1, .i1⟩
  | .hbm, ⟨29, _⟩ => ⟨S_, .i32⟩
  | .hbm, ⟨30, _⟩ => ⟨S256x1, .i32⟩
  | .hbm, ⟨31, _⟩ => ⟨S256x1, .i1⟩
  | .hbm, ⟨32, _⟩ => ⟨S_, .i32⟩
  | .hbm, ⟨33, _⟩ => ⟨S_, .i1⟩
  | .hbm, ⟨34, _⟩ => ⟨S256x1, .i1⟩
  | .hbm, ⟨35, _⟩ => ⟨S256x1, .i1⟩
  | .hbm, ⟨36, _⟩ => ⟨S256x1, .i1⟩
  | .hbm, ⟨37, _⟩ => ⟨S256x1, .i32⟩
  | .hbm, ⟨38, _⟩ => ⟨S256x1, .i32⟩
  | .hbm, ⟨39, _⟩ => ⟨S256x1, .i32⟩
  | .hbm, ⟨40, _⟩ => ⟨S_, .i32⟩
  | .hbm, ⟨41, _⟩ => ⟨S256x1, .i32⟩
  | .hbm, ⟨42, _⟩ => ⟨S256x1, .i32⟩
  | .hbm, ⟨43, _⟩ => ⟨S256x1, .i32⟩
  | .hbm, ⟨44, _⟩ => ⟨S_, .i32⟩
  | .hbm, ⟨45, _⟩ => ⟨S_, .i32⟩
  | .hbm, ⟨46, _⟩ => ⟨S256x1, .i32⟩
  | .hbm, ⟨47, _⟩ => ⟨S256x1, .i32⟩
  | .hbm, ⟨48, _⟩ => ⟨S256x1, .i32⟩
  | .hbm, ⟨49, _⟩ => ⟨S_, .i32⟩
  | .hbm, ⟨50, _⟩ => ⟨S256x1, .i32⟩
  | .hbm, ⟨51, _⟩ => ⟨S256x1, .i1⟩
  | .hbm, ⟨52, _⟩ => ⟨S256x1, .i32⟩
  | .hbm, ⟨53, _⟩ => ⟨S256x1, .i32⟩
  | .hbm, ⟨54, _⟩ => ⟨S_, .i32⟩
  | .hbm, ⟨55, _⟩ => ⟨S256x1, .i32⟩
  | .hbm, ⟨56, _⟩ => ⟨S256x1, .i1⟩
  | .hbm, ⟨57, _⟩ => ⟨S256x1, .i1⟩
  | .hbm, ⟨58, _⟩ => ⟨S_, .i32⟩
  | .hbm, ⟨59, _⟩ => ⟨S256x1, .i32⟩
  | .hbm, ⟨60, _⟩ => ⟨S256x1, .i32⟩
  | .hbm, ⟨61, _⟩ => ⟨S256x1, .i32⟩
  | .hbm, ⟨62, _⟩ => ⟨S256x1, .i32⟩
  | .hbm, ⟨63, _⟩ => ⟨S256x256, .i32⟩
  | .hbm, ⟨64, _⟩ => ⟨S256x256, .i32⟩
  | .hbm, ⟨65, _⟩ => ⟨S256x256, .i1⟩
  | .hbm, ⟨66, _⟩ => ⟨S_, .f32⟩
  | .hbm, ⟨67, _⟩ => ⟨S_, .f32⟩
  | .hbm, ⟨68, _⟩ => ⟨S256x256, .f32⟩
  | .hbm, ⟨69, _⟩ => ⟨S256x256, .f32⟩
  | .hbm, ⟨70, _⟩ => ⟨S256x256, .f32⟩
  | .hbm, ⟨71, _⟩ => ⟨S256x256, .bf16⟩
  | .hbm, ⟨72, _⟩ => ⟨S1x1024, .f32⟩
  | .hbm, ⟨73, _⟩ => ⟨S1024, .f32⟩
  | .hbm, ⟨74, _⟩ => ⟨S1x1024, .f32⟩
  | .hbm, ⟨75, _⟩ => ⟨S1024x1024, .f32⟩
  | .hbm, ⟨76, _⟩ => ⟨S1024x1024, .bf16⟩
  | .hbm, ⟨77, _⟩ => ⟨S16384x1024, .f32⟩
  | .hbm, ⟨78, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024x4096, .bf16⟩
  | .local _ .vmem, ⟨7, _⟩ => ⟨S1x4096x1024, .bf16⟩
  | .local _ .vmem, ⟨8, _⟩ => ⟨S256x256, .bf16⟩
  | .local _ .vmem, ⟨9, _⟩ => ⟨S1x1024, .f32⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_1 : Ref sig .tc := ⟨.hbm, 26, rfl⟩
abbrev main_call0_v5 : Ref sig .tc := ⟨.hbm, 27, rfl⟩
abbrev main_call0_v6 : Ref sig .tc := ⟨.hbm, 28, rfl⟩
abbrev main_call0_c_2 : Ref sig .tc := ⟨.hbm, 29, rfl⟩
abbrev main_call0_v7 : Ref sig .tc := ⟨.hbm, 30, rfl⟩
abbrev main_call0_v8 : Ref sig .tc := ⟨.hbm, 31, rfl⟩
abbrev main_call0_c_3 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_v10 : Ref sig .tc := ⟨.hbm, 39, rfl⟩
abbrev main_c_0 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_c_1 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_c : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_0 : Ref sig .tc := ⟨.hbm, 58, rfl⟩
abbrev main_call1_v12 : Ref sig .tc := ⟨.hbm, 59, rfl⟩
abbrev main_call1_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_cst : Ref sig .tc := ⟨.hbm, 66, rfl⟩
abbrev main_cst_2 : Ref sig .tc := ⟨.hbm, 67, rfl⟩
abbrev main_call2_v0 : Ref sig .tc := ⟨.hbm, 68, rfl⟩
abbrev main_call2_v1 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26_0 : Ref sig .tc := ⟨.hbm, 77, rfl⟩
abbrev main_v26_1 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S4x4096x1024 : Shape := ⟨3, ![4, 4096, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S4x4096x4096 : Shape := ⟨3, ![4, 4096, 4096]⟩
abbrev S16384x1024 : Shape := ⟨2, ![16384, 1024]⟩
abbrev S64x16x16x1024 : Shape := ⟨4, ![64, 16, 16, 1024]⟩

abbrev nBuf : Space → Nat
  | .hbm => 69
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .bf16⟩
  | .hbm, ⟨2, _⟩ => ⟨S1x1024x1024, .f32⟩
  | .hbm, ⟨3, _⟩ => ⟨S2x1024, .f32⟩
  | .hbm, ⟨4, _⟩ => ⟨S2x1024x4096, .bf16⟩
  | .hbm, ⟨5, _⟩ => ⟨S2x4096x1024, .bf16⟩
  | .hbm, ⟨6, _⟩ => ⟨S2x1024, .f32⟩
  | .hbm, ⟨7, _⟩ => ⟨S1x1024x1024, .f32⟩
  | .hbm, ⟨8, _⟩ => ⟨S4x4096x1024, .f32⟩
  | .hbm, ⟨9, _⟩ => ⟨S1024x1024, .f32⟩
  | .hbm, ⟨10, _⟩ => ⟨S4x4096x1024, .f32⟩
  | .hbm, ⟨11, _⟩ => ⟨S4x4096x1024, .f32⟩
  | .hbm, ⟨12, _⟩ => ⟨S1x1024, .f32⟩
  | .hbm, ⟨13, _⟩ => ⟨S1024, .f32⟩
  | .hbm, ⟨14, _⟩ => ⟨S4x4096x1024, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S4x4096x1, .f32⟩
  | .hbm, ⟨25, _⟩ => ⟨S4x4096x1024, .f32⟩
  | .hbm, ⟨26, _⟩ => ⟨S4x4096x1024, .f32⟩
  | .hbm, ⟨27, _⟩ => ⟨S1x1x1024, .f32⟩
  | .hbm, ⟨28, _⟩ => ⟨S4x4096x1024, .f32⟩
  | .hbm, ⟨29, _⟩ => ⟨S4x4096x1024, .f32⟩
  | .hbm, ⟨30, _⟩ => ⟨S1x1024x4096, .bf16⟩
  | .hbm, ⟨31, _⟩ => ⟨S1024x4096, .bf16⟩
  | .hbm, ⟨32, _⟩ => ⟨S1024x4096, .f32⟩
  | .hbm, ⟨33, _⟩ => ⟨S1x4096x1024, .bf16⟩
  | .hbm, ⟨34, _⟩ => ⟨S4096x1024, .bf16⟩
  | .hbm, ⟨35, _⟩ => ⟨S4096x1024, .f32⟩
  | .hbm, ⟨36, _⟩ => ⟨S4x4096x4096, .f32⟩
  | .hbm, ⟨37, _⟩ => ⟨S_, .f32⟩
  | .hbm, ⟨38, _⟩ => ⟨S4x4096x4096, .f32⟩
  | .hbm, ⟨39, _⟩ => ⟨S4x4096x4096, .f32⟩
  | .hbm, ⟨40, _⟩ => ⟨S4x4096x4096, .f32⟩
  | .hbm, ⟨41, _⟩ => ⟨S4x4096x1024, .f32⟩
  | .hbm, ⟨42, _⟩ => ⟨S4x4096x1024, .f32⟩
  | .hbm, ⟨43, _⟩ => ⟨S1x1024, .f32⟩
  | .hbm, ⟨44, _⟩ => ⟨S1024, .f32⟩
  | .hbm, ⟨45, _⟩ => ⟨S4x4096x1024, .f32⟩
  | .hbm, ⟨46, _⟩ => ⟨S_, .f32⟩
  | .hbm, ⟨47, _⟩ => ⟨S4x4096, .f32⟩
  | .hbm, ⟨48, _⟩ => ⟨S4x4096x1, .f32⟩
  | .hbm, ⟨49, _⟩ => ⟨S_, .f32⟩
  | .hbm, ⟨50, _⟩ => ⟨S4x4096x1, .f32⟩
  | .hbm, ⟨51, _⟩ => ⟨S4x4096x1, .f32⟩
  | .hbm, ⟨52, _⟩ => ⟨S_, .f32⟩
  | .hbm, ⟨53, _⟩ => ⟨S4x4096x1, .f32⟩
  | .hbm, ⟨54, _⟩ => ⟨S4x4096x1, .f32⟩
  | .hbm, ⟨55, _⟩ => ⟨S4x4096x1, .f32⟩
  | .hbm, ⟨56, _⟩ => ⟨S4x4096x1024, .f32⟩
  | .hbm, ⟨57, _⟩ => ⟨S4x4096x1024, .f32⟩
  | .hbm, ⟨58, _⟩ => ⟨S1x1x1024, .f32⟩
  | .hbm, ⟨59, _⟩ => ⟨S4x4096x1024, .f32⟩
  | .hbm, ⟨60, _⟩ => ⟨S4x4096x1024, .f32⟩
  | .hbm, ⟨61, _⟩ => ⟨S1024x1024, .f32⟩
  | .hbm, ⟨62, _⟩ => ⟨S4x4096x1024, .f32⟩
  | .hbm, ⟨63, _⟩ => ⟨S16384x1024, .f32⟩
  | .hbm, ⟨64, _⟩ => ⟨S16384x1024, .f32⟩
  | .hbm, ⟨65, _⟩ => ⟨S64x16x16x1024, .f32⟩
  | .hbm, ⟨66, _⟩ => ⟨S64x16x16x1024, .f32⟩
  | .hbm, ⟨67, _⟩ => ⟨S16384x1024, .f32⟩
  | .hbm, ⟨68, _⟩ => ⟨S16384x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_cst : Ref sig .tc := ⟨.hbm, 37, rfl⟩
abbrev main_call0_v0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]
-- ==== Kernel3.lean ====
abbrev S257 : Shape := ⟨1, ![257]⟩
abbrev S4x1024x4096 : Shape := ⟨3, ![4, 1024, 4096]⟩
abbrev S4x4096x1024 : Shape := ⟨3, ![4, 4096, 1024]⟩
abbrev S4x8x1024x512 : Shape := ⟨4, ![4, 8, 1024, 512]⟩
abbrev S2048x4096 : Shape := ⟨2, ![2048, 4096]⟩
abbrev S8192x1024 : Shape := ⟨2, ![8192, 1024]⟩
abbrev S1x128x1024 : Shape := ⟨3, ![1, 128, 1024]⟩
abbrev S1x4096x128 : Shape := ⟨3, ![1, 4096, 128]⟩
abbrev S1x8x128x512 : Shape := ⟨4, ![1, 8, 128, 512]⟩
abbrev S16x4096 : Shape := ⟨2, ![16, 4096]⟩
abbrev S64x1024 : Shape := ⟨2, ![64, 1024]⟩
abbrev S1x1024x128 : Shape := ⟨3, ![1, 1024, 128]⟩
abbrev S2x512x1024 : Shape := ⟨3, ![2, 512, 1024]⟩
abbrev S1 : Shape := ⟨1, ![1]⟩
abbrev S128x1024 : Shape := ⟨2, ![128, 1024]⟩
abbrev S512x128 : Shape := ⟨2, ![512, 128]⟩
abbrev S512x512 : Shape := ⟨2, ![512, 512]⟩
abbrev S256x1024 : Shape := ⟨2, ![256, 1024]⟩
abbrev S1x1024 : Shape := ⟨2, ![1, 1024]⟩
abbrev S1x512x128 : Shape := ⟨3, ![1, 512, 128]⟩
abbrev S512x256 : Shape := ⟨2, ![512, 256]⟩
abbrev S512x1024 : Shape := ⟨2, ![512, 1024]⟩
abbrev S1024 : Shape := ⟨1, ![1024]⟩
abbrev S1x512x1024 : Shape := ⟨3, ![1, 512, 1024]⟩
abbrev S1x512 : Shape := ⟨2, ![1, 512]⟩
abbrev S256x512 : Shape := ⟨2, ![256, 512]⟩
abbrev S512 : Shape := ⟨1, ![512]⟩
abbrev S1x1x64x512 : Shape := ⟨4, ![1, 1, 64, 512]⟩
abbrev S64x512 : Shape := ⟨2, ![64, 512]⟩
abbrev S1024x128 : Shape := ⟨2, ![1024, 128]⟩

abbrev nBuf : Space → Nat
  | .hbm => 10
  | .vmem => 24
  | .smem => 1
  | _ => 0

abbrev bufTy : (tb : Table) → Fin (tcTables nBuf tb) → BufTy
  | .hbm, ⟨0, _⟩ => ⟨S4x1024x4096, .bf16⟩
  | .hbm, ⟨1, _⟩ => ⟨S4x1024x4096, .bf16⟩
  | .hbm, ⟨2, _⟩ => ⟨S4x4096x1024, .bf16⟩
  | .hbm, ⟨3, _⟩ => ⟨S4x4096x1024, .bf16⟩
  | .hbm, ⟨4, _⟩ => ⟨S4x8x1024x512, .bf16⟩
  | .hbm, ⟨5, _⟩ => ⟨S2048x4096, .f32⟩
  | .hbm, ⟨6, _⟩ => ⟨S8192x1024, .f32⟩
  | .hbm, ⟨7, _⟩ => ⟨S4x4096x1024, .bf16⟩
  | .hbm, ⟨8, _⟩ => ⟨S2048x4096, .bf16⟩
  | .hbm, ⟨9, _⟩ => ⟨S8192x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x8x128x512, .bf16⟩
  | .local _ .vmem, ⟨9, _⟩ => ⟨S1x8x128x512, .bf16⟩
  | .local _ .vmem, ⟨10, _⟩ => ⟨S16x4096, .f32⟩
  | .local _ .vmem, ⟨11, _⟩ => ⟨S16x4096, .f32⟩
  | .local _ .vmem, ⟨12, _⟩ => ⟨S64x1024, .f32⟩
  | .local _ .vmem, ⟨13, _⟩ => ⟨S64x1024, .f32⟩
  | .local _ .vmem, ⟨14, _⟩ => ⟨S1x1024x128, .bf16⟩
  | .local _ .vmem, ⟨15, _⟩ => ⟨S1x1024x128, .bf16⟩
  | .local _ .vmem, ⟨16, _⟩ => ⟨S16x4096, .bf16⟩
  | .local _ .vmem, ⟨17, _⟩ => ⟨S16x4096, .bf16⟩
  | .local _ .vmem, ⟨18, _⟩ => ⟨S64x1024, .bf16⟩
  | .local _ .vmem, ⟨19, _⟩ => ⟨S64x1024, .bf16⟩
  | .local _ .vmem, ⟨20, _⟩ => ⟨S2x512x1024, .f32⟩
  | .local _ .vmem, ⟨21, _⟩ => ⟨S2x512x1024, .f32⟩
  | .local _ .vmem, ⟨22, _⟩ => ⟨S2x512x1024, .bf16⟩
  | .local _ .vmem, ⟨23, _⟩ => ⟨S2x512x1024, .bf16⟩
  | .local _ .smem, ⟨0, _⟩ => ⟨S257, .i32⟩
  | _, _ => ⟨S4x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![4, 8, 4], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32_29 : BitVec 32) : Fin 1 → Nat :=
  let arg0 : BitVec 32 := BitVec.ofNat 32 (i 0).val
  let c16_i32 : BitVec 32 := 16#32
  let v74 : BitVec 32 := Scalar.muli arg0 c16_i32
  let c2_i32_28 : BitVec 32 := 2#32
  let arg1 : BitVec 32 := BitVec.ofNat 32 (i 1).val
  let v72 : BitVec 32 := Scalar.muli c2_i32_28 arg1
  let v73 : BitVec 32 := Scalar.addi v72 c0_i32_29
  let v75 : BitVec 32 := Scalar.addi v74 v73
  let c4_i32 : BitVec 32 := 4#32
  let v76 : BitVec 32 := Scalar.muli v75 c4_i32
  let arg2 : BitVec 32 := BitVec.ofNat 32 (i 2).val
  let v77 : BitVec 32 := Scalar.addi v76 arg2
  let v78 : Index := Scalar.indexCast v77
  ![v78.toNat]
def k0_off2 (i : grid0.Coords) : Fin 1 → Nat :=
  let arg0 : BitVec 32 := BitVec.ofNat 32 (i 0).val
  let c16_i32_81 : BitVec 32 := 16#32
  let v198 : BitVec 32 := Scalar.muli arg0 c16_i32_81
  let c2_i32_79 : BitVec 32 := 2#32
  let arg1 : BitVec 32 := BitVec.ofNat 32 (i 1).val
  let v196 : BitVec 32 := Scalar.muli c2_i32_79 arg1
  let c0_i32_80 : BitVec 32 := 0#32
  let v197 : BitVec 32 := Scalar.addi v196 c0_i32_80
  let v199 : BitVec 32 := Scalar.addi v198 v197
  let c4_i32_82 : BitVec 32 := 4#32
  let v200 : BitVec 32 := Scalar.muli v199 c4_i32_82
  let arg2 : BitVec 32 := BitVec.ofNat 32 (i 2).val
  let v201 : BitVec 32 := Scalar.addi v200 arg2
  let v202 : Index := Scalar.indexCast v201
  ![v202.toNat]
def k0_mult1 (v203 : BitVec 32) : BitVec 32 :=
  let c2_i32_91 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let v222 : BitVec 32 := Scalar.muli c2_i32_91 v220
  let c512_i32 : BitVec 32 := 512#32
  let v223 : BitVec 32 := Scalar.muli v222 c512_i32
  v223
def k0_cond1 (v6 : BitVec 32) : BitVec 1 :=
  let c0_i32 : BitVec 32 := 0#32
  let v7 : BitVec 1 := Scalar.cmpi .eq v6 c0_i32
  let v8 : BitVec 32 := Scalar.extui v7
  let c0_i32_7 : BitVec 32 := 0#32
  let v9 : BitVec 1 := Scalar.cmpi .ne v8 c0_i32_7
  v9

def k0_cond2 (i : grid0.Coords) (v79 : BitVec 32) (v104 : BitVec 32) : BitVec 1 :=
  let c2_i32 : BitVec 32 := 2#32
  let arg2 : BitVec 32 := BitVec.ofNat 32 (i 2).val
  let v71 : BitVec 32 := Scalar.muli c2_i32 arg2
  let c0_i32_48 : BitVec 32 := 0#32
  let v126 : BitVec 1 := Scalar.cmpi .sgt v71 c0_i32_48
  let v127 : BitVec 32 := Scalar.extui v126
  let c0_i32_49 : BitVec 32 := 0#32
  let v128 : BitVec 1 := Scalar.cmpi .slt v71 c0_i32_49
  let v129 : BitVec 32 := Scalar.extui v128
  let v130 : BitVec 32 := Scalar.subi v127 v129
  let c2_i32_47 : BitVec 32 := 2#32
  let c0_i32_50 : BitVec 32 := 0#32
  let v131 : BitVec 1 := Scalar.cmpi .sgt c2_i32_47 c0_i32_50
  let v132 : BitVec 32 := Scalar.extui v131
  let c0_i32_51 : BitVec 32 := 0#32
  let v133 : BitVec 1 := Scalar.cmpi .slt c2_i32_47 c0_i32_51
  let v134 : BitVec 32 := Scalar.extui v133
  let v135 : BitVec 32 := Scalar.subi v132 v134
  let v136 : BitVec 1 := Scalar.cmpi .ne v130 v135
  let v137 : BitVec 32 := Scalar.remsi v71 c2_i32_47
  let c0_i32_52 : BitVec 32 := 0#32
  let v138 : BitVec 1 := Scalar.cmpi .ne v137 c0_i32_52
  let v139 : BitVec 1 := Scalar.andi v136 v138
  let v125 : BitVec 32 := Scalar.divsi v71 c2_i32_47
  let c1_i32_53 : BitVec 32 := 1#32
  let v140 : BitVec 32 := Scalar.subi v125 c1_i32_53
  let v141 : BitVec 32 := Scalar.select v139 v140 v125
  let c0_i32_31 : BitVec 32 := 0#32
  let v81 : BitVec 1 := Scalar.cmpi .sgt v79 c0_i32_31
  let v82 : BitVec 32 := Scalar.extui v81
  let c0_i32_32 : BitVec 32 := 0#32
  let v83 : BitVec 1 := Scalar.cmpi .slt v79 c0_i32_32
  let v84 : BitVec 32 := Scalar.extui v83
  let v85 : BitVec 32 := Scalar.subi v82 v84
  let c2_i32_30 : BitVec 32 := 2#32
  let c0_i32_33 : BitVec 32 := 0#32
  let v86 : BitVec 1 := Scalar.cmpi .sgt c2_i32_30 c0_i32_33
  let v87 : BitVec 32 := Scalar.extui v86
  let c0_i32_34 : BitVec 32 := 0#32
  let v88 : BitVec 1 := Scalar.cmpi .slt c2_i32_30 c0_i32_34
  let v89 : BitVec 32 := Scalar.extui v88
  let v90 : BitVec 32 := Scalar.subi v87 v89
  let v91 : BitVec 1 := Scalar.cmpi .ne v85 v90
  let v92 : BitVec 32 := Scalar.remsi v79 c2_i32_30
  let c0_i32_35 : BitVec 32 := 0#32
  let v93 : BitVec 1 := Scalar.cmpi .ne v92 c0_i32_35
  let v94 : BitVec 1 := Scalar.andi v91 v93
  let v80 : BitVec 32 := Scalar.divsi v79 c2_i32_30
  let c1_i32 : BitVec 32 := 1#32
  let v95 : BitVec 32 := Scalar.subi v80 c1_i32
  let v96 : BitVec 32 := Scalar.select v94 v95 v80
  let v142 : BitVec 32 := Scalar.subi v141 v96
  let c0_i32_54 : BitVec 32 := 0#32
  let v143 : BitVec 1 := Scalar.cmpi .eq v142 c0_i32_54
  let v122 : BitVec 1 := Scalar.cmpi .eq v96 v96
  let c0_i32_41 : BitVec 32 := 0#32
  let v106 : BitVec 1 := Scalar.cmpi .sgt v104 c0_i32_41
  let v107 : BitVec 32 := Scalar.extui v106
  let c0_i32_42 : BitVec 32 := 0#32
  let v108 : BitVec 1 := Scalar.cmpi .slt v104 c0_i32_42
  let v109 : BitVec 32 := Scalar.extui v108
  let v110 : BitVec 32 := Scalar.subi v107 v109
  let c2_i32_40 : BitVec 32 := 2#32
  let c0_i32_43 : BitVec 32 := 0#32
  let v111 : BitVec 1 := Scalar.cmpi .sgt c2_i32_40 c0_i32_43
  let v112 : BitVec 32 := Scalar.extui v111
  let c0_i32_44 : BitVec 32 := 0#32
  let v113 : BitVec 1 := Scalar.cmpi .slt c2_i32_40 c0_i32_44
  let v114 : BitVec 32 := Scalar.extui v113
  let v115 : BitVec 32 := Scalar.subi v112 v114
  let v116 : BitVec 1 := Scalar.cmpi .ne v110 v115
  let v117 : BitVec 32 := Scalar.remsi v104 c2_i32_40
  let c0_i32_45 : BitVec 32 := 0#32
  let v118 : BitVec 1 := Scalar.cmpi .ne v117 c0_i32_45
  let v119 : BitVec 1 := Scalar.andi v116 v118
  let v105 : BitVec 32 := Scalar.divsi v104 c2_i32_40
  let c1_i32_46 : BitVec 32 := 1#32
  let v120 : BitVec 32 := Scalar.subi v105 c1_i32_46
  let v121 : BitVec 32 := Scalar.select v119 v120 v105
  let v123 : BitVec 1 := Scalar.cmpi .eq v121 v96
  let v124 : BitVec 1 := Scalar.andi v122 v123
  let v144 : BitVec 1 := Scalar.andi v143 v124
  let v185 : BitVec 32 := Scalar.extui v144
  let c0_i32_72 : BitVec 32 := 0#32
  let v186 : BitVec 1 := Scalar.cmpi .ne v185 c0_i32_72
  v186

def k0_off3 (v203 : BitVec 32) : Fin 3 → Nat :=
  let c0_92 : Index := 0#32
  let c2_i32_91 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let v222 : BitVec 32 := Scalar.muli c2_i32_91 v220
  let c512_i32 : BitVec 32 := 512#32
  let v223 : BitVec 32 := Scalar.muli v222 c512_i32
  let v224 : BitVec 32 := v223
  let v225 : Index := Scalar.indexCast v224
  let c0_93 : Index := 0#32
  ![0, v225.toNat, 0]

def k0_chk1 (i : grid0.Coords) (v6 : BitVec 32) (v79 : BitVec 32) (v104 : BitVec 32) (v203 : BitVec 32) : Prop :=
  (∀ (k0_h1 : k0_cond1 v6 = 1#1), ∀ (k0_h2 : k0_cond2 i v79 v104 = 1#1), 512 ∣ (k0_mult1 v203).toNat) ∧
  (∀ (k0_h1 : k0_cond1 v6 = 1#1), ∀ (k0_h2 : k0_cond2 i v79 v104 = 1#1), ∀ a, (k0_off3 v203) a + S1x512x128.size a ≤ S1x4096x128.size a)
theorem k0_mult1_dvd : ∀ (i : grid0.Coords) (v6 : BitVec 32) (v79 : BitVec 32) (v104 : BitVec 32) (v203 : BitVec 32) (k0_hw1 : k0_chk1 i v6 v79 v104 v203), ∀ (k0_h1 : k0_cond1 v6 = 1#1), ∀ (k0_h2 : k0_cond2 i v79 v104 = 1#1), 512 ∣ (k0_mult1 v203).toNat := fun i v6 v79 v104 v203 k0_hw1 k0_h1 k0_h2 => k0_hw1.1 k0_h1 k0_h2
theorem k0_off3_inb : ∀ (i : grid0.Coords) (v6 : BitVec 32) (v79 : BitVec 32) (v104 : BitVec 32) (v203 : BitVec 32) (k0_hw1 : k0_chk1 i v6 v79 v104 v203), ∀ (k0_h1 : k0_cond1 v6 = 1#1), ∀ (k0_h2 : k0_cond2 i v79 v104 = 1#1), ∀ a, (k0_off3 v203) a + S1x512x128.size a ≤ S1x4096x128.size a := fun i v6 v79 v104 v203 k0_hw1 k0_h1 k0_h2 => k0_hw1.2 k0_h1 k0_h2

def k0_off4 (i : grid0.Coords) : Fin 1 → Nat :=
  let arg0 : BitVec 32 := BitVec.ofNat 32 (i 0).val
  let c16_i32_104 : BitVec 32 := 16#32
  let v253 : BitVec 32 := Scalar.muli arg0 c16_i32_104
  let c2_i32_102 : BitVec 32 := 2#32
  let arg1 : BitVec 32 := BitVec.ofNat 32 (i 1).val
  let v251 : BitVec 32 := Scalar.muli c2_i32_102 arg1
  let c1_i32_103 : BitVec 32 := 1#32
  let v252 : BitVec 32 := Scalar.addi v251 c1_i32_103
  let v254 : BitVec 32 := Scalar.addi v253 v252
  let c4_i32_105 : BitVec 32 := 4#32
  let v255 : BitVec 32 := Scalar.muli v254 c4_i32_105
  let arg2 : BitVec 32 := BitVec.ofNat 32 (i 2).val
  let v256 : BitVec 32 := Scalar.addi v255 arg2
  let v257 : Index := Scalar.indexCast v256
  ![v257.toNat]
def k0_mult2 (v258 : BitVec 32) : BitVec 32 :=
  let c2_i32_114 : BitVec 32 := 2#32
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v277 : BitVec 32 := Scalar.muli c2_i32_114 v275
  let c512_i32_115 : BitVec 32 := 512#32
  let v278 : BitVec 32 := Scalar.muli v277 c512_i32_115
  v278

def k0_off5 (v258 : BitVec 32) : Fin 3 → Nat :=
  let c0_116 : Index := 0#32
  let c2_i32_114 : BitVec 32 := 2#32
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v277 : BitVec 32 := Scalar.muli c2_i32_114 v275
  let c512_i32_115 : BitVec 32 := 512#32
  let v278 : BitVec 32 := Scalar.muli v277 c512_i32_115
  let v279 : BitVec 32 := v278
  let v280 : Index := Scalar.indexCast v279
  let c0_117 : Index := 0#32
  ![0, v280.toNat, 0]

def k0_chk2 (i : grid0.Coords) (v6 : BitVec 32) (v79 : BitVec 32) (v104 : BitVec 32) (v258 : BitVec 32) : Prop :=
  (∀ (k0_h1 : k0_cond1 v6 = 1#1), ∀ (k0_h2 : k0_cond2 i v79 v104 = 1#1), 512 ∣ (k0_mult2 v258).toNat) ∧
  (∀ (k0_h1 : k0_cond1 v6 = 1#1), ∀ (k0_h2 : k0_cond2 i v79 v104 = 1#1), ∀ a, (k0_off5 v258) a + S1x512x128.size a ≤ S1x4096x128.size a)
theorem k0_mult2_dvd : ∀ (i : grid0.Coords) (v6 : BitVec 32) (v79 : BitVec 32) (v104 : BitVec 32) (v258 : BitVec 32) (k0_hw2 : k0_chk2 i v6 v79 v104 v258), ∀ (k0_h1 : k0_cond1 v6 = 1#1), ∀ (k0_h2 : k0_cond2 i v79 v104 = 1#1), 512 ∣ (k0_mult2 v258).toNat := fun i v6 v79 v104 v258 k0_hw2 k0_h1 k0_h2 => k0_hw2.1 k0_h1 k0_h2
theorem k0_off5_inb : ∀ (i : grid0.Coords) (v6 : BitVec 32) (v79 : BitVec 32) (v104 : BitVec 32) (v258 : BitVec 32) (k0_hw2 : k0_chk2 i v6 v79 v104 v258), ∀ (k0_h1 : k0_cond1 v6 = 1#1), ∀ (k0_h2 : k0_cond2 i v79 v104 = 1#1), ∀ a, (k0_off5 v258) a + S1x512x128.size a ≤ S1x4096x128.size a := fun i v6 v79 v104 v258 k0_hw2 k0_h1 k0_h2 => k0_hw2.2 k0_h1 k0_h2

def k0_mult3 (i : grid0.Coords) : BitVec 32 :=
  let c2_i32 : BitVec 32 := 2#32
  let arg2 : BitVec 32 := BitVec.ofNat 32 (i 2).val
  let v71 : BitVec 32 := Scalar.muli c2_i32 arg2
  let c1_i32_127 : BitVec 32 := 1#32
  let v309 : BitVec 32 := Scalar.addi v71 c1_i32_127
  let c512_i32_128 : BitVec 32 := 512#32
  let v310 : BitVec 32 := Scalar.muli v309 c512_i32_128
  v310
def k0_off6 (i : grid0.Coords) : Fin 3 → Nat :=
  let c0_129 : Index := 0#32
  let c2_i32 : BitVec 32 := 2#32
  let arg2 : BitVec 32 := BitVec.ofNat 32 (i 2).val
  let v71 : BitVec 32 := Scalar.muli c2_i32 arg2
  let c1_i32_127 : BitVec 32 := 1#32
  let v309 : BitVec 32 := Scalar.addi v71 c1_i32_127
  let c512_i32_128 : BitVec 32 := 512#32
  let v310 : BitVec 32 := Scalar.muli v309 c512_i32_128
  let v311 : BitVec 32 := v310
  let v312 : Index := Scalar.indexCast v311
  let c0_130 : Index := 0#32
  ![0, v312.toNat, 0]
def k0_off7 (i : grid0.Coords) : Fin 4 → Nat :=
  let c0_139 : Index := 0#32
  let c2_i32 : BitVec 32 := 2#32
  let arg2 : BitVec 32 := BitVec.ofNat 32 (i 2).val
  let v71 : BitVec 32 := Scalar.muli c2_i32 arg2
  let v332 : Index := Scalar.indexCast v71
  let c0_140 : Index := 0#32
  let c0_141 : Index := 0#32
  ![0, v332.toNat, 0, 0]
def k0_off8 (i : grid0.Coords) : Fin 4 → Nat :=
  let c0_144 : Index := 0#32
  let c2_i32 : BitVec 32 := 2#32
  let arg2 : BitVec 32 := BitVec.ofNat 32 (i 2).val
  let v71 : BitVec 32 := Scalar.muli c2_i32 arg2
  let c1_i32_143 : BitVec 32 := 1#32
  let v341 : BitVec 32 := Scalar.addi v71 c1_i32_143
  let v342 : Index := Scalar.indexCast v341
  let c0_145 : Index := 0#32
  let c0_146 : Index := 0#32
  ![0, v342.toNat, 0, 0]
def k0_mult4 (i : grid0.Coords) : BitVec 32 :=
  let c2_i32 : BitVec 32 := 2#32
  let arg2 : BitVec 32 := BitVec.ofNat 32 (i 2).val
  let v71 : BitVec 32 := Scalar.muli c2_i32 arg2
  let c1_i32_148 : BitVec 32 := 1#32
  let v351 : BitVec 32 := Scalar.addi v71 c1_i32_148
  let c512_i32_149 : BitVec 32 := 512#32
  let v352 : BitVec 32 := Scalar.muli v351 c512_i32_149
  v352
def k0_off9 (i : grid0.Coords) : Fin 4 → Nat :=
  let c0_160 : Index := 0#32
  let c2_i32 : BitVec 32 := 2#32
  let arg2 : BitVec 32 := BitVec.ofNat 32 (i 2).val
  let v71 : BitVec 32 := Scalar.muli c2_i32 arg2
  let v374 : Index := Scalar.indexCast v71
  let c64 : Index := 64#32
  let c0_161 : Index := 0#32
  ![0, v374.toNat, 64, 0]
def k0_off10 (i : grid0.Coords) : Fin 4 → Nat :=
  let c0_164 : Index := 0#32
  let c2_i32 : BitVec 32 := 2#32
  let arg2 : BitVec 32 := BitVec.ofNat 32 (i 2).val
  let v71 : BitVec 32 := Scalar.muli c2_i32 arg2
  let c1_i32_163 : BitVec 32 := 1#32
  let v383 : BitVec 32 := Scalar.addi v71 c1_i32_163
  let v384 : Index := Scalar.indexCast v383
  let c64_165 : Index := 64#32
  let c0_166 : Index := 0#32
  ![0, v384.toNat, 64, 0]
def k0_off11 (i : grid0.Coords) : Fin 1 → Nat :=
  let arg0 : BitVec 32 := BitVec.ofNat 32 (i 0).val
  let c16_i32_81 : BitVec 32 := 16#32
  let v198 : BitVec 32 := Scalar.muli arg0 c16_i32_81
  let c2_i32_79 : BitVec 32 := 2#32
  let arg1 : BitVec 32 := BitVec.ofNat 32 (i 1).val
  let v196 : BitVec 32 := Scalar.muli c2_i32_79 arg1
  let c0_i32_80 : BitVec 32 := 0#32
  let v197 : BitVec 32 := Scalar.addi v196 c0_i32_80
  let v199 : BitVec 32 := Scalar.addi v198 v197
  let c4_i32_82 : BitVec 32 := 4#32
  let v200 : BitVec 32 := Scalar.muli v199 c4_i32_82
  let arg2 : BitVec 32 := BitVec.ofNat 32 (i 2).val
  let v201 : BitVec 32 := Scalar.addi v200 arg2
  let v202 : Index := Scalar.indexCast v201
  ![v202.toNat]
def k0_mult5 (v203 : BitVec 32) : BitVec 32 :=
  let c2_i32_91 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let v222 : BitVec 32 := Scalar.muli c2_i32_91 v220
  let c512_i32 : BitVec 32 := 512#32
  let v223 : BitVec 32 := Scalar.muli v222 c512_i32
  v223
def k0_cond3 (i : grid0.Coords) (v79 : BitVec 32) (v104 : BitVec 32) : BitVec 1 :=
  let c2_i32 : BitVec 32 := 2#32
  let arg2 : BitVec 32 := BitVec.ofNat 32 (i 2).val
  let v71 : BitVec 32 := Scalar.muli c2_i32 arg2
  let c0_i32_56 : BitVec 32 := 0#32
  let v146 : BitVec 1 := Scalar.cmpi .sgt v71 c0_i32_56
  let v147 : BitVec 32 := Scalar.extui v146
  let c0_i32_57 : BitVec 32 := 0#32
  let v148 : BitVec 1 := Scalar.cmpi .slt v71 c0_i32_57
  let v149 : BitVec 32 := Scalar.extui v148
  let v150 : BitVec 32 := Scalar.subi v147 v149
  let c2_i32_55 : BitVec 32 := 2#32
  let c0_i32_58 : BitVec 32 := 0#32
  let v151 : BitVec 1 := Scalar.cmpi .sgt c2_i32_55 c0_i32_58
  let v152 : BitVec 32 := Scalar.extui v151
  let c0_i32_59 : BitVec 32 := 0#32
  let v153 : BitVec 1 := Scalar.cmpi .slt c2_i32_55 c0_i32_59
  let v154 : BitVec 32 := Scalar.extui v153
  let v155 : BitVec 32 := Scalar.subi v152 v154
  let v156 : BitVec 1 := Scalar.cmpi .ne v150 v155
  let v157 : BitVec 32 := Scalar.remsi v71 c2_i32_55
  let c0_i32_60 : BitVec 32 := 0#32
  let v158 : BitVec 1 := Scalar.cmpi .ne v157 c0_i32_60
  let v159 : BitVec 1 := Scalar.andi v156 v158
  let v145 : BitVec 32 := Scalar.divsi v71 c2_i32_55
  let c1_i32_61 : BitVec 32 := 1#32
  let v160 : BitVec 32 := Scalar.subi v145 c1_i32_61
  let v161 : BitVec 32 := Scalar.select v159 v160 v145
  let c0_i32_31 : BitVec 32 := 0#32
  let v81 : BitVec 1 := Scalar.cmpi .sgt v79 c0_i32_31
  let v82 : BitVec 32 := Scalar.extui v81
  let c0_i32_32 : BitVec 32 := 0#32
  let v83 : BitVec 1 := Scalar.cmpi .slt v79 c0_i32_32
  let v84 : BitVec 32 := Scalar.extui v83
  let v85 : BitVec 32 := Scalar.subi v82 v84
  let c2_i32_30 : BitVec 32 := 2#32
  let c0_i32_33 : BitVec 32 := 0#32
  let v86 : BitVec 1 := Scalar.cmpi .sgt c2_i32_30 c0_i32_33
  let v87 : BitVec 32 := Scalar.extui v86
  let c0_i32_34 : BitVec 32 := 0#32
  let v88 : BitVec 1 := Scalar.cmpi .slt c2_i32_30 c0_i32_34
  let v89 : BitVec 32 := Scalar.extui v88
  let v90 : BitVec 32 := Scalar.subi v87 v89
  let v91 : BitVec 1 := Scalar.cmpi .ne v85 v90
  let v92 : BitVec 32 := Scalar.remsi v79 c2_i32_30
  let c0_i32_35 : BitVec 32 := 0#32
  let v93 : BitVec 1 := Scalar.cmpi .ne v92 c0_i32_35
  let v94 : BitVec 1 := Scalar.andi v91 v93
  let v80 : BitVec 32 := Scalar.divsi v79 c2_i32_30
  let c1_i32 : BitVec 32 := 1#32
  let v95 : BitVec 32 := Scalar.subi v80 c1_i32
  let v96 : BitVec 32 := Scalar.select v94 v95 v80
  let v162 : BitVec 32 := Scalar.subi v161 v96
  let c1_i32_62 : BitVec 32 := 1#32
  let v163 : BitVec 1 := Scalar.cmpi .eq v162 c1_i32_62
  let v122 : BitVec 1 := Scalar.cmpi .eq v96 v96
  let c0_i32_41 : BitVec 32 := 0#32
  let v106 : BitVec 1 := Scalar.cmpi .sgt v104 c0_i32_41
  let v107 : BitVec 32 := Scalar.extui v106
  let c0_i32_42 : BitVec 32 := 0#32
  let v108 : BitVec 1 := Scalar.cmpi .slt v104 c0_i32_42
  let v109 : BitVec 32 := Scalar.extui v108
  let v110 : BitVec 32 := Scalar.subi v107 v109
  let c2_i32_40 : BitVec 32 := 2#32
  let c0_i32_43 : BitVec 32 := 0#32
  let v111 : BitVec 1 := Scalar.cmpi .sgt c2_i32_40 c0_i32_43
  let v112 : BitVec 32 := Scalar.extui v111
  let c0_i32_44 : BitVec 32 := 0#32
  let v113 : BitVec 1 := Scalar.cmpi .slt c2_i32_40 c0_i32_44
  let v114 : BitVec 32 := Scalar.extui v113
  let v115 : BitVec 32 := Scalar.subi v112 v114
  let v116 : BitVec 1 := Scalar.cmpi .ne v110 v115
  let v117 : BitVec 32 := Scalar.remsi v104 c2_i32_40
  let c0_i32_45 : BitVec 32 := 0#32
  let v118 : BitVec 1 := Scalar.cmpi .ne v117 c0_i32_45
  let v119 : BitVec 1 := Scalar.andi v116 v118
  let v105 : BitVec 32 := Scalar.divsi v104 c2_i32_40
  let c1_i32_46 : BitVec 32 := 1#32
  let v120 : BitVec 32 := Scalar.subi v105 c1_i32_46
  let v121 : BitVec 32 := Scalar.select v119 v120 v105
  let v123 : BitVec 1 := Scalar.cmpi .eq v121 v96
  let v124 : BitVec 1 := Scalar.andi v122 v123
  let v164 : BitVec 1 := Scalar.andi v163 v124
  let v187 : BitVec 32 := Scalar.extui v164
  let c0_i32_74 : BitVec 32 := 0#32
  let v188 : BitVec 1 := Scalar.cmpi .ne v187 c0_i32_74
  v188

def k0_off12 (v203 : BitVec 32) : Fin 3 → Nat :=
  let c0_92 : Index := 0#32
  let c2_i32_91 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let v222 : BitVec 32 := Scalar.muli c2_i32_91 v220
  let c512_i32 : BitVec 32 := 512#32
  let v223 : BitVec 32 := Scalar.muli v222 c512_i32
  let v224 : BitVec 32 := v223
  let v225 : Index := Scalar.indexCast v224
  let c0_93 : Index := 0#32
  ![0, v225.toNat, 0]
def k0_off13 (i : grid0.Coords) : Fin 1 → Nat :=
  let arg0 : BitVec 32 := BitVec.ofNat 32 (i 0).val
  let c16_i32_104 : BitVec 32 := 16#32
  let v253 : BitVec 32 := Scalar.muli arg0 c16_i32_104
  let c2_i32_102 : BitVec 32 := 2#32
  let arg1 : BitVec 32 := BitVec.ofNat 32 (i 1).val
  let v251 : BitVec 32 := Scalar.muli c2_i32_102 arg1
  let c1_i32_103 : BitVec 32 := 1#32
  let v252 : BitVec 32 := Scalar.addi v251 c1_i32_103
  let v254 : BitVec 32 := Scalar.addi v253 v252
  let c4_i32_105 : BitVec 32 := 4#32
  let v255 : BitVec 32 := Scalar.muli v254 c4_i32_105
  let arg2 : BitVec 32 := BitVec.ofNat 32 (i 2).val
  let v256 : BitVec 32 := Scalar.addi v255 arg2
  let v257 : Index := Scalar.indexCast v256
  ![v257.toNat]
def k0_mult6 (v258 : BitVec 32) : BitVec 32 :=
  let c2_i32_114 : BitVec 32 := 2#32
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v277 : BitVec 32 := Scalar.muli c2_i32_114 v275
  let c512_i32_115 : BitVec 32 := 512#32
  let v278 : BitVec 32 := Scalar.muli v277 c512_i32_115
  v278

def k0_off14 (v258 : BitVec 32) : Fin 3 → Nat :=
  let c0_116 : Index := 0#32
  let c2_i32_114 : BitVec 32 := 2#32
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v277 : BitVec 32 := Scalar.muli c2_i32_114 v275
  let c512_i32_115 : BitVec 32 := 512#32
  let v278 : BitVec 32 := Scalar.muli v277 c512_i32_115
  let v279 : BitVec 32 := v278
  let v280 : Index := Scalar.indexCast v279
  let c0_117 : Index := 0#32
  ![0, v280.toNat, 0]

def k0_chk4 (i : grid0.Coords) (v6 : BitVec 32) (v79 : BitVec 32) (v104 : BitVec 32) (v258 : BitVec 32) : Prop :=
  (∀ (k0_h1 : k0_cond1 v6 = 1#1), ∀ (k0_h3 : k0_cond3 i v79 v104 = 1#1), 512 ∣ (k0_mult6 v258).toNat) ∧
  (∀ (k0_h1 : k0_cond1 v6 = 1#1), ∀ (k0_h3 : k0_cond3 i v79 v104 = 1#1), ∀ a, (k0_off14 v258) a + S1x512x128.size a ≤ S1x4096x128.size a)
theorem k0_mult6_dvd : ∀ (i : grid0.Coords) (v6 : BitVec 32) (v79 : BitVec 32) (v104 : BitVec 32) (v258 : BitVec 32) (k0_hw4 : k0_chk4 i v6 v79 v104 v258), ∀ (k0_h1 : k0_cond1 v6 = 1#1), ∀ (k0_h3 : k0_cond3 i v79 v104 = 1#1), 512 ∣ (k0_mult6 v258).toNat := fun i v6 v79 v104 v258 k0_hw4 k0_h1 k0_h3 => k0_hw4.1 k0_h1 k0_h3
theorem k0_off14_inb : ∀ (i : grid0.Coords) (v6 : BitVec 32) (v79 : BitVec 32) (v104 : BitVec 32) (v258 : BitVec 32) (k0_hw4 : k0_chk4 i v6 v79 v104 v258), ∀ (k0_h1 : k0_cond1 v6 = 1#1), ∀ (k0_h3 : k0_cond3 i v79 v104 = 1#1), ∀ a, (k0_off14 v258) a + S1x512x128.size a ≤ S1x4096x128.size a := fun i v6 v79 v104 v258 k0_hw4 k0_h1 k0_h3 => k0_hw4.2 k0_h1 k0_h3

def k0_mult7 (v203 : BitVec 32) : BitVec 32 :=
  let c2_i32_128 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_127 : BitVec 32 := 0#32
  let v308 : BitVec 32 := Scalar.addi v220 c0_i32_127
  let v309 : BitVec 32 := Scalar.muli c2_i32_128 v308
  let c1_i32_129 : BitVec 32 := 1#32
  let v310 : BitVec 32 := Scalar.addi v309 c1_i32_129
  let c512_i32_130 : BitVec 32 := 512#32
  let v311 : BitVec 32 := Scalar.muli v310 c512_i32_130
  v311
def k0_off15 (v203 : BitVec 32) (c1_i32_129 : BitVec 32) : Fin 3 → Nat :=
  let c0_131 : Index := 0#32
  let c2_i32_128 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_127 : BitVec 32 := 0#32
  let v308 : BitVec 32 := Scalar.addi v220 c0_i32_127
  let v309 : BitVec 32 := Scalar.muli c2_i32_128 v308
  let v310 : BitVec 32 := Scalar.addi v309 c1_i32_129
  let c512_i32_130 : BitVec 32 := 512#32
  let v311 : BitVec 32 := Scalar.muli v310 c512_i32_130
  let v312 : BitVec 32 := v311
  let v313 : Index := Scalar.indexCast v312
  let c0_132 : Index := 0#32
  ![0, v313.toNat, 0]
def k0_off16 (v203 : BitVec 32) : Fin 4 → Nat :=
  let c0_143 : Index := 0#32
  let c2_i32_128 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_127 : BitVec 32 := 0#32
  let v308 : BitVec 32 := Scalar.addi v220 c0_i32_127
  let v309 : BitVec 32 := Scalar.muli c2_i32_128 v308
  let v333 : Index := Scalar.indexCast v309
  let c0_144 : Index := 0#32
  let c0_145 : Index := 0#32
  ![0, v333.toNat, 0, 0]
def k0_mult8 (v203 : BitVec 32) : BitVec 32 :=
  let c2_i32_128 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_127 : BitVec 32 := 0#32
  let v308 : BitVec 32 := Scalar.addi v220 c0_i32_127
  let v309 : BitVec 32 := Scalar.muli c2_i32_128 v308
  let c1_i32_147 : BitVec 32 := 1#32
  let v338 : BitVec 32 := Scalar.addi v309 c1_i32_147
  let c512_i32_148 : BitVec 32 := 512#32
  let v339 : BitVec 32 := Scalar.muli v338 c512_i32_148
  v339
def k0_off17 (v203 : BitVec 32) : Fin 4 → Nat :=
  let c0_161 : Index := 0#32
  let c2_i32_128 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_127 : BitVec 32 := 0#32
  let v308 : BitVec 32 := Scalar.addi v220 c0_i32_127
  let v309 : BitVec 32 := Scalar.muli c2_i32_128 v308
  let v361 : Index := Scalar.indexCast v309
  let c64 : Index := 64#32
  let c0_162 : Index := 0#32
  ![0, v361.toNat, 64, 0]
def k0_mult9 (v203 : BitVec 32) : BitVec 32 :=
  let c2_i32_128 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_127 : BitVec 32 := 0#32
  let v308 : BitVec 32 := Scalar.addi v220 c0_i32_127
  let v309 : BitVec 32 := Scalar.muli c2_i32_128 v308
  let c2_i32_164 : BitVec 32 := 2#32
  let v366 : BitVec 32 := Scalar.addi v309 c2_i32_164
  let c512_i32_165 : BitVec 32 := 512#32
  let v367 : BitVec 32 := Scalar.muli v366 c512_i32_165
  v367
def k0_off18 (v203 : BitVec 32) : Fin 4 → Nat :=
  let c0_180 : Index := 0#32
  let c2_i32_128 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_127 : BitVec 32 := 0#32
  let v308 : BitVec 32 := Scalar.addi v220 c0_i32_127
  let v309 : BitVec 32 := Scalar.muli c2_i32_128 v308
  let c1_i32_179 : BitVec 32 := 1#32
  let v397 : BitVec 32 := Scalar.addi v309 c1_i32_179
  let v398 : Index := Scalar.indexCast v397
  let c0_181 : Index := 0#32
  let c0_182 : Index := 0#32
  ![0, v398.toNat, 0, 0]
def k0_mult10 (v203 : BitVec 32) : BitVec 32 :=
  let c2_i32_128 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_127 : BitVec 32 := 0#32
  let v308 : BitVec 32 := Scalar.addi v220 c0_i32_127
  let v309 : BitVec 32 := Scalar.muli c2_i32_128 v308
  let c2_i32_184 : BitVec 32 := 2#32
  let v403 : BitVec 32 := Scalar.addi v309 c2_i32_184
  let c512_i32_185 : BitVec 32 := 512#32
  let v404 : BitVec 32 := Scalar.muli v403 c512_i32_185
  v404
def k0_off19 (v203 : BitVec 32) : Fin 4 → Nat :=
  let c0_200 : Index := 0#32
  let c2_i32_128 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_127 : BitVec 32 := 0#32
  let v308 : BitVec 32 := Scalar.addi v220 c0_i32_127
  let v309 : BitVec 32 := Scalar.muli c2_i32_128 v308
  let c1_i32_199 : BitVec 32 := 1#32
  let v434 : BitVec 32 := Scalar.addi v309 c1_i32_199
  let v435 : Index := Scalar.indexCast v434
  let c64_201 : Index := 64#32
  let c0_202 : Index := 0#32
  ![0, v435.toNat, 64, 0]

def k0_chk3 (i : grid0.Coords) (v6 : BitVec 32) (v79 : BitVec 32) (v104 : BitVec 32) (v203 : BitVec 32) : Prop :=
  (∀ (k0_h1 : k0_cond1 v6 = 1#1), ∀ (k0_h3 : k0_cond3 i v79 v104 = 1#1), 512 ∣ (k0_mult5 v203).toNat) ∧
  (∀ (k0_h1 : k0_cond1 v6 = 1#1), ∀ (k0_h3 : k0_cond3 i v79 v104 = 1#1), ∀ a, (k0_off12 v203) a + S1x512x128.size a ≤ S1x4096x128.size a) ∧
  (∀ (k0_h1 : k0_cond1 v6 = 1#1), ∀ (k0_h3 : k0_cond3 i v79 v104 = 1#1), 512 ∣ (k0_mult7 v203).toNat) ∧
  (∀ (k0_h1 : k0_cond1 v6 = 1#1), ∀ (k0_h3 : k0_cond3 i v79 v104 = 1#1), ∀ (r : Fin 2), ∀ a, (k0_off15 v203 (BitVec.ofNat 32 (1 + r.val))) a + S1x512x128.size a ≤ S1x4096x128.size a) ∧
  (∀ (k0_h1 : k0_cond1 v6 = 1#1), ∀ (k0_h3 : k0_cond3 i v79 v104 = 1#1), ∀ a, (k0_off16 v203) a + S1x1x64x512.size a ≤ S1x8x128x512.size a) ∧
  (∀ (k0_h1 : k0_cond1 v6 = 1#1), ∀ (k0_h3 : k0_cond3 i v79 v104 = 1#1), 512 ∣ (k0_mult8 v203).toNat) ∧
  (∀ (k0_h1 : k0_cond1 v6 = 1#1), ∀ (k0_h3 : k0_cond3 i v79 v104 = 1#1), ∀ a, (k0_off17 v203) a + S1x1x64x512.size a ≤ S1x8x128x512.size a) ∧
  (∀ (k0_h1 : k0_cond1 v6 = 1#1), ∀ (k0_h3 : k0_cond3 i v79 v104 = 1#1), 512 ∣ (k0_mult9 v203).toNat) ∧
  (∀ (k0_h1 : k0_cond1 v6 = 1#1), ∀ (k0_h3 : k0_cond3 i v79 v104 = 1#1), ∀ a, (k0_off18 v203) a + S1x1x64x512.size a ≤ S1x8x128x512.size a) ∧
  (∀ (k0_h1 : k0_cond1 v6 = 1#1), ∀ (k0_h3 : k0_cond3 i v79 v104 = 1#1), 512 ∣ (k0_mult10 v203).toNat) ∧
  (∀ (k0_h1 : k0_cond1 v6 = 1#1), ∀ (k0_h3 : k0_cond3 i v79 v104 = 1#1), ∀ a, (k0_off19 v203) a + S1x1x64x512.size a ≤ S1x8x128x512.size a)
theorem k0_mult5_dvd : ∀ (i : grid0.Coords) (v6 : BitVec 32) (v79 : BitVec 32) (v104 : BitVec 32) (v203 : BitVec 32) (k0_hw3 : k0_chk3 i v6 v79 v104 v203), ∀ (k0_h1 : k0_cond1 v6 = 1#1), ∀ (k0_h3 : k0_cond3 i v79 v104 = 1#1), 512 ∣ (k0_mult5 v203).toNat := fun i v6 v79 v104 v203 k0_hw3 k0_h1 k0_h3 => k0_hw3.1 k0_h1 k0_h3
theorem k0_off12_inb : ∀ (i : grid0.Coords) (v6 : BitVec 32) (v79 : BitVec 32) (v104 : BitVec 32) (v203 : BitVec 32) (k0_hw3 : k0_chk3 i v6 v79 v104 v203), ∀ (k0_h1 : k0_cond1 v6 = 1#1), ∀ (k0_h3 : k0_cond3 i v79 v104 = 1#1), ∀ a, (k0_off12 v203) a + S1x512x128.size a ≤ S1x4096x128.size a := fun i v6 v79 v104 v203 k0_hw3 k0_h1 k0_h3 => k0_hw3.2.1 k0_h1 k0_h3
theorem k0_mult7_dvd : ∀ (i : grid0.Coords) (v6 : BitVec 32) (v79 : BitVec 32) (v104 : BitVec 32) (v203 : BitVec 32) (k0_hw3 : k0_chk3 i v6 v79 v104 v203), ∀ (k0_h1 : k0_cond1 v6 = 1#1), ∀ (k0_h3 : k0_cond3 i v79 v104 = 1#1), 512 ∣ (k0_mult7 v203).toNat := fun i v6 v79 v104 v203 k0_hw3 k0_h1 k0_h3 => k0_hw3.2.2.1 k0_h1 k0_h3
theorem k0_off15_inb : ∀ (i : grid0.Coords) (v6 : BitVec 32) (v79 : BitVec 32) (v104 : BitVec 32) (v203 : BitVec 32) (k0_hw3 : k0_chk3 i v6 v79 v104 v203), ∀ (k0_h1 : k0_cond1 v6 = 1#1), ∀ (k0_h3 : k0_cond3 i v79 v104 = 1#1), ∀ (r : Fin 2), ∀ a, (k0_off15 v203 (BitVec.ofNat 32 (1 + r.val))) a + S1x512x128.size a ≤ S1x4096x128.size a := fun i v6 v79 v104 v203 k0_hw3 k0_h1 k0_h3 r => k0_hw3.2.2.2.1 k0_h1 k0_h3 r
theorem k0_off16_inb : ∀ (i : grid0.Coords) (v6 : BitVec 32) (v79 : BitVec 32) (v104 : BitVec 32) (v203 : BitVec 32) (k0_hw3 : k0_chk3 i v6 v79 v104 v203), ∀ (k0_h1 : k0_cond1 v6 = 1#1), ∀ (k0_h3 : k0_cond3 i v79 v104 = 1#1), ∀ a, (k0_off16 v203) a + S1x1x64x512.size a ≤ S1x8x128x512.size a := fun i v6 v79 v104 v203 k0_hw3 k0_h1 k0_h3 => k0_hw3.2.2.2.2.1 k0_h1 k0_h3
theorem k0_mult8_dvd : ∀ (i : grid0.Coords) (v6 : BitVec 32) (v79 : BitVec 32) (v104 : BitVec 32) (v203 : BitVec 32) (k0_hw3 : k0_chk3 i v6 v79 v104 v203), ∀ (k0_h1 : k0_cond1 v6 = 1#1), ∀ (k0_h3 : k0_cond3 i v79 v104 = 1#1), 512 ∣ (k0_mult8 v203).toNat := fun i v6 v79 v104 v203 k0_hw3 k0_h1 k0_h3 => k0_hw3.2.2.2.2.2.1 k0_h1 k0_h3
theorem k0_off17_inb : ∀ (i : grid0.Coords) (v6 : BitVec 32) (v79 : BitVec 32) (v104 : BitVec 32) (v203 : BitVec 32) (k0_hw3 : k0_chk3 i v6 v79 v104 v203), ∀ (k0_h1 : k0_cond1 v6 = 1#1), ∀ (k0_h3 : k0_cond3 i v79 v104 = 1#1), ∀ a, (k0_off17 v203) a + S1x1x64x512.size a ≤ S1x8x128x512.size a := fun i v6 v79 v104 v203 k0_hw3 k0_h1 k0_h3 => k0_hw3.2.2.2.2.2.2.1 k0_h1 k0_h3
theorem k0_mult9_dvd : ∀ (i : grid0.Coords) (v6 : BitVec 32) (v79 : BitVec 32) (v104 : BitVec 32) (v203 : BitVec 32) (k0_hw3 : k0_chk3 i v6 v79 v104 v203), ∀ (k0_h1 : k0_cond1 v6 = 1#1), ∀ (k0_h3 : k0_cond3 i v79 v104 = 1#1), 512 ∣ (k0_mult9 v203).toNat := fun i v6 v79 v104 v203 k0_hw3 k0_h1 k0_h3 => k0_hw3.2.2.2.2.2.2.2.1 k0_h1 k0_h3
theorem k0_off18_inb : ∀ (i : grid0.Coords) (v6 : BitVec 32) (v79 : BitVec 32) (v104 : BitVec 32) (v203 : BitVec 32) (k0_hw3 : k0_chk3 i v6 v79 v104 v203), ∀ (k0_h1 : k0_cond1 v6 = 1#1), ∀ (k0_h3 : k0_cond3 i v79 v104 = 1#1), ∀ a, (k0_off18 v203) a + S1x1x64x512.size a ≤ S1x8x128x512.size a := fun i v6 v79 v104 v203 k0_hw3 k0_h1 k0_h3 => k0_hw3.2.2.2.2.2.2.2.2.1 k0_h1 k0_h3
theorem k0_mult10_dvd : ∀ (i : grid0.Coords) (v6 : BitVec 32) (v79 : BitVec 32) (v104 : BitVec 32) (v203 : BitVec 32) (k0_hw3 : k0_chk3 i v6 v79 v104 v203), ∀ (k0_h1 : k0_cond1 v6 = 1#1), ∀ (k0_h3 : k0_cond3 i v79 v104 = 1#1), 512 ∣ (k0_mult10 v203).toNat := fun i v6 v79 v104 v203 k0_hw3 k0_h1 k0_h3 => k0_hw3.2.2.2.2.2.2.2.2.2.1 k0_h1 k0_h3
theorem k0_off19_inb : ∀ (i : grid0.Coords) (v6 : BitVec 32) (v79 : BitVec 32) (v104 : BitVec 32) (v203 : BitVec 32) (k0_hw3 : k0_chk3 i v6 v79 v104 v203), ∀ (k0_h1 : k0_cond1 v6 = 1#1), ∀ (k0_h3 : k0_cond3 i v79 v104 = 1#1), ∀ a, (k0_off19 v203) a + S1x1x64x512.size a ≤ S1x8x128x512.size a := fun i v6 v79 v104 v203 k0_hw3 k0_h1 k0_h3 => k0_hw3.2.2.2.2.2.2.2.2.2.2 k0_h1 k0_h3

def k0_mult11 (i : grid0.Coords) : BitVec 32 :=
  let c2_i32 : BitVec 32 := 2#32
  let arg2 : BitVec 32 := BitVec.ofNat 32 (i 2).val
  let v71 : BitVec 32 := Scalar.muli c2_i32 arg2
  let c1_i32_204 : BitVec 32 := 1#32
  let v441 : BitVec 32 := Scalar.addi v71 c1_i32_204
  let c512_i32_205 : BitVec 32 := 512#32
  let v442 : BitVec 32 := Scalar.muli v441 c512_i32_205
  v442
def k0_off20 (i : grid0.Coords) : Fin 3 → Nat :=
  let c0_206 : Index := 0#32
  let c2_i32 : BitVec 32 := 2#32
  let arg2 : BitVec 32 := BitVec.ofNat 32 (i 2).val
  let v71 : BitVec 32 := Scalar.muli c2_i32 arg2
  let c1_i32_204 : BitVec 32 := 1#32
  let v441 : BitVec 32 := Scalar.addi v71 c1_i32_204
  let c512_i32_205 : BitVec 32 := 512#32
  let v442 : BitVec 32 := Scalar.muli v441 c512_i32_205
  let v443 : BitVec 32 := v442
  let v444 : Index := Scalar.indexCast v443
  let c0_207 : Index := 0#32
  ![0, v444.toNat, 0]
def k0_off21 (i : grid0.Coords) : Fin 4 → Nat :=
  let c0_216 : Index := 0#32
  let c2_i32 : BitVec 32 := 2#32
  let arg2 : BitVec 32 := BitVec.ofNat 32 (i 2).val
  let v71 : BitVec 32 := Scalar.muli c2_i32 arg2
  let v464 : Index := Scalar.indexCast v71
  let c0_217 : Index := 0#32
  let c0_218 : Index := 0#32
  ![0, v464.toNat, 0, 0]
def k0_off22 (i : grid0.Coords) : Fin 4 → Nat :=
  let c0_221 : Index := 0#32
  let c2_i32 : BitVec 32 := 2#32
  let arg2 : BitVec 32 := BitVec.ofNat 32 (i 2).val
  let v71 : BitVec 32 := Scalar.muli c2_i32 arg2
  let c1_i32_220 : BitVec 32 := 1#32
  let v473 : BitVec 32 := Scalar.addi v71 c1_i32_220
  let v474 : Index := Scalar.indexCast v473
  let c0_222 : Index := 0#32
  let c0_223 : Index := 0#32
  ![0, v474.toNat, 0, 0]
def k0_mult12 (i : grid0.Coords) : BitVec 32 :=
  let c2_i32 : BitVec 32 := 2#32
  let arg2 : BitVec 32 := BitVec.ofNat 32 (i 2).val
  let v71 : BitVec 32 := Scalar.muli c2_i32 arg2
  let c1_i32_225 : BitVec 32 := 1#32
  let v483 : BitVec 32 := Scalar.addi v71 c1_i32_225
  let c512_i32_226 : BitVec 32 := 512#32
  let v484 : BitVec 32 := Scalar.muli v483 c512_i32_226
  v484
def k0_off23 (i : grid0.Coords) : Fin 4 → Nat :=
  let c0_237 : Index := 0#32
  let c2_i32 : BitVec 32 := 2#32
  let arg2 : BitVec 32 := BitVec.ofNat 32 (i 2).val
  let v71 : BitVec 32 := Scalar.muli c2_i32 arg2
  let v506 : Index := Scalar.indexCast v71
  let c64_238 : Index := 64#32
  let c0_239 : Index := 0#32
  ![0, v506.toNat, 64, 0]
def k0_off24 (i : grid0.Coords) : Fin 4 → Nat :=
  let c0_242 : Index := 0#32
  let c2_i32 : BitVec 32 := 2#32
  let arg2 : BitVec 32 := BitVec.ofNat 32 (i 2).val
  let v71 : BitVec 32 := Scalar.muli c2_i32 arg2
  let c1_i32_241 : BitVec 32 := 1#32
  let v515 : BitVec 32 := Scalar.addi v71 c1_i32_241
  let v516 : Index := Scalar.indexCast v515
  let c64_243 : Index := 64#32
  let c0_244 : Index := 0#32
  ![0, v516.toNat, 64, 0]
def k0_off25 (i : grid0.Coords) : Fin 1 → Nat :=
  let arg0 : BitVec 32 := BitVec.ofNat 32 (i 0).val
  let c16_i32_81 : BitVec 32 := 16#32
  let v198 : BitVec 32 := Scalar.muli arg0 c16_i32_81
  let c2_i32_79 : BitVec 32 := 2#32
  let arg1 : BitVec 32 := BitVec.ofNat 32 (i 1).val
  let v196 : BitVec 32 := Scalar.muli c2_i32_79 arg1
  let c0_i32_80 : BitVec 32 := 0#32
  let v197 : BitVec 32 := Scalar.addi v196 c0_i32_80
  let v199 : BitVec 32 := Scalar.addi v198 v197
  let c4_i32_82 : BitVec 32 := 4#32
  let v200 : BitVec 32 := Scalar.muli v199 c4_i32_82
  let arg2 : BitVec 32 := BitVec.ofNat 32 (i 2).val
  let v201 : BitVec 32 := Scalar.addi v200 arg2
  let v202 : Index := Scalar.indexCast v201
  ![v202.toNat]
def k0_mult13 (v203 : BitVec 32) : BitVec 32 :=
  let c2_i32_91 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let v222 : BitVec 32 := Scalar.muli c2_i32_91 v220
  let c512_i32 : BitVec 32 := 512#32
  let v223 : BitVec 32 := Scalar.muli v222 c512_i32
  v223
def k0_cond4 (i : grid0.Coords) (v79 : BitVec 32) (v104 : BitVec 32) : BitVec 1 :=
  let c2_i32 : BitVec 32 := 2#32
  let arg2 : BitVec 32 := BitVec.ofNat 32 (i 2).val
  let v71 : BitVec 32 := Scalar.muli c2_i32 arg2
  let c0_i32_64 : BitVec 32 := 0#32
  let v166 : BitVec 1 := Scalar.cmpi .sgt v71 c0_i32_64
  let v167 : BitVec 32 := Scalar.extui v166
  let c0_i32_65 : BitVec 32 := 0#32
  let v168 : BitVec 1 := Scalar.cmpi .slt v71 c0_i32_65
  let v169 : BitVec 32 := Scalar.extui v168
  let v170 : BitVec 32 := Scalar.subi v167 v169
  let c2_i32_63 : BitVec 32 := 2#32
  let c0_i32_66 : BitVec 32 := 0#32
  let v171 : BitVec 1 := Scalar.cmpi .sgt c2_i32_63 c0_i32_66
  let v172 : BitVec 32 := Scalar.extui v171
  let c0_i32_67 : BitVec 32 := 0#32
  let v173 : BitVec 1 := Scalar.cmpi .slt c2_i32_63 c0_i32_67
  let v174 : BitVec 32 := Scalar.extui v173
  let v175 : BitVec 32 := Scalar.subi v172 v174
  let v176 : BitVec 1 := Scalar.cmpi .ne v170 v175
  let v177 : BitVec 32 := Scalar.remsi v71 c2_i32_63
  let c0_i32_68 : BitVec 32 := 0#32
  let v178 : BitVec 1 := Scalar.cmpi .ne v177 c0_i32_68
  let v179 : BitVec 1 := Scalar.andi v176 v178
  let v165 : BitVec 32 := Scalar.divsi v71 c2_i32_63
  let c1_i32_69 : BitVec 32 := 1#32
  let v180 : BitVec 32 := Scalar.subi v165 c1_i32_69
  let v181 : BitVec 32 := Scalar.select v179 v180 v165
  let c0_i32_31 : BitVec 32 := 0#32
  let v81 : BitVec 1 := Scalar.cmpi .sgt v79 c0_i32_31
  let v82 : BitVec 32 := Scalar.extui v81
  let c0_i32_32 : BitVec 32 := 0#32
  let v83 : BitVec 1 := Scalar.cmpi .slt v79 c0_i32_32
  let v84 : BitVec 32 := Scalar.extui v83
  let v85 : BitVec 32 := Scalar.subi v82 v84
  let c2_i32_30 : BitVec 32 := 2#32
  let c0_i32_33 : BitVec 32 := 0#32
  let v86 : BitVec 1 := Scalar.cmpi .sgt c2_i32_30 c0_i32_33
  let v87 : BitVec 32 := Scalar.extui v86
  let c0_i32_34 : BitVec 32 := 0#32
  let v88 : BitVec 1 := Scalar.cmpi .slt c2_i32_30 c0_i32_34
  let v89 : BitVec 32 := Scalar.extui v88
  let v90 : BitVec 32 := Scalar.subi v87 v89
  let v91 : BitVec 1 := Scalar.cmpi .ne v85 v90
  let v92 : BitVec 32 := Scalar.remsi v79 c2_i32_30
  let c0_i32_35 : BitVec 32 := 0#32
  let v93 : BitVec 1 := Scalar.cmpi .ne v92 c0_i32_35
  let v94 : BitVec 1 := Scalar.andi v91 v93
  let v80 : BitVec 32 := Scalar.divsi v79 c2_i32_30
  let c1_i32 : BitVec 32 := 1#32
  let v95 : BitVec 32 := Scalar.subi v80 c1_i32
  let v96 : BitVec 32 := Scalar.select v94 v95 v80
  let v182 : BitVec 32 := Scalar.subi v181 v96
  let c2_i32_70 : BitVec 32 := 2#32
  let v183 : BitVec 1 := Scalar.cmpi .eq v182 c2_i32_70
  let v122 : BitVec 1 := Scalar.cmpi .eq v96 v96
  let c0_i32_41 : BitVec 32 := 0#32
  let v106 : BitVec 1 := Scalar.cmpi .sgt v104 c0_i32_41
  let v107 : BitVec 32 := Scalar.extui v106
  let c0_i32_42 : BitVec 32 := 0#32
  let v108 : BitVec 1 := Scalar.cmpi .slt v104 c0_i32_42
  let v109 : BitVec 32 := Scalar.extui v108
  let v110 : BitVec 32 := Scalar.subi v107 v109
  let c2_i32_40 : BitVec 32 := 2#32
  let c0_i32_43 : BitVec 32 := 0#32
  let v111 : BitVec 1 := Scalar.cmpi .sgt c2_i32_40 c0_i32_43
  let v112 : BitVec 32 := Scalar.extui v111
  let c0_i32_44 : BitVec 32 := 0#32
  let v113 : BitVec 1 := Scalar.cmpi .slt c2_i32_40 c0_i32_44
  let v114 : BitVec 32 := Scalar.extui v113
  let v115 : BitVec 32 := Scalar.subi v112 v114
  let v116 : BitVec 1 := Scalar.cmpi .ne v110 v115
  let v117 : BitVec 32 := Scalar.remsi v104 c2_i32_40
  let c0_i32_45 : BitVec 32 := 0#32
  let v118 : BitVec 1 := Scalar.cmpi .ne v117 c0_i32_45
  let v119 : BitVec 1 := Scalar.andi v116 v118
  let v105 : BitVec 32 := Scalar.divsi v104 c2_i32_40
  let c1_i32_46 : BitVec 32 := 1#32
  let v120 : BitVec 32 := Scalar.subi v105 c1_i32_46
  let v121 : BitVec 32 := Scalar.select v119 v120 v105
  let v123 : BitVec 1 := Scalar.cmpi .eq v121 v96
  let v124 : BitVec 1 := Scalar.andi v122 v123
  let v184 : BitVec 1 := Scalar.andi v183 v124
  let v189 : BitVec 32 := Scalar.extui v184
  let c0_i32_76 : BitVec 32 := 0#32
  let v190 : BitVec 1 := Scalar.cmpi .ne v189 c0_i32_76
  v190

def k0_off26 (v203 : BitVec 32) : Fin 3 → Nat :=
  let c0_92 : Index := 0#32
  let c2_i32_91 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let v222 : BitVec 32 := Scalar.muli c2_i32_91 v220
  let c512_i32 : BitVec 32 := 512#32
  let v223 : BitVec 32 := Scalar.muli v222 c512_i32
  let v224 : BitVec 32 := v223
  let v225 : Index := Scalar.indexCast v224
  let c0_93 : Index := 0#32
  ![0, v225.toNat, 0]
def k0_off27 (i : grid0.Coords) : Fin 1 → Nat :=
  let arg0 : BitVec 32 := BitVec.ofNat 32 (i 0).val
  let c16_i32_104 : BitVec 32 := 16#32
  let v253 : BitVec 32 := Scalar.muli arg0 c16_i32_104
  let c2_i32_102 : BitVec 32 := 2#32
  let arg1 : BitVec 32 := BitVec.ofNat 32 (i 1).val
  let v251 : BitVec 32 := Scalar.muli c2_i32_102 arg1
  let c1_i32_103 : BitVec 32 := 1#32
  let v252 : BitVec 32 := Scalar.addi v251 c1_i32_103
  let v254 : BitVec 32 := Scalar.addi v253 v252
  let c4_i32_105 : BitVec 32 := 4#32
  let v255 : BitVec 32 := Scalar.muli v254 c4_i32_105
  let arg2 : BitVec 32 := BitVec.ofNat 32 (i 2).val
  let v256 : BitVec 32 := Scalar.addi v255 arg2
  let v257 : Index := Scalar.indexCast v256
  ![v257.toNat]
def k0_mult14 (v258 : BitVec 32) : BitVec 32 :=
  let c2_i32_114 : BitVec 32 := 2#32
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v277 : BitVec 32 := Scalar.muli c2_i32_114 v275
  let c512_i32_115 : BitVec 32 := 512#32
  let v278 : BitVec 32 := Scalar.muli v277 c512_i32_115
  v278

def k0_off28 (v258 : BitVec 32) : Fin 3 → Nat :=
  let c0_116 : Index := 0#32
  let c2_i32_114 : BitVec 32 := 2#32
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v277 : BitVec 32 := Scalar.muli c2_i32_114 v275
  let c512_i32_115 : BitVec 32 := 512#32
  let v278 : BitVec 32 := Scalar.muli v277 c512_i32_115
  let v279 : BitVec 32 := v278
  let v280 : Index := Scalar.indexCast v279
  let c0_117 : Index := 0#32
  ![0, v280.toNat, 0]

def k0_chk6 (i : grid0.Coords) (v6 : BitVec 32) (v79 : BitVec 32) (v104 : BitVec 32) (v258 : BitVec 32) : Prop :=
  (∀ (k0_h1 : k0_cond1 v6 = 1#1), ∀ (k0_h4 : k0_cond4 i v79 v104 = 1#1), 512 ∣ (k0_mult14 v258).toNat) ∧
  (∀ (k0_h1 : k0_cond1 v6 = 1#1), ∀ (k0_h4 : k0_cond4 i v79 v104 = 1#1), ∀ a, (k0_off28 v258) a + S1x512x128.size a ≤ S1x4096x128.size a)
theorem k0_mult14_dvd : ∀ (i : grid0.Coords) (v6 : BitVec 32) (v79 : BitVec 32) (v104 : BitVec 32) (v258 : BitVec 32) (k0_hw6 : k0_chk6 i v6 v79 v104 v258), ∀ (k0_h1 : k0_cond1 v6 = 1#1), ∀ (k0_h4 : k0_cond4 i v79 v104 = 1#1), 512 ∣ (k0_mult14 v258).toNat := fun i v6 v79 v104 v258 k0_hw6 k0_h1 k0_h4 => k0_hw6.1 k0_h1 k0_h4
theorem k0_off28_inb : ∀ (i : grid0.Coords) (v6 : BitVec 32) (v79 : BitVec 32) (v104 : BitVec 32) (v258 : BitVec 32) (k0_hw6 : k0_chk6 i v6 v79 v104 v258), ∀ (k0_h1 : k0_cond1 v6 = 1#1), ∀ (k0_h4 : k0_cond4 i v79 v104 = 1#1), ∀ a, (k0_off28 v258) a + S1x512x128.size a ≤ S1x4096x128.size a := fun i v6 v79 v104 v258 k0_hw6 k0_h1 k0_h4 => k0_hw6.2 k0_h1 k0_h4

def k0_mult15 (v203 : BitVec 32) : BitVec 32 :=
  let c2_i32_128 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_127 : BitVec 32 := 0#32
  let v308 : BitVec 32 := Scalar.addi v220 c0_i32_127
  let v309 : BitVec 32 := Scalar.muli c2_i32_128 v308
  let c1_i32_129 : BitVec 32 := 1#32
  let v310 : BitVec 32 := Scalar.addi v309 c1_i32_129
  let c512_i32_130 : BitVec 32 := 512#32
  let v311 : BitVec 32 := Scalar.muli v310 c512_i32_130
  v311
def k0_off29 (v203 : BitVec 32) (c0_i32_127 : BitVec 32) (c1_i32_129 : BitVec 32) : Fin 3 → Nat :=
  let c0_131 : Index := 0#32
  let c2_i32_128 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let v308 : BitVec 32 := Scalar.addi v220 c0_i32_127
  let v309 : BitVec 32 := Scalar.muli c2_i32_128 v308
  let v310 : BitVec 32 := Scalar.addi v309 c1_i32_129
  let c512_i32_130 : BitVec 32 := 512#32
  let v311 : BitVec 32 := Scalar.muli v310 c512_i32_130
  let v312 : BitVec 32 := v311
  let v313 : Index := Scalar.indexCast v312
  let c0_132 : Index := 0#32
  ![0, v313.toNat, 0]
def k0_off30 (v203 : BitVec 32) (c0_i32_127 : BitVec 32) : Fin 4 → Nat :=
  let c0_143 : Index := 0#32
  let c2_i32_128 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let v308 : BitVec 32 := Scalar.addi v220 c0_i32_127
  let v309 : BitVec 32 := Scalar.muli c2_i32_128 v308
  let v333 : Index := Scalar.indexCast v309
  let c0_144 : Index := 0#32
  let c0_145 : Index := 0#32
  ![0, v333.toNat, 0, 0]
def k0_mult16 (v203 : BitVec 32) : BitVec 32 :=
  let c2_i32_128 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_127 : BitVec 32 := 0#32
  let v308 : BitVec 32 := Scalar.addi v220 c0_i32_127
  let v309 : BitVec 32 := Scalar.muli c2_i32_128 v308
  let c1_i32_147 : BitVec 32 := 1#32
  let v338 : BitVec 32 := Scalar.addi v309 c1_i32_147
  let c512_i32_148 : BitVec 32 := 512#32
  let v339 : BitVec 32 := Scalar.muli v338 c512_i32_148
  v339
def k0_off31 (v203 : BitVec 32) (c0_i32_127 : BitVec 32) : Fin 4 → Nat :=
  let c0_161 : Index := 0#32
  let c2_i32_128 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let v308 : BitVec 32 := Scalar.addi v220 c0_i32_127
  let v309 : BitVec 32 := Scalar.muli c2_i32_128 v308
  let v361 : Index := Scalar.indexCast v309
  let c64 : Index := 64#32
  let c0_162 : Index := 0#32
  ![0, v361.toNat, 64, 0]
def k0_mult17 (v203 : BitVec 32) : BitVec 32 :=
  let c2_i32_128 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_127 : BitVec 32 := 0#32
  let v308 : BitVec 32 := Scalar.addi v220 c0_i32_127
  let v309 : BitVec 32 := Scalar.muli c2_i32_128 v308
  let c2_i32_164 : BitVec 32 := 2#32
  let v366 : BitVec 32 := Scalar.addi v309 c2_i32_164
  let c512_i32_165 : BitVec 32 := 512#32
  let v367 : BitVec 32 := Scalar.muli v366 c512_i32_165
  v367
def k0_off32 (v203 : BitVec 32) (c0_i32_127 : BitVec 32) : Fin 4 → Nat :=
  let c0_180 : Index := 0#32
  let c2_i32_128 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let v308 : BitVec 32 := Scalar.addi v220 c0_i32_127
  let v309 : BitVec 32 := Scalar.muli c2_i32_128 v308
  let c1_i32_179 : BitVec 32 := 1#32
  let v397 : BitVec 32 := Scalar.addi v309 c1_i32_179
  let v398 : Index := Scalar.indexCast v397
  let c0_181 : Index := 0#32
  let c0_182 : Index := 0#32
  ![0, v398.toNat, 0, 0]
def k0_mult18 (v203 : BitVec 32) : BitVec 32 :=
  let c2_i32_128 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_127 : BitVec 32 := 0#32
  let v308 : BitVec 32 := Scalar.addi v220 c0_i32_127
  let v309 : BitVec 32 := Scalar.muli c2_i32_128 v308
  let c2_i32_184 : BitVec 32 := 2#32
  let v403 : BitVec 32 := Scalar.addi v309 c2_i32_184
  let c512_i32_185 : BitVec 32 := 512#32
  let v404 : BitVec 32 := Scalar.muli v403 c512_i32_185
  v404
def k0_off33 (v203 : BitVec 32) (c0_i32_127 : BitVec 32) : Fin 4 → Nat :=
  let c0_200 : Index := 0#32
  let c2_i32_128 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let v308 : BitVec 32 := Scalar.addi v220 c0_i32_127
  let v309 : BitVec 32 := Scalar.muli c2_i32_128 v308
  let c1_i32_199 : BitVec 32 := 1#32
  let v434 : BitVec 32 := Scalar.addi v309 c1_i32_199
  let v435 : Index := Scalar.indexCast v434
  let c64_201 : Index := 64#32
  let c0_202 : Index := 0#32
  ![0, v435.toNat, 64, 0]
def k0_mult19 (v203 : BitVec 32) : BitVec 32 :=
  let c2_i32_205 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c1_i32_204 : BitVec 32 := 1#32
  let v440 : BitVec 32 := Scalar.addi v220 c1_i32_204
  let v441 : BitVec 32 := Scalar.muli c2_i32_205 v440
  let c1_i32_206 : BitVec 32 := 1#32
  let v442 : BitVec 32 := Scalar.addi v441 c1_i32_206
  let c512_i32_207 : BitVec 32 := 512#32
  let v443 : BitVec 32 := Scalar.muli v442 c512_i32_207
  v443
def k0_mult20 (v203 : BitVec 32) : BitVec 32 :=
  let c2_i32_205 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c1_i32_204 : BitVec 32 := 1#32
  let v440 : BitVec 32 := Scalar.addi v220 c1_i32_204
  let v441 : BitVec 32 := Scalar.muli c2_i32_205 v440
  let c1_i32_224 : BitVec 32 := 1#32
  let v470 : BitVec 32 := Scalar.addi v441 c1_i32_224
  let c512_i32_225 : BitVec 32 := 512#32
  let v471 : BitVec 32 := Scalar.muli v470 c512_i32_225
  v471
def k0_mult21 (v203 : BitVec 32) : BitVec 32 :=
  let c2_i32_205 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c1_i32_204 : BitVec 32 := 1#32
  let v440 : BitVec 32 := Scalar.addi v220 c1_i32_204
  let v441 : BitVec 32 := Scalar.muli c2_i32_205 v440
  let c2_i32_242 : BitVec 32 := 2#32
  let v498 : BitVec 32 := Scalar.addi v441 c2_i32_242
  let c512_i32_243 : BitVec 32 := 512#32
  let v499 : BitVec 32 := Scalar.muli v498 c512_i32_243
  v499
def k0_mult22 (v203 : BitVec 32) : BitVec 32 :=
  let c2_i32_205 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c1_i32_204 : BitVec 32 := 1#32
  let v440 : BitVec 32 := Scalar.addi v220 c1_i32_204
  let v441 : BitVec 32 := Scalar.muli c2_i32_205 v440
  let c2_i32_262 : BitVec 32 := 2#32
  let v535 : BitVec 32 := Scalar.addi v441 c2_i32_262
  let c512_i32_263 : BitVec 32 := 512#32
  let v536 : BitVec 32 := Scalar.muli v535 c512_i32_263
  v536

def k0_chk5 (i : grid0.Coords) (v6 : BitVec 32) (v79 : BitVec 32) (v104 : BitVec 32) (v203 : BitVec 32) : Prop :=
  (∀ (k0_h1 : k0_cond1 v6 = 1#1), ∀ (k0_h4 : k0_cond4 i v79 v104 = 1#1), 512 ∣ (k0_mult13 v203).toNat) ∧
  (∀ (k0_h1 : k0_cond1 v6 = 1#1), ∀ (k0_h4 : k0_cond4 i v79 v104 = 1#1), ∀ a, (k0_off26 v203) a + S1x512x128.size a ≤ S1x4096x128.size a) ∧
  (∀ (k0_h1 : k0_cond1 v6 = 1#1), ∀ (k0_h4 : k0_cond4 i v79 v104 = 1#1), 512 ∣ (k0_mult15 v203).toNat) ∧
  (∀ (k0_h1 : k0_cond1 v6 = 1#1), ∀ (k0_h4 : k0_cond4 i v79 v104 = 1#1), ∀ (r₁ : Fin 2) (r₂ : Fin 2), ∀ a, (k0_off29 v203 (BitVec.ofNat 32 r₁.val) (BitVec.ofNat 32 (1 + r₂.val))) a + S1x512x128.size a ≤ S1x4096x128.size a) ∧
  (∀ (k0_h1 : k0_cond1 v6 = 1#1), ∀ (k0_h4 : k0_cond4 i v79 v104 = 1#1), ∀ (r : Fin 2), ∀ a, (k0_off30 v203 (BitVec.ofNat 32 r.val)) a + S1x1x64x512.size a ≤ S1x8x128x512.size a) ∧
  (∀ (k0_h1 : k0_cond1 v6 = 1#1), ∀ (k0_h4 : k0_cond4 i v79 v104 = 1#1), 512 ∣ (k0_mult16 v203).toNat) ∧
  (∀ (k0_h1 : k0_cond1 v6 = 1#1), ∀ (k0_h4 : k0_cond4 i v79 v104 = 1#1), ∀ (r : Fin 2), ∀ a, (k0_off31 v203 (BitVec.ofNat 32 r.val)) a + S1x1x64x512.size a ≤ S1x8x128x512.size a) ∧
  (∀ (k0_h1 : k0_cond1 v6 = 1#1), ∀ (k0_h4 : k0_cond4 i v79 v104 = 1#1), 512 ∣ (k0_mult17 v203).toNat) ∧
  (∀ (k0_h1 : k0_cond1 v6 = 1#1), ∀ (k0_h4 : k0_cond4 i v79 v104 = 1#1), ∀ (r : Fin 2), ∀ a, (k0_off32 v203 (BitVec.ofNat 32 r.val)) a + S1x1x64x512.size a ≤ S1x8x128x512.size a) ∧
  (∀ (k0_h1 : k0_cond1 v6 = 1#1), ∀ (k0_h4 : k0_cond4 i v79 v104 = 1#1), 512 ∣ (k0_mult18 v203).toNat) ∧
  (∀ (k0_h1 : k0_cond1 v6 = 1#1), ∀ (k0_h4 : k0_cond4 i v79 v104 = 1#1), ∀ (r : Fin 2), ∀ a, (k0_off33 v203 (BitVec.ofNat 32 r.val)) a + S1x1x64x512.size a ≤ S1x8x128x512.size a) ∧
  (∀ (k0_h1 : k0_cond1 v6 = 1#1), ∀ (k0_h4 : k0_cond4 i v79 v104 = 1#1), 512 ∣ (k0_mult19 v203).toNat) ∧
  (∀ (k0_h1 : k0_cond1 v6 = 1#1), ∀ (k0_h4 : k0_cond4 i v79 v104 = 1#1), 512 ∣ (k0_mult20 v203).toNat) ∧
  (∀ (k0_h1 : k0_cond1 v6 = 1#1), ∀ (k0_h4 : k0_cond4 i v79 v104 = 1#1), 512 ∣ (k0_mult21 v203).toNat) ∧
  (∀ (k0_h1 : k0_cond1 v6 = 1#1), ∀ (k0_h4 : k0_cond4 i v79 v104 = 1#1), 512 ∣ (k0_mult22 v203).toNat)
theorem k0_mult13_dvd : ∀ (i : grid0.Coords) (v6 : BitVec 32) (v79 : BitVec 32) (v104 : BitVec 32) (v203 : BitVec 32) (k0_hw5 : k0_chk5 i v6 v79 v104 v203), ∀ (k0_h1 : k0_cond1 v6 = 1#1), ∀ (k0_h4 : k0_cond4 i v79 v104 = 1#1), 512 ∣ (k0_mult13 v203).toNat := fun i v6 v79 v104 v203 k0_hw5 k0_h1 k0_h4 => k0_hw5.1 k0_h1 k0_h4
theorem k0_off26_inb : ∀ (i : grid0.Coords) (v6 : BitVec 32) (v79 : BitVec 32) (v104 : BitVec 32) (v203 : BitVec 32) (k0_hw5 : k0_chk5 i v6 v79 v104 v203), ∀ (k0_h1 : k0_cond1 v6 = 1#1), ∀ (k0_h4 : k0_cond4 i v79 v104 = 1#1), ∀ a, (k0_off26 v203) a + S1x512x128.size a ≤ S1x4096x128.size a := fun i v6 v79 v104 v203 k0_hw5 k0_h1 k0_h4 => k0_hw5.2.1 k0_h1 k0_h4
theorem k0_mult15_dvd : ∀ (i : grid0.Coords) (v6 : BitVec 32) (v79 : BitVec 32) (v104 : BitVec 32) (v203 : BitVec 32) (k0_hw5 : k0_chk5 i v6 v79 v104 v203), ∀ (k0_h1 : k0_cond1 v6 = 1#1), ∀ (k0_h4 : k0_cond4 i v79 v104 = 1#1), 512 ∣ (k0_mult15 v203).toNat := fun i v6 v79 v104 v203 k0_hw5 k0_h1 k0_h4 => k0_hw5.2.2.1 k0_h1 k0_h4
theorem k0_off29_inb : ∀ (i : grid0.Coords) (v6 : BitVec 32) (v79 : BitVec 32) (v104 : BitVec 32) (v203 : BitVec 32) (k0_hw5 : k0_chk5 i v6 v79 v104 v203), ∀ (k0_h1 : k0_cond1 v6 = 1#1), ∀ (k0_h4 : k0_cond4 i v79 v104 = 1#1), ∀ (r₁ : Fin 2) (r₂ : Fin 2), ∀ a, (k0_off29 v203 (BitVec.ofNat 32 r₁.val) (BitVec.ofNat 32 (1 + r₂.val))) a + S1x512x128.size a ≤ S1x4096x128.size a := fun i v6 v79 v104 v203 k0_hw5 k0_h1 k0_h4 r₁ r₂ => k0_hw5.2.2.2.1 k0_h1 k0_h4 r₁ r₂
theorem k0_off30_inb : ∀ (i : grid0.Coords) (v6 : BitVec 32) (v79 : BitVec 32) (v104 : BitVec 32) (v203 : BitVec 32) (k0_hw5 : k0_chk5 i v6 v79 v104 v203), ∀ (k0_h1 : k0_cond1 v6 = 1#1), ∀ (k0_h4 : k0_cond4 i v79 v104 = 1#1), ∀ (r : Fin 2), ∀ a, (k0_off30 v203 (BitVec.ofNat 32 r.val)) a + S1x1x64x512.size a ≤ S1x8x128x512.size a := fun i v6 v79 v104 v203 k0_hw5 k0_h1 k0_h4 r => k0_hw5.2.2.2.2.1 k0_h1 k0_h4 r
theorem k0_mult16_dvd : ∀ (i : grid0.Coords) (v6 : BitVec 32) (v79 : BitVec 32) (v104 : BitVec 32) (v203 : BitVec 32) (k0_hw5 : k0_chk5 i v6 v79 v104 v203), ∀ (k0_h1 : k0_cond1 v6 = 1#1), ∀ (k0_h4 : k0_cond4 i v79 v104 = 1#1), 512 ∣ (k0_mult16 v203).toNat := fun i v6 v79 v104 v203 k0_hw5 k0_h1 k0_h4 => k0_hw5.2.2.2.2.2.1 k0_h1 k0_h4
theorem k0_off31_inb : ∀ (i : grid0.Coords) (v6 : BitVec 32) (v79 : BitVec 32) (v104 : BitVec 32) (v203 : BitVec 32) (k0_hw5 : k0_chk5 i v6 v79 v104 v203), ∀ (k0_h1 : k0_cond1 v6 = 1#1), ∀ (k0_h4 : k0_cond4 i v79 v104 = 1#1), ∀ (r : Fin 2), ∀ a, (k0_off31 v203 (BitVec.ofNat 32 r.val)) a + S1x1x64x512.size a ≤ S1x8x128x512.size a := fun i v6 v79 v104 v203 k0_hw5 k0_h1 k0_h4 r => k0_hw5.2.2.2.2.2.2.1 k0_h1 k0_h4 r
theorem k0_mult17_dvd : ∀ (i : grid0.Coords) (v6 : BitVec 32) (v79 : BitVec 32) (v104 : BitVec 32) (v203 : BitVec 32) (k0_hw5 : k0_chk5 i v6 v79 v104 v203), ∀ (k0_h1 : k0_cond1 v6 = 1#1), ∀ (k0_h4 : k0_cond4 i v79 v104 = 1#1), 512 ∣ (k0_mult17 v203).toNat := fun i v6 v79 v104 v203 k0_hw5 k0_h1 k0_h4 => k0_hw5.2.2.2.2.2.2.2.1 k0_h1 k0_h4
theorem k0_off32_inb : ∀ (i : grid0.Coords) (v6 : BitVec 32) (v79 : BitVec 32) (v104 : BitVec 32) (v203 : BitVec 32) (k0_hw5 : k0_chk5 i v6 v79 v104 v203), ∀ (k0_h1 : k0_cond1 v6 = 1#1), ∀ (k0_h4 : k0_cond4 i v79 v104 = 1#1), ∀ (r : Fin 2), ∀ a, (k0_off32 v203 (BitVec.ofNat 32 r.val)) a + S1x1x64x512.size a ≤ S1x8x128x512.size a := fun i v6 v79 v104 v203 k0_hw5 k0_h1 k0_h4 r => k0_hw5.2.2.2.2.2.2.2.2.1 k0_h1 k0_h4 r
theorem k0_mult18_dvd : ∀ (i : grid0.Coords) (v6 : BitVec 32) (v79 : BitVec 32) (v104 : BitVec 32) (v203 : BitVec 32) (k0_hw5 : k0_chk5 i v6 v79 v104 v203), ∀ (k0_h1 : k0_cond1 v6 = 1#1), ∀ (k0_h4 : k0_cond4 i v79 v104 = 1#1), 512 ∣ (k0_mult18 v203).toNat := fun i v6 v79 v104 v203 k0_hw5 k0_h1 k0_h4 => k0_hw5.2.2.2.2.2.2.2.2.2.1 k0_h1 k0_h4
theorem k0_off33_inb : ∀ (i : grid0.Coords) (v6 : BitVec 32) (v79 : BitVec 32) (v104 : BitVec 32) (v203 : BitVec 32) (k0_hw5 : k0_chk5 i v6 v79 v104 v203), ∀ (k0_h1 : k0_cond1 v6 = 1#1), ∀ (k0_h4 : k0_cond4 i v79 v104 = 1#1), ∀ (r : Fin 2), ∀ a, (k0_off33 v203 (BitVec.ofNat 32 r.val)) a + S1x1x64x512.size a ≤ S1x8x128x512.size a := fun i v6 v79 v104 v203 k0_hw5 k0_h1 k0_h4 r => k0_hw5.2.2.2.2.2.2.2.2.2.2.1 k0_h1 k0_h4 r
theorem k0_mult19_dvd : ∀ (i : grid0.Coords) (v6 : BitVec 32) (v79 : BitVec 32) (v104 : BitVec 32) (v203 : BitVec 32) (k0_hw5 : k0_chk5 i v6 v79 v104 v203), ∀ (k0_h1 : k0_cond1 v6 = 1#1), ∀ (k0_h4 : k0_cond4 i v79 v104 = 1#1), 512 ∣ (k0_mult19 v203).toNat := fun i v6 v79 v104 v203 k0_hw5 k0_h1 k0_h4 => k0_hw5.2.2.2.2.2.2.2.2.2.2.2.1 k0_h1 k0_h4
theorem k0_mult20_dvd : ∀ (i : grid0.Coords) (v6 : BitVec 32) (v79 : BitVec 32) (v104 : BitVec 32) (v203 : BitVec 32) (k0_hw5 : k0_chk5 i v6 v79 v104 v203), ∀ (k0_h1 : k0_cond1 v6 = 1#1), ∀ (k0_h4 : k0_cond4 i v79 v104 = 1#1), 512 ∣ (k0_mult20 v203).toNat := fun i v6 v79 v104 v203 k0_hw5 k0_h1 k0_h4 => k0_hw5.2.2.2.2.2.2.2.2.2.2.2.2.1 k0_h1 k0_h4
theorem k0_mult21_dvd : ∀ (i : grid0.Coords) (v6 : BitVec 32) (v79 : BitVec 32) (v104 : BitVec 32) (v203 : BitVec 32) (k0_hw5 : k0_chk5 i v6 v79 v104 v203), ∀ (k0_h1 : k0_cond1 v6 = 1#1), ∀ (k0_h4 : k0_cond4 i v79 v104 = 1#1), 512 ∣ (k0_mult21 v203).toNat := fun i v6 v79 v104 v203 k0_hw5 k0_h1 k0_h4 => k0_hw5.2.2.2.2.2.2.2.2.2.2.2.2.2.1 k0_h1 k0_h4
theorem k0_mult22_dvd : ∀ (i : grid0.Coords) (v6 : BitVec 32) (v79 : BitVec 32) (v104 : BitVec 32) (v203 : BitVec 32) (k0_hw5 : k0_chk5 i v6 v79 v104 v203), ∀ (k0_h1 : k0_cond1 v6 = 1#1), ∀ (k0_h4 : k0_cond4 i v79 v104 = 1#1), 512 ∣ (k0_mult22 v203).toNat := fun i v6 v79 v104 v203 k0_hw5 k0_h1 k0_h4 => k0_hw5.2.2.2.2.2.2.2.2.2.2.2.2.2.2 k0_h1 k0_h4

def k0_mult23 (i : grid0.Coords) : BitVec 32 :=
  let c2_i32 : BitVec 32 := 2#32
  let arg2 : BitVec 32 := BitVec.ofNat 32 (i 2).val
  let v71 : BitVec 32 := Scalar.muli c2_i32 arg2
  let c1_i32_282 : BitVec 32 := 1#32
  let v573 : BitVec 32 := Scalar.addi v71 c1_i32_282
  let c512_i32_283 : BitVec 32 := 512#32
  let v574 : BitVec 32 := Scalar.muli v573 c512_i32_283
  v574
def k0_off34 (i : grid0.Coords) : Fin 3 → Nat :=
  let c0_284 : Index := 0#32
  let c2_i32 : BitVec 32 := 2#32
  let arg2 : BitVec 32 := BitVec.ofNat 32 (i 2).val
  let v71 : BitVec 32 := Scalar.muli c2_i32 arg2
  let c1_i32_282 : BitVec 32 := 1#32
  let v573 : BitVec 32 := Scalar.addi v71 c1_i32_282
  let c512_i32_283 : BitVec 32 := 512#32
  let v574 : BitVec 32 := Scalar.muli v573 c512_i32_283
  let v575 : BitVec 32 := v574
  let v576 : Index := Scalar.indexCast v575
  let c0_285 : Index := 0#32
  ![0, v576.toNat, 0]
def k0_off35 (i : grid0.Coords) : Fin 4 → Nat :=
  let c0_294 : Index := 0#32
  let c2_i32 : BitVec 32 := 2#32
  let arg2 : BitVec 32 := BitVec.ofNat 32 (i 2).val
  let v71 : BitVec 32 := Scalar.muli c2_i32 arg2
  let v596 : Index := Scalar.indexCast v71
  let c0_295 : Index := 0#32
  let c0_296 : Index := 0#32
  ![0, v596.toNat, 0, 0]
def k0_off36 (i : grid0.Coords) : Fin 4 → Nat :=
  let c0_299 : Index := 0#32
  let c2_i32 : BitVec 32 := 2#32
  let arg2 : BitVec 32 := BitVec.ofNat 32 (i 2).val
  let v71 : BitVec 32 := Scalar.muli c2_i32 arg2
  let c1_i32_298 : BitVec 32 := 1#32
  let v605 : BitVec 32 := Scalar.addi v71 c1_i32_298
  let v606 : Index := Scalar.indexCast v605
  let c0_300 : Index := 0#32
  let c0_301 : Index := 0#32
  ![0, v606.toNat, 0, 0]
def k0_mult24 (i : grid0.Coords) : BitVec 32 :=
  let c2_i32 : BitVec 32 := 2#32
  let arg2 : BitVec 32 := BitVec.ofNat 32 (i 2).val
  let v71 : BitVec 32 := Scalar.muli c2_i32 arg2
  let c1_i32_303 : BitVec 32 := 1#32
  let v615 : BitVec 32 := Scalar.addi v71 c1_i32_303
  let c512_i32_304 : BitVec 32 := 512#32
  let v616 : BitVec 32 := Scalar.muli v615 c512_i32_304
  v616
def k0_off37 (i : grid0.Coords) : Fin 4 → Nat :=
  let c0_315 : Index := 0#32
  let c2_i32 : BitVec 32 := 2#32
  let arg2 : BitVec 32 := BitVec.ofNat 32 (i 2).val
  let v71 : BitVec 32 := Scalar.muli c2_i32 arg2
  let v638 : Index := Scalar.indexCast v71
  let c64_316 : Index := 64#32
  let c0_317 : Index := 0#32
  ![0, v638.toNat, 64, 0]
def k0_off38 (i : grid0.Coords) : Fin 4 → Nat :=
  let c0_320 : Index := 0#32
  let c2_i32 : BitVec 32 := 2#32
  let arg2 : BitVec 32 := BitVec.ofNat 32 (i 2).val
  let v71 : BitVec 32 := Scalar.muli c2_i32 arg2
  let c1_i32_319 : BitVec 32 := 1#32
  let v647 : BitVec 32 := Scalar.addi v71 c1_i32_319
  let v648 : Index := Scalar.indexCast v647
  let c64_321 : Index := 64#32
  let c0_322 : Index := 0#32
  ![0, v648.toNat, 64, 0]
def k0_off39 (i : grid0.Coords) : Fin 1 → Nat :=
  let arg0 : BitVec 32 := BitVec.ofNat 32 (i 0).val
  let c16_i32_81 : BitVec 32 := 16#32
  let v198 : BitVec 32 := Scalar.muli arg0 c16_i32_81
  let c2_i32_79 : BitVec 32 := 2#32
  let arg1 : BitVec 32 := BitVec.ofNat 32 (i 1).val
  let v196 : BitVec 32 := Scalar.muli c2_i32_79 arg1
  let c0_i32_80 : BitVec 32 := 0#32
  let v197 : BitVec 32 := Scalar.addi v196 c0_i32_80
  let v199 : BitVec 32 := Scalar.addi v198 v197
  let c4_i32_82 : BitVec 32 := 4#32
  let v200 : BitVec 32 := Scalar.muli v199 c4_i32_82
  let arg2 : BitVec 32 := BitVec.ofNat 32 (i 2).val
  let v201 : BitVec 32 := Scalar.addi v200 arg2
  let v202 : Index := Scalar.indexCast v201
  ![v202.toNat]
def k0_mult25 (v203 : BitVec 32) : BitVec 32 :=
  let c2_i32_91 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let v222 : BitVec 32 := Scalar.muli c2_i32_91 v220
  let c512_i32 : BitVec 32 := 512#32
  let v223 : BitVec 32 := Scalar.muli v222 c512_i32
  v223
def k0_cond5 (i : grid0.Coords) (v79 : BitVec 32) (v104 : BitVec 32) : BitVec 1 :=
  let c2_i32 : BitVec 32 := 2#32
  let arg2 : BitVec 32 := BitVec.ofNat 32 (i 2).val
  let v71 : BitVec 32 := Scalar.muli c2_i32 arg2
  let c0_i32_48 : BitVec 32 := 0#32
  let v126 : BitVec 1 := Scalar.cmpi .sgt v71 c0_i32_48
  let v127 : BitVec 32 := Scalar.extui v126
  let c0_i32_49 : BitVec 32 := 0#32
  let v128 : BitVec 1 := Scalar.cmpi .slt v71 c0_i32_49
  let v129 : BitVec 32 := Scalar.extui v128
  let v130 : BitVec 32 := Scalar.subi v127 v129
  let c2_i32_47 : BitVec 32 := 2#32
  let c0_i32_50 : BitVec 32 := 0#32
  let v131 : BitVec 1 := Scalar.cmpi .sgt c2_i32_47 c0_i32_50
  let v132 : BitVec 32 := Scalar.extui v131
  let c0_i32_51 : BitVec 32 := 0#32
  let v133 : BitVec 1 := Scalar.cmpi .slt c2_i32_47 c0_i32_51
  let v134 : BitVec 32 := Scalar.extui v133
  let v135 : BitVec 32 := Scalar.subi v132 v134
  let v136 : BitVec 1 := Scalar.cmpi .ne v130 v135
  let v137 : BitVec 32 := Scalar.remsi v71 c2_i32_47
  let c0_i32_52 : BitVec 32 := 0#32
  let v138 : BitVec 1 := Scalar.cmpi .ne v137 c0_i32_52
  let v139 : BitVec 1 := Scalar.andi v136 v138
  let v125 : BitVec 32 := Scalar.divsi v71 c2_i32_47
  let c1_i32_53 : BitVec 32 := 1#32
  let v140 : BitVec 32 := Scalar.subi v125 c1_i32_53
  let v141 : BitVec 32 := Scalar.select v139 v140 v125
  let c0_i32_31 : BitVec 32 := 0#32
  let v81 : BitVec 1 := Scalar.cmpi .sgt v79 c0_i32_31
  let v82 : BitVec 32 := Scalar.extui v81
  let c0_i32_32 : BitVec 32 := 0#32
  let v83 : BitVec 1 := Scalar.cmpi .slt v79 c0_i32_32
  let v84 : BitVec 32 := Scalar.extui v83
  let v85 : BitVec 32 := Scalar.subi v82 v84
  let c2_i32_30 : BitVec 32 := 2#32
  let c0_i32_33 : BitVec 32 := 0#32
  let v86 : BitVec 1 := Scalar.cmpi .sgt c2_i32_30 c0_i32_33
  let v87 : BitVec 32 := Scalar.extui v86
  let c0_i32_34 : BitVec 32 := 0#32
  let v88 : BitVec 1 := Scalar.cmpi .slt c2_i32_30 c0_i32_34
  let v89 : BitVec 32 := Scalar.extui v88
  let v90 : BitVec 32 := Scalar.subi v87 v89
  let v91 : BitVec 1 := Scalar.cmpi .ne v85 v90
  let v92 : BitVec 32 := Scalar.remsi v79 c2_i32_30
  let c0_i32_35 : BitVec 32 := 0#32
  let v93 : BitVec 1 := Scalar.cmpi .ne v92 c0_i32_35
  let v94 : BitVec 1 := Scalar.andi v91 v93
  let v80 : BitVec 32 := Scalar.divsi v79 c2_i32_30
  let c1_i32 : BitVec 32 := 1#32
  let v95 : BitVec 32 := Scalar.subi v80 c1_i32
  let v96 : BitVec 32 := Scalar.select v94 v95 v80
  let v142 : BitVec 32 := Scalar.subi v141 v96
  let c0_i32_54 : BitVec 32 := 0#32
  let v143 : BitVec 1 := Scalar.cmpi .eq v142 c0_i32_54
  let v122 : BitVec 1 := Scalar.cmpi .eq v96 v96
  let c0_i32_41 : BitVec 32 := 0#32
  let v106 : BitVec 1 := Scalar.cmpi .sgt v104 c0_i32_41
  let v107 : BitVec 32 := Scalar.extui v106
  let c0_i32_42 : BitVec 32 := 0#32
  let v108 : BitVec 1 := Scalar.cmpi .slt v104 c0_i32_42
  let v109 : BitVec 32 := Scalar.extui v108
  let v110 : BitVec 32 := Scalar.subi v107 v109
  let c2_i32_40 : BitVec 32 := 2#32
  let c0_i32_43 : BitVec 32 := 0#32
  let v111 : BitVec 1 := Scalar.cmpi .sgt c2_i32_40 c0_i32_43
  let v112 : BitVec 32 := Scalar.extui v111
  let c0_i32_44 : BitVec 32 := 0#32
  let v113 : BitVec 1 := Scalar.cmpi .slt c2_i32_40 c0_i32_44
  let v114 : BitVec 32 := Scalar.extui v113
  let v115 : BitVec 32 := Scalar.subi v112 v114
  let v116 : BitVec 1 := Scalar.cmpi .ne v110 v115
  let v117 : BitVec 32 := Scalar.remsi v104 c2_i32_40
  let c0_i32_45 : BitVec 32 := 0#32
  let v118 : BitVec 1 := Scalar.cmpi .ne v117 c0_i32_45
  let v119 : BitVec 1 := Scalar.andi v116 v118
  let v105 : BitVec 32 := Scalar.divsi v104 c2_i32_40
  let c1_i32_46 : BitVec 32 := 1#32
  let v120 : BitVec 32 := Scalar.subi v105 c1_i32_46
  let v121 : BitVec 32 := Scalar.select v119 v120 v105
  let v123 : BitVec 1 := Scalar.cmpi .eq v121 v96
  let v124 : BitVec 1 := Scalar.andi v122 v123
  let v144 : BitVec 1 := Scalar.andi v143 v124
  let c0_i32_56 : BitVec 32 := 0#32
  let v146 : BitVec 1 := Scalar.cmpi .sgt v71 c0_i32_56
  let v147 : BitVec 32 := Scalar.extui v146
  let c0_i32_57 : BitVec 32 := 0#32
  let v148 : BitVec 1 := Scalar.cmpi .slt v71 c0_i32_57
  let v149 : BitVec 32 := Scalar.extui v148
  let v150 : BitVec 32 := Scalar.subi v147 v149
  let c2_i32_55 : BitVec 32 := 2#32
  let c0_i32_58 : BitVec 32 := 0#32
  let v151 : BitVec 1 := Scalar.cmpi .sgt c2_i32_55 c0_i32_58
  let v152 : BitVec 32 := Scalar.extui v151
  let c0_i32_59 : BitVec 32 := 0#32
  let v153 : BitVec 1 := Scalar.cmpi .slt c2_i32_55 c0_i32_59
  let v154 : BitVec 32 := Scalar.extui v153
  let v155 : BitVec 32 := Scalar.subi v152 v154
  let v156 : BitVec 1 := Scalar.cmpi .ne v150 v155
  let v157 : BitVec 32 := Scalar.remsi v71 c2_i32_55
  let c0_i32_60 : BitVec 32 := 0#32
  let v158 : BitVec 1 := Scalar.cmpi .ne v157 c0_i32_60
  let v159 : BitVec 1 := Scalar.andi v156 v158
  let v145 : BitVec 32 := Scalar.divsi v71 c2_i32_55
  let c1_i32_61 : BitVec 32 := 1#32
  let v160 : BitVec 32 := Scalar.subi v145 c1_i32_61
  let v161 : BitVec 32 := Scalar.select v159 v160 v145
  let v162 : BitVec 32 := Scalar.subi v161 v96
  let c1_i32_62 : BitVec 32 := 1#32
  let v163 : BitVec 1 := Scalar.cmpi .eq v162 c1_i32_62
  let v164 : BitVec 1 := Scalar.andi v163 v124
  let v191 : BitVec 1 := Scalar.ori v144 v164
  let c0_i32_64 : BitVec 32 := 0#32
  let v166 : BitVec 1 := Scalar.cmpi .sgt v71 c0_i32_64
  let v167 : BitVec 32 := Scalar.extui v166
  let c0_i32_65 : BitVec 32 := 0#32
  let v168 : BitVec 1 := Scalar.cmpi .slt v71 c0_i32_65
  let v169 : BitVec 32 := Scalar.extui v168
  let v170 : BitVec 32 := Scalar.subi v167 v169
  let c2_i32_63 : BitVec 32 := 2#32
  let c0_i32_66 : BitVec 32 := 0#32
  let v171 : BitVec 1 := Scalar.cmpi .sgt c2_i32_63 c0_i32_66
  let v172 : BitVec 32 := Scalar.extui v171
  let c0_i32_67 : BitVec 32 := 0#32
  let v173 : BitVec 1 := Scalar.cmpi .slt c2_i32_63 c0_i32_67
  let v174 : BitVec 32 := Scalar.extui v173
  let v175 : BitVec 32 := Scalar.subi v172 v174
  let v176 : BitVec 1 := Scalar.cmpi .ne v170 v175
  let v177 : BitVec 32 := Scalar.remsi v71 c2_i32_63
  let c0_i32_68 : BitVec 32 := 0#32
  let v178 : BitVec 1 := Scalar.cmpi .ne v177 c0_i32_68
  let v179 : BitVec 1 := Scalar.andi v176 v178
  let v165 : BitVec 32 := Scalar.divsi v71 c2_i32_63
  let c1_i32_69 : BitVec 32 := 1#32
  let v180 : BitVec 32 := Scalar.subi v165 c1_i32_69
  let v181 : BitVec 32 := Scalar.select v179 v180 v165
  let v182 : BitVec 32 := Scalar.subi v181 v96
  let c2_i32_70 : BitVec 32 := 2#32
  let v183 : BitVec 1 := Scalar.cmpi .eq v182 c2_i32_70
  let v184 : BitVec 1 := Scalar.andi v183 v124
  let v192 : BitVec 1 := Scalar.ori v191 v184
  let v_true : BitVec 1 := 1#1
  let v193 : BitVec 1 := Scalar.xori v192 v_true
  let v194 : BitVec 32 := Scalar.extui v193
  let c0_i32_78 : BitVec 32 := 0#32
  let v195 : BitVec 1 := Scalar.cmpi .ne v194 c0_i32_78
  v195

def k0_off40 (v203 : BitVec 32) : Fin 3 → Nat :=
  let c0_92 : Index := 0#32
  let c2_i32_91 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let v222 : BitVec 32 := Scalar.muli c2_i32_91 v220
  let c512_i32 : BitVec 32 := 512#32
  let v223 : BitVec 32 := Scalar.muli v222 c512_i32
  let v224 : BitVec 32 := v223
  let v225 : Index := Scalar.indexCast v224
  let c0_93 : Index := 0#32
  ![0, v225.toNat, 0]

def k0_chk7 (i : grid0.Coords) (v6 : BitVec 32) (v79 : BitVec 32) (v104 : BitVec 32) (v203 : BitVec 32) : Prop :=
  (∀ (k0_h1 : k0_cond1 v6 = 1#1), ∀ (k0_h5 : k0_cond5 i v79 v104 = 1#1), 512 ∣ (k0_mult25 v203).toNat) ∧
  (∀ (k0_h1 : k0_cond1 v6 = 1#1), ∀ (k0_h5 : k0_cond5 i v79 v104 = 1#1), ∀ a, (k0_off40 v203) a + S1x512x128.size a ≤ S1x4096x128.size a)
theorem k0_mult25_dvd : ∀ (i : grid0.Coords) (v6 : BitVec 32) (v79 : BitVec 32) (v104 : BitVec 32) (v203 : BitVec 32) (k0_hw7 : k0_chk7 i v6 v79 v104 v203), ∀ (k0_h1 : k0_cond1 v6 = 1#1), ∀ (k0_h5 : k0_cond5 i v79 v104 = 1#1), 512 ∣ (k0_mult25 v203).toNat := fun i v6 v79 v104 v203 k0_hw7 k0_h1 k0_h5 => k0_hw7.1 k0_h1 k0_h5
theorem k0_off40_inb : ∀ (i : grid0.Coords) (v6 : BitVec 32) (v79 : BitVec 32) (v104 : BitVec 32) (v203 : BitVec 32) (k0_hw7 : k0_chk7 i v6 v79 v104 v203), ∀ (k0_h1 : k0_cond1 v6 = 1#1), ∀ (k0_h5 : k0_cond5 i v79 v104 = 1#1), ∀ a, (k0_off40 v203) a + S1x512x128.size a ≤ S1x4096x128.size a := fun i v6 v79 v104 v203 k0_hw7 k0_h1 k0_h5 => k0_hw7.2 k0_h1 k0_h5

def k0_off41 (i : grid0.Coords) : Fin 1 → Nat :=
  let arg0 : BitVec 32 := BitVec.ofNat 32 (i 0).val
  let c16_i32_104 : BitVec 32 := 16#32
  let v253 : BitVec 32 := Scalar.muli arg0 c16_i32_104
  let c2_i32_102 : BitVec 32 := 2#32
  let arg1 : BitVec 32 := BitVec.ofNat 32 (i 1).val
  let v251 : BitVec 32 := Scalar.muli c2_i32_102 arg1
  let c1_i32_103 : BitVec 32 := 1#32
  let v252 : BitVec 32 := Scalar.addi v251 c1_i32_103
  let v254 : BitVec 32 := Scalar.addi v253 v252
  let c4_i32_105 : BitVec 32 := 4#32
  let v255 : BitVec 32 := Scalar.muli v254 c4_i32_105
  let arg2 : BitVec 32 := BitVec.ofNat 32 (i 2).val
  let v256 : BitVec 32 := Scalar.addi v255 arg2
  let v257 : Index := Scalar.indexCast v256
  ![v257.toNat]
def k0_mult26 (v258 : BitVec 32) : BitVec 32 :=
  let c2_i32_114 : BitVec 32 := 2#32
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v277 : BitVec 32 := Scalar.muli c2_i32_114 v275
  let c512_i32_115 : BitVec 32 := 512#32
  let v278 : BitVec 32 := Scalar.muli v277 c512_i32_115
  v278

def k0_off42 (v258 : BitVec 32) : Fin 3 → Nat :=
  let c0_116 : Index := 0#32
  let c2_i32_114 : BitVec 32 := 2#32
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v277 : BitVec 32 := Scalar.muli c2_i32_114 v275
  let c512_i32_115 : BitVec 32 := 512#32
  let v278 : BitVec 32 := Scalar.muli v277 c512_i32_115
  let v279 : BitVec 32 := v278
  let v280 : Index := Scalar.indexCast v279
  let c0_117 : Index := 0#32
  ![0, v280.toNat, 0]
@[reducible] def k0_t1_loop (v203 : BitVec 32) (v258 : BitVec 32) : Scf.Loop 32 :=
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let v309 : BitVec 32 := Scalar.subi v306 v220
  let c1_i32_127 : BitVec 32 := 1#32
  let v311 : BitVec 32 := Scalar.divsi v309 c1_i32_127
  let v312 : BitVec 32 := Scalar.muli v311 c1_i32_127
  let v313 : BitVec 32 := Scalar.addi v220 v312
  let c1_i32_128 : BitVec 32 := 1#32
  ⟨v220, v313, c1_i32_128⟩
def k0_mult27 (v203 : BitVec 32) (v258 : BitVec 32) (k0_t1 : Fin (k0_t1_loop v203 v258).trips) : BitVec 32 :=
  let c2_i32_207 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c1_i32_128 : BitVec 32 := 1#32
  let arg18 : BitVec 32 := Scf.iv v220 c1_i32_128 k0_t1
  let c0_i32_206 : BitVec 32 := 0#32
  let v481 : BitVec 32 := Scalar.addi arg18 c0_i32_206
  let v482 : BitVec 32 := Scalar.muli c2_i32_207 v481
  let c1_i32_208 : BitVec 32 := 1#32
  let v483 : BitVec 32 := Scalar.addi v482 c1_i32_208
  let c512_i32_209 : BitVec 32 := 512#32
  let v484 : BitVec 32 := Scalar.muli v483 c512_i32_209
  v484
def k0_off43 (v203 : BitVec 32) (v258 : BitVec 32) (k0_t1 : Fin (k0_t1_loop v203 v258).trips) (c1_i32_208 : BitVec 32) : Fin 3 → Nat :=
  let c0_210 : Index := 0#32
  let c2_i32_207 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c1_i32_128 : BitVec 32 := 1#32
  let arg18 : BitVec 32 := Scf.iv v220 c1_i32_128 k0_t1
  let c0_i32_206 : BitVec 32 := 0#32
  let v481 : BitVec 32 := Scalar.addi arg18 c0_i32_206
  let v482 : BitVec 32 := Scalar.muli c2_i32_207 v481
  let v483 : BitVec 32 := Scalar.addi v482 c1_i32_208
  let c512_i32_209 : BitVec 32 := 512#32
  let v484 : BitVec 32 := Scalar.muli v483 c512_i32_209
  let v485 : BitVec 32 := v484
  let v486 : Index := Scalar.indexCast v485
  let c0_211 : Index := 0#32
  ![0, v486.toNat, 0]
def k0_off44 (v203 : BitVec 32) (v258 : BitVec 32) (k0_t1 : Fin (k0_t1_loop v203 v258).trips) : Fin 4 → Nat :=
  let c0_222 : Index := 0#32
  let c2_i32_207 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c1_i32_128 : BitVec 32 := 1#32
  let arg18 : BitVec 32 := Scf.iv v220 c1_i32_128 k0_t1
  let c0_i32_206 : BitVec 32 := 0#32
  let v481 : BitVec 32 := Scalar.addi arg18 c0_i32_206
  let v482 : BitVec 32 := Scalar.muli c2_i32_207 v481
  let v506 : Index := Scalar.indexCast v482
  let c0_223 : Index := 0#32
  let c0_224 : Index := 0#32
  ![0, v506.toNat, 0, 0]
def k0_mult28 (v203 : BitVec 32) (v258 : BitVec 32) (k0_t1 : Fin (k0_t1_loop v203 v258).trips) : BitVec 32 :=
  let c2_i32_207 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c1_i32_128 : BitVec 32 := 1#32
  let arg18 : BitVec 32 := Scf.iv v220 c1_i32_128 k0_t1
  let c0_i32_206 : BitVec 32 := 0#32
  let v481 : BitVec 32 := Scalar.addi arg18 c0_i32_206
  let v482 : BitVec 32 := Scalar.muli c2_i32_207 v481
  let c2_i32_226 : BitVec 32 := 2#32
  let v511 : BitVec 32 := Scalar.addi v482 c2_i32_226
  let c512_i32_227 : BitVec 32 := 512#32
  let v512 : BitVec 32 := Scalar.muli v511 c512_i32_227
  v512
def k0_off45 (v203 : BitVec 32) (v258 : BitVec 32) (k0_t1 : Fin (k0_t1_loop v203 v258).trips) : Fin 4 → Nat :=
  let c0_242 : Index := 0#32
  let c2_i32_207 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c1_i32_128 : BitVec 32 := 1#32
  let arg18 : BitVec 32 := Scf.iv v220 c1_i32_128 k0_t1
  let c0_i32_206 : BitVec 32 := 0#32
  let v481 : BitVec 32 := Scalar.addi arg18 c0_i32_206
  let v482 : BitVec 32 := Scalar.muli c2_i32_207 v481
  let c1_i32_241 : BitVec 32 := 1#32
  let v542 : BitVec 32 := Scalar.addi v482 c1_i32_241
  let v543 : Index := Scalar.indexCast v542
  let c0_243 : Index := 0#32
  let c0_244 : Index := 0#32
  ![0, v543.toNat, 0, 0]
@[reducible] def k0_t2_loop (v203 : BitVec 32) (v258 : BitVec 32) : Scf.Loop 32 :=
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let v309 : BitVec 32 := Scalar.subi v306 v220
  let c1_i32_127 : BitVec 32 := 1#32
  let v311 : BitVec 32 := Scalar.divsi v309 c1_i32_127
  let v312 : BitVec 32 := Scalar.muli v311 c1_i32_127
  let v313 : BitVec 32 := Scalar.addi v220 v312
  let v310 : BitVec 32 := Scalar.addi v220 v309
  let c1_i32_129 : BitVec 32 := 1#32
  ⟨v313, v310, c1_i32_129⟩
def k0_mult29 (v203 : BitVec 32) (v258 : BitVec 32) (k0_t2 : Fin (k0_t2_loop v203 v258).trips) : BitVec 32 :=
  let c2_i32_207 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let v309 : BitVec 32 := Scalar.subi v306 v220
  let c1_i32_127 : BitVec 32 := 1#32
  let v311 : BitVec 32 := Scalar.divsi v309 c1_i32_127
  let v312 : BitVec 32 := Scalar.muli v311 c1_i32_127
  let v313 : BitVec 32 := Scalar.addi v220 v312
  let c1_i32_129 : BitVec 32 := 1#32
  let arg18 : BitVec 32 := Scf.iv v313 c1_i32_129 k0_t2
  let c0_i32_206 : BitVec 32 := 0#32
  let v481 : BitVec 32 := Scalar.addi arg18 c0_i32_206
  let v482 : BitVec 32 := Scalar.muli c2_i32_207 v481
  let c1_i32_208 : BitVec 32 := 1#32
  let v483 : BitVec 32 := Scalar.addi v482 c1_i32_208
  let c512_i32_209 : BitVec 32 := 512#32
  let v484 : BitVec 32 := Scalar.muli v483 c512_i32_209
  v484
def k0_off46 (v203 : BitVec 32) (v258 : BitVec 32) (k0_t2 : Fin (k0_t2_loop v203 v258).trips) (c1_i32_208 : BitVec 32) : Fin 3 → Nat :=
  let c0_210 : Index := 0#32
  let c2_i32_207 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let v309 : BitVec 32 := Scalar.subi v306 v220
  let c1_i32_127 : BitVec 32 := 1#32
  let v311 : BitVec 32 := Scalar.divsi v309 c1_i32_127
  let v312 : BitVec 32 := Scalar.muli v311 c1_i32_127
  let v313 : BitVec 32 := Scalar.addi v220 v312
  let c1_i32_129 : BitVec 32 := 1#32
  let arg18 : BitVec 32 := Scf.iv v313 c1_i32_129 k0_t2
  let c0_i32_206 : BitVec 32 := 0#32
  let v481 : BitVec 32 := Scalar.addi arg18 c0_i32_206
  let v482 : BitVec 32 := Scalar.muli c2_i32_207 v481
  let v483 : BitVec 32 := Scalar.addi v482 c1_i32_208
  let c512_i32_209 : BitVec 32 := 512#32
  let v484 : BitVec 32 := Scalar.muli v483 c512_i32_209
  let v485 : BitVec 32 := v484
  let v486 : Index := Scalar.indexCast v485
  let c0_211 : Index := 0#32
  ![0, v486.toNat, 0]
def k0_off47 (v203 : BitVec 32) (v258 : BitVec 32) (k0_t2 : Fin (k0_t2_loop v203 v258).trips) : Fin 4 → Nat :=
  let c0_222 : Index := 0#32
  let c2_i32_207 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let v309 : BitVec 32 := Scalar.subi v306 v220
  let c1_i32_127 : BitVec 32 := 1#32
  let v311 : BitVec 32 := Scalar.divsi v309 c1_i32_127
  let v312 : BitVec 32 := Scalar.muli v311 c1_i32_127
  let v313 : BitVec 32 := Scalar.addi v220 v312
  let c1_i32_129 : BitVec 32 := 1#32
  let arg18 : BitVec 32 := Scf.iv v313 c1_i32_129 k0_t2
  let c0_i32_206 : BitVec 32 := 0#32
  let v481 : BitVec 32 := Scalar.addi arg18 c0_i32_206
  let v482 : BitVec 32 := Scalar.muli c2_i32_207 v481
  let v506 : Index := Scalar.indexCast v482
  let c0_223 : Index := 0#32
  let c0_224 : Index := 0#32
  ![0, v506.toNat, 0, 0]
def k0_mult30 (v203 : BitVec 32) (v258 : BitVec 32) (k0_t2 : Fin (k0_t2_loop v203 v258).trips) : BitVec 32 :=
  let c2_i32_207 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let v309 : BitVec 32 := Scalar.subi v306 v220
  let c1_i32_127 : BitVec 32 := 1#32
  let v311 : BitVec 32 := Scalar.divsi v309 c1_i32_127
  let v312 : BitVec 32 := Scalar.muli v311 c1_i32_127
  let v313 : BitVec 32 := Scalar.addi v220 v312
  let c1_i32_129 : BitVec 32 := 1#32
  let arg18 : BitVec 32 := Scf.iv v313 c1_i32_129 k0_t2
  let c0_i32_206 : BitVec 32 := 0#32
  let v481 : BitVec 32 := Scalar.addi arg18 c0_i32_206
  let v482 : BitVec 32 := Scalar.muli c2_i32_207 v481
  let c2_i32_226 : BitVec 32 := 2#32
  let v511 : BitVec 32 := Scalar.addi v482 c2_i32_226
  let c512_i32_227 : BitVec 32 := 512#32
  let v512 : BitVec 32 := Scalar.muli v511 c512_i32_227
  v512
def k0_off48 (v203 : BitVec 32) (v258 : BitVec 32) (k0_t2 : Fin (k0_t2_loop v203 v258).trips) : Fin 4 → Nat :=
  let c0_242 : Index := 0#32
  let c2_i32_207 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let v309 : BitVec 32 := Scalar.subi v306 v220
  let c1_i32_127 : BitVec 32 := 1#32
  let v311 : BitVec 32 := Scalar.divsi v309 c1_i32_127
  let v312 : BitVec 32 := Scalar.muli v311 c1_i32_127
  let v313 : BitVec 32 := Scalar.addi v220 v312
  let c1_i32_129 : BitVec 32 := 1#32
  let arg18 : BitVec 32 := Scf.iv v313 c1_i32_129 k0_t2
  let c0_i32_206 : BitVec 32 := 0#32
  let v481 : BitVec 32 := Scalar.addi arg18 c0_i32_206
  let v482 : BitVec 32 := Scalar.muli c2_i32_207 v481
  let c1_i32_241 : BitVec 32 := 1#32
  let v542 : BitVec 32 := Scalar.addi v482 c1_i32_241
  let v543 : Index := Scalar.indexCast v542
  let c0_243 : Index := 0#32
  let c0_244 : Index := 0#32
  ![0, v543.toNat, 0, 0]
@[reducible] def k0_t3_loop (v203 : BitVec 32) (v258 : BitVec 32) : Scf.Loop 32 :=
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let v306 : BitVec 32 := Scalar.maxsi v220 v275
  let v316 : BitVec 32 := Scalar.subi v306 v275
  let c1_i32_130 : BitVec 32 := 1#32
  let v318 : BitVec 32 := Scalar.divsi v316 c1_i32_130
  let v319 : BitVec 32 := Scalar.muli v318 c1_i32_130
  let v320 : BitVec 32 := Scalar.addi v275 v319
  let c1_i32_131 : BitVec 32 := 1#32
  ⟨v275, v320, c1_i32_131⟩
def k0_mult31 (v203 : BitVec 32) (v258 : BitVec 32) (k0_t3 : Fin (k0_t3_loop v203 v258).trips) : BitVec 32 :=
  let c2_i32_207 : BitVec 32 := 2#32
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let c1_i32_131 : BitVec 32 := 1#32
  let arg18 : BitVec 32 := Scf.iv v275 c1_i32_131 k0_t3
  let c0_i32_206 : BitVec 32 := 0#32
  let v481 : BitVec 32 := Scalar.addi arg18 c0_i32_206
  let v482 : BitVec 32 := Scalar.muli c2_i32_207 v481
  let c1_i32_208 : BitVec 32 := 1#32
  let v483 : BitVec 32 := Scalar.addi v482 c1_i32_208
  let c512_i32_209 : BitVec 32 := 512#32
  let v484 : BitVec 32 := Scalar.muli v483 c512_i32_209
  v484
def k0_off49 (v203 : BitVec 32) (v258 : BitVec 32) (k0_t3 : Fin (k0_t3_loop v203 v258).trips) (c1_i32_208 : BitVec 32) : Fin 3 → Nat :=
  let c0_210 : Index := 0#32
  let c2_i32_207 : BitVec 32 := 2#32
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let c1_i32_131 : BitVec 32 := 1#32
  let arg18 : BitVec 32 := Scf.iv v275 c1_i32_131 k0_t3
  let c0_i32_206 : BitVec 32 := 0#32
  let v481 : BitVec 32 := Scalar.addi arg18 c0_i32_206
  let v482 : BitVec 32 := Scalar.muli c2_i32_207 v481
  let v483 : BitVec 32 := Scalar.addi v482 c1_i32_208
  let c512_i32_209 : BitVec 32 := 512#32
  let v484 : BitVec 32 := Scalar.muli v483 c512_i32_209
  let v485 : BitVec 32 := v484
  let v486 : Index := Scalar.indexCast v485
  let c0_211 : Index := 0#32
  ![0, v486.toNat, 0]
def k0_off50 (v203 : BitVec 32) (v258 : BitVec 32) (k0_t3 : Fin (k0_t3_loop v203 v258).trips) : Fin 4 → Nat :=
  let c0_222 : Index := 0#32
  let c2_i32_207 : BitVec 32 := 2#32
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let c1_i32_131 : BitVec 32 := 1#32
  let arg18 : BitVec 32 := Scf.iv v275 c1_i32_131 k0_t3
  let c0_i32_206 : BitVec 32 := 0#32
  let v481 : BitVec 32 := Scalar.addi arg18 c0_i32_206
  let v482 : BitVec 32 := Scalar.muli c2_i32_207 v481
  let v506 : Index := Scalar.indexCast v482
  let c64_223 : Index := 64#32
  let c0_224 : Index := 0#32
  ![0, v506.toNat, 64, 0]
def k0_mult32 (v203 : BitVec 32) (v258 : BitVec 32) (k0_t3 : Fin (k0_t3_loop v203 v258).trips) : BitVec 32 :=
  let c2_i32_207 : BitVec 32 := 2#32
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let c1_i32_131 : BitVec 32 := 1#32
  let arg18 : BitVec 32 := Scf.iv v275 c1_i32_131 k0_t3
  let c0_i32_206 : BitVec 32 := 0#32
  let v481 : BitVec 32 := Scalar.addi arg18 c0_i32_206
  let v482 : BitVec 32 := Scalar.muli c2_i32_207 v481
  let c2_i32_226 : BitVec 32 := 2#32
  let v511 : BitVec 32 := Scalar.addi v482 c2_i32_226
  let c512_i32_227 : BitVec 32 := 512#32
  let v512 : BitVec 32 := Scalar.muli v511 c512_i32_227
  v512
def k0_off51 (v203 : BitVec 32) (v258 : BitVec 32) (k0_t3 : Fin (k0_t3_loop v203 v258).trips) : Fin 4 → Nat :=
  let c0_242 : Index := 0#32
  let c2_i32_207 : BitVec 32 := 2#32
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let c1_i32_131 : BitVec 32 := 1#32
  let arg18 : BitVec 32 := Scf.iv v275 c1_i32_131 k0_t3
  let c0_i32_206 : BitVec 32 := 0#32
  let v481 : BitVec 32 := Scalar.addi arg18 c0_i32_206
  let v482 : BitVec 32 := Scalar.muli c2_i32_207 v481
  let c1_i32_241 : BitVec 32 := 1#32
  let v542 : BitVec 32 := Scalar.addi v482 c1_i32_241
  let v543 : Index := Scalar.indexCast v542
  let c64_243 : Index := 64#32
  let c0_244 : Index := 0#32
  ![0, v543.toNat, 64, 0]
@[reducible] def k0_t4_loop (v203 : BitVec 32) (v258 : BitVec 32) : Scf.Loop 32 :=
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let v306 : BitVec 32 := Scalar.maxsi v220 v275
  let v316 : BitVec 32 := Scalar.subi v306 v275
  let c1_i32_130 : BitVec 32 := 1#32
  let v318 : BitVec 32 := Scalar.divsi v316 c1_i32_130
  let v319 : BitVec 32 := Scalar.muli v318 c1_i32_130
  let v320 : BitVec 32 := Scalar.addi v275 v319
  let v317 : BitVec 32 := Scalar.addi v275 v316
  let c1_i32_132 : BitVec 32 := 1#32
  ⟨v320, v317, c1_i32_132⟩
def k0_mult33 (v203 : BitVec 32) (v258 : BitVec 32) (k0_t4 : Fin (k0_t4_loop v203 v258).trips) : BitVec 32 :=
  let c2_i32_207 : BitVec 32 := 2#32
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let v306 : BitVec 32 := Scalar.maxsi v220 v275
  let v316 : BitVec 32 := Scalar.subi v306 v275
  let c1_i32_130 : BitVec 32 := 1#32
  let v318 : BitVec 32 := Scalar.divsi v316 c1_i32_130
  let v319 : BitVec 32 := Scalar.muli v318 c1_i32_130
  let v320 : BitVec 32 := Scalar.addi v275 v319
  let c1_i32_132 : BitVec 32 := 1#32
  let arg18 : BitVec 32 := Scf.iv v320 c1_i32_132 k0_t4
  let c0_i32_206 : BitVec 32 := 0#32
  let v481 : BitVec 32 := Scalar.addi arg18 c0_i32_206
  let v482 : BitVec 32 := Scalar.muli c2_i32_207 v481
  let c1_i32_208 : BitVec 32 := 1#32
  let v483 : BitVec 32 := Scalar.addi v482 c1_i32_208
  let c512_i32_209 : BitVec 32 := 512#32
  let v484 : BitVec 32 := Scalar.muli v483 c512_i32_209
  v484
def k0_off52 (v203 : BitVec 32) (v258 : BitVec 32) (k0_t4 : Fin (k0_t4_loop v203 v258).trips) (c1_i32_208 : BitVec 32) : Fin 3 → Nat :=
  let c0_210 : Index := 0#32
  let c2_i32_207 : BitVec 32 := 2#32
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let v306 : BitVec 32 := Scalar.maxsi v220 v275
  let v316 : BitVec 32 := Scalar.subi v306 v275
  let c1_i32_130 : BitVec 32 := 1#32
  let v318 : BitVec 32 := Scalar.divsi v316 c1_i32_130
  let v319 : BitVec 32 := Scalar.muli v318 c1_i32_130
  let v320 : BitVec 32 := Scalar.addi v275 v319
  let c1_i32_132 : BitVec 32 := 1#32
  let arg18 : BitVec 32 := Scf.iv v320 c1_i32_132 k0_t4
  let c0_i32_206 : BitVec 32 := 0#32
  let v481 : BitVec 32 := Scalar.addi arg18 c0_i32_206
  let v482 : BitVec 32 := Scalar.muli c2_i32_207 v481
  let v483 : BitVec 32 := Scalar.addi v482 c1_i32_208
  let c512_i32_209 : BitVec 32 := 512#32
  let v484 : BitVec 32 := Scalar.muli v483 c512_i32_209
  let v485 : BitVec 32 := v484
  let v486 : Index := Scalar.indexCast v485
  let c0_211 : Index := 0#32
  ![0, v486.toNat, 0]
def k0_off53 (v203 : BitVec 32) (v258 : BitVec 32) (k0_t4 : Fin (k0_t4_loop v203 v258).trips) : Fin 4 → Nat :=
  let c0_222 : Index := 0#32
  let c2_i32_207 : BitVec 32 := 2#32
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let v306 : BitVec 32 := Scalar.maxsi v220 v275
  let v316 : BitVec 32 := Scalar.subi v306 v275
  let c1_i32_130 : BitVec 32 := 1#32
  let v318 : BitVec 32 := Scalar.divsi v316 c1_i32_130
  let v319 : BitVec 32 := Scalar.muli v318 c1_i32_130
  let v320 : BitVec 32 := Scalar.addi v275 v319
  let c1_i32_132 : BitVec 32 := 1#32
  let arg18 : BitVec 32 := Scf.iv v320 c1_i32_132 k0_t4
  let c0_i32_206 : BitVec 32 := 0#32
  let v481 : BitVec 32 := Scalar.addi arg18 c0_i32_206
  let v482 : BitVec 32 := Scalar.muli c2_i32_207 v481
  let v506 : Index := Scalar.indexCast v482
  let c64_223 : Index := 64#32
  let c0_224 : Index := 0#32
  ![0, v506.toNat, 64, 0]
def k0_mult34 (v203 : BitVec 32) (v258 : BitVec 32) (k0_t4 : Fin (k0_t4_loop v203 v258).trips) : BitVec 32 :=
  let c2_i32_207 : BitVec 32 := 2#32
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let v306 : BitVec 32 := Scalar.maxsi v220 v275
  let v316 : BitVec 32 := Scalar.subi v306 v275
  let c1_i32_130 : BitVec 32 := 1#32
  let v318 : BitVec 32 := Scalar.divsi v316 c1_i32_130
  let v319 : BitVec 32 := Scalar.muli v318 c1_i32_130
  let v320 : BitVec 32 := Scalar.addi v275 v319
  let c1_i32_132 : BitVec 32 := 1#32
  let arg18 : BitVec 32 := Scf.iv v320 c1_i32_132 k0_t4
  let c0_i32_206 : BitVec 32 := 0#32
  let v481 : BitVec 32 := Scalar.addi arg18 c0_i32_206
  let v482 : BitVec 32 := Scalar.muli c2_i32_207 v481
  let c2_i32_226 : BitVec 32 := 2#32
  let v511 : BitVec 32 := Scalar.addi v482 c2_i32_226
  let c512_i32_227 : BitVec 32 := 512#32
  let v512 : BitVec 32 := Scalar.muli v511 c512_i32_227
  v512
def k0_off54 (v203 : BitVec 32) (v258 : BitVec 32) (k0_t4 : Fin (k0_t4_loop v203 v258).trips) : Fin 4 → Nat :=
  let c0_242 : Index := 0#32
  let c2_i32_207 : BitVec 32 := 2#32
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let v306 : BitVec 32 := Scalar.maxsi v220 v275
  let v316 : BitVec 32 := Scalar.subi v306 v275
  let c1_i32_130 : BitVec 32 := 1#32
  let v318 : BitVec 32 := Scalar.divsi v316 c1_i32_130
  let v319 : BitVec 32 := Scalar.muli v318 c1_i32_130
  let v320 : BitVec 32 := Scalar.addi v275 v319
  let c1_i32_132 : BitVec 32 := 1#32
  let arg18 : BitVec 32 := Scf.iv v320 c1_i32_132 k0_t4
  let c0_i32_206 : BitVec 32 := 0#32
  let v481 : BitVec 32 := Scalar.addi arg18 c0_i32_206
  let v482 : BitVec 32 := Scalar.muli c2_i32_207 v481
  let c1_i32_241 : BitVec 32 := 1#32
  let v542 : BitVec 32 := Scalar.addi v482 c1_i32_241
  let v543 : Index := Scalar.indexCast v542
  let c64_243 : Index := 64#32
  let c0_244 : Index := 0#32
  ![0, v543.toNat, 64, 0]
@[reducible] def k0_t5_loop (i : grid0.Coords) (v203 : BitVec 32) (v258 : BitVec 32) : Scf.Loop 32 :=
  let c0_i32_147 : BitVec 32 := 0#32
  let c2_i32 : BitVec 32 := 2#32
  let arg2 : BitVec 32 := BitVec.ofNat 32 (i 2).val
  let v71 : BitVec 32 := Scalar.muli c2_i32 arg2
  let c0_i32_134 : BitVec 32 := 0#32
  let v324 : BitVec 1 := Scalar.cmpi .sgt v71 c0_i32_134
  let v325 : BitVec 32 := Scalar.extui v324
  let c0_i32_135 : BitVec 32 := 0#32
  let v326 : BitVec 1 := Scalar.cmpi .slt v71 c0_i32_135
  let v327 : BitVec 32 := Scalar.extui v326
  let v328 : BitVec 32 := Scalar.subi v325 v327
  let c2_i32_133 : BitVec 32 := 2#32
  let c0_i32_136 : BitVec 32 := 0#32
  let v329 : BitVec 1 := Scalar.cmpi .sgt c2_i32_133 c0_i32_136
  let v330 : BitVec 32 := Scalar.extui v329
  let c0_i32_137 : BitVec 32 := 0#32
  let v331 : BitVec 1 := Scalar.cmpi .slt c2_i32_133 c0_i32_137
  let v332 : BitVec 32 := Scalar.extui v331
  let v333 : BitVec 32 := Scalar.subi v330 v332
  let v334 : BitVec 1 := Scalar.cmpi .ne v328 v333
  let v335 : BitVec 32 := Scalar.remsi v71 c2_i32_133
  let c0_i32_138 : BitVec 32 := 0#32
  let v336 : BitVec 1 := Scalar.cmpi .ne v335 c0_i32_138
  let v337 : BitVec 1 := Scalar.andi v334 v336
  let v323 : BitVec 32 := Scalar.divsi v71 c2_i32_133
  let c1_i32_139 : BitVec 32 := 1#32
  let v338 : BitVec 32 := Scalar.subi v323 c1_i32_139
  let v339 : BitVec 32 := Scalar.select v337 v338 v323
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let v340 : BitVec 32 := Scalar.subi v339 v306
  let c0_i32_141 : BitVec 32 := 0#32
  let v342 : BitVec 1 := Scalar.cmpi .sgt v340 c0_i32_141
  let v343 : BitVec 32 := Scalar.extui v342
  let c0_i32_142 : BitVec 32 := 0#32
  let v344 : BitVec 1 := Scalar.cmpi .slt v340 c0_i32_142
  let v345 : BitVec 32 := Scalar.extui v344
  let v346 : BitVec 32 := Scalar.subi v343 v345
  let c2_i32_140 : BitVec 32 := 2#32
  let c0_i32_143 : BitVec 32 := 0#32
  let v347 : BitVec 1 := Scalar.cmpi .sgt c2_i32_140 c0_i32_143
  let v348 : BitVec 32 := Scalar.extui v347
  let c0_i32_144 : BitVec 32 := 0#32
  let v349 : BitVec 1 := Scalar.cmpi .slt c2_i32_140 c0_i32_144
  let v350 : BitVec 32 := Scalar.extui v349
  let v351 : BitVec 32 := Scalar.subi v348 v350
  let v352 : BitVec 1 := Scalar.cmpi .ne v346 v351
  let v353 : BitVec 32 := Scalar.remsi v340 c2_i32_140
  let c0_i32_145 : BitVec 32 := 0#32
  let v354 : BitVec 1 := Scalar.cmpi .ne v353 c0_i32_145
  let v355 : BitVec 1 := Scalar.andi v352 v354
  let v341 : BitVec 32 := Scalar.divsi v340 c2_i32_140
  let c1_i32_146 : BitVec 32 := 1#32
  let v356 : BitVec 32 := Scalar.subi v341 c1_i32_146
  let v357 : BitVec 32 := Scalar.select v355 v356 v341
  let v358 : BitVec 32 := Scalar.subi v357 c0_i32_147
  let c1_i32_148 : BitVec 32 := 1#32
  let v360 : BitVec 32 := Scalar.divsi v358 c1_i32_148
  let v361 : BitVec 32 := Scalar.muli v360 c1_i32_148
  let v362 : BitVec 32 := Scalar.addi c0_i32_147 v361
  let c1_i32_149 : BitVec 32 := 1#32
  ⟨c0_i32_147, v362, c1_i32_149⟩
def k0_mult35 (i : grid0.Coords) (v203 : BitVec 32) (v258 : BitVec 32) (k0_t5 : Fin (k0_t5_loop i v203 v258).trips) : BitVec 32 :=
  let c2_i32_208 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_206 : BitVec 32 := 2#32
  let c0_i32_147 : BitVec 32 := 0#32
  let c1_i32_149 : BitVec 32 := 1#32
  let arg18 : BitVec 32 := Scf.iv c0_i32_147 c1_i32_149 k0_t5
  let v481 : BitVec 32 := Scalar.muli c2_i32_206 arg18
  let v482 : BitVec 32 := Scalar.addi v306 v481
  let c0_i32_207 : BitVec 32 := 0#32
  let v483 : BitVec 32 := Scalar.addi v482 c0_i32_207
  let v484 : BitVec 32 := Scalar.muli c2_i32_208 v483
  let c1_i32_209 : BitVec 32 := 1#32
  let v485 : BitVec 32 := Scalar.addi v484 c1_i32_209
  let c512_i32_210 : BitVec 32 := 512#32
  let v486 : BitVec 32 := Scalar.muli v485 c512_i32_210
  v486
def k0_off55 (i : grid0.Coords) (v203 : BitVec 32) (v258 : BitVec 32) (k0_t5 : Fin (k0_t5_loop i v203 v258).trips) (c0_i32_207 : BitVec 32) (c1_i32_209 : BitVec 32) : Fin 3 → Nat :=
  let c0_211 : Index := 0#32
  let c2_i32_208 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_206 : BitVec 32 := 2#32
  let c0_i32_147 : BitVec 32 := 0#32
  let c1_i32_149 : BitVec 32 := 1#32
  let arg18 : BitVec 32 := Scf.iv c0_i32_147 c1_i32_149 k0_t5
  let v481 : BitVec 32 := Scalar.muli c2_i32_206 arg18
  let v482 : BitVec 32 := Scalar.addi v306 v481
  let v483 : BitVec 32 := Scalar.addi v482 c0_i32_207
  let v484 : BitVec 32 := Scalar.muli c2_i32_208 v483
  let v485 : BitVec 32 := Scalar.addi v484 c1_i32_209
  let c512_i32_210 : BitVec 32 := 512#32
  let v486 : BitVec 32 := Scalar.muli v485 c512_i32_210
  let v487 : BitVec 32 := v486
  let v488 : Index := Scalar.indexCast v487
  let c0_212 : Index := 0#32
  ![0, v488.toNat, 0]
def k0_off56 (i : grid0.Coords) (v203 : BitVec 32) (v258 : BitVec 32) (k0_t5 : Fin (k0_t5_loop i v203 v258).trips) (c0_i32_207 : BitVec 32) : Fin 4 → Nat :=
  let c0_223 : Index := 0#32
  let c2_i32_208 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_206 : BitVec 32 := 2#32
  let c0_i32_147 : BitVec 32 := 0#32
  let c1_i32_149 : BitVec 32 := 1#32
  let arg18 : BitVec 32 := Scf.iv c0_i32_147 c1_i32_149 k0_t5
  let v481 : BitVec 32 := Scalar.muli c2_i32_206 arg18
  let v482 : BitVec 32 := Scalar.addi v306 v481
  let v483 : BitVec 32 := Scalar.addi v482 c0_i32_207
  let v484 : BitVec 32 := Scalar.muli c2_i32_208 v483
  let v508 : Index := Scalar.indexCast v484
  let c0_224 : Index := 0#32
  let c0_225 : Index := 0#32
  ![0, v508.toNat, 0, 0]
def k0_mult36 (i : grid0.Coords) (v203 : BitVec 32) (v258 : BitVec 32) (k0_t5 : Fin (k0_t5_loop i v203 v258).trips) : BitVec 32 :=
  let c2_i32_208 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_206 : BitVec 32 := 2#32
  let c0_i32_147 : BitVec 32 := 0#32
  let c1_i32_149 : BitVec 32 := 1#32
  let arg18 : BitVec 32 := Scf.iv c0_i32_147 c1_i32_149 k0_t5
  let v481 : BitVec 32 := Scalar.muli c2_i32_206 arg18
  let v482 : BitVec 32 := Scalar.addi v306 v481
  let c0_i32_207 : BitVec 32 := 0#32
  let v483 : BitVec 32 := Scalar.addi v482 c0_i32_207
  let v484 : BitVec 32 := Scalar.muli c2_i32_208 v483
  let c1_i32_227 : BitVec 32 := 1#32
  let v513 : BitVec 32 := Scalar.addi v484 c1_i32_227
  let c512_i32_228 : BitVec 32 := 512#32
  let v514 : BitVec 32 := Scalar.muli v513 c512_i32_228
  v514
def k0_off57 (i : grid0.Coords) (v203 : BitVec 32) (v258 : BitVec 32) (k0_t5 : Fin (k0_t5_loop i v203 v258).trips) (c0_i32_207 : BitVec 32) : Fin 4 → Nat :=
  let c0_241 : Index := 0#32
  let c2_i32_208 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_206 : BitVec 32 := 2#32
  let c0_i32_147 : BitVec 32 := 0#32
  let c1_i32_149 : BitVec 32 := 1#32
  let arg18 : BitVec 32 := Scf.iv c0_i32_147 c1_i32_149 k0_t5
  let v481 : BitVec 32 := Scalar.muli c2_i32_206 arg18
  let v482 : BitVec 32 := Scalar.addi v306 v481
  let v483 : BitVec 32 := Scalar.addi v482 c0_i32_207
  let v484 : BitVec 32 := Scalar.muli c2_i32_208 v483
  let v536 : Index := Scalar.indexCast v484
  let c64_242 : Index := 64#32
  let c0_243 : Index := 0#32
  ![0, v536.toNat, 64, 0]
def k0_mult37 (i : grid0.Coords) (v203 : BitVec 32) (v258 : BitVec 32) (k0_t5 : Fin (k0_t5_loop i v203 v258).trips) : BitVec 32 :=
  let c2_i32_208 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_206 : BitVec 32 := 2#32
  let c0_i32_147 : BitVec 32 := 0#32
  let c1_i32_149 : BitVec 32 := 1#32
  let arg18 : BitVec 32 := Scf.iv c0_i32_147 c1_i32_149 k0_t5
  let v481 : BitVec 32 := Scalar.muli c2_i32_206 arg18
  let v482 : BitVec 32 := Scalar.addi v306 v481
  let c0_i32_207 : BitVec 32 := 0#32
  let v483 : BitVec 32 := Scalar.addi v482 c0_i32_207
  let v484 : BitVec 32 := Scalar.muli c2_i32_208 v483
  let c2_i32_245 : BitVec 32 := 2#32
  let v541 : BitVec 32 := Scalar.addi v484 c2_i32_245
  let c512_i32_246 : BitVec 32 := 512#32
  let v542 : BitVec 32 := Scalar.muli v541 c512_i32_246
  v542
def k0_off58 (i : grid0.Coords) (v203 : BitVec 32) (v258 : BitVec 32) (k0_t5 : Fin (k0_t5_loop i v203 v258).trips) (c0_i32_207 : BitVec 32) : Fin 4 → Nat :=
  let c0_261 : Index := 0#32
  let c2_i32_208 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_206 : BitVec 32 := 2#32
  let c0_i32_147 : BitVec 32 := 0#32
  let c1_i32_149 : BitVec 32 := 1#32
  let arg18 : BitVec 32 := Scf.iv c0_i32_147 c1_i32_149 k0_t5
  let v481 : BitVec 32 := Scalar.muli c2_i32_206 arg18
  let v482 : BitVec 32 := Scalar.addi v306 v481
  let v483 : BitVec 32 := Scalar.addi v482 c0_i32_207
  let v484 : BitVec 32 := Scalar.muli c2_i32_208 v483
  let c1_i32_260 : BitVec 32 := 1#32
  let v572 : BitVec 32 := Scalar.addi v484 c1_i32_260
  let v573 : Index := Scalar.indexCast v572
  let c0_262 : Index := 0#32
  let c0_263 : Index := 0#32
  ![0, v573.toNat, 0, 0]
def k0_mult38 (i : grid0.Coords) (v203 : BitVec 32) (v258 : BitVec 32) (k0_t5 : Fin (k0_t5_loop i v203 v258).trips) : BitVec 32 :=
  let c2_i32_208 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_206 : BitVec 32 := 2#32
  let c0_i32_147 : BitVec 32 := 0#32
  let c1_i32_149 : BitVec 32 := 1#32
  let arg18 : BitVec 32 := Scf.iv c0_i32_147 c1_i32_149 k0_t5
  let v481 : BitVec 32 := Scalar.muli c2_i32_206 arg18
  let v482 : BitVec 32 := Scalar.addi v306 v481
  let c0_i32_207 : BitVec 32 := 0#32
  let v483 : BitVec 32 := Scalar.addi v482 c0_i32_207
  let v484 : BitVec 32 := Scalar.muli c2_i32_208 v483
  let c2_i32_265 : BitVec 32 := 2#32
  let v578 : BitVec 32 := Scalar.addi v484 c2_i32_265
  let c512_i32_266 : BitVec 32 := 512#32
  let v579 : BitVec 32 := Scalar.muli v578 c512_i32_266
  v579
def k0_off59 (i : grid0.Coords) (v203 : BitVec 32) (v258 : BitVec 32) (k0_t5 : Fin (k0_t5_loop i v203 v258).trips) (c0_i32_207 : BitVec 32) : Fin 4 → Nat :=
  let c0_281 : Index := 0#32
  let c2_i32_208 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_206 : BitVec 32 := 2#32
  let c0_i32_147 : BitVec 32 := 0#32
  let c1_i32_149 : BitVec 32 := 1#32
  let arg18 : BitVec 32 := Scf.iv c0_i32_147 c1_i32_149 k0_t5
  let v481 : BitVec 32 := Scalar.muli c2_i32_206 arg18
  let v482 : BitVec 32 := Scalar.addi v306 v481
  let v483 : BitVec 32 := Scalar.addi v482 c0_i32_207
  let v484 : BitVec 32 := Scalar.muli c2_i32_208 v483
  let c1_i32_280 : BitVec 32 := 1#32
  let v609 : BitVec 32 := Scalar.addi v484 c1_i32_280
  let v610 : Index := Scalar.indexCast v609
  let c64_282 : Index := 64#32
  let c0_283 : Index := 0#32
  ![0, v610.toNat, 64, 0]
def k0_mult39 (i : grid0.Coords) (v203 : BitVec 32) (v258 : BitVec 32) (k0_t5 : Fin (k0_t5_loop i v203 v258).trips) : BitVec 32 :=
  let c2_i32_286 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_206 : BitVec 32 := 2#32
  let c0_i32_147 : BitVec 32 := 0#32
  let c1_i32_149 : BitVec 32 := 1#32
  let arg18 : BitVec 32 := Scf.iv c0_i32_147 c1_i32_149 k0_t5
  let v481 : BitVec 32 := Scalar.muli c2_i32_206 arg18
  let v482 : BitVec 32 := Scalar.addi v306 v481
  let c1_i32_285 : BitVec 32 := 1#32
  let v615 : BitVec 32 := Scalar.addi v482 c1_i32_285
  let v616 : BitVec 32 := Scalar.muli c2_i32_286 v615
  let c1_i32_287 : BitVec 32 := 1#32
  let v617 : BitVec 32 := Scalar.addi v616 c1_i32_287
  let c512_i32_288 : BitVec 32 := 512#32
  let v618 : BitVec 32 := Scalar.muli v617 c512_i32_288
  v618
def k0_mult40 (i : grid0.Coords) (v203 : BitVec 32) (v258 : BitVec 32) (k0_t5 : Fin (k0_t5_loop i v203 v258).trips) : BitVec 32 :=
  let c2_i32_286 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_206 : BitVec 32 := 2#32
  let c0_i32_147 : BitVec 32 := 0#32
  let c1_i32_149 : BitVec 32 := 1#32
  let arg18 : BitVec 32 := Scf.iv c0_i32_147 c1_i32_149 k0_t5
  let v481 : BitVec 32 := Scalar.muli c2_i32_206 arg18
  let v482 : BitVec 32 := Scalar.addi v306 v481
  let c1_i32_285 : BitVec 32 := 1#32
  let v615 : BitVec 32 := Scalar.addi v482 c1_i32_285
  let v616 : BitVec 32 := Scalar.muli c2_i32_286 v615
  let c1_i32_305 : BitVec 32 := 1#32
  let v645 : BitVec 32 := Scalar.addi v616 c1_i32_305
  let c512_i32_306 : BitVec 32 := 512#32
  let v646 : BitVec 32 := Scalar.muli v645 c512_i32_306
  v646
def k0_mult41 (i : grid0.Coords) (v203 : BitVec 32) (v258 : BitVec 32) (k0_t5 : Fin (k0_t5_loop i v203 v258).trips) : BitVec 32 :=
  let c2_i32_286 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_206 : BitVec 32 := 2#32
  let c0_i32_147 : BitVec 32 := 0#32
  let c1_i32_149 : BitVec 32 := 1#32
  let arg18 : BitVec 32 := Scf.iv c0_i32_147 c1_i32_149 k0_t5
  let v481 : BitVec 32 := Scalar.muli c2_i32_206 arg18
  let v482 : BitVec 32 := Scalar.addi v306 v481
  let c1_i32_285 : BitVec 32 := 1#32
  let v615 : BitVec 32 := Scalar.addi v482 c1_i32_285
  let v616 : BitVec 32 := Scalar.muli c2_i32_286 v615
  let c2_i32_323 : BitVec 32 := 2#32
  let v673 : BitVec 32 := Scalar.addi v616 c2_i32_323
  let c512_i32_324 : BitVec 32 := 512#32
  let v674 : BitVec 32 := Scalar.muli v673 c512_i32_324
  v674
def k0_mult42 (i : grid0.Coords) (v203 : BitVec 32) (v258 : BitVec 32) (k0_t5 : Fin (k0_t5_loop i v203 v258).trips) : BitVec 32 :=
  let c2_i32_286 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_206 : BitVec 32 := 2#32
  let c0_i32_147 : BitVec 32 := 0#32
  let c1_i32_149 : BitVec 32 := 1#32
  let arg18 : BitVec 32 := Scf.iv c0_i32_147 c1_i32_149 k0_t5
  let v481 : BitVec 32 := Scalar.muli c2_i32_206 arg18
  let v482 : BitVec 32 := Scalar.addi v306 v481
  let c1_i32_285 : BitVec 32 := 1#32
  let v615 : BitVec 32 := Scalar.addi v482 c1_i32_285
  let v616 : BitVec 32 := Scalar.muli c2_i32_286 v615
  let c2_i32_343 : BitVec 32 := 2#32
  let v710 : BitVec 32 := Scalar.addi v616 c2_i32_343
  let c512_i32_344 : BitVec 32 := 512#32
  let v711 : BitVec 32 := Scalar.muli v710 c512_i32_344
  v711
@[reducible] def k0_t6_loop (i : grid0.Coords) (v203 : BitVec 32) (v258 : BitVec 32) : Scf.Loop 32 :=
  let c0_i32_147 : BitVec 32 := 0#32
  let c2_i32 : BitVec 32 := 2#32
  let arg2 : BitVec 32 := BitVec.ofNat 32 (i 2).val
  let v71 : BitVec 32 := Scalar.muli c2_i32 arg2
  let c0_i32_134 : BitVec 32 := 0#32
  let v324 : BitVec 1 := Scalar.cmpi .sgt v71 c0_i32_134
  let v325 : BitVec 32 := Scalar.extui v324
  let c0_i32_135 : BitVec 32 := 0#32
  let v326 : BitVec 1 := Scalar.cmpi .slt v71 c0_i32_135
  let v327 : BitVec 32 := Scalar.extui v326
  let v328 : BitVec 32 := Scalar.subi v325 v327
  let c2_i32_133 : BitVec 32 := 2#32
  let c0_i32_136 : BitVec 32 := 0#32
  let v329 : BitVec 1 := Scalar.cmpi .sgt c2_i32_133 c0_i32_136
  let v330 : BitVec 32 := Scalar.extui v329
  let c0_i32_137 : BitVec 32 := 0#32
  let v331 : BitVec 1 := Scalar.cmpi .slt c2_i32_133 c0_i32_137
  let v332 : BitVec 32 := Scalar.extui v331
  let v333 : BitVec 32 := Scalar.subi v330 v332
  let v334 : BitVec 1 := Scalar.cmpi .ne v328 v333
  let v335 : BitVec 32 := Scalar.remsi v71 c2_i32_133
  let c0_i32_138 : BitVec 32 := 0#32
  let v336 : BitVec 1 := Scalar.cmpi .ne v335 c0_i32_138
  let v337 : BitVec 1 := Scalar.andi v334 v336
  let v323 : BitVec 32 := Scalar.divsi v71 c2_i32_133
  let c1_i32_139 : BitVec 32 := 1#32
  let v338 : BitVec 32 := Scalar.subi v323 c1_i32_139
  let v339 : BitVec 32 := Scalar.select v337 v338 v323
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let v340 : BitVec 32 := Scalar.subi v339 v306
  let c0_i32_141 : BitVec 32 := 0#32
  let v342 : BitVec 1 := Scalar.cmpi .sgt v340 c0_i32_141
  let v343 : BitVec 32 := Scalar.extui v342
  let c0_i32_142 : BitVec 32 := 0#32
  let v344 : BitVec 1 := Scalar.cmpi .slt v340 c0_i32_142
  let v345 : BitVec 32 := Scalar.extui v344
  let v346 : BitVec 32 := Scalar.subi v343 v345
  let c2_i32_140 : BitVec 32 := 2#32
  let c0_i32_143 : BitVec 32 := 0#32
  let v347 : BitVec 1 := Scalar.cmpi .sgt c2_i32_140 c0_i32_143
  let v348 : BitVec 32 := Scalar.extui v347
  let c0_i32_144 : BitVec 32 := 0#32
  let v349 : BitVec 1 := Scalar.cmpi .slt c2_i32_140 c0_i32_144
  let v350 : BitVec 32 := Scalar.extui v349
  let v351 : BitVec 32 := Scalar.subi v348 v350
  let v352 : BitVec 1 := Scalar.cmpi .ne v346 v351
  let v353 : BitVec 32 := Scalar.remsi v340 c2_i32_140
  let c0_i32_145 : BitVec 32 := 0#32
  let v354 : BitVec 1 := Scalar.cmpi .ne v353 c0_i32_145
  let v355 : BitVec 1 := Scalar.andi v352 v354
  let v341 : BitVec 32 := Scalar.divsi v340 c2_i32_140
  let c1_i32_146 : BitVec 32 := 1#32
  let v356 : BitVec 32 := Scalar.subi v341 c1_i32_146
  let v357 : BitVec 32 := Scalar.select v355 v356 v341
  let v358 : BitVec 32 := Scalar.subi v357 c0_i32_147
  let c1_i32_148 : BitVec 32 := 1#32
  let v360 : BitVec 32 := Scalar.divsi v358 c1_i32_148
  let v361 : BitVec 32 := Scalar.muli v360 c1_i32_148
  let v362 : BitVec 32 := Scalar.addi c0_i32_147 v361
  let v359 : BitVec 32 := Scalar.addi c0_i32_147 v358
  let c1_i32_150 : BitVec 32 := 1#32
  ⟨v362, v359, c1_i32_150⟩
def k0_mult43 (i : grid0.Coords) (v203 : BitVec 32) (v258 : BitVec 32) (k0_t6 : Fin (k0_t6_loop i v203 v258).trips) : BitVec 32 :=
  let c2_i32_208 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_206 : BitVec 32 := 2#32
  let c0_i32_147 : BitVec 32 := 0#32
  let c2_i32 : BitVec 32 := 2#32
  let arg2 : BitVec 32 := BitVec.ofNat 32 (i 2).val
  let v71 : BitVec 32 := Scalar.muli c2_i32 arg2
  let c0_i32_134 : BitVec 32 := 0#32
  let v324 : BitVec 1 := Scalar.cmpi .sgt v71 c0_i32_134
  let v325 : BitVec 32 := Scalar.extui v324
  let c0_i32_135 : BitVec 32 := 0#32
  let v326 : BitVec 1 := Scalar.cmpi .slt v71 c0_i32_135
  let v327 : BitVec 32 := Scalar.extui v326
  let v328 : BitVec 32 := Scalar.subi v325 v327
  let c2_i32_133 : BitVec 32 := 2#32
  let c0_i32_136 : BitVec 32 := 0#32
  let v329 : BitVec 1 := Scalar.cmpi .sgt c2_i32_133 c0_i32_136
  let v330 : BitVec 32 := Scalar.extui v329
  let c0_i32_137 : BitVec 32 := 0#32
  let v331 : BitVec 1 := Scalar.cmpi .slt c2_i32_133 c0_i32_137
  let v332 : BitVec 32 := Scalar.extui v331
  let v333 : BitVec 32 := Scalar.subi v330 v332
  let v334 : BitVec 1 := Scalar.cmpi .ne v328 v333
  let v335 : BitVec 32 := Scalar.remsi v71 c2_i32_133
  let c0_i32_138 : BitVec 32 := 0#32
  let v336 : BitVec 1 := Scalar.cmpi .ne v335 c0_i32_138
  let v337 : BitVec 1 := Scalar.andi v334 v336
  let v323 : BitVec 32 := Scalar.divsi v71 c2_i32_133
  let c1_i32_139 : BitVec 32 := 1#32
  let v338 : BitVec 32 := Scalar.subi v323 c1_i32_139
  let v339 : BitVec 32 := Scalar.select v337 v338 v323
  let v340 : BitVec 32 := Scalar.subi v339 v306
  let c0_i32_141 : BitVec 32 := 0#32
  let v342 : BitVec 1 := Scalar.cmpi .sgt v340 c0_i32_141
  let v343 : BitVec 32 := Scalar.extui v342
  let c0_i32_142 : BitVec 32 := 0#32
  let v344 : BitVec 1 := Scalar.cmpi .slt v340 c0_i32_142
  let v345 : BitVec 32 := Scalar.extui v344
  let v346 : BitVec 32 := Scalar.subi v343 v345
  let c2_i32_140 : BitVec 32 := 2#32
  let c0_i32_143 : BitVec 32 := 0#32
  let v347 : BitVec 1 := Scalar.cmpi .sgt c2_i32_140 c0_i32_143
  let v348 : BitVec 32 := Scalar.extui v347
  let c0_i32_144 : BitVec 32 := 0#32
  let v349 : BitVec 1 := Scalar.cmpi .slt c2_i32_140 c0_i32_144
  let v350 : BitVec 32 := Scalar.extui v349
  let v351 : BitVec 32 := Scalar.subi v348 v350
  let v352 : BitVec 1 := Scalar.cmpi .ne v346 v351
  let v353 : BitVec 32 := Scalar.remsi v340 c2_i32_140
  let c0_i32_145 : BitVec 32 := 0#32
  let v354 : BitVec 1 := Scalar.cmpi .ne v353 c0_i32_145
  let v355 : BitVec 1 := Scalar.andi v352 v354
  let v341 : BitVec 32 := Scalar.divsi v340 c2_i32_140
  let c1_i32_146 : BitVec 32 := 1#32
  let v356 : BitVec 32 := Scalar.subi v341 c1_i32_146
  let v357 : BitVec 32 := Scalar.select v355 v356 v341
  let v358 : BitVec 32 := Scalar.subi v357 c0_i32_147
  let c1_i32_148 : BitVec 32 := 1#32
  let v360 : BitVec 32 := Scalar.divsi v358 c1_i32_148
  let v361 : BitVec 32 := Scalar.muli v360 c1_i32_148
  let v362 : BitVec 32 := Scalar.addi c0_i32_147 v361
  let c1_i32_150 : BitVec 32 := 1#32
  let arg18 : BitVec 32 := Scf.iv v362 c1_i32_150 k0_t6
  let v481 : BitVec 32 := Scalar.muli c2_i32_206 arg18
  let v482 : BitVec 32 := Scalar.addi v306 v481
  let c0_i32_207 : BitVec 32 := 0#32
  let v483 : BitVec 32 := Scalar.addi v482 c0_i32_207
  let v484 : BitVec 32 := Scalar.muli c2_i32_208 v483
  let c1_i32_209 : BitVec 32 := 1#32
  let v485 : BitVec 32 := Scalar.addi v484 c1_i32_209
  let c512_i32_210 : BitVec 32 := 512#32
  let v486 : BitVec 32 := Scalar.muli v485 c512_i32_210
  v486
def k0_off60 (i : grid0.Coords) (v203 : BitVec 32) (v258 : BitVec 32) (k0_t6 : Fin (k0_t6_loop i v203 v258).trips) (c0_i32_207 : BitVec 32) (c1_i32_209 : BitVec 32) : Fin 3 → Nat :=
  let c0_211 : Index := 0#32
  let c2_i32_208 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_206 : BitVec 32 := 2#32
  let c0_i32_147 : BitVec 32 := 0#32
  let c2_i32 : BitVec 32 := 2#32
  let arg2 : BitVec 32 := BitVec.ofNat 32 (i 2).val
  let v71 : BitVec 32 := Scalar.muli c2_i32 arg2
  let c0_i32_134 : BitVec 32 := 0#32
  let v324 : BitVec 1 := Scalar.cmpi .sgt v71 c0_i32_134
  let v325 : BitVec 32 := Scalar.extui v324
  let c0_i32_135 : BitVec 32 := 0#32
  let v326 : BitVec 1 := Scalar.cmpi .slt v71 c0_i32_135
  let v327 : BitVec 32 := Scalar.extui v326
  let v328 : BitVec 32 := Scalar.subi v325 v327
  let c2_i32_133 : BitVec 32 := 2#32
  let c0_i32_136 : BitVec 32 := 0#32
  let v329 : BitVec 1 := Scalar.cmpi .sgt c2_i32_133 c0_i32_136
  let v330 : BitVec 32 := Scalar.extui v329
  let c0_i32_137 : BitVec 32 := 0#32
  let v331 : BitVec 1 := Scalar.cmpi .slt c2_i32_133 c0_i32_137
  let v332 : BitVec 32 := Scalar.extui v331
  let v333 : BitVec 32 := Scalar.subi v330 v332
  let v334 : BitVec 1 := Scalar.cmpi .ne v328 v333
  let v335 : BitVec 32 := Scalar.remsi v71 c2_i32_133
  let c0_i32_138 : BitVec 32 := 0#32
  let v336 : BitVec 1 := Scalar.cmpi .ne v335 c0_i32_138
  let v337 : BitVec 1 := Scalar.andi v334 v336
  let v323 : BitVec 32 := Scalar.divsi v71 c2_i32_133
  let c1_i32_139 : BitVec 32 := 1#32
  let v338 : BitVec 32 := Scalar.subi v323 c1_i32_139
  let v339 : BitVec 32 := Scalar.select v337 v338 v323
  let v340 : BitVec 32 := Scalar.subi v339 v306
  let c0_i32_141 : BitVec 32 := 0#32
  let v342 : BitVec 1 := Scalar.cmpi .sgt v340 c0_i32_141
  let v343 : BitVec 32 := Scalar.extui v342
  let c0_i32_142 : BitVec 32 := 0#32
  let v344 : BitVec 1 := Scalar.cmpi .slt v340 c0_i32_142
  let v345 : BitVec 32 := Scalar.extui v344
  let v346 : BitVec 32 := Scalar.subi v343 v345
  let c2_i32_140 : BitVec 32 := 2#32
  let c0_i32_143 : BitVec 32 := 0#32
  let v347 : BitVec 1 := Scalar.cmpi .sgt c2_i32_140 c0_i32_143
  let v348 : BitVec 32 := Scalar.extui v347
  let c0_i32_144 : BitVec 32 := 0#32
  let v349 : BitVec 1 := Scalar.cmpi .slt c2_i32_140 c0_i32_144
  let v350 : BitVec 32 := Scalar.extui v349
  let v351 : BitVec 32 := Scalar.subi v348 v350
  let v352 : BitVec 1 := Scalar.cmpi .ne v346 v351
  let v353 : BitVec 32 := Scalar.remsi v340 c2_i32_140
  let c0_i32_145 : BitVec 32 := 0#32
  let v354 : BitVec 1 := Scalar.cmpi .ne v353 c0_i32_145
  let v355 : BitVec 1 := Scalar.andi v352 v354
  let v341 : BitVec 32 := Scalar.divsi v340 c2_i32_140
  let c1_i32_146 : BitVec 32 := 1#32
  let v356 : BitVec 32 := Scalar.subi v341 c1_i32_146
  let v357 : BitVec 32 := Scalar.select v355 v356 v341
  let v358 : BitVec 32 := Scalar.subi v357 c0_i32_147
  let c1_i32_148 : BitVec 32 := 1#32
  let v360 : BitVec 32 := Scalar.divsi v358 c1_i32_148
  let v361 : BitVec 32 := Scalar.muli v360 c1_i32_148
  let v362 : BitVec 32 := Scalar.addi c0_i32_147 v361
  let c1_i32_150 : BitVec 32 := 1#32
  let arg18 : BitVec 32 := Scf.iv v362 c1_i32_150 k0_t6
  let v481 : BitVec 32 := Scalar.muli c2_i32_206 arg18
  let v482 : BitVec 32 := Scalar.addi v306 v481
  let v483 : BitVec 32 := Scalar.addi v482 c0_i32_207
  let v484 : BitVec 32 := Scalar.muli c2_i32_208 v483
  let v485 : BitVec 32 := Scalar.addi v484 c1_i32_209
  let c512_i32_210 : BitVec 32 := 512#32
  let v486 : BitVec 32 := Scalar.muli v485 c512_i32_210
  let v487 : BitVec 32 := v486
  let v488 : Index := Scalar.indexCast v487
  let c0_212 : Index := 0#32
  ![0, v488.toNat, 0]
def k0_off61 (i : grid0.Coords) (v203 : BitVec 32) (v258 : BitVec 32) (k0_t6 : Fin (k0_t6_loop i v203 v258).trips) (c0_i32_207 : BitVec 32) : Fin 4 → Nat :=
  let c0_223 : Index := 0#32
  let c2_i32_208 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_206 : BitVec 32 := 2#32
  let c0_i32_147 : BitVec 32 := 0#32
  let c2_i32 : BitVec 32 := 2#32
  let arg2 : BitVec 32 := BitVec.ofNat 32 (i 2).val
  let v71 : BitVec 32 := Scalar.muli c2_i32 arg2
  let c0_i32_134 : BitVec 32 := 0#32
  let v324 : BitVec 1 := Scalar.cmpi .sgt v71 c0_i32_134
  let v325 : BitVec 32 := Scalar.extui v324
  let c0_i32_135 : BitVec 32 := 0#32
  let v326 : BitVec 1 := Scalar.cmpi .slt v71 c0_i32_135
  let v327 : BitVec 32 := Scalar.extui v326
  let v328 : BitVec 32 := Scalar.subi v325 v327
  let c2_i32_133 : BitVec 32 := 2#32
  let c0_i32_136 : BitVec 32 := 0#32
  let v329 : BitVec 1 := Scalar.cmpi .sgt c2_i32_133 c0_i32_136
  let v330 : BitVec 32 := Scalar.extui v329
  let c0_i32_137 : BitVec 32 := 0#32
  let v331 : BitVec 1 := Scalar.cmpi .slt c2_i32_133 c0_i32_137
  let v332 : BitVec 32 := Scalar.extui v331
  let v333 : BitVec 32 := Scalar.subi v330 v332
  let v334 : BitVec 1 := Scalar.cmpi .ne v328 v333
  let v335 : BitVec 32 := Scalar.remsi v71 c2_i32_133
  let c0_i32_138 : BitVec 32 := 0#32
  let v336 : BitVec 1 := Scalar.cmpi .ne v335 c0_i32_138
  let v337 : BitVec 1 := Scalar.andi v334 v336
  let v323 : BitVec 32 := Scalar.divsi v71 c2_i32_133
  let c1_i32_139 : BitVec 32 := 1#32
  let v338 : BitVec 32 := Scalar.subi v323 c1_i32_139
  let v339 : BitVec 32 := Scalar.select v337 v338 v323
  let v340 : BitVec 32 := Scalar.subi v339 v306
  let c0_i32_141 : BitVec 32 := 0#32
  let v342 : BitVec 1 := Scalar.cmpi .sgt v340 c0_i32_141
  let v343 : BitVec 32 := Scalar.extui v342
  let c0_i32_142 : BitVec 32 := 0#32
  let v344 : BitVec 1 := Scalar.cmpi .slt v340 c0_i32_142
  let v345 : BitVec 32 := Scalar.extui v344
  let v346 : BitVec 32 := Scalar.subi v343 v345
  let c2_i32_140 : BitVec 32 := 2#32
  let c0_i32_143 : BitVec 32 := 0#32
  let v347 : BitVec 1 := Scalar.cmpi .sgt c2_i32_140 c0_i32_143
  let v348 : BitVec 32 := Scalar.extui v347
  let c0_i32_144 : BitVec 32 := 0#32
  let v349 : BitVec 1 := Scalar.cmpi .slt c2_i32_140 c0_i32_144
  let v350 : BitVec 32 := Scalar.extui v349
  let v351 : BitVec 32 := Scalar.subi v348 v350
  let v352 : BitVec 1 := Scalar.cmpi .ne v346 v351
  let v353 : BitVec 32 := Scalar.remsi v340 c2_i32_140
  let c0_i32_145 : BitVec 32 := 0#32
  let v354 : BitVec 1 := Scalar.cmpi .ne v353 c0_i32_145
  let v355 : BitVec 1 := Scalar.andi v352 v354
  let v341 : BitVec 32 := Scalar.divsi v340 c2_i32_140
  let c1_i32_146 : BitVec 32 := 1#32
  let v356 : BitVec 32 := Scalar.subi v341 c1_i32_146
  let v357 : BitVec 32 := Scalar.select v355 v356 v341
  let v358 : BitVec 32 := Scalar.subi v357 c0_i32_147
  let c1_i32_148 : BitVec 32 := 1#32
  let v360 : BitVec 32 := Scalar.divsi v358 c1_i32_148
  let v361 : BitVec 32 := Scalar.muli v360 c1_i32_148
  let v362 : BitVec 32 := Scalar.addi c0_i32_147 v361
  let c1_i32_150 : BitVec 32 := 1#32
  let arg18 : BitVec 32 := Scf.iv v362 c1_i32_150 k0_t6
  let v481 : BitVec 32 := Scalar.muli c2_i32_206 arg18
  let v482 : BitVec 32 := Scalar.addi v306 v481
  let v483 : BitVec 32 := Scalar.addi v482 c0_i32_207
  let v484 : BitVec 32 := Scalar.muli c2_i32_208 v483
  let v508 : Index := Scalar.indexCast v484
  let c0_224 : Index := 0#32
  let c0_225 : Index := 0#32
  ![0, v508.toNat, 0, 0]
def k0_mult44 (i : grid0.Coords) (v203 : BitVec 32) (v258 : BitVec 32) (k0_t6 : Fin (k0_t6_loop i v203 v258).trips) : BitVec 32 :=
  let c2_i32_208 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_206 : BitVec 32 := 2#32
  let c0_i32_147 : BitVec 32 := 0#32
  let c2_i32 : BitVec 32 := 2#32
  let arg2 : BitVec 32 := BitVec.ofNat 32 (i 2).val
  let v71 : BitVec 32 := Scalar.muli c2_i32 arg2
  let c0_i32_134 : BitVec 32 := 0#32
  let v324 : BitVec 1 := Scalar.cmpi .sgt v71 c0_i32_134
  let v325 : BitVec 32 := Scalar.extui v324
  let c0_i32_135 : BitVec 32 := 0#32
  let v326 : BitVec 1 := Scalar.cmpi .slt v71 c0_i32_135
  let v327 : BitVec 32 := Scalar.extui v326
  let v328 : BitVec 32 := Scalar.subi v325 v327
  let c2_i32_133 : BitVec 32 := 2#32
  let c0_i32_136 : BitVec 32 := 0#32
  let v329 : BitVec 1 := Scalar.cmpi .sgt c2_i32_133 c0_i32_136
  let v330 : BitVec 32 := Scalar.extui v329
  let c0_i32_137 : BitVec 32 := 0#32
  let v331 : BitVec 1 := Scalar.cmpi .slt c2_i32_133 c0_i32_137
  let v332 : BitVec 32 := Scalar.extui v331
  let v333 : BitVec 32 := Scalar.subi v330 v332
  let v334 : BitVec 1 := Scalar.cmpi .ne v328 v333
  let v335 : BitVec 32 := Scalar.remsi v71 c2_i32_133
  let c0_i32_138 : BitVec 32 := 0#32
  let v336 : BitVec 1 := Scalar.cmpi .ne v335 c0_i32_138
  let v337 : BitVec 1 := Scalar.andi v334 v336
  let v323 : BitVec 32 := Scalar.divsi v71 c2_i32_133
  let c1_i32_139 : BitVec 32 := 1#32
  let v338 : BitVec 32 := Scalar.subi v323 c1_i32_139
  let v339 : BitVec 32 := Scalar.select v337 v338 v323
  let v340 : BitVec 32 := Scalar.subi v339 v306
  let c0_i32_141 : BitVec 32 := 0#32
  let v342 : BitVec 1 := Scalar.cmpi .sgt v340 c0_i32_141
  let v343 : BitVec 32 := Scalar.extui v342
  let c0_i32_142 : BitVec 32 := 0#32
  let v344 : BitVec 1 := Scalar.cmpi .slt v340 c0_i32_142
  let v345 : BitVec 32 := Scalar.extui v344
  let v346 : BitVec 32 := Scalar.subi v343 v345
  let c2_i32_140 : BitVec 32 := 2#32
  let c0_i32_143 : BitVec 32 := 0#32
  let v347 : BitVec 1 := Scalar.cmpi .sgt c2_i32_140 c0_i32_143
  let v348 : BitVec 32 := Scalar.extui v347
  let c0_i32_144 : BitVec 32 := 0#32
  let v349 : BitVec 1 := Scalar.cmpi .slt c2_i32_140 c0_i32_144
  let v350 : BitVec 32 := Scalar.extui v349
  let v351 : BitVec 32 := Scalar.subi v348 v350
  let v352 : BitVec 1 := Scalar.cmpi .ne v346 v351
  let v353 : BitVec 32 := Scalar.remsi v340 c2_i32_140
  let c0_i32_145 : BitVec 32 := 0#32
  let v354 : BitVec 1 := Scalar.cmpi .ne v353 c0_i32_145
  let v355 : BitVec 1 := Scalar.andi v352 v354
  let v341 : BitVec 32 := Scalar.divsi v340 c2_i32_140
  let c1_i32_146 : BitVec 32 := 1#32
  let v356 : BitVec 32 := Scalar.subi v341 c1_i32_146
  let v357 : BitVec 32 := Scalar.select v355 v356 v341
  let v358 : BitVec 32 := Scalar.subi v357 c0_i32_147
  let c1_i32_148 : BitVec 32 := 1#32
  let v360 : BitVec 32 := Scalar.divsi v358 c1_i32_148
  let v361 : BitVec 32 := Scalar.muli v360 c1_i32_148
  let v362 : BitVec 32 := Scalar.addi c0_i32_147 v361
  let c1_i32_150 : BitVec 32 := 1#32
  let arg18 : BitVec 32 := Scf.iv v362 c1_i32_150 k0_t6
  let v481 : BitVec 32 := Scalar.muli c2_i32_206 arg18
  let v482 : BitVec 32 := Scalar.addi v306 v481
  let c0_i32_207 : BitVec 32 := 0#32
  let v483 : BitVec 32 := Scalar.addi v482 c0_i32_207
  let v484 : BitVec 32 := Scalar.muli c2_i32_208 v483
  let c1_i32_227 : BitVec 32 := 1#32
  let v513 : BitVec 32 := Scalar.addi v484 c1_i32_227
  let c512_i32_228 : BitVec 32 := 512#32
  let v514 : BitVec 32 := Scalar.muli v513 c512_i32_228
  v514
def k0_off62 (i : grid0.Coords) (v203 : BitVec 32) (v258 : BitVec 32) (k0_t6 : Fin (k0_t6_loop i v203 v258).trips) (c0_i32_207 : BitVec 32) : Fin 4 → Nat :=
  let c0_241 : Index := 0#32
  let c2_i32_208 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_206 : BitVec 32 := 2#32
  let c0_i32_147 : BitVec 32 := 0#32
  let c2_i32 : BitVec 32 := 2#32
  let arg2 : BitVec 32 := BitVec.ofNat 32 (i 2).val
  let v71 : BitVec 32 := Scalar.muli c2_i32 arg2
  let c0_i32_134 : BitVec 32 := 0#32
  let v324 : BitVec 1 := Scalar.cmpi .sgt v71 c0_i32_134
  let v325 : BitVec 32 := Scalar.extui v324
  let c0_i32_135 : BitVec 32 := 0#32
  let v326 : BitVec 1 := Scalar.cmpi .slt v71 c0_i32_135
  let v327 : BitVec 32 := Scalar.extui v326
  let v328 : BitVec 32 := Scalar.subi v325 v327
  let c2_i32_133 : BitVec 32 := 2#32
  let c0_i32_136 : BitVec 32 := 0#32
  let v329 : BitVec 1 := Scalar.cmpi .sgt c2_i32_133 c0_i32_136
  let v330 : BitVec 32 := Scalar.extui v329
  let c0_i32_137 : BitVec 32 := 0#32
  let v331 : BitVec 1 := Scalar.cmpi .slt c2_i32_133 c0_i32_137
  let v332 : BitVec 32 := Scalar.extui v331
  let v333 : BitVec 32 := Scalar.subi v330 v332
  let v334 : BitVec 1 := Scalar.cmpi .ne v328 v333
  let v335 : BitVec 32 := Scalar.remsi v71 c2_i32_133
  let c0_i32_138 : BitVec 32 := 0#32
  let v336 : BitVec 1 := Scalar.cmpi .ne v335 c0_i32_138
  let v337 : BitVec 1 := Scalar.andi v334 v336
  let v323 : BitVec 32 := Scalar.divsi v71 c2_i32_133
  let c1_i32_139 : BitVec 32 := 1#32
  let v338 : BitVec 32 := Scalar.subi v323 c1_i32_139
  let v339 : BitVec 32 := Scalar.select v337 v338 v323
  let v340 : BitVec 32 := Scalar.subi v339 v306
  let c0_i32_141 : BitVec 32 := 0#32
  let v342 : BitVec 1 := Scalar.cmpi .sgt v340 c0_i32_141
  let v343 : BitVec 32 := Scalar.extui v342
  let c0_i32_142 : BitVec 32 := 0#32
  let v344 : BitVec 1 := Scalar.cmpi .slt v340 c0_i32_142
  let v345 : BitVec 32 := Scalar.extui v344
  let v346 : BitVec 32 := Scalar.subi v343 v345
  let c2_i32_140 : BitVec 32 := 2#32
  let c0_i32_143 : BitVec 32 := 0#32
  let v347 : BitVec 1 := Scalar.cmpi .sgt c2_i32_140 c0_i32_143
  let v348 : BitVec 32 := Scalar.extui v347
  let c0_i32_144 : BitVec 32 := 0#32
  let v349 : BitVec 1 := Scalar.cmpi .slt c2_i32_140 c0_i32_144
  let v350 : BitVec 32 := Scalar.extui v349
  let v351 : BitVec 32 := Scalar.subi v348 v350
  let v352 : BitVec 1 := Scalar.cmpi .ne v346 v351
  let v353 : BitVec 32 := Scalar.remsi v340 c2_i32_140
  let c0_i32_145 : BitVec 32 := 0#32
  let v354 : BitVec 1 := Scalar.cmpi .ne v353 c0_i32_145
  let v355 : BitVec 1 := Scalar.andi v352 v354
  let v341 : BitVec 32 := Scalar.divsi v340 c2_i32_140
  let c1_i32_146 : BitVec 32 := 1#32
  let v356 : BitVec 32 := Scalar.subi v341 c1_i32_146
  let v357 : BitVec 32 := Scalar.select v355 v356 v341
  let v358 : BitVec 32 := Scalar.subi v357 c0_i32_147
  let c1_i32_148 : BitVec 32 := 1#32
  let v360 : BitVec 32 := Scalar.divsi v358 c1_i32_148
  let v361 : BitVec 32 := Scalar.muli v360 c1_i32_148
  let v362 : BitVec 32 := Scalar.addi c0_i32_147 v361
  let c1_i32_150 : BitVec 32 := 1#32
  let arg18 : BitVec 32 := Scf.iv v362 c1_i32_150 k0_t6
  let v481 : BitVec 32 := Scalar.muli c2_i32_206 arg18
  let v482 : BitVec 32 := Scalar.addi v306 v481
  let v483 : BitVec 32 := Scalar.addi v482 c0_i32_207
  let v484 : BitVec 32 := Scalar.muli c2_i32_208 v483
  let v536 : Index := Scalar.indexCast v484
  let c64_242 : Index := 64#32
  let c0_243 : Index := 0#32
  ![0, v536.toNat, 64, 0]
def k0_mult45 (i : grid0.Coords) (v203 : BitVec 32) (v258 : BitVec 32) (k0_t6 : Fin (k0_t6_loop i v203 v258).trips) : BitVec 32 :=
  let c2_i32_208 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_206 : BitVec 32 := 2#32
  let c0_i32_147 : BitVec 32 := 0#32
  let c2_i32 : BitVec 32 := 2#32
  let arg2 : BitVec 32 := BitVec.ofNat 32 (i 2).val
  let v71 : BitVec 32 := Scalar.muli c2_i32 arg2
  let c0_i32_134 : BitVec 32 := 0#32
  let v324 : BitVec 1 := Scalar.cmpi .sgt v71 c0_i32_134
  let v325 : BitVec 32 := Scalar.extui v324
  let c0_i32_135 : BitVec 32 := 0#32
  let v326 : BitVec 1 := Scalar.cmpi .slt v71 c0_i32_135
  let v327 : BitVec 32 := Scalar.extui v326
  let v328 : BitVec 32 := Scalar.subi v325 v327
  let c2_i32_133 : BitVec 32 := 2#32
  let c0_i32_136 : BitVec 32 := 0#32
  let v329 : BitVec 1 := Scalar.cmpi .sgt c2_i32_133 c0_i32_136
  let v330 : BitVec 32 := Scalar.extui v329
  let c0_i32_137 : BitVec 32 := 0#32
  let v331 : BitVec 1 := Scalar.cmpi .slt c2_i32_133 c0_i32_137
  let v332 : BitVec 32 := Scalar.extui v331
  let v333 : BitVec 32 := Scalar.subi v330 v332
  let v334 : BitVec 1 := Scalar.cmpi .ne v328 v333
  let v335 : BitVec 32 := Scalar.remsi v71 c2_i32_133
  let c0_i32_138 : BitVec 32 := 0#32
  let v336 : BitVec 1 := Scalar.cmpi .ne v335 c0_i32_138
  let v337 : BitVec 1 := Scalar.andi v334 v336
  let v323 : BitVec 32 := Scalar.divsi v71 c2_i32_133
  let c1_i32_139 : BitVec 32 := 1#32
  let v338 : BitVec 32 := Scalar.subi v323 c1_i32_139
  let v339 : BitVec 32 := Scalar.select v337 v338 v323
  let v340 : BitVec 32 := Scalar.subi v339 v306
  let c0_i32_141 : BitVec 32 := 0#32
  let v342 : BitVec 1 := Scalar.cmpi .sgt v340 c0_i32_141
  let v343 : BitVec 32 := Scalar.extui v342
  let c0_i32_142 : BitVec 32 := 0#32
  let v344 : BitVec 1 := Scalar.cmpi .slt v340 c0_i32_142
  let v345 : BitVec 32 := Scalar.extui v344
  let v346 : BitVec 32 := Scalar.subi v343 v345
  let c2_i32_140 : BitVec 32 := 2#32
  let c0_i32_143 : BitVec 32 := 0#32
  let v347 : BitVec 1 := Scalar.cmpi .sgt c2_i32_140 c0_i32_143
  let v348 : BitVec 32 := Scalar.extui v347
  let c0_i32_144 : BitVec 32 := 0#32
  let v349 : BitVec 1 := Scalar.cmpi .slt c2_i32_140 c0_i32_144
  let v350 : BitVec 32 := Scalar.extui v349
  let v351 : BitVec 32 := Scalar.subi v348 v350
  let v352 : BitVec 1 := Scalar.cmpi .ne v346 v351
  let v353 : BitVec 32 := Scalar.remsi v340 c2_i32_140
  let c0_i32_145 : BitVec 32 := 0#32
  let v354 : BitVec 1 := Scalar.cmpi .ne v353 c0_i32_145
  let v355 : BitVec 1 := Scalar.andi v352 v354
  let v341 : BitVec 32 := Scalar.divsi v340 c2_i32_140
  let c1_i32_146 : BitVec 32 := 1#32
  let v356 : BitVec 32 := Scalar.subi v341 c1_i32_146
  let v357 : BitVec 32 := Scalar.select v355 v356 v341
  let v358 : BitVec 32 := Scalar.subi v357 c0_i32_147
  let c1_i32_148 : BitVec 32 := 1#32
  let v360 : BitVec 32 := Scalar.divsi v358 c1_i32_148
  let v361 : BitVec 32 := Scalar.muli v360 c1_i32_148
  let v362 : BitVec 32 := Scalar.addi c0_i32_147 v361
  let c1_i32_150 : BitVec 32 := 1#32
  let arg18 : BitVec 32 := Scf.iv v362 c1_i32_150 k0_t6
  let v481 : BitVec 32 := Scalar.muli c2_i32_206 arg18
  let v482 : BitVec 32 := Scalar.addi v306 v481
  let c0_i32_207 : BitVec 32 := 0#32
  let v483 : BitVec 32 := Scalar.addi v482 c0_i32_207
  let v484 : BitVec 32 := Scalar.muli c2_i32_208 v483
  let c2_i32_245 : BitVec 32 := 2#32
  let v541 : BitVec 32 := Scalar.addi v484 c2_i32_245
  let c512_i32_246 : BitVec 32 := 512#32
  let v542 : BitVec 32 := Scalar.muli v541 c512_i32_246
  v542
def k0_off63 (i : grid0.Coords) (v203 : BitVec 32) (v258 : BitVec 32) (k0_t6 : Fin (k0_t6_loop i v203 v258).trips) (c0_i32_207 : BitVec 32) : Fin 4 → Nat :=
  let c0_261 : Index := 0#32
  let c2_i32_208 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_206 : BitVec 32 := 2#32
  let c0_i32_147 : BitVec 32 := 0#32
  let c2_i32 : BitVec 32 := 2#32
  let arg2 : BitVec 32 := BitVec.ofNat 32 (i 2).val
  let v71 : BitVec 32 := Scalar.muli c2_i32 arg2
  let c0_i32_134 : BitVec 32 := 0#32
  let v324 : BitVec 1 := Scalar.cmpi .sgt v71 c0_i32_134
  let v325 : BitVec 32 := Scalar.extui v324
  let c0_i32_135 : BitVec 32 := 0#32
  let v326 : BitVec 1 := Scalar.cmpi .slt v71 c0_i32_135
  let v327 : BitVec 32 := Scalar.extui v326
  let v328 : BitVec 32 := Scalar.subi v325 v327
  let c2_i32_133 : BitVec 32 := 2#32
  let c0_i32_136 : BitVec 32 := 0#32
  let v329 : BitVec 1 := Scalar.cmpi .sgt c2_i32_133 c0_i32_136
  let v330 : BitVec 32 := Scalar.extui v329
  let c0_i32_137 : BitVec 32 := 0#32
  let v331 : BitVec 1 := Scalar.cmpi .slt c2_i32_133 c0_i32_137
  let v332 : BitVec 32 := Scalar.extui v331
  let v333 : BitVec 32 := Scalar.subi v330 v332
  let v334 : BitVec 1 := Scalar.cmpi .ne v328 v333
  let v335 : BitVec 32 := Scalar.remsi v71 c2_i32_133
  let c0_i32_138 : BitVec 32 := 0#32
  let v336 : BitVec 1 := Scalar.cmpi .ne v335 c0_i32_138
  let v337 : BitVec 1 := Scalar.andi v334 v336
  let v323 : BitVec 32 := Scalar.divsi v71 c2_i32_133
  let c1_i32_139 : BitVec 32 := 1#32
  let v338 : BitVec 32 := Scalar.subi v323 c1_i32_139
  let v339 : BitVec 32 := Scalar.select v337 v338 v323
  let v340 : BitVec 32 := Scalar.subi v339 v306
  let c0_i32_141 : BitVec 32 := 0#32
  let v342 : BitVec 1 := Scalar.cmpi .sgt v340 c0_i32_141
  let v343 : BitVec 32 := Scalar.extui v342
  let c0_i32_142 : BitVec 32 := 0#32
  let v344 : BitVec 1 := Scalar.cmpi .slt v340 c0_i32_142
  let v345 : BitVec 32 := Scalar.extui v344
  let v346 : BitVec 32 := Scalar.subi v343 v345
  let c2_i32_140 : BitVec 32 := 2#32
  let c0_i32_143 : BitVec 32 := 0#32
  let v347 : BitVec 1 := Scalar.cmpi .sgt c2_i32_140 c0_i32_143
  let v348 : BitVec 32 := Scalar.extui v347
  let c0_i32_144 : BitVec 32 := 0#32
  let v349 : BitVec 1 := Scalar.cmpi .slt c2_i32_140 c0_i32_144
  let v350 : BitVec 32 := Scalar.extui v349
  let v351 : BitVec 32 := Scalar.subi v348 v350
  let v352 : BitVec 1 := Scalar.cmpi .ne v346 v351
  let v353 : BitVec 32 := Scalar.remsi v340 c2_i32_140
  let c0_i32_145 : BitVec 32 := 0#32
  let v354 : BitVec 1 := Scalar.cmpi .ne v353 c0_i32_145
  let v355 : BitVec 1 := Scalar.andi v352 v354
  let v341 : BitVec 32 := Scalar.divsi v340 c2_i32_140
  let c1_i32_146 : BitVec 32 := 1#32
  let v356 : BitVec 32 := Scalar.subi v341 c1_i32_146
  let v357 : BitVec 32 := Scalar.select v355 v356 v341
  let v358 : BitVec 32 := Scalar.subi v357 c0_i32_147
  let c1_i32_148 : BitVec 32 := 1#32
  let v360 : BitVec 32 := Scalar.divsi v358 c1_i32_148
  let v361 : BitVec 32 := Scalar.muli v360 c1_i32_148
  let v362 : BitVec 32 := Scalar.addi c0_i32_147 v361
  let c1_i32_150 : BitVec 32 := 1#32
  let arg18 : BitVec 32 := Scf.iv v362 c1_i32_150 k0_t6
  let v481 : BitVec 32 := Scalar.muli c2_i32_206 arg18
  let v482 : BitVec 32 := Scalar.addi v306 v481
  let v483 : BitVec 32 := Scalar.addi v482 c0_i32_207
  let v484 : BitVec 32 := Scalar.muli c2_i32_208 v483
  let c1_i32_260 : BitVec 32 := 1#32
  let v572 : BitVec 32 := Scalar.addi v484 c1_i32_260
  let v573 : Index := Scalar.indexCast v572
  let c0_262 : Index := 0#32
  let c0_263 : Index := 0#32
  ![0, v573.toNat, 0, 0]
def k0_mult46 (i : grid0.Coords) (v203 : BitVec 32) (v258 : BitVec 32) (k0_t6 : Fin (k0_t6_loop i v203 v258).trips) : BitVec 32 :=
  let c2_i32_208 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_206 : BitVec 32 := 2#32
  let c0_i32_147 : BitVec 32 := 0#32
  let c2_i32 : BitVec 32 := 2#32
  let arg2 : BitVec 32 := BitVec.ofNat 32 (i 2).val
  let v71 : BitVec 32 := Scalar.muli c2_i32 arg2
  let c0_i32_134 : BitVec 32 := 0#32
  let v324 : BitVec 1 := Scalar.cmpi .sgt v71 c0_i32_134
  let v325 : BitVec 32 := Scalar.extui v324
  let c0_i32_135 : BitVec 32 := 0#32
  let v326 : BitVec 1 := Scalar.cmpi .slt v71 c0_i32_135
  let v327 : BitVec 32 := Scalar.extui v326
  let v328 : BitVec 32 := Scalar.subi v325 v327
  let c2_i32_133 : BitVec 32 := 2#32
  let c0_i32_136 : BitVec 32 := 0#32
  let v329 : BitVec 1 := Scalar.cmpi .sgt c2_i32_133 c0_i32_136
  let v330 : BitVec 32 := Scalar.extui v329
  let c0_i32_137 : BitVec 32 := 0#32
  let v331 : BitVec 1 := Scalar.cmpi .slt c2_i32_133 c0_i32_137
  let v332 : BitVec 32 := Scalar.extui v331
  let v333 : BitVec 32 := Scalar.subi v330 v332
  let v334 : BitVec 1 := Scalar.cmpi .ne v328 v333
  let v335 : BitVec 32 := Scalar.remsi v71 c2_i32_133
  let c0_i32_138 : BitVec 32 := 0#32
  let v336 : BitVec 1 := Scalar.cmpi .ne v335 c0_i32_138
  let v337 : BitVec 1 := Scalar.andi v334 v336
  let v323 : BitVec 32 := Scalar.divsi v71 c2_i32_133
  let c1_i32_139 : BitVec 32 := 1#32
  let v338 : BitVec 32 := Scalar.subi v323 c1_i32_139
  let v339 : BitVec 32 := Scalar.select v337 v338 v323
  let v340 : BitVec 32 := Scalar.subi v339 v306
  let c0_i32_141 : BitVec 32 := 0#32
  let v342 : BitVec 1 := Scalar.cmpi .sgt v340 c0_i32_141
  let v343 : BitVec 32 := Scalar.extui v342
  let c0_i32_142 : BitVec 32 := 0#32
  let v344 : BitVec 1 := Scalar.cmpi .slt v340 c0_i32_142
  let v345 : BitVec 32 := Scalar.extui v344
  let v346 : BitVec 32 := Scalar.subi v343 v345
  let c2_i32_140 : BitVec 32 := 2#32
  let c0_i32_143 : BitVec 32 := 0#32
  let v347 : BitVec 1 := Scalar.cmpi .sgt c2_i32_140 c0_i32_143
  let v348 : BitVec 32 := Scalar.extui v347
  let c0_i32_144 : BitVec 32 := 0#32
  let v349 : BitVec 1 := Scalar.cmpi .slt c2_i32_140 c0_i32_144
  let v350 : BitVec 32 := Scalar.extui v349
  let v351 : BitVec 32 := Scalar.subi v348 v350
  let v352 : BitVec 1 := Scalar.cmpi .ne v346 v351
  let v353 : BitVec 32 := Scalar.remsi v340 c2_i32_140
  let c0_i32_145 : BitVec 32 := 0#32
  let v354 : BitVec 1 := Scalar.cmpi .ne v353 c0_i32_145
  let v355 : BitVec 1 := Scalar.andi v352 v354
  let v341 : BitVec 32 := Scalar.divsi v340 c2_i32_140
  let c1_i32_146 : BitVec 32 := 1#32
  let v356 : BitVec 32 := Scalar.subi v341 c1_i32_146
  let v357 : BitVec 32 := Scalar.select v355 v356 v341
  let v358 : BitVec 32 := Scalar.subi v357 c0_i32_147
  let c1_i32_148 : BitVec 32 := 1#32
  let v360 : BitVec 32 := Scalar.divsi v358 c1_i32_148
  let v361 : BitVec 32 := Scalar.muli v360 c1_i32_148
  let v362 : BitVec 32 := Scalar.addi c0_i32_147 v361
  let c1_i32_150 : BitVec 32 := 1#32
  let arg18 : BitVec 32 := Scf.iv v362 c1_i32_150 k0_t6
  let v481 : BitVec 32 := Scalar.muli c2_i32_206 arg18
  let v482 : BitVec 32 := Scalar.addi v306 v481
  let c0_i32_207 : BitVec 32 := 0#32
  let v483 : BitVec 32 := Scalar.addi v482 c0_i32_207
  let v484 : BitVec 32 := Scalar.muli c2_i32_208 v483
  let c2_i32_265 : BitVec 32 := 2#32
  let v578 : BitVec 32 := Scalar.addi v484 c2_i32_265
  let c512_i32_266 : BitVec 32 := 512#32
  let v579 : BitVec 32 := Scalar.muli v578 c512_i32_266
  v579
def k0_off64 (i : grid0.Coords) (v203 : BitVec 32) (v258 : BitVec 32) (k0_t6 : Fin (k0_t6_loop i v203 v258).trips) (c0_i32_207 : BitVec 32) : Fin 4 → Nat :=
  let c0_281 : Index := 0#32
  let c2_i32_208 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_206 : BitVec 32 := 2#32
  let c0_i32_147 : BitVec 32 := 0#32
  let c2_i32 : BitVec 32 := 2#32
  let arg2 : BitVec 32 := BitVec.ofNat 32 (i 2).val
  let v71 : BitVec 32 := Scalar.muli c2_i32 arg2
  let c0_i32_134 : BitVec 32 := 0#32
  let v324 : BitVec 1 := Scalar.cmpi .sgt v71 c0_i32_134
  let v325 : BitVec 32 := Scalar.extui v324
  let c0_i32_135 : BitVec 32 := 0#32
  let v326 : BitVec 1 := Scalar.cmpi .slt v71 c0_i32_135
  let v327 : BitVec 32 := Scalar.extui v326
  let v328 : BitVec 32 := Scalar.subi v325 v327
  let c2_i32_133 : BitVec 32 := 2#32
  let c0_i32_136 : BitVec 32 := 0#32
  let v329 : BitVec 1 := Scalar.cmpi .sgt c2_i32_133 c0_i32_136
  let v330 : BitVec 32 := Scalar.extui v329
  let c0_i32_137 : BitVec 32 := 0#32
  let v331 : BitVec 1 := Scalar.cmpi .slt c2_i32_133 c0_i32_137
  let v332 : BitVec 32 := Scalar.extui v331
  let v333 : BitVec 32 := Scalar.subi v330 v332
  let v334 : BitVec 1 := Scalar.cmpi .ne v328 v333
  let v335 : BitVec 32 := Scalar.remsi v71 c2_i32_133
  let c0_i32_138 : BitVec 32 := 0#32
  let v336 : BitVec 1 := Scalar.cmpi .ne v335 c0_i32_138
  let v337 : BitVec 1 := Scalar.andi v334 v336
  let v323 : BitVec 32 := Scalar.divsi v71 c2_i32_133
  let c1_i32_139 : BitVec 32 := 1#32
  let v338 : BitVec 32 := Scalar.subi v323 c1_i32_139
  let v339 : BitVec 32 := Scalar.select v337 v338 v323
  let v340 : BitVec 32 := Scalar.subi v339 v306
  let c0_i32_141 : BitVec 32 := 0#32
  let v342 : BitVec 1 := Scalar.cmpi .sgt v340 c0_i32_141
  let v343 : BitVec 32 := Scalar.extui v342
  let c0_i32_142 : BitVec 32 := 0#32
  let v344 : BitVec 1 := Scalar.cmpi .slt v340 c0_i32_142
  let v345 : BitVec 32 := Scalar.extui v344
  let v346 : BitVec 32 := Scalar.subi v343 v345
  let c2_i32_140 : BitVec 32 := 2#32
  let c0_i32_143 : BitVec 32 := 0#32
  let v347 : BitVec 1 := Scalar.cmpi .sgt c2_i32_140 c0_i32_143
  let v348 : BitVec 32 := Scalar.extui v347
  let c0_i32_144 : BitVec 32 := 0#32
  let v349 : BitVec 1 := Scalar.cmpi .slt c2_i32_140 c0_i32_144
  let v350 : BitVec 32 := Scalar.extui v349
  let v351 : BitVec 32 := Scalar.subi v348 v350
  let v352 : BitVec 1 := Scalar.cmpi .ne v346 v351
  let v353 : BitVec 32 := Scalar.remsi v340 c2_i32_140
  let c0_i32_145 : BitVec 32 := 0#32
  let v354 : BitVec 1 := Scalar.cmpi .ne v353 c0_i32_145
  let v355 : BitVec 1 := Scalar.andi v352 v354
  let v341 : BitVec 32 := Scalar.divsi v340 c2_i32_140
  let c1_i32_146 : BitVec 32 := 1#32
  let v356 : BitVec 32 := Scalar.subi v341 c1_i32_146
  let v357 : BitVec 32 := Scalar.select v355 v356 v341
  let v358 : BitVec 32 := Scalar.subi v357 c0_i32_147
  let c1_i32_148 : BitVec 32 := 1#32
  let v360 : BitVec 32 := Scalar.divsi v358 c1_i32_148
  let v361 : BitVec 32 := Scalar.muli v360 c1_i32_148
  let v362 : BitVec 32 := Scalar.addi c0_i32_147 v361
  let c1_i32_150 : BitVec 32 := 1#32
  let arg18 : BitVec 32 := Scf.iv v362 c1_i32_150 k0_t6
  let v481 : BitVec 32 := Scalar.muli c2_i32_206 arg18
  let v482 : BitVec 32 := Scalar.addi v306 v481
  let v483 : BitVec 32 := Scalar.addi v482 c0_i32_207
  let v484 : BitVec 32 := Scalar.muli c2_i32_208 v483
  let c1_i32_280 : BitVec 32 := 1#32
  let v609 : BitVec 32 := Scalar.addi v484 c1_i32_280
  let v610 : Index := Scalar.indexCast v609
  let c64_282 : Index := 64#32
  let c0_283 : Index := 0#32
  ![0, v610.toNat, 64, 0]
def k0_mult47 (i : grid0.Coords) (v203 : BitVec 32) (v258 : BitVec 32) (k0_t6 : Fin (k0_t6_loop i v203 v258).trips) : BitVec 32 :=
  let c2_i32_286 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_206 : BitVec 32 := 2#32
  let c0_i32_147 : BitVec 32 := 0#32
  let c2_i32 : BitVec 32 := 2#32
  let arg2 : BitVec 32 := BitVec.ofNat 32 (i 2).val
  let v71 : BitVec 32 := Scalar.muli c2_i32 arg2
  let c0_i32_134 : BitVec 32 := 0#32
  let v324 : BitVec 1 := Scalar.cmpi .sgt v71 c0_i32_134
  let v325 : BitVec 32 := Scalar.extui v324
  let c0_i32_135 : BitVec 32 := 0#32
  let v326 : BitVec 1 := Scalar.cmpi .slt v71 c0_i32_135
  let v327 : BitVec 32 := Scalar.extui v326
  let v328 : BitVec 32 := Scalar.subi v325 v327
  let c2_i32_133 : BitVec 32 := 2#32
  let c0_i32_136 : BitVec 32 := 0#32
  let v329 : BitVec 1 := Scalar.cmpi .sgt c2_i32_133 c0_i32_136
  let v330 : BitVec 32 := Scalar.extui v329
  let c0_i32_137 : BitVec 32 := 0#32
  let v331 : BitVec 1 := Scalar.cmpi .slt c2_i32_133 c0_i32_137
  let v332 : BitVec 32 := Scalar.extui v331
  let v333 : BitVec 32 := Scalar.subi v330 v332
  let v334 : BitVec 1 := Scalar.cmpi .ne v328 v333
  let v335 : BitVec 32 := Scalar.remsi v71 c2_i32_133
  let c0_i32_138 : BitVec 32 := 0#32
  let v336 : BitVec 1 := Scalar.cmpi .ne v335 c0_i32_138
  let v337 : BitVec 1 := Scalar.andi v334 v336
  let v323 : BitVec 32 := Scalar.divsi v71 c2_i32_133
  let c1_i32_139 : BitVec 32 := 1#32
  let v338 : BitVec 32 := Scalar.subi v323 c1_i32_139
  let v339 : BitVec 32 := Scalar.select v337 v338 v323
  let v340 : BitVec 32 := Scalar.subi v339 v306
  let c0_i32_141 : BitVec 32 := 0#32
  let v342 : BitVec 1 := Scalar.cmpi .sgt v340 c0_i32_141
  let v343 : BitVec 32 := Scalar.extui v342
  let c0_i32_142 : BitVec 32 := 0#32
  let v344 : BitVec 1 := Scalar.cmpi .slt v340 c0_i32_142
  let v345 : BitVec 32 := Scalar.extui v344
  let v346 : BitVec 32 := Scalar.subi v343 v345
  let c2_i32_140 : BitVec 32 := 2#32
  let c0_i32_143 : BitVec 32 := 0#32
  let v347 : BitVec 1 := Scalar.cmpi .sgt c2_i32_140 c0_i32_143
  let v348 : BitVec 32 := Scalar.extui v347
  let c0_i32_144 : BitVec 32 := 0#32
  let v349 : BitVec 1 := Scalar.cmpi .slt c2_i32_140 c0_i32_144
  let v350 : BitVec 32 := Scalar.extui v349
  let v351 : BitVec 32 := Scalar.subi v348 v350
  let v352 : BitVec 1 := Scalar.cmpi .ne v346 v351
  let v353 : BitVec 32 := Scalar.remsi v340 c2_i32_140
  let c0_i32_145 : BitVec 32 := 0#32
  let v354 : BitVec 1 := Scalar.cmpi .ne v353 c0_i32_145
  let v355 : BitVec 1 := Scalar.andi v352 v354
  let v341 : BitVec 32 := Scalar.divsi v340 c2_i32_140
  let c1_i32_146 : BitVec 32 := 1#32
  let v356 : BitVec 32 := Scalar.subi v341 c1_i32_146
  let v357 : BitVec 32 := Scalar.select v355 v356 v341
  let v358 : BitVec 32 := Scalar.subi v357 c0_i32_147
  let c1_i32_148 : BitVec 32 := 1#32
  let v360 : BitVec 32 := Scalar.divsi v358 c1_i32_148
  let v361 : BitVec 32 := Scalar.muli v360 c1_i32_148
  let v362 : BitVec 32 := Scalar.addi c0_i32_147 v361
  let c1_i32_150 : BitVec 32 := 1#32
  let arg18 : BitVec 32 := Scf.iv v362 c1_i32_150 k0_t6
  let v481 : BitVec 32 := Scalar.muli c2_i32_206 arg18
  let v482 : BitVec 32 := Scalar.addi v306 v481
  let c1_i32_285 : BitVec 32 := 1#32
  let v615 : BitVec 32 := Scalar.addi v482 c1_i32_285
  let v616 : BitVec 32 := Scalar.muli c2_i32_286 v615
  let c1_i32_287 : BitVec 32 := 1#32
  let v617 : BitVec 32 := Scalar.addi v616 c1_i32_287
  let c512_i32_288 : BitVec 32 := 512#32
  let v618 : BitVec 32 := Scalar.muli v617 c512_i32_288
  v618
def k0_mult48 (i : grid0.Coords) (v203 : BitVec 32) (v258 : BitVec 32) (k0_t6 : Fin (k0_t6_loop i v203 v258).trips) : BitVec 32 :=
  let c2_i32_286 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_206 : BitVec 32 := 2#32
  let c0_i32_147 : BitVec 32 := 0#32
  let c2_i32 : BitVec 32 := 2#32
  let arg2 : BitVec 32 := BitVec.ofNat 32 (i 2).val
  let v71 : BitVec 32 := Scalar.muli c2_i32 arg2
  let c0_i32_134 : BitVec 32 := 0#32
  let v324 : BitVec 1 := Scalar.cmpi .sgt v71 c0_i32_134
  let v325 : BitVec 32 := Scalar.extui v324
  let c0_i32_135 : BitVec 32 := 0#32
  let v326 : BitVec 1 := Scalar.cmpi .slt v71 c0_i32_135
  let v327 : BitVec 32 := Scalar.extui v326
  let v328 : BitVec 32 := Scalar.subi v325 v327
  let c2_i32_133 : BitVec 32 := 2#32
  let c0_i32_136 : BitVec 32 := 0#32
  let v329 : BitVec 1 := Scalar.cmpi .sgt c2_i32_133 c0_i32_136
  let v330 : BitVec 32 := Scalar.extui v329
  let c0_i32_137 : BitVec 32 := 0#32
  let v331 : BitVec 1 := Scalar.cmpi .slt c2_i32_133 c0_i32_137
  let v332 : BitVec 32 := Scalar.extui v331
  let v333 : BitVec 32 := Scalar.subi v330 v332
  let v334 : BitVec 1 := Scalar.cmpi .ne v328 v333
  let v335 : BitVec 32 := Scalar.remsi v71 c2_i32_133
  let c0_i32_138 : BitVec 32 := 0#32
  let v336 : BitVec 1 := Scalar.cmpi .ne v335 c0_i32_138
  let v337 : BitVec 1 := Scalar.andi v334 v336
  let v323 : BitVec 32 := Scalar.divsi v71 c2_i32_133
  let c1_i32_139 : BitVec 32 := 1#32
  let v338 : BitVec 32 := Scalar.subi v323 c1_i32_139
  let v339 : BitVec 32 := Scalar.select v337 v338 v323
  let v340 : BitVec 32 := Scalar.subi v339 v306
  let c0_i32_141 : BitVec 32 := 0#32
  let v342 : BitVec 1 := Scalar.cmpi .sgt v340 c0_i32_141
  let v343 : BitVec 32 := Scalar.extui v342
  let c0_i32_142 : BitVec 32 := 0#32
  let v344 : BitVec 1 := Scalar.cmpi .slt v340 c0_i32_142
  let v345 : BitVec 32 := Scalar.extui v344
  let v346 : BitVec 32 := Scalar.subi v343 v345
  let c2_i32_140 : BitVec 32 := 2#32
  let c0_i32_143 : BitVec 32 := 0#32
  let v347 : BitVec 1 := Scalar.cmpi .sgt c2_i32_140 c0_i32_143
  let v348 : BitVec 32 := Scalar.extui v347
  let c0_i32_144 : BitVec 32 := 0#32
  let v349 : BitVec 1 := Scalar.cmpi .slt c2_i32_140 c0_i32_144
  let v350 : BitVec 32 := Scalar.extui v349
  let v351 : BitVec 32 := Scalar.subi v348 v350
  let v352 : BitVec 1 := Scalar.cmpi .ne v346 v351
  let v353 : BitVec 32 := Scalar.remsi v340 c2_i32_140
  let c0_i32_145 : BitVec 32 := 0#32
  let v354 : BitVec 1 := Scalar.cmpi .ne v353 c0_i32_145
  let v355 : BitVec 1 := Scalar.andi v352 v354
  let v341 : BitVec 32 := Scalar.divsi v340 c2_i32_140
  let c1_i32_146 : BitVec 32 := 1#32
  let v356 : BitVec 32 := Scalar.subi v341 c1_i32_146
  let v357 : BitVec 32 := Scalar.select v355 v356 v341
  let v358 : BitVec 32 := Scalar.subi v357 c0_i32_147
  let c1_i32_148 : BitVec 32 := 1#32
  let v360 : BitVec 32 := Scalar.divsi v358 c1_i32_148
  let v361 : BitVec 32 := Scalar.muli v360 c1_i32_148
  let v362 : BitVec 32 := Scalar.addi c0_i32_147 v361
  let c1_i32_150 : BitVec 32 := 1#32
  let arg18 : BitVec 32 := Scf.iv v362 c1_i32_150 k0_t6
  let v481 : BitVec 32 := Scalar.muli c2_i32_206 arg18
  let v482 : BitVec 32 := Scalar.addi v306 v481
  let c1_i32_285 : BitVec 32 := 1#32
  let v615 : BitVec 32 := Scalar.addi v482 c1_i32_285
  let v616 : BitVec 32 := Scalar.muli c2_i32_286 v615
  let c1_i32_305 : BitVec 32 := 1#32
  let v645 : BitVec 32 := Scalar.addi v616 c1_i32_305
  let c512_i32_306 : BitVec 32 := 512#32
  let v646 : BitVec 32 := Scalar.muli v645 c512_i32_306
  v646
def k0_mult49 (i : grid0.Coords) (v203 : BitVec 32) (v258 : BitVec 32) (k0_t6 : Fin (k0_t6_loop i v203 v258).trips) : BitVec 32 :=
  let c2_i32_286 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_206 : BitVec 32 := 2#32
  let c0_i32_147 : BitVec 32 := 0#32
  let c2_i32 : BitVec 32 := 2#32
  let arg2 : BitVec 32 := BitVec.ofNat 32 (i 2).val
  let v71 : BitVec 32 := Scalar.muli c2_i32 arg2
  let c0_i32_134 : BitVec 32 := 0#32
  let v324 : BitVec 1 := Scalar.cmpi .sgt v71 c0_i32_134
  let v325 : BitVec 32 := Scalar.extui v324
  let c0_i32_135 : BitVec 32 := 0#32
  let v326 : BitVec 1 := Scalar.cmpi .slt v71 c0_i32_135
  let v327 : BitVec 32 := Scalar.extui v326
  let v328 : BitVec 32 := Scalar.subi v325 v327
  let c2_i32_133 : BitVec 32 := 2#32
  let c0_i32_136 : BitVec 32 := 0#32
  let v329 : BitVec 1 := Scalar.cmpi .sgt c2_i32_133 c0_i32_136
  let v330 : BitVec 32 := Scalar.extui v329
  let c0_i32_137 : BitVec 32 := 0#32
  let v331 : BitVec 1 := Scalar.cmpi .slt c2_i32_133 c0_i32_137
  let v332 : BitVec 32 := Scalar.extui v331
  let v333 : BitVec 32 := Scalar.subi v330 v332
  let v334 : BitVec 1 := Scalar.cmpi .ne v328 v333
  let v335 : BitVec 32 := Scalar.remsi v71 c2_i32_133
  let c0_i32_138 : BitVec 32 := 0#32
  let v336 : BitVec 1 := Scalar.cmpi .ne v335 c0_i32_138
  let v337 : BitVec 1 := Scalar.andi v334 v336
  let v323 : BitVec 32 := Scalar.divsi v71 c2_i32_133
  let c1_i32_139 : BitVec 32 := 1#32
  let v338 : BitVec 32 := Scalar.subi v323 c1_i32_139
  let v339 : BitVec 32 := Scalar.select v337 v338 v323
  let v340 : BitVec 32 := Scalar.subi v339 v306
  let c0_i32_141 : BitVec 32 := 0#32
  let v342 : BitVec 1 := Scalar.cmpi .sgt v340 c0_i32_141
  let v343 : BitVec 32 := Scalar.extui v342
  let c0_i32_142 : BitVec 32 := 0#32
  let v344 : BitVec 1 := Scalar.cmpi .slt v340 c0_i32_142
  let v345 : BitVec 32 := Scalar.extui v344
  let v346 : BitVec 32 := Scalar.subi v343 v345
  let c2_i32_140 : BitVec 32 := 2#32
  let c0_i32_143 : BitVec 32 := 0#32
  let v347 : BitVec 1 := Scalar.cmpi .sgt c2_i32_140 c0_i32_143
  let v348 : BitVec 32 := Scalar.extui v347
  let c0_i32_144 : BitVec 32 := 0#32
  let v349 : BitVec 1 := Scalar.cmpi .slt c2_i32_140 c0_i32_144
  let v350 : BitVec 32 := Scalar.extui v349
  let v351 : BitVec 32 := Scalar.subi v348 v350
  let v352 : BitVec 1 := Scalar.cmpi .ne v346 v351
  let v353 : BitVec 32 := Scalar.remsi v340 c2_i32_140
  let c0_i32_145 : BitVec 32 := 0#32
  let v354 : BitVec 1 := Scalar.cmpi .ne v353 c0_i32_145
  let v355 : BitVec 1 := Scalar.andi v352 v354
  let v341 : BitVec 32 := Scalar.divsi v340 c2_i32_140
  let c1_i32_146 : BitVec 32 := 1#32
  let v356 : BitVec 32 := Scalar.subi v341 c1_i32_146
  let v357 : BitVec 32 := Scalar.select v355 v356 v341
  let v358 : BitVec 32 := Scalar.subi v357 c0_i32_147
  let c1_i32_148 : BitVec 32 := 1#32
  let v360 : BitVec 32 := Scalar.divsi v358 c1_i32_148
  let v361 : BitVec 32 := Scalar.muli v360 c1_i32_148
  let v362 : BitVec 32 := Scalar.addi c0_i32_147 v361
  let c1_i32_150 : BitVec 32 := 1#32
  let arg18 : BitVec 32 := Scf.iv v362 c1_i32_150 k0_t6
  let v481 : BitVec 32 := Scalar.muli c2_i32_206 arg18
  let v482 : BitVec 32 := Scalar.addi v306 v481
  let c1_i32_285 : BitVec 32 := 1#32
  let v615 : BitVec 32 := Scalar.addi v482 c1_i32_285
  let v616 : BitVec 32 := Scalar.muli c2_i32_286 v615
  let c2_i32_323 : BitVec 32 := 2#32
  let v673 : BitVec 32 := Scalar.addi v616 c2_i32_323
  let c512_i32_324 : BitVec 32 := 512#32
  let v674 : BitVec 32 := Scalar.muli v673 c512_i32_324
  v674
def k0_mult50 (i : grid0.Coords) (v203 : BitVec 32) (v258 : BitVec 32) (k0_t6 : Fin (k0_t6_loop i v203 v258).trips) : BitVec 32 :=
  let c2_i32_286 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_206 : BitVec 32 := 2#32
  let c0_i32_147 : BitVec 32 := 0#32
  let c2_i32 : BitVec 32 := 2#32
  let arg2 : BitVec 32 := BitVec.ofNat 32 (i 2).val
  let v71 : BitVec 32 := Scalar.muli c2_i32 arg2
  let c0_i32_134 : BitVec 32 := 0#32
  let v324 : BitVec 1 := Scalar.cmpi .sgt v71 c0_i32_134
  let v325 : BitVec 32 := Scalar.extui v324
  let c0_i32_135 : BitVec 32 := 0#32
  let v326 : BitVec 1 := Scalar.cmpi .slt v71 c0_i32_135
  let v327 : BitVec 32 := Scalar.extui v326
  let v328 : BitVec 32 := Scalar.subi v325 v327
  let c2_i32_133 : BitVec 32 := 2#32
  let c0_i32_136 : BitVec 32 := 0#32
  let v329 : BitVec 1 := Scalar.cmpi .sgt c2_i32_133 c0_i32_136
  let v330 : BitVec 32 := Scalar.extui v329
  let c0_i32_137 : BitVec 32 := 0#32
  let v331 : BitVec 1 := Scalar.cmpi .slt c2_i32_133 c0_i32_137
  let v332 : BitVec 32 := Scalar.extui v331
  let v333 : BitVec 32 := Scalar.subi v330 v332
  let v334 : BitVec 1 := Scalar.cmpi .ne v328 v333
  let v335 : BitVec 32 := Scalar.remsi v71 c2_i32_133
  let c0_i32_138 : BitVec 32 := 0#32
  let v336 : BitVec 1 := Scalar.cmpi .ne v335 c0_i32_138
  let v337 : BitVec 1 := Scalar.andi v334 v336
  let v323 : BitVec 32 := Scalar.divsi v71 c2_i32_133
  let c1_i32_139 : BitVec 32 := 1#32
  let v338 : BitVec 32 := Scalar.subi v323 c1_i32_139
  let v339 : BitVec 32 := Scalar.select v337 v338 v323
  let v340 : BitVec 32 := Scalar.subi v339 v306
  let c0_i32_141 : BitVec 32 := 0#32
  let v342 : BitVec 1 := Scalar.cmpi .sgt v340 c0_i32_141
  let v343 : BitVec 32 := Scalar.extui v342
  let c0_i32_142 : BitVec 32 := 0#32
  let v344 : BitVec 1 := Scalar.cmpi .slt v340 c0_i32_142
  let v345 : BitVec 32 := Scalar.extui v344
  let v346 : BitVec 32 := Scalar.subi v343 v345
  let c2_i32_140 : BitVec 32 := 2#32
  let c0_i32_143 : BitVec 32 := 0#32
  let v347 : BitVec 1 := Scalar.cmpi .sgt c2_i32_140 c0_i32_143
  let v348 : BitVec 32 := Scalar.extui v347
  let c0_i32_144 : BitVec 32 := 0#32
  let v349 : BitVec 1 := Scalar.cmpi .slt c2_i32_140 c0_i32_144
  let v350 : BitVec 32 := Scalar.extui v349
  let v351 : BitVec 32 := Scalar.subi v348 v350
  let v352 : BitVec 1 := Scalar.cmpi .ne v346 v351
  let v353 : BitVec 32 := Scalar.remsi v340 c2_i32_140
  let c0_i32_145 : BitVec 32 := 0#32
  let v354 : BitVec 1 := Scalar.cmpi .ne v353 c0_i32_145
  let v355 : BitVec 1 := Scalar.andi v352 v354
  let v341 : BitVec 32 := Scalar.divsi v340 c2_i32_140
  let c1_i32_146 : BitVec 32 := 1#32
  let v356 : BitVec 32 := Scalar.subi v341 c1_i32_146
  let v357 : BitVec 32 := Scalar.select v355 v356 v341
  let v358 : BitVec 32 := Scalar.subi v357 c0_i32_147
  let c1_i32_148 : BitVec 32 := 1#32
  let v360 : BitVec 32 := Scalar.divsi v358 c1_i32_148
  let v361 : BitVec 32 := Scalar.muli v360 c1_i32_148
  let v362 : BitVec 32 := Scalar.addi c0_i32_147 v361
  let c1_i32_150 : BitVec 32 := 1#32
  let arg18 : BitVec 32 := Scf.iv v362 c1_i32_150 k0_t6
  let v481 : BitVec 32 := Scalar.muli c2_i32_206 arg18
  let v482 : BitVec 32 := Scalar.addi v306 v481
  let c1_i32_285 : BitVec 32 := 1#32
  let v615 : BitVec 32 := Scalar.addi v482 c1_i32_285
  let v616 : BitVec 32 := Scalar.muli c2_i32_286 v615
  let c2_i32_343 : BitVec 32 := 2#32
  let v710 : BitVec 32 := Scalar.addi v616 c2_i32_343
  let c512_i32_344 : BitVec 32 := 512#32
  let v711 : BitVec 32 := Scalar.muli v710 c512_i32_344
  v711
@[reducible] def k0_t7_loop (i : grid0.Coords) (v203 : BitVec 32) (v258 : BitVec 32) : Scf.Loop 32 :=
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_151 : BitVec 32 := 2#32
  let c2_i32 : BitVec 32 := 2#32
  let arg2 : BitVec 32 := BitVec.ofNat 32 (i 2).val
  let v71 : BitVec 32 := Scalar.muli c2_i32 arg2
  let c0_i32_134 : BitVec 32 := 0#32
  let v324 : BitVec 1 := Scalar.cmpi .sgt v71 c0_i32_134
  let v325 : BitVec 32 := Scalar.extui v324
  let c0_i32_135 : BitVec 32 := 0#32
  let v326 : BitVec 1 := Scalar.cmpi .slt v71 c0_i32_135
  let v327 : BitVec 32 := Scalar.extui v326
  let v328 : BitVec 32 := Scalar.subi v325 v327
  let c2_i32_133 : BitVec 32 := 2#32
  let c0_i32_136 : BitVec 32 := 0#32
  let v329 : BitVec 1 := Scalar.cmpi .sgt c2_i32_133 c0_i32_136
  let v330 : BitVec 32 := Scalar.extui v329
  let c0_i32_137 : BitVec 32 := 0#32
  let v331 : BitVec 1 := Scalar.cmpi .slt c2_i32_133 c0_i32_137
  let v332 : BitVec 32 := Scalar.extui v331
  let v333 : BitVec 32 := Scalar.subi v330 v332
  let v334 : BitVec 1 := Scalar.cmpi .ne v328 v333
  let v335 : BitVec 32 := Scalar.remsi v71 c2_i32_133
  let c0_i32_138 : BitVec 32 := 0#32
  let v336 : BitVec 1 := Scalar.cmpi .ne v335 c0_i32_138
  let v337 : BitVec 1 := Scalar.andi v334 v336
  let v323 : BitVec 32 := Scalar.divsi v71 c2_i32_133
  let c1_i32_139 : BitVec 32 := 1#32
  let v338 : BitVec 32 := Scalar.subi v323 c1_i32_139
  let v339 : BitVec 32 := Scalar.select v337 v338 v323
  let v340 : BitVec 32 := Scalar.subi v339 v306
  let c0_i32_141 : BitVec 32 := 0#32
  let v342 : BitVec 1 := Scalar.cmpi .sgt v340 c0_i32_141
  let v343 : BitVec 32 := Scalar.extui v342
  let c0_i32_142 : BitVec 32 := 0#32
  let v344 : BitVec 1 := Scalar.cmpi .slt v340 c0_i32_142
  let v345 : BitVec 32 := Scalar.extui v344
  let v346 : BitVec 32 := Scalar.subi v343 v345
  let c2_i32_140 : BitVec 32 := 2#32
  let c0_i32_143 : BitVec 32 := 0#32
  let v347 : BitVec 1 := Scalar.cmpi .sgt c2_i32_140 c0_i32_143
  let v348 : BitVec 32 := Scalar.extui v347
  let c0_i32_144 : BitVec 32 := 0#32
  let v349 : BitVec 1 := Scalar.cmpi .slt c2_i32_140 c0_i32_144
  let v350 : BitVec 32 := Scalar.extui v349
  let v351 : BitVec 32 := Scalar.subi v348 v350
  let v352 : BitVec 1 := Scalar.cmpi .ne v346 v351
  let v353 : BitVec 32 := Scalar.remsi v340 c2_i32_140
  let c0_i32_145 : BitVec 32 := 0#32
  let v354 : BitVec 1 := Scalar.cmpi .ne v353 c0_i32_145
  let v355 : BitVec 1 := Scalar.andi v352 v354
  let v341 : BitVec 32 := Scalar.divsi v340 c2_i32_140
  let c1_i32_146 : BitVec 32 := 1#32
  let v356 : BitVec 32 := Scalar.subi v341 c1_i32_146
  let v357 : BitVec 32 := Scalar.select v355 v356 v341
  let v365 : BitVec 32 := Scalar.muli c2_i32_151 v357
  let v366 : BitVec 32 := Scalar.addi v306 v365
  let c0_i32_153 : BitVec 32 := 0#32
  let v368 : BitVec 1 := Scalar.cmpi .sgt v71 c0_i32_153
  let v369 : BitVec 32 := Scalar.extui v368
  let c0_i32_154 : BitVec 32 := 0#32
  let v370 : BitVec 1 := Scalar.cmpi .slt v71 c0_i32_154
  let v371 : BitVec 32 := Scalar.extui v370
  let v372 : BitVec 32 := Scalar.subi v369 v371
  let c2_i32_152 : BitVec 32 := 2#32
  let c0_i32_155 : BitVec 32 := 0#32
  let v373 : BitVec 1 := Scalar.cmpi .sgt c2_i32_152 c0_i32_155
  let v374 : BitVec 32 := Scalar.extui v373
  let c0_i32_156 : BitVec 32 := 0#32
  let v375 : BitVec 1 := Scalar.cmpi .slt c2_i32_152 c0_i32_156
  let v376 : BitVec 32 := Scalar.extui v375
  let v377 : BitVec 32 := Scalar.subi v374 v376
  let v378 : BitVec 1 := Scalar.cmpi .ne v372 v377
  let v379 : BitVec 32 := Scalar.remsi v71 c2_i32_152
  let c0_i32_157 : BitVec 32 := 0#32
  let v380 : BitVec 1 := Scalar.cmpi .ne v379 c0_i32_157
  let v381 : BitVec 1 := Scalar.andi v378 v380
  let v367 : BitVec 32 := Scalar.divsi v71 c2_i32_152
  let c1_i32_158 : BitVec 32 := 1#32
  let v382 : BitVec 32 := Scalar.subi v367 c1_i32_158
  let v383 : BitVec 32 := Scalar.select v381 v382 v367
  let v384 : BitVec 32 := Scalar.subi v383 v366
  let c1_i32_159 : BitVec 32 := 1#32
  let v386 : BitVec 32 := Scalar.divsi v384 c1_i32_159
  let v387 : BitVec 32 := Scalar.muli v386 c1_i32_159
  let v388 : BitVec 32 := Scalar.addi v366 v387
  let c1_i32_160 : BitVec 32 := 1#32
  ⟨v366, v388, c1_i32_160⟩
def k0_mult51 (i : grid0.Coords) (v203 : BitVec 32) (v258 : BitVec 32) (k0_t7 : Fin (k0_t7_loop i v203 v258).trips) : BitVec 32 :=
  let c2_i32_207 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_151 : BitVec 32 := 2#32
  let c2_i32 : BitVec 32 := 2#32
  let arg2 : BitVec 32 := BitVec.ofNat 32 (i 2).val
  let v71 : BitVec 32 := Scalar.muli c2_i32 arg2
  let c0_i32_134 : BitVec 32 := 0#32
  let v324 : BitVec 1 := Scalar.cmpi .sgt v71 c0_i32_134
  let v325 : BitVec 32 := Scalar.extui v324
  let c0_i32_135 : BitVec 32 := 0#32
  let v326 : BitVec 1 := Scalar.cmpi .slt v71 c0_i32_135
  let v327 : BitVec 32 := Scalar.extui v326
  let v328 : BitVec 32 := Scalar.subi v325 v327
  let c2_i32_133 : BitVec 32 := 2#32
  let c0_i32_136 : BitVec 32 := 0#32
  let v329 : BitVec 1 := Scalar.cmpi .sgt c2_i32_133 c0_i32_136
  let v330 : BitVec 32 := Scalar.extui v329
  let c0_i32_137 : BitVec 32 := 0#32
  let v331 : BitVec 1 := Scalar.cmpi .slt c2_i32_133 c0_i32_137
  let v332 : BitVec 32 := Scalar.extui v331
  let v333 : BitVec 32 := Scalar.subi v330 v332
  let v334 : BitVec 1 := Scalar.cmpi .ne v328 v333
  let v335 : BitVec 32 := Scalar.remsi v71 c2_i32_133
  let c0_i32_138 : BitVec 32 := 0#32
  let v336 : BitVec 1 := Scalar.cmpi .ne v335 c0_i32_138
  let v337 : BitVec 1 := Scalar.andi v334 v336
  let v323 : BitVec 32 := Scalar.divsi v71 c2_i32_133
  let c1_i32_139 : BitVec 32 := 1#32
  let v338 : BitVec 32 := Scalar.subi v323 c1_i32_139
  let v339 : BitVec 32 := Scalar.select v337 v338 v323
  let v340 : BitVec 32 := Scalar.subi v339 v306
  let c0_i32_141 : BitVec 32 := 0#32
  let v342 : BitVec 1 := Scalar.cmpi .sgt v340 c0_i32_141
  let v343 : BitVec 32 := Scalar.extui v342
  let c0_i32_142 : BitVec 32 := 0#32
  let v344 : BitVec 1 := Scalar.cmpi .slt v340 c0_i32_142
  let v345 : BitVec 32 := Scalar.extui v344
  let v346 : BitVec 32 := Scalar.subi v343 v345
  let c2_i32_140 : BitVec 32 := 2#32
  let c0_i32_143 : BitVec 32 := 0#32
  let v347 : BitVec 1 := Scalar.cmpi .sgt c2_i32_140 c0_i32_143
  let v348 : BitVec 32 := Scalar.extui v347
  let c0_i32_144 : BitVec 32 := 0#32
  let v349 : BitVec 1 := Scalar.cmpi .slt c2_i32_140 c0_i32_144
  let v350 : BitVec 32 := Scalar.extui v349
  let v351 : BitVec 32 := Scalar.subi v348 v350
  let v352 : BitVec 1 := Scalar.cmpi .ne v346 v351
  let v353 : BitVec 32 := Scalar.remsi v340 c2_i32_140
  let c0_i32_145 : BitVec 32 := 0#32
  let v354 : BitVec 1 := Scalar.cmpi .ne v353 c0_i32_145
  let v355 : BitVec 1 := Scalar.andi v352 v354
  let v341 : BitVec 32 := Scalar.divsi v340 c2_i32_140
  let c1_i32_146 : BitVec 32 := 1#32
  let v356 : BitVec 32 := Scalar.subi v341 c1_i32_146
  let v357 : BitVec 32 := Scalar.select v355 v356 v341
  let v365 : BitVec 32 := Scalar.muli c2_i32_151 v357
  let v366 : BitVec 32 := Scalar.addi v306 v365
  let c1_i32_160 : BitVec 32 := 1#32
  let arg18 : BitVec 32 := Scf.iv v366 c1_i32_160 k0_t7
  let c0_i32_206 : BitVec 32 := 0#32
  let v481 : BitVec 32 := Scalar.addi arg18 c0_i32_206
  let v482 : BitVec 32 := Scalar.muli c2_i32_207 v481
  let c1_i32_208 : BitVec 32 := 1#32
  let v483 : BitVec 32 := Scalar.addi v482 c1_i32_208
  let c512_i32_209 : BitVec 32 := 512#32
  let v484 : BitVec 32 := Scalar.muli v483 c512_i32_209
  v484
def k0_off65 (i : grid0.Coords) (v203 : BitVec 32) (v258 : BitVec 32) (k0_t7 : Fin (k0_t7_loop i v203 v258).trips) (c1_i32_208 : BitVec 32) : Fin 3 → Nat :=
  let c0_210 : Index := 0#32
  let c2_i32_207 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_151 : BitVec 32 := 2#32
  let c2_i32 : BitVec 32 := 2#32
  let arg2 : BitVec 32 := BitVec.ofNat 32 (i 2).val
  let v71 : BitVec 32 := Scalar.muli c2_i32 arg2
  let c0_i32_134 : BitVec 32 := 0#32
  let v324 : BitVec 1 := Scalar.cmpi .sgt v71 c0_i32_134
  let v325 : BitVec 32 := Scalar.extui v324
  let c0_i32_135 : BitVec 32 := 0#32
  let v326 : BitVec 1 := Scalar.cmpi .slt v71 c0_i32_135
  let v327 : BitVec 32 := Scalar.extui v326
  let v328 : BitVec 32 := Scalar.subi v325 v327
  let c2_i32_133 : BitVec 32 := 2#32
  let c0_i32_136 : BitVec 32 := 0#32
  let v329 : BitVec 1 := Scalar.cmpi .sgt c2_i32_133 c0_i32_136
  let v330 : BitVec 32 := Scalar.extui v329
  let c0_i32_137 : BitVec 32 := 0#32
  let v331 : BitVec 1 := Scalar.cmpi .slt c2_i32_133 c0_i32_137
  let v332 : BitVec 32 := Scalar.extui v331
  let v333 : BitVec 32 := Scalar.subi v330 v332
  let v334 : BitVec 1 := Scalar.cmpi .ne v328 v333
  let v335 : BitVec 32 := Scalar.remsi v71 c2_i32_133
  let c0_i32_138 : BitVec 32 := 0#32
  let v336 : BitVec 1 := Scalar.cmpi .ne v335 c0_i32_138
  let v337 : BitVec 1 := Scalar.andi v334 v336
  let v323 : BitVec 32 := Scalar.divsi v71 c2_i32_133
  let c1_i32_139 : BitVec 32 := 1#32
  let v338 : BitVec 32 := Scalar.subi v323 c1_i32_139
  let v339 : BitVec 32 := Scalar.select v337 v338 v323
  let v340 : BitVec 32 := Scalar.subi v339 v306
  let c0_i32_141 : BitVec 32 := 0#32
  let v342 : BitVec 1 := Scalar.cmpi .sgt v340 c0_i32_141
  let v343 : BitVec 32 := Scalar.extui v342
  let c0_i32_142 : BitVec 32 := 0#32
  let v344 : BitVec 1 := Scalar.cmpi .slt v340 c0_i32_142
  let v345 : BitVec 32 := Scalar.extui v344
  let v346 : BitVec 32 := Scalar.subi v343 v345
  let c2_i32_140 : BitVec 32 := 2#32
  let c0_i32_143 : BitVec 32 := 0#32
  let v347 : BitVec 1 := Scalar.cmpi .sgt c2_i32_140 c0_i32_143
  let v348 : BitVec 32 := Scalar.extui v347
  let c0_i32_144 : BitVec 32 := 0#32
  let v349 : BitVec 1 := Scalar.cmpi .slt c2_i32_140 c0_i32_144
  let v350 : BitVec 32 := Scalar.extui v349
  let v351 : BitVec 32 := Scalar.subi v348 v350
  let v352 : BitVec 1 := Scalar.cmpi .ne v346 v351
  let v353 : BitVec 32 := Scalar.remsi v340 c2_i32_140
  let c0_i32_145 : BitVec 32 := 0#32
  let v354 : BitVec 1 := Scalar.cmpi .ne v353 c0_i32_145
  let v355 : BitVec 1 := Scalar.andi v352 v354
  let v341 : BitVec 32 := Scalar.divsi v340 c2_i32_140
  let c1_i32_146 : BitVec 32 := 1#32
  let v356 : BitVec 32 := Scalar.subi v341 c1_i32_146
  let v357 : BitVec 32 := Scalar.select v355 v356 v341
  let v365 : BitVec 32 := Scalar.muli c2_i32_151 v357
  let v366 : BitVec 32 := Scalar.addi v306 v365
  let c1_i32_160 : BitVec 32 := 1#32
  let arg18 : BitVec 32 := Scf.iv v366 c1_i32_160 k0_t7
  let c0_i32_206 : BitVec 32 := 0#32
  let v481 : BitVec 32 := Scalar.addi arg18 c0_i32_206
  let v482 : BitVec 32 := Scalar.muli c2_i32_207 v481
  let v483 : BitVec 32 := Scalar.addi v482 c1_i32_208
  let c512_i32_209 : BitVec 32 := 512#32
  let v484 : BitVec 32 := Scalar.muli v483 c512_i32_209
  let v485 : BitVec 32 := v484
  let v486 : Index := Scalar.indexCast v485
  let c0_211 : Index := 0#32
  ![0, v486.toNat, 0]
def k0_off66 (i : grid0.Coords) (v203 : BitVec 32) (v258 : BitVec 32) (k0_t7 : Fin (k0_t7_loop i v203 v258).trips) : Fin 4 → Nat :=
  let c0_222 : Index := 0#32
  let c2_i32_207 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_151 : BitVec 32 := 2#32
  let c2_i32 : BitVec 32 := 2#32
  let arg2 : BitVec 32 := BitVec.ofNat 32 (i 2).val
  let v71 : BitVec 32 := Scalar.muli c2_i32 arg2
  let c0_i32_134 : BitVec 32 := 0#32
  let v324 : BitVec 1 := Scalar.cmpi .sgt v71 c0_i32_134
  let v325 : BitVec 32 := Scalar.extui v324
  let c0_i32_135 : BitVec 32 := 0#32
  let v326 : BitVec 1 := Scalar.cmpi .slt v71 c0_i32_135
  let v327 : BitVec 32 := Scalar.extui v326
  let v328 : BitVec 32 := Scalar.subi v325 v327
  let c2_i32_133 : BitVec 32 := 2#32
  let c0_i32_136 : BitVec 32 := 0#32
  let v329 : BitVec 1 := Scalar.cmpi .sgt c2_i32_133 c0_i32_136
  let v330 : BitVec 32 := Scalar.extui v329
  let c0_i32_137 : BitVec 32 := 0#32
  let v331 : BitVec 1 := Scalar.cmpi .slt c2_i32_133 c0_i32_137
  let v332 : BitVec 32 := Scalar.extui v331
  let v333 : BitVec 32 := Scalar.subi v330 v332
  let v334 : BitVec 1 := Scalar.cmpi .ne v328 v333
  let v335 : BitVec 32 := Scalar.remsi v71 c2_i32_133
  let c0_i32_138 : BitVec 32 := 0#32
  let v336 : BitVec 1 := Scalar.cmpi .ne v335 c0_i32_138
  let v337 : BitVec 1 := Scalar.andi v334 v336
  let v323 : BitVec 32 := Scalar.divsi v71 c2_i32_133
  let c1_i32_139 : BitVec 32 := 1#32
  let v338 : BitVec 32 := Scalar.subi v323 c1_i32_139
  let v339 : BitVec 32 := Scalar.select v337 v338 v323
  let v340 : BitVec 32 := Scalar.subi v339 v306
  let c0_i32_141 : BitVec 32 := 0#32
  let v342 : BitVec 1 := Scalar.cmpi .sgt v340 c0_i32_141
  let v343 : BitVec 32 := Scalar.extui v342
  let c0_i32_142 : BitVec 32 := 0#32
  let v344 : BitVec 1 := Scalar.cmpi .slt v340 c0_i32_142
  let v345 : BitVec 32 := Scalar.extui v344
  let v346 : BitVec 32 := Scalar.subi v343 v345
  let c2_i32_140 : BitVec 32 := 2#32
  let c0_i32_143 : BitVec 32 := 0#32
  let v347 : BitVec 1 := Scalar.cmpi .sgt c2_i32_140 c0_i32_143
  let v348 : BitVec 32 := Scalar.extui v347
  let c0_i32_144 : BitVec 32 := 0#32
  let v349 : BitVec 1 := Scalar.cmpi .slt c2_i32_140 c0_i32_144
  let v350 : BitVec 32 := Scalar.extui v349
  let v351 : BitVec 32 := Scalar.subi v348 v350
  let v352 : BitVec 1 := Scalar.cmpi .ne v346 v351
  let v353 : BitVec 32 := Scalar.remsi v340 c2_i32_140
  let c0_i32_145 : BitVec 32 := 0#32
  let v354 : BitVec 1 := Scalar.cmpi .ne v353 c0_i32_145
  let v355 : BitVec 1 := Scalar.andi v352 v354
  let v341 : BitVec 32 := Scalar.divsi v340 c2_i32_140
  let c1_i32_146 : BitVec 32 := 1#32
  let v356 : BitVec 32 := Scalar.subi v341 c1_i32_146
  let v357 : BitVec 32 := Scalar.select v355 v356 v341
  let v365 : BitVec 32 := Scalar.muli c2_i32_151 v357
  let v366 : BitVec 32 := Scalar.addi v306 v365
  let c1_i32_160 : BitVec 32 := 1#32
  let arg18 : BitVec 32 := Scf.iv v366 c1_i32_160 k0_t7
  let c0_i32_206 : BitVec 32 := 0#32
  let v481 : BitVec 32 := Scalar.addi arg18 c0_i32_206
  let v482 : BitVec 32 := Scalar.muli c2_i32_207 v481
  let v506 : Index := Scalar.indexCast v482
  let c0_223 : Index := 0#32
  let c0_224 : Index := 0#32
  ![0, v506.toNat, 0, 0]
def k0_mult52 (i : grid0.Coords) (v203 : BitVec 32) (v258 : BitVec 32) (k0_t7 : Fin (k0_t7_loop i v203 v258).trips) : BitVec 32 :=
  let c2_i32_207 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_151 : BitVec 32 := 2#32
  let c2_i32 : BitVec 32 := 2#32
  let arg2 : BitVec 32 := BitVec.ofNat 32 (i 2).val
  let v71 : BitVec 32 := Scalar.muli c2_i32 arg2
  let c0_i32_134 : BitVec 32 := 0#32
  let v324 : BitVec 1 := Scalar.cmpi .sgt v71 c0_i32_134
  let v325 : BitVec 32 := Scalar.extui v324
  let c0_i32_135 : BitVec 32 := 0#32
  let v326 : BitVec 1 := Scalar.cmpi .slt v71 c0_i32_135
  let v327 : BitVec 32 := Scalar.extui v326
  let v328 : BitVec 32 := Scalar.subi v325 v327
  let c2_i32_133 : BitVec 32 := 2#32
  let c0_i32_136 : BitVec 32 := 0#32
  let v329 : BitVec 1 := Scalar.cmpi .sgt c2_i32_133 c0_i32_136
  let v330 : BitVec 32 := Scalar.extui v329
  let c0_i32_137 : BitVec 32 := 0#32
  let v331 : BitVec 1 := Scalar.cmpi .slt c2_i32_133 c0_i32_137
  let v332 : BitVec 32 := Scalar.extui v331
  let v333 : BitVec 32 := Scalar.subi v330 v332
  let v334 : BitVec 1 := Scalar.cmpi .ne v328 v333
  let v335 : BitVec 32 := Scalar.remsi v71 c2_i32_133
  let c0_i32_138 : BitVec 32 := 0#32
  let v336 : BitVec 1 := Scalar.cmpi .ne v335 c0_i32_138
  let v337 : BitVec 1 := Scalar.andi v334 v336
  let v323 : BitVec 32 := Scalar.divsi v71 c2_i32_133
  let c1_i32_139 : BitVec 32 := 1#32
  let v338 : BitVec 32 := Scalar.subi v323 c1_i32_139
  let v339 : BitVec 32 := Scalar.select v337 v338 v323
  let v340 : BitVec 32 := Scalar.subi v339 v306
  let c0_i32_141 : BitVec 32 := 0#32
  let v342 : BitVec 1 := Scalar.cmpi .sgt v340 c0_i32_141
  let v343 : BitVec 32 := Scalar.extui v342
  let c0_i32_142 : BitVec 32 := 0#32
  let v344 : BitVec 1 := Scalar.cmpi .slt v340 c0_i32_142
  let v345 : BitVec 32 := Scalar.extui v344
  let v346 : BitVec 32 := Scalar.subi v343 v345
  let c2_i32_140 : BitVec 32 := 2#32
  let c0_i32_143 : BitVec 32 := 0#32
  let v347 : BitVec 1 := Scalar.cmpi .sgt c2_i32_140 c0_i32_143
  let v348 : BitVec 32 := Scalar.extui v347
  let c0_i32_144 : BitVec 32 := 0#32
  let v349 : BitVec 1 := Scalar.cmpi .slt c2_i32_140 c0_i32_144
  let v350 : BitVec 32 := Scalar.extui v349
  let v351 : BitVec 32 := Scalar.subi v348 v350
  let v352 : BitVec 1 := Scalar.cmpi .ne v346 v351
  let v353 : BitVec 32 := Scalar.remsi v340 c2_i32_140
  let c0_i32_145 : BitVec 32 := 0#32
  let v354 : BitVec 1 := Scalar.cmpi .ne v353 c0_i32_145
  let v355 : BitVec 1 := Scalar.andi v352 v354
  let v341 : BitVec 32 := Scalar.divsi v340 c2_i32_140
  let c1_i32_146 : BitVec 32 := 1#32
  let v356 : BitVec 32 := Scalar.subi v341 c1_i32_146
  let v357 : BitVec 32 := Scalar.select v355 v356 v341
  let v365 : BitVec 32 := Scalar.muli c2_i32_151 v357
  let v366 : BitVec 32 := Scalar.addi v306 v365
  let c1_i32_160 : BitVec 32 := 1#32
  let arg18 : BitVec 32 := Scf.iv v366 c1_i32_160 k0_t7
  let c0_i32_206 : BitVec 32 := 0#32
  let v481 : BitVec 32 := Scalar.addi arg18 c0_i32_206
  let v482 : BitVec 32 := Scalar.muli c2_i32_207 v481
  let c1_i32_226 : BitVec 32 := 1#32
  let v511 : BitVec 32 := Scalar.addi v482 c1_i32_226
  let c512_i32_227 : BitVec 32 := 512#32
  let v512 : BitVec 32 := Scalar.muli v511 c512_i32_227
  v512
def k0_off67 (i : grid0.Coords) (v203 : BitVec 32) (v258 : BitVec 32) (k0_t7 : Fin (k0_t7_loop i v203 v258).trips) : Fin 4 → Nat :=
  let c0_240 : Index := 0#32
  let c2_i32_207 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_151 : BitVec 32 := 2#32
  let c2_i32 : BitVec 32 := 2#32
  let arg2 : BitVec 32 := BitVec.ofNat 32 (i 2).val
  let v71 : BitVec 32 := Scalar.muli c2_i32 arg2
  let c0_i32_134 : BitVec 32 := 0#32
  let v324 : BitVec 1 := Scalar.cmpi .sgt v71 c0_i32_134
  let v325 : BitVec 32 := Scalar.extui v324
  let c0_i32_135 : BitVec 32 := 0#32
  let v326 : BitVec 1 := Scalar.cmpi .slt v71 c0_i32_135
  let v327 : BitVec 32 := Scalar.extui v326
  let v328 : BitVec 32 := Scalar.subi v325 v327
  let c2_i32_133 : BitVec 32 := 2#32
  let c0_i32_136 : BitVec 32 := 0#32
  let v329 : BitVec 1 := Scalar.cmpi .sgt c2_i32_133 c0_i32_136
  let v330 : BitVec 32 := Scalar.extui v329
  let c0_i32_137 : BitVec 32 := 0#32
  let v331 : BitVec 1 := Scalar.cmpi .slt c2_i32_133 c0_i32_137
  let v332 : BitVec 32 := Scalar.extui v331
  let v333 : BitVec 32 := Scalar.subi v330 v332
  let v334 : BitVec 1 := Scalar.cmpi .ne v328 v333
  let v335 : BitVec 32 := Scalar.remsi v71 c2_i32_133
  let c0_i32_138 : BitVec 32 := 0#32
  let v336 : BitVec 1 := Scalar.cmpi .ne v335 c0_i32_138
  let v337 : BitVec 1 := Scalar.andi v334 v336
  let v323 : BitVec 32 := Scalar.divsi v71 c2_i32_133
  let c1_i32_139 : BitVec 32 := 1#32
  let v338 : BitVec 32 := Scalar.subi v323 c1_i32_139
  let v339 : BitVec 32 := Scalar.select v337 v338 v323
  let v340 : BitVec 32 := Scalar.subi v339 v306
  let c0_i32_141 : BitVec 32 := 0#32
  let v342 : BitVec 1 := Scalar.cmpi .sgt v340 c0_i32_141
  let v343 : BitVec 32 := Scalar.extui v342
  let c0_i32_142 : BitVec 32 := 0#32
  let v344 : BitVec 1 := Scalar.cmpi .slt v340 c0_i32_142
  let v345 : BitVec 32 := Scalar.extui v344
  let v346 : BitVec 32 := Scalar.subi v343 v345
  let c2_i32_140 : BitVec 32 := 2#32
  let c0_i32_143 : BitVec 32 := 0#32
  let v347 : BitVec 1 := Scalar.cmpi .sgt c2_i32_140 c0_i32_143
  let v348 : BitVec 32 := Scalar.extui v347
  let c0_i32_144 : BitVec 32 := 0#32
  let v349 : BitVec 1 := Scalar.cmpi .slt c2_i32_140 c0_i32_144
  let v350 : BitVec 32 := Scalar.extui v349
  let v351 : BitVec 32 := Scalar.subi v348 v350
  let v352 : BitVec 1 := Scalar.cmpi .ne v346 v351
  let v353 : BitVec 32 := Scalar.remsi v340 c2_i32_140
  let c0_i32_145 : BitVec 32 := 0#32
  let v354 : BitVec 1 := Scalar.cmpi .ne v353 c0_i32_145
  let v355 : BitVec 1 := Scalar.andi v352 v354
  let v341 : BitVec 32 := Scalar.divsi v340 c2_i32_140
  let c1_i32_146 : BitVec 32 := 1#32
  let v356 : BitVec 32 := Scalar.subi v341 c1_i32_146
  let v357 : BitVec 32 := Scalar.select v355 v356 v341
  let v365 : BitVec 32 := Scalar.muli c2_i32_151 v357
  let v366 : BitVec 32 := Scalar.addi v306 v365
  let c1_i32_160 : BitVec 32 := 1#32
  let arg18 : BitVec 32 := Scf.iv v366 c1_i32_160 k0_t7
  let c0_i32_206 : BitVec 32 := 0#32
  let v481 : BitVec 32 := Scalar.addi arg18 c0_i32_206
  let v482 : BitVec 32 := Scalar.muli c2_i32_207 v481
  let v534 : Index := Scalar.indexCast v482
  let c64_241 : Index := 64#32
  let c0_242 : Index := 0#32
  ![0, v534.toNat, 64, 0]
def k0_mult53 (i : grid0.Coords) (v203 : BitVec 32) (v258 : BitVec 32) (k0_t7 : Fin (k0_t7_loop i v203 v258).trips) : BitVec 32 :=
  let c2_i32_207 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_151 : BitVec 32 := 2#32
  let c2_i32 : BitVec 32 := 2#32
  let arg2 : BitVec 32 := BitVec.ofNat 32 (i 2).val
  let v71 : BitVec 32 := Scalar.muli c2_i32 arg2
  let c0_i32_134 : BitVec 32 := 0#32
  let v324 : BitVec 1 := Scalar.cmpi .sgt v71 c0_i32_134
  let v325 : BitVec 32 := Scalar.extui v324
  let c0_i32_135 : BitVec 32 := 0#32
  let v326 : BitVec 1 := Scalar.cmpi .slt v71 c0_i32_135
  let v327 : BitVec 32 := Scalar.extui v326
  let v328 : BitVec 32 := Scalar.subi v325 v327
  let c2_i32_133 : BitVec 32 := 2#32
  let c0_i32_136 : BitVec 32 := 0#32
  let v329 : BitVec 1 := Scalar.cmpi .sgt c2_i32_133 c0_i32_136
  let v330 : BitVec 32 := Scalar.extui v329
  let c0_i32_137 : BitVec 32 := 0#32
  let v331 : BitVec 1 := Scalar.cmpi .slt c2_i32_133 c0_i32_137
  let v332 : BitVec 32 := Scalar.extui v331
  let v333 : BitVec 32 := Scalar.subi v330 v332
  let v334 : BitVec 1 := Scalar.cmpi .ne v328 v333
  let v335 : BitVec 32 := Scalar.remsi v71 c2_i32_133
  let c0_i32_138 : BitVec 32 := 0#32
  let v336 : BitVec 1 := Scalar.cmpi .ne v335 c0_i32_138
  let v337 : BitVec 1 := Scalar.andi v334 v336
  let v323 : BitVec 32 := Scalar.divsi v71 c2_i32_133
  let c1_i32_139 : BitVec 32 := 1#32
  let v338 : BitVec 32 := Scalar.subi v323 c1_i32_139
  let v339 : BitVec 32 := Scalar.select v337 v338 v323
  let v340 : BitVec 32 := Scalar.subi v339 v306
  let c0_i32_141 : BitVec 32 := 0#32
  let v342 : BitVec 1 := Scalar.cmpi .sgt v340 c0_i32_141
  let v343 : BitVec 32 := Scalar.extui v342
  let c0_i32_142 : BitVec 32 := 0#32
  let v344 : BitVec 1 := Scalar.cmpi .slt v340 c0_i32_142
  let v345 : BitVec 32 := Scalar.extui v344
  let v346 : BitVec 32 := Scalar.subi v343 v345
  let c2_i32_140 : BitVec 32 := 2#32
  let c0_i32_143 : BitVec 32 := 0#32
  let v347 : BitVec 1 := Scalar.cmpi .sgt c2_i32_140 c0_i32_143
  let v348 : BitVec 32 := Scalar.extui v347
  let c0_i32_144 : BitVec 32 := 0#32
  let v349 : BitVec 1 := Scalar.cmpi .slt c2_i32_140 c0_i32_144
  let v350 : BitVec 32 := Scalar.extui v349
  let v351 : BitVec 32 := Scalar.subi v348 v350
  let v352 : BitVec 1 := Scalar.cmpi .ne v346 v351
  let v353 : BitVec 32 := Scalar.remsi v340 c2_i32_140
  let c0_i32_145 : BitVec 32 := 0#32
  let v354 : BitVec 1 := Scalar.cmpi .ne v353 c0_i32_145
  let v355 : BitVec 1 := Scalar.andi v352 v354
  let v341 : BitVec 32 := Scalar.divsi v340 c2_i32_140
  let c1_i32_146 : BitVec 32 := 1#32
  let v356 : BitVec 32 := Scalar.subi v341 c1_i32_146
  let v357 : BitVec 32 := Scalar.select v355 v356 v341
  let v365 : BitVec 32 := Scalar.muli c2_i32_151 v357
  let v366 : BitVec 32 := Scalar.addi v306 v365
  let c1_i32_160 : BitVec 32 := 1#32
  let arg18 : BitVec 32 := Scf.iv v366 c1_i32_160 k0_t7
  let c0_i32_206 : BitVec 32 := 0#32
  let v481 : BitVec 32 := Scalar.addi arg18 c0_i32_206
  let v482 : BitVec 32 := Scalar.muli c2_i32_207 v481
  let c2_i32_244 : BitVec 32 := 2#32
  let v539 : BitVec 32 := Scalar.addi v482 c2_i32_244
  let c512_i32_245 : BitVec 32 := 512#32
  let v540 : BitVec 32 := Scalar.muli v539 c512_i32_245
  v540
def k0_off68 (i : grid0.Coords) (v203 : BitVec 32) (v258 : BitVec 32) (k0_t7 : Fin (k0_t7_loop i v203 v258).trips) : Fin 4 → Nat :=
  let c0_260 : Index := 0#32
  let c2_i32_207 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_151 : BitVec 32 := 2#32
  let c2_i32 : BitVec 32 := 2#32
  let arg2 : BitVec 32 := BitVec.ofNat 32 (i 2).val
  let v71 : BitVec 32 := Scalar.muli c2_i32 arg2
  let c0_i32_134 : BitVec 32 := 0#32
  let v324 : BitVec 1 := Scalar.cmpi .sgt v71 c0_i32_134
  let v325 : BitVec 32 := Scalar.extui v324
  let c0_i32_135 : BitVec 32 := 0#32
  let v326 : BitVec 1 := Scalar.cmpi .slt v71 c0_i32_135
  let v327 : BitVec 32 := Scalar.extui v326
  let v328 : BitVec 32 := Scalar.subi v325 v327
  let c2_i32_133 : BitVec 32 := 2#32
  let c0_i32_136 : BitVec 32 := 0#32
  let v329 : BitVec 1 := Scalar.cmpi .sgt c2_i32_133 c0_i32_136
  let v330 : BitVec 32 := Scalar.extui v329
  let c0_i32_137 : BitVec 32 := 0#32
  let v331 : BitVec 1 := Scalar.cmpi .slt c2_i32_133 c0_i32_137
  let v332 : BitVec 32 := Scalar.extui v331
  let v333 : BitVec 32 := Scalar.subi v330 v332
  let v334 : BitVec 1 := Scalar.cmpi .ne v328 v333
  let v335 : BitVec 32 := Scalar.remsi v71 c2_i32_133
  let c0_i32_138 : BitVec 32 := 0#32
  let v336 : BitVec 1 := Scalar.cmpi .ne v335 c0_i32_138
  let v337 : BitVec 1 := Scalar.andi v334 v336
  let v323 : BitVec 32 := Scalar.divsi v71 c2_i32_133
  let c1_i32_139 : BitVec 32 := 1#32
  let v338 : BitVec 32 := Scalar.subi v323 c1_i32_139
  let v339 : BitVec 32 := Scalar.select v337 v338 v323
  let v340 : BitVec 32 := Scalar.subi v339 v306
  let c0_i32_141 : BitVec 32 := 0#32
  let v342 : BitVec 1 := Scalar.cmpi .sgt v340 c0_i32_141
  let v343 : BitVec 32 := Scalar.extui v342
  let c0_i32_142 : BitVec 32 := 0#32
  let v344 : BitVec 1 := Scalar.cmpi .slt v340 c0_i32_142
  let v345 : BitVec 32 := Scalar.extui v344
  let v346 : BitVec 32 := Scalar.subi v343 v345
  let c2_i32_140 : BitVec 32 := 2#32
  let c0_i32_143 : BitVec 32 := 0#32
  let v347 : BitVec 1 := Scalar.cmpi .sgt c2_i32_140 c0_i32_143
  let v348 : BitVec 32 := Scalar.extui v347
  let c0_i32_144 : BitVec 32 := 0#32
  let v349 : BitVec 1 := Scalar.cmpi .slt c2_i32_140 c0_i32_144
  let v350 : BitVec 32 := Scalar.extui v349
  let v351 : BitVec 32 := Scalar.subi v348 v350
  let v352 : BitVec 1 := Scalar.cmpi .ne v346 v351
  let v353 : BitVec 32 := Scalar.remsi v340 c2_i32_140
  let c0_i32_145 : BitVec 32 := 0#32
  let v354 : BitVec 1 := Scalar.cmpi .ne v353 c0_i32_145
  let v355 : BitVec 1 := Scalar.andi v352 v354
  let v341 : BitVec 32 := Scalar.divsi v340 c2_i32_140
  let c1_i32_146 : BitVec 32 := 1#32
  let v356 : BitVec 32 := Scalar.subi v341 c1_i32_146
  let v357 : BitVec 32 := Scalar.select v355 v356 v341
  let v365 : BitVec 32 := Scalar.muli c2_i32_151 v357
  let v366 : BitVec 32 := Scalar.addi v306 v365
  let c1_i32_160 : BitVec 32 := 1#32
  let arg18 : BitVec 32 := Scf.iv v366 c1_i32_160 k0_t7
  let c0_i32_206 : BitVec 32 := 0#32
  let v481 : BitVec 32 := Scalar.addi arg18 c0_i32_206
  let v482 : BitVec 32 := Scalar.muli c2_i32_207 v481
  let c1_i32_259 : BitVec 32 := 1#32
  let v570 : BitVec 32 := Scalar.addi v482 c1_i32_259
  let v571 : Index := Scalar.indexCast v570
  let c0_261 : Index := 0#32
  let c0_262 : Index := 0#32
  ![0, v571.toNat, 0, 0]
def k0_mult54 (i : grid0.Coords) (v203 : BitVec 32) (v258 : BitVec 32) (k0_t7 : Fin (k0_t7_loop i v203 v258).trips) : BitVec 32 :=
  let c2_i32_207 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_151 : BitVec 32 := 2#32
  let c2_i32 : BitVec 32 := 2#32
  let arg2 : BitVec 32 := BitVec.ofNat 32 (i 2).val
  let v71 : BitVec 32 := Scalar.muli c2_i32 arg2
  let c0_i32_134 : BitVec 32 := 0#32
  let v324 : BitVec 1 := Scalar.cmpi .sgt v71 c0_i32_134
  let v325 : BitVec 32 := Scalar.extui v324
  let c0_i32_135 : BitVec 32 := 0#32
  let v326 : BitVec 1 := Scalar.cmpi .slt v71 c0_i32_135
  let v327 : BitVec 32 := Scalar.extui v326
  let v328 : BitVec 32 := Scalar.subi v325 v327
  let c2_i32_133 : BitVec 32 := 2#32
  let c0_i32_136 : BitVec 32 := 0#32
  let v329 : BitVec 1 := Scalar.cmpi .sgt c2_i32_133 c0_i32_136
  let v330 : BitVec 32 := Scalar.extui v329
  let c0_i32_137 : BitVec 32 := 0#32
  let v331 : BitVec 1 := Scalar.cmpi .slt c2_i32_133 c0_i32_137
  let v332 : BitVec 32 := Scalar.extui v331
  let v333 : BitVec 32 := Scalar.subi v330 v332
  let v334 : BitVec 1 := Scalar.cmpi .ne v328 v333
  let v335 : BitVec 32 := Scalar.remsi v71 c2_i32_133
  let c0_i32_138 : BitVec 32 := 0#32
  let v336 : BitVec 1 := Scalar.cmpi .ne v335 c0_i32_138
  let v337 : BitVec 1 := Scalar.andi v334 v336
  let v323 : BitVec 32 := Scalar.divsi v71 c2_i32_133
  let c1_i32_139 : BitVec 32 := 1#32
  let v338 : BitVec 32 := Scalar.subi v323 c1_i32_139
  let v339 : BitVec 32 := Scalar.select v337 v338 v323
  let v340 : BitVec 32 := Scalar.subi v339 v306
  let c0_i32_141 : BitVec 32 := 0#32
  let v342 : BitVec 1 := Scalar.cmpi .sgt v340 c0_i32_141
  let v343 : BitVec 32 := Scalar.extui v342
  let c0_i32_142 : BitVec 32 := 0#32
  let v344 : BitVec 1 := Scalar.cmpi .slt v340 c0_i32_142
  let v345 : BitVec 32 := Scalar.extui v344
  let v346 : BitVec 32 := Scalar.subi v343 v345
  let c2_i32_140 : BitVec 32 := 2#32
  let c0_i32_143 : BitVec 32 := 0#32
  let v347 : BitVec 1 := Scalar.cmpi .sgt c2_i32_140 c0_i32_143
  let v348 : BitVec 32 := Scalar.extui v347
  let c0_i32_144 : BitVec 32 := 0#32
  let v349 : BitVec 1 := Scalar.cmpi .slt c2_i32_140 c0_i32_144
  let v350 : BitVec 32 := Scalar.extui v349
  let v351 : BitVec 32 := Scalar.subi v348 v350
  let v352 : BitVec 1 := Scalar.cmpi .ne v346 v351
  let v353 : BitVec 32 := Scalar.remsi v340 c2_i32_140
  let c0_i32_145 : BitVec 32 := 0#32
  let v354 : BitVec 1 := Scalar.cmpi .ne v353 c0_i32_145
  let v355 : BitVec 1 := Scalar.andi v352 v354
  let v341 : BitVec 32 := Scalar.divsi v340 c2_i32_140
  let c1_i32_146 : BitVec 32 := 1#32
  let v356 : BitVec 32 := Scalar.subi v341 c1_i32_146
  let v357 : BitVec 32 := Scalar.select v355 v356 v341
  let v365 : BitVec 32 := Scalar.muli c2_i32_151 v357
  let v366 : BitVec 32 := Scalar.addi v306 v365
  let c1_i32_160 : BitVec 32 := 1#32
  let arg18 : BitVec 32 := Scf.iv v366 c1_i32_160 k0_t7
  let c0_i32_206 : BitVec 32 := 0#32
  let v481 : BitVec 32 := Scalar.addi arg18 c0_i32_206
  let v482 : BitVec 32 := Scalar.muli c2_i32_207 v481
  let c2_i32_264 : BitVec 32 := 2#32
  let v576 : BitVec 32 := Scalar.addi v482 c2_i32_264
  let c512_i32_265 : BitVec 32 := 512#32
  let v577 : BitVec 32 := Scalar.muli v576 c512_i32_265
  v577
def k0_off69 (i : grid0.Coords) (v203 : BitVec 32) (v258 : BitVec 32) (k0_t7 : Fin (k0_t7_loop i v203 v258).trips) : Fin 4 → Nat :=
  let c0_280 : Index := 0#32
  let c2_i32_207 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_151 : BitVec 32 := 2#32
  let c2_i32 : BitVec 32 := 2#32
  let arg2 : BitVec 32 := BitVec.ofNat 32 (i 2).val
  let v71 : BitVec 32 := Scalar.muli c2_i32 arg2
  let c0_i32_134 : BitVec 32 := 0#32
  let v324 : BitVec 1 := Scalar.cmpi .sgt v71 c0_i32_134
  let v325 : BitVec 32 := Scalar.extui v324
  let c0_i32_135 : BitVec 32 := 0#32
  let v326 : BitVec 1 := Scalar.cmpi .slt v71 c0_i32_135
  let v327 : BitVec 32 := Scalar.extui v326
  let v328 : BitVec 32 := Scalar.subi v325 v327
  let c2_i32_133 : BitVec 32 := 2#32
  let c0_i32_136 : BitVec 32 := 0#32
  let v329 : BitVec 1 := Scalar.cmpi .sgt c2_i32_133 c0_i32_136
  let v330 : BitVec 32 := Scalar.extui v329
  let c0_i32_137 : BitVec 32 := 0#32
  let v331 : BitVec 1 := Scalar.cmpi .slt c2_i32_133 c0_i32_137
  let v332 : BitVec 32 := Scalar.extui v331
  let v333 : BitVec 32 := Scalar.subi v330 v332
  let v334 : BitVec 1 := Scalar.cmpi .ne v328 v333
  let v335 : BitVec 32 := Scalar.remsi v71 c2_i32_133
  let c0_i32_138 : BitVec 32 := 0#32
  let v336 : BitVec 1 := Scalar.cmpi .ne v335 c0_i32_138
  let v337 : BitVec 1 := Scalar.andi v334 v336
  let v323 : BitVec 32 := Scalar.divsi v71 c2_i32_133
  let c1_i32_139 : BitVec 32 := 1#32
  let v338 : BitVec 32 := Scalar.subi v323 c1_i32_139
  let v339 : BitVec 32 := Scalar.select v337 v338 v323
  let v340 : BitVec 32 := Scalar.subi v339 v306
  let c0_i32_141 : BitVec 32 := 0#32
  let v342 : BitVec 1 := Scalar.cmpi .sgt v340 c0_i32_141
  let v343 : BitVec 32 := Scalar.extui v342
  let c0_i32_142 : BitVec 32 := 0#32
  let v344 : BitVec 1 := Scalar.cmpi .slt v340 c0_i32_142
  let v345 : BitVec 32 := Scalar.extui v344
  let v346 : BitVec 32 := Scalar.subi v343 v345
  let c2_i32_140 : BitVec 32 := 2#32
  let c0_i32_143 : BitVec 32 := 0#32
  let v347 : BitVec 1 := Scalar.cmpi .sgt c2_i32_140 c0_i32_143
  let v348 : BitVec 32 := Scalar.extui v347
  let c0_i32_144 : BitVec 32 := 0#32
  let v349 : BitVec 1 := Scalar.cmpi .slt c2_i32_140 c0_i32_144
  let v350 : BitVec 32 := Scalar.extui v349
  let v351 : BitVec 32 := Scalar.subi v348 v350
  let v352 : BitVec 1 := Scalar.cmpi .ne v346 v351
  let v353 : BitVec 32 := Scalar.remsi v340 c2_i32_140
  let c0_i32_145 : BitVec 32 := 0#32
  let v354 : BitVec 1 := Scalar.cmpi .ne v353 c0_i32_145
  let v355 : BitVec 1 := Scalar.andi v352 v354
  let v341 : BitVec 32 := Scalar.divsi v340 c2_i32_140
  let c1_i32_146 : BitVec 32 := 1#32
  let v356 : BitVec 32 := Scalar.subi v341 c1_i32_146
  let v357 : BitVec 32 := Scalar.select v355 v356 v341
  let v365 : BitVec 32 := Scalar.muli c2_i32_151 v357
  let v366 : BitVec 32 := Scalar.addi v306 v365
  let c1_i32_160 : BitVec 32 := 1#32
  let arg18 : BitVec 32 := Scf.iv v366 c1_i32_160 k0_t7
  let c0_i32_206 : BitVec 32 := 0#32
  let v481 : BitVec 32 := Scalar.addi arg18 c0_i32_206
  let v482 : BitVec 32 := Scalar.muli c2_i32_207 v481
  let c1_i32_279 : BitVec 32 := 1#32
  let v607 : BitVec 32 := Scalar.addi v482 c1_i32_279
  let v608 : Index := Scalar.indexCast v607
  let c64_281 : Index := 64#32
  let c0_282 : Index := 0#32
  ![0, v608.toNat, 64, 0]
@[reducible] def k0_t8_loop (i : grid0.Coords) (v203 : BitVec 32) (v258 : BitVec 32) : Scf.Loop 32 :=
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_151 : BitVec 32 := 2#32
  let c2_i32 : BitVec 32 := 2#32
  let arg2 : BitVec 32 := BitVec.ofNat 32 (i 2).val
  let v71 : BitVec 32 := Scalar.muli c2_i32 arg2
  let c0_i32_134 : BitVec 32 := 0#32
  let v324 : BitVec 1 := Scalar.cmpi .sgt v71 c0_i32_134
  let v325 : BitVec 32 := Scalar.extui v324
  let c0_i32_135 : BitVec 32 := 0#32
  let v326 : BitVec 1 := Scalar.cmpi .slt v71 c0_i32_135
  let v327 : BitVec 32 := Scalar.extui v326
  let v328 : BitVec 32 := Scalar.subi v325 v327
  let c2_i32_133 : BitVec 32 := 2#32
  let c0_i32_136 : BitVec 32 := 0#32
  let v329 : BitVec 1 := Scalar.cmpi .sgt c2_i32_133 c0_i32_136
  let v330 : BitVec 32 := Scalar.extui v329
  let c0_i32_137 : BitVec 32 := 0#32
  let v331 : BitVec 1 := Scalar.cmpi .slt c2_i32_133 c0_i32_137
  let v332 : BitVec 32 := Scalar.extui v331
  let v333 : BitVec 32 := Scalar.subi v330 v332
  let v334 : BitVec 1 := Scalar.cmpi .ne v328 v333
  let v335 : BitVec 32 := Scalar.remsi v71 c2_i32_133
  let c0_i32_138 : BitVec 32 := 0#32
  let v336 : BitVec 1 := Scalar.cmpi .ne v335 c0_i32_138
  let v337 : BitVec 1 := Scalar.andi v334 v336
  let v323 : BitVec 32 := Scalar.divsi v71 c2_i32_133
  let c1_i32_139 : BitVec 32 := 1#32
  let v338 : BitVec 32 := Scalar.subi v323 c1_i32_139
  let v339 : BitVec 32 := Scalar.select v337 v338 v323
  let v340 : BitVec 32 := Scalar.subi v339 v306
  let c0_i32_141 : BitVec 32 := 0#32
  let v342 : BitVec 1 := Scalar.cmpi .sgt v340 c0_i32_141
  let v343 : BitVec 32 := Scalar.extui v342
  let c0_i32_142 : BitVec 32 := 0#32
  let v344 : BitVec 1 := Scalar.cmpi .slt v340 c0_i32_142
  let v345 : BitVec 32 := Scalar.extui v344
  let v346 : BitVec 32 := Scalar.subi v343 v345
  let c2_i32_140 : BitVec 32 := 2#32
  let c0_i32_143 : BitVec 32 := 0#32
  let v347 : BitVec 1 := Scalar.cmpi .sgt c2_i32_140 c0_i32_143
  let v348 : BitVec 32 := Scalar.extui v347
  let c0_i32_144 : BitVec 32 := 0#32
  let v349 : BitVec 1 := Scalar.cmpi .slt c2_i32_140 c0_i32_144
  let v350 : BitVec 32 := Scalar.extui v349
  let v351 : BitVec 32 := Scalar.subi v348 v350
  let v352 : BitVec 1 := Scalar.cmpi .ne v346 v351
  let v353 : BitVec 32 := Scalar.remsi v340 c2_i32_140
  let c0_i32_145 : BitVec 32 := 0#32
  let v354 : BitVec 1 := Scalar.cmpi .ne v353 c0_i32_145
  let v355 : BitVec 1 := Scalar.andi v352 v354
  let v341 : BitVec 32 := Scalar.divsi v340 c2_i32_140
  let c1_i32_146 : BitVec 32 := 1#32
  let v356 : BitVec 32 := Scalar.subi v341 c1_i32_146
  let v357 : BitVec 32 := Scalar.select v355 v356 v341
  let v365 : BitVec 32 := Scalar.muli c2_i32_151 v357
  let v366 : BitVec 32 := Scalar.addi v306 v365
  let c0_i32_153 : BitVec 32 := 0#32
  let v368 : BitVec 1 := Scalar.cmpi .sgt v71 c0_i32_153
  let v369 : BitVec 32 := Scalar.extui v368
  let c0_i32_154 : BitVec 32 := 0#32
  let v370 : BitVec 1 := Scalar.cmpi .slt v71 c0_i32_154
  let v371 : BitVec 32 := Scalar.extui v370
  let v372 : BitVec 32 := Scalar.subi v369 v371
  let c2_i32_152 : BitVec 32 := 2#32
  let c0_i32_155 : BitVec 32 := 0#32
  let v373 : BitVec 1 := Scalar.cmpi .sgt c2_i32_152 c0_i32_155
  let v374 : BitVec 32 := Scalar.extui v373
  let c0_i32_156 : BitVec 32 := 0#32
  let v375 : BitVec 1 := Scalar.cmpi .slt c2_i32_152 c0_i32_156
  let v376 : BitVec 32 := Scalar.extui v375
  let v377 : BitVec 32 := Scalar.subi v374 v376
  let v378 : BitVec 1 := Scalar.cmpi .ne v372 v377
  let v379 : BitVec 32 := Scalar.remsi v71 c2_i32_152
  let c0_i32_157 : BitVec 32 := 0#32
  let v380 : BitVec 1 := Scalar.cmpi .ne v379 c0_i32_157
  let v381 : BitVec 1 := Scalar.andi v378 v380
  let v367 : BitVec 32 := Scalar.divsi v71 c2_i32_152
  let c1_i32_158 : BitVec 32 := 1#32
  let v382 : BitVec 32 := Scalar.subi v367 c1_i32_158
  let v383 : BitVec 32 := Scalar.select v381 v382 v367
  let v384 : BitVec 32 := Scalar.subi v383 v366
  let c1_i32_159 : BitVec 32 := 1#32
  let v386 : BitVec 32 := Scalar.divsi v384 c1_i32_159
  let v387 : BitVec 32 := Scalar.muli v386 c1_i32_159
  let v388 : BitVec 32 := Scalar.addi v366 v387
  let v385 : BitVec 32 := Scalar.addi v366 v384
  let c1_i32_161 : BitVec 32 := 1#32
  ⟨v388, v385, c1_i32_161⟩
def k0_mult55 (i : grid0.Coords) (v203 : BitVec 32) (v258 : BitVec 32) (k0_t8 : Fin (k0_t8_loop i v203 v258).trips) : BitVec 32 :=
  let c2_i32_207 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_151 : BitVec 32 := 2#32
  let c2_i32 : BitVec 32 := 2#32
  let arg2 : BitVec 32 := BitVec.ofNat 32 (i 2).val
  let v71 : BitVec 32 := Scalar.muli c2_i32 arg2
  let c0_i32_134 : BitVec 32 := 0#32
  let v324 : BitVec 1 := Scalar.cmpi .sgt v71 c0_i32_134
  let v325 : BitVec 32 := Scalar.extui v324
  let c0_i32_135 : BitVec 32 := 0#32
  let v326 : BitVec 1 := Scalar.cmpi .slt v71 c0_i32_135
  let v327 : BitVec 32 := Scalar.extui v326
  let v328 : BitVec 32 := Scalar.subi v325 v327
  let c2_i32_133 : BitVec 32 := 2#32
  let c0_i32_136 : BitVec 32 := 0#32
  let v329 : BitVec 1 := Scalar.cmpi .sgt c2_i32_133 c0_i32_136
  let v330 : BitVec 32 := Scalar.extui v329
  let c0_i32_137 : BitVec 32 := 0#32
  let v331 : BitVec 1 := Scalar.cmpi .slt c2_i32_133 c0_i32_137
  let v332 : BitVec 32 := Scalar.extui v331
  let v333 : BitVec 32 := Scalar.subi v330 v332
  let v334 : BitVec 1 := Scalar.cmpi .ne v328 v333
  let v335 : BitVec 32 := Scalar.remsi v71 c2_i32_133
  let c0_i32_138 : BitVec 32 := 0#32
  let v336 : BitVec 1 := Scalar.cmpi .ne v335 c0_i32_138
  let v337 : BitVec 1 := Scalar.andi v334 v336
  let v323 : BitVec 32 := Scalar.divsi v71 c2_i32_133
  let c1_i32_139 : BitVec 32 := 1#32
  let v338 : BitVec 32 := Scalar.subi v323 c1_i32_139
  let v339 : BitVec 32 := Scalar.select v337 v338 v323
  let v340 : BitVec 32 := Scalar.subi v339 v306
  let c0_i32_141 : BitVec 32 := 0#32
  let v342 : BitVec 1 := Scalar.cmpi .sgt v340 c0_i32_141
  let v343 : BitVec 32 := Scalar.extui v342
  let c0_i32_142 : BitVec 32 := 0#32
  let v344 : BitVec 1 := Scalar.cmpi .slt v340 c0_i32_142
  let v345 : BitVec 32 := Scalar.extui v344
  let v346 : BitVec 32 := Scalar.subi v343 v345
  let c2_i32_140 : BitVec 32 := 2#32
  let c0_i32_143 : BitVec 32 := 0#32
  let v347 : BitVec 1 := Scalar.cmpi .sgt c2_i32_140 c0_i32_143
  let v348 : BitVec 32 := Scalar.extui v347
  let c0_i32_144 : BitVec 32 := 0#32
  let v349 : BitVec 1 := Scalar.cmpi .slt c2_i32_140 c0_i32_144
  let v350 : BitVec 32 := Scalar.extui v349
  let v351 : BitVec 32 := Scalar.subi v348 v350
  let v352 : BitVec 1 := Scalar.cmpi .ne v346 v351
  let v353 : BitVec 32 := Scalar.remsi v340 c2_i32_140
  let c0_i32_145 : BitVec 32 := 0#32
  let v354 : BitVec 1 := Scalar.cmpi .ne v353 c0_i32_145
  let v355 : BitVec 1 := Scalar.andi v352 v354
  let v341 : BitVec 32 := Scalar.divsi v340 c2_i32_140
  let c1_i32_146 : BitVec 32 := 1#32
  let v356 : BitVec 32 := Scalar.subi v341 c1_i32_146
  let v357 : BitVec 32 := Scalar.select v355 v356 v341
  let v365 : BitVec 32 := Scalar.muli c2_i32_151 v357
  let v366 : BitVec 32 := Scalar.addi v306 v365
  let c0_i32_153 : BitVec 32 := 0#32
  let v368 : BitVec 1 := Scalar.cmpi .sgt v71 c0_i32_153
  let v369 : BitVec 32 := Scalar.extui v368
  let c0_i32_154 : BitVec 32 := 0#32
  let v370 : BitVec 1 := Scalar.cmpi .slt v71 c0_i32_154
  let v371 : BitVec 32 := Scalar.extui v370
  let v372 : BitVec 32 := Scalar.subi v369 v371
  let c2_i32_152 : BitVec 32 := 2#32
  let c0_i32_155 : BitVec 32 := 0#32
  let v373 : BitVec 1 := Scalar.cmpi .sgt c2_i32_152 c0_i32_155
  let v374 : BitVec 32 := Scalar.extui v373
  let c0_i32_156 : BitVec 32 := 0#32
  let v375 : BitVec 1 := Scalar.cmpi .slt c2_i32_152 c0_i32_156
  let v376 : BitVec 32 := Scalar.extui v375
  let v377 : BitVec 32 := Scalar.subi v374 v376
  let v378 : BitVec 1 := Scalar.cmpi .ne v372 v377
  let v379 : BitVec 32 := Scalar.remsi v71 c2_i32_152
  let c0_i32_157 : BitVec 32 := 0#32
  let v380 : BitVec 1 := Scalar.cmpi .ne v379 c0_i32_157
  let v381 : BitVec 1 := Scalar.andi v378 v380
  let v367 : BitVec 32 := Scalar.divsi v71 c2_i32_152
  let c1_i32_158 : BitVec 32 := 1#32
  let v382 : BitVec 32 := Scalar.subi v367 c1_i32_158
  let v383 : BitVec 32 := Scalar.select v381 v382 v367
  let v384 : BitVec 32 := Scalar.subi v383 v366
  let c1_i32_159 : BitVec 32 := 1#32
  let v386 : BitVec 32 := Scalar.divsi v384 c1_i32_159
  let v387 : BitVec 32 := Scalar.muli v386 c1_i32_159
  let v388 : BitVec 32 := Scalar.addi v366 v387
  let c1_i32_161 : BitVec 32 := 1#32
  let arg18 : BitVec 32 := Scf.iv v388 c1_i32_161 k0_t8
  let c0_i32_206 : BitVec 32 := 0#32
  let v481 : BitVec 32 := Scalar.addi arg18 c0_i32_206
  let v482 : BitVec 32 := Scalar.muli c2_i32_207 v481
  let c1_i32_208 : BitVec 32 := 1#32
  let v483 : BitVec 32 := Scalar.addi v482 c1_i32_208
  let c512_i32_209 : BitVec 32 := 512#32
  let v484 : BitVec 32 := Scalar.muli v483 c512_i32_209
  v484
def k0_off70 (i : grid0.Coords) (v203 : BitVec 32) (v258 : BitVec 32) (k0_t8 : Fin (k0_t8_loop i v203 v258).trips) (c1_i32_208 : BitVec 32) : Fin 3 → Nat :=
  let c0_210 : Index := 0#32
  let c2_i32_207 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_151 : BitVec 32 := 2#32
  let c2_i32 : BitVec 32 := 2#32
  let arg2 : BitVec 32 := BitVec.ofNat 32 (i 2).val
  let v71 : BitVec 32 := Scalar.muli c2_i32 arg2
  let c0_i32_134 : BitVec 32 := 0#32
  let v324 : BitVec 1 := Scalar.cmpi .sgt v71 c0_i32_134
  let v325 : BitVec 32 := Scalar.extui v324
  let c0_i32_135 : BitVec 32 := 0#32
  let v326 : BitVec 1 := Scalar.cmpi .slt v71 c0_i32_135
  let v327 : BitVec 32 := Scalar.extui v326
  let v328 : BitVec 32 := Scalar.subi v325 v327
  let c2_i32_133 : BitVec 32 := 2#32
  let c0_i32_136 : BitVec 32 := 0#32
  let v329 : BitVec 1 := Scalar.cmpi .sgt c2_i32_133 c0_i32_136
  let v330 : BitVec 32 := Scalar.extui v329
  let c0_i32_137 : BitVec 32 := 0#32
  let v331 : BitVec 1 := Scalar.cmpi .slt c2_i32_133 c0_i32_137
  let v332 : BitVec 32 := Scalar.extui v331
  let v333 : BitVec 32 := Scalar.subi v330 v332
  let v334 : BitVec 1 := Scalar.cmpi .ne v328 v333
  let v335 : BitVec 32 := Scalar.remsi v71 c2_i32_133
  let c0_i32_138 : BitVec 32 := 0#32
  let v336 : BitVec 1 := Scalar.cmpi .ne v335 c0_i32_138
  let v337 : BitVec 1 := Scalar.andi v334 v336
  let v323 : BitVec 32 := Scalar.divsi v71 c2_i32_133
  let c1_i32_139 : BitVec 32 := 1#32
  let v338 : BitVec 32 := Scalar.subi v323 c1_i32_139
  let v339 : BitVec 32 := Scalar.select v337 v338 v323
  let v340 : BitVec 32 := Scalar.subi v339 v306
  let c0_i32_141 : BitVec 32 := 0#32
  let v342 : BitVec 1 := Scalar.cmpi .sgt v340 c0_i32_141
  let v343 : BitVec 32 := Scalar.extui v342
  let c0_i32_142 : BitVec 32 := 0#32
  let v344 : BitVec 1 := Scalar.cmpi .slt v340 c0_i32_142
  let v345 : BitVec 32 := Scalar.extui v344
  let v346 : BitVec 32 := Scalar.subi v343 v345
  let c2_i32_140 : BitVec 32 := 2#32
  let c0_i32_143 : BitVec 32 := 0#32
  let v347 : BitVec 1 := Scalar.cmpi .sgt c2_i32_140 c0_i32_143
  let v348 : BitVec 32 := Scalar.extui v347
  let c0_i32_144 : BitVec 32 := 0#32
  let v349 : BitVec 1 := Scalar.cmpi .slt c2_i32_140 c0_i32_144
  let v350 : BitVec 32 := Scalar.extui v349
  let v351 : BitVec 32 := Scalar.subi v348 v350
  let v352 : BitVec 1 := Scalar.cmpi .ne v346 v351
  let v353 : BitVec 32 := Scalar.remsi v340 c2_i32_140
  let c0_i32_145 : BitVec 32 := 0#32
  let v354 : BitVec 1 := Scalar.cmpi .ne v353 c0_i32_145
  let v355 : BitVec 1 := Scalar.andi v352 v354
  let v341 : BitVec 32 := Scalar.divsi v340 c2_i32_140
  let c1_i32_146 : BitVec 32 := 1#32
  let v356 : BitVec 32 := Scalar.subi v341 c1_i32_146
  let v357 : BitVec 32 := Scalar.select v355 v356 v341
  let v365 : BitVec 32 := Scalar.muli c2_i32_151 v357
  let v366 : BitVec 32 := Scalar.addi v306 v365
  let c0_i32_153 : BitVec 32 := 0#32
  let v368 : BitVec 1 := Scalar.cmpi .sgt v71 c0_i32_153
  let v369 : BitVec 32 := Scalar.extui v368
  let c0_i32_154 : BitVec 32 := 0#32
  let v370 : BitVec 1 := Scalar.cmpi .slt v71 c0_i32_154
  let v371 : BitVec 32 := Scalar.extui v370
  let v372 : BitVec 32 := Scalar.subi v369 v371
  let c2_i32_152 : BitVec 32 := 2#32
  let c0_i32_155 : BitVec 32 := 0#32
  let v373 : BitVec 1 := Scalar.cmpi .sgt c2_i32_152 c0_i32_155
  let v374 : BitVec 32 := Scalar.extui v373
  let c0_i32_156 : BitVec 32 := 0#32
  let v375 : BitVec 1 := Scalar.cmpi .slt c2_i32_152 c0_i32_156
  let v376 : BitVec 32 := Scalar.extui v375
  let v377 : BitVec 32 := Scalar.subi v374 v376
  let v378 : BitVec 1 := Scalar.cmpi .ne v372 v377
  let v379 : BitVec 32 := Scalar.remsi v71 c2_i32_152
  let c0_i32_157 : BitVec 32 := 0#32
  let v380 : BitVec 1 := Scalar.cmpi .ne v379 c0_i32_157
  let v381 : BitVec 1 := Scalar.andi v378 v380
  let v367 : BitVec 32 := Scalar.divsi v71 c2_i32_152
  let c1_i32_158 : BitVec 32 := 1#32
  let v382 : BitVec 32 := Scalar.subi v367 c1_i32_158
  let v383 : BitVec 32 := Scalar.select v381 v382 v367
  let v384 : BitVec 32 := Scalar.subi v383 v366
  let c1_i32_159 : BitVec 32 := 1#32
  let v386 : BitVec 32 := Scalar.divsi v384 c1_i32_159
  let v387 : BitVec 32 := Scalar.muli v386 c1_i32_159
  let v388 : BitVec 32 := Scalar.addi v366 v387
  let c1_i32_161 : BitVec 32 := 1#32
  let arg18 : BitVec 32 := Scf.iv v388 c1_i32_161 k0_t8
  let c0_i32_206 : BitVec 32 := 0#32
  let v481 : BitVec 32 := Scalar.addi arg18 c0_i32_206
  let v482 : BitVec 32 := Scalar.muli c2_i32_207 v481
  let v483 : BitVec 32 := Scalar.addi v482 c1_i32_208
  let c512_i32_209 : BitVec 32 := 512#32
  let v484 : BitVec 32 := Scalar.muli v483 c512_i32_209
  let v485 : BitVec 32 := v484
  let v486 : Index := Scalar.indexCast v485
  let c0_211 : Index := 0#32
  ![0, v486.toNat, 0]
def k0_off71 (i : grid0.Coords) (v203 : BitVec 32) (v258 : BitVec 32) (k0_t8 : Fin (k0_t8_loop i v203 v258).trips) : Fin 4 → Nat :=
  let c0_222 : Index := 0#32
  let c2_i32_207 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_151 : BitVec 32 := 2#32
  let c2_i32 : BitVec 32 := 2#32
  let arg2 : BitVec 32 := BitVec.ofNat 32 (i 2).val
  let v71 : BitVec 32 := Scalar.muli c2_i32 arg2
  let c0_i32_134 : BitVec 32 := 0#32
  let v324 : BitVec 1 := Scalar.cmpi .sgt v71 c0_i32_134
  let v325 : BitVec 32 := Scalar.extui v324
  let c0_i32_135 : BitVec 32 := 0#32
  let v326 : BitVec 1 := Scalar.cmpi .slt v71 c0_i32_135
  let v327 : BitVec 32 := Scalar.extui v326
  let v328 : BitVec 32 := Scalar.subi v325 v327
  let c2_i32_133 : BitVec 32 := 2#32
  let c0_i32_136 : BitVec 32 := 0#32
  let v329 : BitVec 1 := Scalar.cmpi .sgt c2_i32_133 c0_i32_136
  let v330 : BitVec 32 := Scalar.extui v329
  let c0_i32_137 : BitVec 32 := 0#32
  let v331 : BitVec 1 := Scalar.cmpi .slt c2_i32_133 c0_i32_137
  let v332 : BitVec 32 := Scalar.extui v331
  let v333 : BitVec 32 := Scalar.subi v330 v332
  let v334 : BitVec 1 := Scalar.cmpi .ne v328 v333
  let v335 : BitVec 32 := Scalar.remsi v71 c2_i32_133
  let c0_i32_138 : BitVec 32 := 0#32
  let v336 : BitVec 1 := Scalar.cmpi .ne v335 c0_i32_138
  let v337 : BitVec 1 := Scalar.andi v334 v336
  let v323 : BitVec 32 := Scalar.divsi v71 c2_i32_133
  let c1_i32_139 : BitVec 32 := 1#32
  let v338 : BitVec 32 := Scalar.subi v323 c1_i32_139
  let v339 : BitVec 32 := Scalar.select v337 v338 v323
  let v340 : BitVec 32 := Scalar.subi v339 v306
  let c0_i32_141 : BitVec 32 := 0#32
  let v342 : BitVec 1 := Scalar.cmpi .sgt v340 c0_i32_141
  let v343 : BitVec 32 := Scalar.extui v342
  let c0_i32_142 : BitVec 32 := 0#32
  let v344 : BitVec 1 := Scalar.cmpi .slt v340 c0_i32_142
  let v345 : BitVec 32 := Scalar.extui v344
  let v346 : BitVec 32 := Scalar.subi v343 v345
  let c2_i32_140 : BitVec 32 := 2#32
  let c0_i32_143 : BitVec 32 := 0#32
  let v347 : BitVec 1 := Scalar.cmpi .sgt c2_i32_140 c0_i32_143
  let v348 : BitVec 32 := Scalar.extui v347
  let c0_i32_144 : BitVec 32 := 0#32
  let v349 : BitVec 1 := Scalar.cmpi .slt c2_i32_140 c0_i32_144
  let v350 : BitVec 32 := Scalar.extui v349
  let v351 : BitVec 32 := Scalar.subi v348 v350
  let v352 : BitVec 1 := Scalar.cmpi .ne v346 v351
  let v353 : BitVec 32 := Scalar.remsi v340 c2_i32_140
  let c0_i32_145 : BitVec 32 := 0#32
  let v354 : BitVec 1 := Scalar.cmpi .ne v353 c0_i32_145
  let v355 : BitVec 1 := Scalar.andi v352 v354
  let v341 : BitVec 32 := Scalar.divsi v340 c2_i32_140
  let c1_i32_146 : BitVec 32 := 1#32
  let v356 : BitVec 32 := Scalar.subi v341 c1_i32_146
  let v357 : BitVec 32 := Scalar.select v355 v356 v341
  let v365 : BitVec 32 := Scalar.muli c2_i32_151 v357
  let v366 : BitVec 32 := Scalar.addi v306 v365
  let c0_i32_153 : BitVec 32 := 0#32
  let v368 : BitVec 1 := Scalar.cmpi .sgt v71 c0_i32_153
  let v369 : BitVec 32 := Scalar.extui v368
  let c0_i32_154 : BitVec 32 := 0#32
  let v370 : BitVec 1 := Scalar.cmpi .slt v71 c0_i32_154
  let v371 : BitVec 32 := Scalar.extui v370
  let v372 : BitVec 32 := Scalar.subi v369 v371
  let c2_i32_152 : BitVec 32 := 2#32
  let c0_i32_155 : BitVec 32 := 0#32
  let v373 : BitVec 1 := Scalar.cmpi .sgt c2_i32_152 c0_i32_155
  let v374 : BitVec 32 := Scalar.extui v373
  let c0_i32_156 : BitVec 32 := 0#32
  let v375 : BitVec 1 := Scalar.cmpi .slt c2_i32_152 c0_i32_156
  let v376 : BitVec 32 := Scalar.extui v375
  let v377 : BitVec 32 := Scalar.subi v374 v376
  let v378 : BitVec 1 := Scalar.cmpi .ne v372 v377
  let v379 : BitVec 32 := Scalar.remsi v71 c2_i32_152
  let c0_i32_157 : BitVec 32 := 0#32
  let v380 : BitVec 1 := Scalar.cmpi .ne v379 c0_i32_157
  let v381 : BitVec 1 := Scalar.andi v378 v380
  let v367 : BitVec 32 := Scalar.divsi v71 c2_i32_152
  let c1_i32_158 : BitVec 32 := 1#32
  let v382 : BitVec 32 := Scalar.subi v367 c1_i32_158
  let v383 : BitVec 32 := Scalar.select v381 v382 v367
  let v384 : BitVec 32 := Scalar.subi v383 v366
  let c1_i32_159 : BitVec 32 := 1#32
  let v386 : BitVec 32 := Scalar.divsi v384 c1_i32_159
  let v387 : BitVec 32 := Scalar.muli v386 c1_i32_159
  let v388 : BitVec 32 := Scalar.addi v366 v387
  let c1_i32_161 : BitVec 32 := 1#32
  let arg18 : BitVec 32 := Scf.iv v388 c1_i32_161 k0_t8
  let c0_i32_206 : BitVec 32 := 0#32
  let v481 : BitVec 32 := Scalar.addi arg18 c0_i32_206
  let v482 : BitVec 32 := Scalar.muli c2_i32_207 v481
  let v506 : Index := Scalar.indexCast v482
  let c0_223 : Index := 0#32
  let c0_224 : Index := 0#32
  ![0, v506.toNat, 0, 0]
def k0_mult56 (i : grid0.Coords) (v203 : BitVec 32) (v258 : BitVec 32) (k0_t8 : Fin (k0_t8_loop i v203 v258).trips) : BitVec 32 :=
  let c2_i32_207 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_151 : BitVec 32 := 2#32
  let c2_i32 : BitVec 32 := 2#32
  let arg2 : BitVec 32 := BitVec.ofNat 32 (i 2).val
  let v71 : BitVec 32 := Scalar.muli c2_i32 arg2
  let c0_i32_134 : BitVec 32 := 0#32
  let v324 : BitVec 1 := Scalar.cmpi .sgt v71 c0_i32_134
  let v325 : BitVec 32 := Scalar.extui v324
  let c0_i32_135 : BitVec 32 := 0#32
  let v326 : BitVec 1 := Scalar.cmpi .slt v71 c0_i32_135
  let v327 : BitVec 32 := Scalar.extui v326
  let v328 : BitVec 32 := Scalar.subi v325 v327
  let c2_i32_133 : BitVec 32 := 2#32
  let c0_i32_136 : BitVec 32 := 0#32
  let v329 : BitVec 1 := Scalar.cmpi .sgt c2_i32_133 c0_i32_136
  let v330 : BitVec 32 := Scalar.extui v329
  let c0_i32_137 : BitVec 32 := 0#32
  let v331 : BitVec 1 := Scalar.cmpi .slt c2_i32_133 c0_i32_137
  let v332 : BitVec 32 := Scalar.extui v331
  let v333 : BitVec 32 := Scalar.subi v330 v332
  let v334 : BitVec 1 := Scalar.cmpi .ne v328 v333
  let v335 : BitVec 32 := Scalar.remsi v71 c2_i32_133
  let c0_i32_138 : BitVec 32 := 0#32
  let v336 : BitVec 1 := Scalar.cmpi .ne v335 c0_i32_138
  let v337 : BitVec 1 := Scalar.andi v334 v336
  let v323 : BitVec 32 := Scalar.divsi v71 c2_i32_133
  let c1_i32_139 : BitVec 32 := 1#32
  let v338 : BitVec 32 := Scalar.subi v323 c1_i32_139
  let v339 : BitVec 32 := Scalar.select v337 v338 v323
  let v340 : BitVec 32 := Scalar.subi v339 v306
  let c0_i32_141 : BitVec 32 := 0#32
  let v342 : BitVec 1 := Scalar.cmpi .sgt v340 c0_i32_141
  let v343 : BitVec 32 := Scalar.extui v342
  let c0_i32_142 : BitVec 32 := 0#32
  let v344 : BitVec 1 := Scalar.cmpi .slt v340 c0_i32_142
  let v345 : BitVec 32 := Scalar.extui v344
  let v346 : BitVec 32 := Scalar.subi v343 v345
  let c2_i32_140 : BitVec 32 := 2#32
  let c0_i32_143 : BitVec 32 := 0#32
  let v347 : BitVec 1 := Scalar.cmpi .sgt c2_i32_140 c0_i32_143
  let v348 : BitVec 32 := Scalar.extui v347
  let c0_i32_144 : BitVec 32 := 0#32
  let v349 : BitVec 1 := Scalar.cmpi .slt c2_i32_140 c0_i32_144
  let v350 : BitVec 32 := Scalar.extui v349
  let v351 : BitVec 32 := Scalar.subi v348 v350
  let v352 : BitVec 1 := Scalar.cmpi .ne v346 v351
  let v353 : BitVec 32 := Scalar.remsi v340 c2_i32_140
  let c0_i32_145 : BitVec 32 := 0#32
  let v354 : BitVec 1 := Scalar.cmpi .ne v353 c0_i32_145
  let v355 : BitVec 1 := Scalar.andi v352 v354
  let v341 : BitVec 32 := Scalar.divsi v340 c2_i32_140
  let c1_i32_146 : BitVec 32 := 1#32
  let v356 : BitVec 32 := Scalar.subi v341 c1_i32_146
  let v357 : BitVec 32 := Scalar.select v355 v356 v341
  let v365 : BitVec 32 := Scalar.muli c2_i32_151 v357
  let v366 : BitVec 32 := Scalar.addi v306 v365
  let c0_i32_153 : BitVec 32 := 0#32
  let v368 : BitVec 1 := Scalar.cmpi .sgt v71 c0_i32_153
  let v369 : BitVec 32 := Scalar.extui v368
  let c0_i32_154 : BitVec 32 := 0#32
  let v370 : BitVec 1 := Scalar.cmpi .slt v71 c0_i32_154
  let v371 : BitVec 32 := Scalar.extui v370
  let v372 : BitVec 32 := Scalar.subi v369 v371
  let c2_i32_152 : BitVec 32 := 2#32
  let c0_i32_155 : BitVec 32 := 0#32
  let v373 : BitVec 1 := Scalar.cmpi .sgt c2_i32_152 c0_i32_155
  let v374 : BitVec 32 := Scalar.extui v373
  let c0_i32_156 : BitVec 32 := 0#32
  let v375 : BitVec 1 := Scalar.cmpi .slt c2_i32_152 c0_i32_156
  let v376 : BitVec 32 := Scalar.extui v375
  let v377 : BitVec 32 := Scalar.subi v374 v376
  let v378 : BitVec 1 := Scalar.cmpi .ne v372 v377
  let v379 : BitVec 32 := Scalar.remsi v71 c2_i32_152
  let c0_i32_157 : BitVec 32 := 0#32
  let v380 : BitVec 1 := Scalar.cmpi .ne v379 c0_i32_157
  let v381 : BitVec 1 := Scalar.andi v378 v380
  let v367 : BitVec 32 := Scalar.divsi v71 c2_i32_152
  let c1_i32_158 : BitVec 32 := 1#32
  let v382 : BitVec 32 := Scalar.subi v367 c1_i32_158
  let v383 : BitVec 32 := Scalar.select v381 v382 v367
  let v384 : BitVec 32 := Scalar.subi v383 v366
  let c1_i32_159 : BitVec 32 := 1#32
  let v386 : BitVec 32 := Scalar.divsi v384 c1_i32_159
  let v387 : BitVec 32 := Scalar.muli v386 c1_i32_159
  let v388 : BitVec 32 := Scalar.addi v366 v387
  let c1_i32_161 : BitVec 32 := 1#32
  let arg18 : BitVec 32 := Scf.iv v388 c1_i32_161 k0_t8
  let c0_i32_206 : BitVec 32 := 0#32
  let v481 : BitVec 32 := Scalar.addi arg18 c0_i32_206
  let v482 : BitVec 32 := Scalar.muli c2_i32_207 v481
  let c1_i32_226 : BitVec 32 := 1#32
  let v511 : BitVec 32 := Scalar.addi v482 c1_i32_226
  let c512_i32_227 : BitVec 32 := 512#32
  let v512 : BitVec 32 := Scalar.muli v511 c512_i32_227
  v512
def k0_off72 (i : grid0.Coords) (v203 : BitVec 32) (v258 : BitVec 32) (k0_t8 : Fin (k0_t8_loop i v203 v258).trips) : Fin 4 → Nat :=
  let c0_240 : Index := 0#32
  let c2_i32_207 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_151 : BitVec 32 := 2#32
  let c2_i32 : BitVec 32 := 2#32
  let arg2 : BitVec 32 := BitVec.ofNat 32 (i 2).val
  let v71 : BitVec 32 := Scalar.muli c2_i32 arg2
  let c0_i32_134 : BitVec 32 := 0#32
  let v324 : BitVec 1 := Scalar.cmpi .sgt v71 c0_i32_134
  let v325 : BitVec 32 := Scalar.extui v324
  let c0_i32_135 : BitVec 32 := 0#32
  let v326 : BitVec 1 := Scalar.cmpi .slt v71 c0_i32_135
  let v327 : BitVec 32 := Scalar.extui v326
  let v328 : BitVec 32 := Scalar.subi v325 v327
  let c2_i32_133 : BitVec 32 := 2#32
  let c0_i32_136 : BitVec 32 := 0#32
  let v329 : BitVec 1 := Scalar.cmpi .sgt c2_i32_133 c0_i32_136
  let v330 : BitVec 32 := Scalar.extui v329
  let c0_i32_137 : BitVec 32 := 0#32
  let v331 : BitVec 1 := Scalar.cmpi .slt c2_i32_133 c0_i32_137
  let v332 : BitVec 32 := Scalar.extui v331
  let v333 : BitVec 32 := Scalar.subi v330 v332
  let v334 : BitVec 1 := Scalar.cmpi .ne v328 v333
  let v335 : BitVec 32 := Scalar.remsi v71 c2_i32_133
  let c0_i32_138 : BitVec 32 := 0#32
  let v336 : BitVec 1 := Scalar.cmpi .ne v335 c0_i32_138
  let v337 : BitVec 1 := Scalar.andi v334 v336
  let v323 : BitVec 32 := Scalar.divsi v71 c2_i32_133
  let c1_i32_139 : BitVec 32 := 1#32
  let v338 : BitVec 32 := Scalar.subi v323 c1_i32_139
  let v339 : BitVec 32 := Scalar.select v337 v338 v323
  let v340 : BitVec 32 := Scalar.subi v339 v306
  let c0_i32_141 : BitVec 32 := 0#32
  let v342 : BitVec 1 := Scalar.cmpi .sgt v340 c0_i32_141
  let v343 : BitVec 32 := Scalar.extui v342
  let c0_i32_142 : BitVec 32 := 0#32
  let v344 : BitVec 1 := Scalar.cmpi .slt v340 c0_i32_142
  let v345 : BitVec 32 := Scalar.extui v344
  let v346 : BitVec 32 := Scalar.subi v343 v345
  let c2_i32_140 : BitVec 32 := 2#32
  let c0_i32_143 : BitVec 32 := 0#32
  let v347 : BitVec 1 := Scalar.cmpi .sgt c2_i32_140 c0_i32_143
  let v348 : BitVec 32 := Scalar.extui v347
  let c0_i32_144 : BitVec 32 := 0#32
  let v349 : BitVec 1 := Scalar.cmpi .slt c2_i32_140 c0_i32_144
  let v350 : BitVec 32 := Scalar.extui v349
  let v351 : BitVec 32 := Scalar.subi v348 v350
  let v352 : BitVec 1 := Scalar.cmpi .ne v346 v351
  let v353 : BitVec 32 := Scalar.remsi v340 c2_i32_140
  let c0_i32_145 : BitVec 32 := 0#32
  let v354 : BitVec 1 := Scalar.cmpi .ne v353 c0_i32_145
  let v355 : BitVec 1 := Scalar.andi v352 v354
  let v341 : BitVec 32 := Scalar.divsi v340 c2_i32_140
  let c1_i32_146 : BitVec 32 := 1#32
  let v356 : BitVec 32 := Scalar.subi v341 c1_i32_146
  let v357 : BitVec 32 := Scalar.select v355 v356 v341
  let v365 : BitVec 32 := Scalar.muli c2_i32_151 v357
  let v366 : BitVec 32 := Scalar.addi v306 v365
  let c0_i32_153 : BitVec 32 := 0#32
  let v368 : BitVec 1 := Scalar.cmpi .sgt v71 c0_i32_153
  let v369 : BitVec 32 := Scalar.extui v368
  let c0_i32_154 : BitVec 32 := 0#32
  let v370 : BitVec 1 := Scalar.cmpi .slt v71 c0_i32_154
  let v371 : BitVec 32 := Scalar.extui v370
  let v372 : BitVec 32 := Scalar.subi v369 v371
  let c2_i32_152 : BitVec 32 := 2#32
  let c0_i32_155 : BitVec 32 := 0#32
  let v373 : BitVec 1 := Scalar.cmpi .sgt c2_i32_152 c0_i32_155
  let v374 : BitVec 32 := Scalar.extui v373
  let c0_i32_156 : BitVec 32 := 0#32
  let v375 : BitVec 1 := Scalar.cmpi .slt c2_i32_152 c0_i32_156
  let v376 : BitVec 32 := Scalar.extui v375
  let v377 : BitVec 32 := Scalar.subi v374 v376
  let v378 : BitVec 1 := Scalar.cmpi .ne v372 v377
  let v379 : BitVec 32 := Scalar.remsi v71 c2_i32_152
  let c0_i32_157 : BitVec 32 := 0#32
  let v380 : BitVec 1 := Scalar.cmpi .ne v379 c0_i32_157
  let v381 : BitVec 1 := Scalar.andi v378 v380
  let v367 : BitVec 32 := Scalar.divsi v71 c2_i32_152
  let c1_i32_158 : BitVec 32 := 1#32
  let v382 : BitVec 32 := Scalar.subi v367 c1_i32_158
  let v383 : BitVec 32 := Scalar.select v381 v382 v367
  let v384 : BitVec 32 := Scalar.subi v383 v366
  let c1_i32_159 : BitVec 32 := 1#32
  let v386 : BitVec 32 := Scalar.divsi v384 c1_i32_159
  let v387 : BitVec 32 := Scalar.muli v386 c1_i32_159
  let v388 : BitVec 32 := Scalar.addi v366 v387
  let c1_i32_161 : BitVec 32 := 1#32
  let arg18 : BitVec 32 := Scf.iv v388 c1_i32_161 k0_t8
  let c0_i32_206 : BitVec 32 := 0#32
  let v481 : BitVec 32 := Scalar.addi arg18 c0_i32_206
  let v482 : BitVec 32 := Scalar.muli c2_i32_207 v481
  let v534 : Index := Scalar.indexCast v482
  let c64_241 : Index := 64#32
  let c0_242 : Index := 0#32
  ![0, v534.toNat, 64, 0]
def k0_mult57 (i : grid0.Coords) (v203 : BitVec 32) (v258 : BitVec 32) (k0_t8 : Fin (k0_t8_loop i v203 v258).trips) : BitVec 32 :=
  let c2_i32_207 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_151 : BitVec 32 := 2#32
  let c2_i32 : BitVec 32 := 2#32
  let arg2 : BitVec 32 := BitVec.ofNat 32 (i 2).val
  let v71 : BitVec 32 := Scalar.muli c2_i32 arg2
  let c0_i32_134 : BitVec 32 := 0#32
  let v324 : BitVec 1 := Scalar.cmpi .sgt v71 c0_i32_134
  let v325 : BitVec 32 := Scalar.extui v324
  let c0_i32_135 : BitVec 32 := 0#32
  let v326 : BitVec 1 := Scalar.cmpi .slt v71 c0_i32_135
  let v327 : BitVec 32 := Scalar.extui v326
  let v328 : BitVec 32 := Scalar.subi v325 v327
  let c2_i32_133 : BitVec 32 := 2#32
  let c0_i32_136 : BitVec 32 := 0#32
  let v329 : BitVec 1 := Scalar.cmpi .sgt c2_i32_133 c0_i32_136
  let v330 : BitVec 32 := Scalar.extui v329
  let c0_i32_137 : BitVec 32 := 0#32
  let v331 : BitVec 1 := Scalar.cmpi .slt c2_i32_133 c0_i32_137
  let v332 : BitVec 32 := Scalar.extui v331
  let v333 : BitVec 32 := Scalar.subi v330 v332
  let v334 : BitVec 1 := Scalar.cmpi .ne v328 v333
  let v335 : BitVec 32 := Scalar.remsi v71 c2_i32_133
  let c0_i32_138 : BitVec 32 := 0#32
  let v336 : BitVec 1 := Scalar.cmpi .ne v335 c0_i32_138
  let v337 : BitVec 1 := Scalar.andi v334 v336
  let v323 : BitVec 32 := Scalar.divsi v71 c2_i32_133
  let c1_i32_139 : BitVec 32 := 1#32
  let v338 : BitVec 32 := Scalar.subi v323 c1_i32_139
  let v339 : BitVec 32 := Scalar.select v337 v338 v323
  let v340 : BitVec 32 := Scalar.subi v339 v306
  let c0_i32_141 : BitVec 32 := 0#32
  let v342 : BitVec 1 := Scalar.cmpi .sgt v340 c0_i32_141
  let v343 : BitVec 32 := Scalar.extui v342
  let c0_i32_142 : BitVec 32 := 0#32
  let v344 : BitVec 1 := Scalar.cmpi .slt v340 c0_i32_142
  let v345 : BitVec 32 := Scalar.extui v344
  let v346 : BitVec 32 := Scalar.subi v343 v345
  let c2_i32_140 : BitVec 32 := 2#32
  let c0_i32_143 : BitVec 32 := 0#32
  let v347 : BitVec 1 := Scalar.cmpi .sgt c2_i32_140 c0_i32_143
  let v348 : BitVec 32 := Scalar.extui v347
  let c0_i32_144 : BitVec 32 := 0#32
  let v349 : BitVec 1 := Scalar.cmpi .slt c2_i32_140 c0_i32_144
  let v350 : BitVec 32 := Scalar.extui v349
  let v351 : BitVec 32 := Scalar.subi v348 v350
  let v352 : BitVec 1 := Scalar.cmpi .ne v346 v351
  let v353 : BitVec 32 := Scalar.remsi v340 c2_i32_140
  let c0_i32_145 : BitVec 32 := 0#32
  let v354 : BitVec 1 := Scalar.cmpi .ne v353 c0_i32_145
  let v355 : BitVec 1 := Scalar.andi v352 v354
  let v341 : BitVec 32 := Scalar.divsi v340 c2_i32_140
  let c1_i32_146 : BitVec 32 := 1#32
  let v356 : BitVec 32 := Scalar.subi v341 c1_i32_146
  let v357 : BitVec 32 := Scalar.select v355 v356 v341
  let v365 : BitVec 32 := Scalar.muli c2_i32_151 v357
  let v366 : BitVec 32 := Scalar.addi v306 v365
  let c0_i32_153 : BitVec 32 := 0#32
  let v368 : BitVec 1 := Scalar.cmpi .sgt v71 c0_i32_153
  let v369 : BitVec 32 := Scalar.extui v368
  let c0_i32_154 : BitVec 32 := 0#32
  let v370 : BitVec 1 := Scalar.cmpi .slt v71 c0_i32_154
  let v371 : BitVec 32 := Scalar.extui v370
  let v372 : BitVec 32 := Scalar.subi v369 v371
  let c2_i32_152 : BitVec 32 := 2#32
  let c0_i32_155 : BitVec 32 := 0#32
  let v373 : BitVec 1 := Scalar.cmpi .sgt c2_i32_152 c0_i32_155
  let v374 : BitVec 32 := Scalar.extui v373
  let c0_i32_156 : BitVec 32 := 0#32
  let v375 : BitVec 1 := Scalar.cmpi .slt c2_i32_152 c0_i32_156
  let v376 : BitVec 32 := Scalar.extui v375
  let v377 : BitVec 32 := Scalar.subi v374 v376
  let v378 : BitVec 1 := Scalar.cmpi .ne v372 v377
  let v379 : BitVec 32 := Scalar.remsi v71 c2_i32_152
  let c0_i32_157 : BitVec 32 := 0#32
  let v380 : BitVec 1 := Scalar.cmpi .ne v379 c0_i32_157
  let v381 : BitVec 1 := Scalar.andi v378 v380
  let v367 : BitVec 32 := Scalar.divsi v71 c2_i32_152
  let c1_i32_158 : BitVec 32 := 1#32
  let v382 : BitVec 32 := Scalar.subi v367 c1_i32_158
  let v383 : BitVec 32 := Scalar.select v381 v382 v367
  let v384 : BitVec 32 := Scalar.subi v383 v366
  let c1_i32_159 : BitVec 32 := 1#32
  let v386 : BitVec 32 := Scalar.divsi v384 c1_i32_159
  let v387 : BitVec 32 := Scalar.muli v386 c1_i32_159
  let v388 : BitVec 32 := Scalar.addi v366 v387
  let c1_i32_161 : BitVec 32 := 1#32
  let arg18 : BitVec 32 := Scf.iv v388 c1_i32_161 k0_t8
  let c0_i32_206 : BitVec 32 := 0#32
  let v481 : BitVec 32 := Scalar.addi arg18 c0_i32_206
  let v482 : BitVec 32 := Scalar.muli c2_i32_207 v481
  let c2_i32_244 : BitVec 32 := 2#32
  let v539 : BitVec 32 := Scalar.addi v482 c2_i32_244
  let c512_i32_245 : BitVec 32 := 512#32
  let v540 : BitVec 32 := Scalar.muli v539 c512_i32_245
  v540
def k0_off73 (i : grid0.Coords) (v203 : BitVec 32) (v258 : BitVec 32) (k0_t8 : Fin (k0_t8_loop i v203 v258).trips) : Fin 4 → Nat :=
  let c0_260 : Index := 0#32
  let c2_i32_207 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_151 : BitVec 32 := 2#32
  let c2_i32 : BitVec 32 := 2#32
  let arg2 : BitVec 32 := BitVec.ofNat 32 (i 2).val
  let v71 : BitVec 32 := Scalar.muli c2_i32 arg2
  let c0_i32_134 : BitVec 32 := 0#32
  let v324 : BitVec 1 := Scalar.cmpi .sgt v71 c0_i32_134
  let v325 : BitVec 32 := Scalar.extui v324
  let c0_i32_135 : BitVec 32 := 0#32
  let v326 : BitVec 1 := Scalar.cmpi .slt v71 c0_i32_135
  let v327 : BitVec 32 := Scalar.extui v326
  let v328 : BitVec 32 := Scalar.subi v325 v327
  let c2_i32_133 : BitVec 32 := 2#32
  let c0_i32_136 : BitVec 32 := 0#32
  let v329 : BitVec 1 := Scalar.cmpi .sgt c2_i32_133 c0_i32_136
  let v330 : BitVec 32 := Scalar.extui v329
  let c0_i32_137 : BitVec 32 := 0#32
  let v331 : BitVec 1 := Scalar.cmpi .slt c2_i32_133 c0_i32_137
  let v332 : BitVec 32 := Scalar.extui v331
  let v333 : BitVec 32 := Scalar.subi v330 v332
  let v334 : BitVec 1 := Scalar.cmpi .ne v328 v333
  let v335 : BitVec 32 := Scalar.remsi v71 c2_i32_133
  let c0_i32_138 : BitVec 32 := 0#32
  let v336 : BitVec 1 := Scalar.cmpi .ne v335 c0_i32_138
  let v337 : BitVec 1 := Scalar.andi v334 v336
  let v323 : BitVec 32 := Scalar.divsi v71 c2_i32_133
  let c1_i32_139 : BitVec 32 := 1#32
  let v338 : BitVec 32 := Scalar.subi v323 c1_i32_139
  let v339 : BitVec 32 := Scalar.select v337 v338 v323
  let v340 : BitVec 32 := Scalar.subi v339 v306
  let c0_i32_141 : BitVec 32 := 0#32
  let v342 : BitVec 1 := Scalar.cmpi .sgt v340 c0_i32_141
  let v343 : BitVec 32 := Scalar.extui v342
  let c0_i32_142 : BitVec 32 := 0#32
  let v344 : BitVec 1 := Scalar.cmpi .slt v340 c0_i32_142
  let v345 : BitVec 32 := Scalar.extui v344
  let v346 : BitVec 32 := Scalar.subi v343 v345
  let c2_i32_140 : BitVec 32 := 2#32
  let c0_i32_143 : BitVec 32 := 0#32
  let v347 : BitVec 1 := Scalar.cmpi .sgt c2_i32_140 c0_i32_143
  let v348 : BitVec 32 := Scalar.extui v347
  let c0_i32_144 : BitVec 32 := 0#32
  let v349 : BitVec 1 := Scalar.cmpi .slt c2_i32_140 c0_i32_144
  let v350 : BitVec 32 := Scalar.extui v349
  let v351 : BitVec 32 := Scalar.subi v348 v350
  let v352 : BitVec 1 := Scalar.cmpi .ne v346 v351
  let v353 : BitVec 32 := Scalar.remsi v340 c2_i32_140
  let c0_i32_145 : BitVec 32 := 0#32
  let v354 : BitVec 1 := Scalar.cmpi .ne v353 c0_i32_145
  let v355 : BitVec 1 := Scalar.andi v352 v354
  let v341 : BitVec 32 := Scalar.divsi v340 c2_i32_140
  let c1_i32_146 : BitVec 32 := 1#32
  let v356 : BitVec 32 := Scalar.subi v341 c1_i32_146
  let v357 : BitVec 32 := Scalar.select v355 v356 v341
  let v365 : BitVec 32 := Scalar.muli c2_i32_151 v357
  let v366 : BitVec 32 := Scalar.addi v306 v365
  let c0_i32_153 : BitVec 32 := 0#32
  let v368 : BitVec 1 := Scalar.cmpi .sgt v71 c0_i32_153
  let v369 : BitVec 32 := Scalar.extui v368
  let c0_i32_154 : BitVec 32 := 0#32
  let v370 : BitVec 1 := Scalar.cmpi .slt v71 c0_i32_154
  let v371 : BitVec 32 := Scalar.extui v370
  let v372 : BitVec 32 := Scalar.subi v369 v371
  let c2_i32_152 : BitVec 32 := 2#32
  let c0_i32_155 : BitVec 32 := 0#32
  let v373 : BitVec 1 := Scalar.cmpi .sgt c2_i32_152 c0_i32_155
  let v374 : BitVec 32 := Scalar.extui v373
  let c0_i32_156 : BitVec 32 := 0#32
  let v375 : BitVec 1 := Scalar.cmpi .slt c2_i32_152 c0_i32_156
  let v376 : BitVec 32 := Scalar.extui v375
  let v377 : BitVec 32 := Scalar.subi v374 v376
  let v378 : BitVec 1 := Scalar.cmpi .ne v372 v377
  let v379 : BitVec 32 := Scalar.remsi v71 c2_i32_152
  let c0_i32_157 : BitVec 32 := 0#32
  let v380 : BitVec 1 := Scalar.cmpi .ne v379 c0_i32_157
  let v381 : BitVec 1 := Scalar.andi v378 v380
  let v367 : BitVec 32 := Scalar.divsi v71 c2_i32_152
  let c1_i32_158 : BitVec 32 := 1#32
  let v382 : BitVec 32 := Scalar.subi v367 c1_i32_158
  let v383 : BitVec 32 := Scalar.select v381 v382 v367
  let v384 : BitVec 32 := Scalar.subi v383 v366
  let c1_i32_159 : BitVec 32 := 1#32
  let v386 : BitVec 32 := Scalar.divsi v384 c1_i32_159
  let v387 : BitVec 32 := Scalar.muli v386 c1_i32_159
  let v388 : BitVec 32 := Scalar.addi v366 v387
  let c1_i32_161 : BitVec 32 := 1#32
  let arg18 : BitVec 32 := Scf.iv v388 c1_i32_161 k0_t8
  let c0_i32_206 : BitVec 32 := 0#32
  let v481 : BitVec 32 := Scalar.addi arg18 c0_i32_206
  let v482 : BitVec 32 := Scalar.muli c2_i32_207 v481
  let c1_i32_259 : BitVec 32 := 1#32
  let v570 : BitVec 32 := Scalar.addi v482 c1_i32_259
  let v571 : Index := Scalar.indexCast v570
  let c0_261 : Index := 0#32
  let c0_262 : Index := 0#32
  ![0, v571.toNat, 0, 0]
def k0_mult58 (i : grid0.Coords) (v203 : BitVec 32) (v258 : BitVec 32) (k0_t8 : Fin (k0_t8_loop i v203 v258).trips) : BitVec 32 :=
  let c2_i32_207 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_151 : BitVec 32 := 2#32
  let c2_i32 : BitVec 32 := 2#32
  let arg2 : BitVec 32 := BitVec.ofNat 32 (i 2).val
  let v71 : BitVec 32 := Scalar.muli c2_i32 arg2
  let c0_i32_134 : BitVec 32 := 0#32
  let v324 : BitVec 1 := Scalar.cmpi .sgt v71 c0_i32_134
  let v325 : BitVec 32 := Scalar.extui v324
  let c0_i32_135 : BitVec 32 := 0#32
  let v326 : BitVec 1 := Scalar.cmpi .slt v71 c0_i32_135
  let v327 : BitVec 32 := Scalar.extui v326
  let v328 : BitVec 32 := Scalar.subi v325 v327
  let c2_i32_133 : BitVec 32 := 2#32
  let c0_i32_136 : BitVec 32 := 0#32
  let v329 : BitVec 1 := Scalar.cmpi .sgt c2_i32_133 c0_i32_136
  let v330 : BitVec 32 := Scalar.extui v329
  let c0_i32_137 : BitVec 32 := 0#32
  let v331 : BitVec 1 := Scalar.cmpi .slt c2_i32_133 c0_i32_137
  let v332 : BitVec 32 := Scalar.extui v331
  let v333 : BitVec 32 := Scalar.subi v330 v332
  let v334 : BitVec 1 := Scalar.cmpi .ne v328 v333
  let v335 : BitVec 32 := Scalar.remsi v71 c2_i32_133
  let c0_i32_138 : BitVec 32 := 0#32
  let v336 : BitVec 1 := Scalar.cmpi .ne v335 c0_i32_138
  let v337 : BitVec 1 := Scalar.andi v334 v336
  let v323 : BitVec 32 := Scalar.divsi v71 c2_i32_133
  let c1_i32_139 : BitVec 32 := 1#32
  let v338 : BitVec 32 := Scalar.subi v323 c1_i32_139
  let v339 : BitVec 32 := Scalar.select v337 v338 v323
  let v340 : BitVec 32 := Scalar.subi v339 v306
  let c0_i32_141 : BitVec 32 := 0#32
  let v342 : BitVec 1 := Scalar.cmpi .sgt v340 c0_i32_141
  let v343 : BitVec 32 := Scalar.extui v342
  let c0_i32_142 : BitVec 32 := 0#32
  let v344 : BitVec 1 := Scalar.cmpi .slt v340 c0_i32_142
  let v345 : BitVec 32 := Scalar.extui v344
  let v346 : BitVec 32 := Scalar.subi v343 v345
  let c2_i32_140 : BitVec 32 := 2#32
  let c0_i32_143 : BitVec 32 := 0#32
  let v347 : BitVec 1 := Scalar.cmpi .sgt c2_i32_140 c0_i32_143
  let v348 : BitVec 32 := Scalar.extui v347
  let c0_i32_144 : BitVec 32 := 0#32
  let v349 : BitVec 1 := Scalar.cmpi .slt c2_i32_140 c0_i32_144
  let v350 : BitVec 32 := Scalar.extui v349
  let v351 : BitVec 32 := Scalar.subi v348 v350
  let v352 : BitVec 1 := Scalar.cmpi .ne v346 v351
  let v353 : BitVec 32 := Scalar.remsi v340 c2_i32_140
  let c0_i32_145 : BitVec 32 := 0#32
  let v354 : BitVec 1 := Scalar.cmpi .ne v353 c0_i32_145
  let v355 : BitVec 1 := Scalar.andi v352 v354
  let v341 : BitVec 32 := Scalar.divsi v340 c2_i32_140
  let c1_i32_146 : BitVec 32 := 1#32
  let v356 : BitVec 32 := Scalar.subi v341 c1_i32_146
  let v357 : BitVec 32 := Scalar.select v355 v356 v341
  let v365 : BitVec 32 := Scalar.muli c2_i32_151 v357
  let v366 : BitVec 32 := Scalar.addi v306 v365
  let c0_i32_153 : BitVec 32 := 0#32
  let v368 : BitVec 1 := Scalar.cmpi .sgt v71 c0_i32_153
  let v369 : BitVec 32 := Scalar.extui v368
  let c0_i32_154 : BitVec 32 := 0#32
  let v370 : BitVec 1 := Scalar.cmpi .slt v71 c0_i32_154
  let v371 : BitVec 32 := Scalar.extui v370
  let v372 : BitVec 32 := Scalar.subi v369 v371
  let c2_i32_152 : BitVec 32 := 2#32
  let c0_i32_155 : BitVec 32 := 0#32
  let v373 : BitVec 1 := Scalar.cmpi .sgt c2_i32_152 c0_i32_155
  let v374 : BitVec 32 := Scalar.extui v373
  let c0_i32_156 : BitVec 32 := 0#32
  let v375 : BitVec 1 := Scalar.cmpi .slt c2_i32_152 c0_i32_156
  let v376 : BitVec 32 := Scalar.extui v375
  let v377 : BitVec 32 := Scalar.subi v374 v376
  let v378 : BitVec 1 := Scalar.cmpi .ne v372 v377
  let v379 : BitVec 32 := Scalar.remsi v71 c2_i32_152
  let c0_i32_157 : BitVec 32 := 0#32
  let v380 : BitVec 1 := Scalar.cmpi .ne v379 c0_i32_157
  let v381 : BitVec 1 := Scalar.andi v378 v380
  let v367 : BitVec 32 := Scalar.divsi v71 c2_i32_152
  let c1_i32_158 : BitVec 32 := 1#32
  let v382 : BitVec 32 := Scalar.subi v367 c1_i32_158
  let v383 : BitVec 32 := Scalar.select v381 v382 v367
  let v384 : BitVec 32 := Scalar.subi v383 v366
  let c1_i32_159 : BitVec 32 := 1#32
  let v386 : BitVec 32 := Scalar.divsi v384 c1_i32_159
  let v387 : BitVec 32 := Scalar.muli v386 c1_i32_159
  let v388 : BitVec 32 := Scalar.addi v366 v387
  let c1_i32_161 : BitVec 32 := 1#32
  let arg18 : BitVec 32 := Scf.iv v388 c1_i32_161 k0_t8
  let c0_i32_206 : BitVec 32 := 0#32
  let v481 : BitVec 32 := Scalar.addi arg18 c0_i32_206
  let v482 : BitVec 32 := Scalar.muli c2_i32_207 v481
  let c2_i32_264 : BitVec 32 := 2#32
  let v576 : BitVec 32 := Scalar.addi v482 c2_i32_264
  let c512_i32_265 : BitVec 32 := 512#32
  let v577 : BitVec 32 := Scalar.muli v576 c512_i32_265
  v577
def k0_off74 (i : grid0.Coords) (v203 : BitVec 32) (v258 : BitVec 32) (k0_t8 : Fin (k0_t8_loop i v203 v258).trips) : Fin 4 → Nat :=
  let c0_280 : Index := 0#32
  let c2_i32_207 : BitVec 32 := 2#32
  let c0_i32_84 : BitVec 32 := 0#32
  let v205 : BitVec 1 := Scalar.cmpi .sgt v203 c0_i32_84
  let v206 : BitVec 32 := Scalar.extui v205
  let c0_i32_85 : BitVec 32 := 0#32
  let v207 : BitVec 1 := Scalar.cmpi .slt v203 c0_i32_85
  let v208 : BitVec 32 := Scalar.extui v207
  let v209 : BitVec 32 := Scalar.subi v206 v208
  let c2_i32_83 : BitVec 32 := 2#32
  let c0_i32_86 : BitVec 32 := 0#32
  let v210 : BitVec 1 := Scalar.cmpi .sgt c2_i32_83 c0_i32_86
  let v211 : BitVec 32 := Scalar.extui v210
  let c0_i32_87 : BitVec 32 := 0#32
  let v212 : BitVec 1 := Scalar.cmpi .slt c2_i32_83 c0_i32_87
  let v213 : BitVec 32 := Scalar.extui v212
  let v214 : BitVec 32 := Scalar.subi v211 v213
  let v215 : BitVec 1 := Scalar.cmpi .ne v209 v214
  let v216 : BitVec 32 := Scalar.remsi v203 c2_i32_83
  let c0_i32_88 : BitVec 32 := 0#32
  let v217 : BitVec 1 := Scalar.cmpi .ne v216 c0_i32_88
  let v218 : BitVec 1 := Scalar.andi v215 v217
  let v204 : BitVec 32 := Scalar.divsi v203 c2_i32_83
  let c1_i32_89 : BitVec 32 := 1#32
  let v219 : BitVec 32 := Scalar.subi v204 c1_i32_89
  let v220 : BitVec 32 := Scalar.select v218 v219 v204
  let c0_i32_107 : BitVec 32 := 0#32
  let v260 : BitVec 1 := Scalar.cmpi .sgt v258 c0_i32_107
  let v261 : BitVec 32 := Scalar.extui v260
  let c0_i32_108 : BitVec 32 := 0#32
  let v262 : BitVec 1 := Scalar.cmpi .slt v258 c0_i32_108
  let v263 : BitVec 32 := Scalar.extui v262
  let v264 : BitVec 32 := Scalar.subi v261 v263
  let c2_i32_106 : BitVec 32 := 2#32
  let c0_i32_109 : BitVec 32 := 0#32
  let v265 : BitVec 1 := Scalar.cmpi .sgt c2_i32_106 c0_i32_109
  let v266 : BitVec 32 := Scalar.extui v265
  let c0_i32_110 : BitVec 32 := 0#32
  let v267 : BitVec 1 := Scalar.cmpi .slt c2_i32_106 c0_i32_110
  let v268 : BitVec 32 := Scalar.extui v267
  let v269 : BitVec 32 := Scalar.subi v266 v268
  let v270 : BitVec 1 := Scalar.cmpi .ne v264 v269
  let v271 : BitVec 32 := Scalar.remsi v258 c2_i32_106
  let c0_i32_111 : BitVec 32 := 0#32
  let v272 : BitVec 1 := Scalar.cmpi .ne v271 c0_i32_111
  let v273 : BitVec 1 := Scalar.andi v270 v272
  let v259 : BitVec 32 := Scalar.divsi v258 c2_i32_106
  let c1_i32_112 : BitVec 32 := 1#32
  let v274 : BitVec 32 := Scalar.subi v259 c1_i32_112
  let v275 : BitVec 32 := Scalar.select v273 v274 v259
  let v306 : BitVec 32 := Scalar.maxsi v220 v275
  let c2_i32_151 : BitVec 32 := 2#32
  let c2_i32 : BitVec 32 := 2#32
  let arg2 : BitVec 32 := BitVec.ofNat 32 (i 2).val
  let v71 : BitVec 32 := Scalar.muli c2_i32 arg2
  let c0_i32_134 : BitVec 32 := 0#32
  let v324 : BitVec 1 := Scalar.cmpi .sgt v71 c0_i32_134
  let v325 : BitVec 32 := Scalar.extui v324
  let c0_i32_135 : BitVec 32 := 0#32
  let v326 : BitVec 1 := Scalar.cmpi .slt v71 c0_i32_135
  let v327 : BitVec 32 := Scalar.extui v326
  let v328 : BitVec 32 := Scalar.subi v325 v327
  let c2_i32_133 : BitVec 32 := 2#32
  let c0_i32_136 : BitVec 32 := 0#32
  let v329 : BitVec 1 := Scalar.cmpi .sgt c2_i32_133 c0_i32_136
  let v330 : BitVec 32 := Scalar.extui v329
  let c0_i32_137 : BitVec 32 := 0#32
  let v331 : BitVec 1 := Scalar.cmpi .slt c2_i32_133 c0_i32_137
  let v332 : BitVec 32 := Scalar.extui v331
  let v333 : BitVec 32 := Scalar.subi v330 v332
  let v334 : BitVec 1 := Scalar.cmpi .ne v328 v333
  let v335 : BitVec 32 := Scalar.remsi v71 c2_i32_133
  let c0_i32_138 : BitVec 32 := 0#32
  let v336 : BitVec 1 := Scalar.cmpi .ne v335 c0_i32_138
  let v337 : BitVec 1 := Scalar.andi v334 v336
  let v323 : BitVec 32 := Scalar.divsi v71 c2_i32_133
  let c1_i32_139 : BitVec 32 := 1#32
  let v338 : BitVec 32 := Scalar.subi v323 c1_i32_139
  let v339 : BitVec 32 := Scalar.select v337 v338 v323
  let v340 : BitVec 32 := Scalar.subi v339 v306
  let c0_i32_141 : BitVec 32 := 0#32
  let v342 : BitVec 1 := Scalar.cmpi .sgt v340 c0_i32_141
  let v343 : BitVec 32 := Scalar.extui v342
  let c0_i32_142 : BitVec 32 := 0#32
  let v344 : BitVec 1 := Scalar.cmpi .slt v340 c0_i32_142
  let v345 : BitVec 32 := Scalar.extui v344
  let v346 : BitVec 32 := Scalar.subi v343 v345
  let c2_i32_140 : BitVec 32 := 2#32
  let c0_i32_143 : BitVec 32 := 0#32
  let v347 : BitVec 1 := Scalar.cmpi .sgt c2_i32_140 c0_i32_143
  let v348 : BitVec 32 := Scalar.extui v347
  let c0_i32_144 : BitVec 32 := 0#32
  let v349 : BitVec 1 := Scalar.cmpi .slt c2_i32_140 c0_i32_144
  let v350 : BitVec 32 := Scalar.extui v349
  let v351 : BitVec 32 := Scalar.subi v348 v350
  let v352 : BitVec 1 := Scalar.cmpi .ne v346 v351
  let v353 : BitVec 32 := Scalar.remsi v340 c2_i32_140
  let c0_i32_145 : BitVec 32 := 0#32
  let v354 : BitVec 1 := Scalar.cmpi .ne v353 c0_i32_145
  let v355 : BitVec 1 := Scalar.andi v352 v354
  let v341 : BitVec 32 := Scalar.divsi v340 c2_i32_140
  let c1_i32_146 : BitVec 32 := 1#32
  let v356 : BitVec 32 := Scalar.subi v341 c1_i32_146
  let v357 : BitVec 32 := Scalar.select v355 v356 v341
  let v365 : BitVec 32 := Scalar.muli c2_i32_151 v357
  let v366 : BitVec 32 := Scalar.addi v306 v365
  let c0_i32_153 : BitVec 32 := 0#32
  let v368 : BitVec 1 := Scalar.cmpi .sgt v71 c0_i32_153
  let v369 : BitVec 32 := Scalar.extui v368
  let c0_i32_154 : BitVec 32 := 0#32
  let v370 : BitVec 1 := Scalar.cmpi .slt v71 c0_i32_154
  let v371 : BitVec 32 := Scalar.extui v370
  let v372 : BitVec 32 := Scalar.subi v369 v371
  let c2_i32_152 : BitVec 32 := 2#32
  let c0_i32_155 : BitVec 32 := 0#32
  let v373 : BitVec 1 := Scalar.cmpi .sgt c2_i32_152 c0_i32_155
  let v374 : BitVec 32 := Scalar.extui v373
  let c0_i32_156 : BitVec 32 := 0#32
  let v375 : BitVec 1 := Scalar.cmpi .slt c2_i32_152 c0_i32_156
  let v376 : BitVec 32 := Scalar.extui v375
  let v377 : BitVec 32 := Scalar.subi v374 v376
  let v378 : BitVec 1 := Scalar.cmpi .ne v372 v377
  let v379 : BitVec 32 := Scalar.remsi v71 c2_i32_152
  let c0_i32_157 : BitVec 32 := 0#32
  let v380 : BitVec 1 := Scalar.cmpi .ne v379 c0_i32_157
  let v381 : BitVec 1 := Scalar.andi v378 v380
  let v367 : BitVec 32 := Scalar.divsi v71 c2_i32_152
  let c1_i32_158 : BitVec 32 := 1#32
  let v382 : BitVec 32 := Scalar.subi v367 c1_i32_158
  let v383 : BitVec 32 := Scalar.select v381 v382 v367
  let v384 : BitVec 32 := Scalar.subi v383 v366
  let c1_i32_159 : BitVec 32 := 1#32
  let v386 : BitVec 32 := Scalar.divsi v384 c1_i32_159
  let v387 : BitVec 32 := Scalar.muli v386 c1_i32_159
  let v388 : BitVec 32 := Scalar.addi v366 v387
  let c1_i32_161 : BitVec 32 := 1#32
  let arg18 : BitVec 32 := Scf.iv v388 c1_i32_161 k0_t8
  let c0_i32_206 : BitVec 32 := 0#32
  let v481 : BitVec 32 := Scalar.addi arg18 c0_i32_206
  let v482 : BitVec 32 := Scalar.muli c2_i32_207 v481
  let c1_i32_279 : BitVec 32 := 1#32
  let v607 : BitVec 32 := Scalar.addi v482 c1_i32_279
  let v608 : Index := Scalar.indexCast v607
  let c64_281 : Index := 64#32
  let c0_282 : Index := 0#32
  ![0, v608.toNat, 64, 0]

def k0_chk8_0 (i : grid0.Coords) (v6 : BitVec 32) (v79 : BitVec 32) (v104 : BitVec 32) (v203 : BitVec 32) (v258 : BitVec 32) : Prop :=
  (∀ (k0_h1 : k0_cond1 v6 = 1#1), ∀ (k0_h5 : k0_cond5 i v79 v104 = 1#1), 512 ∣ (k0_mult26 v258).toNat) ∧
  (∀ (k0_h1 : k0_cond1 v6 = 1#1), ∀ (k0_h5 : k0_cond5 i v79 v104 = 1#1), ∀ a, (k0_off42 v258) a + S1x512x128.size a ≤ S1x4096x128.size a) ∧
  (∀ (k0_h1 : k0_cond1 v6 = 1#1), ∀ (k0_h5 : k0_cond5 i v79 v104 = 1#1), (k0_t1_loop v203 v258).OK) ∧
  (∀ k0_t1 : Fin (k0_t1_loop v203 v258).trips, ∀ (k0_h1 : k0_cond1 v6 = 1#1), ∀ (k0_h5 : k0_cond5 i v79 v104 = 1#1), 512 ∣ (k0_mult27 v203 v258 k0_t1).toNat) ∧
  (∀ k0_t1 : Fin (k0_t1_loop v203 v258).trips, ∀ (k0_h1 : k0_cond1 v6 = 1#1), ∀ (k0_h5 : k0_cond5 i v79 v104 = 1#1), ∀ (r : Fin 2), ∀ a, (k0_off43 v203 v258 k0_t1 (BitVec.ofNat 32 (1 + r.val))) a + S1x512x128.size a ≤ S1x4096x128.size a) ∧
  (∀ k0_t1 : Fin (k0_t1_loop v203 v258).trips, ∀ (k0_h1 : k0_cond1 v6 = 1#1), ∀ (k0_h5 : k0_cond5 i v79 v104 = 1#1), ∀ a, (k0_off44 v203 v258 k0_t1) a + S1x1x64x512.size a ≤ S1x8x128x512.size a) ∧
  (∀ k0_t1 : Fin (k0_t1_loop v203 v258).trips, ∀ (k0_h1 : k0_cond1 v6 = 1#1), ∀ (k0_h5 : k0_cond5 i v79 v104 = 1#1), 512 ∣ (k0_mult28 v203 v258 k0_t1).toNat) ∧
  (∀ k0_t1 : Fin (k0_t1_loop v203 v258).trips, ∀ (k0_h1 : k0_cond1 v6 = 1#1), ∀ (k0_h5 : k0_cond5 i v79 v104 = 1#1), ∀ a, (k0_off45 v203 v258 k0_t1) a + S1x1x64x512.size a ≤ S1x8x128x512.size a) ∧
  (∀ (k0_h1 : k0_cond1 v6 = 1#1), ∀ (k0_h5 : k0_cond5 i v79 v104 = 1#1), (k0_t2_loop v203 v258).OK) ∧
  (∀ k0_t2 : Fin (k0_t2_loop v203 v258).trips, ∀ (k0_h1 : k0_cond1 v6 = 1#1), ∀ (k0_h5 : k0_cond5 i v79 v104 = 1#1), 512 ∣ (k0_mult29 v203 v258 k0_t2).toNat) ∧
  (∀ k0_t2 : Fin (k0_t2_loop v203 v258).trips, ∀ (k0_h1 : k0_cond1 v6 = 1#1), ∀ (k0_h5 : k0_cond5 i v79 v104 = 1#1), ∀ (r : Fin 2), ∀ a, (k0_off46 v203 v258 k0_t2 (BitVec.ofNat 32 (1 + r.val))) a + S1x512x128.size a ≤ S1x4096x128.size a) ∧
  (∀ k0_t2 : Fin (k0_t2_loop v203 v258).trips, ∀ (k0_h1 : k0_cond1 v6 = 1#1), ∀ (k0_h5 : k0_cond5 i v79 v104 = 1#1), ∀ a, (k0_off47 v203 v258 k0_t2) a + S1x1x64x512.size a ≤ S1x8x128x512.size a) ∧
  (∀ k0_t2 : Fin (k0_t2_loop v203 v258).trips, ∀ (k0_h1 : k0_cond1 v6 = 1#1), ∀ (k0_h5 : k0_cond5 i v79 v104 = 1#1), 512 ∣ (k0_mult30 v203 v258 k0_t2).toNat) ∧
  (∀ k0_t2 : Fin (k0_t2_loop v203 v258).trips, ∀ (k0_h1 : k0_cond1 v6 = 1#1), ∀ (k0_h5 : k0_cond5 i v79 v104 = 1#1), ∀ a, (k0_off48 v203 v258 k0_t2) a + S1x1x64x512.size a ≤ S1x8x128x512.size a) ∧
  (∀ (k0_h1 : k0_cond1 v6 = 1#1), ∀ (k0_h5 : k0_cond5 i v79 v104 = 1#1), (k0_t3_loop v203 v258).OK) ∧
  (∀ k0_t3 : Fin (k0_t3_loop v203 v258).trips, ∀ (k0_h1 : k0_cond1 v6 = 1#1), ∀ (k0_h5 : k0_cond5 i v79 v104 = 1#1), 512 ∣ (k0_mult31 v203 v258 k0_t3).toNat) ∧
  (∀ k0_t3 : Fin (k0_t3_loop v203 v258).trips, ∀ (k0_h1 : k0_cond1 v6 = 1#1), ∀ (k0_h5 : k0_cond5 i v79 v104 = 1#1), ∀ (r : Fin 2), ∀ a, (k0_off49 v203 v258 k0_t3 (BitVec.ofNat 32 (1 + r.val))) a + S1x512x128.size a ≤ S1x4096x128.size a) ∧
  (∀ k0_t3 : Fin (k0_t3_loop v203 v258).trips, ∀ (k0_h1 : k0_cond1 v6 = 1#1), ∀ (k0_h5 : k0_cond5 i v79 v104 = 1#1), ∀ a, (k0_off50 v203 v258 k0_t3) a + S1x1x64x512.size a ≤ S1x8x128x512.size a) ∧
  (∀ k0_t3 : Fin (k0_t3_loop v203 v258).trips, ∀ (k0_h1 : k0_cond1 v6 = 1#1), ∀ (k0_h5 : k0_cond5 i v79 v104 = 1#1), 512 ∣ (k0_mult32 v203 v258 k0_t3).toNat) ∧
  (∀ k0_t3 : Fin (k0_t3_loop v203 v258).trips, ∀ (k0_h1 : k0_cond1 v6 = 1#1), ∀ (k0_h5 : k0_cond5 i v79 v104 = 1#1), ∀ a, (k0_off51 v203 v258 k0_t3) a + S1x1x64x512.size a ≤ S1x8x128x512.size a) ∧
  (∀ (k0_h1 : k0_cond1 v6 = 1#1), ∀ (k0_h5 : k0_cond5 i v79 v104 = 1#1), (k0_t4_loop v203 v258).OK) ∧
  (∀ k0_t4 : Fin (k0_t4_loop v203 v258).trips, ∀ (k0_h1 : k0_cond1 v6 = 1#1), ∀ (k0_h5 : k0_cond5 i v79 v104 = 1#1), 512 ∣ (k0_mult33 v203 v258 k0_t4).toNat) ∧
  (∀ k0_t4 : Fin (k0_t4_loop v203 v258).trips, ∀ (k0_h1 : k0_cond1 v6 = 1#1), ∀ (k0_h5 : k0_cond5 i v79 v104 = 1#1), ∀ (r : Fin 2), ∀ a, (k0_off52 v203 v258 k0_t4 (BitVec.ofNat 32 (1 + r.val))) a + S1x512x128.size a ≤ S1x4096x128.size a) ∧
  (∀ k0_t4 : Fin (k0_t4_loop v203 v258).trips, ∀ (k0_h1 : k0_cond1 v6 = 1#1), ∀ (k0_h5 : k0_cond5 i v79 v104 = 1#1), ∀ a, (k0_off53 v203 v258 k0_t4) a + S1x1x64x512.size a ≤ S1x8x128x512.size a) ∧
  (∀ k0_t4 : Fin (k0_t4_loop v203 v258).trips, ∀ (k0_h1 : k0_cond1 v6 = 1#1), ∀ (k0_h5 : k0_cond5 i v79 v104 = 1#1), 512 ∣ (k0_mult34 v203 v258 k0_t4).toNat) ∧
  (∀ k0_t4 : Fin (k0_t4_loop v203 v258).trips, ∀ (k0_h1 : k0_cond1 v6 = 1#1), ∀ (k0_h5 : k0_cond5 i v79 v104 = 1#1), ∀ a, (k0_off54 v203 v258 k0_t4) a + S1x1x64x512.size a ≤ S1x8x128x512.size a) ∧
  (∀ (k0_h1 : k0_cond1 v6 = 1#1), ∀ (k0_h5 : k0_cond5 i v79 v104 = 1#1), (k0_t5_loop i v203 v258).OK) ∧
  (∀ k0_t5 : Fin (k0_t5_loop i v203 v258).trips, ∀ (k0_h1 : k0_cond1 v6 = 1#1), ∀ (k0_h5 : k0_cond5 i v79 v104 = 1#1), 512 ∣ (k0_mult35 i v203 v258 k0_t5).toNat) ∧
  (∀ k0_t5 : Fin (k0_t5_loop i v203 v258).trips, ∀ (k0_h1 : k0_cond1 v6 = 1#1), ∀ (k0_h5 : k0_cond5 i v79 v104 = 1#1), ∀ (r₁ : Fin 2) (r₂ : Fin 2), ∀ a, (k0_off55 i v203 v258 k0_t5 (BitVec.ofNat 32 r₁.val) (BitVec.ofNat 32 (1 + r₂.val))) a + S1x512x128.size a ≤ S1x4096x128.size a) ∧
  (∀ k0_t5 : Fin (k0_t5_loop i v203 v258).trips, ∀ (k0_h1 : k0_cond1 v6 = 1#1), ∀ (k0_h5 : k0_cond5 i v79 v104 = 1#1), ∀ (r : Fin 2), ∀ a, (k0_off56 i v203 v258 k0_t5 (BitVec.ofNat 32 r.val)) a + S1x1x64x512.size a ≤ S1x8x128x512.size a) ∧
  (∀ k0_t5 : Fin (k0_t5_loop i v203 v258).trips, ∀ (k0_h1 : k0_cond1 v6 = 1#1), ∀ (k0_h5 : k0_cond5 i v79 v104 = 1#1), 512 ∣ (k0_mult36 i v203 v258 k0_t5).toNat) ∧
  (∀ k0_t5 : Fin (k0_t5_loop i v203 v258).trips, ∀ (k0_h1 : k0_cond1 v6 = 1#1), ∀ (k0_h5 : k0_cond5 i v79 v104 = 1#1), ∀ (r : Fin 2), ∀ a, (k0_off57 i v203 v258 k0_t5 (BitVec.ofNat 32 r.val)) a + S1x1x64x512.size a ≤ S1x8x128x512.size a)
def k0_chk8_1 (i : grid0.Coords) (v6 : BitVec 32) (v79 : BitVec 32) (v104 : BitVec 32) (v203 : BitVec 32) (v258 : BitVec 32) : Prop :=
  (∀ k0_t5 : Fin (k0_t5_loop i v203 v258).trips, ∀ (k0_h1 : k0_cond1 v6 = 1#1), ∀ (k0_h5 : k0_cond5 i v79 v104 = 1#1), 512 ∣ (k0_mult37 i v203 v258 k0_t5).toNat) ∧
  (∀ k0_t5 : Fin (k0_t5_loop i v203 v258).trips, ∀ (k0_h1 : k0_cond1 v6 = 1#1), ∀ (k0_h5 : k0_cond5 i v79 v104 = 1#1), ∀ (r : Fin 2), ∀ a, (k0_off58 i v203 v258 k0_t5 (BitVec.ofNat 32 r.val)) a + S1x1x64x512.size a ≤ S1x8x128x512.size a) ∧
  (∀ k0_t5 : Fin (k0_t5_loop i v203 v258).trips, ∀ (k0_h1 : k0_cond1 v6 = 1#1), ∀ (k0_h5 : k0_cond5 i v79 v104 = 1#1), 512 ∣ (k0_mult38 i v203 v258 k0_t5).toNat) ∧
  (∀ k0_t5 : Fin (k0_t5_loop i v203 v258).trips, ∀ (k0_h1 : k0_cond1 v6 = 1#1), ∀ (k0_h5 : k0_cond5 i v79 v104 = 1#1), ∀ (r : Fin 2), ∀ a, (k0_off59 i v203 v258 k0_t5 (BitVec.ofNat 32 r.val)) a + S1x1x64x512.size a ≤ S1x8x128x512.size a) ∧
  (∀ k0_t5 : Fin (k0_t5_loop i v203 v258).trips, ∀ (k0_h1 : k0_cond1 v6 = 1#1), ∀ (k0_h5 : k0_cond5 i v79 v104 = 1#1), 512 ∣ (k0_mult39 i v203 v258 k0_t5).toNat) ∧
  (∀ k0_t5 : Fin (k0_t5_loop i v203 v258).trips, ∀ (k0_h1 : k0_cond1 v6 = 1#1), ∀ (k0_h5 : k0_cond5 i v79 v104 = 1#1), 512 ∣ (k0_mult40 i v203 v258 k0_t5).toNat) ∧
  (∀ k0_t5 : Fin (k0_t5_loop i v203 v258).trips, ∀ (k0_h1 : k0_cond1 v6 = 1#1), ∀ (k0_h5 : k0_cond5 i v79 v104 = 1#1), 512 ∣ (k0_mult41 i v203 v258 k0_t5).toNat) ∧
  (∀ k0_t5 : Fin (k0_t5_loop i v203 v258).trips, ∀ (k0_h1 : k0_cond1 v6 = 1#1), ∀ (k0_h5 : k0_cond5 i v79 v104 = 1#1), 512 ∣ (k0_mult42 i v203 v258 k0_t5).toNat) ∧
  (∀ (k0_h1 : k0_cond1 v6 = 1#1), ∀ (k0_h5 : k0_cond5 i v79 v104 = 1#1), (k0_t6_loop i v203 v258).OK) ∧
  (∀ k0_t6 : Fin (k0_t6_loop i v203 v258).trips, ∀ (k0_h1 : k0_cond1 v6 = 1#1), ∀ (k0_h5 : k0_cond5 i v79 v104 = 1#1), 512 ∣ (k0_mult43 i v203 v258 k0_t6).toNat) ∧
  (∀ k0_t6 : Fin (k0_t6_loop i v203 v258).trips, ∀ (k0_h1 : k0_cond1 v6 = 1#1), ∀ (k0_h5 : k0_cond5 i v79 v104 = 1#1), ∀ (r₁ : Fin 2) (r₂ : Fin 2), ∀ a, (k0_off60 i v203 v258 k0_t6 (BitVec.ofNat 32 r₁.val) (BitVec.ofNat 32 (1 + r₂.val))) a + S1x512x128.size a ≤ S1x4096x128.size a) ∧
  (∀ k0_t6 : Fin (k0_t6_loop i v203 v258).trips, ∀ (k0_h1 : k0_cond1 v6 = 1#1), ∀ (k0_h5 : k0_cond5 i v79 v104 = 1#1), ∀ (r : Fin 2), ∀ a, (k0_off61 i v203 v258 k0_t6 (BitVec.ofNat 32 r.val)) a + S1x1x64x512.size a ≤ S1x8x128x512.size a) ∧
  (∀ k0_t6 : Fin (k0_t6_loop i v203 v258).trips, ∀ (k0_h1 : k0_cond1 v6 = 1#1), ∀ (k0_h5 : k0_cond5 i v79 v104 = 1#1), 512 ∣ (k0_mult44 i v203 v258 k0_t6).toNat) ∧
  (∀ k0_t6 : Fin (k0_t6_loop i v203 v258).trips, ∀ (k0_h1 : k0_cond1 v6 = 1#1), ∀ (k0_h5 : k0_cond5 i v79 v104 = 1#1), ∀ (r : Fin 2), ∀ a, (k0_off62 i v203 v258 k0_t6 (BitVec.ofNat 32 r.val)) a + S1x1x64x512.size a ≤ S1x8x128x512.size a) ∧
  (∀ k0_t6 : Fin (k0_t6_loop i v203 v258).trips, ∀ (k0_h1 : k0_cond1 v6 = 1#1), ∀ (k0_h5 : k0_cond5 i v79 v104 = 1#1), 512 ∣ (k0_mult45 i v203 v258 k0_t6).toNat) ∧
  (∀ k0_t6 : Fin (k0_t6_loop i v203 v258).trips, ∀ (k0_h1 : k0_cond1 v6 = 1#1), ∀ (k0_h5 : k0_cond5 i v79 v104 = 1#1), ∀ (r : Fin 2), ∀ a, (k0_off63 i v203 v258 k0_t6 (BitVec.ofNat 32 r.val)) a + S1x1x64x512.size a ≤ S1x8x128x512.size a) ∧
  (∀ k0_t6 : Fin (k0_t6_loop i v203 v258).trips, ∀ (k0_h1 : k0_cond1 v6 = 1#1), ∀ (k0_h5 : k0_cond5 i v79 v104 = 1#1), 512 ∣ (k0_mult46 i v203 v258 k0_t6).toNat) ∧
  (∀ k0_t6 : Fin (k0_t6_loop i v203 v258).trips, ∀ (k0_h1 : k0_cond1 v6 = 1#1), ∀ (k0_h5 : k0_cond5 i v79 v104 = 1#1), ∀ (r : Fin 2), ∀ a, (k0_off64 i v203 v258 k0_t6 (BitVec.ofNat 32 r.val)) a + S1x1x64x512.size a ≤ S1x8x128x512.size a) ∧
  (∀ k0_t6 : Fin (k0_t6_loop i v203 v258).trips, ∀ (k0_h1 : k0_cond1 v6 = 1#1), ∀ (k0_h5 : k0_cond5 i v79 v104 = 1#1), 512 ∣ (k0_mult47 i v203 v258 k0_t6).toNat) ∧
  (∀ k0_t6 : Fin (k0_t6_loop i v203 v258).trips, ∀ (k0_h1 : k0_cond1 v6 = 1#1), ∀ (k0_h5 : k0_cond5 i v79 v104 = 1#1), 512 ∣ (k0_mult48 i v203 v258 k0_t6).toNat) ∧
  (∀ k0_t6 : Fin (k0_t6_loop i v203 v258).trips, ∀ (k0_h1 : k0_cond1 v6 = 1#1), ∀ (k0_h5 : k0_cond5 i v79 v104 = 1#1), 512 ∣ (k0_mult49 i v203 v258 k0_t6).toNat) ∧
  (∀ k0_t6 : Fin (k0_t6_loop i v203 v258).trips, ∀ (k0_h1 : k0_cond1 v6 = 1#1), ∀ (k0_h5 : k0_cond5 i v79 v104 = 1#1), 512 ∣ (k0_mult50 i v203 v258 k0_t6).toNat) ∧
  (∀ (k0_h1 : k0_cond1 v6 = 1#1), ∀ (k0_h5 : k0_cond5 i v79 v104 = 1#1), (k0_t7_loop i v203 v258).OK) ∧
  (∀ k0_t7 : Fin (k0_t7_loop i v203 v258).trips, ∀ (k0_h1 : k0_cond1 v6 = 1#1), ∀ (k0_h5 : k0_cond5 i v79 v104 = 1#1), 512 ∣ (k0_mult51 i v203 v258 k0_t7).toNat) ∧
  (∀ k0_t7 : Fin (k0_t7_loop i v203 v258).trips, ∀ (k0_h1 : k0_cond1 v6 = 1#1), ∀ (k0_h5 : k0_cond5 i v79 v104 = 1#1), ∀ (r : Fin 2), ∀ a, (k0_off65 i v203 v258 k0_t7 (BitVec.ofNat 32 (1 + r.val))) a + S1x512x128.size a ≤ S1x4096x128.size a) ∧
  (∀ k0_t7 : Fin (k0_t7_loop i v203 v258).trips, ∀ (k0_h1 : k0_cond1 v6 = 1#1), ∀ (k0_h5 : k0_cond5 i v79 v104 = 1#1), ∀ a, (k0_off66 i v203 v258 k0_t7) a + S1x1x64x512.size a ≤ S1x8x128x512.size a) ∧
  (∀ k0_t7 : Fin (k0_t7_loop i v203 v258).trips, ∀ (k0_h1 : k0_cond1 v6 = 1#1), ∀ (k0_h5 : k0_cond5 i v79 v104 = 1#1), 512 ∣ (k0_mult52 i v203 v258 k0_t7).toNat) ∧
  (∀ k0_t7 : Fin (k0_t7_loop i v203 v258).trips, ∀ (k0_h1 : k0_cond1 v6 = 1#1), ∀ (k0_h5 : k0_cond5 i v79 v104 = 1#1), ∀ a, (k0_off67 i v203 v258 k0_t7) a + S1x1x64x512.size a ≤ S1x8x128x512.size a) ∧
  (∀ k0_t7 : Fin (k0_t7_loop i v203 v258).trips, ∀ (k0_h1 : k0_cond1 v6 = 1#1), ∀ (k0_h5 : k0_cond5 i v79 v104 = 1#1), 512 ∣ (k0_mult53 i v203 v258 k0_t7).toNat) ∧
  (∀ k0_t7 : Fin (k0_t7_loop i v203 v258).trips, ∀ (k0_h1 : k0_cond1 v6 = 1#1), ∀ (k0_h5 : k0_cond5 i v79 v104 = 1#1), ∀ a, (k0_off68 i v203 v258 k0_t7) a + S1x1x64x512.size a ≤ S1x8x128x512.size a) ∧
  (∀ k0_t7 : Fin (k0_t7_loop i v203 v258).trips, ∀ (k0_h1 : k0_cond1 v6 = 1#1), ∀ (k0_h5 : k0_cond5 i v79 v104 = 1#1), 512 ∣ (k0_mult54 i v203 v258 k0_t7).toNat) ∧
  (∀ k0_t7 : Fin (k0_t7_loop i v203 v258).trips, ∀ (k0_h1 : k0_cond1 v6 = 1#1), ∀ (k0_h5 : k0_cond5 i v79 v104 = 1#1), ∀ a, (k0_off69 i v203 v258 k0_t7) a + S1x1x64x512.size a ≤ S1x8x128x512.size a)
def k0_chk8_2 (i : grid0.Coords) (v6 : BitVec 32) (v79 : BitVec 32) (v104 : BitVec 32) (v203 : BitVec 32) (v258 : BitVec 32) : Prop :=
  (∀ (k0_h1 : k0_cond1 v6 = 1#1), ∀ (k0_h5 : k0_cond5 i v79 v104 = 1#1), (k0_t8_loop i v203 v258).OK) ∧
  (∀ k0_t8 : Fin (k0_t8_loop i v203 v258).trips, ∀ (k0_h1 : k0_cond1 v6 = 1#1), ∀ (k0_h5 : k0_cond5 i v79 v104 = 1#1), 512 ∣ (k0_mult55 i v203 v258 k0_t8).toNat) ∧
  (∀ k0_t8 : Fin (k0_t8_loop i v203 v258).trips, ∀ (k0_h1 : k0_cond1 v6 = 1#1), ∀ (k0_h5 : k0_cond5 i v79 v104 = 1#1), ∀ (r : Fin 2), ∀ a, (k0_off70 i v203 v258 k0_t8 (BitVec.ofNat 32 (1 + r.val))) a + S1x512x128.size a ≤ S1x4096x128.size a) ∧
  (∀ k0_t8 : Fin (k0_t8_loop i v203 v258).trips, ∀ (k0_h1 : k0_cond1 v6 = 1#1), ∀ (k0_h5 : k0_cond5 i v79 v104 = 1#1), ∀ a, (k0_off71 i v203 v258 k0_t8) a + S1x1x64x512.size a ≤ S1x8x128x512.size a) ∧
  (∀ k0_t8 : Fin (k0_t8_loop i v203 v258).trips, ∀ (k0_h1 : k0_cond1 v6 = 1#1), ∀ (k0_h5 : k0_cond5 i v79 v104 = 1#1), 512 ∣ (k0_mult56 i v203 v258 k0_t8).toNat) ∧
  (∀ k0_t8 : Fin (k0_t8_loop i v203 v258).trips, ∀ (k0_h1 : k0_cond1 v6 = 1#1), ∀ (k0_h5 : k0_cond5 i v79 v104 = 1#1), ∀ a, (k0_off72 i v203 v258 k0_t8) a + S1x1x64x512.size a ≤ S1x8x128x512.size a) ∧
  (∀ k0_t8 : Fin (k0_t8_loop i v203 v258).trips, ∀ (k0_h1 : k0_cond1 v6 = 1#1), ∀ (k0_h5 : k0_cond5 i v79 v104 = 1#1), 512 ∣ (k0_mult57 i v203 v258 k0_t8).toNat) ∧
  (∀ k0_t8 : Fin (k0_t8_loop i v203 v258).trips, ∀ (k0_h1 : k0_cond1 v6 = 1#1), ∀ (k0_h5 : k0_cond5 i v79 v104 = 1#1), ∀ a, (k0_off73 i v203 v258 k0_t8) a + S1x1x64x512.size a ≤ S1x8x128x512.size a) ∧
  (∀ k0_t8 : Fin (k0_t8_loop i v203 v258).trips, ∀ (k0_h1 : k0_cond1 v6 = 1#1), ∀ (k0_h5 : k0_cond5 i v79 v104 = 1#1), 512 ∣ (k0_mult58 i v203 v258 k0_t8).toNat) ∧
  (∀ k0_t8 : Fin (k0_t8_loop i v203 v258).trips, ∀ (k0_h1 : k0_cond1 v6 = 1#1), ∀ (k0_h5 : k0_cond5 i v79 v104 = 1#1), ∀ a, (k0_off74 i v203 v258 k0_t8) a + S1x1x64x512.size a ≤ S1x8x128x512.size a)
def k0_chk8 (i : grid0.Coords) (v6 : BitVec 32) (v79 : BitVec 32) (v104 : BitVec 32) (v203 : BitVec 32) (v258 : BitVec 32) : Prop :=
  k0_chk8_0 i v6 v79 v104 v203 v258 ∧
  k0_chk8_1 i v6 v79 v104 v203 v258 ∧
  k0_chk8_2 i v6 v79 v104 v203 v258
theorem k0_mult26_dvd : ∀ (i : grid0.Coords) (v6 : BitVec 32) (v79 : BitVec 32) (v104 : BitVec 32) (v203 : BitVec 32) (v258 : BitVec 32) (k0_hw8 : k0_chk8 i v6 v79 v104 v203 v258), ∀ (k0_h1 : k0_cond1 v6 = 1#1), ∀ (k0_h5 : k0_cond5 i v79 v104 = 1#1), 512 ∣ (k0_mult26 v258).toNat := fun i v6 v79 v104 v203 v258 k0_hw8 k0_h1 k0_h5 => k0_hw8.1.1 k0_h1 k0_h5
theorem k0_off42_inb : ∀ (i : grid0.Coords) (v6 : BitVec 32) (v79 : BitVec 32) (v104 : BitVec 32) (v203 : BitVec 32) (v258 : BitVec 32) (k0_hw8 : k0_chk8 i v6 v79 v104 v203 v258), ∀ (k0_h1 : k0_cond1 v6 = 1#1), ∀ (k0_h5 : k0_cond5 i v79 v104 = 1#1), ∀ a, (k0_off42 v258) a + S1x512x128.size a ≤ S1x4096x128.size a := fun i v6 v79 v104 v203 v258 k0_hw8 k0_h1 k0_h5 => k0_hw8.1.2.1 k0_h1 k0_h5
theorem k0_t1_ok : ∀ (i : grid0.Coords) (v6 : BitVec 32) (v79 : BitVec 32) (v104 : BitVec 32) (v203 : BitVec 32) (v258 : BitVec 32) (k0_hw8 : k0_chk8 i v6 v79 v104 v203 v258), ∀ (k0_h1 : k0_cond1 v6 = 1#1), ∀ (k0_h5 : k0_cond5 i v79 v104 = 1#1), (k0_t1_loop v203 v258).OK := fun i v6 v79 v104 v203 v258 k0_hw8 k0_h1 k0_h5 => k0_hw8.1.2.2.1 k0_h1 k0_h5
theorem k0_mult27_dvd : ∀ (i : grid0.Coords) (v6 : BitVec 32) (v79 : BitVec 32) (v104 : BitVec 32) (v203 : BitVec 32) (v258 : BitVec 32) (k0_hw8 : k0_chk8 i v6 v79 v104 v203 v258) (k0_t1 : Fin (k0_t1_loop v203 v258).trips), ∀ (k0_h1 : k0_cond1 v6 = 1#1), ∀ (k0_h5 : k0_cond5 i v79 v104 = 1#1), 512 ∣ (k0_mult27 v203 v258 k0_t1).toNat := fun i v6 v79 v104 v203 v258 k0_hw8 k0_t1 k0_h1 k0_h5 => k0_hw8.1.2.2.2.1 k0_t1 k0_h1 k0_h5
theorem k0_off43_inb : ∀ (i : grid0.Coords) (v6 : BitVec 32) (v79 : BitVec 32) (v104 : BitVec 32) (v203 : BitVec 32) (v258 : BitVec 32) (k0_hw8 : k0_chk8 i v6 v79 v104 v203 v258) (k0_t1 : Fin (k0_t1_loop v203 v258).trips), ∀ (k0_h1 : k0_cond1 v6 = 1#1), ∀ (k0_h5 : k0_cond5 i v79 v104 = 1#1), ∀ (r : Fin 2), ∀ a, (k0_off43 v203 v258 k0_t1 (BitVec.ofNat 32 (1 + r.val))) a + S1x512x128.size a ≤ S1x4096x128.size a := fun i v6 v79 v104 v203 v258 k0_hw8 k0_t1 k0_h1 k0_h5 r => k0_hw8.1.2.2.2.2.1 k0_t1 k0_h1 k0_h5 r
theorem k0_off44_inb : ∀ (i : grid0.Coords) (v6 : BitVec 32) (v79 : BitVec 32) (v104 : BitVec 32) (v203 : BitVec 32) (v258 : BitVec 32) (k0_hw8 : k0_chk8 i v6 v79 v104 v203 v258) (k0_t1 : Fin (k0_t1_loop v203 v258).trips), ∀ (k0_h1 : k0_cond1 v6 = 1#1), ∀ (k0_h5 : k0_cond5 i v79 v104 = 1#1), ∀ a, (k0_off44 v203 v258 k0_t1) a + S1x1x64x512.size a ≤ S1x8x128x512.size a := fun i v6 v79 v104 v203 v258 k0_hw8 k0_t1 k0_h1 k0_h5 => k0_hw8.1.2.2.2.2.2.1 k0_t1 k0_h1 k0_h5
theorem k0_mult28_dvd : ∀ (i : grid0.Coords) (v6 : BitVec 32) (v79 : BitVec 32) (v104 : BitVec 32) (v203 : BitVec 32) (v258 : BitVec 32) (k0_hw8 : k0_chk8 i v6 v79 v104 v203 v258) (k0_t1 : Fin (k0_t1_loop v203 v258).trips), ∀ (k0_h1 : k0_cond1 v6 = 1#1), ∀ (k0_h5 : k0_cond5 i v79 v104 = 1#1), 512 ∣ (k0_mult28 v203 v258 k0_t1).toNat := fun i v6 v79 v104 v203 v258 k0_hw8 k0_t1 k0_h1 k0_h5 => k0_hw8.1.2.2.2.2.2.2.1 k0_t1 k0_h1 k0_h5
theorem k0_off45_inb : ∀ (i : grid0.Coords) (v6 : BitVec 32) (v79 : BitVec 32) (v104 : BitVec 32) (v203 : BitVec 32) (v258 : BitVec 32) (k0_hw8 : k0_chk8 i v6 v79 v104 v203 v258) (k0_t1 : Fin (k0_t1_loop v203 v258).trips), ∀ (k0_h1 : k0_cond1 v6 = 1#1), ∀ (k0_h5 : k0_cond5 i v79 v104 = 1#1), ∀ a, (k0_off45 v203 v258 k0_t1) a + S1x1x64x512.size a ≤ S1x8x128x512.size a := fun i v6 v79 v104 v203 v258 k0_hw8 k0_t1 k0_h1 k0_h5 => k0_hw8.1.2.2.2.2.2.2.2.1 k0_t1 k0_h1 k0_h5
theorem k0_t2_ok : ∀ (i : grid0.Coords) (v6 : BitVec 32) (v79 : BitVec 32) (v104 : BitVec 32) (v203 : BitVec 32) (v258 : BitVec 32) (k0_hw8 : k0_chk8 i v6 v79 v104 v203 v258), ∀ (k0_h1 : k0_cond1 v6 = 1#1), ∀ (k0_h5 : k0_cond5 i v79 v104 = 1#1), (k0_t2_loop v203 v258).OK := fun i v6 v79 v104 v203 v258 k0_hw8 k0_h1 k0_h5 => k0_hw8.1.2.2.2.2.2.2.2.2.1 k0_h1 k0_h5
theorem k0_mult29_dvd : ∀ (i : grid0.Coords) (v6 : BitVec 32) (v79 : BitVec 32) (v104 : BitVec 32) (v203 : BitVec 32) (v258 : BitVec 32) (k0_hw8 : k0_chk8 i v6 v79 v104 v203 v258) (k0_t2 : Fin (k0_t2_loop v203 v258).trips), ∀ (k0_h1 : k0_cond1 v6 = 1#1), ∀ (k0_h5 : k0_cond5 i v79 v104 = 1#1), 512 ∣ (k0_mult29 v203 v258 k0_t2).toNat := fun i v6 v79 v104 v203 v258 k0_hw8 k0_t2 k0_h1 k0_h5 => k0_hw8.1.2.2.2.2.2.2.2.2.2.1 k0_t2 k0_h1 k0_h5
theorem k0_off46_inb : ∀ (i : grid0.Coords) (v6 : BitVec 32) (v79 : BitVec 32) (v104 : BitVec 32) (v203 : BitVec 32) (v258 : BitVec 32) (k0_hw8 : k0_chk8 i v6 v79 v104 v203 v258) (k0_t2 : Fin (k0_t2_loop v203 v258).trips), ∀ (k0_h1 : k0_cond1 v6 = 1#1), ∀ (k0_h5 : k0_cond5 i v79 v104 = 1#1), ∀ (r : Fin 2), ∀ a, (k0_off46 v203 v258 k0_t2 (BitVec.ofNat 32 (1 + r.val))) a + S1x512x128.size a ≤ S1x4096x128.size a := fun i v6 v79 v104 v203 v258 k0_hw8 k0_t2 k0_h1 k0_h5 r => k0_hw8.1.2.2.2.2.2.2.2.2.2.2.1 k0_t2 k0_h1 k0_h5 r
theorem k0_off47_inb : ∀ (i : grid0.Coords) (v6 : BitVec 32) (v79 : BitVec 32) (v104 : BitVec 32) (v203 : BitVec 32) (v258 : BitVec 32) (k0_hw8 : k0_chk8 i v6 v79 v104 v203 v258) (k0_t2 : Fin (k0_t2_loop v203 v258).trips), ∀ (k0_h1 : k0_cond1 v6 = 1#1), ∀ (k0_h5 : k0_cond5 i v79 v104 = 1#1), ∀ a, (k0_off47 v203 v258 k0_t2) a + S1x1x64x512.size a ≤ S1x8x128x512.size a := fun i v6 v79 v104 v203 v258 k0_hw8 k0_t2 k0_h1 k0_h5 => k0_hw8.1.2.2.2.2.2.2.2.2.2.2.2.1 k0_t2 k0_h1 k0_h5
theorem k0_mult30_dvd : ∀ (i : grid0.Coords) (v6 : BitVec 32) (v79 : BitVec 32) (v104 : BitVec 32) (v203 : BitVec 32) (v258 : BitVec 32) (k0_hw8 : k0_chk8 i v6 v79 v104 v203 v258) (k0_t2 : Fin (k0_t2_loop v203 v258).trips), ∀ (k0_h1 : k0_cond1 v6 = 1#1), ∀ (k0_h5 : k0_cond5 i v79 v104 = 1#1), 512 ∣ (k0_mult30 v203 v258 k0_t2).toNat := fun i v6 v79 v104 v203 v258 k0_hw8 k0_t2 k0_h1 k0_h5 => k0_hw8.1.2.2.2.2.2.2.2.2.2.2.2.2.1 k0_t2 k0_h1 k0_h5
theorem k0_off48_inb : ∀ (i : grid0.Coords) (v6 : BitVec 32) (v79 : BitVec 32) (v104 : BitVec 32) (v203 : BitVec 32) (v258 : BitVec 32) (k0_hw8 : k0_chk8 i v6 v79 v104 v203 v258) (k0_t2 : Fin (k0_t2_loop v203 v258).trips), ∀ (k0_h1 : k0_cond1 v6 = 1#1), ∀ (k0_h5 : k0_cond5 i v79 v104 = 1#1), ∀ a, (k0_off48 v203 v258 k0_t2) a + S1x1x64x512.size a ≤ S1x8x128x512.size a := fun i v6 v79 v104 v203 v258 k0_hw8 k0_t2 k0_h1 k0_h5 => k0_hw8.1.2.2.2.2.2.2.2.2.2.2.2.2.2.1 k0_t2 k0_h1 k0_h5
theorem k0_t3_ok : ∀ (i : grid0.Coords) (v6 : BitVec 32) (v79 : BitVec 32) (v104 : BitVec 32) (v203 : BitVec 32) (v258 : BitVec 32) (k0_hw8 : k0_chk8 i v6 v79 v104 v203 v258), ∀ (k0_h1 : k0_cond1 v6 = 1#1), ∀ (k0_h5 : k0_cond5 i v79 v104 = 1#1), (k0_t3_loop v203 v258).OK := fun i v6 v79 v104 v203 v258 k0_hw8 k0_h1 k0_h5 => k0_hw8.1.2.2.2.2.2.2.2.2.2.2.2.2.2.2.1 k0_h1 k0_h5
theorem k0_mult31_dvd : ∀ (i : grid0.Coords) (v6 : BitVec 32) (v79 : BitVec 32) (v104 : BitVec 32) (v203 : BitVec 32) (v258 : BitVec 32) (k0_hw8 : k0_chk8 i v6 v79 v104 v203 v258) (k0_t3 : Fin (k0_t3_loop v203 v258).trips), ∀ (k0_h1 : k0_cond1 v6 = 1#1), ∀ (k0_h5 : k0_cond5 i v79 v104 = 1#1), 512 ∣ (k0_mult31 v203 v258 k0_t3).toNat := fun i v6 v79 v104 v203 v258 k0_hw8 k0_t3 k0_h1 k0_h5 => k0_hw8.1.2.2.2.2.2.2.2.2.2.2.2.2.2.2.2.1 k0_t3 k0_h1 k0_h5
theorem k0_off49_inb : ∀ (i : grid0.Coords) (v6 : BitVec 32) (v79 : BitVec 32) (v104 : BitVec 32) (v203 : BitVec 32) (v258 : BitVec 32) (k0_hw8 : k0_chk8 i v6 v79 v104 v203 v258) (k0_t3 : Fin (k0_t3_loop v203 v258).trips), ∀ (k0_h1 : k0_cond1 v6 = 1#1), ∀ (k0_h5 : k0_cond5 i v79 v104 = 1#1), ∀ (r : Fin 2), ∀ a, (k0_off49 v203 v258 k0_t3 (BitVec.ofNat 32 (1 + r.val))) a + S1x512x128.size a ≤ S1x4096x128.size a := fun i v6 v79 v104 v203 v258 k0_hw8 k0_t3 k0_h1 k0_h5 r => k0_hw8.1.2.2.2.2.2.2.2.2.2.2.2.2.2.2.2.2.1 k0_t3 k0_h1 k0_h5 r
theorem k0_off50_inb : ∀ (i : grid0.Coords) (v6 : BitVec 32) (v79 : BitVec 32) (v104 : BitVec 32) (v203 : BitVec 32) (v258 : BitVec 32) (k0_hw8 : k0_chk8 i v6 v79 v104 v203 v258) (k0_t3 : Fin (k0_t3_loop v203 v258).trips), ∀ (k0_h1 : k0_cond1 v6 = 1#1), ∀ (k0_h5 : k0_cond5 i v79 v104 = 1#1), ∀ a, (k0_off50 v203 v258 k0_t3) a + S1x1x64x512.size a ≤ S1x8x128x512.size a := fun i v6 v79 v104 v203 v258 k0_hw8 k0_t3 k0_h1 k0_h5 => k0_hw8.1.2.2.2.2.2.2.2.2.2.2.2.2.2.2.2.2.2.1 k0_t3 k0_h1 k0_h5
theorem k0_mult32_dvd : ∀ (i : grid0.Coords) (v6 : BitVec 32) (v79 : BitVec 32) (v104 : BitVec 32) (v203 : BitVec 32) (v258 : BitVec 32) (k0_hw8 : k0_chk8 i v6 v79 v104 v203 v258) (k0_t3 : Fin (k0_t3_loop v203 v258).trips), ∀ (k0_h1 : k0_cond1 v6 = 1#1), ∀ (k0_h5 : k0_cond5 i v79 v104 = 1#1), 512 ∣ (k0_mult32 v203 v258 k0_t3).toNat := fun i v6 v79 v104 v203 v258 k0_hw8 k0_t3 k0_h1 k0_h5 => k0_hw8.1.2.2.2.2.2.2.2.2.2.2.2.2.2.2.2.2.2.2.1 k0_t3 k0_h1 k0_h5
theorem k0_off51_inb : ∀ (i : grid0.Coords) (v6 : BitVec 32) (v79 : BitVec 32) (v104 : BitVec 32) (v203 : BitVec 32) (v258 : BitVec 32) (k0_hw8 : k0_chk8 i v6 v79 v104 v203 v258) (k0_t3 : Fin (k0_t3_loop v203 v258).trips), ∀ (k0_h1 : k0_cond1 v6 = 1#1), ∀ (k0_h5 : k0_cond5 i v79 v104 = 1#1), ∀ a, (k0_off51 v203 v258 k0_t3) a + S1x1x64x512.size a ≤ S1x8x128x512.size a := fun i v6 v79 v104 v203 v258 k0_hw8 k0_t3 k0_h1 k0_h5 => k0_hw8.1.2.2.2.2.2.2.2.2.2.2.2.2.2.2.2.2.2.2.2.1 k0_t3 k0_h1 k0_h5
theorem k0_t4_ok : ∀ (i : grid0.Coords) (v6 : BitVec 32) (v79 : BitVec 32) (v104 : BitVec 32) (v203 : BitVec 32) (v258 : BitVec 32) (k0_hw8 : k0_chk8 i v6 v79 v104 v203 v258), ∀ (k0_h1 : k0_cond1 v6 = 1#1), ∀ (k0_h5 : k0_cond5 i v79 v104 = 1#1), (k0_t4_loop v203 v258).OK := fun i v6 v79 v104 v203 v258 k0_hw8 k0_h1 k0_h5 => k0_hw8.1.2.2.2.2.2.2.2.2.2.2.2.2.2.2.2.2.2.2.2.2.1 k0_h1 k0_h5
theorem k0_mult33_dvd : ∀ (i : grid0.Coords) (v6 : BitVec 32) (v79 : BitVec 32) (v104 : BitVec 32) (v203 : BitVec 32) (v258 : BitVec 32) (k0_hw8 : k0_chk8 i v6 v79 v104 v203 v258) (k0_t4 : Fin (k0_t4_loop v203 v258).trips), ∀ (k0_h1 : k0_cond1 v6 = 1#1), ∀ (k0_h5 : k0_cond5 i v79 v104 = 1#1), 512 ∣ (k0_mult33 v203 v258 k0_t4).toNat := fun i v6 v79 v104 v203 v258 k0_hw8 k0_t4 k0_h1 k0_h5 => k0_hw8.1.2.2.2.2.2.2.2.2.2.2.2.2.2.2.2.2.2.2.2.2.2.1 k0_t4 k0_h1 k0_h5
theorem k0_off52_inb : ∀ (i : grid0.Coords) (v6 : BitVec 32) (v79 : BitVec 32) (v104 : BitVec 32) (v203 : BitVec 32) (v258 : BitVec 32) (k0_hw8 : k0_chk8 i v6 v79 v104 v203 v258) (k0_t4 : Fin (k0_t4_loop v203 v258).trips), ∀ (k0_h1 : k0_cond1 v6 = 1#1), ∀ (k0_h5 : k0_cond5 i v79 v104 = 1#1), ∀ (r : Fin 2), ∀ a, (k0_off52 v203 v258 k0_t4 (BitVec.ofNat 32 (1 + r.val))) a + S1x512x128.size a ≤ S1x4096x128.size a := fun i v6 v79 v104 v203 v258 k0_hw8 k0_t4 k0_h1 k0_h5 r => k0_hw8.1.2.2.2.2.2.2.2.2.2.2.2.2.2.2.2.2.2.2.2.2.2.2.1 k0_t4 k0_h1 k0_h5 r
theorem k0_off53_inb : ∀ (i : grid0.Coords) (v6 : BitVec 32) (v79 : BitVec 32) (v104 : BitVec 32) (v203 : BitVec 32) (v258 : BitVec 32) (k0_hw8 : k0_chk8 i v6 v79 v104 v203 v258) (k0_t4 : Fin (k0_t4_loop v203 v258).trips), ∀ (k0_h1 : k0_cond1 v6 = 1#1), ∀ (k0_h5 : k0_cond5 i v79 v104 = 1#1), ∀ a, (k0_off53 v203 v258 k0_t4) a + S1x1x64x512.size a ≤ S1x8x128x512.size a := fun i v6 v79 v104 v203 v258 k0_hw8 k0_t4 k0_h1 k0_h5 => k0_hw8.1.2.2.2.2.2.2.2.2.2.2.2.2.2.2.2.2.2.2.2.2.2.2.2.1 k0_t4 k0_h1 k0_h5
theorem k0_mult34_dvd : ∀ (i : grid0.Coords) (v6 : BitVec 32) (v79 : BitVec 32) (v104 : BitVec 32) (v203 : BitVec 32) (v258 : BitVec 32) (k0_hw8 : k0_chk8 i v6 v79 v104 v203 v258) (k0_t4 : Fin (k0_t4_loop v203 v258).trips), ∀ (k0_h1 : k0_cond1 v6 = 1#1), ∀ (k0_h5 : k0_cond5 i v79 v104 = 1#1), 512 ∣ (k0_mult34 v203 v258 k0_t4).toNat := fun i v6 v79 v104 v203 v258 k0_hw8 k0_t4 k0_h1 k0_h5 => k0_hw8.1.2.2.2.2.2.2.2.2.2.2.2.2.2.2.2.2.2.2.2.2.2.2.2.2.1 k0_t4 k0_h1 k0_h5
theorem k0_off54_inb : ∀ (i : grid0.Coords) (v6 : BitVec 32) (v79 : BitVec 32) (v104 : BitVec 32) (v203 : BitVec 32) (v258 : BitVec 32) (k0_hw8 : k0_chk8 i v6 v79 v104 v203 v258) (k0_t4 : Fin (k0_t4_loop v203 v258).trips), ∀ (k0_h1 : k0_cond1 v6 = 1#1), ∀ (k0_h5 : k0_cond5 i v79 v104 = 1#1), ∀ a, (k0_off54 v203 v258 k0_t4) a + S1x1x64x512.size a ≤ S1x8x128x512.size a := fun i v6 v79 v104 v203 v258 k0_hw8 k0_t4 k0_h1 k0_h5 => k0_hw8.1.2.2.2.2.2.2.2.2.2.2.2.2.2.2.2.2.2.2.2.2.2.2.2.2.2.1 k0_t4 k0_h1 k0_h5
theorem k0_t5_ok : ∀ (i : grid0.Coords) (v6 : BitVec 32) (v79 : BitVec 32) (v104 : BitVec 32) (v203 : BitVec 32) (v258 : BitVec 32) (k0_hw8 : k0_chk8 i v6 v79 v104 v203 v258), ∀ (k0_h1 : k0_cond1 v6 = 1#1), ∀ (k0_h5 : k0_cond5 i v79 v104 = 1#1), (k0_t5_loop i v203 v258).OK := fun i v6 v79 v104 v203 v258 k0_hw8 k0_h1 k0_h5 => k0_hw8.1.2.2.2.2.2.2.2.2.2.2.2.2.2.2.2.2.2.2.2.2.2.2.2.2.2.2.1 k0_h1 k0_h5
theorem k0_mult35_dvd : ∀ (i : grid0.Coords) (v6 : BitVec 32) (v79 : BitVec 32) (v104 : BitVec 32) (v203 : BitVec 32) (v258 : BitVec 32) (k0_hw8 : k0_chk8 i v6 v79 v104 v203 v258) (k0_t5 : Fin (k0_t5_loop i v203 v258).trips), ∀ (k0_h1 : k0_cond1 v6 = 1#1), ∀ (k0_h5 : k0_cond5 i v79 v104 = 1#1), 512 ∣ (k0_mult35 i v203 v258 k0_t5).toNat := fun i v6 v79 v104 v203 v258 k0_hw8 k0_t5 k0_h1 k0_h5 => k0_hw8.1.2.2.2.2.2.2.2.2.2.2.2.2.2.2.2.2.2.2.2.2.2.2.2.2.2.2.2.1 k0_t5 k0_h1 k0_h5
theorem k0_off55_inb : ∀ (i : grid0.Coords) (v6 : BitVec 32) (v79 : BitVec 32) (v104 : BitVec 32) (v203 : BitVec 32) (v258 : BitVec 32) (k0_hw8 : k0_chk8 i v6 v79 v104 v203 v258) (k0_t5 : Fin (k0_t5_loop i v203 v258).trips), ∀ (k0_h1 : k0_cond1 v6 = 1#1), ∀ (k0_h5 : k0_cond5 i v79 v104 = 1#1), ∀ (r₁ : Fin 2) (r₂ : Fin 2), ∀ a, (k0_off55 i v203 v258 k0_t5 (BitVec.ofNat 32 r₁.val) (BitVec.ofNat 32 (1 + r₂.val))) a + S1x512x128.size a ≤ S1x4096x128.size a := fun i v6 v79 v104 v203 v258 k0_hw8 k0_t5 k0_h1 k0_h5 r₁ r₂ => k0_hw8.1.2.2.2.2.2.2.2.2.2.2.2.2.2.2.2.2.2.2.2.2.2.2.2.2.2.2.2.2.1 k0_t5 k0_h1 k0_h5 r₁ r₂
theorem k0_off56_inb : ∀ (i : grid0.Coords) (v6 : BitVec 32) (v79 : BitVec 32) (v104 : BitVec 32) (v203 : BitVec 32) (v258 : BitVec 32) (k0_hw8 : k0_chk8 i v6 v79 v104 v203 v258) (k0_t5 : Fin (k0_t5_loop i v203 v258).trips), ∀ (k0_h1 : k0_cond1 v6 = 1#1), ∀ (k0_h5 : k0_cond5 i v79 v104 = 1#1), ∀ (r : Fin 2), ∀ a, (k0_off56 i v203 v258 k0_t5 (BitVec.ofNat 32 r.val)) a + S1x1x64x512.size a ≤ S1x8x128x512.size a := fun i v6 v79 v104 v203 v258 k0_hw8 k0_t5 k0_h1 k0_h5 r => k0_hw8.1.2.2.2.2.2.2.2.2.2.2.2.2.2.2.2.2.2.2.2.2.2.2.2.2.2.2.2.2.2.1 k0_t5 k0_h1 k0_h5 r
theorem k0_mult36_dvd : ∀ (i : grid0.Coords) (v6 : BitVec 32) (v79 : BitVec 32) (v104 : BitVec 32) (v203 : BitVec 32) (v258 : BitVec 32) (k0_hw8 : k0_chk8 i v6 v79 v104 v203 v258) (k0_t5 : Fin (k0_t5_loop i v203 v258).trips), ∀ (k0_h1 : k0_cond1 v6 = 1#1), ∀ (k0_h5 : k0_cond5 i v79 v104 = 1#1), 512 ∣ (k0_mult36 i v203 v258 k0_t5).toNat := fun i v6 v79 v104 v203 v258 k0_hw8 k0_t5 k0_h1 k0_h5 => k0_hw8.1.2.2.2.2.2.2.2.2.2.2.2.2.2.2.2.2.2.2.2.2.2.2.2.2.2.2.2.2.2.2.1 k0_t5 k0_h1 k0_h5
theorem k0_off57_inb : ∀ (i : grid0.Coords) (v6 : BitVec 32) (v79 : BitVec 32) (v104 : BitVec 32) (v203 : BitVec 32) (v258 : BitVec 32) (k0_hw8 : k0_chk8 i v6 v79 v104 v203 v258) (k0_t5 : Fin (k0_t5_loop i v203 v258).trips), ∀ (k0_h1 : k0_cond1 v6 = 1#1), ∀ (k0_h5 : k0_cond5 i v79 v104 = 1#1), ∀ (r : Fin 2), ∀ a, (k0_off57 i v203 v258 k0_t5 (BitVec.ofNat 32 r.val)) a + S1x1x64x512.size a ≤ S1x8x128x512.size a := fun i v6 v79 v104 v203 v258 k0_hw8 k0_t5 k0_h1 k0_h5 r => k0_hw8.1.2.2.2.2.2.2.2.2.2.2.2.2.2.2.2.2.2.2.2.2.2.2.2.2.2.2.2.2.2.2.2 k0_t5 k0_h1 k0_h5 r
theorem k0_mult37_dvd : ∀ (i : grid0.Coords) (v6 : BitVec 32) (v79 : BitVec 32) (v104 : BitVec 32) (v203 : BitVec 32) (v258 : BitVec 32) (k0_hw8 : k0_chk8 i v6 v79 v104 v203 v258) (k0_t5 : Fin (k0_t5_loop i v203 v258).trips), ∀ (k0_h1 : k0_cond1 v6 = 1#1), ∀ (k0_h5 : k0_cond5 i v79 v104 = 1#1), 512 ∣ (k0_mult37 i v203 v258 k0_t5).toNat := fun i v6 v79 v104 v203 v258 k0_hw8 k0_t5 k0_h1 k0_h5 => k0_hw8.2.1.1 k0_t5 k0_h1 k0_h5
theorem k0_off58_inb : ∀ (i : grid0.Coords) (v6 : BitVec 32) (v79 : BitVec 32) (v104 : BitVec 32) (v203 : BitVec 32) (v258 : BitVec 32) (k0_hw8 : k0_chk8 i v6 v79 v104 v203 v258) (k0_t5 : Fin (k0_t5_loop i v203 v258).trips), ∀ (k0_h1 : k0_cond1 v6 = 1#1), ∀ (k0_h5 : k0_cond5 i v79 v104 = 1#1), ∀ (r : Fin 2), ∀ a, (k0_off58 i v203 v258 k0_t5 (BitVec.ofNat 32 r.val)) a + S1x1x64x512.size a ≤ S1x8x128x512.size a := fun i v6 v79 v104 v203 v258 k0_hw8 k0_t5 k0_h1 k0_h5 r => k0_hw8.2.1.2.1 k0_t5 k0_h1 k0_h5 r
theorem k0_mult38_dvd : ∀ (i : grid0.Coords) (v6 : BitVec 32) (v79 : BitVec 32) (v104 : BitVec 32) (v203 : BitVec 32) (v258 : BitVec 32) (k0_hw8 : k0_chk8 i v6 v79 v104 v203 v258) (k0_t5 : Fin (k0_t5_loop i v203 v258).trips), ∀ (k0_h1 : k0_cond1 v6 = 1#1), ∀ (k0_h5 : k0_cond5 i v79 v104 = 1#1), 512 ∣ (k0_mult38 i v203 v258 k0_t5).toNat := fun i v6 v79 v104 v203 v258 k0_hw8 k0_t5 k0_h1 k0_h5 => k0_hw8.2.1.2.2.1 k0_t5 k0_h1 k0_h5
theorem k0_off59_inb : ∀ (i : grid0.Coords) (v6 : BitVec 32) (v79 : BitVec 32) (v104 : BitVec 32) (v203 : BitVec 32) (v258 : BitVec 32) (k0_hw8 : k0_chk8 i v6 v79 v104 v203 v258) (k0_t5 : Fin (k0_t5_loop i v203 v258).trips), ∀ (k0_h1 : k0_cond1 v6 = 1#1), ∀ (k0_h5 : k0_cond5 i v79 v104 = 1#1), ∀ (r : Fin 2), ∀ a, (k0_off59 i v203 v258 k0_t5 (BitVec.ofNat 32 r.val)) a + S1x1x64x512.size a ≤ S1x8x128x512.size a := fun i v6 v79 v104 v203 v258 k0_hw8 k0_t5 k0_h1 k0_h5 r => k0_hw8.2.1.2.2.2.1 k0_t5 k0_h1 k0_h5 r
theorem k0_mult39_dvd : ∀ (i : grid0.Coords) (v6 : BitVec 32) (v79 : BitVec 32) (v104 : BitVec 32) (v203 : BitVec 32) (v258 : BitVec 32) (k0_hw8 : k0_chk8 i v6 v79 v104 v203 v258) (k0_t5 : Fin (k0_t5_loop i v203 v258).trips), ∀ (k0_h1 : k0_cond1 v6 = 1#1), ∀ (k0_h5 : k0_cond5 i v79 v104 = 1#1), 512 ∣ (k0_mult39 i v203 v258 k0_t5).toNat := fun i v6 v79 v104 v203 v258 k0_hw8 k0_t5 k0_h1 k0_h5 => k0_hw8.2.1.2.2.2.2.1 k0_t5 k0_h1 k0_h5
theorem k0_mult40_dvd : ∀ (i : grid0.Coords) (v6 : BitVec 32) (v79 : BitVec 32) (v104 : BitVec 32) (v203 : BitVec 32) (v258 : BitVec 32) (k0_hw8 : k0_chk8 i v6 v79 v104 v203 v258) (k0_t5 : Fin (k0_t5_loop i v203 v258).trips), ∀ (k0_h1 : k0_cond1 v6 = 1#1), ∀ (k0_h5 : k0_cond5 i v79 v104 = 1#1), 512 ∣ (k0_mult40 i v203 v258 k0_t5).toNat := fun i v6 v79 v104 v203 v258 k0_hw8 k0_t5 k0_h1 k0_h5 => k0_hw8.2.1.2.2.2.2.2.1 k0_t5 k0_h1 k0_h5
theorem k0_mult41_dvd : ∀ (i : grid0.Coords) (v6 : BitVec 32) (v79 : BitVec 32) (v104 : BitVec 32) (v203 : BitVec 32) (v258 : BitVec 32) (k0_hw8 : k0_chk8 i v6 v79 v104 v203 v258) (k0_t5 : Fin (k0_t5_loop i v203 v258).trips), ∀ (k0_h1 : k0_cond1 v6 = 1#1), ∀ (k0_h5 : k0_cond5 i v79 v104 = 1#1), 512 ∣ (k0_mult41 i v203 v258 k0_t5).toNat := fun i v6 v79 v104 v203 v258 k0_hw8 k0_t5 k0_h1 k0_h5 => k0_hw8.2.1.2.2.2.2.2.2.1 k0_t5 k0_h1 k0_h5
theorem k0_mult42_dvd : ∀ (i : grid0.Coords) (v6 : BitVec 32) (v79 : BitVec 32) (v104 : BitVec 32) (v203 : BitVec 32) (v258 : BitVec 32) (k0_hw8 : k0_chk8 i v6 v79 v104 v203 v258) (k0_t5 : Fin (k0_t5_loop i v203 v258).trips), ∀ (k0_h1 : k0_cond1 v6 = 1#1), ∀ (k0_h5 : k0_cond5 i v79 v104 = 1#1), 512 ∣ (k0_mult42 i v203 v258 k0_t5).toNat := fun i v6 v79 v104 v203 v258 k0_hw8 k0_t5 k0_h1 k0_h5 => k0_hw8.2.1.2.2.2.2.2.2.2.1 k0_t5 k0_h1 k0_h5
theorem k0_t6_ok : ∀ (i : grid0.Coords) (v6 : BitVec 32) (v79 : BitVec 32) (v104 : BitVec 32) (v203 : BitVec 32) (v258 : BitVec 32) (k0_hw8 : k0_chk8 i v6 v79 v104 v203 v258), ∀ (k0_h1 : k0_cond1 v6 = 1#1), ∀ (k0_h5 : k0_cond5 i v79 v104 = 1#1), (k0_t6_loop i v203 v258).OK := fun i v6 v79 v104 v203 v258 k0_hw8 k0_h1 k0_h5 => k0_hw8.2.1.2.2.2.2.2.2.2.2.1 k0_h1 k0_h5
theorem k0_mult43_dvd : ∀ (i : grid0.Coords) (v6 : BitVec 32) (v79 : BitVec 32) (v104 : BitVec 32) (v203 : BitVec 32) (v258 : BitVec 32) (k0_hw8 : k0_chk8 i v6 v79 v104 v203 v258) (k0_t6 : Fin (k0_t6_loop i v203 v258).trips), ∀ (k0_h1 : k0_cond1 v6 = 1#1), ∀ (k0_h5 : k0_cond5 i v79 v104 = 1#1), 512 ∣ (k0_mult43 i v203 v258 k0_t6).toNat := fun i v6 v79 v104 v203 v258 k0_hw8 k0_t6 k0_h1 k0_h5 => k0_hw8.2.1.2.2.2.2.2.2.2.2.2.1 k0_t6 k0_h1 k0_h5
theorem k0_off60_inb : ∀ (i : grid0.Coords) (v6 : BitVec 32) (v79 : BitVec 32) (v104 : BitVec 32) (v203 : BitVec 32) (v258 : BitVec 32) (k0_hw8 : k0_chk8 i v6 v79 v104 v203 v258) (k0_t6 : Fin (k0_t6_loop i v203 v258).trips), ∀ (k0_h1 : k0_cond1 v6 = 1#1), ∀ (k0_h5 : k0_cond5 i v79 v104 = 1#1), ∀ (r₁ : Fin 2) (r₂ : Fin 2), ∀ a, (k0_off60 i v203 v258 k0_t6 (BitVec.ofNat 32 r₁.val) (BitVec.ofNat 32 (1 + r₂.val))) a + S1x512x128.size a ≤ S1x4096x128.size a := fun i v6 v79 v104 v203 v258 k0_hw8 k0_t6 k0_h1 k0_h5 r₁ r₂ => k0_hw8.2.1.2.2.2.2.2.2.2.2.2.2.1 k0_t6 k0_h1 k0_h5 r₁ r₂
theorem k0_off61_inb : ∀ (i : grid0.Coords) (v6 : BitVec 32) (v79 : BitVec 32) (v104 : BitVec 32) (v203 : BitVec 32) (v258 : BitVec 32) (k0_hw8 : k0_chk8 i v6 v79 v104 v203 v258) (k0_t6 : Fin (k0_t6_loop i v203 v258).trips), ∀ (k0_h1 : k0_cond1 v6 = 1#1), ∀ (k0_h5 : k0_cond5 i v79 v104 = 1#1), ∀ (r : Fin 2), ∀ a, (k0_off61 i v203 v258 k0_t6 (BitVec.ofNat 32 r.val)) a + S1x1x64x512.size a ≤ S1x8x128x512.size a := fun i v6 v79 v104 v203 v258 k0_hw8 k0_t6 k0_h1 k0_h5 r => k0_hw8.2.1.2.2.2.2.2.2.2.2.2.2.2.1 k0_t6 k0_h1 k0_h5 r
theorem k0_mult44_dvd : ∀ (i : grid0.Coords) (v6 : BitVec 32) (v79 : BitVec 32) (v104 : BitVec 32) (v203 : BitVec 32) (v258 : BitVec 32) (k0_hw8 : k0_chk8 i v6 v79 v104 v203 v258) (k0_t6 : Fin (k0_t6_loop i v203 v258).trips), ∀ (k0_h1 : k0_cond1 v6 = 1#1), ∀ (k0_h5 : k0_cond5 i v79 v104 = 1#1), 512 ∣ (k0_mult44 i v203 v258 k0_t6).toNat := fun i v6 v79 v104 v203 v258 k0_hw8 k0_t6 k0_h1 k0_h5 => k0_hw8.2.1.2.2.2.2.2.2.2.2.2.2.2.2.1 k0_t6 k0_h1 k0_h5
theorem k0_off62_inb : ∀ (i : grid0.Coords) (v6 : BitVec 32) (v79 : BitVec 32) (v104 : BitVec 32) (v203 : BitVec 32) (v258 : BitVec 32) (k0_hw8 : k0_chk8 i v6 v79 v104 v203 v258) (k0_t6 : Fin (k0_t6_loop i v203 v258).trips), ∀ (k0_h1 : k0_cond1 v6 = 1#1), ∀ (k0_h5 : k0_cond5 i v79 v104 = 1#1), ∀ (r : Fin 2), ∀ a, (k0_off62 i v203 v258 k0_t6 (BitVec.ofNat 32 r.val)) a + S1x1x64x512.size a ≤ S1x8x128x512.size a := fun i v6 v79 v104 v203 v258 k0_hw8 k0_t6 k0_h1 k0_h5 r => k0_hw8.2.1.2.2.2.2.2.2.2.2.2.2.2.2.2.1 k0_t6 k0_h1 k0_h5 r
theorem k0_mult45_dvd : ∀ (i : grid0.Coords) (v6 : BitVec 32) (v79 : BitVec 32) (v104 : BitVec 32) (v203 : BitVec 32) (v258 : BitVec 32) (k0_hw8 : k0_chk8 i v6 v79 v104 v203 v258) (k0_t6 : Fin (k0_t6_loop i v203 v258).trips), ∀ (k0_h1 : k0_cond1 v6 = 1#1), ∀ (k0_h5 : k0_cond5 i v79 v104 = 1#1), 512 ∣ (k0_mult45 i v203 v258 k0_t6).toNat := fun i v6 v79 v104 v203 v258 k0_hw8 k0_t6 k0_h1 k0_h5 => k0_hw8.2.1.2.2.2.2.2.2.2.2.2.2.2.2.2.2.1 k0_t6 k0_h1 k0_h5
theorem k0_off63_inb : ∀ (i : grid0.Coords) (v6 : BitVec 32) (v79 : BitVec 32) (v104 : BitVec 32) (v203 : BitVec 32) (v258 : BitVec 32) (k0_hw8 : k0_chk8 i v6 v79 v104 v203 v258) (k0_t6 : Fin (k0_t6_loop i v203 v258).trips), ∀ (k0_h1 : k0_cond1 v6 = 1#1), ∀ (k0_h5 : k0_cond5 i v79 v104 = 1#1), ∀ (r : Fin 2), ∀ a, (k0_off63 i v203 v258 k0_t6 (BitVec.ofNat 32 r.val)) a + S1x1x64x512.size a ≤ S1x8x128x512.size a := fun i v6 v79 v104 v203 v258 k0_hw8 k0_t6 k0_h1 k0_h5 r => k0_hw8.2.1.2.2.2.2.2.2.2.2.2.2.2.2.2.2.2.1 k0_t6 k0_h1 k0_h5 r
theorem k0_mult46_dvd : ∀ (i : grid0.Coords) (v6 : BitVec 32) (v79 : BitVec 32) (v104 : BitVec 32) (v203 : BitVec 32) (v258 : BitVec 32) (k0_hw8 : k0_chk8 i v6 v79 v104 v203 v258) (k0_t6 : Fin (k0_t6_loop i v203 v258).trips), ∀ (k0_h1 : k0_cond1 v6 = 1#1), ∀ (k0_h5 : k0_cond5 i v79 v104 = 1#1), 512 ∣ (k0_mult46 i v203 v258 k0_t6).toNat := fun i v6 v79 v104 v203 v258 k0_hw8 k0_t6 k0_h1 k0_h5 => k0_hw8.2.1.2.2.2.2.2.2.2.2.2.2.2.2.2.2.2.2.1 k0_t6 k0_h1 k0_h5
theorem k0_off64_inb : ∀ (i : grid0.Coords) (v6 : BitVec 32) (v79 : BitVec 32) (v104 : BitVec 32) (v203 : BitVec 32) (v258 : BitVec 32) (k0_hw8 : k0_chk8 i v6 v79 v104 v203 v258) (k0_t6 : Fin (k0_t6_loop i v203 v258).trips), ∀ (k0_h1 : k0_cond1 v6 = 1#1), ∀ (k0_h5 : k0_cond5 i v79 v104 = 1#1), ∀ (r : Fin 2), ∀ a, (k0_off64 i v203 v258 k0_t6 (BitVec.ofNat 32 r.val)) a + S1x1x64x512.size a ≤ S1x8x128x512.size a := fun i v6 v79 v104 v203 v258 k0_hw8 k0_t6 k0_h1 k0_h5 r => k0_hw8.2.1.2.2.2.2.2.2.2.2.2.2.2.2.2.2.2.2.2.1 k0_t6 k0_h1 k0_h5 r
theorem k0_mult47_dvd : ∀ (i : grid0.Coords) (v6 : BitVec 32) (v79 : BitVec 32) (v104 : BitVec 32) (v203 : BitVec 32) (v258 : BitVec 32) (k0_hw8 : k0_chk8 i v6 v79 v104 v203 v258) (k0_t6 : Fin (k0_t6_loop i v203 v258).trips), ∀ (k0_h1 : k0_cond1 v6 = 1#1), ∀ (k0_h5 : k0_cond5 i v79 v104 = 1#1), 512 ∣ (k0_mult47 i v203 v258 k0_t6).toNat := fun i v6 v79 v104 v203 v258 k0_hw8 k0_t6 k0_h1 k0_h5 => k0_hw8.2.1.2.2.2.2.2.2.2.2.2.2.2.2.2.2.2.2.2.2.1 k0_t6 k0_h1 k0_h5
theorem k0_mult48_dvd : ∀ (i : grid0.Coords) (v6 : BitVec 32) (v79 : BitVec 32) (v104 : BitVec 32) (v203 : BitVec 32) (v258 : BitVec 32) (k0_hw8 : k0_chk8 i v6 v79 v104 v203 v258) (k0_t6 : Fin (k0_t6_loop i v203 v258).trips), ∀ (k0_h1 : k0_cond1 v6 = 1#1), ∀ (k0_h5 : k0_cond5 i v79 v104 = 1#1), 512 ∣ (k0_mult48 i v203 v258 k0_t6).toNat := fun i v6 v79 v104 v203 v258 k0_hw8 k0_t6 k0_h1 k0_h5 => k0_hw8.2.1.2.2.2.2.2.2.2.2.2.2.2.2.2.2.2.2.2.2.2.1 k0_t6 k0_h1 k0_h5
theorem k0_mult49_dvd : ∀ (i : grid0.Coords) (v6 : BitVec 32) (v79 : BitVec 32) (v104 : BitVec 32) (v203 : BitVec 32) (v258 : BitVec 32) (k0_hw8 : k0_chk8 i v6 v79 v104 v203 v258) (k0_t6 : Fin (k0_t6_loop i v203 v258).trips), ∀ (k0_h1 : k0_cond1 v6 = 1#1), ∀ (k0_h5 : k0_cond5 i v79 v104 = 1#1), 512 ∣ (k0_mult49 i v203 v258 k0_t6).toNat := fun i v6 v79 v104 v203 v258 k0_hw8 k0_t6 k0_h1 k0_h5 => k0_hw8.2.1.2.2.2.2.2.2.2.2.2.2.2.2.2.2.2.2.2.2.2.2.1 k0_t6 k0_h1 k0_h5
theorem k0_mult50_dvd : ∀ (i : grid0.Coords) (v6 : BitVec 32) (v79 : BitVec 32) (v104 : BitVec 32) (v203 : BitVec 32) (v258 : BitVec 32) (k0_hw8 : k0_chk8 i v6 v79 v104 v203 v258) (k0_t6 : Fin (k0_t6_loop i v203 v258).trips), ∀ (k0_h1 : k0_cond1 v6 = 1#1), ∀ (k0_h5 : k0_cond5 i v79 v104 = 1#1), 512 ∣ (k0_mult50 i v203 v258 k0_t6).toNat := fun i v6 v79 v104 v203 v258 k0_hw8 k0_t6 k0_h1 k0_h5 => k0_hw8.2.1.2.2.2.2.2.2.2.2.2.2.2.2.2.2.2.2.2.2.2.2.2.1 k0_t6 k0_h1 k0_h5
theorem k0_t7_ok : ∀ (i : grid0.Coords) (v6 : BitVec 32) (v79 : BitVec 32) (v104 : BitVec 32) (v203 : BitVec 32) (v258 : BitVec 32) (k0_hw8 : k0_chk8 i v6 v79 v104 v203 v258), ∀ (k0_h1 : k0_cond1 v6 = 1#1), ∀ (k0_h5 : k0_cond5 i v79 v104 = 1#1), (k0_t7_loop i v203 v258).OK := fun i v6 v79 v104 v203 v258 k0_hw8 k0_h1 k0_h5 => k0_hw8.2.1.2.2.2.2.2.2.2.2.2.2.2.2.2.2.2.2.2.2.2.2.2.2.1 k0_h1 k0_h5
theorem k0_mult51_dvd : ∀ (i : grid0.Coords) (v6 : BitVec 32) (v79 : BitVec 32) (v104 : BitVec 32) (v203 : BitVec 32) (v258 : BitVec 32) (k0_hw8 : k0_chk8 i v6 v79 v104 v203 v258) (k0_t7 : Fin (k0_t7_loop i v203 v258).trips), ∀ (k0_h1 : k0_cond1 v6 = 1#1), ∀ (k0_h5 : k0_cond5 i v79 v104 = 1#1), 512 ∣ (k0_mult51 i v203 v258 k0_t7).toNat := fun i v6 v79 v104 v203 v258 k0_hw8 k0_t7 k0_h1 k0_h5 => k0_hw8.2.1.2.2.2.2.2.2.2.2.2.2.2.2.2.2.2.2.2.2.2.2.2.2.2.1 k0_t7 k0_h1 k0_h5
theorem k0_off65_inb : ∀ (i : grid0.Coords) (v6 : BitVec 32) (v79 : BitVec 32) (v104 : BitVec 32) (v203 : BitVec 32) (v258 : BitVec 32) (k0_hw8 : k0_chk8 i v6 v79 v104 v203 v258) (k0_t7 : Fin (k0_t7_loop i v203 v258).trips), ∀ (k0_h1 : k0_cond1 v6 = 1#1), ∀ (k0_h5 : k0_cond5 i v79 v104 = 1#1), ∀ (r : Fin 2), ∀ a, (k0_off65 i v203 v258 k0_t7 (BitVec.ofNat 32 (1 + r.val))) a + S1x512x128.size a ≤ S1x4096x128.size a := fun i v6 v79 v104 v203 v258 k0_hw8 k0_t7 k0_h1 k0_h5 r => k0_hw8.2.1.2.2.2.2.2.2.2.2.2.2.2.2.2.2.2.2.2.2.2.2.2.2.2.2.1 k0_t7 k0_h1 k0_h5 r
theorem k0_off66_inb : ∀ (i : grid0.Coords) (v6 : BitVec 32) (v79 : BitVec 32) (v104 : BitVec 32) (v203 : BitVec 32) (v258 : BitVec 32) (k0_hw8 : k0_chk8 i v6 v79 v104 v203 v258) (k0_t7 : Fin (k0_t7_loop i v203 v258).trips), ∀ (k0_h1 : k0_cond1 v6 = 1#1), ∀ (k0_h5 : k0_cond5 i v79 v104 = 1#1), ∀ a, (k0_off66 i v203 v258 k0_t7) a + S1x1x64x512.size a ≤ S1x8x128x512.size a := fun i v6 v79 v104 v203 v258 k0_hw8 k0_t7 k0_h1 k0_h5 => k0_hw8.2.1.2.2.2.2.2.2.2.2.2.2.2.2.2.2.2.2.2.2.2.2.2.2.2.2.2.1 k0_t7 k0_h1 k0_h5
theorem k0_mult52_dvd : ∀ (i : grid0.Coords) (v6 : BitVec 32) (v79 : BitVec 32) (v104 : BitVec 32) (v203 : BitVec 32) (v258 : BitVec 32) (k0_hw8 : k0_chk8 i v6 v79 v104 v203 v258) (k0_t7 : Fin (k0_t7_loop i v203 v258).trips), ∀ (k0_h1 : k0_cond1 v6 = 1#1), ∀ (k0_h5 : k0_cond5 i v79 v104 = 1#1), 512 ∣ (k0_mult52 i v203 v258 k0_t7).toNat := fun i v6 v79 v104 v203 v258 k0_hw8 k0_t7 k0_h1 k0_h5 => k0_hw8.2.1.2.2.2.2.2.2.2.2.2.2.2.2.2.2.2.2.2.2.2.2.2.2.2.2.2.2.1 k0_t7 k0_h1 k0_h5
theorem k0_off67_inb : ∀ (i : grid0.Coords) (v6 : BitVec 32) (v79 : BitVec 32) (v104 : BitVec 32) (v203 : BitVec 32) (v258 : BitVec 32) (k0_hw8 : k0_chk8 i v6 v79 v104 v203 v258) (k0_t7 : Fin (k0_t7_loop i v203 v258).trips), ∀ (k0_h1 : k0_cond1 v6 = 1#1), ∀ (k0_h5 : k0_cond5 i v79 v104 = 1#1), ∀ a, (k0_off67 i v203 v258 k0_t7) a + S1x1x64x512.size a ≤ S1x8x128x512.size a := fun i v6 v79 v104 v203 v258 k0_hw8 k0_t7 k0_h1 k0_h5 => k0_hw8.2.1.2.2.2.2.2.2.2.2.2.2.2.2.2.2.2.2.2.2.2.2.2.2.2.2.2.2.2.1 k0_t7 k0_h1 k0_h5
theorem k0_mult53_dvd : ∀ (i : grid0.Coords) (v6 : BitVec 32) (v79 : BitVec 32) (v104 : BitVec 32) (v203 : BitVec 32) (v258 : BitVec 32) (k0_hw8 : k0_chk8 i v6 v79 v104 v203 v258) (k0_t7 : Fin (k0_t7_loop i v203 v258).trips), ∀ (k0_h1 : k0_cond1 v6 = 1#1), ∀ (k0_h5 : k0_cond5 i v79 v104 = 1#1), 512 ∣ (k0_mult53 i v203 v258 k0_t7).toNat := fun i v6 v79 v104 v203 v258 k0_hw8 k0_t7 k0_h1 k0_h5 => k0_hw8.2.1.2.2.2.2.2.2.2.2.2.2.2.2.2.2.2.2.2.2.2.2.2.2.2.2.2.2.2.2.1 k0_t7 k0_h1 k0_h5
theorem k0_off68_inb : ∀ (i : grid0.Coords) (v6 : BitVec 32) (v79 : BitVec 32) (v104 : BitVec 32) (v203 : BitVec 32) (v258 : BitVec 32) (k0_hw8 : k0_chk8 i v6 v79 v104 v203 v258) (k0_t7 : Fin (k0_t7_loop i v203 v258).trips), ∀ (k0_h1 : k0_cond1 v6 = 1#1), ∀ (k0_h5 : k0_cond5 i v79 v104 = 1#1), ∀ a, (k0_off68 i v203 v258 k0_t7) a + S1x1x64x512.size a ≤ S1x8x128x512.size a := fun i v6 v79 v104 v203 v258 k0_hw8 k0_t7 k0_h1 k0_h5 => k0_hw8.2.1.2.2.2.2.2.2.2.2.2.2.2.2.2.2.2.2.2.2.2.2.2.2.2.2.2.2.2.2.2.1 k0_t7 k0_h1 k0_h5
theorem k0_mult54_dvd : ∀ (i : grid0.Coords) (v6 : BitVec 32) (v79 : BitVec 32) (v104 : BitVec 32) (v203 : BitVec 32) (v258 : BitVec 32) (k0_hw8 : k0_chk8 i v6 v79 v104 v203 v258) (k0_t7 : Fin (k0_t7_loop i v203 v258).trips), ∀ (k0_h1 : k0_cond1 v6 = 1#1), ∀ (k0_h5 : k0_cond5 i v79 v104 = 1#1), 512 ∣ (k0_mult54 i v203 v258 k0_t7).toNat := fun i v6 v79 v104 v203 v258 k0_hw8 k0_t7 k0_h1 k0_h5 => k0_hw8.2.1.2.2.2.2.2.2.2.2.2.2.2.2.2.2.2.2.2.2.2.2.2.2.2.2.2.2.2.2.2.2.1 k0_t7 k0_h1 k0_h5
theorem k0_off69_inb : ∀ (i : grid0.Coords) (v6 : BitVec 32) (v79 : BitVec 32) (v104 : BitVec 32) (v203 : BitVec 32) (v258 : BitVec 32) (k0_hw8 : k0_chk8 i v6 v79 v104 v203 v258) (k0_t7 : Fin (k0_t7_loop i v203 v258).trips), ∀ (k0_h1 : k0_cond1 v6 = 1#1), ∀ (k0_h5 : k0_cond5 i v79 v104 = 1#1), ∀ a, (k0_off69 i v203 v258 k0_t7) a + S1x1x64x512.size a ≤ S1x8x128x512.size a := fun i v6 v79 v104 v203 v258 k0_hw8 k0_t7 k0_h1 k0_h5 => k0_hw8.2.1.2.2.2.2.2.2.2.2.2.2.2.2.2.2.2.2.2.2.2.2.2.2.2.2.2.2.2.2.2.2.2 k0_t7 k0_h1 k0_h5
theorem k0_t8_ok : ∀ (i : grid0.Coords) (v6 : BitVec 32) (v79 : BitVec 32) (v104 : BitVec 32) (v203 : BitVec 32) (v258 : BitVec 32) (k0_hw8 : k0_chk8 i v6 v79 v104 v203 v258), ∀ (k0_h1 : k0_cond1 v6 = 1#1), ∀ (k0_h5 : k0_cond5 i v79 v104 = 1#1), (k0_t8_loop i v203 v258).OK := fun i v6 v79 v104 v203 v258 k0_hw8 k0_h1 k0_h5 => k0_hw8.2.2.1 k0_h1 k0_h5
theorem k0_mult55_dvd : ∀ (i : grid0.Coords) (v6 : BitVec 32) (v79 : BitVec 32) (v104 : BitVec 32) (v203 : BitVec 32) (v258 : BitVec 32) (k0_hw8 : k0_chk8 i v6 v79 v104 v203 v258) (k0_t8 : Fin (k0_t8_loop i v203 v258).trips), ∀ (k0_h1 : k0_cond1 v6 = 1#1), ∀ (k0_h5 : k0_cond5 i v79 v104 = 1#1), 512 ∣ (k0_mult55 i v203 v258 k0_t8).toNat := fun i v6 v79 v104 v203 v258 k0_hw8 k0_t8 k0_h1 k0_h5 => k0_hw8.2.2.2.1 k0_t8 k0_h1 k0_h5
theorem k0_off70_inb : ∀ (i : grid0.Coords) (v6 : BitVec 32) (v79 : BitVec 32) (v104 : BitVec 32) (v203 : BitVec 32) (v258 : BitVec 32) (k0_hw8 : k0_chk8 i v6 v79 v104 v203 v258) (k0_t8 : Fin (k0_t8_loop i v203 v258).trips), ∀ (k0_h1 : k0_cond1 v6 = 1#1), ∀ (k0_h5 : k0_cond5 i v79 v104 = 1#1), ∀ (r : Fin 2), ∀ a, (k0_off70 i v203 v258 k0_t8 (BitVec.ofNat 32 (1 + r.val))) a + S1x512x128.size a ≤ S1x4096x128.size a := fun i v6 v79 v104 v203 v258 k0_hw8 k0_t8 k0_h1 k0_h5 r => k0_hw8.2.2.2.2.1 k0_t8 k0_h1 k0_h5 r
theorem k0_off71_inb : ∀ (i : grid0.Coords) (v6 : BitVec 32) (v79 : BitVec 32) (v104 : BitVec 32) (v203 : BitVec 32) (v258 : BitVec 32) (k0_hw8 : k0_chk8 i v6 v79 v104 v203 v258) (k0_t8 : Fin (k0_t8_loop i v203 v258).trips), ∀ (k0_h1 : k0_cond1 v6 = 1#1), ∀ (k0_h5 : k0_cond5 i v79 v104 = 1#1), ∀ a, (k0_off71 i v203 v258 k0_t8) a + S1x1x64x512.size a ≤ S1x8x128x512.size a := fun i v6 v79 v104 v203 v258 k0_hw8 k0_t8 k0_h1 k0_h5 => k0_hw8.2.2.2.2.2.1 k0_t8 k0_h1 k0_h5
theorem k0_mult56_dvd : ∀ (i : grid0.Coords) (v6 : BitVec 32) (v79 : BitVec 32) (v104 : BitVec 32) (v203 : BitVec 32) (v258 : BitVec 32) (k0_hw8 : k0_chk8 i v6 v79 v104 v203 v258) (k0_t8 : Fin (k0_t8_loop i v203 v258).trips), ∀ (k0_h1 : k0_cond1 v6 = 1#1), ∀ (k0_h5 : k0_cond5 i v79 v104 = 1#1), 512 ∣ (k0_mult56 i v203 v258 k0_t8).toNat := fun i v6 v79 v104 v203 v258 k0_hw8 k0_t8 k0_h1 k0_h5 => k0_hw8.2.2.2.2.2.2.1 k0_t8 k0_h1 k0_h5
theorem k0_off72_inb : ∀ (i : grid0.Coords) (v6 : BitVec 32) (v79 : BitVec 32) (v104 : BitVec 32) (v203 : BitVec 32) (v258 : BitVec 32) (k0_hw8 : k0_chk8 i v6 v79 v104 v203 v258) (k0_t8 : Fin (k0_t8_loop i v203 v258).trips), ∀ (k0_h1 : k0_cond1 v6 = 1#1), ∀ (k0_h5 : k0_cond5 i v79 v104 = 1#1), ∀ a, (k0_off72 i v203 v258 k0_t8) a + S1x1x64x512.size a ≤ S1x8x128x512.size a := fun i v6 v79 v104 v203 v258 k0_hw8 k0_t8 k0_h1 k0_h5 => k0_hw8.2.2.2.2.2.2.2.1 k0_t8 k0_h1 k0_h5
theorem k0_mult57_dvd : ∀ (i : grid0.Coords) (v6 : BitVec 32) (v79 : BitVec 32) (v104 : BitVec 32) (v203 : BitVec 32) (v258 : BitVec 32) (k0_hw8 : k0_chk8 i v6 v79 v104 v203 v258) (k0_t8 : Fin (k0_t8_loop i v203 v258).trips), ∀ (k0_h1 : k0_cond1 v6 = 1#1), ∀ (k0_h5 : k0_cond5 i v79 v104 = 1#1), 512 ∣ (k0_mult57 i v203 v258 k0_t8).toNat := fun i v6 v79 v104 v203 v258 k0_hw8 k0_t8 k0_h1 k0_h5 => k0_hw8.2.2.2.2.2.2.2.2.1 k0_t8 k0_h1 k0_h5
theorem k0_off73_inb : ∀ (i : grid0.Coords) (v6 : BitVec 32) (v79 : BitVec 32) (v104 : BitVec 32) (v203 : BitVec 32) (v258 : BitVec 32) (k0_hw8 : k0_chk8 i v6 v79 v104 v203 v258) (k0_t8 : Fin (k0_t8_loop i v203 v258).trips), ∀ (k0_h1 : k0_cond1 v6 = 1#1), ∀ (k0_h5 : k0_cond5 i v79 v104 = 1#1), ∀ a, (k0_off73 i v203 v258 k0_t8) a + S1x1x64x512.size a ≤ S1x8x128x512.size a := fun i v6 v79 v104 v203 v258 k0_hw8 k0_t8 k0_h1 k0_h5 => k0_hw8.2.2.2.2.2.2.2.2.2.1 k0_t8 k0_h1 k0_h5
theorem k0_mult58_dvd : ∀ (i : grid0.Coords) (v6 : BitVec 32) (v79 : BitVec 32) (v104 : BitVec 32) (v203 : BitVec 32) (v258 : BitVec 32) (k0_hw8 : k0_chk8 i v6 v79 v104 v203 v258) (k0_t8 : Fin (k0_t8_loop i v203 v258).trips), ∀ (k0_h1 : k0_cond1 v6 = 1#1), ∀ (k0_h5 : k0_cond5 i v79 v104 = 1#1), 512 ∣ (k0_mult58 i v203 v258 k0_t8).toNat := fun i v6 v79 v104 v203 v258 k0_hw8 k0_t8 k0_h1 k0_h5 => k0_hw8.2.2.2.2.2.2.2.2.2.2.1 k0_t8 k0_h1 k0_h5
theorem k0_off74_inb : ∀ (i : grid0.Coords) (v6 : BitVec 32) (v79 : BitVec 32) (v104 : BitVec 32) (v203 : BitVec 32) (v258 : BitVec 32) (k0_hw8 : k0_chk8 i v6 v79 v104 v203 v258) (k0_t8 : Fin (k0_t8_loop i v203 v258).trips), ∀ (k0_h1 : k0_cond1 v6 = 1#1), ∀ (k0_h5 : k0_cond5 i v79 v104 = 1#1), ∀ a, (k0_off74 i v203 v258 k0_t8) a + S1x1x64x512.size a ≤ S1x8x128x512.size a := fun i v6 v79 v104 v203 v258 k0_hw8 k0_t8 k0_h1 k0_h5 => k0_hw8.2.2.2.2.2.2.2.2.2.2.2 k0_t8 k0_h1 k0_h5

def k0_mult59 (i : grid0.Coords) : BitVec 32 :=
  let c2_i32 : BitVec 32 := 2#32
  let arg2 : BitVec 32 := BitVec.ofNat 32 (i 2).val
  let v71 : BitVec 32 := Scalar.muli c2_i32 arg2
  let c1_i32_162 : BitVec 32 := 1#32
  let v392 : BitVec 32 := Scalar.addi v71 c1_i32_162
  let c512_i32_163 : BitVec 32 := 512#32
  let v393 : BitVec 32 := Scalar.muli v392 c512_i32_163
  v393
def k0_off75 (i : grid0.Coords) : Fin 3 → Nat :=
  let c0_164 : Index := 0#32
  let c2_i32 : BitVec 32 := 2#32
  let arg2 : BitVec 32 := BitVec.ofNat 32 (i 2).val
  let v71 : BitVec 32 := Scalar.muli c2_i32 arg2
  let c1_i32_162 : BitVec 32 := 1#32
  let v392 : BitVec 32 := Scalar.addi v71 c1_i32_162
  let c512_i32_163 : BitVec 32 := 512#32
  let v393 : BitVec 32 := Scalar.muli v392 c512_i32_163
  let v394 : BitVec 32 := v393
  let v395 : Index := Scalar.indexCast v394
  let c0_165 : Index := 0#32
  ![0, v395.toNat, 0]
def k0_off76 (i : grid0.Coords) : Fin 4 → Nat :=
  let c0_174 : Index := 0#32
  let c2_i32 : BitVec 32 := 2#32
  let arg2 : BitVec 32 := BitVec.ofNat 32 (i 2).val
  let v71 : BitVec 32 := Scalar.muli c2_i32 arg2
  let v415 : Index := Scalar.indexCast v71
  let c0_175 : Index := 0#32
  let c0_176 : Index := 0#32
  ![0, v415.toNat, 0, 0]
def k0_off77 (i : grid0.Coords) : Fin 4 → Nat :=
  let c0_179 : Index := 0#32
  let c2_i32 : BitVec 32 := 2#32
  let arg2 : BitVec 32 := BitVec.ofNat 32 (i 2).val
  let v71 : BitVec 32 := Scalar.muli c2_i32 arg2
  let c1_i32_178 : BitVec 32 := 1#32
  let v424 : BitVec 32 := Scalar.addi v71 c1_i32_178
  let v425 : Index := Scalar.indexCast v424
  let c0_180 : Index := 0#32
  let c0_181 : Index := 0#32
  ![0, v425.toNat, 0, 0]
def k0_mult60 (i : grid0.Coords) : BitVec 32 :=
  let c2_i32 : BitVec 32 := 2#32
  let arg2 : BitVec 32 := BitVec.ofNat 32 (i 2).val
  let v71 : BitVec 32 := Scalar.muli c2_i32 arg2
  let c1_i32_183 : BitVec 32 := 1#32
  let v434 : BitVec 32 := Scalar.addi v71 c1_i32_183
  let c512_i32_184 : BitVec 32 := 512#32
  let v435 : BitVec 32 := Scalar.muli v434 c512_i32_184
  v435
def k0_off78 (i : grid0.Coords) : Fin 4 → Nat :=
  let c0_195 : Index := 0#32
  let c2_i32 : BitVec 32 := 2#32
  let arg2 : BitVec 32 := BitVec.ofNat 32 (i 2).val
  let v71 : BitVec 32 := Scalar.muli c2_i32 arg2
  let v457 : Index := Scalar.indexCast v71
  let c64 : Index := 64#32
  let c0_196 : Index := 0#32
  ![0, v457.toNat, 64, 0]
def k0_off79 (i : grid0.Coords) : Fin 4 → Nat :=
  let c0_199 : Index := 0#32
  let c2_i32 : BitVec 32 := 2#32
  let arg2 : BitVec 32 := BitVec.ofNat 32 (i 2).val
  let v71 : BitVec 32 := Scalar.muli c2_i32 arg2
  let c1_i32_198 : BitVec 32 := 1#32
  let v466 : BitVec 32 := Scalar.addi v71 c1_i32_198
  let v467 : Index := Scalar.indexCast v466
  let c64_200 : Index := 64#32
  let c0_201 : Index := 0#32
  ![0, v467.toNat, 64, 0]
def k0_mult61 : BitVec 32 :=
  let c0_i32_31 : BitVec 32 := 0#32
  c0_i32_31
@[reducible] def k0_t9_loop (i : grid0.Coords) : Scf.Loop 32 :=
  let c0_i32_56 : BitVec 32 := 0#32
  let c2_i32 : BitVec 32 := 2#32
  let arg2 : BitVec 32 := BitVec.ofNat 32 (i 2).val
  let v74 : BitVec 32 := Scalar.muli c2_i32 arg2
  let c0_i32_42 : BitVec 32 := 0#32
  let v90 : BitVec 1 := Scalar.cmpi .sgt v74 c0_i32_42
  let v91 : BitVec 32 := Scalar.extui v90
  let c0_i32_43 : BitVec 32 := 0#32
  let v92 : BitVec 1 := Scalar.cmpi .slt v74 c0_i32_43
  let v93 : BitVec 32 := Scalar.extui v92
  let v94 : BitVec 32 := Scalar.subi v91 v93
  let c2_i32_41 : BitVec 32 := 2#32
  let c0_i32_44 : BitVec 32 := 0#32
  let v95 : BitVec 1 := Scalar.cmpi .sgt c2_i32_41 c0_i32_44
  let v96 : BitVec 32 := Scalar.extui v95
  let c0_i32_45 : BitVec 32 := 0#32
  let v97 : BitVec 1 := Scalar.cmpi .slt c2_i32_41 c0_i32_45
  let v98 : BitVec 32 := Scalar.extui v97
  let v99 : BitVec 32 := Scalar.subi v96 v98
  let v100 : BitVec 1 := Scalar.cmpi .ne v94 v99
  let v101 : BitVec 32 := Scalar.remsi v74 c2_i32_41
  let c0_i32_46 : BitVec 32 := 0#32
  let v102 : BitVec 1 := Scalar.cmpi .ne v101 c0_i32_46
  let v103 : BitVec 1 := Scalar.andi v100 v102
  let v89 : BitVec 32 := Scalar.divsi v74 c2_i32_41
  let c1_i32 : BitVec 32 := 1#32
  let v104 : BitVec 32 := Scalar.subi v89 c1_i32
  let v105 : BitVec 32 := Scalar.select v103 v104 v89
  let c0_i32_47 : BitVec 32 := 0#32
  let v106 : BitVec 32 := Scalar.subi v105 c0_i32_47
  let c0_i32_49 : BitVec 32 := 0#32
  let v108 : BitVec 1 := Scalar.cmpi .sgt v106 c0_i32_49
  let v109 : BitVec 32 := Scalar.extui v108
  let c0_i32_50 : BitVec 32 := 0#32
  let v110 : BitVec 1 := Scalar.cmpi .slt v106 c0_i32_50
  let v111 : BitVec 32 := Scalar.extui v110
  let v112 : BitVec 32 := Scalar.subi v109 v111
  let c2_i32_48 : BitVec 32 := 2#32
  let c0_i32_51 : BitVec 32 := 0#32
  let v113 : BitVec 1 := Scalar.cmpi .sgt c2_i32_48 c0_i32_51
  let v114 : BitVec 32 := Scalar.extui v113
  let c0_i32_52 : BitVec 32 := 0#32
  let v115 : BitVec 1 := Scalar.cmpi .slt c2_i32_48 c0_i32_52
  let v116 : BitVec 32 := Scalar.extui v115
  let v117 : BitVec 32 := Scalar.subi v114 v116
  let v118 : BitVec 1 := Scalar.cmpi .ne v112 v117
  let v119 : BitVec 32 := Scalar.remsi v106 c2_i32_48
  let c0_i32_53 : BitVec 32 := 0#32
  let v120 : BitVec 1 := Scalar.cmpi .ne v119 c0_i32_53
  let v121 : BitVec 1 := Scalar.andi v118 v120
  let v107 : BitVec 32 := Scalar.divsi v106 c2_i32_48
  let c1_i32_54 : BitVec 32 := 1#32
  let v122 : BitVec 32 := Scalar.subi v107 c1_i32_54
  let v123 : BitVec 32 := Scalar.select v121 v122 v107
  let v124 : BitVec 32 := Scalar.subi v123 c0_i32_56
  let c1_i32_57 : BitVec 32 := 1#32
  let v126 : BitVec 32 := Scalar.divsi v124 c1_i32_57
  let v127 : BitVec 32 := Scalar.muli v126 c1_i32_57
  let v128 : BitVec 32 := Scalar.addi c0_i32_56 v127
  let c1_i32_58 : BitVec 32 := 1#32
  ⟨c0_i32_56, v128, c1_i32_58⟩
def k0_mult62 (i : grid0.Coords) (k0_t9 : Fin (k0_t9_loop i).trips) : BitVec 32 :=
  let c2_i32_171 : BitVec 32 := 2#32
  let c0_i32_169 : BitVec 32 := 0#32
  let c2_i32_168 : BitVec 32 := 2#32
  let c0_i32_56 : BitVec 32 := 0#32
  let c1_i32_58 : BitVec 32 := 1#32
  let arg18 : BitVec 32 := Scf.iv c0_i32_56 c1_i32_58 k0_t9
  let v391 : BitVec 32 := Scalar.muli c2_i32_168 arg18
  let v392 : BitVec 32 := Scalar.addi c0_i32_169 v391
  let c0_i32_170 : BitVec 32 := 0#32
  let v393 : BitVec 32 := Scalar.addi v392 c0_i32_170
  let v394 : BitVec 32 := Scalar.muli c2_i32_171 v393
  let c1_i32_172 : BitVec 32 := 1#32
  let v395 : BitVec 32 := Scalar.addi v394 c1_i32_172
  let c512_i32_173 : BitVec 32 := 512#32
  let v396 : BitVec 32 := Scalar.muli v395 c512_i32_173
  v396
def k0_off80 (i : grid0.Coords) (k0_t9 : Fin (k0_t9_loop i).trips) (c0_i32_170 : BitVec 32) (c1_i32_172 : BitVec 32) : Fin 3 → Nat :=
  let c0_174 : Index := 0#32
  let c2_i32_171 : BitVec 32 := 2#32
  let c0_i32_169 : BitVec 32 := 0#32
  let c2_i32_168 : BitVec 32 := 2#32
  let c0_i32_56 : BitVec 32 := 0#32
  let c1_i32_58 : BitVec 32 := 1#32
  let arg18 : BitVec 32 := Scf.iv c0_i32_56 c1_i32_58 k0_t9
  let v391 : BitVec 32 := Scalar.muli c2_i32_168 arg18
  let v392 : BitVec 32 := Scalar.addi c0_i32_169 v391
  let v393 : BitVec 32 := Scalar.addi v392 c0_i32_170
  let v394 : BitVec 32 := Scalar.muli c2_i32_171 v393
  let v395 : BitVec 32 := Scalar.addi v394 c1_i32_172
  let c512_i32_173 : BitVec 32 := 512#32
  let v396 : BitVec 32 := Scalar.muli v395 c512_i32_173
  let v397 : BitVec 32 := v396
  let v398 : Index := Scalar.indexCast v397
  let c0_175 : Index := 0#32
  ![0, v398.toNat, 0]
def k0_off81 (i : grid0.Coords) (k0_t9 : Fin (k0_t9_loop i).trips) (c0_i32_185 : BitVec 32) : Fin 4 → Nat :=
  let c0_187 : Index := 0#32
  let c2_i32_186 : BitVec 32 := 2#32
  let c0_i32_169 : BitVec 32 := 0#32
  let c2_i32_168 : BitVec 32 := 2#32
  let c0_i32_56 : BitVec 32 := 0#32
  let c1_i32_58 : BitVec 32 := 1#32
  let arg18 : BitVec 32 := Scf.iv c0_i32_56 c1_i32_58 k0_t9
  let v391 : BitVec 32 := Scalar.muli c2_i32_168 arg18
  let v392 : BitVec 32 := Scalar.addi c0_i32_169 v391
  let v413 : BitVec 32 := Scalar.addi v392 c0_i32_185
  let v414 : BitVec 32 := Scalar.muli c2_i32_186 v413
  let v415 : Index := Scalar.indexCast v414
  let c0_188 : Index := 0#32
  let c0_189 : Index := 0#32
  ![0, v415.toNat, 0, 0]
def k0_mult63 (i : grid0.Coords) (k0_t9 : Fin (k0_t9_loop i).trips) : BitVec 32 :=
  let c2_i32_194 : BitVec 32 := 2#32
  let c0_i32_169 : BitVec 32 := 0#32
  let c2_i32_168 : BitVec 32 := 2#32
  let c0_i32_56 : BitVec 32 := 0#32
  let c1_i32_58 : BitVec 32 := 1#32
  let arg18 : BitVec 32 := Scf.iv c0_i32_56 c1_i32_58 k0_t9
  let v391 : BitVec 32 := Scalar.muli c2_i32_168 arg18
  let v392 : BitVec 32 := Scalar.addi c0_i32_169 v391
  let c0_i32_193 : BitVec 32 := 0#32
  let v435 : BitVec 32 := Scalar.addi v392 c0_i32_193
  let v436 : BitVec 32 := Scalar.muli c2_i32_194 v435
  let c2_i32_195 : BitVec 32 := 2#32
  let v437 : BitVec 32 := Scalar.addi v436 c2_i32_195
  let c512_i32_196 : BitVec 32 := 512#32
  let v438 : BitVec 32 := Scalar.muli v437 c512_i32_196
  v438
def k0_off82 (i : grid0.Coords) (k0_t9 : Fin (k0_t9_loop i).trips) (c0_i32_208 : BitVec 32) : Fin 4 → Nat :=
  let c0_211 : Index := 0#32
  let c2_i32_209 : BitVec 32 := 2#32
  let c0_i32_169 : BitVec 32 := 0#32
  let c2_i32_168 : BitVec 32 := 2#32
  let c0_i32_56 : BitVec 32 := 0#32
  let c1_i32_58 : BitVec 32 := 1#32
  let arg18 : BitVec 32 := Scf.iv c0_i32_56 c1_i32_58 k0_t9
  let v391 : BitVec 32 := Scalar.muli c2_i32_168 arg18
  let v392 : BitVec 32 := Scalar.addi c0_i32_169 v391
  let v455 : BitVec 32 := Scalar.addi v392 c0_i32_208
  let v456 : BitVec 32 := Scalar.muli c2_i32_209 v455
  let c1_i32_210 : BitVec 32 := 1#32
  let v457 : BitVec 32 := Scalar.addi v456 c1_i32_210
  let v458 : Index := Scalar.indexCast v457
  let c0_212 : Index := 0#32
  let c0_213 : Index := 0#32
  ![0, v458.toNat, 0, 0]
def k0_mult64 (i : grid0.Coords) (k0_t9 : Fin (k0_t9_loop i).trips) : BitVec 32 :=
  let c2_i32_218 : BitVec 32 := 2#32
  let c0_i32_169 : BitVec 32 := 0#32
  let c2_i32_168 : BitVec 32 := 2#32
  let c0_i32_56 : BitVec 32 := 0#32
  let c1_i32_58 : BitVec 32 := 1#32
  let arg18 : BitVec 32 := Scf.iv c0_i32_56 c1_i32_58 k0_t9
  let v391 : BitVec 32 := Scalar.muli c2_i32_168 arg18
  let v392 : BitVec 32 := Scalar.addi c0_i32_169 v391
  let c1_i32_217 : BitVec 32 := 1#32
  let v478 : BitVec 32 := Scalar.addi v392 c1_i32_217
  let v479 : BitVec 32 := Scalar.muli c2_i32_218 v478
  let c1_i32_219 : BitVec 32 := 1#32
  let v480 : BitVec 32 := Scalar.addi v479 c1_i32_219
  let c512_i32_220 : BitVec 32 := 512#32
  let v481 : BitVec 32 := Scalar.muli v480 c512_i32_220
  v481
def k0_mult65 (i : grid0.Coords) (k0_t9 : Fin (k0_t9_loop i).trips) : BitVec 32 :=
  let c2_i32_241 : BitVec 32 := 2#32
  let c0_i32_169 : BitVec 32 := 0#32
  let c2_i32_168 : BitVec 32 := 2#32
  let c0_i32_56 : BitVec 32 := 0#32
  let c1_i32_58 : BitVec 32 := 1#32
  let arg18 : BitVec 32 := Scf.iv c0_i32_56 c1_i32_58 k0_t9
  let v391 : BitVec 32 := Scalar.muli c2_i32_168 arg18
  let v392 : BitVec 32 := Scalar.addi c0_i32_169 v391
  let c1_i32_240 : BitVec 32 := 1#32
  let v520 : BitVec 32 := Scalar.addi v392 c1_i32_240
  let v521 : BitVec 32 := Scalar.muli c2_i32_241 v520
  let c2_i32_242 : BitVec 32 := 2#32
  let v522 : BitVec 32 := Scalar.addi v521 c2_i32_242
  let c512_i32_243 : BitVec 32 := 512#32
  let v523 : BitVec 32 := Scalar.muli v522 c512_i32_243
  v523
@[reducible] def k0_t10_loop (i : grid0.Coords) : Scf.Loop 32 :=
  let c0_i32_56 : BitVec 32 := 0#32
  let c2_i32 : BitVec 32 := 2#32
  let arg2 : BitVec 32 := BitVec.ofNat 32 (i 2).val
  let v74 : BitVec 32 := Scalar.muli c2_i32 arg2
  let c0_i32_42 : BitVec 32 := 0#32
  let v90 : BitVec 1 := Scalar.cmpi .sgt v74 c0_i32_42
  let v91 : BitVec 32 := Scalar.extui v90
  let c0_i32_43 : BitVec 32 := 0#32
  let v92 : BitVec 1 := Scalar.cmpi .slt v74 c0_i32_43
  let v93 : BitVec 32 := Scalar.extui v92
  let v94 : BitVec 32 := Scalar.subi v91 v93
  let c2_i32_41 : BitVec 32 := 2#32
  let c0_i32_44 : BitVec 32 := 0#32
  let v95 : BitVec 1 := Scalar.cmpi .sgt c2_i32_41 c0_i32_44
  let v96 : BitVec 32 := Scalar.extui v95
  let c0_i32_45 : BitVec 32 := 0#32
  let v97 : BitVec 1 := Scalar.cmpi .slt c2_i32_41 c0_i32_45
  let v98 : BitVec 32 := Scalar.extui v97
  let v99 : BitVec 32 := Scalar.subi v96 v98
  let v100 : BitVec 1 := Scalar.cmpi .ne v94 v99
  let v101 : BitVec 32 := Scalar.remsi v74 c2_i32_41
  let c0_i32_46 : BitVec 32 := 0#32
  let v102 : BitVec 1 := Scalar.cmpi .ne v101 c0_i32_46
  let v103 : BitVec 1 := Scalar.andi v100 v102
  let v89 : BitVec 32 := Scalar.divsi v74 c2_i32_41
  let c1_i32 : BitVec 32 := 1#32
  let v104 : BitVec 32 := Scalar.subi v89 c1_i32
  let v105 : BitVec 32 := Scalar.select v103 v104 v89
  let c0_i32_47 : BitVec 32 := 0#32
  let v106 : BitVec 32 := Scalar.subi v105 c0_i32_47
  let c0_i32_49 : BitVec 32 := 0#32
  let v108 : BitVec 1 := Scalar.cmpi .sgt v106 c0_i32_49
  let v109 : BitVec 32 := Scalar.extui v108
  let c0_i32_50 : BitVec 32 := 0#32
  let v110 : BitVec 1 := Scalar.cmpi .slt v106 c0_i32_50
  let v111 : BitVec 32 := Scalar.extui v110
  let v112 : BitVec 32 := Scalar.subi v109 v111
  let c2_i32_48 : BitVec 32 := 2#32
  let c0_i32_51 : BitVec 32 := 0#32
  let v113 : BitVec 1 := Scalar.cmpi .sgt c2_i32_48 c0_i32_51
  let v114 : BitVec 32 := Scalar.extui v113
  let c0_i32_52 : BitVec 32 := 0#32
  let v115 : BitVec 1 := Scalar.cmpi .slt c2_i32_48 c0_i32_52
  let v116 : BitVec 32 := Scalar.extui v115
  let v117 : BitVec 32 := Scalar.subi v114 v116
  let v118 : BitVec 1 := Scalar.cmpi .ne v112 v117
  let v119 : BitVec 32 := Scalar.remsi v106 c2_i32_48
  let c0_i32_53 : BitVec 32 := 0#32
  let v120 : BitVec 1 := Scalar.cmpi .ne v119 c0_i32_53
  let v121 : BitVec 1 := Scalar.andi v118 v120
  let v107 : BitVec 32 := Scalar.divsi v106 c2_i32_48
  let c1_i32_54 : BitVec 32 := 1#32
  let v122 : BitVec 32 := Scalar.subi v107 c1_i32_54
  let v123 : BitVec 32 := Scalar.select v121 v122 v107
  let v124 : BitVec 32 := Scalar.subi v123 c0_i32_56
  let c1_i32_57 : BitVec 32 := 1#32
  let v126 : BitVec 32 := Scalar.divsi v124 c1_i32_57
  let v127 : BitVec 32 := Scalar.muli v126 c1_i32_57
  let v128 : BitVec 32 := Scalar.addi c0_i32_56 v127
  let v125 : BitVec 32 := Scalar.addi c0_i32_56 v124
  let c1_i32_59 : BitVec 32 := 1#32
  ⟨v128, v125, c1_i32_59⟩
def k0_mult66 (i : grid0.Coords) (k0_t10 : Fin (k0_t10_loop i).trips) : BitVec 32 :=
  let c2_i32_171 : BitVec 32 := 2#32
  let c0_i32_169 : BitVec 32 := 0#32
  let c2_i32_168 : BitVec 32 := 2#32
  let c0_i32_56 : BitVec 32 := 0#32
  let c2_i32 : BitVec 32 := 2#32
  let arg2 : BitVec 32 := BitVec.ofNat 32 (i 2).val
  let v74 : BitVec 32 := Scalar.muli c2_i32 arg2
  let c0_i32_42 : BitVec 32 := 0#32
  let v90 : BitVec 1 := Scalar.cmpi .sgt v74 c0_i32_42
  let v91 : BitVec 32 := Scalar.extui v90
  let c0_i32_43 : BitVec 32 := 0#32
  let v92 : BitVec 1 := Scalar.cmpi .slt v74 c0_i32_43
  let v93 : BitVec 32 := Scalar.extui v92
  let v94 : BitVec 32 := Scalar.subi v91 v93
  let c2_i32_41 : BitVec 32 := 2#32
  let c0_i32_44 : BitVec 32 := 0#32
  let v95 : BitVec 1 := Scalar.cmpi .sgt c2_i32_41 c0_i32_44
  let v96 : BitVec 32 := Scalar.extui v95
  let c0_i32_45 : BitVec 32 := 0#32
  let v97 : BitVec 1 := Scalar.cmpi .slt c2_i32_41 c0_i32_45
  let v98 : BitVec 32 := Scalar.extui v97
  let v99 : BitVec 32 := Scalar.subi v96 v98
  let v100 : BitVec 1 := Scalar.cmpi .ne v94 v99
  let v101 : BitVec 32 := Scalar.remsi v74 c2_i32_41
  let c0_i32_46 : BitVec 32 := 0#32
  let v102 : BitVec 1 := Scalar.cmpi .ne v101 c0_i32_46
  let v103 : BitVec 1 := Scalar.andi v100 v102
  let v89 : BitVec 32 := Scalar.divsi v74 c2_i32_41
  let c1_i32 : BitVec 32 := 1#32
  let v104 : BitVec 32 := Scalar.subi v89 c1_i32
  let v105 : BitVec 32 := Scalar.select v103 v104 v89
  let c0_i32_47 : BitVec 32 := 0#32
  let v106 : BitVec 32 := Scalar.subi v105 c0_i32_47
  let c0_i32_49 : BitVec 32 := 0#32
  let v108 : BitVec 1 := Scalar.cmpi .sgt v106 c0_i32_49
  let v109 : BitVec 32 := Scalar.extui v108
  let c0_i32_50 : BitVec 32 := 0#32
  let v110 : BitVec 1 := Scalar.cmpi .slt v106 c0_i32_50
  let v111 : BitVec 32 := Scalar.extui v110
  let v112 : BitVec 32 := Scalar.subi v109 v111
  let c2_i32_48 : BitVec 32 := 2#32
  let c0_i32_51 : BitVec 32 := 0#32
  let v113 : BitVec 1 := Scalar.cmpi .sgt c2_i32_48 c0_i32_51
  let v114 : BitVec 32 := Scalar.extui v113
  let c0_i32_52 : BitVec 32 := 0#32
  let v115 : BitVec 1 := Scalar.cmpi .slt c2_i32_48 c0_i32_52
  let v116 : BitVec 32 := Scalar.extui v115
  let v117 : BitVec 32 := Scalar.subi v114 v116
  let v118 : BitVec 1 := Scalar.cmpi .ne v112 v117
  let v119 : BitVec 32 := Scalar.remsi v106 c2_i32_48
  let c0_i32_53 : BitVec 32 := 0#32
  let v120 : BitVec 1 := Scalar.cmpi .ne v119 c0_i32_53
  let v121 : BitVec 1 := Scalar.andi v118 v120
  let v107 : BitVec 32 := Scalar.divsi v106 c2_i32_48
  let c1_i32_54 : BitVec 32 := 1#32
  let v122 : BitVec 32 := Scalar.subi v107 c1_i32_54
  let v123 : BitVec 32 := Scalar.select v121 v122 v107
  let v124 : BitVec 32 := Scalar.subi v123 c0_i32_56
  let c1_i32_57 : BitVec 32 := 1#32
  let v126 : BitVec 32 := Scalar.divsi v124 c1_i32_57
  let v127 : BitVec 32 := Scalar.muli v126 c1_i32_57
  let v128 : BitVec 32 := Scalar.addi c0_i32_56 v127
  let c1_i32_59 : BitVec 32 := 1#32
  let arg18 : BitVec 32 := Scf.iv v128 c1_i32_59 k0_t10
  let v391 : BitVec 32 := Scalar.muli c2_i32_168 arg18
  let v392 : BitVec 32 := Scalar.addi c0_i32_169 v391
  let c0_i32_170 : BitVec 32 := 0#32
  let v393 : BitVec 32 := Scalar.addi v392 c0_i32_170
  let v394 : BitVec 32 := Scalar.muli c2_i32_171 v393
  let c1_i32_172 : BitVec 32 := 1#32
  let v395 : BitVec 32 := Scalar.addi v394 c1_i32_172
  let c512_i32_173 : BitVec 32 := 512#32
  let v396 : BitVec 32 := Scalar.muli v395 c512_i32_173
  v396
def k0_off83 (i : grid0.Coords) (k0_t10 : Fin (k0_t10_loop i).trips) (c0_i32_170 : BitVec 32) (c1_i32_172 : BitVec 32) : Fin 3 → Nat :=
  let c0_174 : Index := 0#32
  let c2_i32_171 : BitVec 32 := 2#32
  let c0_i32_169 : BitVec 32 := 0#32
  let c2_i32_168 : BitVec 32 := 2#32
  let c0_i32_56 : BitVec 32 := 0#32
  let c2_i32 : BitVec 32 := 2#32
  let arg2 : BitVec 32 := BitVec.ofNat 32 (i 2).val
  let v74 : BitVec 32 := Scalar.muli c2_i32 arg2
  let c0_i32_42 : BitVec 32 := 0#32
  let v90 : BitVec 1 := Scalar.cmpi .sgt v74 c0_i32_42
  let v91 : BitVec 32 := Scalar.extui v90
  let c0_i32_43 : BitVec 32 := 0#32
  let v92 : BitVec 1 := Scalar.cmpi .slt v74 c0_i32_43
  let v93 : BitVec 32 := Scalar.extui v92
  let v94 : BitVec 32 := Scalar.subi v91 v93
  let c2_i32_41 : BitVec 32 := 2#32
  let c0_i32_44 : BitVec 32 := 0#32
  let v95 : BitVec 1 := Scalar.cmpi .sgt c2_i32_41 c0_i32_44
  let v96 : BitVec 32 := Scalar.extui v95
  let c0_i32_45 : BitVec 32 := 0#32
  let v97 : BitVec 1 := Scalar.cmpi .slt c2_i32_41 c0_i32_45
  let v98 : BitVec 32 := Scalar.extui v97
  let v99 : BitVec 32 := Scalar.subi v96 v98
  let v100 : BitVec 1 := Scalar.cmpi .ne v94 v99
  let v101 : BitVec 32 := Scalar.remsi v74 c2_i32_41
  let c0_i32_46 : BitVec 32 := 0#32
  let v102 : BitVec 1 := Scalar.cmpi .ne v101 c0_i32_46
  let v103 : BitVec 1 := Scalar.andi v100 v102
  let v89 : BitVec 32 := Scalar.divsi v74 c2_i32_41
  let c1_i32 : BitVec 32 := 1#32
  let v104 : BitVec 32 := Scalar.subi v89 c1_i32
  let v105 : BitVec 32 := Scalar.select v103 v104 v89
  let c0_i32_47 : BitVec 32 := 0#32
  let v106 : BitVec 32 := Scalar.subi v105 c0_i32_47
  let c0_i32_49 : BitVec 32 := 0#32
  let v108 : BitVec 1 := Scalar.cmpi .sgt v106 c0_i32_49
  let v109 : BitVec 32 := Scalar.extui v108
  let c0_i32_50 : BitVec 32 := 0#32
  let v110 : BitVec 1 := Scalar.cmpi .slt v106 c0_i32_50
  let v111 : BitVec 32 := Scalar.extui v110
  let v112 : BitVec 32 := Scalar.subi v109 v111
  let c2_i32_48 : BitVec 32 := 2#32
  let c0_i32_51 : BitVec 32 := 0#32
  let v113 : BitVec 1 := Scalar.cmpi .sgt c2_i32_48 c0_i32_51
  let v114 : BitVec 32 := Scalar.extui v113
  let c0_i32_52 : BitVec 32 := 0#32
  let v115 : BitVec 1 := Scalar.cmpi .slt c2_i32_48 c0_i32_52
  let v116 : BitVec 32 := Scalar.extui v115
  let v117 : BitVec 32 := Scalar.subi v114 v116
  let v118 : BitVec 1 := Scalar.cmpi .ne v112 v117
  let v119 : BitVec 32 := Scalar.remsi v106 c2_i32_48
  let c0_i32_53 : BitVec 32 := 0#32
  let v120 : BitVec 1 := Scalar.cmpi .ne v119 c0_i32_53
  let v121 : BitVec 1 := Scalar.andi v118 v120
  let v107 : BitVec 32 := Scalar.divsi v106 c2_i32_48
  let c1_i32_54 : BitVec 32 := 1#32
  let v122 : BitVec 32 := Scalar.subi v107 c1_i32_54
  let v123 : BitVec 32 := Scalar.select v121 v122 v107
  let v124 : BitVec 32 := Scalar.subi v123 c0_i32_56
  let c1_i32_57 : BitVec 32 := 1#32
  let v126 : BitVec 32 := Scalar.divsi v124 c1_i32_57
  let v127 : BitVec 32 := Scalar.muli v126 c1_i32_57
  let v128 : BitVec 32 := Scalar.addi c0_i32_56 v127
  let c1_i32_59 : BitVec 32 := 1#32
  let arg18 : BitVec 32 := Scf.iv v128 c1_i32_59 k0_t10
  let v391 : BitVec 32 := Scalar.muli c2_i32_168 arg18
  let v392 : BitVec 32 := Scalar.addi c0_i32_169 v391
  let v393 : BitVec 32 := Scalar.addi v392 c0_i32_170
  let v394 : BitVec 32 := Scalar.muli c2_i32_171 v393
  let v395 : BitVec 32 := Scalar.addi v394 c1_i32_172
  let c512_i32_173 : BitVec 32 := 512#32
  let v396 : BitVec 32 := Scalar.muli v395 c512_i32_173
  let v397 : BitVec 32 := v396
  let v398 : Index := Scalar.indexCast v397
  let c0_175 : Index := 0#32
  ![0, v398.toNat, 0]
def k0_off84 (i : grid0.Coords) (k0_t10 : Fin (k0_t10_loop i).trips) (c0_i32_185 : BitVec 32) : Fin 4 → Nat :=
  let c0_187 : Index := 0#32
  let c2_i32_186 : BitVec 32 := 2#32
  let c0_i32_169 : BitVec 32 := 0#32
  let c2_i32_168 : BitVec 32 := 2#32
  let c0_i32_56 : BitVec 32 := 0#32
  let c2_i32 : BitVec 32 := 2#32
  let arg2 : BitVec 32 := BitVec.ofNat 32 (i 2).val
  let v74 : BitVec 32 := Scalar.muli c2_i32 arg2
  let c0_i32_42 : BitVec 32 := 0#32
  let v90 : BitVec 1 := Scalar.cmpi .sgt v74 c0_i32_42
  let v91 : BitVec 32 := Scalar.extui v90
  let c0_i32_43 : BitVec 32 := 0#32
  let v92 : BitVec 1 := Scalar.cmpi .slt v74 c0_i32_43
  let v93 : BitVec 32 := Scalar.extui v92
  let v94 : BitVec 32 := Scalar.subi v91 v93
  let c2_i32_41 : BitVec 32 := 2#32
  let c0_i32_44 : BitVec 32 := 0#32
  let v95 : BitVec 1 := Scalar.cmpi .sgt c2_i32_41 c0_i32_44
  let v96 : BitVec 32 := Scalar.extui v95
  let c0_i32_45 : BitVec 32 := 0#32
  let v97 : BitVec 1 := Scalar.cmpi .slt c2_i32_41 c0_i32_45
  let v98 : BitVec 32 := Scalar.extui v97
  let v99 : BitVec 32 := Scalar.subi v96 v98
  let v100 : BitVec 1 := Scalar.cmpi .ne v94 v99
  let v101 : BitVec 32 := Scalar.remsi v74 c2_i32_41
  let c0_i32_46 : BitVec 32 := 0#32
  let v102 : BitVec 1 := Scalar.cmpi .ne v101 c0_i32_46
  let v103 : BitVec 1 := Scalar.andi v100 v102
  let v89 : BitVec 32 := Scalar.divsi v74 c2_i32_41
  let c1_i32 : BitVec 32 := 1#32
  let v104 : BitVec 32 := Scalar.subi v89 c1_i32
  let v105 : BitVec 32 := Scalar.select v103 v104 v89
  let c0_i32_47 : BitVec 32 := 0#32
  let v106 : BitVec 32 := Scalar.subi v105 c0_i32_47
  let c0_i32_49 : BitVec 32 := 0#32
  let v108 : BitVec 1 := Scalar.cmpi .sgt v106 c0_i32_49
  let v109 : BitVec 32 := Scalar.extui v108
  let c0_i32_50 : BitVec 32 := 0#32
  let v110 : BitVec 1 := Scalar.cmpi .slt v106 c0_i32_50
  let v111 : BitVec 32 := Scalar.extui v110
  let v112 : BitVec 32 := Scalar.subi v109 v111
  let c2_i32_48 : BitVec 32 := 2#32
  let c0_i32_51 : BitVec 32 := 0#32
  let v113 : BitVec 1 := Scalar.cmpi .sgt c2_i32_48 c0_i32_51
  let v114 : BitVec 32 := Scalar.extui v113
  let c0_i32_52 : BitVec 32 := 0#32
  let v115 : BitVec 1 := Scalar.cmpi .slt c2_i32_48 c0_i32_52
  let v116 : BitVec 32 := Scalar.extui v115
  let v117 : BitVec 32 := Scalar.subi v114 v116
  let v118 : BitVec 1 := Scalar.cmpi .ne v112 v117
  let v119 : BitVec 32 := Scalar.remsi v106 c2_i32_48
  let c0_i32_53 : BitVec 32 := 0#32
  let v120 : BitVec 1 := Scalar.cmpi .ne v119 c0_i32_53
  let v121 : BitVec 1 := Scalar.andi v118 v120
  let v107 : BitVec 32 := Scalar.divsi v106 c2_i32_48
  let c1_i32_54 : BitVec 32 := 1#32
  let v122 : BitVec 32 := Scalar.subi v107 c1_i32_54
  let v123 : BitVec 32 := Scalar.select v121 v122 v107
  let v124 : BitVec 32 := Scalar.subi v123 c0_i32_56
  let c1_i32_57 : BitVec 32 := 1#32
  let v126 : BitVec 32 := Scalar.divsi v124 c1_i32_57
  let v127 : BitVec 32 := Scalar.muli v126 c1_i32_57
  let v128 : BitVec 32 := Scalar.addi c0_i32_56 v127
  let c1_i32_59 : BitVec 32 := 1#32
  let arg18 : BitVec 32 := Scf.iv v128 c1_i32_59 k0_t10
  let v391 : BitVec 32 := Scalar.muli c2_i32_168 arg18
  let v392 : BitVec 32 := Scalar.addi c0_i32_169 v391
  let v413 : BitVec 32 := Scalar.addi v392 c0_i32_185
  let v414 : BitVec 32 := Scalar.muli c2_i32_186 v413
  let v415 : Index := Scalar.indexCast v414
  let c0_188 : Index := 0#32
  let c0_189 : Index := 0#32
  ![0, v415.toNat, 0, 0]
def k0_mult67 (i : grid0.Coords) (k0_t10 : Fin (k0_t10_loop i).trips) : BitVec 32 :=
  let c2_i32_194 : BitVec 32 := 2#32
  let c0_i32_169 : BitVec 32 := 0#32
  let c2_i32_168 : BitVec 32 := 2#32
  let c0_i32_56 : BitVec 32 := 0#32
  let c2_i32 : BitVec 32 := 2#32
  let arg2 : BitVec 32 := BitVec.ofNat 32 (i 2).val
  let v74 : BitVec 32 := Scalar.muli c2_i32 arg2
  let c0_i32_42 : BitVec 32 := 0#32
  let v90 : BitVec 1 := Scalar.cmpi .sgt v74 c0_i32_42
  let v91 : BitVec 32 := Scalar.extui v90
  let c0_i32_43 : BitVec 32 := 0#32
  let v92 : BitVec 1 := Scalar.cmpi .slt v74 c0_i32_43
  let v93 : BitVec 32 := Scalar.extui v92
  let v94 : BitVec 32 := Scalar.subi v91 v93
  let c2_i32_41 : BitVec 32 := 2#32
  let c0_i32_44 : BitVec 32 := 0#32
  let v95 : BitVec 1 := Scalar.cmpi .sgt c2_i32_41 c0_i32_44
  let v96 : BitVec 32 := Scalar.extui v95
  let c0_i32_45 : BitVec 32 := 0#32
  let v97 : BitVec 1 := Scalar.cmpi .slt c2_i32_41 c0_i32_45
  let v98 : BitVec 32 := Scalar.extui v97
  let v99 : BitVec 32 := Scalar.subi v96 v98
  let v100 : BitVec 1 := Scalar.cmpi .ne v94 v99
  let v101 : BitVec 32 := Scalar.remsi v74 c2_i32_41
  let c0_i32_46 : BitVec 32 := 0#32
  let v102 : BitVec 1 := Scalar.cmpi .ne v101 c0_i32_46
  let v103 : BitVec 1 := Scalar.andi v100 v102
  let v89 : BitVec 32 := Scalar.divsi v74 c2_i32_41
  let c1_i32 : BitVec 32 := 1#32
  let v104 : BitVec 32 := Scalar.subi v89 c1_i32
  let v105 : BitVec 32 := Scalar.select v103 v104 v89
  let c0_i32_47 : BitVec 32 := 0#32
  let v106 : BitVec 32 := Scalar.subi v105 c0_i32_47
  let c0_i32_49 : BitVec 32 := 0#32
  let v108 : BitVec 1 := Scalar.cmpi .sgt v106 c0_i32_49
  let v109 : BitVec 32 := Scalar.extui v108
  let c0_i32_50 : BitVec 32 := 0#32
  let v110 : BitVec 1 := Scalar.cmpi .slt v106 c0_i32_50
  let v111 : BitVec 32 := Scalar.extui v110
  let v112 : BitVec 32 := Scalar.subi v109 v111
  let c2_i32_48 : BitVec 32 := 2#32
  let c0_i32_51 : BitVec 32 := 0#32
  let v113 : BitVec 1 := Scalar.cmpi .sgt c2_i32_48 c0_i32_51
  let v114 : BitVec 32 := Scalar.extui v113
  let c0_i32_52 : BitVec 32 := 0#32
  let v115 : BitVec 1 := Scalar.cmpi .slt c2_i32_48 c0_i32_52
  let v116 : BitVec 32 := Scalar.extui v115
  let v117 : BitVec 32 := Scalar.subi v114 v116
  let v118 : BitVec 1 := Scalar.cmpi .ne v112 v117
  let v119 : BitVec 32 := Scalar.remsi v106 c2_i32_48
  let c0_i32_53 : BitVec 32 := 0#32
  let v120 : BitVec 1 := Scalar.cmpi .ne v119 c0_i32_53
  let v121 : BitVec 1 := Scalar.andi v118 v120
  let v107 : BitVec 32 := Scalar.divsi v106 c2_i32_48
  let c1_i32_54 : BitVec 32 := 1#32
  let v122 : BitVec 32 := Scalar.subi v107 c1_i32_54
  let v123 : BitVec 32 := Scalar.select v121 v122 v107
  let v124 : BitVec 32 := Scalar.subi v123 c0_i32_56
  let c1_i32_57 : BitVec 32 := 1#32
  let v126 : BitVec 32 := Scalar.divsi v124 c1_i32_57
  let v127 : BitVec 32 := Scalar.muli v126 c1_i32_57
  let v128 : BitVec 32 := Scalar.addi c0_i32_56 v127
  let c1_i32_59 : BitVec 32 := 1#32
  let arg18 : BitVec 32 := Scf.iv v128 c1_i32_59 k0_t10
  let v391 : BitVec 32 := Scalar.muli c2_i32_168 arg18
  let v392 : BitVec 32 := Scalar.addi c0_i32_169 v391
  let c0_i32_193 : BitVec 32 := 0#32
  let v435 : BitVec 32 := Scalar.addi v392 c0_i32_193
  let v436 : BitVec 32 := Scalar.muli c2_i32_194 v435
  let c2_i32_195 : BitVec 32 := 2#32
  let v437 : BitVec 32 := Scalar.addi v436 c2_i32_195
  let c512_i32_196 : BitVec 32 := 512#32
  let v438 : BitVec 32 := Scalar.muli v437 c512_i32_196
  v438
def k0_off85 (i : grid0.Coords) (k0_t10 : Fin (k0_t10_loop i).trips) (c0_i32_208 : BitVec 32) : Fin 4 → Nat :=
  let c0_211 : Index := 0#32
  let c2_i32_209 : BitVec 32 := 2#32
  let c0_i32_169 : BitVec 32 := 0#32
  let c2_i32_168 : BitVec 32 := 2#32
  let c0_i32_56 : BitVec 32 := 0#32
  let c2_i32 : BitVec 32 := 2#32
  let arg2 : BitVec 32 := BitVec.ofNat 32 (i 2).val
  let v74 : BitVec 32 := Scalar.muli c2_i32 arg2
  let c0_i32_42 : BitVec 32 := 0#32
  let v90 : BitVec 1 := Scalar.cmpi .sgt v74 c0_i32_42
  let v91 : BitVec 32 := Scalar.extui v90
  let c0_i32_43 : BitVec 32 := 0#32
  let v92 : BitVec 1 := Scalar.cmpi .slt v74 c0_i32_43
  let v93 : BitVec 32 := Scalar.extui v92
  let v94 : BitVec 32 := Scalar.subi v91 v93
  let c2_i32_41 : BitVec 32 := 2#32
  let c0_i32_44 : BitVec 32 := 0#32
  let v95 : BitVec 1 := Scalar.cmpi .sgt c2_i32_41 c0_i32_44
  let v96 : BitVec 32 := Scalar.extui v95
  let c0_i32_45 : BitVec 32 := 0#32
  let v97 : BitVec 1 := Scalar.cmpi .slt c2_i32_41 c0_i32_45
  let v98 : BitVec 32 := Scalar.extui v97
  let v99 : BitVec 32 := Scalar.subi v96 v98
  let v100 : BitVec 1 := Scalar.cmpi .ne v94 v99
  let v101 : BitVec 32 := Scalar.remsi v74 c2_i32_41
  let c0_i32_46 : BitVec 32 := 0#32
  let v102 : BitVec 1 := Scalar.cmpi .ne v101 c0_i32_46
  let v103 : BitVec 1 := Scalar.andi v100 v102
  let v89 : BitVec 32 := Scalar.divsi v74 c2_i32_41
  let c1_i32 : BitVec 32 := 1#32
  let v104 : BitVec 32 := Scalar.subi v89 c1_i32
  let v105 : BitVec 32 := Scalar.select v103 v104 v89
  let c0_i32_47 : BitVec 32 := 0#32
  let v106 : BitVec 32 := Scalar.subi v105 c0_i32_47
  let c0_i32_49 : BitVec 32 := 0#32
  let v108 : BitVec 1 := Scalar.cmpi .sgt v106 c0_i32_49
  let v109 : BitVec 32 := Scalar.extui v108
  let c0_i32_50 : BitVec 32 := 0#32
  let v110 : BitVec 1 := Scalar.cmpi .slt v106 c0_i32_50
  let v111 : BitVec 32 := Scalar.extui v110
  let v112 : BitVec 32 := Scalar.subi v109 v111
  let c2_i32_48 : BitVec 32 := 2#32
  let c0_i32_51 : BitVec 32 := 0#32
  let v113 : BitVec 1 := Scalar.cmpi .sgt c2_i32_48 c0_i32_51
  let v114 : BitVec 32 := Scalar.extui v113
  let c0_i32_52 : BitVec 32 := 0#32
  let v115 : BitVec 1 := Scalar.cmpi .slt c2_i32_48 c0_i32_52
  let v116 : BitVec 32 := Scalar.extui v115
  let v117 : BitVec 32 := Scalar.subi v114 v116
  let v118 : BitVec 1 := Scalar.cmpi .ne v112 v117
  let v119 : BitVec 32 := Scalar.remsi v106 c2_i32_48
  let c0_i32_53 : BitVec 32 := 0#32
  let v120 : BitVec 1 := Scalar.cmpi .ne v119 c0_i32_53
  let v121 : BitVec 1 := Scalar.andi v118 v120
  let v107 : BitVec 32 := Scalar.divsi v106 c2_i32_48
  let c1_i32_54 : BitVec 32 := 1#32
  let v122 : BitVec 32 := Scalar.subi v107 c1_i32_54
  let v123 : BitVec 32 := Scalar.select v121 v122 v107
  let v124 : BitVec 32 := Scalar.subi v123 c0_i32_56
  let c1_i32_57 : BitVec 32 := 1#32
  let v126 : BitVec 32 := Scalar.divsi v124 c1_i32_57
  let v127 : BitVec 32 := Scalar.muli v126 c1_i32_57
  let v128 : BitVec 32 := Scalar.addi c0_i32_56 v127
  let c1_i32_59 : BitVec 32 := 1#32
  let arg18 : BitVec 32 := Scf.iv v128 c1_i32_59 k0_t10
  let v391 : BitVec 32 := Scalar.muli c2_i32_168 arg18
  let v392 : BitVec 32 := Scalar.addi c0_i32_169 v391
  let v455 : BitVec 32 := Scalar.addi v392 c0_i32_208
  let v456 : BitVec 32 := Scalar.muli c2_i32_209 v455
  let c1_i32_210 : BitVec 32 := 1#32
  let v457 : BitVec 32 := Scalar.addi v456 c1_i32_210
  let v458 : Index := Scalar.indexCast v457
  let c0_212 : Index := 0#32
  let c0_213 : Index := 0#32
  ![0, v458.toNat, 0, 0]
def k0_mult68 (i : grid0.Coords) (k0_t10 : Fin (k0_t10_loop i).trips) : BitVec 32 :=
  let c2_i32_218 : BitVec 32 := 2#32
  let c0_i32_169 : BitVec 32 := 0#32
  let c2_i32_168 : BitVec 32 := 2#32
  let c0_i32_56 : BitVec 32 := 0#32
  let c2_i32 : BitVec 32 := 2#32
  let arg2 : BitVec 32 := BitVec.ofNat 32 (i 2).val
  let v74 : BitVec 32 := Scalar.muli c2_i32 arg2
  let c0_i32_42 : BitVec 32 := 0#32
  let v90 : BitVec 1 := Scalar.cmpi .sgt v74 c0_i32_42
  let v91 : BitVec 32 := Scalar.extui v90
  let c0_i32_43 : BitVec 32 := 0#32
  let v92 : BitVec 1 := Scalar.cmpi .slt v74 c0_i32_43
  let v93 : BitVec 32 := Scalar.extui v92
  let v94 : BitVec 32 := Scalar.subi v91 v93
  let c2_i32_41 : BitVec 32 := 2#32
  let c0_i32_44 : BitVec 32 := 0#32
  let v95 : BitVec 1 := Scalar.cmpi .sgt c2_i32_41 c0_i32_44
  let v96 : BitVec 32 := Scalar.extui v95
  let c0_i32_45 : BitVec 32 := 0#32
  let v97 : BitVec 1 := Scalar.cmpi .slt c2_i32_41 c0_i32_45
  let v98 : BitVec 32 := Scalar.extui v97
  let v99 : BitVec 32 := Scalar.subi v96 v98
  let v100 : BitVec 1 := Scalar.cmpi .ne v94 v99
  let v101 : BitVec 32 := Scalar.remsi v74 c2_i32_41
  let c0_i32_46 : BitVec 32 := 0#32
  let v102 : BitVec 1 := Scalar.cmpi .ne v101 c0_i32_46
  let v103 : BitVec 1 := Scalar.andi v100 v102
  let v89 : BitVec 32 := Scalar.divsi v74 c2_i32_41
  let c1_i32 : BitVec 32 := 1#32
  let v104 : BitVec 32 := Scalar.subi v89 c1_i32
  let v105 : BitVec 32 := Scalar.select v103 v104 v89
  let c0_i32_47 : BitVec 32 := 0#32
  let v106 : BitVec 32 := Scalar.subi v105 c0_i32_47
  let c0_i32_49 : BitVec 32 := 0#32
  let v108 : BitVec 1 := Scalar.cmpi .sgt v106 c0_i32_49
  let v109 : BitVec 32 := Scalar.extui v108
  let c0_i32_50 : BitVec 32 := 0#32
  let v110 : BitVec 1 := Scalar.cmpi .slt v106 c0_i32_50
  let v111 : BitVec 32 := Scalar.extui v110
  let v112 : BitVec 32 := Scalar.subi v109 v111
  let c2_i32_48 : BitVec 32 := 2#32
  let c0_i32_51 : BitVec 32 := 0#32
  let v113 : BitVec 1 := Scalar.cmpi .sgt c2_i32_48 c0_i32_51
  let v114 : BitVec 32 := Scalar.extui v113
  let c0_i32_52 : BitVec 32 := 0#32
  let v115 : BitVec 1 := Scalar.cmpi .slt c2_i32_48 c0_i32_52
  let v116 : BitVec 32 := Scalar.extui v115
  let v117 : BitVec 32 := Scalar.subi v114 v116
  let v118 : BitVec 1 := Scalar.cmpi .ne v112 v117
  let v119 : BitVec 32 := Scalar.remsi v106 c2_i32_48
  let c0_i32_53 : BitVec 32 := 0#32
  let v120 : BitVec 1 := Scalar.cmpi .ne v119 c0_i32_53
  let v121 : BitVec 1 := Scalar.andi v118 v120
  let v107 : BitVec 32 := Scalar.divsi v106 c2_i32_48
  let c1_i32_54 : BitVec 32 := 1#32
  let v122 : BitVec 32 := Scalar.subi v107 c1_i32_54
  let v123 : BitVec 32 := Scalar.select v121 v122 v107
  let v124 : BitVec 32 := Scalar.subi v123 c0_i32_56
  let c1_i32_57 : BitVec 32 := 1#32
  let v126 : BitVec 32 := Scalar.divsi v124 c1_i32_57
  let v127 : BitVec 32 := Scalar.muli v126 c1_i32_57
  let v128 : BitVec 32 := Scalar.addi c0_i32_56 v127
  let c1_i32_59 : BitVec 32 := 1#32
  let arg18 : BitVec 32 := Scf.iv v128 c1_i32_59 k0_t10
  let v391 : BitVec 32 := Scalar.muli c2_i32_168 arg18
  let v392 : BitVec 32 := Scalar.addi c0_i32_169 v391
  let c1_i32_217 : BitVec 32 := 1#32
  let v478 : BitVec 32 := Scalar.addi v392 c1_i32_217
  let v479 : BitVec 32 := Scalar.muli c2_i32_218 v478
  let c1_i32_219 : BitVec 32 := 1#32
  let v480 : BitVec 32 := Scalar.addi v479 c1_i32_219
  let c512_i32_220 : BitVec 32 := 512#32
  let v481 : BitVec 32 := Scalar.muli v480 c512_i32_220
  v481
def k0_mult69 (i : grid0.Coords) (k0_t10 : Fin (k0_t10_loop i).trips) : BitVec 32 :=
  let c2_i32_241 : BitVec 32 := 2#32
  let c0_i32_169 : BitVec 32 := 0#32
  let c2_i32_168 : BitVec 32 := 2#32
  let c0_i32_56 : BitVec 32 := 0#32
  let c2_i32 : BitVec 32 := 2#32
  let arg2 : BitVec 32 := BitVec.ofNat 32 (i 2).val
  let v74 : BitVec 32 := Scalar.muli c2_i32 arg2
  let c0_i32_42 : BitVec 32 := 0#32
  let v90 : BitVec 1 := Scalar.cmpi .sgt v74 c0_i32_42
  let v91 : BitVec 32 := Scalar.extui v90
  let c0_i32_43 : BitVec 32 := 0#32
  let v92 : BitVec 1 := Scalar.cmpi .slt v74 c0_i32_43
  let v93 : BitVec 32 := Scalar.extui v92
  let v94 : BitVec 32 := Scalar.subi v91 v93
  let c2_i32_41 : BitVec 32 := 2#32
  let c0_i32_44 : BitVec 32 := 0#32
  let v95 : BitVec 1 := Scalar.cmpi .sgt c2_i32_41 c0_i32_44
  let v96 : BitVec 32 := Scalar.extui v95
  let c0_i32_45 : BitVec 32 := 0#32
  let v97 : BitVec 1 := Scalar.cmpi .slt c2_i32_41 c0_i32_45
  let v98 : BitVec 32 := Scalar.extui v97
  let v99 : BitVec 32 := Scalar.subi v96 v98
  let v100 : BitVec 1 := Scalar.cmpi .ne v94 v99
  let v101 : BitVec 32 := Scalar.remsi v74 c2_i32_41
  let c0_i32_46 : BitVec 32 := 0#32
  let v102 : BitVec 1 := Scalar.cmpi .ne v101 c0_i32_46
  let v103 : BitVec 1 := Scalar.andi v100 v102
  let v89 : BitVec 32 := Scalar.divsi v74 c2_i32_41
  let c1_i32 : BitVec 32 := 1#32
  let v104 : BitVec 32 := Scalar.subi v89 c1_i32
  let v105 : BitVec 32 := Scalar.select v103 v104 v89
  let c0_i32_47 : BitVec 32 := 0#32
  let v106 : BitVec 32 := Scalar.subi v105 c0_i32_47
  let c0_i32_49 : BitVec 32 := 0#32
  let v108 : BitVec 1 := Scalar.cmpi .sgt v106 c0_i32_49
  let v109 : BitVec 32 := Scalar.extui v108
  let c0_i32_50 : BitVec 32 := 0#32
  let v110 : BitVec 1 := Scalar.cmpi .slt v106 c0_i32_50
  let v111 : BitVec 32 := Scalar.extui v110
  let v112 : BitVec 32 := Scalar.subi v109 v111
  let c2_i32_48 : BitVec 32 := 2#32
  let c0_i32_51 : BitVec 32 := 0#32
  let v113 : BitVec 1 := Scalar.cmpi .sgt c2_i32_48 c0_i32_51
  let v114 : BitVec 32 := Scalar.extui v113
  let c0_i32_52 : BitVec 32 := 0#32
  let v115 : BitVec 1 := Scalar.cmpi .slt c2_i32_48 c0_i32_52
  let v116 : BitVec 32 := Scalar.extui v115
  let v117 : BitVec 32 := Scalar.subi v114 v116
  let v118 : BitVec 1 := Scalar.cmpi .ne v112 v117
  let v119 : BitVec 32 := Scalar.remsi v106 c2_i32_48
  let c0_i32_53 : BitVec 32 := 0#32
  let v120 : BitVec 1 := Scalar.cmpi .ne v119 c0_i32_53
  let v121 : BitVec 1 := Scalar.andi v118 v120
  let v107 : BitVec 32 := Scalar.divsi v106 c2_i32_48
  let c1_i32_54 : BitVec 32 := 1#32
  let v122 : BitVec 32 := Scalar.subi v107 c1_i32_54
  let v123 : BitVec 32 := Scalar.select v121 v122 v107
  let v124 : BitVec 32 := Scalar.subi v123 c0_i32_56
  let c1_i32_57 : BitVec 32 := 1#32
  let v126 : BitVec 32 := Scalar.divsi v124 c1_i32_57
  let v127 : BitVec 32 := Scalar.muli v126 c1_i32_57
  let v128 : BitVec 32 := Scalar.addi c0_i32_56 v127
  let c1_i32_59 : BitVec 32 := 1#32
  let arg18 : BitVec 32 := Scf.iv v128 c1_i32_59 k0_t10
  let v391 : BitVec 32 := Scalar.muli c2_i32_168 arg18
  let v392 : BitVec 32 := Scalar.addi c0_i32_169 v391
  let c1_i32_240 : BitVec 32 := 1#32
  let v520 : BitVec 32 := Scalar.addi v392 c1_i32_240
  let v521 : BitVec 32 := Scalar.muli c2_i32_241 v520
  let c2_i32_242 : BitVec 32 := 2#32
  let v522 : BitVec 32 := Scalar.addi v521 c2_i32_242
  let c512_i32_243 : BitVec 32 := 512#32
  let v523 : BitVec 32 := Scalar.muli v522 c512_i32_243
  v523
@[reducible] def k0_t11_loop (i : grid0.Coords) : Scf.Loop 32 :=
  let c0_i32_61 : BitVec 32 := 0#32
  let c2_i32_60 : BitVec 32 := 2#32
  let c2_i32 : BitVec 32 := 2#32
  let arg2 : BitVec 32 := BitVec.ofNat 32 (i 2).val
  let v74 : BitVec 32 := Scalar.muli c2_i32 arg2
  let c0_i32_42 : BitVec 32 := 0#32
  let v90 : BitVec 1 := Scalar.cmpi .sgt v74 c0_i32_42
  let v91 : BitVec 32 := Scalar.extui v90
  let c0_i32_43 : BitVec 32 := 0#32
  let v92 : BitVec 1 := Scalar.cmpi .slt v74 c0_i32_43
  let v93 : BitVec 32 := Scalar.extui v92
  let v94 : BitVec 32 := Scalar.subi v91 v93
  let c2_i32_41 : BitVec 32 := 2#32
  let c0_i32_44 : BitVec 32 := 0#32
  let v95 : BitVec 1 := Scalar.cmpi .sgt c2_i32_41 c0_i32_44
  let v96 : BitVec 32 := Scalar.extui v95
  let c0_i32_45 : BitVec 32 := 0#32
  let v97 : BitVec 1 := Scalar.cmpi .slt c2_i32_41 c0_i32_45
  let v98 : BitVec 32 := Scalar.extui v97
  let v99 : BitVec 32 := Scalar.subi v96 v98
  let v100 : BitVec 1 := Scalar.cmpi .ne v94 v99
  let v101 : BitVec 32 := Scalar.remsi v74 c2_i32_41
  let c0_i32_46 : BitVec 32 := 0#32
  let v102 : BitVec 1 := Scalar.cmpi .ne v101 c0_i32_46
  let v103 : BitVec 1 := Scalar.andi v100 v102
  let v89 : BitVec 32 := Scalar.divsi v74 c2_i32_41
  let c1_i32 : BitVec 32 := 1#32
  let v104 : BitVec 32 := Scalar.subi v89 c1_i32
  let v105 : BitVec 32 := Scalar.select v103 v104 v89
  let c0_i32_47 : BitVec 32 := 0#32
  let v106 : BitVec 32 := Scalar.subi v105 c0_i32_47
  let c0_i32_49 : BitVec 32 := 0#32
  let v108 : BitVec 1 := Scalar.cmpi .sgt v106 c0_i32_49
  let v109 : BitVec 32 := Scalar.extui v108
  let c0_i32_50 : BitVec 32 := 0#32
  let v110 : BitVec 1 := Scalar.cmpi .slt v106 c0_i32_50
  let v111 : BitVec 32 := Scalar.extui v110
  let v112 : BitVec 32 := Scalar.subi v109 v111
  let c2_i32_48 : BitVec 32 := 2#32
  let c0_i32_51 : BitVec 32 := 0#32
  let v113 : BitVec 1 := Scalar.cmpi .sgt c2_i32_48 c0_i32_51
  let v114 : BitVec 32 := Scalar.extui v113
  let c0_i32_52 : BitVec 32 := 0#32
  let v115 : BitVec 1 := Scalar.cmpi .slt c2_i32_48 c0_i32_52
  let v116 : BitVec 32 := Scalar.extui v115
  let v117 : BitVec 32 := Scalar.subi v114 v116
  let v118 : BitVec 1 := Scalar.cmpi .ne v112 v117
  let v119 : BitVec 32 := Scalar.remsi v106 c2_i32_48
  let c0_i32_53 : BitVec 32 := 0#32
  let v120 : BitVec 1 := Scalar.cmpi .ne v119 c0_i32_53
  let v121 : BitVec 1 := Scalar.andi v118 v120
  let v107 : BitVec 32 := Scalar.divsi v106 c2_i32_48
  let c1_i32_54 : BitVec 32 := 1#32
  let v122 : BitVec 32 := Scalar.subi v107 c1_i32_54
  let v123 : BitVec 32 := Scalar.select v121 v122 v107
  let v131 : BitVec 32 := Scalar.muli c2_i32_60 v123
  let v132 : BitVec 32 := Scalar.addi c0_i32_61 v131
  let c0_i32_63 : BitVec 32 := 0#32
  let v134 : BitVec 1 := Scalar.cmpi .sgt v74 c0_i32_63
  let v135 : BitVec 32 := Scalar.extui v134
  let c0_i32_64 : BitVec 32 := 0#32
  let v136 : BitVec 1 := Scalar.cmpi .slt v74 c0_i32_64
  let v137 : BitVec 32 := Scalar.extui v136
  let v138 : BitVec 32 := Scalar.subi v135 v137
  let c2_i32_62 : BitVec 32 := 2#32
  let c0_i32_65 : BitVec 32 := 0#32
  let v139 : BitVec 1 := Scalar.cmpi .sgt c2_i32_62 c0_i32_65
  let v140 : BitVec 32 := Scalar.extui v139
  let c0_i32_66 : BitVec 32 := 0#32
  let v141 : BitVec 1 := Scalar.cmpi .slt c2_i32_62 c0_i32_66
  let v142 : BitVec 32 := Scalar.extui v141
  let v143 : BitVec 32 := Scalar.subi v140 v142
  let v144 : BitVec 1 := Scalar.cmpi .ne v138 v143
  let v145 : BitVec 32 := Scalar.remsi v74 c2_i32_62
  let c0_i32_67 : BitVec 32 := 0#32
  let v146 : BitVec 1 := Scalar.cmpi .ne v145 c0_i32_67
  let v147 : BitVec 1 := Scalar.andi v144 v146
  let v133 : BitVec 32 := Scalar.divsi v74 c2_i32_62
  let c1_i32_68 : BitVec 32 := 1#32
  let v148 : BitVec 32 := Scalar.subi v133 c1_i32_68
  let v149 : BitVec 32 := Scalar.select v147 v148 v133
  let v150 : BitVec 32 := Scalar.subi v149 v132
  let c1_i32_70 : BitVec 32 := 1#32
  let v152 : BitVec 32 := Scalar.divsi v150 c1_i32_70
  let v153 : BitVec 32 := Scalar.muli v152 c1_i32_70
  let v154 : BitVec 32 := Scalar.addi v132 v153
  let c1_i32_71 : BitVec 32 := 1#32
  ⟨v132, v154, c1_i32_71⟩
def k0_mult70 (i : grid0.Coords) (k0_t11 : Fin (k0_t11_loop i).trips) : BitVec 32 :=
  let c2_i32_169 : BitVec 32 := 2#32
  let c0_i32_61 : BitVec 32 := 0#32
  let c2_i32_60 : BitVec 32 := 2#32
  let c2_i32 : BitVec 32 := 2#32
  let arg2 : BitVec 32 := BitVec.ofNat 32 (i 2).val
  let v74 : BitVec 32 := Scalar.muli c2_i32 arg2
  let c0_i32_42 : BitVec 32 := 0#32
  let v90 : BitVec 1 := Scalar.cmpi .sgt v74 c0_i32_42
  let v91 : BitVec 32 := Scalar.extui v90
  let c0_i32_43 : BitVec 32 := 0#32
  let v92 : BitVec 1 := Scalar.cmpi .slt v74 c0_i32_43
  let v93 : BitVec 32 := Scalar.extui v92
  let v94 : BitVec 32 := Scalar.subi v91 v93
  let c2_i32_41 : BitVec 32 := 2#32
  let c0_i32_44 : BitVec 32 := 0#32
  let v95 : BitVec 1 := Scalar.cmpi .sgt c2_i32_41 c0_i32_44
  let v96 : BitVec 32 := Scalar.extui v95
  let c0_i32_45 : BitVec 32 := 0#32
  let v97 : BitVec 1 := Scalar.cmpi .slt c2_i32_41 c0_i32_45
  let v98 : BitVec 32 := Scalar.extui v97
  let v99 : BitVec 32 := Scalar.subi v96 v98
  let v100 : BitVec 1 := Scalar.cmpi .ne v94 v99
  let v101 : BitVec 32 := Scalar.remsi v74 c2_i32_41
  let c0_i32_46 : BitVec 32 := 0#32
  let v102 : BitVec 1 := Scalar.cmpi .ne v101 c0_i32_46
  let v103 : BitVec 1 := Scalar.andi v100 v102
  let v89 : BitVec 32 := Scalar.divsi v74 c2_i32_41
  let c1_i32 : BitVec 32 := 1#32
  let v104 : BitVec 32 := Scalar.subi v89 c1_i32
  let v105 : BitVec 32 := Scalar.select v103 v104 v89
  let c0_i32_47 : BitVec 32 := 0#32
  let v106 : BitVec 32 := Scalar.subi v105 c0_i32_47
  let c0_i32_49 : BitVec 32 := 0#32
  let v108 : BitVec 1 := Scalar.cmpi .sgt v106 c0_i32_49
  let v109 : BitVec 32 := Scalar.extui v108
  let c0_i32_50 : BitVec 32 := 0#32
  let v110 : BitVec 1 := Scalar.cmpi .slt v106 c0_i32_50
  let v111 : BitVec 32 := Scalar.extui v110
  let v112 : BitVec 32 := Scalar.subi v109 v111
  let c2_i32_48 : BitVec 32 := 2#32
  let c0_i32_51 : BitVec 32 := 0#32
  let v113 : BitVec 1 := Scalar.cmpi .sgt c2_i32_48 c0_i32_51
  let v114 : BitVec 32 := Scalar.extui v113
  let c0_i32_52 : BitVec 32 := 0#32
  let v115 : BitVec 1 := Scalar.cmpi .slt c2_i32_48 c0_i32_52
  let v116 : BitVec 32 := Scalar.extui v115
  let v117 : BitVec 32 := Scalar.subi v114 v116
  let v118 : BitVec 1 := Scalar.cmpi .ne v112 v117
  let v119 : BitVec 32 := Scalar.remsi v106 c2_i32_48
  let c0_i32_53 : BitVec 32 := 0#32
  let v120 : BitVec 1 := Scalar.cmpi .ne v119 c0_i32_53
  let v121 : BitVec 1 := Scalar.andi v118 v120
  let v107 : BitVec 32 := Scalar.divsi v106 c2_i32_48
  let c1_i32_54 : BitVec 32 := 1#32
  let v122 : BitVec 32 := Scalar.subi v107 c1_i32_54
  let v123 : BitVec 32 := Scalar.select v121 v122 v107
  let v131 : BitVec 32 := Scalar.muli c2_i32_60 v123
  let v132 : BitVec 32 := Scalar.addi c0_i32_61 v131
  let c1_i32_71 : BitVec 32 := 1#32
  let arg18 : BitVec 32 := Scf.iv v132 c1_i32_71 k0_t11
  let c0_i32_168 : BitVec 32 := 0#32
  let v391 : BitVec 32 := Scalar.addi arg18 c0_i32_168
  let v392 : BitVec 32 := Scalar.muli c2_i32_169 v391
  let c1_i32_170 : BitVec 32 := 1#32
  let v393 : BitVec 32 := Scalar.addi v392 c1_i32_170
  let c512_i32_171 : BitVec 32 := 512#32
  let v394 : BitVec 32 := Scalar.muli v393 c512_i32_171
  v394
def k0_off86 (i : grid0.Coords) (k0_t11 : Fin (k0_t11_loop i).trips) (c1_i32_170 : BitVec 32) : Fin 3 → Nat :=
  let c0_172 : Index := 0#32
  let c2_i32_169 : BitVec 32 := 2#32
  let c0_i32_61 : BitVec 32 := 0#32
  let c2_i32_60 : BitVec 32 := 2#32
  let c2_i32 : BitVec 32 := 2#32
  let arg2 : BitVec 32 := BitVec.ofNat 32 (i 2).val
  let v74 : BitVec 32 := Scalar.muli c2_i32 arg2
  let c0_i32_42 : BitVec 32 := 0#32
  let v90 : BitVec 1 := Scalar.cmpi .sgt v74 c0_i32_42
  let v91 : BitVec 32 := Scalar.extui v90
  let c0_i32_43 : BitVec 32 := 0#32
  let v92 : BitVec 1 := Scalar.cmpi .slt v74 c0_i32_43
  let v93 : BitVec 32 := Scalar.extui v92
  let v94 : BitVec 32 := Scalar.subi v91 v93
  let c2_i32_41 : BitVec 32 := 2#32
  let c0_i32_44 : BitVec 32 := 0#32
  let v95 : BitVec 1 := Scalar.cmpi .sgt c2_i32_41 c0_i32_44
  let v96 : BitVec 32 := Scalar.extui v95
  let c0_i32_45 : BitVec 32 := 0#32
  let v97 : BitVec 1 := Scalar.cmpi .slt c2_i32_41 c0_i32_45
  let v98 : BitVec 32 := Scalar.extui v97
  let v99 : BitVec 32 := Scalar.subi v96 v98
  let v100 : BitVec 1 := Scalar.cmpi .ne v94 v99
  let v101 : BitVec 32 := Scalar.remsi v74 c2_i32_41
  let c0_i32_46 : BitVec 32 := 0#32
  let v102 : BitVec 1 := Scalar.cmpi .ne v101 c0_i32_46
  let v103 : BitVec 1 := Scalar.andi v100 v102
  let v89 : BitVec 32 := Scalar.divsi v74 c2_i32_41
  let c1_i32 : BitVec 32 := 1#32
  let v104 : BitVec 32 := Scalar.subi v89 c1_i32
  let v105 : BitVec 32 := Scalar.select v103 v104 v89
  let c0_i32_47 : BitVec 32 := 0#32
  let v106 : BitVec 32 := Scalar.subi v105 c0_i32_47
  let c0_i32_49 : BitVec 32 := 0#32
  let v108 : BitVec 1 := Scalar.cmpi .sgt v106 c0_i32_49
  let v109 : BitVec 32 := Scalar.extui v108
  let c0_i32_50 : BitVec 32 := 0#32
  let v110 : BitVec 1 := Scalar.cmpi .slt v106 c0_i32_50
  let v111 : BitVec 32 := Scalar.extui v110
  let v112 : BitVec 32 := Scalar.subi v109 v111
  let c2_i32_48 : BitVec 32 := 2#32
  let c0_i32_51 : BitVec 32 := 0#32
  let v113 : BitVec 1 := Scalar.cmpi .sgt c2_i32_48 c0_i32_51
  let v114 : BitVec 32 := Scalar.extui v113
  let c0_i32_52 : BitVec 32 := 0#32
  let v115 : BitVec 1 := Scalar.cmpi .slt c2_i32_48 c0_i32_52
  let v116 : BitVec 32 := Scalar.extui v115
  let v117 : BitVec 32 := Scalar.subi v114 v116
  let v118 : BitVec 1 := Scalar.cmpi .ne v112 v117
  let v119 : BitVec 32 := Scalar.remsi v106 c2_i32_48
  let c0_i32_53 : BitVec 32 := 0#32
  let v120 : BitVec 1 := Scalar.cmpi .ne v119 c0_i32_53
  let v121 : BitVec 1 := Scalar.andi v118 v120
  let v107 : BitVec 32 := Scalar.divsi v106 c2_i32_48
  let c1_i32_54 : BitVec 32 := 1#32
  let v122 : BitVec 32 := Scalar.subi v107 c1_i32_54
  let v123 : BitVec 32 := Scalar.select v121 v122 v107
  let v131 : BitVec 32 := Scalar.muli c2_i32_60 v123
  let v132 : BitVec 32 := Scalar.addi c0_i32_61 v131
  let c1_i32_71 : BitVec 32 := 1#32
  let arg18 : BitVec 32 := Scf.iv v132 c1_i32_71 k0_t11
  let c0_i32_168 : BitVec 32 := 0#32
  let v391 : BitVec 32 := Scalar.addi arg18 c0_i32_168
  let v392 : BitVec 32 := Scalar.muli c2_i32_169 v391
  let v393 : BitVec 32 := Scalar.addi v392 c1_i32_170
  let c512_i32_171 : BitVec 32 := 512#32
  let v394 : BitVec 32 := Scalar.muli v393 c512_i32_171
  let v395 : BitVec 32 := v394
  let v396 : Index := Scalar.indexCast v395
  let c0_173 : Index := 0#32
  ![0, v396.toNat, 0]
def k0_off87 (i : grid0.Coords) (k0_t11 : Fin (k0_t11_loop i).trips) : Fin 4 → Nat :=
  let c0_185 : Index := 0#32
  let c2_i32_184 : BitVec 32 := 2#32
  let c0_i32_61 : BitVec 32 := 0#32
  let c2_i32_60 : BitVec 32 := 2#32
  let c2_i32 : BitVec 32 := 2#32
  let arg2 : BitVec 32 := BitVec.ofNat 32 (i 2).val
  let v74 : BitVec 32 := Scalar.muli c2_i32 arg2
  let c0_i32_42 : BitVec 32 := 0#32
  let v90 : BitVec 1 := Scalar.cmpi .sgt v74 c0_i32_42
  let v91 : BitVec 32 := Scalar.extui v90
  let c0_i32_43 : BitVec 32 := 0#32
  let v92 : BitVec 1 := Scalar.cmpi .slt v74 c0_i32_43
  let v93 : BitVec 32 := Scalar.extui v92
  let v94 : BitVec 32 := Scalar.subi v91 v93
  let c2_i32_41 : BitVec 32 := 2#32
  let c0_i32_44 : BitVec 32 := 0#32
  let v95 : BitVec 1 := Scalar.cmpi .sgt c2_i32_41 c0_i32_44
  let v96 : BitVec 32 := Scalar.extui v95
  let c0_i32_45 : BitVec 32 := 0#32
  let v97 : BitVec 1 := Scalar.cmpi .slt c2_i32_41 c0_i32_45
  let v98 : BitVec 32 := Scalar.extui v97
  let v99 : BitVec 32 := Scalar.subi v96 v98
  let v100 : BitVec 1 := Scalar.cmpi .ne v94 v99
  let v101 : BitVec 32 := Scalar.remsi v74 c2_i32_41
  let c0_i32_46 : BitVec 32 := 0#32
  let v102 : BitVec 1 := Scalar.cmpi .ne v101 c0_i32_46
  let v103 : BitVec 1 := Scalar.andi v100 v102
  let v89 : BitVec 32 := Scalar.divsi v74 c2_i32_41
  let c1_i32 : BitVec 32 := 1#32
  let v104 : BitVec 32 := Scalar.subi v89 c1_i32
  let v105 : BitVec 32 := Scalar.select v103 v104 v89
  let c0_i32_47 : BitVec 32 := 0#32
  let v106 : BitVec 32 := Scalar.subi v105 c0_i32_47
  let c0_i32_49 : BitVec 32 := 0#32
  let v108 : BitVec 1 := Scalar.cmpi .sgt v106 c0_i32_49
  let v109 : BitVec 32 := Scalar.extui v108
  let c0_i32_50 : BitVec 32 := 0#32
  let v110 : BitVec 1 := Scalar.cmpi .slt v106 c0_i32_50
  let v111 : BitVec 32 := Scalar.extui v110
  let v112 : BitVec 32 := Scalar.subi v109 v111
  let c2_i32_48 : BitVec 32 := 2#32
  let c0_i32_51 : BitVec 32 := 0#32
  let v113 : BitVec 1 := Scalar.cmpi .sgt c2_i32_48 c0_i32_51
  let v114 : BitVec 32 := Scalar.extui v113
  let c0_i32_52 : BitVec 32 := 0#32
  let v115 : BitVec 1 := Scalar.cmpi .slt c2_i32_48 c0_i32_52
  let v116 : BitVec 32 := Scalar.extui v115
  let v117 : BitVec 32 := Scalar.subi v114 v116
  let v118 : BitVec 1 := Scalar.cmpi .ne v112 v117
  let v119 : BitVec 32 := Scalar.remsi v106 c2_i32_48
  let c0_i32_53 : BitVec 32 := 0#32
  let v120 : BitVec 1 := Scalar.cmpi .ne v119 c0_i32_53
  let v121 : BitVec 1 := Scalar.andi v118 v120
  let v107 : BitVec 32 := Scalar.divsi v106 c2_i32_48
  let c1_i32_54 : BitVec 32 := 1#32
  let v122 : BitVec 32 := Scalar.subi v107 c1_i32_54
  let v123 : BitVec 32 := Scalar.select v121 v122 v107
  let v131 : BitVec 32 := Scalar.muli c2_i32_60 v123
  let v132 : BitVec 32 := Scalar.addi c0_i32_61 v131
  let c1_i32_71 : BitVec 32 := 1#32
  let arg18 : BitVec 32 := Scf.iv v132 c1_i32_71 k0_t11
  let c0_i32_183 : BitVec 32 := 0#32
  let v411 : BitVec 32 := Scalar.addi arg18 c0_i32_183
  let v412 : BitVec 32 := Scalar.muli c2_i32_184 v411
  let v413 : Index := Scalar.indexCast v412
  let c0_186 : Index := 0#32
  let c0_187 : Index := 0#32
  ![0, v413.toNat, 0, 0]
def k0_mult71 (i : grid0.Coords) (k0_t11 : Fin (k0_t11_loop i).trips) : BitVec 32 :=
  let c2_i32_192 : BitVec 32 := 2#32
  let c0_i32_61 : BitVec 32 := 0#32
  let c2_i32_60 : BitVec 32 := 2#32
  let c2_i32 : BitVec 32 := 2#32
  let arg2 : BitVec 32 := BitVec.ofNat 32 (i 2).val
  let v74 : BitVec 32 := Scalar.muli c2_i32 arg2
  let c0_i32_42 : BitVec 32 := 0#32
  let v90 : BitVec 1 := Scalar.cmpi .sgt v74 c0_i32_42
  let v91 : BitVec 32 := Scalar.extui v90
  let c0_i32_43 : BitVec 32 := 0#32
  let v92 : BitVec 1 := Scalar.cmpi .slt v74 c0_i32_43
  let v93 : BitVec 32 := Scalar.extui v92
  let v94 : BitVec 32 := Scalar.subi v91 v93
  let c2_i32_41 : BitVec 32 := 2#32
  let c0_i32_44 : BitVec 32 := 0#32
  let v95 : BitVec 1 := Scalar.cmpi .sgt c2_i32_41 c0_i32_44
  let v96 : BitVec 32 := Scalar.extui v95
  let c0_i32_45 : BitVec 32 := 0#32
  let v97 : BitVec 1 := Scalar.cmpi .slt c2_i32_41 c0_i32_45
  let v98 : BitVec 32 := Scalar.extui v97
  let v99 : BitVec 32 := Scalar.subi v96 v98
  let v100 : BitVec 1 := Scalar.cmpi .ne v94 v99
  let v101 : BitVec 32 := Scalar.remsi v74 c2_i32_41
  let c0_i32_46 : BitVec 32 := 0#32
  let v102 : BitVec 1 := Scalar.cmpi .ne v101 c0_i32_46
  let v103 : BitVec 1 := Scalar.andi v100 v102
  let v89 : BitVec 32 := Scalar.divsi v74 c2_i32_41
  let c1_i32 : BitVec 32 := 1#32
  let v104 : BitVec 32 := Scalar.subi v89 c1_i32
  let v105 : BitVec 32 := Scalar.select v103 v104 v89
  let c0_i32_47 : BitVec 32 := 0#32
  let v106 : BitVec 32 := Scalar.subi v105 c0_i32_47
  let c0_i32_49 : BitVec 32 := 0#32
  let v108 : BitVec 1 := Scalar.cmpi .sgt v106 c0_i32_49
  let v109 : BitVec 32 := Scalar.extui v108
  let c0_i32_50 : BitVec 32 := 0#32
  let v110 : BitVec 1 := Scalar.cmpi .slt v106 c0_i32_50
  let v111 : BitVec 32 := Scalar.extui v110
  let v112 : BitVec 32 := Scalar.subi v109 v111
  let c2_i32_48 : BitVec 32 := 2#32
  let c0_i32_51 : BitVec 32 := 0#32
  let v113 : BitVec 1 := Scalar.cmpi .sgt c2_i32_48 c0_i32_51
  let v114 : BitVec 32 := Scalar.extui v113
  let c0_i32_52 : BitVec 32 := 0#32
  let v115 : BitVec 1 := Scalar.cmpi .slt c2_i32_48 c0_i32_52
  let v116 : BitVec 32 := Scalar.extui v115
  let v117 : BitVec 32 := Scalar.subi v114 v116
  let v118 : BitVec 1 := Scalar.cmpi .ne v112 v117
  let v119 : BitVec 32 := Scalar.remsi v106 c2_i32_48
  let c0_i32_53 : BitVec 32 := 0#32
  let v120 : BitVec 1 := Scalar.cmpi .ne v119 c0_i32_53
  let v121 : BitVec 1 := Scalar.andi v118 v120
  let v107 : BitVec 32 := Scalar.divsi v106 c2_i32_48
  let c1_i32_54 : BitVec 32 := 1#32
  let v122 : BitVec 32 := Scalar.subi v107 c1_i32_54
  let v123 : BitVec 32 := Scalar.select v121 v122 v107
  let v131 : BitVec 32 := Scalar.muli c2_i32_60 v123
  let v132 : BitVec 32 := Scalar.addi c0_i32_61 v131
  let c1_i32_71 : BitVec 32 := 1#32
  let arg18 : BitVec 32 := Scf.iv v132 c1_i32_71 k0_t11
  let c0_i32_191 : BitVec 32 := 0#32
  let v433 : BitVec 32 := Scalar.addi arg18 c0_i32_191
  let v434 : BitVec 32 := Scalar.muli c2_i32_192 v433
  let c2_i32_193 : BitVec 32 := 2#32
  let v435 : BitVec 32 := Scalar.addi v434 c2_i32_193
  let c512_i32_194 : BitVec 32 := 512#32
  let v436 : BitVec 32 := Scalar.muli v435 c512_i32_194
  v436
def k0_off88 (i : grid0.Coords) (k0_t11 : Fin (k0_t11_loop i).trips) : Fin 4 → Nat :=
  let c0_209 : Index := 0#32
  let c2_i32_207 : BitVec 32 := 2#32
  let c0_i32_61 : BitVec 32 := 0#32
  let c2_i32_60 : BitVec 32 := 2#32
  let c2_i32 : BitVec 32 := 2#32
  let arg2 : BitVec 32 := BitVec.ofNat 32 (i 2).val
  let v74 : BitVec 32 := Scalar.muli c2_i32 arg2
  let c0_i32_42 : BitVec 32 := 0#32
  let v90 : BitVec 1 := Scalar.cmpi .sgt v74 c0_i32_42
  let v91 : BitVec 32 := Scalar.extui v90
  let c0_i32_43 : BitVec 32 := 0#32
  let v92 : BitVec 1 := Scalar.cmpi .slt v74 c0_i32_43
  let v93 : BitVec 32 := Scalar.extui v92
  let v94 : BitVec 32 := Scalar.subi v91 v93
  let c2_i32_41 : BitVec 32 := 2#32
  let c0_i32_44 : BitVec 32 := 0#32
  let v95 : BitVec 1 := Scalar.cmpi .sgt c2_i32_41 c0_i32_44
  let v96 : BitVec 32 := Scalar.extui v95
  let c0_i32_45 : BitVec 32 := 0#32
  let v97 : BitVec 1 := Scalar.cmpi .slt c2_i32_41 c0_i32_45
  let v98 : BitVec 32 := Scalar.extui v97
  let v99 : BitVec 32 := Scalar.subi v96 v98
  let v100 : BitVec 1 := Scalar.cmpi .ne v94 v99
  let v101 : BitVec 32 := Scalar.remsi v74 c2_i32_41
  let c0_i32_46 : BitVec 32 := 0#32
  let v102 : BitVec 1 := Scalar.cmpi .ne v101 c0_i32_46
  let v103 : BitVec 1 := Scalar.andi v100 v102
  let v89 : BitVec 32 := Scalar.divsi v74 c2_i32_41
  let c1_i32 : BitVec 32 := 1#32
  let v104 : BitVec 32 := Scalar.subi v89 c1_i32
  let v105 : BitVec 32 := Scalar.select v103 v104 v89
  let c0_i32_47 : BitVec 32 := 0#32
  let v106 : BitVec 32 := Scalar.subi v105 c0_i32_47
  let c0_i32_49 : BitVec 32 := 0#32
  let v108 : BitVec 1 := Scalar.cmpi .sgt v106 c0_i32_49
  let v109 : BitVec 32 := Scalar.extui v108
  let c0_i32_50 : BitVec 32 := 0#32
  let v110 : BitVec 1 := Scalar.cmpi .slt v106 c0_i32_50
  let v111 : BitVec 32 := Scalar.extui v110
  let v112 : BitVec 32 := Scalar.subi v109 v111
  let c2_i32_48 : BitVec 32 := 2#32
  let c0_i32_51 : BitVec 32 := 0#32
  let v113 : BitVec 1 := Scalar.cmpi .sgt c2_i32_48 c0_i32_51
  let v114 : BitVec 32 := Scalar.extui v113
  let c0_i32_52 : BitVec 32 := 0#32
  let v115 : BitVec 1 := Scalar.cmpi .slt c2_i32_48 c0_i32_52
  let v116 : BitVec 32 := Scalar.extui v115
  let v117 : BitVec 32 := Scalar.subi v114 v116
  let v118 : BitVec 1 := Scalar.cmpi .ne v112 v117
  let v119 : BitVec 32 := Scalar.remsi v106 c2_i32_48
  let c0_i32_53 : BitVec 32 := 0#32
  let v120 : BitVec 1 := Scalar.cmpi .ne v119 c0_i32_53
  let v121 : BitVec 1 := Scalar.andi v118 v120
  let v107 : BitVec 32 := Scalar.divsi v106 c2_i32_48
  let c1_i32_54 : BitVec 32 := 1#32
  let v122 : BitVec 32 := Scalar.subi v107 c1_i32_54
  let v123 : BitVec 32 := Scalar.select v121 v122 v107
  let v131 : BitVec 32 := Scalar.muli c2_i32_60 v123
  let v132 : BitVec 32 := Scalar.addi c0_i32_61 v131
  let c1_i32_71 : BitVec 32 := 1#32
  let arg18 : BitVec 32 := Scf.iv v132 c1_i32_71 k0_t11
  let c0_i32_206 : BitVec 32 := 0#32
  let v453 : BitVec 32 := Scalar.addi arg18 c0_i32_206
  let v454 : BitVec 32 := Scalar.muli c2_i32_207 v453
  let c1_i32_208 : BitVec 32 := 1#32
  let v455 : BitVec 32 := Scalar.addi v454 c1_i32_208
  let v456 : Index := Scalar.indexCast v455
  let c0_210 : Index := 0#32
  let c0_211 : Index := 0#32
  ![0, v456.toNat, 0, 0]
@[reducible] def k0_t12_loop (i : grid0.Coords) : Scf.Loop 32 :=
  let c0_i32_61 : BitVec 32 := 0#32
  let c2_i32_60 : BitVec 32 := 2#32
  let c2_i32 : BitVec 32 := 2#32
  let arg2 : BitVec 32 := BitVec.ofNat 32 (i 2).val
  let v74 : BitVec 32 := Scalar.muli c2_i32 arg2
  let c0_i32_42 : BitVec 32 := 0#32
  let v90 : BitVec 1 := Scalar.cmpi .sgt v74 c0_i32_42
  let v91 : BitVec 32 := Scalar.extui v90
  let c0_i32_43 : BitVec 32 := 0#32
  let v92 : BitVec 1 := Scalar.cmpi .slt v74 c0_i32_43
  let v93 : BitVec 32 := Scalar.extui v92
  let v94 : BitVec 32 := Scalar.subi v91 v93
  let c2_i32_41 : BitVec 32 := 2#32
  let c0_i32_44 : BitVec 32 := 0#32
  let v95 : BitVec 1 := Scalar.cmpi .sgt c2_i32_41 c0_i32_44
  let v96 : BitVec 32 := Scalar.extui v95
  let c0_i32_45 : BitVec 32 := 0#32
  let v97 : BitVec 1 := Scalar.cmpi .slt c2_i32_41 c0_i32_45
  let v98 : BitVec 32 := Scalar.extui v97
  let v99 : BitVec 32 := Scalar.subi v96 v98
  let v100 : BitVec 1 := Scalar.cmpi .ne v94 v99
  let v101 : BitVec 32 := Scalar.remsi v74 c2_i32_41
  let c0_i32_46 : BitVec 32 := 0#32
  let v102 : BitVec 1 := Scalar.cmpi .ne v101 c0_i32_46
  let v103 : BitVec 1 := Scalar.andi v100 v102
  let v89 : BitVec 32 := Scalar.divsi v74 c2_i32_41
  let c1_i32 : BitVec 32 := 1#32
  let v104 : BitVec 32 := Scalar.subi v89 c1_i32
  let v105 : BitVec 32 := Scalar.select v103 v104 v89
  let c0_i32_47 : BitVec 32 := 0#32
  let v106 : BitVec 32 := Scalar.subi v105 c0_i32_47
  let c0_i32_49 : BitVec 32 := 0#32
  let v108 : BitVec 1 := Scalar.cmpi .sgt v106 c0_i32_49
  let v109 : BitVec 32 := Scalar.extui v108
  let c0_i32_50 : BitVec 32 := 0#32
  let v110 : BitVec 1 := Scalar.cmpi .slt v106 c0_i32_50
  let v111 : BitVec 32 := Scalar.extui v110
  let v112 : BitVec 32 := Scalar.subi v109 v111
  let c2_i32_48 : BitVec 32 := 2#32
  let c0_i32_51 : BitVec 32 := 0#32
  let v113 : BitVec 1 := Scalar.cmpi .sgt c2_i32_48 c0_i32_51
  let v114 : BitVec 32 := Scalar.extui v113
  let c0_i32_52 : BitVec 32 := 0#32
  let v115 : BitVec 1 := Scalar.cmpi .slt c2_i32_48 c0_i32_52
  let v116 : BitVec 32 := Scalar.extui v115
  let v117 : BitVec 32 := Scalar.subi v114 v116
  let v118 : BitVec 1 := Scalar.cmpi .ne v112 v117
  let v119 : BitVec 32 := Scalar.remsi v106 c2_i32_48
  let c0_i32_53 : BitVec 32 := 0#32
  let v120 : BitVec 1 := Scalar.cmpi .ne v119 c0_i32_53
  let v121 : BitVec 1 := Scalar.andi v118 v120
  let v107 : BitVec 32 := Scalar.divsi v106 c2_i32_48
  let c1_i32_54 : BitVec 32 := 1#32
  let v122 : BitVec 32 := Scalar.subi v107 c1_i32_54
  let v123 : BitVec 32 := Scalar.select v121 v122 v107
  let v131 : BitVec 32 := Scalar.muli c2_i32_60 v123
  let v132 : BitVec 32 := Scalar.addi c0_i32_61 v131
  let c0_i32_63 : BitVec 32 := 0#32
  let v134 : BitVec 1 := Scalar.cmpi .sgt v74 c0_i32_63
  let v135 : BitVec 32 := Scalar.extui v134
  let c0_i32_64 : BitVec 32 := 0#32
  let v136 : BitVec 1 := Scalar.cmpi .slt v74 c0_i32_64
  let v137 : BitVec 32 := Scalar.extui v136
  let v138 : BitVec 32 := Scalar.subi v135 v137
  let c2_i32_62 : BitVec 32 := 2#32
  let c0_i32_65 : BitVec 32 := 0#32
  let v139 : BitVec 1 := Scalar.cmpi .sgt c2_i32_62 c0_i32_65
  let v140 : BitVec 32 := Scalar.extui v139
  let c0_i32_66 : BitVec 32 := 0#32
  let v141 : BitVec 1 := Scalar.cmpi .slt c2_i32_62 c0_i32_66
  let v142 : BitVec 32 := Scalar.extui v141
  let v143 : BitVec 32 := Scalar.subi v140 v142
  let v144 : BitVec 1 := Scalar.cmpi .ne v138 v143
  let v145 : BitVec 32 := Scalar.remsi v74 c2_i32_62
  let c0_i32_67 : BitVec 32 := 0#32
  let v146 : BitVec 1 := Scalar.cmpi .ne v145 c0_i32_67
  let v147 : BitVec 1 := Scalar.andi v144 v146
  let v133 : BitVec 32 := Scalar.divsi v74 c2_i32_62
  let c1_i32_68 : BitVec 32 := 1#32
  let v148 : BitVec 32 := Scalar.subi v133 c1_i32_68
  let v149 : BitVec 32 := Scalar.select v147 v148 v133
  let v150 : BitVec 32 := Scalar.subi v149 v132
  let c1_i32_70 : BitVec 32 := 1#32
  let v152 : BitVec 32 := Scalar.divsi v150 c1_i32_70
  let v153 : BitVec 32 := Scalar.muli v152 c1_i32_70
  let v154 : BitVec 32 := Scalar.addi v132 v153
  let v151 : BitVec 32 := Scalar.addi v132 v150
  let c1_i32_72 : BitVec 32 := 1#32
  ⟨v154, v151, c1_i32_72⟩
def k0_mult72 (i : grid0.Coords) (k0_t12 : Fin (k0_t12_loop i).trips) : BitVec 32 :=
  let c2_i32_169 : BitVec 32 := 2#32
  let c0_i32_61 : BitVec 32 := 0#32
  let c2_i32_60 : BitVec 32 := 2#32
  let c2_i32 : BitVec 32 := 2#32
  let arg2 : BitVec 32 := BitVec.ofNat 32 (i 2).val
  let v74 : BitVec 32 := Scalar.muli c2_i32 arg2
  let c0_i32_42 : BitVec 32 := 0#32
  let v90 : BitVec 1 := Scalar.cmpi .sgt v74 c0_i32_42
  let v91 : BitVec 32 := Scalar.extui v90
  let c0_i32_43 : BitVec 32 := 0#32
  let v92 : BitVec 1 := Scalar.cmpi .slt v74 c0_i32_43
  let v93 : BitVec 32 := Scalar.extui v92
  let v94 : BitVec 32 := Scalar.subi v91 v93
  let c2_i32_41 : BitVec 32 := 2#32
  let c0_i32_44 : BitVec 32 := 0#32
  let v95 : BitVec 1 := Scalar.cmpi .sgt c2_i32_41 c0_i32_44
  let v96 : BitVec 32 := Scalar.extui v95
  let c0_i32_45 : BitVec 32 := 0#32
  let v97 : BitVec 1 := Scalar.cmpi .slt c2_i32_41 c0_i32_45
  let v98 : BitVec 32 := Scalar.extui v97
  let v99 : BitVec 32 := Scalar.subi v96 v98
  let v100 : BitVec 1 := Scalar.cmpi .ne v94 v99
  let v101 : BitVec 32 := Scalar.remsi v74 c2_i32_41
  let c0_i32_46 : BitVec 32 := 0#32
  let v102 : BitVec 1 := Scalar.cmpi .ne v101 c0_i32_46
  let v103 : BitVec 1 := Scalar.andi v100 v102
  let v89 : BitVec 32 := Scalar.divsi v74 c2_i32_41
  let c1_i32 : BitVec 32 := 1#32
  let v104 : BitVec 32 := Scalar.subi v89 c1_i32
  let v105 : BitVec 32 := Scalar.select v103 v104 v89
  let c0_i32_47 : BitVec 32 := 0#32
  let v106 : BitVec 32 := Scalar.subi v105 c0_i32_47
  let c0_i32_49 : BitVec 32 := 0#32
  let v108 : BitVec 1 := Scalar.cmpi .sgt v106 c0_i32_49
  let v109 : BitVec 32 := Scalar.extui v108
  let c0_i32_50 : BitVec 32 := 0#32
  let v110 : BitVec 1 := Scalar.cmpi .slt v106 c0_i32_50
  let v111 : BitVec 32 := Scalar.extui v110
  let v112 : BitVec 32 := Scalar.subi v109 v111
  let c2_i32_48 : BitVec 32 := 2#32
  let c0_i32_51 : BitVec 32 := 0#32
  let v113 : BitVec 1 := Scalar.cmpi .sgt c2_i32_48 c0_i32_51
  let v114 : BitVec 32 := Scalar.extui v113
  let c0_i32_52 : BitVec 32 := 0#32
  let v115 : BitVec 1 := Scalar.cmpi .slt c2_i32_48 c0_i32_52
  let v116 : BitVec 32 := Scalar.extui v115
  let v117 : BitVec 32 := Scalar.subi v114 v116
  let v118 : BitVec 1 := Scalar.cmpi .ne v112 v117
  let v119 : BitVec 32 := Scalar.remsi v106 c2_i32_48
  let c0_i32_53 : BitVec 32 := 0#32
  let v120 : BitVec 1 := Scalar.cmpi .ne v119 c0_i32_53
  let v121 : BitVec 1 := Scalar.andi v118 v120
  let v107 : BitVec 32 := Scalar.divsi v106 c2_i32_48
  let c1_i32_54 : BitVec 32 := 1#32
  let v122 : BitVec 32 := Scalar.subi v107 c1_i32_54
  let v123 : BitVec 32 := Scalar.select v121 v122 v107
  let v131 : BitVec 32 := Scalar.muli c2_i32_60 v123
  let v132 : BitVec 32 := Scalar.addi c0_i32_61 v131
  let c0_i32_63 : BitVec 32 := 0#32
  let v134 : BitVec 1 := Scalar.cmpi .sgt v74 c0_i32_63
  let v135 : BitVec 32 := Scalar.extui v134
  let c0_i32_64 : BitVec 32 := 0#32
  let v136 : BitVec 1 := Scalar.cmpi .slt v74 c0_i32_64
  let v137 : BitVec 32 := Scalar.extui v136
  let v138 : BitVec 32 := Scalar.subi v135 v137
  let c2_i32_62 : BitVec 32 := 2#32
  let c0_i32_65 : BitVec 32 := 0#32
  let v139 : BitVec 1 := Scalar.cmpi .sgt c2_i32_62 c0_i32_65
  let v140 : BitVec 32 := Scalar.extui v139
  let c0_i32_66 : BitVec 32 := 0#32
  let v141 : BitVec 1 := Scalar.cmpi .slt c2_i32_62 c0_i32_66
  let v142 : BitVec 32 := Scalar.extui v141
  let v143 : BitVec 32 := Scalar.subi v140 v142
  let v144 : BitVec 1 := Scalar.cmpi .ne v138 v143
  let v145 : BitVec 32 := Scalar.remsi v74 c2_i32_62
  let c0_i32_67 : BitVec 32 := 0#32
  let v146 : BitVec 1 := Scalar.cmpi .ne v145 c0_i32_67
  let v147 : BitVec 1 := Scalar.andi v144 v146
  let v133 : BitVec 32 := Scalar.divsi v74 c2_i32_62
  let c1_i32_68 : BitVec 32 := 1#32
  let v148 : BitVec 32 := Scalar.subi v133 c1_i32_68
  let v149 : BitVec 32 := Scalar.select v147 v148 v133
  let v150 : BitVec 32 := Scalar.subi v149 v132
  let c1_i32_70 : BitVec 32 := 1#32
  let v152 : BitVec 32 := Scalar.divsi v150 c1_i32_70
  let v153 : BitVec 32 := Scalar.muli v152 c1_i32_70
  let v154 : BitVec 32 := Scalar.addi v132 v153
  let c1_i32_72 : BitVec 32 := 1#32
  let arg18 : BitVec 32 := Scf.iv v154 c1_i32_72 k0_t12
  let c0_i32_168 : BitVec 32 := 0#32
  let v391 : BitVec 32 := Scalar.addi arg18 c0_i32_168
  let v392 : BitVec 32 := Scalar.muli c2_i32_169 v391
  let c1_i32_170 : BitVec 32 := 1#32
  let v393 : BitVec 32 := Scalar.addi v392 c1_i32_170
  let c512_i32_171 : BitVec 32 := 512#32
  let v394 : BitVec 32 := Scalar.muli v393 c512_i32_171
  v394
def k0_off89 (i : grid0.Coords) (k0_t12 : Fin (k0_t12_loop i).trips) (c1_i32_170 : BitVec 32) : Fin 3 → Nat :=
  let c0_172 : Index := 0#32
  let c2_i32_169 : BitVec 32 := 2#32
  let c0_i32_61 : BitVec 32 := 0#32
  let c2_i32_60 : BitVec 32 := 2#32
  let c2_i32 : BitVec 32 := 2#32
  let arg2 : BitVec 32 := BitVec.ofNat 32 (i 2).val
  let v74 : BitVec 32 := Scalar.muli c2_i32 arg2
  let c0_i32_42 : BitVec 32 := 0#32
  let v90 : BitVec 1 := Scalar.cmpi .sgt v74 c0_i32_42
  let v91 : BitVec 32 := Scalar.extui v90
  let c0_i32_43 : BitVec 32 := 0#32
  let v92 : BitVec 1 := Scalar.cmpi .slt v74 c0_i32_43
  let v93 : BitVec 32 := Scalar.extui v92
  let v94 : BitVec 32 := Scalar.subi v91 v93
  let c2_i32_41 : BitVec 32 := 2#32
  let c0_i32_44 : BitVec 32 := 0#32
  let v95 : BitVec 1 := Scalar.cmpi .sgt c2_i32_41 c0_i32_44
  let v96 : BitVec 32 := Scalar.extui v95
  let c0_i32_45 : BitVec 32 := 0#32
  let v97 : BitVec 1 := Scalar.cmpi .slt c2_i32_41 c0_i32_45
  let v98 : BitVec 32 := Scalar.extui v97
  let v99 : BitVec 32 := Scalar.subi v96 v98
  let v100 : BitVec 1 := Scalar.cmpi .ne v94 v99
  let v101 : BitVec 32 := Scalar.remsi v74 c2_i32_41
  let c0_i32_46 : BitVec 32 := 0#32
  let v102 : BitVec 1 := Scalar.cmpi .ne v101 c0_i32_46
  let v103 : BitVec 1 := Scalar.andi v100 v102
  let v89 : BitVec 32 := Scalar.divsi v74 c2_i32_41
  let c1_i32 : BitVec 32 := 1#32
  let v104 : BitVec 32 := Scalar.subi v89 c1_i32
  let v105 : BitVec 32 := Scalar.select v103 v104 v89
  let c0_i32_47 : BitVec 32 := 0#32
  let v106 : BitVec 32 := Scalar.subi v105 c0_i32_47
  let c0_i32_49 : BitVec 32 := 0#32
  let v108 : BitVec 1 := Scalar.cmpi .sgt v106 c0_i32_49
  let v109 : BitVec 32 := Scalar.extui v108
  let c0_i32_50 : BitVec 32 := 0#32
  let v110 : BitVec 1 := Scalar.cmpi .slt v106 c0_i32_50
  let v111 : BitVec 32 := Scalar.extui v110
  let v112 : BitVec 32 := Scalar.subi v109 v111
  let c2_i32_48 : BitVec 32 := 2#32
  let c0_i32_51 : BitVec 32 := 0#32
  let v113 : BitVec 1 := Scalar.cmpi .sgt c2_i32_48 c0_i32_51
  let v114 : BitVec 32 := Scalar.extui v113
  let c0_i32_52 : BitVec 32 := 0#32
  let v115 : BitVec 1 := Scalar.cmpi .slt c2_i32_48 c0_i32_52
  let v116 : BitVec 32 := Scalar.extui v115
  let v117 : BitVec 32 := Scalar.subi v114 v116
  let v118 : BitVec 1 := Scalar.cmpi .ne v112 v117
  let v119 : BitVec 32 := Scalar.remsi v106 c2_i32_48
  let c0_i32_53 : BitVec 32 := 0#32
  let v120 : BitVec 1 := Scalar.cmpi .ne v119 c0_i32_53
  let v121 : BitVec 1 := Scalar.andi v118 v120
  let v107 : BitVec 32 := Scalar.divsi v106 c2_i32_48
  let c1_i32_54 : BitVec 32 := 1#32
  let v122 : BitVec 32 := Scalar.subi v107 c1_i32_54
  let v123 : BitVec 32 := Scalar.select v121 v122 v107
  let v131 : BitVec 32 := Scalar.muli c2_i32_60 v123
  let v132 : BitVec 32 := Scalar.addi c0_i32_61 v131
  let c0_i32_63 : BitVec 32 := 0#32
  let v134 : BitVec 1 := Scalar.cmpi .sgt v74 c0_i32_63
  let v135 : BitVec 32 := Scalar.extui v134
  let c0_i32_64 : BitVec 32 := 0#32
  let v136 : BitVec 1 := Scalar.cmpi .slt v74 c0_i32_64
  let v137 : BitVec 32 := Scalar.extui v136
  let v138 : BitVec 32 := Scalar.subi v135 v137
  let c2_i32_62 : BitVec 32 := 2#32
  let c0_i32_65 : BitVec 32 := 0#32
  let v139 : BitVec 1 := Scalar.cmpi .sgt c2_i32_62 c0_i32_65
  let v140 : BitVec 32 := Scalar.extui v139
  let c0_i32_66 : BitVec 32 := 0#32
  let v141 : BitVec 1 := Scalar.cmpi .slt c2_i32_62 c0_i32_66
  let v142 : BitVec 32 := Scalar.extui v141
  let v143 : BitVec 32 := Scalar.subi v140 v142
  let v144 : BitVec 1 := Scalar.cmpi .ne v138 v143
  let v145 : BitVec 32 := Scalar.remsi v74 c2_i32_62
  let c0_i32_67 : BitVec 32 := 0#32
  let v146 : BitVec 1 := Scalar.cmpi .ne v145 c0_i32_67
  let v147 : BitVec 1 := Scalar.andi v144 v146
  let v133 : BitVec 32 := Scalar.divsi v74 c2_i32_62
  let c1_i32_68 : BitVec 32 := 1#32
  let v148 : BitVec 32 := Scalar.subi v133 c1_i32_68
  let v149 : BitVec 32 := Scalar.select v147 v148 v133
  let v150 : BitVec 32 := Scalar.subi v149 v132
  let c1_i32_70 : BitVec 32 := 1#32
  let v152 : BitVec 32 := Scalar.divsi v150 c1_i32_70
  let v153 : BitVec 32 := Scalar.muli v152 c1_i32_70
  let v154 : BitVec 32 := Scalar.addi v132 v153
  let c1_i32_72 : BitVec 32 := 1#32
  let arg18 : BitVec 32 := Scf.iv v154 c1_i32_72 k0_t12
  let c0_i32_168 : BitVec 32 := 0#32
  let v391 : BitVec 32 := Scalar.addi arg18 c0_i32_168
  let v392 : BitVec 32 := Scalar.muli c2_i32_169 v391
  let v393 : BitVec 32 := Scalar.addi v392 c1_i32_170
  let c512_i32_171 : BitVec 32 := 512#32
  let v394 : BitVec 32 := Scalar.muli v393 c512_i32_171
  let v395 : BitVec 32 := v394
  let v396 : Index := Scalar.indexCast v395
  let c0_173 : Index := 0#32
  ![0, v396.toNat, 0]
def k0_off90 (i : grid0.Coords) (k0_t12 : Fin (k0_t12_loop i).trips) : Fin 4 → Nat :=
  let c0_185 : Index := 0#32
  let c2_i32_184 : BitVec 32 := 2#32
  let c0_i32_61 : BitVec 32 := 0#32
  let c2_i32_60 : BitVec 32 := 2#32
  let c2_i32 : BitVec 32 := 2#32
  let arg2 : BitVec 32 := BitVec.ofNat 32 (i 2).val
  let v74 : BitVec 32 := Scalar.muli c2_i32 arg2
  let c0_i32_42 : BitVec 32 := 0#32
  let v90 : BitVec 1 := Scalar.cmpi .sgt v74 c0_i32_42
  let v91 : BitVec 32 := Scalar.extui v90
  let c0_i32_43 : BitVec 32 := 0#32
  let v92 : BitVec 1 := Scalar.cmpi .slt v74 c0_i32_43
  let v93 : BitVec 32 := Scalar.extui v92
  let v94 : BitVec 32 := Scalar.subi v91 v93
  let c2_i32_41 : BitVec 32 := 2#32
  let c0_i32_44 : BitVec 32 := 0#32
  let v95 : BitVec 1 := Scalar.cmpi .sgt c2_i32_41 c0_i32_44
  let v96 : BitVec 32 := Scalar.extui v95
  let c0_i32_45 : BitVec 32 := 0#32
  let v97 : BitVec 1 := Scalar.cmpi .slt c2_i32_41 c0_i32_45
  let v98 : BitVec 32 := Scalar.extui v97
  let v99 : BitVec 32 := Scalar.subi v96 v98
  let v100 : BitVec 1 := Scalar.cmpi .ne v94 v99
  let v101 : BitVec 32 := Scalar.remsi v74 c2_i32_41
  let c0_i32_46 : BitVec 32 := 0#32
  let v102 : BitVec 1 := Scalar.cmpi .ne v101 c0_i32_46
  let v103 : BitVec 1 := Scalar.andi v100 v102
  let v89 : BitVec 32 := Scalar.divsi v74 c2_i32_41
  let c1_i32 : BitVec 32 := 1#32
  let v104 : BitVec 32 := Scalar.subi v89 c1_i32
  let v105 : BitVec 32 := Scalar.select v103 v104 v89
  let c0_i32_47 : BitVec 32 := 0#32
  let v106 : BitVec 32 := Scalar.subi v105 c0_i32_47
  let c0_i32_49 : BitVec 32 := 0#32
  let v108 : BitVec 1 := Scalar.cmpi .sgt v106 c0_i32_49
  let v109 : BitVec 32 := Scalar.extui v108
  let c0_i32_50 : BitVec 32 := 0#32
  let v110 : BitVec 1 := Scalar.cmpi .slt v106 c0_i32_50
  let v111 : BitVec 32 := Scalar.extui v110
  let v112 : BitVec 32 := Scalar.subi v109 v111
  let c2_i32_48 : BitVec 32 := 2#32
  let c0_i32_51 : BitVec 32 := 0#32
  let v113 : BitVec 1 := Scalar.cmpi .sgt c2_i32_48 c0_i32_51
  let v114 : BitVec 32 := Scalar.extui v113
  let c0_i32_52 : BitVec 32 := 0#32
  let v115 : BitVec 1 := Scalar.cmpi .slt c2_i32_48 c0_i32_52
  let v116 : BitVec 32 := Scalar.extui v115
  let v117 : BitVec 32 := Scalar.subi v114 v116
  let v118 : BitVec 1 := Scalar.cmpi .ne v112 v117
  let v119 : BitVec 32 := Scalar.remsi v106 c2_i32_48
  let c0_i32_53 : BitVec 32 := 0#32
  let v120 : BitVec 1 := Scalar.cmpi .ne v119 c0_i32_53
  let v121 : BitVec 1 := Scalar.andi v118 v120
  let v107 : BitVec 32 := Scalar.divsi v106 c2_i32_48
  let c1_i32_54 : BitVec 32 := 1#32
  let v122 : BitVec 32 := Scalar.subi v107 c1_i32_54
  let v123 : BitVec 32 := Scalar.select v121 v122 v107
  let v131 : BitVec 32 := Scalar.muli c2_i32_60 v123
  let v132 : BitVec 32 := Scalar.addi c0_i32_61 v131
  let c0_i32_63 : BitVec 32 := 0#32
  let v134 : BitVec 1 := Scalar.cmpi .sgt v74 c0_i32_63
  let v135 : BitVec 32 := Scalar.extui v134
  let c0_i32_64 : BitVec 32 := 0#32
  let v136 : BitVec 1 := Scalar.cmpi .slt v74 c0_i32_64
  let v137 : BitVec 32 := Scalar.extui v136
  let v138 : BitVec 32 := Scalar.subi v135 v137
  let c2_i32_62 : BitVec 32 := 2#32
  let c0_i32_65 : BitVec 32 := 0#32
  let v139 : BitVec 1 := Scalar.cmpi .sgt c2_i32_62 c0_i32_65
  let v140 : BitVec 32 := Scalar.extui v139
  let c0_i32_66 : BitVec 32 := 0#32
  let v141 : BitVec 1 := Scalar.cmpi .slt c2_i32_62 c0_i32_66
  let v142 : BitVec 32 := Scalar.extui v141
  let v143 : BitVec 32 := Scalar.subi v140 v142
  let v144 : BitVec 1 := Scalar.cmpi .ne v138 v143
  let v145 : BitVec 32 := Scalar.remsi v74 c2_i32_62
  let c0_i32_67 : BitVec 32 := 0#32
  let v146 : BitVec 1 := Scalar.cmpi .ne v145 c0_i32_67
  let v147 : BitVec 1 := Scalar.andi v144 v146
  let v133 : BitVec 32 := Scalar.divsi v74 c2_i32_62
  let c1_i32_68 : BitVec 32 := 1#32
  let v148 : BitVec 32 := Scalar.subi v133 c1_i32_68
  let v149 : BitVec 32 := Scalar.select v147 v148 v133
  let v150 : BitVec 32 := Scalar.subi v149 v132
  let c1_i32_70 : BitVec 32 := 1#32
  let v152 : BitVec 32 := Scalar.divsi v150 c1_i32_70
  let v153 : BitVec 32 := Scalar.muli v152 c1_i32_70
  let v154 : BitVec 32 := Scalar.addi v132 v153
  let c1_i32_72 : BitVec 32 := 1#32
  let arg18 : BitVec 32 := Scf.iv v154 c1_i32_72 k0_t12
  let c0_i32_183 : BitVec 32 := 0#32
  let v411 : BitVec 32 := Scalar.addi arg18 c0_i32_183
  let v412 : BitVec 32 := Scalar.muli c2_i32_184 v411
  let v413 : Index := Scalar.indexCast v412
  let c0_186 : Index := 0#32
  let c0_187 : Index := 0#32
  ![0, v413.toNat, 0, 0]
def k0_mult73 (i : grid0.Coords) (k0_t12 : Fin (k0_t12_loop i).trips) : BitVec 32 :=
  let c2_i32_192 : BitVec 32 := 2#32
  let c0_i32_61 : BitVec 32 := 0#32
  let c2_i32_60 : BitVec 32 := 2#32
  let c2_i32 : BitVec 32 := 2#32
  let arg2 : BitVec 32 := BitVec.ofNat 32 (i 2).val
  let v74 : BitVec 32 := Scalar.muli c2_i32 arg2
  let c0_i32_42 : BitVec 32 := 0#32
  let v90 : BitVec 1 := Scalar.cmpi .sgt v74 c0_i32_42
  let v91 : BitVec 32 := Scalar.extui v90
  let c0_i32_43 : BitVec 32 := 0#32
  let v92 : BitVec 1 := Scalar.cmpi .slt v74 c0_i32_43
  let v93 : BitVec 32 := Scalar.extui v92
  let v94 : BitVec 32 := Scalar.subi v91 v93
  let c2_i32_41 : BitVec 32 := 2#32
  let c0_i32_44 : BitVec 32 := 0#32
  let v95 : BitVec 1 := Scalar.cmpi .sgt c2_i32_41 c0_i32_44
  let v96 : BitVec 32 := Scalar.extui v95
  let c0_i32_45 : BitVec 32 := 0#32
  let v97 : BitVec 1 := Scalar.cmpi .slt c2_i32_41 c0_i32_45
  let v98 : BitVec 32 := Scalar.extui v97
  let v99 : BitVec 32 := Scalar.subi v96 v98
  let v100 : BitVec 1 := Scalar.cmpi .ne v94 v99
  let v101 : BitVec 32 := Scalar.remsi v74 c2_i32_41
  let c0_i32_46 : BitVec 32 := 0#32
  let v102 : BitVec 1 := Scalar.cmpi .ne v101 c0_i32_46
  let v103 : BitVec 1 := Scalar.andi v100 v102
  let v89 : BitVec 32 := Scalar.divsi v74 c2_i32_41
  let c1_i32 : BitVec 32 := 1#32
  let v104 : BitVec 32 := Scalar.subi v89 c1_i32
  let v105 : BitVec 32 := Scalar.select v103 v104 v89
  let c0_i32_47 : BitVec 32 := 0#32
  let v106 : BitVec 32 := Scalar.subi v105 c0_i32_47
  let c0_i32_49 : BitVec 32 := 0#32
  let v108 : BitVec 1 := Scalar.cmpi .sgt v106 c0_i32_49
  let v109 : BitVec 32 := Scalar.extui v108
  let c0_i32_50 : BitVec 32 := 0#32
  let v110 : BitVec 1 := Scalar.cmpi .slt v106 c0_i32_50
  let v111 : BitVec 32 := Scalar.extui v110
  let v112 : BitVec 32 := Scalar.subi v109 v111
  let c2_i32_48 : BitVec 32 := 2#32
  let c0_i32_51 : BitVec 32 := 0#32
  let v113 : BitVec 1 := Scalar.cmpi .sgt c2_i32_48 c0_i32_51
  let v114 : BitVec 32 := Scalar.extui v113
  let c0_i32_52 : BitVec 32 := 0#32
  let v115 : BitVec 1 := Scalar.cmpi .slt c2_i32_48 c0_i32_52
  let v116 : BitVec 32 := Scalar.extui v115
  let v117 : BitVec 32 := Scalar.subi v114 v116
  let v118 : BitVec 1 := Scalar.cmpi .ne v112 v117
  let v119 : BitVec 32 := Scalar.remsi v106 c2_i32_48
  let c0_i32_53 : BitVec 32 := 0#32
  let v120 : BitVec 1 := Scalar.cmpi .ne v119 c0_i32_53
  let v121 : BitVec 1 := Scalar.andi v118 v120
  let v107 : BitVec 32 := Scalar.divsi v106 c2_i32_48
  let c1_i32_54 : BitVec 32 := 1#32
  let v122 : BitVec 32 := Scalar.subi v107 c1_i32_54
  let v123 : BitVec 32 := Scalar.select v121 v122 v107
  let v131 : BitVec 32 := Scalar.muli c2_i32_60 v123
  let v132 : BitVec 32 := Scalar.addi c0_i32_61 v131
  let c0_i32_63 : BitVec 32 := 0#32
  let v134 : BitVec 1 := Scalar.cmpi .sgt v74 c0_i32_63
  let v135 : BitVec 32 := Scalar.extui v134
  let c0_i32_64 : BitVec 32 := 0#32
  let v136 : BitVec 1 := Scalar.cmpi .slt v74 c0_i32_64
  let v137 : BitVec 32 := Scalar.extui v136
  let v138 : BitVec 32 := Scalar.subi v135 v137
  let c2_i32_62 : BitVec 32 := 2#32
  let c0_i32_65 : BitVec 32 := 0#32
  let v139 : BitVec 1 := Scalar.cmpi .sgt c2_i32_62 c0_i32_65
  let v140 : BitVec 32 := Scalar.extui v139
  let c0_i32_66 : BitVec 32 := 0#32
  let v141 : BitVec 1 := Scalar.cmpi .slt c2_i32_62 c0_i32_66
  let v142 : BitVec 32 := Scalar.extui v141
  let v143 : BitVec 32 := Scalar.subi v140 v142
  let v144 : BitVec 1 := Scalar.cmpi .ne v138 v143
  let v145 : BitVec 32 := Scalar.remsi v74 c2_i32_62
  let c0_i32_67 : BitVec 32 := 0#32
  let v146 : BitVec 1 := Scalar.cmpi .ne v145 c0_i32_67
  let v147 : BitVec 1 := Scalar.andi v144 v146
  let v133 : BitVec 32 := Scalar.divsi v74 c2_i32_62
  let c1_i32_68 : BitVec 32 := 1#32
  let v148 : BitVec 32 := Scalar.subi v133 c1_i32_68
  let v149 : BitVec 32 := Scalar.select v147 v148 v133
  let v150 : BitVec 32 := Scalar.subi v149 v132
  let c1_i32_70 : BitVec 32 := 1#32
  let v152 : BitVec 32 := Scalar.divsi v150 c1_i32_70
  let v153 : BitVec 32 := Scalar.muli v152 c1_i32_70
  let v154 : BitVec 32 := Scalar.addi v132 v153
  let c1_i32_72 : BitVec 32 := 1#32
  let arg18 : BitVec 32 := Scf.iv v154 c1_i32_72 k0_t12
  let c0_i32_191 : BitVec 32 := 0#32
  let v433 : BitVec 32 := Scalar.addi arg18 c0_i32_191
  let v434 : BitVec 32 := Scalar.muli c2_i32_192 v433
  let c2_i32_193 : BitVec 32 := 2#32
  let v435 : BitVec 32 := Scalar.addi v434 c2_i32_193
  let c512_i32_194 : BitVec 32 := 512#32
  let v436 : BitVec 32 := Scalar.muli v435 c512_i32_194
  v436
def k0_off91 (i : grid0.Coords) (k0_t12 : Fin (k0_t12_loop i).trips) : Fin 4 → Nat :=
  let c0_209 : Index := 0#32
  let c2_i32_207 : BitVec 32 := 2#32
  let c0_i32_61 : BitVec 32 := 0#32
  let c2_i32_60 : BitVec 32 := 2#32
  let c2_i32 : BitVec 32 := 2#32
  let arg2 : BitVec 32 := BitVec.ofNat 32 (i 2).val
  let v74 : BitVec 32 := Scalar.muli c2_i32 arg2
  let c0_i32_42 : BitVec 32 := 0#32
  let v90 : BitVec 1 := Scalar.cmpi .sgt v74 c0_i32_42
  let v91 : BitVec 32 := Scalar.extui v90
  let c0_i32_43 : BitVec 32 := 0#32
  let v92 : BitVec 1 := Scalar.cmpi .slt v74 c0_i32_43
  let v93 : BitVec 32 := Scalar.extui v92
  let v94 : BitVec 32 := Scalar.subi v91 v93
  let c2_i32_41 : BitVec 32 := 2#32
  let c0_i32_44 : BitVec 32 := 0#32
  let v95 : BitVec 1 := Scalar.cmpi .sgt c2_i32_41 c0_i32_44
  let v96 : BitVec 32 := Scalar.extui v95
  let c0_i32_45 : BitVec 32 := 0#32
  let v97 : BitVec 1 := Scalar.cmpi .slt c2_i32_41 c0_i32_45
  let v98 : BitVec 32 := Scalar.extui v97
  let v99 : BitVec 32 := Scalar.subi v96 v98
  let v100 : BitVec 1 := Scalar.cmpi .ne v94 v99
  let v101 : BitVec 32 := Scalar.remsi v74 c2_i32_41
  let c0_i32_46 : BitVec 32 := 0#32
  let v102 : BitVec 1 := Scalar.cmpi .ne v101 c0_i32_46
  let v103 : BitVec 1 := Scalar.andi v100 v102
  let v89 : BitVec 32 := Scalar.divsi v74 c2_i32_41
  let c1_i32 : BitVec 32 := 1#32
  let v104 : BitVec 32 := Scalar.subi v89 c1_i32
  let v105 : BitVec 32 := Scalar.select v103 v104 v89
  let c0_i32_47 : BitVec 32 := 0#32
  let v106 : BitVec 32 := Scalar.subi v105 c0_i32_47
  let c0_i32_49 : BitVec 32 := 0#32
  let v108 : BitVec 1 := Scalar.cmpi .sgt v106 c0_i32_49
  let v109 : BitVec 32 := Scalar.extui v108
  let c0_i32_50 : BitVec 32 := 0#32
  let v110 : BitVec 1 := Scalar.cmpi .slt v106 c0_i32_50
  let v111 : BitVec 32 := Scalar.extui v110
  let v112 : BitVec 32 := Scalar.subi v109 v111
  let c2_i32_48 : BitVec 32 := 2#32
  let c0_i32_51 : BitVec 32 := 0#32
  let v113 : BitVec 1 := Scalar.cmpi .sgt c2_i32_48 c0_i32_51
  let v114 : BitVec 32 := Scalar.extui v113
  let c0_i32_52 : BitVec 32 := 0#32
  let v115 : BitVec 1 := Scalar.cmpi .slt c2_i32_48 c0_i32_52
  let v116 : BitVec 32 := Scalar.extui v115
  let v117 : BitVec 32 := Scalar.subi v114 v116
  let v118 : BitVec 1 := Scalar.cmpi .ne v112 v117
  let v119 : BitVec 32 := Scalar.remsi v106 c2_i32_48
  let c0_i32_53 : BitVec 32 := 0#32
  let v120 : BitVec 1 := Scalar.cmpi .ne v119 c0_i32_53
  let v121 : BitVec 1 := Scalar.andi v118 v120
  let v107 : BitVec 32 := Scalar.divsi v106 c2_i32_48
  let c1_i32_54 : BitVec 32 := 1#32
  let v122 : BitVec 32 := Scalar.subi v107 c1_i32_54
  let v123 : BitVec 32 := Scalar.select v121 v122 v107
  let v131 : BitVec 32 := Scalar.muli c2_i32_60 v123
  let v132 : BitVec 32 := Scalar.addi c0_i32_61 v131
  let c0_i32_63 : BitVec 32 := 0#32
  let v134 : BitVec 1 := Scalar.cmpi .sgt v74 c0_i32_63
  let v135 : BitVec 32 := Scalar.extui v134
  let c0_i32_64 : BitVec 32 := 0#32
  let v136 : BitVec 1 := Scalar.cmpi .slt v74 c0_i32_64
  let v137 : BitVec 32 := Scalar.extui v136
  let v138 : BitVec 32 := Scalar.subi v135 v137
  let c2_i32_62 : BitVec 32 := 2#32
  let c0_i32_65 : BitVec 32 := 0#32
  let v139 : BitVec 1 := Scalar.cmpi .sgt c2_i32_62 c0_i32_65
  let v140 : BitVec 32 := Scalar.extui v139
  let c0_i32_66 : BitVec 32 := 0#32
  let v141 : BitVec 1 := Scalar.cmpi .slt c2_i32_62 c0_i32_66
  let v142 : BitVec 32 := Scalar.extui v141
  let v143 : BitVec 32 := Scalar.subi v140 v142
  let v144 : BitVec 1 := Scalar.cmpi .ne v138 v143
  let v145 : BitVec 32 := Scalar.remsi v74 c2_i32_62
  let c0_i32_67 : BitVec 32 := 0#32
  let v146 : BitVec 1 := Scalar.cmpi .ne v145 c0_i32_67
  let v147 : BitVec 1 := Scalar.andi v144 v146
  let v133 : BitVec 32 := Scalar.divsi v74 c2_i32_62
  let c1_i32_68 : BitVec 32 := 1#32
  let v148 : BitVec 32 := Scalar.subi v133 c1_i32_68
  let v149 : BitVec 32 := Scalar.select v147 v148 v133
  let v150 : BitVec 32 := Scalar.subi v149 v132
  let c1_i32_70 : BitVec 32 := 1#32
  let v152 : BitVec 32 := Scalar.divsi v150 c1_i32_70
  let v153 : BitVec 32 := Scalar.muli v152 c1_i32_70
  let v154 : BitVec 32 := Scalar.addi v132 v153
  let c1_i32_72 : BitVec 32 := 1#32
  let arg18 : BitVec 32 := Scf.iv v154 c1_i32_72 k0_t12
  let c0_i32_206 : BitVec 32 := 0#32
  let v453 : BitVec 32 := Scalar.addi arg18 c0_i32_206
  let v454 : BitVec 32 := Scalar.muli c2_i32_207 v453
  let c1_i32_208 : BitVec 32 := 1#32
  let v455 : BitVec 32 := Scalar.addi v454 c1_i32_208
  let v456 : Index := Scalar.indexCast v455
  let c0_210 : Index := 0#32
  let c0_211 : Index := 0#32
  ![0, v456.toNat, 0, 0]
def k0_mult74 : BitVec 32 :=
  let c0_i32_73 : BitVec 32 := 0#32
  c0_i32_73
def k0_mult75 (i : grid0.Coords) : BitVec 32 :=
  let c2_i32 : BitVec 32 := 2#32
  let arg2 : BitVec 32 := BitVec.ofNat 32 (i 2).val
  let v74 : BitVec 32 := Scalar.muli c2_i32 arg2
  let c1_i32_82 : BitVec 32 := 1#32
  let v171 : BitVec 32 := Scalar.addi v74 c1_i32_82
  let c512_i32 : BitVec 32 := 512#32
  let v172 : BitVec 32 := Scalar.muli v171 c512_i32
  v172
def k0_off92 (i : grid0.Coords) : Fin 3 → Nat :=
  let c0_83 : Index := 0#32
  let c2_i32 : BitVec 32 := 2#32
  let arg2 : BitVec 32 := BitVec.ofNat 32 (i 2).val
  let v74 : BitVec 32 := Scalar.muli c2_i32 arg2
  let c1_i32_82 : BitVec 32 := 1#32
  let v171 : BitVec 32 := Scalar.addi v74 c1_i32_82
  let c512_i32 : BitVec 32 := 512#32
  let v172 : BitVec 32 := Scalar.muli v171 c512_i32
  let v173 : BitVec 32 := v172
  let v174 : Index := Scalar.indexCast v173
  let c0_84 : Index := 0#32
  ![0, v174.toNat, 0]
def k0_off93 (i : grid0.Coords) : Fin 4 → Nat :=
  let c0_93 : Index := 0#32
  let c2_i32 : BitVec 32 := 2#32
  let arg2 : BitVec 32 := BitVec.ofNat 32 (i 2).val
  let v74 : BitVec 32 := Scalar.muli c2_i32 arg2
  let v192 : Index := Scalar.indexCast v74
  let c0_94 : Index := 0#32
  let c0_95 : Index := 0#32
  ![0, v192.toNat, 0, 0]
def k0_off94 (i : grid0.Coords) : Fin 4 → Nat :=
  let c0_101 : Index := 0#32
  let c2_i32 : BitVec 32 := 2#32
  let arg2 : BitVec 32 := BitVec.ofNat 32 (i 2).val
  let v74 : BitVec 32 := Scalar.muli c2_i32 arg2
  let c1_i32_99 : BitVec 32 := 1#32
  let v215 : BitVec 32 := Scalar.addi v74 c1_i32_99
  let v218 : Index := Scalar.indexCast v215
  let c0_102 : Index := 0#32
  let c0_103 : Index := 0#32
  ![0, v218.toNat, 0, 0]
@[reducible] def k0_t13_loop (i : grid0.Coords) : Scf.Loop 32 :=
  let c0_i32_123 : BitVec 32 := 0#32
  let c2_i32 : BitVec 32 := 2#32
  let arg2 : BitVec 32 := BitVec.ofNat 32 (i 2).val
  let v74 : BitVec 32 := Scalar.muli c2_i32 arg2
  let c0_i32_108 : BitVec 32 := 0#32
  let v245 : BitVec 1 := Scalar.cmpi .sgt v74 c0_i32_108
  let v246 : BitVec 32 := Scalar.extui v245
  let c0_i32_109 : BitVec 32 := 0#32
  let v247 : BitVec 1 := Scalar.cmpi .slt v74 c0_i32_109
  let v248 : BitVec 32 := Scalar.extui v247
  let v249 : BitVec 32 := Scalar.subi v246 v248
  let c2_i32_107 : BitVec 32 := 2#32
  let c0_i32_110 : BitVec 32 := 0#32
  let v250 : BitVec 1 := Scalar.cmpi .sgt c2_i32_107 c0_i32_110
  let v251 : BitVec 32 := Scalar.extui v250
  let c0_i32_111 : BitVec 32 := 0#32
  let v252 : BitVec 1 := Scalar.cmpi .slt c2_i32_107 c0_i32_111
  let v253 : BitVec 32 := Scalar.extui v252
  let v254 : BitVec 32 := Scalar.subi v251 v253
  let v255 : BitVec 1 := Scalar.cmpi .ne v249 v254
  let v256 : BitVec 32 := Scalar.remsi v74 c2_i32_107
  let c0_i32_112 : BitVec 32 := 0#32
  let v257 : BitVec 1 := Scalar.cmpi .ne v256 c0_i32_112
  let v258 : BitVec 1 := Scalar.andi v255 v257
  let v244 : BitVec 32 := Scalar.divsi v74 c2_i32_107
  let c1_i32_113 : BitVec 32 := 1#32
  let v259 : BitVec 32 := Scalar.subi v244 c1_i32_113
  let v260 : BitVec 32 := Scalar.select v258 v259 v244
  let c0_i32_114 : BitVec 32 := 0#32
  let v261 : BitVec 32 := Scalar.subi v260 c0_i32_114
  let c0_i32_116 : BitVec 32 := 0#32
  let v263 : BitVec 1 := Scalar.cmpi .sgt v261 c0_i32_116
  let v264 : BitVec 32 := Scalar.extui v263
  let c0_i32_117 : BitVec 32 := 0#32
  let v265 : BitVec 1 := Scalar.cmpi .slt v261 c0_i32_117
  let v266 : BitVec 32 := Scalar.extui v265
  let v267 : BitVec 32 := Scalar.subi v264 v266
  let c2_i32_115 : BitVec 32 := 2#32
  let c0_i32_118 : BitVec 32 := 0#32
  let v268 : BitVec 1 := Scalar.cmpi .sgt c2_i32_115 c0_i32_118
  let v269 : BitVec 32 := Scalar.extui v268
  let c0_i32_119 : BitVec 32 := 0#32
  let v270 : BitVec 1 := Scalar.cmpi .slt c2_i32_115 c0_i32_119
  let v271 : BitVec 32 := Scalar.extui v270
  let v272 : BitVec 32 := Scalar.subi v269 v271
  let v273 : BitVec 1 := Scalar.cmpi .ne v267 v272
  let v274 : BitVec 32 := Scalar.remsi v261 c2_i32_115
  let c0_i32_120 : BitVec 32 := 0#32
  let v275 : BitVec 1 := Scalar.cmpi .ne v274 c0_i32_120
  let v276 : BitVec 1 := Scalar.andi v273 v275
  let v262 : BitVec 32 := Scalar.divsi v261 c2_i32_115
  let c1_i32_121 : BitVec 32 := 1#32
  let v277 : BitVec 32 := Scalar.subi v262 c1_i32_121
  let v278 : BitVec 32 := Scalar.select v276 v277 v262
  let v279 : BitVec 32 := Scalar.subi v278 c0_i32_123
  let c1_i32_124 : BitVec 32 := 1#32
  let v281 : BitVec 32 := Scalar.divsi v279 c1_i32_124
  let v282 : BitVec 32 := Scalar.muli v281 c1_i32_124
  let v283 : BitVec 32 := Scalar.addi c0_i32_123 v282
  let c1_i32_125 : BitVec 32 := 1#32
  ⟨c0_i32_123, v283, c1_i32_125⟩
def k0_mult76 (i : grid0.Coords) (k0_t13 : Fin (k0_t13_loop i).trips) : BitVec 32 :=
  let c2_i32_171 : BitVec 32 := 2#32
  let c0_i32_169 : BitVec 32 := 0#32
  let c2_i32_168 : BitVec 32 := 2#32
  let c0_i32_123 : BitVec 32 := 0#32
  let c1_i32_125 : BitVec 32 := 1#32
  let arg18 : BitVec 32 := Scf.iv c0_i32_123 c1_i32_125 k0_t13
  let v391 : BitVec 32 := Scalar.muli c2_i32_168 arg18
  let v392 : BitVec 32 := Scalar.addi c0_i32_169 v391
  let c0_i32_170 : BitVec 32 := 0#32
  let v393 : BitVec 32 := Scalar.addi v392 c0_i32_170
  let v394 : BitVec 32 := Scalar.muli c2_i32_171 v393
  let c1_i32_172 : BitVec 32 := 1#32
  let v395 : BitVec 32 := Scalar.addi v394 c1_i32_172
  let c512_i32_173 : BitVec 32 := 512#32
  let v396 : BitVec 32 := Scalar.muli v395 c512_i32_173
  v396
def k0_off95 (i : grid0.Coords) (k0_t13 : Fin (k0_t13_loop i).trips) (c0_i32_170 : BitVec 32) (c1_i32_172 : BitVec 32) : Fin 3 → Nat :=
  let c0_174 : Index := 0#32
  let c2_i32_171 : BitVec 32 := 2#32
  let c0_i32_169 : BitVec 32 := 0#32
  let c2_i32_168 : BitVec 32 := 2#32
  let c0_i32_123 : BitVec 32 := 0#32
  let c1_i32_125 : BitVec 32 := 1#32
  let arg18 : BitVec 32 := Scf.iv c0_i32_123 c1_i32_125 k0_t13
  let v391 : BitVec 32 := Scalar.muli c2_i32_168 arg18
  let v392 : BitVec 32 := Scalar.addi c0_i32_169 v391
  let v393 : BitVec 32 := Scalar.addi v392 c0_i32_170
  let v394 : BitVec 32 := Scalar.muli c2_i32_171 v393
  let v395 : BitVec 32 := Scalar.addi v394 c1_i32_172
  let c512_i32_173 : BitVec 32 := 512#32
  let v396 : BitVec 32 := Scalar.muli v395 c512_i32_173
  let v397 : BitVec 32 := v396
  let v398 : Index := Scalar.indexCast v397
  let c0_175 : Index := 0#32
  ![0, v398.toNat, 0]
def k0_off96 (i : grid0.Coords) (k0_t13 : Fin (k0_t13_loop i).trips) (c0_i32_185 : BitVec 32) : Fin 4 → Nat :=
  let c0_187 : Index := 0#32
  let c2_i32_186 : BitVec 32 := 2#32
  let c0_i32_169 : BitVec 32 := 0#32
  let c2_i32_168 : BitVec 32 := 2#32
  let c0_i32_123 : BitVec 32 := 0#32
  let c1_i32_125 : BitVec 32 := 1#32
  let arg18 : BitVec 32 := Scf.iv c0_i32_123 c1_i32_125 k0_t13
  let v391 : BitVec 32 := Scalar.muli c2_i32_168 arg18
  let v392 : BitVec 32 := Scalar.addi c0_i32_169 v391
  let v413 : BitVec 32 := Scalar.addi v392 c0_i32_185
  let v414 : BitVec 32 := Scalar.muli c2_i32_186 v413
  let v415 : Index := Scalar.indexCast v414
  let c64_188 : Index := 64#32
  let c0_189 : Index := 0#32
  ![0, v415.toNat, 64, 0]
def k0_mult77 (i : grid0.Coords) (k0_t13 : Fin (k0_t13_loop i).trips) : BitVec 32 :=
  let c2_i32_194 : BitVec 32 := 2#32
  let c0_i32_169 : BitVec 32 := 0#32
  let c2_i32_168 : BitVec 32 := 2#32
  let c0_i32_123 : BitVec 32 := 0#32
  let c1_i32_125 : BitVec 32 := 1#32
  let arg18 : BitVec 32 := Scf.iv c0_i32_123 c1_i32_125 k0_t13
  let v391 : BitVec 32 := Scalar.muli c2_i32_168 arg18
  let v392 : BitVec 32 := Scalar.addi c0_i32_169 v391
  let c0_i32_193 : BitVec 32 := 0#32
  let v435 : BitVec 32 := Scalar.addi v392 c0_i32_193
  let v436 : BitVec 32 := Scalar.muli c2_i32_194 v435
  let c2_i32_195 : BitVec 32 := 2#32
  let v437 : BitVec 32 := Scalar.addi v436 c2_i32_195
  let c512_i32_196 : BitVec 32 := 512#32
  let v438 : BitVec 32 := Scalar.muli v437 c512_i32_196
  v438
def k0_off97 (i : grid0.Coords) (k0_t13 : Fin (k0_t13_loop i).trips) (c0_i32_208 : BitVec 32) : Fin 4 → Nat :=
  let c0_211 : Index := 0#32
  let c2_i32_209 : BitVec 32 := 2#32
  let c0_i32_169 : BitVec 32 := 0#32
  let c2_i32_168 : BitVec 32 := 2#32
  let c0_i32_123 : BitVec 32 := 0#32
  let c1_i32_125 : BitVec 32 := 1#32
  let arg18 : BitVec 32 := Scf.iv c0_i32_123 c1_i32_125 k0_t13
  let v391 : BitVec 32 := Scalar.muli c2_i32_168 arg18
  let v392 : BitVec 32 := Scalar.addi c0_i32_169 v391
  let v455 : BitVec 32 := Scalar.addi v392 c0_i32_208
  let v456 : BitVec 32 := Scalar.muli c2_i32_209 v455
  let c1_i32_210 : BitVec 32 := 1#32
  let v457 : BitVec 32 := Scalar.addi v456 c1_i32_210
  let v458 : Index := Scalar.indexCast v457
  let c64_212 : Index := 64#32
  let c0_213 : Index := 0#32
  ![0, v458.toNat, 64, 0]
def k0_mult78 (i : grid0.Coords) (k0_t13 : Fin (k0_t13_loop i).trips) : BitVec 32 :=
  let c2_i32_218 : BitVec 32 := 2#32
  let c0_i32_169 : BitVec 32 := 0#32
  let c2_i32_168 : BitVec 32 := 2#32
  let c0_i32_123 : BitVec 32 := 0#32
  let c1_i32_125 : BitVec 32 := 1#32
  let arg18 : BitVec 32 := Scf.iv c0_i32_123 c1_i32_125 k0_t13
  let v391 : BitVec 32 := Scalar.muli c2_i32_168 arg18
  let v392 : BitVec 32 := Scalar.addi c0_i32_169 v391
  let c1_i32_217 : BitVec 32 := 1#32
  let v478 : BitVec 32 := Scalar.addi v392 c1_i32_217
  let v479 : BitVec 32 := Scalar.muli c2_i32_218 v478
  let c1_i32_219 : BitVec 32 := 1#32
  let v480 : BitVec 32 := Scalar.addi v479 c1_i32_219
  let c512_i32_220 : BitVec 32 := 512#32
  let v481 : BitVec 32 := Scalar.muli v480 c512_i32_220
  v481
def k0_mult79 (i : grid0.Coords) (k0_t13 : Fin (k0_t13_loop i).trips) : BitVec 32 :=
  let c2_i32_241 : BitVec 32 := 2#32
  let c0_i32_169 : BitVec 32 := 0#32
  let c2_i32_168 : BitVec 32 := 2#32
  let c0_i32_123 : BitVec 32 := 0#32
  let c1_i32_125 : BitVec 32 := 1#32
  let arg18 : BitVec 32 := Scf.iv c0_i32_123 c1_i32_125 k0_t13
  let v391 : BitVec 32 := Scalar.muli c2_i32_168 arg18
  let v392 : BitVec 32 := Scalar.addi c0_i32_169 v391
  let c1_i32_240 : BitVec 32 := 1#32
  let v520 : BitVec 32 := Scalar.addi v392 c1_i32_240
  let v521 : BitVec 32 := Scalar.muli c2_i32_241 v520
  let c2_i32_242 : BitVec 32 := 2#32
  let v522 : BitVec 32 := Scalar.addi v521 c2_i32_242
  let c512_i32_243 : BitVec 32 := 512#32
  let v523 : BitVec 32 := Scalar.muli v522 c512_i32_243
  v523
@[reducible] def k0_t14_loop (i : grid0.Coords) : Scf.Loop 32 :=
  let c0_i32_123 : BitVec 32 := 0#32
  let c2_i32 : BitVec 32 := 2#32
  let arg2 : BitVec 32 := BitVec.ofNat 32 (i 2).val
  let v74 : BitVec 32 := Scalar.muli c2_i32 arg2
  let c0_i32_108 : BitVec 32 := 0#32
  let v245 : BitVec 1 := Scalar.cmpi .sgt v74 c0_i32_108
  let v246 : BitVec 32 := Scalar.extui v245
  let c0_i32_109 : BitVec 32 := 0#32
  let v247 : BitVec 1 := Scalar.cmpi .slt v74 c0_i32_109
  let v248 : BitVec 32 := Scalar.extui v247
  let v249 : BitVec 32 := Scalar.subi v246 v248
  let c2_i32_107 : BitVec 32 := 2#32
  let c0_i32_110 : BitVec 32 := 0#32
  let v250 : BitVec 1 := Scalar.cmpi .sgt c2_i32_107 c0_i32_110
  let v251 : BitVec 32 := Scalar.extui v250
  let c0_i32_111 : BitVec 32 := 0#32
  let v252 : BitVec 1 := Scalar.cmpi .slt c2_i32_107 c0_i32_111
  let v253 : BitVec 32 := Scalar.extui v252
  let v254 : BitVec 32 := Scalar.subi v251 v253
  let v255 : BitVec 1 := Scalar.cmpi .ne v249 v254
  let v256 : BitVec 32 := Scalar.remsi v74 c2_i32_107
  let c0_i32_112 : BitVec 32 := 0#32
  let v257 : BitVec 1 := Scalar.cmpi .ne v256 c0_i32_112
  let v258 : BitVec 1 := Scalar.andi v255 v257
  let v244 : BitVec 32 := Scalar.divsi v74 c2_i32_107
  let c1_i32_113 : BitVec 32 := 1#32
  let v259 : BitVec 32 := Scalar.subi v244 c1_i32_113
  let v260 : BitVec 32 := Scalar.select v258 v259 v244
  let c0_i32_114 : BitVec 32 := 0#32
  let v261 : BitVec 32 := Scalar.subi v260 c0_i32_114
  let c0_i32_116 : BitVec 32 := 0#32
  let v263 : BitVec 1 := Scalar.cmpi .sgt v261 c0_i32_116
  let v264 : BitVec 32 := Scalar.extui v263
  let c0_i32_117 : BitVec 32 := 0#32
  let v265 : BitVec 1 := Scalar.cmpi .slt v261 c0_i32_117
  let v266 : BitVec 32 := Scalar.extui v265
  let v267 : BitVec 32 := Scalar.subi v264 v266
  let c2_i32_115 : BitVec 32 := 2#32
  let c0_i32_118 : BitVec 32 := 0#32
  let v268 : BitVec 1 := Scalar.cmpi .sgt c2_i32_115 c0_i32_118
  let v269 : BitVec 32 := Scalar.extui v268
  let c0_i32_119 : BitVec 32 := 0#32
  let v270 : BitVec 1 := Scalar.cmpi .slt c2_i32_115 c0_i32_119
  let v271 : BitVec 32 := Scalar.extui v270
  let v272 : BitVec 32 := Scalar.subi v269 v271
  let v273 : BitVec 1 := Scalar.cmpi .ne v267 v272
  let v274 : BitVec 32 := Scalar.remsi v261 c2_i32_115
  let c0_i32_120 : BitVec 32 := 0#32
  let v275 : BitVec 1 := Scalar.cmpi .ne v274 c0_i32_120
  let v276 : BitVec 1 := Scalar.andi v273 v275
  let v262 : BitVec 32 := Scalar.divsi v261 c2_i32_115
  let c1_i32_121 : BitVec 32 := 1#32
  let v277 : BitVec 32 := Scalar.subi v262 c1_i32_121
  let v278 : BitVec 32 := Scalar.select v276 v277 v262
  let v279 : BitVec 32 := Scalar.subi v278 c0_i32_123
  let c1_i32_124 : BitVec 32 := 1#32
  let v281 : BitVec 32 := Scalar.divsi v279 c1_i32_124
  let v282 : BitVec 32 := Scalar.muli v281 c1_i32_124
  let v283 : BitVec 32 := Scalar.addi c0_i32_123 v282
  let v280 : BitVec 32 := Scalar.addi c0_i32_123 v279
  let c1_i32_126 : BitVec 32 := 1#32
  ⟨v283, v280, c1_i32_126⟩
def k0_mult80 (i : grid0.Coords) (k0_t14 : Fin (k0_t14_loop i).trips) : BitVec 32 :=
  let c2_i32_171 : BitVec 32 := 2#32
  let c0_i32_169 : BitVec 32 := 0#32
  let c2_i32_168 : BitVec 32 := 2#32
  let c0_i32_123 : BitVec 32 := 0#32
  let c2_i32 : BitVec 32 := 2#32
  let arg2 : BitVec 32 := BitVec.ofNat 32 (i 2).val
  let v74 : BitVec 32 := Scalar.muli c2_i32 arg2
  let c0_i32_108 : BitVec 32 := 0#32
  let v245 : BitVec 1 := Scalar.cmpi .sgt v74 c0_i32_108
  let v246 : BitVec 32 := Scalar.extui v245
  let c0_i32_109 : BitVec 32 := 0#32
  let v247 : BitVec 1 := Scalar.cmpi .slt v74 c0_i32_109
  let v248 : BitVec 32 := Scalar.extui v247
  let v249 : BitVec 32 := Scalar.subi v246 v248
  let c2_i32_107 : BitVec 32 := 2#32
  let c0_i32_110 : BitVec 32 := 0#32
  let v250 : BitVec 1 := Scalar.cmpi .sgt c2_i32_107 c0_i32_110
  let v251 : BitVec 32 := Scalar.extui v250
  let c0_i32_111 : BitVec 32 := 0#32
  let v252 : BitVec 1 := Scalar.cmpi .slt c2_i32_107 c0_i32_111
  let v253 : BitVec 32 := Scalar.extui v252
  let v254 : BitVec 32 := Scalar.subi v251 v253
  let v255 : BitVec 1 := Scalar.cmpi .ne v249 v254
  let v256 : BitVec 32 := Scalar.remsi v74 c2_i32_107
  let c0_i32_112 : BitVec 32 := 0#32
  let v257 : BitVec 1 := Scalar.cmpi .ne v256 c0_i32_112
  let v258 : BitVec 1 := Scalar.andi v255 v257
  let v244 : BitVec 32 := Scalar.divsi v74 c2_i32_107
  let c1_i32_113 : BitVec 32 := 1#32
  let v259 : BitVec 32 := Scalar.subi v244 c1_i32_113
  let v260 : BitVec 32 := Scalar.select v258 v259 v244
  let c0_i32_114 : BitVec 32 := 0#32
  let v261 : BitVec 32 := Scalar.subi v260 c0_i32_114
  let c0_i32_116 : BitVec 32 := 0#32
  let v263 : BitVec 1 := Scalar.cmpi .sgt v261 c0_i32_116
  let v264 : BitVec 32 := Scalar.extui v263
  let c0_i32_117 : BitVec 32 := 0#32
  let v265 : BitVec 1 := Scalar.cmpi .slt v261 c0_i32_117
  let v266 : BitVec 32 := Scalar.extui v265
  let v267 : BitVec 32 := Scalar.subi v264 v266
  let c2_i32_115 : BitVec 32 := 2#32
  let c0_i32_118 : BitVec 32 := 0#32
  let v268 : BitVec 1 := Scalar.cmpi .sgt c2_i32_115 c0_i32_118
  let v269 : BitVec 32 := Scalar.extui v268
  let c0_i32_119 : BitVec 32 := 0#32
  let v270 : BitVec 1 := Scalar.cmpi .slt c2_i32_115 c0_i32_119
  let v271 : BitVec 32 := Scalar.extui v270
  let v272 : BitVec 32 := Scalar.subi v269 v271
  let v273 : BitVec 1 := Scalar.cmpi .ne v267 v272
  let v274 : BitVec 32 := Scalar.remsi v261 c2_i32_115
  let c0_i32_120 : BitVec 32 := 0#32
  let v275 : BitVec 1 := Scalar.cmpi .ne v274 c0_i32_120
  let v276 : BitVec 1 := Scalar.andi v273 v275
  let v262 : BitVec 32 := Scalar.divsi v261 c2_i32_115
  let c1_i32_121 : BitVec 32 := 1#32
  let v277 : BitVec 32 := Scalar.subi v262 c1_i32_121
  let v278 : BitVec 32 := Scalar.select v276 v277 v262
  let v279 : BitVec 32 := Scalar.subi v278 c0_i32_123
  let c1_i32_124 : BitVec 32 := 1#32
  let v281 : BitVec 32 := Scalar.divsi v279 c1_i32_124
  let v282 : BitVec 32 := Scalar.muli v281 c1_i32_124
  let v283 : BitVec 32 := Scalar.addi c0_i32_123 v282
  let c1_i32_126 : BitVec 32 := 1#32
  let arg18 : BitVec 32 := Scf.iv v283 c1_i32_126 k0_t14
  let v391 : BitVec 32 := Scalar.muli c2_i32_168 arg18
  let v392 : BitVec 32 := Scalar.addi c0_i32_169 v391
  let c0_i32_170 : BitVec 32 := 0#32
  let v393 : BitVec 32 := Scalar.addi v392 c0_i32_170
  let v394 : BitVec 32 := Scalar.muli c2_i32_171 v393
  let c1_i32_172 : BitVec 32 := 1#32
  let v395 : BitVec 32 := Scalar.addi v394 c1_i32_172
  let c512_i32_173 : BitVec 32 := 512#32
  let v396 : BitVec 32 := Scalar.muli v395 c512_i32_173
  v396
def k0_off98 (i : grid0.Coords) (k0_t14 : Fin (k0_t14_loop i).trips) (c0_i32_170 : BitVec 32) (c1_i32_172 : BitVec 32) : Fin 3 → Nat :=
  let c0_174 : Index := 0#32
  let c2_i32_171 : BitVec 32 := 2#32
  let c0_i32_169 : BitVec 32 := 0#32
  let c2_i32_168 : BitVec 32 := 2#32
  let c0_i32_123 : BitVec 32 := 0#32
  let c2_i32 : BitVec 32 := 2#32
  let arg2 : BitVec 32 := BitVec.ofNat 32 (i 2).val
  let v74 : BitVec 32 := Scalar.muli c2_i32 arg2
  let c0_i32_108 : BitVec 32 := 0#32
  let v245 : BitVec 1 := Scalar.cmpi .sgt v74 c0_i32_108
  let v246 : BitVec 32 := Scalar.extui v245
  let c0_i32_109 : BitVec 32 := 0#32
  let v247 : BitVec 1 := Scalar.cmpi .slt v74 c0_i32_109
  let v248 : BitVec 32 := Scalar.extui v247
  let v249 : BitVec 32 := Scalar.subi v246 v248
  let c2_i32_107 : BitVec 32 := 2#32
  let c0_i32_110 : BitVec 32 := 0#32
  let v250 : BitVec 1 := Scalar.cmpi .sgt c2_i32_107 c0_i32_110
  let v251 : BitVec 32 := Scalar.extui v250
  let c0_i32_111 : BitVec 32 := 0#32
  let v252 : BitVec 1 := Scalar.cmpi .slt c2_i32_107 c0_i32_111
  let v253 : BitVec 32 := Scalar.extui v252
  let v254 : BitVec 32 := Scalar.subi v251 v253
  let v255 : BitVec 1 := Scalar.cmpi .ne v249 v254
  let v256 : BitVec 32 := Scalar.remsi v74 c2_i32_107
  let c0_i32_112 : BitVec 32 := 0#32
  let v257 : BitVec 1 := Scalar.cmpi .ne v256 c0_i32_112
  let v258 : BitVec 1 := Scalar.andi v255 v257
  let v244 : BitVec 32 := Scalar.divsi v74 c2_i32_107
  let c1_i32_113 : BitVec 32 := 1#32
  let v259 : BitVec 32 := Scalar.subi v244 c1_i32_113
  let v260 : BitVec 32 := Scalar.select v258 v259 v244
  let c0_i32_114 : BitVec 32 := 0#32
  let v261 : BitVec 32 := Scalar.subi v260 c0_i32_114
  let c0_i32_116 : BitVec 32 := 0#32
  let v263 : BitVec 1 := Scalar.cmpi .sgt v261 c0_i32_116
  let v264 : BitVec 32 := Scalar.extui v263
  let c0_i32_117 : BitVec 32 := 0#32
  let v265 : BitVec 1 := Scalar.cmpi .slt v261 c0_i32_117
  let v266 : BitVec 32 := Scalar.extui v265
  let v267 : BitVec 32 := Scalar.subi v264 v266
  let c2_i32_115 : BitVec 32 := 2#32
  let c0_i32_118 : BitVec 32 := 0#32
  let v268 : BitVec 1 := Scalar.cmpi .sgt c2_i32_115 c0_i32_118
  let v269 : BitVec 32 := Scalar.extui v268
  let c0_i32_119 : BitVec 32 := 0#32
  let v270 : BitVec 1 := Scalar.cmpi .slt c2_i32_115 c0_i32_119
  let v271 : BitVec 32 := Scalar.extui v270
  let v272 : BitVec 32 := Scalar.subi v269 v271
  let v273 : BitVec 1 := Scalar.cmpi .ne v267 v272
  let v274 : BitVec 32 := Scalar.remsi v261 c2_i32_115
  let c0_i32_120 : BitVec 32 := 0#32
  let v275 : BitVec 1 := Scalar.cmpi .ne v274 c0_i32_120
  let v276 : BitVec 1 := Scalar.andi v273 v275
  let v262 : BitVec 32 := Scalar.divsi v261 c2_i32_115
  let c1_i32_121 : BitVec 32 := 1#32
  let v277 : BitVec 32 := Scalar.subi v262 c1_i32_121
  let v278 : BitVec 32 := Scalar.select v276 v277 v262
  let v279 : BitVec 32 := Scalar.subi v278 c0_i32_123
  let c1_i32_124 : BitVec 32 := 1#32
  let v281 : BitVec 32 := Scalar.divsi v279 c1_i32_124
  let v282 : BitVec 32 := Scalar.muli v281 c1_i32_124
  let v283 : BitVec 32 := Scalar.addi c0_i32_123 v282
  let c1_i32_126 : BitVec 32 := 1#32
  let arg18 : BitVec 32 := Scf.iv v283 c1_i32_126 k0_t14
  let v391 : BitVec 32 := Scalar.muli c2_i32_168 arg18
  let v392 : BitVec 32 := Scalar.addi c0_i32_169 v391
  let v393 : BitVec 32 := Scalar.addi v392 c0_i32_170
  let v394 : BitVec 32 := Scalar.muli c2_i32_171 v393
  let v395 : BitVec 32 := Scalar.addi v394 c1_i32_172
  let c512_i32_173 : BitVec 32 := 512#32
  let v396 : BitVec 32 := Scalar.muli v395 c512_i32_173
  let v397 : BitVec 32 := v396
  let v398 : Index := Scalar.indexCast v397
  let c0_175 : Index := 0#32
  ![0, v398.toNat, 0]
def k0_off99 (i : grid0.Coords) (k0_t14 : Fin (k0_t14_loop i).trips) (c0_i32_185 : BitVec 32) : Fin 4 → Nat :=
  let c0_187 : Index := 0#32
  let c2_i32_186 : BitVec 32 := 2#32
  let c0_i32_169 : BitVec 32 := 0#32
  let c2_i32_168 : BitVec 32 := 2#32
  let c0_i32_123 : BitVec 32 := 0#32
  let c2_i32 : BitVec 32 := 2#32
  let arg2 : BitVec 32 := BitVec.ofNat 32 (i 2).val
  let v74 : BitVec 32 := Scalar.muli c2_i32 arg2
  let c0_i32_108 : BitVec 32 := 0#32
  let v245 : BitVec 1 := Scalar.cmpi .sgt v74 c0_i32_108
  let v246 : BitVec 32 := Scalar.extui v245
  let c0_i32_109 : BitVec 32 := 0#32
  let v247 : BitVec 1 := Scalar.cmpi .slt v74 c0_i32_109
  let v248 : BitVec 32 := Scalar.extui v247
  let v249 : BitVec 32 := Scalar.subi v246 v248
  let c2_i32_107 : BitVec 32 := 2#32
  let c0_i32_110 : BitVec 32 := 0#32
  let v250 : BitVec 1 := Scalar.cmpi .sgt c2_i32_107 c0_i32_110
  let v251 : BitVec 32 := Scalar.extui v250
  let c0_i32_111 : BitVec 32 := 0#32
  let v252 : BitVec 1 := Scalar.cmpi .slt c2_i32_107 c0_i32_111
  let v253 : BitVec 32 := Scalar.extui v252
  let v254 : BitVec 32 := Scalar.subi v251 v253
  let v255 : BitVec 1 := Scalar.cmpi .ne v249 v254
  let v256 : BitVec 32 := Scalar.remsi v74 c2_i32_107
  let c0_i32_112 : BitVec 32 := 0#32
  let v257 : BitVec 1 := Scalar.cmpi .ne v256 c0_i32_112
  let v258 : BitVec 1 := Scalar.andi v255 v257
  let v244 : BitVec 32 := Scalar.divsi v74 c2_i32_107
  let c1_i32_113 : BitVec 32 := 1#32
  let v259 : BitVec 32 := Scalar.subi v244 c1_i32_113
  let v260 : BitVec 32 := Scalar.select v258 v259 v244
  let c0_i32_114 : BitVec 32 := 0#32
  let v261 : BitVec 32 := Scalar.subi v260 c0_i32_114
  let c0_i32_116 : BitVec 32 := 0#32
  let v263 : BitVec 1 := Scalar.cmpi .sgt v261 c0_i32_116
  let v264 : BitVec 32 := Scalar.extui v263
  let c0_i32_117 : BitVec 32 := 0#32
  let v265 : BitVec 1 := Scalar.cmpi .slt v261 c0_i32_117
  let v266 : BitVec 32 := Scalar.extui v265
  let v267 : BitVec 32 := Scalar.subi v264 v266
  let c2_i32_115 : BitVec 32 := 2#32
  let c0_i32_118 : BitVec 32 := 0#32
  let v268 : BitVec 1 := Scalar.cmpi .sgt c2_i32_115 c0_i32_118
  let v269 : BitVec 32 := Scalar.extui v268
  let c0_i32_119 : BitVec 32 := 0#32
  let v270 : BitVec 1 := Scalar.cmpi .slt c2_i32_115 c0_i32_119
  let v271 : BitVec 32 := Scalar.extui v270
  let v272 : BitVec 32 := Scalar.subi v269 v271
  let v273 : BitVec 1 := Scalar.cmpi .ne v267 v272
  let v274 : BitVec 32 := Scalar.remsi v261 c2_i32_115
  let c0_i32_120 : BitVec 32 := 0#32
  let v275 : BitVec 1 := Scalar.cmpi .ne v274 c0_i32_120
  let v276 : BitVec 1 := Scalar.andi v273 v275
  let v262 : BitVec 32 := Scalar.divsi v261 c2_i32_115
  let c1_i32_121 : BitVec 32 := 1#32
  let v277 : BitVec 32 := Scalar.subi v262 c1_i32_121
  let v278 : BitVec 32 := Scalar.select v276 v277 v262
  let v279 : BitVec 32 := Scalar.subi v278 c0_i32_123
  let c1_i32_124 : BitVec 32 := 1#32
  let v281 : BitVec 32 := Scalar.divsi v279 c1_i32_124
  let v282 : BitVec 32 := Scalar.muli v281 c1_i32_124
  let v283 : BitVec 32 := Scalar.addi c0_i32_123 v282
  let c1_i32_126 : BitVec 32 := 1#32
  let arg18 : BitVec 32 := Scf.iv v283 c1_i32_126 k0_t14
  let v391 : BitVec 32 := Scalar.muli c2_i32_168 arg18
  let v392 : BitVec 32 := Scalar.addi c0_i32_169 v391
  let v413 : BitVec 32 := Scalar.addi v392 c0_i32_185
  let v414 : BitVec 32 := Scalar.muli c2_i32_186 v413
  let v415 : Index := Scalar.indexCast v414
  let c64_188 : Index := 64#32
  let c0_189 : Index := 0#32
  ![0, v415.toNat, 64, 0]
def k0_mult81 (i : grid0.Coords) (k0_t14 : Fin (k0_t14_loop i).trips) : BitVec 32 :=
  let c2_i32_194 : BitVec 32 := 2#32
  let c0_i32_169 : BitVec 32 := 0#32
  let c2_i32_168 : BitVec 32 := 2#32
  let c0_i32_123 : BitVec 32 := 0#32
  let c2_i32 : BitVec 32 := 2#32
  let arg2 : BitVec 32 := BitVec.ofNat 32 (i 2).val
  let v74 : BitVec 32 := Scalar.muli c2_i32 arg2
  let c0_i32_108 : BitVec 32 := 0#32
  let v245 : BitVec 1 := Scalar.cmpi .sgt v74 c0_i32_108
  let v246 : BitVec 32 := Scalar.extui v245
  let c0_i32_109 : BitVec 32 := 0#32
  let v247 : BitVec 1 := Scalar.cmpi .slt v74 c0_i32_109
  let v248 : BitVec 32 := Scalar.extui v247
  let v249 : BitVec 32 := Scalar.subi v246 v248
  let c2_i32_107 : BitVec 32 := 2#32
  let c0_i32_110 : BitVec 32 := 0#32
  let v250 : BitVec 1 := Scalar.cmpi .sgt c2_i32_107 c0_i32_110
  let v251 : BitVec 32 := Scalar.extui v250
  let c0_i32_111 : BitVec 32 := 0#32
  let v252 : BitVec 1 := Scalar.cmpi .slt c2_i32_107 c0_i32_111
  let v253 : BitVec 32 := Scalar.extui v252
  let v254 : BitVec 32 := Scalar.subi v251 v253
  let v255 : BitVec 1 := Scalar.cmpi .ne v249 v254
  let v256 : BitVec 32 := Scalar.remsi v74 c2_i32_107
  let c0_i32_112 : BitVec 32 := 0#32
  let v257 : BitVec 1 := Scalar.cmpi .ne v256 c0_i32_112
  let v258 : BitVec 1 := Scalar.andi v255 v257
  let v244 : BitVec 32 := Scalar.divsi v74 c2_i32_107
  let c1_i32_113 : BitVec 32 := 1#32
  let v259 : BitVec 32 := Scalar.subi v244 c1_i32_113
  let v260 : BitVec 32 := Scalar.select v258 v259 v244
  let c0_i32_114 : BitVec 32 := 0#32
  let v261 : BitVec 32 := Scalar.subi v260 c0_i32_114
  let c0_i32_116 : BitVec 32 := 0#32
  let v263 : BitVec 1 := Scalar.cmpi .sgt v261 c0_i32_116
  let v264 : BitVec 32 := Scalar.extui v263
  let c0_i32_117 : BitVec 32 := 0#32
  let v265 : BitVec 1 := Scalar.cmpi .slt v261 c0_i32_117
  let v266 : BitVec 32 := Scalar.extui v265
  let v267 : BitVec 32 := Scalar.subi v264 v266
  let c2_i32_115 : BitVec 32 := 2#32
  let c0_i32_118 : BitVec 32 := 0#32
  let v268 : BitVec 1 := Scalar.cmpi .sgt c2_i32_115 c0_i32_118
  let v269 : BitVec 32 := Scalar.extui v268
  let c0_i32_119 : BitVec 32 := 0#32
  let v270 : BitVec 1 := Scalar.cmpi .slt c2_i32_115 c0_i32_119
  let v271 : BitVec 32 := Scalar.extui v270
  let v272 : BitVec 32 := Scalar.subi v269 v271
  let v273 : BitVec 1 := Scalar.cmpi .ne v267 v272
  let v274 : BitVec 32 := Scalar.remsi v261 c2_i32_115
  let c0_i32_120 : BitVec 32 := 0#32
  let v275 : BitVec 1 := Scalar.cmpi .ne v274 c0_i32_120
  let v276 : BitVec 1 := Scalar.andi v273 v275
  let v262 : BitVec 32 := Scalar.divsi v261 c2_i32_115
  let c1_i32_121 : BitVec 32 := 1#32
  let v277 : BitVec 32 := Scalar.subi v262 c1_i32_121
  let v278 : BitVec 32 := Scalar.select v276 v277 v262
  let v279 : BitVec 32 := Scalar.subi v278 c0_i32_123
  let c1_i32_124 : BitVec 32 := 1#32
  let v281 : BitVec 32 := Scalar.divsi v279 c1_i32_124
  let v282 : BitVec 32 := Scalar.muli v281 c1_i32_124
  let v283 : BitVec 32 := Scalar.addi c0_i32_123 v282
  let c1_i32_126 : BitVec 32 := 1#32
  let arg18 : BitVec 32 := Scf.iv v283 c1_i32_126 k0_t14
  let v391 : BitVec 32 := Scalar.muli c2_i32_168 arg18
  let v392 : BitVec 32 := Scalar.addi c0_i32_169 v391
  let c0_i32_193 : BitVec 32 := 0#32
  let v435 : BitVec 32 := Scalar.addi v392 c0_i32_193
  let v436 : BitVec 32 := Scalar.muli c2_i32_194 v435
  let c2_i32_195 : BitVec 32 := 2#32
  let v437 : BitVec 32 := Scalar.addi v436 c2_i32_195
  let c512_i32_196 : BitVec 32 := 512#32
  let v438 : BitVec 32 := Scalar.muli v437 c512_i32_196
  v438
def k0_off100 (i : grid0.Coords) (k0_t14 : Fin (k0_t14_loop i).trips) (c0_i32_208 : BitVec 32) : Fin 4 → Nat :=
  let c0_211 : Index := 0#32
  let c2_i32_209 : BitVec 32 := 2#32
  let c0_i32_169 : BitVec 32 := 0#32
  let c2_i32_168 : BitVec 32 := 2#32
  let c0_i32_123 : BitVec 32 := 0#32
  let c2_i32 : BitVec 32 := 2#32
  let arg2 : BitVec 32 := BitVec.ofNat 32 (i 2).val
  let v74 : BitVec 32 := Scalar.muli c2_i32 arg2
  let c0_i32_108 : BitVec 32 := 0#32
  let v245 : BitVec 1 := Scalar.cmpi .sgt v74 c0_i32_108
  let v246 : BitVec 32 := Scalar.extui v245
  let c0_i32_109 : BitVec 32 := 0#32
  let v247 : BitVec 1 := Scalar.cmpi .slt v74 c0_i32_109
  let v248 : BitVec 32 := Scalar.extui v247
  let v249 : BitVec 32 := Scalar.subi v246 v248
  let c2_i32_107 : BitVec 32 := 2#32
  let c0_i32_110 : BitVec 32 := 0#32
  let v250 : BitVec 1 := Scalar.cmpi .sgt c2_i32_107 c0_i32_110
  let v251 : BitVec 32 := Scalar.extui v250
  let c0_i32_111 : BitVec 32 := 0#32
  let v252 : BitVec 1 := Scalar.cmpi .slt c2_i32_107 c0_i32_111
  let v253 : BitVec 32 := Scalar.extui v252
  let v254 : BitVec 32 := Scalar.subi v251 v253
  let v255 : BitVec 1 := Scalar.cmpi .ne v249 v254
  let v256 : BitVec 32 := Scalar.remsi v74 c2_i32_107
  let c0_i32_112 : BitVec 32 := 0#32
  let v257 : BitVec 1 := Scalar.cmpi .ne v256 c0_i32_112
  let v258 : BitVec 1 := Scalar.andi v255 v257
  let v244 : BitVec 32 := Scalar.divsi v74 c2_i32_107
  let c1_i32_113 : BitVec 32 := 1#32
  let v259 : BitVec 32 := Scalar.subi v244 c1_i32_113
  let v260 : BitVec 32 := Scalar.select v258 v259 v244
  let c0_i32_114 : BitVec 32 := 0#32
  let v261 : BitVec 32 := Scalar.subi v260 c0_i32_114
  let c0_i32_116 : BitVec 32 := 0#32
  let v263 : BitVec 1 := Scalar.cmpi .sgt v261 c0_i32_116
  let v264 : BitVec 32 := Scalar.extui v263
  let c0_i32_117 : BitVec 32 := 0#32
  let v265 : BitVec 1 := Scalar.cmpi .slt v261 c0_i32_117
  let v266 : BitVec 32 := Scalar.extui v265
  let v267 : BitVec 32 := Scalar.subi v264 v266
  let c2_i32_115 : BitVec 32 := 2#32
  let c0_i32_118 : BitVec 32 := 0#32
  let v268 : BitVec 1 := Scalar.cmpi .sgt c2_i32_115 c0_i32_118
  let v269 : BitVec 32 := Scalar.extui v268
  let c0_i32_119 : BitVec 32 := 0#32
  let v270 : BitVec 1 := Scalar.cmpi .slt c2_i32_115 c0_i32_119
  let v271 : BitVec 32 := Scalar.extui v270
  let v272 : BitVec 32 := Scalar.subi v269 v271
  let v273 : BitVec 1 := Scalar.cmpi .ne v267 v272
  let v274 : BitVec 32 := Scalar.remsi v261 c2_i32_115
  let c0_i32_120 : BitVec 32 := 0#32
  let v275 : BitVec 1 := Scalar.cmpi .ne v274 c0_i32_120
  let v276 : BitVec 1 := Scalar.andi v273 v275
  let v262 : BitVec 32 := Scalar.divsi v261 c2_i32_115
  let c1_i32_121 : BitVec 32 := 1#32
  let v277 : BitVec 32 := Scalar.subi v262 c1_i32_121
  let v278 : BitVec 32 := Scalar.select v276 v277 v262
  let v279 : BitVec 32 := Scalar.subi v278 c0_i32_123
  let c1_i32_124 : BitVec 32 := 1#32
  let v281 : BitVec 32 := Scalar.divsi v279 c1_i32_124
  let v282 : BitVec 32 := Scalar.muli v281 c1_i32_124
  let v283 : BitVec 32 := Scalar.addi c0_i32_123 v282
  let c1_i32_126 : BitVec 32 := 1#32
  let arg18 : BitVec 32 := Scf.iv v283 c1_i32_126 k0_t14
  let v391 : BitVec 32 := Scalar.muli c2_i32_168 arg18
  let v392 : BitVec 32 := Scalar.addi c0_i32_169 v391
  let v455 : BitVec 32 := Scalar.addi v392 c0_i32_208
  let v456 : BitVec 32 := Scalar.muli c2_i32_209 v455
  let c1_i32_210 : BitVec 32 := 1#32
  let v457 : BitVec 32 := Scalar.addi v456 c1_i32_210
  let v458 : Index := Scalar.indexCast v457
  let c64_212 : Index := 64#32
  let c0_213 : Index := 0#32
  ![0, v458.toNat, 64, 0]
def k0_mult82 (i : grid0.Coords) (k0_t14 : Fin (k0_t14_loop i).trips) : BitVec 32 :=
  let c2_i32_218 : BitVec 32 := 2#32
  let c0_i32_169 : BitVec 32 := 0#32
  let c2_i32_168 : BitVec 32 := 2#32
  let c0_i32_123 : BitVec 32 := 0#32
  let c2_i32 : BitVec 32 := 2#32
  let arg2 : BitVec 32 := BitVec.ofNat 32 (i 2).val
  let v74 : BitVec 32 := Scalar.muli c2_i32 arg2
  let c0_i32_108 : BitVec 32 := 0#32
  let v245 : BitVec 1 := Scalar.cmpi .sgt v74 c0_i32_108
  let v246 : BitVec 32 := Scalar.extui v245
  let c0_i32_109 : BitVec 32 := 0#32
  let v247 : BitVec 1 := Scalar.cmpi .slt v74 c0_i32_109
  let v248 : BitVec 32 := Scalar.extui v247
  let v249 : BitVec 32 := Scalar.subi v246 v248
  let c2_i32_107 : BitVec 32 := 2#32
  let c0_i32_110 : BitVec 32 := 0#32
  let v250 : BitVec 1 := Scalar.cmpi .sgt c2_i32_107 c0_i32_110
  let v251 : BitVec 32 := Scalar.extui v250
  let c0_i32_111 : BitVec 32 := 0#32
  let v252 : BitVec 1 := Scalar.cmpi .slt c2_i32_107 c0_i32_111
  let v253 : BitVec 32 := Scalar.extui v252
  let v254 : BitVec 32 := Scalar.subi v251 v253
  let v255 : BitVec 1 := Scalar.cmpi .ne v249 v254
  let v256 : BitVec 32 := Scalar.remsi v74 c2_i32_107
  let c0_i32_112 : BitVec 32 := 0#32
  let v257 : BitVec 1 := Scalar.cmpi .ne v256 c0_i32_112
  let v258 : BitVec 1 := Scalar.andi v255 v257
  let v244 : BitVec 32 := Scalar.divsi v74 c2_i32_107
  let c1_i32_113 : BitVec 32 := 1#32
  let v259 : BitVec 32 := Scalar.subi v244 c1_i32_113
  let v260 : BitVec 32 := Scalar.select v258 v259 v244
  let c0_i32_114 : BitVec 32 := 0#32
  let v261 : BitVec 32 := Scalar.subi v260 c0_i32_114
  let c0_i32_116 : BitVec 32 := 0#32
  let v263 : BitVec 1 := Scalar.cmpi .sgt v261 c0_i32_116
  let v264 : BitVec 32 := Scalar.extui v263
  let c0_i32_117 : BitVec 32 := 0#32
  let v265 : BitVec 1 := Scalar.cmpi .slt v261 c0_i32_117
  let v266 : BitVec 32 := Scalar.extui v265
  let v267 : BitVec 32 := Scalar.subi v264 v266
  let c2_i32_115 : BitVec 32 := 2#32
  let c0_i32_118 : BitVec 32 := 0#32
  let v268 : BitVec 1 := Scalar.cmpi .sgt c2_i32_115 c0_i32_118
  let v269 : BitVec 32 := Scalar.extui v268
  let c0_i32_119 : BitVec 32 := 0#32
  let v270 : BitVec 1 := Scalar.cmpi .slt c2_i32_115 c0_i32_119
  let v271 : BitVec 32 := Scalar.extui v270
  let v272 : BitVec 32 := Scalar.subi v269 v271
  let v273 : BitVec 1 := Scalar.cmpi .ne v267 v272
  let v274 : BitVec 32 := Scalar.remsi v261 c2_i32_115
  let c0_i32_120 : BitVec 32 := 0#32
  let v275 : BitVec 1 := Scalar.cmpi .ne v274 c0_i32_120
  let v276 : BitVec 1 := Scalar.andi v273 v275
  let v262 : BitVec 32 := Scalar.divsi v261 c2_i32_115
  let c1_i32_121 : BitVec 32 := 1#32
  let v277 : BitVec 32 := Scalar.subi v262 c1_i32_121
  let v278 : BitVec 32 := Scalar.select v276 v277 v262
  let v279 : BitVec 32 := Scalar.subi v278 c0_i32_123
  let c1_i32_124 : BitVec 32 := 1#32
  let v281 : BitVec 32 := Scalar.divsi v279 c1_i32_124
  let v282 : BitVec 32 := Scalar.muli v281 c1_i32_124
  let v283 : BitVec 32 := Scalar.addi c0_i32_123 v282
  let c1_i32_126 : BitVec 32 := 1#32
  let arg18 : BitVec 32 := Scf.iv v283 c1_i32_126 k0_t14
  let v391 : BitVec 32 := Scalar.muli c2_i32_168 arg18
  let v392 : BitVec 32 := Scalar.addi c0_i32_169 v391
  let c1_i32_217 : BitVec 32 := 1#32
  let v478 : BitVec 32 := Scalar.addi v392 c1_i32_217
  let v479 : BitVec 32 := Scalar.muli c2_i32_218 v478
  let c1_i32_219 : BitVec 32 := 1#32
  let v480 : BitVec 32 := Scalar.addi v479 c1_i32_219
  let c512_i32_220 : BitVec 32 := 512#32
  let v481 : BitVec 32 := Scalar.muli v480 c512_i32_220
  v481
def k0_mult83 (i : grid0.Coords) (k0_t14 : Fin (k0_t14_loop i).trips) : BitVec 32 :=
  let c2_i32_241 : BitVec 32 := 2#32
  let c0_i32_169 : BitVec 32 := 0#32
  let c2_i32_168 : BitVec 32 := 2#32
  let c0_i32_123 : BitVec 32 := 0#32
  let c2_i32 : BitVec 32 := 2#32
  let arg2 : BitVec 32 := BitVec.ofNat 32 (i 2).val
  let v74 : BitVec 32 := Scalar.muli c2_i32 arg2
  let c0_i32_108 : BitVec 32 := 0#32
  let v245 : BitVec 1 := Scalar.cmpi .sgt v74 c0_i32_108
  let v246 : BitVec 32 := Scalar.extui v245
  let c0_i32_109 : BitVec 32 := 0#32
  let v247 : BitVec 1 := Scalar.cmpi .slt v74 c0_i32_109
  let v248 : BitVec 32 := Scalar.extui v247
  let v249 : BitVec 32 := Scalar.subi v246 v248
  let c2_i32_107 : BitVec 32 := 2#32
  let c0_i32_110 : BitVec 32 := 0#32
  let v250 : BitVec 1 := Scalar.cmpi .sgt c2_i32_107 c0_i32_110
  let v251 : BitVec 32 := Scalar.extui v250
  let c0_i32_111 : BitVec 32 := 0#32
  let v252 : BitVec 1 := Scalar.cmpi .slt c2_i32_107 c0_i32_111
  let v253 : BitVec 32 := Scalar.extui v252
  let v254 : BitVec 32 := Scalar.subi v251 v253
  let v255 : BitVec 1 := Scalar.cmpi .ne v249 v254
  let v256 : BitVec 32 := Scalar.remsi v74 c2_i32_107
  let c0_i32_112 : BitVec 32 := 0#32
  let v257 : BitVec 1 := Scalar.cmpi .ne v256 c0_i32_112
  let v258 : BitVec 1 := Scalar.andi v255 v257
  let v244 : BitVec 32 := Scalar.divsi v74 c2_i32_107
  let c1_i32_113 : BitVec 32 := 1#32
  let v259 : BitVec 32 := Scalar.subi v244 c1_i32_113
  let v260 : BitVec 32 := Scalar.select v258 v259 v244
  let c0_i32_114 : BitVec 32 := 0#32
  let v261 : BitVec 32 := Scalar.subi v260 c0_i32_114
  let c0_i32_116 : BitVec 32 := 0#32
  let v263 : BitVec 1 := Scalar.cmpi .sgt v261 c0_i32_116
  let v264 : BitVec 32 := Scalar.extui v263
  let c0_i32_117 : BitVec 32 := 0#32
  let v265 : BitVec 1 := Scalar.cmpi .slt v261 c0_i32_117
  let v266 : BitVec 32 := Scalar.extui v265
  let v267 : BitVec 32 := Scalar.subi v264 v266
  let c2_i32_115 : BitVec 32 := 2#32
  let c0_i32_118 : BitVec 32 := 0#32
  let v268 : BitVec 1 := Scalar.cmpi .sgt c2_i32_115 c0_i32_118
  let v269 : BitVec 32 := Scalar.extui v268
  let c0_i32_119 : BitVec 32 := 0#32
  let v270 : BitVec 1 := Scalar.cmpi .slt c2_i32_115 c0_i32_119
  let v271 : BitVec 32 := Scalar.extui v270
  let v272 : BitVec 32 := Scalar.subi v269 v271
  let v273 : BitVec 1 := Scalar.cmpi .ne v267 v272
  let v274 : BitVec 32 := Scalar.remsi v261 c2_i32_115
  let c0_i32_120 : BitVec 32 := 0#32
  let v275 : BitVec 1 := Scalar.cmpi .ne v274 c0_i32_120
  let v276 : BitVec 1 := Scalar.andi v273 v275
  let v262 : BitVec 32 := Scalar.divsi v261 c2_i32_115
  let c1_i32_121 : BitVec 32 := 1#32
  let v277 : BitVec 32 := Scalar.subi v262 c1_i32_121
  let v278 : BitVec 32 := Scalar.select v276 v277 v262
  let v279 : BitVec 32 := Scalar.subi v278 c0_i32_123
  let c1_i32_124 : BitVec 32 := 1#32
  let v281 : BitVec 32 := Scalar.divsi v279 c1_i32_124
  let v282 : BitVec 32 := Scalar.muli v281 c1_i32_124
  let v283 : BitVec 32 := Scalar.addi c0_i32_123 v282
  let c1_i32_126 : BitVec 32 := 1#32
  let arg18 : BitVec 32 := Scf.iv v283 c1_i32_126 k0_t14
  let v391 : BitVec 32 := Scalar.muli c2_i32_168 arg18
  let v392 : BitVec 32 := Scalar.addi c0_i32_169 v391
  let c1_i32_240 : BitVec 32 := 1#32
  let v520 : BitVec 32 := Scalar.addi v392 c1_i32_240
  let v521 : BitVec 32 := Scalar.muli c2_i32_241 v520
  let c2_i32_242 : BitVec 32 := 2#32
  let v522 : BitVec 32 := Scalar.addi v521 c2_i32_242
  let c512_i32_243 : BitVec 32 := 512#32
  let v523 : BitVec 32 := Scalar.muli v522 c512_i32_243
  v523
@[reducible] def k0_t15_loop (i : grid0.Coords) : Scf.Loop 32 :=
  let c0_i32_128 : BitVec 32 := 0#32
  let c2_i32_127 : BitVec 32 := 2#32
  let c2_i32 : BitVec 32 := 2#32
  let arg2 : BitVec 32 := BitVec.ofNat 32 (i 2).val
  let v74 : BitVec 32 := Scalar.muli c2_i32 arg2
  let c0_i32_108 : BitVec 32 := 0#32
  let v245 : BitVec 1 := Scalar.cmpi .sgt v74 c0_i32_108
  let v246 : BitVec 32 := Scalar.extui v245
  let c0_i32_109 : BitVec 32 := 0#32
  let v247 : BitVec 1 := Scalar.cmpi .slt v74 c0_i32_109
  let v248 : BitVec 32 := Scalar.extui v247
  let v249 : BitVec 32 := Scalar.subi v246 v248
  let c2_i32_107 : BitVec 32 := 2#32
  let c0_i32_110 : BitVec 32 := 0#32
  let v250 : BitVec 1 := Scalar.cmpi .sgt c2_i32_107 c0_i32_110
  let v251 : BitVec 32 := Scalar.extui v250
  let c0_i32_111 : BitVec 32 := 0#32
  let v252 : BitVec 1 := Scalar.cmpi .slt c2_i32_107 c0_i32_111
  let v253 : BitVec 32 := Scalar.extui v252
  let v254 : BitVec 32 := Scalar.subi v251 v253
  let v255 : BitVec 1 := Scalar.cmpi .ne v249 v254
  let v256 : BitVec 32 := Scalar.remsi v74 c2_i32_107
  let c0_i32_112 : BitVec 32 := 0#32
  let v257 : BitVec 1 := Scalar.cmpi .ne v256 c0_i32_112
  let v258 : BitVec 1 := Scalar.andi v255 v257
  let v244 : BitVec 32 := Scalar.divsi v74 c2_i32_107
  let c1_i32_113 : BitVec 32 := 1#32
  let v259 : BitVec 32 := Scalar.subi v244 c1_i32_113
  let v260 : BitVec 32 := Scalar.select v258 v259 v244
  let c0_i32_114 : BitVec 32 := 0#32
  let v261 : BitVec 32 := Scalar.subi v260 c0_i32_114
  let c0_i32_116 : BitVec 32 := 0#32
  let v263 : BitVec 1 := Scalar.cmpi .sgt v261 c0_i32_116
  let v264 : BitVec 32 := Scalar.extui v263
  let c0_i32_117 : BitVec 32 := 0#32
  let v265 : BitVec 1 := Scalar.cmpi .slt v261 c0_i32_117
  let v266 : BitVec 32 := Scalar.extui v265
  let v267 : BitVec 32 := Scalar.subi v264 v266
  let c2_i32_115 : BitVec 32 := 2#32
  let c0_i32_118 : BitVec 32 := 0#32
  let v268 : BitVec 1 := Scalar.cmpi .sgt c2_i32_115 c0_i32_118
  let v269 : BitVec 32 := Scalar.extui v268
  let c0_i32_119 : BitVec 32 := 0#32
  let v270 : BitVec 1 := Scalar.cmpi .slt c2_i32_115 c0_i32_119
  let v271 : BitVec 32 := Scalar.extui v270
  let v272 : BitVec 32 := Scalar.subi v269 v271
  let v273 : BitVec 1 := Scalar.cmpi .ne v267 v272
  let v274 : BitVec 32 := Scalar.remsi v261 c2_i32_115
  let c0_i32_120 : BitVec 32 := 0#32
  let v275 : BitVec 1 := Scalar.cmpi .ne v274 c0_i32_120
  let v276 : BitVec 1 := Scalar.andi v273 v275
  let v262 : BitVec 32 := Scalar.divsi v261 c2_i32_115
  let c1_i32_121 : BitVec 32 := 1#32
  let v277 : BitVec 32 := Scalar.subi v262 c1_i32_121
  let v278 : BitVec 32 := Scalar.select v276 v277 v262
  let v286 : BitVec 32 := Scalar.muli c2_i32_127 v278
  let v287 : BitVec 32 := Scalar.addi c0_i32_128 v286
  let c0_i32_130 : BitVec 32 := 0#32
  let v289 : BitVec 1 := Scalar.cmpi .sgt v74 c0_i32_130
  let v290 : BitVec 32 := Scalar.extui v289
  let c0_i32_131 : BitVec 32 := 0#32
  let v291 : BitVec 1 := Scalar.cmpi .slt v74 c0_i32_131
  let v292 : BitVec 32 := Scalar.extui v291
  let v293 : BitVec 32 := Scalar.subi v290 v292
  let c2_i32_129 : BitVec 32 := 2#32
  let c0_i32_132 : BitVec 32 := 0#32
  let v294 : BitVec 1 := Scalar.cmpi .sgt c2_i32_129 c0_i32_132
  let v295 : BitVec 32 := Scalar.extui v294
  let c0_i32_133 : BitVec 32 := 0#32
  let v296 : BitVec 1 := Scalar.cmpi .slt c2_i32_129 c0_i32_133
  let v297 : BitVec 32 := Scalar.extui v296
  let v298 : BitVec 32 := Scalar.subi v295 v297
  let v299 : BitVec 1 := Scalar.cmpi .ne v293 v298
  let v300 : BitVec 32 := Scalar.remsi v74 c2_i32_129
  let c0_i32_134 : BitVec 32 := 0#32
  let v301 : BitVec 1 := Scalar.cmpi .ne v300 c0_i32_134
  let v302 : BitVec 1 := Scalar.andi v299 v301
  let v288 : BitVec 32 := Scalar.divsi v74 c2_i32_129
  let c1_i32_135 : BitVec 32 := 1#32
  let v303 : BitVec 32 := Scalar.subi v288 c1_i32_135
  let v304 : BitVec 32 := Scalar.select v302 v303 v288
  let v305 : BitVec 32 := Scalar.subi v304 v287
  let c1_i32_137 : BitVec 32 := 1#32
  let v307 : BitVec 32 := Scalar.divsi v305 c1_i32_137
  let v308 : BitVec 32 := Scalar.muli v307 c1_i32_137
  let v309 : BitVec 32 := Scalar.addi v287 v308
  let c1_i32_138 : BitVec 32 := 1#32
  ⟨v287, v309, c1_i32_138⟩
def k0_mult84 (i : grid0.Coords) (k0_t15 : Fin (k0_t15_loop i).trips) : BitVec 32 :=
  let c2_i32_169 : BitVec 32 := 2#32
  let c0_i32_128 : BitVec 32 := 0#32
  let c2_i32_127 : BitVec 32 := 2#32
  let c2_i32 : BitVec 32 := 2#32
  let arg2 : BitVec 32 := BitVec.ofNat 32 (i 2).val
  let v74 : BitVec 32 := Scalar.muli c2_i32 arg2
  let c0_i32_108 : BitVec 32 := 0#32
  let v245 : BitVec 1 := Scalar.cmpi .sgt v74 c0_i32_108
  let v246 : BitVec 32 := Scalar.extui v245
  let c0_i32_109 : BitVec 32 := 0#32
  let v247 : BitVec 1 := Scalar.cmpi .slt v74 c0_i32_109
  let v248 : BitVec 32 := Scalar.extui v247
  let v249 : BitVec 32 := Scalar.subi v246 v248
  let c2_i32_107 : BitVec 32 := 2#32
  let c0_i32_110 : BitVec 32 := 0#32
  let v250 : BitVec 1 := Scalar.cmpi .sgt c2_i32_107 c0_i32_110
  let v251 : BitVec 32 := Scalar.extui v250
  let c0_i32_111 : BitVec 32 := 0#32
  let v252 : BitVec 1 := Scalar.cmpi .slt c2_i32_107 c0_i32_111
  let v253 : BitVec 32 := Scalar.extui v252
  let v254 : BitVec 32 := Scalar.subi v251 v253
  let v255 : BitVec 1 := Scalar.cmpi .ne v249 v254
  let v256 : BitVec 32 := Scalar.remsi v74 c2_i32_107
  let c0_i32_112 : BitVec 32 := 0#32
  let v257 : BitVec 1 := Scalar.cmpi .ne v256 c0_i32_112
  let v258 : BitVec 1 := Scalar.andi v255 v257
  let v244 : BitVec 32 := Scalar.divsi v74 c2_i32_107
  let c1_i32_113 : BitVec 32 := 1#32
  let v259 : BitVec 32 := Scalar.subi v244 c1_i32_113
  let v260 : BitVec 32 := Scalar.select v258 v259 v244
  let c0_i32_114 : BitVec 32 := 0#32
  let v261 : BitVec 32 := Scalar.subi v260 c0_i32_114
  let c0_i32_116 : BitVec 32 := 0#32
  let v263 : BitVec 1 := Scalar.cmpi .sgt v261 c0_i32_116
  let v264 : BitVec 32 := Scalar.extui v263
  let c0_i32_117 : BitVec 32 := 0#32
  let v265 : BitVec 1 := Scalar.cmpi .slt v261 c0_i32_117
  let v266 : BitVec 32 := Scalar.extui v265
  let v267 : BitVec 32 := Scalar.subi v264 v266
  let c2_i32_115 : BitVec 32 := 2#32
  let c0_i32_118 : BitVec 32 := 0#32
  let v268 : BitVec 1 := Scalar.cmpi .sgt c2_i32_115 c0_i32_118
  let v269 : BitVec 32 := Scalar.extui v268
  let c0_i32_119 : BitVec 32 := 0#32
  let v270 : BitVec 1 := Scalar.cmpi .slt c2_i32_115 c0_i32_119
  let v271 : BitVec 32 := Scalar.extui v270
  let v272 : BitVec 32 := Scalar.subi v269 v271
  let v273 : BitVec 1 := Scalar.cmpi .ne v267 v272
  let v274 : BitVec 32 := Scalar.remsi v261 c2_i32_115
  let c0_i32_120 : BitVec 32 := 0#32
  let v275 : BitVec 1 := Scalar.cmpi .ne v274 c0_i32_120
  let v276 : BitVec 1 := Scalar.andi v273 v275
  let v262 : BitVec 32 := Scalar.divsi v261 c2_i32_115
  let c1_i32_121 : BitVec 32 := 1#32
  let v277 : BitVec 32 := Scalar.subi v262 c1_i32_121
  let v278 : BitVec 32 := Scalar.select v276 v277 v262
  let v286 : BitVec 32 := Scalar.muli c2_i32_127 v278
  let v287 : BitVec 32 := Scalar.addi c0_i32_128 v286
  let c1_i32_138 : BitVec 32 := 1#32
  let arg18 : BitVec 32 := Scf.iv v287 c1_i32_138 k0_t15
  let c0_i32_168 : BitVec 32 := 0#32
  let v391 : BitVec 32 := Scalar.addi arg18 c0_i32_168
  let v392 : BitVec 32 := Scalar.muli c2_i32_169 v391
  let c1_i32_170 : BitVec 32 := 1#32
  let v393 : BitVec 32 := Scalar.addi v392 c1_i32_170
  let c512_i32_171 : BitVec 32 := 512#32
  let v394 : BitVec 32 := Scalar.muli v393 c512_i32_171
  v394
def k0_off101 (i : grid0.Coords) (k0_t15 : Fin (k0_t15_loop i).trips) (c1_i32_170 : BitVec 32) : Fin 3 → Nat :=
  let c0_172 : Index := 0#32
  let c2_i32_169 : BitVec 32 := 2#32
  let c0_i32_128 : BitVec 32 := 0#32
  let c2_i32_127 : BitVec 32 := 2#32
  let c2_i32 : BitVec 32 := 2#32
  let arg2 : BitVec 32 := BitVec.ofNat 32 (i 2).val
  let v74 : BitVec 32 := Scalar.muli c2_i32 arg2
  let c0_i32_108 : BitVec 32 := 0#32
  let v245 : BitVec 1 := Scalar.cmpi .sgt v74 c0_i32_108
  let v246 : BitVec 32 := Scalar.extui v245
  let c0_i32_109 : BitVec 32 := 0#32
  let v247 : BitVec 1 := Scalar.cmpi .slt v74 c0_i32_109
  let v248 : BitVec 32 := Scalar.extui v247
  let v249 : BitVec 32 := Scalar.subi v246 v248
  let c2_i32_107 : BitVec 32 := 2#32
  let c0_i32_110 : BitVec 32 := 0#32
  let v250 : BitVec 1 := Scalar.cmpi .sgt c2_i32_107 c0_i32_110
  let v251 : BitVec 32 := Scalar.extui v250
  let c0_i32_111 : BitVec 32 := 0#32
  let v252 : BitVec 1 := Scalar.cmpi .slt c2_i32_107 c0_i32_111
  let v253 : BitVec 32 := Scalar.extui v252
  let v254 : BitVec 32 := Scalar.subi v251 v253
  let v255 : BitVec 1 := Scalar.cmpi .ne v249 v254
  let v256 : BitVec 32 := Scalar.remsi v74 c2_i32_107
  let c0_i32_112 : BitVec 32 := 0#32
  let v257 : BitVec 1 := Scalar.cmpi .ne v256 c0_i32_112
  let v258 : BitVec 1 := Scalar.andi v255 v257
  let v244 : BitVec 32 := Scalar.divsi v74 c2_i32_107
  let c1_i32_113 : BitVec 32 := 1#32
  let v259 : BitVec 32 := Scalar.subi v244 c1_i32_113
  let v260 : BitVec 32 := Scalar.select v258 v259 v244
  let c0_i32_114 : BitVec 32 := 0#32
  let v261 : BitVec 32 := Scalar.subi v260 c0_i32_114
  let c0_i32_116 : BitVec 32 := 0#32
  let v263 : BitVec 1 := Scalar.cmpi .sgt v261 c0_i32_116
  let v264 : BitVec 32 := Scalar.extui v263
  let c0_i32_117 : BitVec 32 := 0#32
  let v265 : BitVec 1 := Scalar.cmpi .slt v261 c0_i32_117
  let v266 : BitVec 32 := Scalar.extui v265
  let v267 : BitVec 32 := Scalar.subi v264 v266
  let c2_i32_115 : BitVec 32 := 2#32
  let c0_i32_118 : BitVec 32 := 0#32
  let v268 : BitVec 1 := Scalar.cmpi .sgt c2_i32_115 c0_i32_118
  let v269 : BitVec 32 := Scalar.extui v268
  let c0_i32_119 : BitVec 32 := 0#32
  let v270 : BitVec 1 := Scalar.cmpi .slt c2_i32_115 c0_i32_119
  let v271 : BitVec 32 := Scalar.extui v270
  let v272 : BitVec 32 := Scalar.subi v269 v271
  let v273 : BitVec 1 := Scalar.cmpi .ne v267 v272
  let v274 : BitVec 32 := Scalar.remsi v261 c2_i32_115
  let c0_i32_120 : BitVec 32 := 0#32
  let v275 : BitVec 1 := Scalar.cmpi .ne v274 c0_i32_120
  let v276 : BitVec 1 := Scalar.andi v273 v275
  let v262 : BitVec 32 := Scalar.divsi v261 c2_i32_115
  let c1_i32_121 : BitVec 32 := 1#32
  let v277 : BitVec 32 := Scalar.subi v262 c1_i32_121
  let v278 : BitVec 32 := Scalar.select v276 v277 v262
  let v286 : BitVec 32 := Scalar.muli c2_i32_127 v278
  let v287 : BitVec 32 := Scalar.addi c0_i32_128 v286
  let c1_i32_138 : BitVec 32 := 1#32
  let arg18 : BitVec 32 := Scf.iv v287 c1_i32_138 k0_t15
  let c0_i32_168 : BitVec 32 := 0#32
  let v391 : BitVec 32 := Scalar.addi arg18 c0_i32_168
  let v392 : BitVec 32 := Scalar.muli c2_i32_169 v391
  let v393 : BitVec 32 := Scalar.addi v392 c1_i32_170
  let c512_i32_171 : BitVec 32 := 512#32
  let v394 : BitVec 32 := Scalar.muli v393 c512_i32_171
  let v395 : BitVec 32 := v394
  let v396 : Index := Scalar.indexCast v395
  let c0_173 : Index := 0#32
  ![0, v396.toNat, 0]
def k0_off102 (i : grid0.Coords) (k0_t15 : Fin (k0_t15_loop i).trips) : Fin 4 → Nat :=
  let c0_185 : Index := 0#32
  let c2_i32_184 : BitVec 32 := 2#32
  let c0_i32_128 : BitVec 32 := 0#32
  let c2_i32_127 : BitVec 32 := 2#32
  let c2_i32 : BitVec 32 := 2#32
  let arg2 : BitVec 32 := BitVec.ofNat 32 (i 2).val
  let v74 : BitVec 32 := Scalar.muli c2_i32 arg2
  let c0_i32_108 : BitVec 32 := 0#32
  let v245 : BitVec 1 := Scalar.cmpi .sgt v74 c0_i32_108
  let v246 : BitVec 32 := Scalar.extui v245
  let c0_i32_109 : BitVec 32 := 0#32
  let v247 : BitVec 1 := Scalar.cmpi .slt v74 c0_i32_109
  let v248 : BitVec 32 := Scalar.extui v247
  let v249 : BitVec 32 := Scalar.subi v246 v248
  let c2_i32_107 : BitVec 32 := 2#32
  let c0_i32_110 : BitVec 32 := 0#32
  let v250 : BitVec 1 := Scalar.cmpi .sgt c2_i32_107 c0_i32_110
  let v251 : BitVec 32 := Scalar.extui v250
  let c0_i32_111 : BitVec 32 := 0#32
  let v252 : BitVec 1 := Scalar.cmpi .slt c2_i32_107 c0_i32_111
  let v253 : BitVec 32 := Scalar.extui v252
  let v254 : BitVec 32 := Scalar.subi v251 v253
  let v255 : BitVec 1 := Scalar.cmpi .ne v249 v254
  let v256 : BitVec 32 := Scalar.remsi v74 c2_i32_107
  let c0_i32_112 : BitVec 32 := 0#32
  let v257 : BitVec 1 := Scalar.cmpi .ne v256 c0_i32_112
  let v258 : BitVec 1 := Scalar.andi v255 v257
  let v244 : BitVec 32 := Scalar.divsi v74 c2_i32_107
  let c1_i32_113 : BitVec 32 := 1#32
  let v259 : BitVec 32 := Scalar.subi v244 c1_i32_113
  let v260 : BitVec 32 := Scalar.select v258 v259 v244
  let c0_i32_114 : BitVec 32 := 0#32
  let v261 : BitVec 32 := Scalar.subi v260 c0_i32_114
  let c0_i32_116 : BitVec 32 := 0#32
  let v263 : BitVec 1 := Scalar.cmpi .sgt v261 c0_i32_116
  let v264 : BitVec 32 := Scalar.extui v263
  let c0_i32_117 : BitVec 32 := 0#32
  let v265 : BitVec 1 := Scalar.cmpi .slt v261 c0_i32_117
  let v266 : BitVec 32 := Scalar.extui v265
  let v267 : BitVec 32 := Scalar.subi v264 v266
  let c2_i32_115 : BitVec 32 := 2#32
  let c0_i32_118 : BitVec 32 := 0#32
  let v268 : BitVec 1 := Scalar.cmpi .sgt c2_i32_115 c0_i32_118
  let v269 : BitVec 32 := Scalar.extui v268
  let c0_i32_119 : BitVec 32 := 0#32
  let v270 : BitVec 1 := Scalar.cmpi .slt c2_i32_115 c0_i32_119
  let v271 : BitVec 32 := Scalar.extui v270
  let v272 : BitVec 32 := Scalar.subi v269 v271
  let v273 : BitVec 1 := Scalar.cmpi .ne v267 v272
  let v274 : BitVec 32 := Scalar.remsi v261 c2_i32_115
  let c0_i32_120 : BitVec 32 := 0#32
  let v275 : BitVec 1 := Scalar.cmpi .ne v274 c0_i32_120
  let v276 : BitVec 1 := Scalar.andi v273 v275
  let v262 : BitVec 32 := Scalar.divsi v261 c2_i32_115
  let c1_i32_121 : BitVec 32 := 1#32
  let v277 : BitVec 32 := Scalar.subi v262 c1_i32_121
  let v278 : BitVec 32 := Scalar.select v276 v277 v262
  let v286 : BitVec 32 := Scalar.muli c2_i32_127 v278
  let v287 : BitVec 32 := Scalar.addi c0_i32_128 v286
  let c1_i32_138 : BitVec 32 := 1#32
  let arg18 : BitVec 32 := Scf.iv v287 c1_i32_138 k0_t15
  let c0_i32_183 : BitVec 32 := 0#32
  let v411 : BitVec 32 := Scalar.addi arg18 c0_i32_183
  let v412 : BitVec 32 := Scalar.muli c2_i32_184 v411
  let v413 : Index := Scalar.indexCast v412
  let c64_186 : Index := 64#32
  let c0_187 : Index := 0#32
  ![0, v413.toNat, 64, 0]
def k0_mult85 (i : grid0.Coords) (k0_t15 : Fin (k0_t15_loop i).trips) : BitVec 32 :=
  let c2_i32_192 : BitVec 32 := 2#32
  let c0_i32_128 : BitVec 32 := 0#32
  let c2_i32_127 : BitVec 32 := 2#32
  let c2_i32 : BitVec 32 := 2#32
  let arg2 : BitVec 32 := BitVec.ofNat 32 (i 2).val
  let v74 : BitVec 32 := Scalar.muli c2_i32 arg2
  let c0_i32_108 : BitVec 32 := 0#32
  let v245 : BitVec 1 := Scalar.cmpi .sgt v74 c0_i32_108
  let v246 : BitVec 32 := Scalar.extui v245
  let c0_i32_109 : BitVec 32 := 0#32
  let v247 : BitVec 1 := Scalar.cmpi .slt v74 c0_i32_109
  let v248 : BitVec 32 := Scalar.extui v247
  let v249 : BitVec 32 := Scalar.subi v246 v248
  let c2_i32_107 : BitVec 32 := 2#32
  let c0_i32_110 : BitVec 32 := 0#32
  let v250 : BitVec 1 := Scalar.cmpi .sgt c2_i32_107 c0_i32_110
  let v251 : BitVec 32 := Scalar.extui v250
  let c0_i32_111 : BitVec 32 := 0#32
  let v252 : BitVec 1 := Scalar.cmpi .slt c2_i32_107 c0_i32_111
  let v253 : BitVec 32 := Scalar.extui v252
  let v254 : BitVec 32 := Scalar.subi v251 v253
  let v255 : BitVec 1 := Scalar.cmpi .ne v249 v254
  let v256 : BitVec 32 := Scalar.remsi v74 c2_i32_107
  let c0_i32_112 : BitVec 32 := 0#32
  let v257 : BitVec 1 := Scalar.cmpi .ne v256 c0_i32_112
  let v258 : BitVec 1 := Scalar.andi v255 v257
  let v244 : BitVec 32 := Scalar.divsi v74 c2_i32_107
  let c1_i32_113 : BitVec 32 := 1#32
  let v259 : BitVec 32 := Scalar.subi v244 c1_i32_113
  let v260 : BitVec 32 := Scalar.select v258 v259 v244
  let c0_i32_114 : BitVec 32 := 0#32
  let v261 : BitVec 32 := Scalar.subi v260 c0_i32_114
  let c0_i32_116 : BitVec 32 := 0#32
  let v263 : BitVec 1 := Scalar.cmpi .sgt v261 c0_i32_116
  let v264 : BitVec 32 := Scalar.extui v263
  let c0_i32_117 : BitVec 32 := 0#32
  let v265 : BitVec 1 := Scalar.cmpi .slt v261 c0_i32_117
  let v266 : BitVec 32 := Scalar.extui v265
  let v267 : BitVec 32 := Scalar.subi v264 v266
  let c2_i32_115 : BitVec 32 := 2#32
  let c0_i32_118 : BitVec 32 := 0#32
  let v268 : BitVec 1 := Scalar.cmpi .sgt c2_i32_115 c0_i32_118
  let v269 : BitVec 32 := Scalar.extui v268
  let c0_i32_119 : BitVec 32 := 0#32
  let v270 : BitVec 1 := Scalar.cmpi .slt c2_i32_115 c0_i32_119
  let v271 : BitVec 32 := Scalar.extui v270
  let v272 : BitVec 32 := Scalar.subi v269 v271
  let v273 : BitVec 1 := Scalar.cmpi .ne v267 v272
  let v274 : BitVec 32 := Scalar.remsi v261 c2_i32_115
  let c0_i32_120 : BitVec 32 := 0#32
  let v275 : BitVec 1 := Scalar.cmpi .ne v274 c0_i32_120
  let v276 : BitVec 1 := Scalar.andi v273 v275
  let v262 : BitVec 32 := Scalar.divsi v261 c2_i32_115
  let c1_i32_121 : BitVec 32 := 1#32
  let v277 : BitVec 32 := Scalar.subi v262 c1_i32_121
  let v278 : BitVec 32 := Scalar.select v276 v277 v262
  let v286 : BitVec 32 := Scalar.muli c2_i32_127 v278
  let v287 : BitVec 32 := Scalar.addi c0_i32_128 v286
  let c1_i32_138 : BitVec 32 := 1#32
  let arg18 : BitVec 32 := Scf.iv v287 c1_i32_138 k0_t15
  let c0_i32_191 : BitVec 32 := 0#32
  let v433 : BitVec 32 := Scalar.addi arg18 c0_i32_191
  let v434 : BitVec 32 := Scalar.muli c2_i32_192 v433
  let c2_i32_193 : BitVec 32 := 2#32
  let v435 : BitVec 32 := Scalar.addi v434 c2_i32_193
  let c512_i32_194 : BitVec 32 := 512#32
  let v436 : BitVec 32 := Scalar.muli v435 c512_i32_194
  v436
def k0_off103 (i : grid0.Coords) (k0_t15 : Fin (k0_t15_loop i).trips) : Fin 4 → Nat :=
  let c0_209 : Index := 0#32
  let c2_i32_207 : BitVec 32 := 2#32
  let c0_i32_128 : BitVec 32 := 0#32
  let c2_i32_127 : BitVec 32 := 2#32
  let c2_i32 : BitVec 32 := 2#32
  let arg2 : BitVec 32 := BitVec.ofNat 32 (i 2).val
  let v74 : BitVec 32 := Scalar.muli c2_i32 arg2
  let c0_i32_108 : BitVec 32 := 0#32
  let v245 : BitVec 1 := Scalar.cmpi .sgt v74 c0_i32_108
  let v246 : BitVec 32 := Scalar.extui v245
  let c0_i32_109 : BitVec 32 := 0#32
  let v247 : BitVec 1 := Scalar.cmpi .slt v74 c0_i32_109
  let v248 : BitVec 32 := Scalar.extui v247
  let v249 : BitVec 32 := Scalar.subi v246 v248
  let c2_i32_107 : BitVec 32 := 2#32
  let c0_i32_110 : BitVec 32 := 0#32
  let v250 : BitVec 1 := Scalar.cmpi .sgt c2_i32_107 c0_i32_110
  let v251 : BitVec 32 := Scalar.extui v250
  let c0_i32_111 : BitVec 32 := 0#32
  let v252 : BitVec 1 := Scalar.cmpi .slt c2_i32_107 c0_i32_111
  let v253 : BitVec 32 := Scalar.extui v252
  let v254 : BitVec 32 := Scalar.subi v251 v253
  let v255 : BitVec 1 := Scalar.cmpi .ne v249 v254
  let v256 : BitVec 32 := Scalar.remsi v74 c2_i32_107
  let c0_i32_112 : BitVec 32 := 0#32
  let v257 : BitVec 1 := Scalar.cmpi .ne v256 c0_i32_112
  let v258 : BitVec 1 := Scalar.andi v255 v257
  let v244 : BitVec 32 := Scalar.divsi v74 c2_i32_107
  let c1_i32_113 : BitVec 32 := 1#32
  let v259 : BitVec 32 := Scalar.subi v244 c1_i32_113
  let v260 : BitVec 32 := Scalar.select v258 v259 v244
  let c0_i32_114 : BitVec 32 := 0#32
  let v261 : BitVec 32 := Scalar.subi v260 c0_i32_114
  let c0_i32_116 : BitVec 32 := 0#32
  let v263 : BitVec 1 := Scalar.cmpi .sgt v261 c0_i32_116
  let v264 : BitVec 32 := Scalar.extui v263
  let c0_i32_117 : BitVec 32 := 0#32
  let v265 : BitVec 1 := Scalar.cmpi .slt v261 c0_i32_117
  let v266 : BitVec 32 := Scalar.extui v265
  let v267 : BitVec 32 := Scalar.subi v264 v266
  let c2_i32_115 : BitVec 32 := 2#32
  let c0_i32_118 : BitVec 32 := 0#32
  let v268 : BitVec 1 := Scalar.cmpi .sgt c2_i32_115 c0_i32_118
  let v269 : BitVec 32 := Scalar.extui v268
  let c0_i32_119 : BitVec 32 := 0#32
  let v270 : BitVec 1 := Scalar.cmpi .slt c2_i32_115 c0_i32_119
  let v271 : BitVec 32 := Scalar.extui v270
  let v272 : BitVec 32 := Scalar.subi v269 v271
  let v273 : BitVec 1 := Scalar.cmpi .ne v267 v272
  let v274 : BitVec 32 := Scalar.remsi v261 c2_i32_115
  let c0_i32_120 : BitVec 32 := 0#32
  let v275 : BitVec 1 := Scalar.cmpi .ne v274 c0_i32_120
  let v276 : BitVec 1 := Scalar.andi v273 v275
  let v262 : BitVec 32 := Scalar.divsi v261 c2_i32_115
  let c1_i32_121 : BitVec 32 := 1#32
  let v277 : BitVec 32 := Scalar.subi v262 c1_i32_121
  let v278 : BitVec 32 := Scalar.select v276 v277 v262
  let v286 : BitVec 32 := Scalar.muli c2_i32_127 v278
  let v287 : BitVec 32 := Scalar.addi c0_i32_128 v286
  let c1_i32_138 : BitVec 32 := 1#32
  let arg18 : BitVec 32 := Scf.iv v287 c1_i32_138 k0_t15
  let c0_i32_206 : BitVec 32 := 0#32
  let v453 : BitVec 32 := Scalar.addi arg18 c0_i32_206
  let v454 : BitVec 32 := Scalar.muli c2_i32_207 v453
  let c1_i32_208 : BitVec 32 := 1#32
  let v455 : BitVec 32 := Scalar.addi v454 c1_i32_208
  let v456 : Index := Scalar.indexCast v455
  let c64_210 : Index := 64#32
  let c0_211 : Index := 0#32
  ![0, v456.toNat, 64, 0]
@[reducible] def k0_t16_loop (i : grid0.Coords) : Scf.Loop 32 :=
  let c0_i32_128 : BitVec 32 := 0#32
  let c2_i32_127 : BitVec 32 := 2#32
  let c2_i32 : BitVec 32 := 2#32
  let arg2 : BitVec 32 := BitVec.ofNat 32 (i 2).val
  let v74 : BitVec 32 := Scalar.muli c2_i32 arg2
  let c0_i32_108 : BitVec 32 := 0#32
  let v245 : BitVec 1 := Scalar.cmpi .sgt v74 c0_i32_108
  let v246 : BitVec 32 := Scalar.extui v245
  let c0_i32_109 : BitVec 32 := 0#32
  let v247 : BitVec 1 := Scalar.cmpi .slt v74 c0_i32_109
  let v248 : BitVec 32 := Scalar.extui v247
  let v249 : BitVec 32 := Scalar.subi v246 v248
  let c2_i32_107 : BitVec 32 := 2#32
  let c0_i32_110 : BitVec 32 := 0#32
  let v250 : BitVec 1 := Scalar.cmpi .sgt c2_i32_107 c0_i32_110
  let v251 : BitVec 32 := Scalar.extui v250
  let c0_i32_111 : BitVec 32 := 0#32
  let v252 : BitVec 1 := Scalar.cmpi .slt c2_i32_107 c0_i32_111
  let v253 : BitVec 32 := Scalar.extui v252
  let v254 : BitVec 32 := Scalar.subi v251 v253
  let v255 : BitVec 1 := Scalar.cmpi .ne v249 v254
  let v256 : BitVec 32 := Scalar.remsi v74 c2_i32_107
  let c0_i32_112 : BitVec 32 := 0#32
  let v257 : BitVec 1 := Scalar.cmpi .ne v256 c0_i32_112
  let v258 : BitVec 1 := Scalar.andi v255 v257
  let v244 : BitVec 32 := Scalar.divsi v74 c2_i32_107
  let c1_i32_113 : BitVec 32 := 1#32
  let v259 : BitVec 32 := Scalar.subi v244 c1_i32_113
  let v260 : BitVec 32 := Scalar.select v258 v259 v244
  let c0_i32_114 : BitVec 32 := 0#32
  let v261 : BitVec 32 := Scalar.subi v260 c0_i32_114
  let c0_i32_116 : BitVec 32 := 0#32
  let v263 : BitVec 1 := Scalar.cmpi .sgt v261 c0_i32_116
  let v264 : BitVec 32 := Scalar.extui v263
  let c0_i32_117 : BitVec 32 := 0#32
  let v265 : BitVec 1 := Scalar.cmpi .slt v261 c0_i32_117
  let v266 : BitVec 32 := Scalar.extui v265
  let v267 : BitVec 32 := Scalar.subi v264 v266
  let c2_i32_115 : BitVec 32 := 2#32
  let c0_i32_118 : BitVec 32 := 0#32
  let v268 : BitVec 1 := Scalar.cmpi .sgt c2_i32_115 c0_i32_118
  let v269 : BitVec 32 := Scalar.extui v268
  let c0_i32_119 : BitVec 32 := 0#32
  let v270 : BitVec 1 := Scalar.cmpi .slt c2_i32_115 c0_i32_119
  let v271 : BitVec 32 := Scalar.extui v270
  let v272 : BitVec 32 := Scalar.subi v269 v271
  let v273 : BitVec 1 := Scalar.cmpi .ne v267 v272
  let v274 : BitVec 32 := Scalar.remsi v261 c2_i32_115
  let c0_i32_120 : BitVec 32 := 0#32
  let v275 : BitVec 1 := Scalar.cmpi .ne v274 c0_i32_120
  let v276 : BitVec 1 := Scalar.andi v273 v275
  let v262 : BitVec 32 := Scalar.divsi v261 c2_i32_115
  let c1_i32_121 : BitVec 32 := 1#32
  let v277 : BitVec 32 := Scalar.subi v262 c1_i32_121
  let v278 : BitVec 32 := Scalar.select v276 v277 v262
  let v286 : BitVec 32 := Scalar.muli c2_i32_127 v278
  let v287 : BitVec 32 := Scalar.addi c0_i32_128 v286
  let c0_i32_130 : BitVec 32 := 0#32
  let v289 : BitVec 1 := Scalar.cmpi .sgt v74 c0_i32_130
  let v290 : BitVec 32 := Scalar.extui v289
  let c0_i32_131 : BitVec 32 := 0#32
  let v291 : BitVec 1 := Scalar.cmpi .slt v74 c0_i32_131
  let v292 : BitVec 32 := Scalar.extui v291
  let v293 : BitVec 32 := Scalar.subi v290 v292
  let c2_i32_129 : BitVec 32 := 2#32
  let c0_i32_132 : BitVec 32 := 0#32
  let v294 : BitVec 1 := Scalar.cmpi .sgt c2_i32_129 c0_i32_132
  let v295 : BitVec 32 := Scalar.extui v294
  let c0_i32_133 : BitVec 32 := 0#32
  let v296 : BitVec 1 := Scalar.cmpi .slt c2_i32_129 c0_i32_133
  let v297 : BitVec 32 := Scalar.extui v296
  let v298 : BitVec 32 := Scalar.subi v295 v297
  let v299 : BitVec 1 := Scalar.cmpi .ne v293 v298
  let v300 : BitVec 32 := Scalar.remsi v74 c2_i32_129
  let c0_i32_134 : BitVec 32 := 0#32
  let v301 : BitVec 1 := Scalar.cmpi .ne v300 c0_i32_134
  let v302 : BitVec 1 := Scalar.andi v299 v301
  let v288 : BitVec 32 := Scalar.divsi v74 c2_i32_129
  let c1_i32_135 : BitVec 32 := 1#32
  let v303 : BitVec 32 := Scalar.subi v288 c1_i32_135
  let v304 : BitVec 32 := Scalar.select v302 v303 v288
  let v305 : BitVec 32 := Scalar.subi v304 v287
  let c1_i32_137 : BitVec 32 := 1#32
  let v307 : BitVec 32 := Scalar.divsi v305 c1_i32_137
  let v308 : BitVec 32 := Scalar.muli v307 c1_i32_137
  let v309 : BitVec 32 := Scalar.addi v287 v308
  let v306 : BitVec 32 := Scalar.addi v287 v305
  let c1_i32_139 : BitVec 32 := 1#32
  ⟨v309, v306, c1_i32_139⟩
def k0_mult86 (i : grid0.Coords) (k0_t16 : Fin (k0_t16_loop i).trips) : BitVec 32 :=
  let c2_i32_169 : BitVec 32 := 2#32
  let c0_i32_128 : BitVec 32 := 0#32
  let c2_i32_127 : BitVec 32 := 2#32
  let c2_i32 : BitVec 32 := 2#32
  let arg2 : BitVec 32 := BitVec.ofNat 32 (i 2).val
  let v74 : BitVec 32 := Scalar.muli c2_i32 arg2
  let c0_i32_108 : BitVec 32 := 0#32
  let v245 : BitVec 1 := Scalar.cmpi .sgt v74 c0_i32_108
  let v246 : BitVec 32 := Scalar.extui v245
  let c0_i32_109 : BitVec 32 := 0#32
  let v247 : BitVec 1 := Scalar.cmpi .slt v74 c0_i32_109
  let v248 : BitVec 32 := Scalar.extui v247
  let v249 : BitVec 32 := Scalar.subi v246 v248
  let c2_i32_107 : BitVec 32 := 2#32
  let c0_i32_110 : BitVec 32 := 0#32
  let v250 : BitVec 1 := Scalar.cmpi .sgt c2_i32_107 c0_i32_110
  let v251 : BitVec 32 := Scalar.extui v250
  let c0_i32_111 : BitVec 32 := 0#32
  let v252 : BitVec 1 := Scalar.cmpi .slt c2_i32_107 c0_i32_111
  let v253 : BitVec 32 := Scalar.extui v252
  let v254 : BitVec 32 := Scalar.subi v251 v253
  let v255 : BitVec 1 := Scalar.cmpi .ne v249 v254
  let v256 : BitVec 32 := Scalar.remsi v74 c2_i32_107
  let c0_i32_112 : BitVec 32 := 0#32
  let v257 : BitVec 1 := Scalar.cmpi .ne v256 c0_i32_112
  let v258 : BitVec 1 := Scalar.andi v255 v257
  let v244 : BitVec 32 := Scalar.divsi v74 c2_i32_107
  let c1_i32_113 : BitVec 32 := 1#32
  let v259 : BitVec 32 := Scalar.subi v244 c1_i32_113
  let v260 : BitVec 32 := Scalar.select v258 v259 v244
  let c0_i32_114 : BitVec 32 := 0#32
  let v261 : BitVec 32 := Scalar.subi v260 c0_i32_114
  let c0_i32_116 : BitVec 32 := 0#32
  let v263 : BitVec 1 := Scalar.cmpi .sgt v261 c0_i32_116
  let v264 : BitVec 32 := Scalar.extui v263
  let c0_i32_117 : BitVec 32 := 0#32
  let v265 : BitVec 1 := Scalar.cmpi .slt v261 c0_i32_117
  let v266 : BitVec 32 := Scalar.extui v265
  let v267 : BitVec 32 := Scalar.subi v264 v266
  let c2_i32_115 : BitVec 32 := 2#32
  let c0_i32_118 : BitVec 32 := 0#32
  let v268 : BitVec 1 := Scalar.cmpi .sgt c2_i32_115 c0_i32_118
  let v269 : BitVec 32 := Scalar.extui v268
  let c0_i32_119 : BitVec 32 := 0#32
  let v270 : BitVec 1 := Scalar.cmpi .slt c2_i32_115 c0_i32_119
  let v271 : BitVec 32 := Scalar.extui v270
  let v272 : BitVec 32 := Scalar.subi v269 v271
  let v273 : BitVec 1 := Scalar.cmpi .ne v267 v272
  let v274 : BitVec 32 := Scalar.remsi v261 c2_i32_115
  let c0_i32_120 : BitVec 32 := 0#32
  let v275 : BitVec 1 := Scalar.cmpi .ne v274 c0_i32_120
  let v276 : BitVec 1 := Scalar.andi v273 v275
  let v262 : BitVec 32 := Scalar.divsi v261 c2_i32_115
  let c1_i32_121 : BitVec 32 := 1#32
  let v277 : BitVec 32 := Scalar.subi v262 c1_i32_121
  let v278 : BitVec 32 := Scalar.select v276 v277 v262
  let v286 : BitVec 32 := Scalar.muli c2_i32_127 v278
  let v287 : BitVec 32 := Scalar.addi c0_i32_128 v286
  let c0_i32_130 : BitVec 32 := 0#32
  let v289 : BitVec 1 := Scalar.cmpi .sgt v74 c0_i32_130
  let v290 : BitVec 32 := Scalar.extui v289
  let c0_i32_131 : BitVec 32 := 0#32
  let v291 : BitVec 1 := Scalar.cmpi .slt v74 c0_i32_131
  let v292 : BitVec 32 := Scalar.extui v291
  let v293 : BitVec 32 := Scalar.subi v290 v292
  let c2_i32_129 : BitVec 32 := 2#32
  let c0_i32_132 : BitVec 32 := 0#32
  let v294 : BitVec 1 := Scalar.cmpi .sgt c2_i32_129 c0_i32_132
  let v295 : BitVec 32 := Scalar.extui v294
  let c0_i32_133 : BitVec 32 := 0#32
  let v296 : BitVec 1 := Scalar.cmpi .slt c2_i32_129 c0_i32_133
  let v297 : BitVec 32 := Scalar.extui v296
  let v298 : BitVec 32 := Scalar.subi v295 v297
  let v299 : BitVec 1 := Scalar.cmpi .ne v293 v298
  let v300 : BitVec 32 := Scalar.remsi v74 c2_i32_129
  let c0_i32_134 : BitVec 32 := 0#32
  let v301 : BitVec 1 := Scalar.cmpi .ne v300 c0_i32_134
  let v302 : BitVec 1 := Scalar.andi v299 v301
  let v288 : BitVec 32 := Scalar.divsi v74 c2_i32_129
  let c1_i32_135 : BitVec 32 := 1#32
  let v303 : BitVec 32 := Scalar.subi v288 c1_i32_135
  let v304 : BitVec 32 := Scalar.select v302 v303 v288
  let v305 : BitVec 32 := Scalar.subi v304 v287
  let c1_i32_137 : BitVec 32 := 1#32
  let v307 : BitVec 32 := Scalar.divsi v305 c1_i32_137
  let v308 : BitVec 32 := Scalar.muli v307 c1_i32_137
  let v309 : BitVec 32 := Scalar.addi v287 v308
  let c1_i32_139 : BitVec 32 := 1#32
  let arg18 : BitVec 32 := Scf.iv v309 c1_i32_139 k0_t16
  let c0_i32_168 : BitVec 32 := 0#32
  let v391 : BitVec 32 := Scalar.addi arg18 c0_i32_168
  let v392 : BitVec 32 := Scalar.muli c2_i32_169 v391
  let c1_i32_170 : BitVec 32 := 1#32
  let v393 : BitVec 32 := Scalar.addi v392 c1_i32_170
  let c512_i32_171 : BitVec 32 := 512#32
  let v394 : BitVec 32 := Scalar.muli v393 c512_i32_171
  v394
def k0_off104 (i : grid0.Coords) (k0_t16 : Fin (k0_t16_loop i).trips) (c1_i32_170 : BitVec 32) : Fin 3 → Nat :=
  let c0_172 : Index := 0#32
  let c2_i32_169 : BitVec 32 := 2#32
  let c0_i32_128 : BitVec 32 := 0#32
  let c2_i32_127 : BitVec 32 := 2#32
  let c2_i32 : BitVec 32 := 2#32
  let arg2 : BitVec 32 := BitVec.ofNat 32 (i 2).val
  let v74 : BitVec 32 := Scalar.muli c2_i32 arg2
  let c0_i32_108 : BitVec 32 := 0#32
  let v245 : BitVec 1 := Scalar.cmpi .sgt v74 c0_i32_108
  let v246 : BitVec 32 := Scalar.extui v245
  let c0_i32_109 : BitVec 32 := 0#32
  let v247 : BitVec 1 := Scalar.cmpi .slt v74 c0_i32_109
  let v248 : BitVec 32 := Scalar.extui v247
  let v249 : BitVec 32 := Scalar.subi v246 v248
  let c2_i32_107 : BitVec 32 := 2#32
  let c0_i32_110 : BitVec 32 := 0#32
  let v250 : BitVec 1 := Scalar.cmpi .sgt c2_i32_107 c0_i32_110
  let v251 : BitVec 32 := Scalar.extui v250
  let c0_i32_111 : BitVec 32 := 0#32
  let v252 : BitVec 1 := Scalar.cmpi .slt c2_i32_107 c0_i32_111
  let v253 : BitVec 32 := Scalar.extui v252
  let v254 : BitVec 32 := Scalar.subi v251 v253
  let v255 : BitVec 1 := Scalar.cmpi .ne v249 v254
  let v256 : BitVec 32 := Scalar.remsi v74 c2_i32_107
  let c0_i32_112 : BitVec 32 := 0#32
  let v257 : BitVec 1 := Scalar.cmpi .ne v256 c0_i32_112
  let v258 : BitVec 1 := Scalar.andi v255 v257
  let v244 : BitVec 32 := Scalar.divsi v74 c2_i32_107
  let c1_i32_113 : BitVec 32 := 1#32
  let v259 : BitVec 32 := Scalar.subi v244 c1_i32_113
  let v260 : BitVec 32 := Scalar.select v258 v259 v244
  let c0_i32_114 : BitVec 32 := 0#32
  let v261 : BitVec 32 := Scalar.subi v260 c0_i32_114
  let c0_i32_116 : BitVec 32 := 0#32
  let v263 : BitVec 1 := Scalar.cmpi .sgt v261 c0_i32_116
  let v264 : BitVec 32 := Scalar.extui v263
  let c0_i32_117 : BitVec 32 := 0#32
  let v265 : BitVec 1 := Scalar.cmpi .slt v261 c0_i32_117
  let v266 : BitVec 32 := Scalar.extui v265
  let v267 : BitVec 32 := Scalar.subi v264 v266
  let c2_i32_115 : BitVec 32 := 2#32
  let c0_i32_118 : BitVec 32 := 0#32
  let v268 : BitVec 1 := Scalar.cmpi .sgt c2_i32_115 c0_i32_118
  let v269 : BitVec 32 := Scalar.extui v268
  let c0_i32_119 : BitVec 32 := 0#32
  let v270 : BitVec 1 := Scalar.cmpi .slt c2_i32_115 c0_i32_119
  let v271 : BitVec 32 := Scalar.extui v270
  let v272 : BitVec 32 := Scalar.subi v269 v271
  let v273 : BitVec 1 := Scalar.cmpi .ne v267 v272
  let v274 : BitVec 32 := Scalar.remsi v261 c2_i32_115
  let c0_i32_120 : BitVec 32 := 0#32
  let v275 : BitVec 1 := Scalar.cmpi .ne v274 c0_i32_120
  let v276 : BitVec 1 := Scalar.andi v273 v275
  let v262 : BitVec 32 := Scalar.divsi v261 c2_i32_115
  let c1_i32_121 : BitVec 32 := 1#32
  let v277 : BitVec 32 := Scalar.subi v262 c1_i32_121
  let v278 : BitVec 32 := Scalar.select v276 v277 v262
  let v286 : BitVec 32 := Scalar.muli c2_i32_127 v278
  let v287 : BitVec 32 := Scalar.addi c0_i32_128 v286
  let c0_i32_130 : BitVec 32 := 0#32
  let v289 : BitVec 1 := Scalar.cmpi .sgt v74 c0_i32_130
  let v290 : BitVec 32 := Scalar.extui v289
  let c0_i32_131 : BitVec 32 := 0#32
  let v291 : BitVec 1 := Scalar.cmpi .slt v74 c0_i32_131
  let v292 : BitVec 32 := Scalar.extui v291
  let v293 : BitVec 32 := Scalar.subi v290 v292
  let c2_i32_129 : BitVec 32 := 2#32
  let c0_i32_132 : BitVec 32 := 0#32
  let v294 : BitVec 1 := Scalar.cmpi .sgt c2_i32_129 c0_i32_132
  let v295 : BitVec 32 := Scalar.extui v294
  let c0_i32_133 : BitVec 32 := 0#32
  let v296 : BitVec 1 := Scalar.cmpi .slt c2_i32_129 c0_i32_133
  let v297 : BitVec 32 := Scalar.extui v296
  let v298 : BitVec 32 := Scalar.subi v295 v297
  let v299 : BitVec 1 := Scalar.cmpi .ne v293 v298
  let v300 : BitVec 32 := Scalar.remsi v74 c2_i32_129
  let c0_i32_134 : BitVec 32 := 0#32
  let v301 : BitVec 1 := Scalar.cmpi .ne v300 c0_i32_134
  let v302 : BitVec 1 := Scalar.andi v299 v301
  let v288 : BitVec 32 := Scalar.divsi v74 c2_i32_129
  let c1_i32_135 : BitVec 32 := 1#32
  let v303 : BitVec 32 := Scalar.subi v288 c1_i32_135
  let v304 : BitVec 32 := Scalar.select v302 v303 v288
  let v305 : BitVec 32 := Scalar.subi v304 v287
  let c1_i32_137 : BitVec 32 := 1#32
  let v307 : BitVec 32 := Scalar.divsi v305 c1_i32_137
  let v308 : BitVec 32 := Scalar.muli v307 c1_i32_137
  let v309 : BitVec 32 := Scalar.addi v287 v308
  let c1_i32_139 : BitVec 32 := 1#32
  let arg18 : BitVec 32 := Scf.iv v309 c1_i32_139 k0_t16
  let c0_i32_168 : BitVec 32 := 0#32
  let v391 : BitVec 32 := Scalar.addi arg18 c0_i32_168
  let v392 : BitVec 32 := Scalar.muli c2_i32_169 v391
  let v393 : BitVec 32 := Scalar.addi v392 c1_i32_170
  let c512_i32_171 : BitVec 32 := 512#32
  let v394 : BitVec 32 := Scalar.muli v393 c512_i32_171
  let v395 : BitVec 32 := v394
  let v396 : Index := Scalar.indexCast v395
  let c0_173 : Index := 0#32
  ![0, v396.toNat, 0]
def k0_off105 (i : grid0.Coords) (k0_t16 : Fin (k0_t16_loop i).trips) : Fin 4 → Nat :=
  let c0_185 : Index := 0#32
  let c2_i32_184 : BitVec 32 := 2#32
  let c0_i32_128 : BitVec 32 := 0#32
  let c2_i32_127 : BitVec 32 := 2#32
  let c2_i32 : BitVec 32 := 2#32
  let arg2 : BitVec 32 := BitVec.ofNat 32 (i 2).val
  let v74 : BitVec 32 := Scalar.muli c2_i32 arg2
  let c0_i32_108 : BitVec 32 := 0#32
  let v245 : BitVec 1 := Scalar.cmpi .sgt v74 c0_i32_108
  let v246 : BitVec 32 := Scalar.extui v245
  let c0_i32_109 : BitVec 32 := 0#32
  let v247 : BitVec 1 := Scalar.cmpi .slt v74 c0_i32_109
  let v248 : BitVec 32 := Scalar.extui v247
  let v249 : BitVec 32 := Scalar.subi v246 v248
  let c2_i32_107 : BitVec 32 := 2#32
  let c0_i32_110 : BitVec 32 := 0#32
  let v250 : BitVec 1 := Scalar.cmpi .sgt c2_i32_107 c0_i32_110
  let v251 : BitVec 32 := Scalar.extui v250
  let c0_i32_111 : BitVec 32 := 0#32
  let v252 : BitVec 1 := Scalar.cmpi .slt c2_i32_107 c0_i32_111
  let v253 : BitVec 32 := Scalar.extui v252
  let v254 : BitVec 32 := Scalar.subi v251 v253
  let v255 : BitVec 1 := Scalar.cmpi .ne v249 v254
  let v256 : BitVec 32 := Scalar.remsi v74 c2_i32_107
  let c0_i32_112 : BitVec 32 := 0#32
  let v257 : BitVec 1 := Scalar.cmpi .ne v256 c0_i32_112
  let v258 : BitVec 1 := Scalar.andi v255 v257
  let v244 : BitVec 32 := Scalar.divsi v74 c2_i32_107
  let c1_i32_113 : BitVec 32 := 1#32
  let v259 : BitVec 32 := Scalar.subi v244 c1_i32_113
  let v260 : BitVec 32 := Scalar.select v258 v259 v244
  let c0_i32_114 : BitVec 32 := 0#32
  let v261 : BitVec 32 := Scalar.subi v260 c0_i32_114
  let c0_i32_116 : BitVec 32 := 0#32
  let v263 : BitVec 1 := Scalar.cmpi .sgt v261 c0_i32_116
  let v264 : BitVec 32 := Scalar.extui v263
  let c0_i32_117 : BitVec 32 := 0#32
  let v265 : BitVec 1 := Scalar.cmpi .slt v261 c0_i32_117
  let v266 : BitVec 32 := Scalar.extui v265
  let v267 : BitVec 32 := Scalar.subi v264 v266
  let c2_i32_115 : BitVec 32 := 2#32
  let c0_i32_118 : BitVec 32 := 0#32
  let v268 : BitVec 1 := Scalar.cmpi .sgt c2_i32_115 c0_i32_118
  let v269 : BitVec 32 := Scalar.extui v268
  let c0_i32_119 : BitVec 32 := 0#32
  let v270 : BitVec 1 := Scalar.cmpi .slt c2_i32_115 c0_i32_119
  let v271 : BitVec 32 := Scalar.extui v270
  let v272 : BitVec 32 := Scalar.subi v269 v271
  let v273 : BitVec 1 := Scalar.cmpi .ne v267 v272
  let v274 : BitVec 32 := Scalar.remsi v261 c2_i32_115
  let c0_i32_120 : BitVec 32 := 0#32
  let v275 : BitVec 1 := Scalar.cmpi .ne v274 c0_i32_120
  let v276 : BitVec 1 := Scalar.andi v273 v275
  let v262 : BitVec 32 := Scalar.divsi v261 c2_i32_115
  let c1_i32_121 : BitVec 32 := 1#32
  let v277 : BitVec 32 := Scalar.subi v262 c1_i32_121
  let v278 : BitVec 32 := Scalar.select v276 v277 v262
  let v286 : BitVec 32 := Scalar.muli c2_i32_127 v278
  let v287 : BitVec 32 := Scalar.addi c0_i32_128 v286
  let c0_i32_130 : BitVec 32 := 0#32
  let v289 : BitVec 1 := Scalar.cmpi .sgt v74 c0_i32_130
  let v290 : BitVec 32 := Scalar.extui v289
  let c0_i32_131 : BitVec 32 := 0#32
  let v291 : BitVec 1 := Scalar.cmpi .slt v74 c0_i32_131
  let v292 : BitVec 32 := Scalar.extui v291
  let v293 : BitVec 32 := Scalar.subi v290 v292
  let c2_i32_129 : BitVec 32 := 2#32
  let c0_i32_132 : BitVec 32 := 0#32
  let v294 : BitVec 1 := Scalar.cmpi .sgt c2_i32_129 c0_i32_132
  let v295 : BitVec 32 := Scalar.extui v294
  let c0_i32_133 : BitVec 32 := 0#32
  let v296 : BitVec 1 := Scalar.cmpi .slt c2_i32_129 c0_i32_133
  let v297 : BitVec 32 := Scalar.extui v296
  let v298 : BitVec 32 := Scalar.subi v295 v297
  let v299 : BitVec 1 := Scalar.cmpi .ne v293 v298
  let v300 : BitVec 32 := Scalar.remsi v74 c2_i32_129
  let c0_i32_134 : BitVec 32 := 0#32
  let v301 : BitVec 1 := Scalar.cmpi .ne v300 c0_i32_134
  let v302 : BitVec 1 := Scalar.andi v299 v301
  let v288 : BitVec 32 := Scalar.divsi v74 c2_i32_129
  let c1_i32_135 : BitVec 32 := 1#32
  let v303 : BitVec 32 := Scalar.subi v288 c1_i32_135
  let v304 : BitVec 32 := Scalar.select v302 v303 v288
  let v305 : BitVec 32 := Scalar.subi v304 v287
  let c1_i32_137 : BitVec 32 := 1#32
  let v307 : BitVec 32 := Scalar.divsi v305 c1_i32_137
  let v308 : BitVec 32 := Scalar.muli v307 c1_i32_137
  let v309 : BitVec 32 := Scalar.addi v287 v308
  let c1_i32_139 : BitVec 32 := 1#32
  let arg18 : BitVec 32 := Scf.iv v309 c1_i32_139 k0_t16
  let c0_i32_183 : BitVec 32 := 0#32
  let v411 : BitVec 32 := Scalar.addi arg18 c0_i32_183
  let v412 : BitVec 32 := Scalar.muli c2_i32_184 v411
  let v413 : Index := Scalar.indexCast v412
  let c64_186 : Index := 64#32
  let c0_187 : Index := 0#32
  ![0, v413.toNat, 64, 0]
def k0_mult87 (i : grid0.Coords) (k0_t16 : Fin (k0_t16_loop i).trips) : BitVec 32 :=
  let c2_i32_192 : BitVec 32 := 2#32
  let c0_i32_128 : BitVec 32 := 0#32
  let c2_i32_127 : BitVec 32 := 2#32
  let c2_i32 : BitVec 32 := 2#32
  let arg2 : BitVec 32 := BitVec.ofNat 32 (i 2).val
  let v74 : BitVec 32 := Scalar.muli c2_i32 arg2
  let c0_i32_108 : BitVec 32 := 0#32
  let v245 : BitVec 1 := Scalar.cmpi .sgt v74 c0_i32_108
  let v246 : BitVec 32 := Scalar.extui v245
  let c0_i32_109 : BitVec 32 := 0#32
  let v247 : BitVec 1 := Scalar.cmpi .slt v74 c0_i32_109
  let v248 : BitVec 32 := Scalar.extui v247
  let v249 : BitVec 32 := Scalar.subi v246 v248
  let c2_i32_107 : BitVec 32 := 2#32
  let c0_i32_110 : BitVec 32 := 0#32
  let v250 : BitVec 1 := Scalar.cmpi .sgt c2_i32_107 c0_i32_110
  let v251 : BitVec 32 := Scalar.extui v250
  let c0_i32_111 : BitVec 32 := 0#32
  let v252 : BitVec 1 := Scalar.cmpi .slt c2_i32_107 c0_i32_111
  let v253 : BitVec 32 := Scalar.extui v252
  let v254 : BitVec 32 := Scalar.subi v251 v253
  let v255 : BitVec 1 := Scalar.cmpi .ne v249 v254
  let v256 : BitVec 32 := Scalar.remsi v74 c2_i32_107
  let c0_i32_112 : BitVec 32 := 0#32
  let v257 : BitVec 1 := Scalar.cmpi .ne v256 c0_i32_112
  let v258 : BitVec 1 := Scalar.andi v255 v257
  let v244 : BitVec 32 := Scalar.divsi v74 c2_i32_107
  let c1_i32_113 : BitVec 32 := 1#32
  let v259 : BitVec 32 := Scalar.subi v244 c1_i32_113
  let v260 : BitVec 32 := Scalar.select v258 v259 v244
  let c0_i32_114 : BitVec 32 := 0#32
  let v261 : BitVec 32 := Scalar.subi v260 c0_i32_114
  let c0_i32_116 : BitVec 32 := 0#32
  let v263 : BitVec 1 := Scalar.cmpi .sgt v261 c0_i32_116
  let v264 : BitVec 32 := Scalar.extui v263
  let c0_i32_117 : BitVec 32 := 0#32
  let v265 : BitVec 1 := Scalar.cmpi .slt v261 c0_i32_117
  let v266 : BitVec 32 := Scalar.extui v265
  let v267 : BitVec 32 := Scalar.subi v264 v266
  let c2_i32_115 : BitVec 32 := 2#32
  let c0_i32_118 : BitVec 32 := 0#32
  let v268 : BitVec 1 := Scalar.cmpi .sgt c2_i32_115 c0_i32_118
  let v269 : BitVec 32 := Scalar.extui v268
  let c0_i32_119 : BitVec 32 := 0#32
  let v270 : BitVec 1 := Scalar.cmpi .slt c2_i32_115 c0_i32_119
  let v271 : BitVec 32 := Scalar.extui v270
  let v272 : BitVec 32 := Scalar.subi v269 v271
  let v273 : BitVec 1 := Scalar.cmpi .ne v267 v272
  let v274 : BitVec 32 := Scalar.remsi v261 c2_i32_115
  let c0_i32_120 : BitVec 32 := 0#32
  let v275 : BitVec 1 := Scalar.cmpi .ne v274 c0_i32_120
  let v276 : BitVec 1 := Scalar.andi v273 v275
  let v262 : BitVec 32 := Scalar.divsi v261 c2_i32_115
  let c1_i32_121 : BitVec 32 := 1#32
  let v277 : BitVec 32 := Scalar.subi v262 c1_i32_121
  let v278 : BitVec 32 := Scalar.select v276 v277 v262
  let v286 : BitVec 32 := Scalar.muli c2_i32_127 v278
  let v287 : BitVec 32 := Scalar.addi c0_i32_128 v286
  let c0_i32_130 : BitVec 32 := 0#32
  let v289 : BitVec 1 := Scalar.cmpi .sgt v74 c0_i32_130
  let v290 : BitVec 32 := Scalar.extui v289
  let c0_i32_131 : BitVec 32 := 0#32
  let v291 : BitVec 1 := Scalar.cmpi .slt v74 c0_i32_131
  let v292 : BitVec 32 := Scalar.extui v291
  let v293 : BitVec 32 := Scalar.subi v290 v292
  let c2_i32_129 : BitVec 32 := 2#32
  let c0_i32_132 : BitVec 32 := 0#32
  let v294 : BitVec 1 := Scalar.cmpi .sgt c2_i32_129 c0_i32_132
  let v295 : BitVec 32 := Scalar.extui v294
  let c0_i32_133 : BitVec 32 := 0#32
  let v296 : BitVec 1 := Scalar.cmpi .slt c2_i32_129 c0_i32_133
  let v297 : BitVec 32 := Scalar.extui v296
  let v298 : BitVec 32 := Scalar.subi v295 v297
  let v299 : BitVec 1 := Scalar.cmpi .ne v293 v298
  let v300 : BitVec 32 := Scalar.remsi v74 c2_i32_129
  let c0_i32_134 : BitVec 32 := 0#32
  let v301 : BitVec 1 := Scalar.cmpi .ne v300 c0_i32_134
  let v302 : BitVec 1 := Scalar.andi v299 v301
  let v288 : BitVec 32 := Scalar.divsi v74 c2_i32_129
  let c1_i32_135 : BitVec 32 := 1#32
  let v303 : BitVec 32 := Scalar.subi v288 c1_i32_135
  let v304 : BitVec 32 := Scalar.select v302 v303 v288
  let v305 : BitVec 32 := Scalar.subi v304 v287
  let c1_i32_137 : BitVec 32 := 1#32
  let v307 : BitVec 32 := Scalar.divsi v305 c1_i32_137
  let v308 : BitVec 32 := Scalar.muli v307 c1_i32_137
  let v309 : BitVec 32 := Scalar.addi v287 v308
  let c1_i32_139 : BitVec 32 := 1#32
  let arg18 : BitVec 32 := Scf.iv v309 c1_i32_139 k0_t16
  let c0_i32_191 : BitVec 32 := 0#32
  let v433 : BitVec 32 := Scalar.addi arg18 c0_i32_191
  let v434 : BitVec 32 := Scalar.muli c2_i32_192 v433
  let c2_i32_193 : BitVec 32 := 2#32
  let v435 : BitVec 32 := Scalar.addi v434 c2_i32_193
  let c512_i32_194 : BitVec 32 := 512#32
  let v436 : BitVec 32 := Scalar.muli v435 c512_i32_194
  v436
def k0_off106 (i : grid0.Coords) (k0_t16 : Fin (k0_t16_loop i).trips) : Fin 4 → Nat :=
  let c0_209 : Index := 0#32
  let c2_i32_207 : BitVec 32 := 2#32
  let c0_i32_128 : BitVec 32 := 0#32
  let c2_i32_127 : BitVec 32 := 2#32
  let c2_i32 : BitVec 32 := 2#32
  let arg2 : BitVec 32 := BitVec.ofNat 32 (i 2).val
  let v74 : BitVec 32 := Scalar.muli c2_i32 arg2
  let c0_i32_108 : BitVec 32 := 0#32
  let v245 : BitVec 1 := Scalar.cmpi .sgt v74 c0_i32_108
  let v246 : BitVec 32 := Scalar.extui v245
  let c0_i32_109 : BitVec 32 := 0#32
  let v247 : BitVec 1 := Scalar.cmpi .slt v74 c0_i32_109
  let v248 : BitVec 32 := Scalar.extui v247
  let v249 : BitVec 32 := Scalar.subi v246 v248
  let c2_i32_107 : BitVec 32 := 2#32
  let c0_i32_110 : BitVec 32 := 0#32
  let v250 : BitVec 1 := Scalar.cmpi .sgt c2_i32_107 c0_i32_110
  let v251 : BitVec 32 := Scalar.extui v250
  let c0_i32_111 : BitVec 32 := 0#32
  let v252 : BitVec 1 := Scalar.cmpi .slt c2_i32_107 c0_i32_111
  let v253 : BitVec 32 := Scalar.extui v252
  let v254 : BitVec 32 := Scalar.subi v251 v253
  let v255 : BitVec 1 := Scalar.cmpi .ne v249 v254
  let v256 : BitVec 32 := Scalar.remsi v74 c2_i32_107
  let c0_i32_112 : BitVec 32 := 0#32
  let v257 : BitVec 1 := Scalar.cmpi .ne v256 c0_i32_112
  let v258 : BitVec 1 := Scalar.andi v255 v257
  let v244 : BitVec 32 := Scalar.divsi v74 c2_i32_107
  let c1_i32_113 : BitVec 32 := 1#32
  let v259 : BitVec 32 := Scalar.subi v244 c1_i32_113
  let v260 : BitVec 32 := Scalar.select v258 v259 v244
  let c0_i32_114 : BitVec 32 := 0#32
  let v261 : BitVec 32 := Scalar.subi v260 c0_i32_114
  let c0_i32_116 : BitVec 32 := 0#32
  let v263 : BitVec 1 := Scalar.cmpi .sgt v261 c0_i32_116
  let v264 : BitVec 32 := Scalar.extui v263
  let c0_i32_117 : BitVec 32 := 0#32
  let v265 : BitVec 1 := Scalar.cmpi .slt v261 c0_i32_117
  let v266 : BitVec 32 := Scalar.extui v265
  let v267 : BitVec 32 := Scalar.subi v264 v266
  let c2_i32_115 : BitVec 32 := 2#32
  let c0_i32_118 : BitVec 32 := 0#32
  let v268 : BitVec 1 := Scalar.cmpi .sgt c2_i32_115 c0_i32_118
  let v269 : BitVec 32 := Scalar.extui v268
  let c0_i32_119 : BitVec 32 := 0#32
  let v270 : BitVec 1 := Scalar.cmpi .slt c2_i32_115 c0_i32_119
  let v271 : BitVec 32 := Scalar.extui v270
  let v272 : BitVec 32 := Scalar.subi v269 v271
  let v273 : BitVec 1 := Scalar.cmpi .ne v267 v272
  let v274 : BitVec 32 := Scalar.remsi v261 c2_i32_115
  let c0_i32_120 : BitVec 32 := 0#32
  let v275 : BitVec 1 := Scalar.cmpi .ne v274 c0_i32_120
  let v276 : BitVec 1 := Scalar.andi v273 v275
  let v262 : BitVec 32 := Scalar.divsi v261 c2_i32_115
  let c1_i32_121 : BitVec 32 := 1#32
  let v277 : BitVec 32 := Scalar.subi v262 c1_i32_121
  let v278 : BitVec 32 := Scalar.select v276 v277 v262
  let v286 : BitVec 32 := Scalar.muli c2_i32_127 v278
  let v287 : BitVec 32 := Scalar.addi c0_i32_128 v286
  let c0_i32_130 : BitVec 32 := 0#32
  let v289 : BitVec 1 := Scalar.cmpi .sgt v74 c0_i32_130
  let v290 : BitVec 32 := Scalar.extui v289
  let c0_i32_131 : BitVec 32 := 0#32
  let v291 : BitVec 1 := Scalar.cmpi .slt v74 c0_i32_131
  let v292 : BitVec 32 := Scalar.extui v291
  let v293 : BitVec 32 := Scalar.subi v290 v292
  let c2_i32_129 : BitVec 32 := 2#32
  let c0_i32_132 : BitVec 32 := 0#32
  let v294 : BitVec 1 := Scalar.cmpi .sgt c2_i32_129 c0_i32_132
  let v295 : BitVec 32 := Scalar.extui v294
  let c0_i32_133 : BitVec 32 := 0#32
  let v296 : BitVec 1 := Scalar.cmpi .slt c2_i32_129 c0_i32_133
  let v297 : BitVec 32 := Scalar.extui v296
  let v298 : BitVec 32 := Scalar.subi v295 v297
  let v299 : BitVec 1 := Scalar.cmpi .ne v293 v298
  let v300 : BitVec 32 := Scalar.remsi v74 c2_i32_129
  let c0_i32_134 : BitVec 32 := 0#32
  let v301 : BitVec 1 := Scalar.cmpi .ne v300 c0_i32_134
  let v302 : BitVec 1 := Scalar.andi v299 v301
  let v288 : BitVec 32 := Scalar.divsi v74 c2_i32_129
  let c1_i32_135 : BitVec 32 := 1#32
  let v303 : BitVec 32 := Scalar.subi v288 c1_i32_135
  let v304 : BitVec 32 := Scalar.select v302 v303 v288
  let v305 : BitVec 32 := Scalar.subi v304 v287
  let c1_i32_137 : BitVec 32 := 1#32
  let v307 : BitVec 32 := Scalar.divsi v305 c1_i32_137
  let v308 : BitVec 32 := Scalar.muli v307 c1_i32_137
  let v309 : BitVec 32 := Scalar.addi v287 v308
  let c1_i32_139 : BitVec 32 := 1#32
  let arg18 : BitVec 32 := Scf.iv v309 c1_i32_139 k0_t16
  let c0_i32_206 : BitVec 32 := 0#32
  let v453 : BitVec 32 := Scalar.addi arg18 c0_i32_206
  let v454 : BitVec 32 := Scalar.muli c2_i32_207 v453
  let c1_i32_208 : BitVec 32 := 1#32
  let v455 : BitVec 32 := Scalar.addi v454 c1_i32_208
  let v456 : Index := Scalar.indexCast v455
  let c64_210 : Index := 64#32
  let c0_211 : Index := 0#32
  ![0, v456.toNat, 64, 0]
def k0_mult88 (i : grid0.Coords) : BitVec 32 :=
  let c2_i32 : BitVec 32 := 2#32
  let arg2 : BitVec 32 := BitVec.ofNat 32 (i 2).val
  let v74 : BitVec 32 := Scalar.muli c2_i32 arg2
  let c1_i32_140 : BitVec 32 := 1#32
  let v312 : BitVec 32 := Scalar.addi v74 c1_i32_140
  let c512_i32_141 : BitVec 32 := 512#32
  let v313 : BitVec 32 := Scalar.muli v312 c512_i32_141
  v313
def k0_off107 (i : grid0.Coords) : Fin 4 → Nat :=
  let c0_152 : Index := 0#32
  let c2_i32 : BitVec 32 := 2#32
  let arg2 : BitVec 32 := BitVec.ofNat 32 (i 2).val
  let v74 : BitVec 32 := Scalar.muli c2_i32 arg2
  let v333 : Index := Scalar.indexCast v74
  let c64 : Index := 64#32
  let c0_153 : Index := 0#32
  ![0, v333.toNat, 64, 0]
def k0_off108 (i : grid0.Coords) : Fin 4 → Nat :=
  let c0_159 : Index := 0#32
  let c2_i32 : BitVec 32 := 2#32
  let arg2 : BitVec 32 := BitVec.ofNat 32 (i 2).val
  let v74 : BitVec 32 := Scalar.muli c2_i32 arg2
  let c1_i32_157 : BitVec 32 := 1#32
  let v356 : BitVec 32 := Scalar.addi v74 c1_i32_157
  let v359 : Index := Scalar.indexCast v356
  let c64_160 : Index := 64#32
  let c0_161 : Index := 0#32
  ![0, v359.toNat, 64, 0]
def k0_cond6 (v6 : BitVec 32) : BitVec 1 :=
  let c0_i32_8 : BitVec 32 := 0#32
  let v10 : BitVec 1 := Scalar.cmpi .ne v6 c0_i32_8
  let v11 : BitVec 32 := Scalar.extui v10
  let c0_i32_9 : BitVec 32 := 0#32
  let v12 : BitVec 1 := Scalar.cmpi .ne v11 c0_i32_9
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli v1 c4_i32
  let v3 : BitVec 32 := Scalar.addi v2 arg2
  let c0_i32 : BitVec 32 := 0#32
  let c0_i32_0 : BitVec 32 := 0#32
  ![v3.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli v1 c4_i32
  let v3 : BitVec 32 := Scalar.addi v2 arg2
  let c0_i32 : BitVec 32 := 0#32
  let c0_i32_0 : BitVec 32 := 0#32
  ![v3.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli v1 c4_i32
  let v3 : BitVec 32 := Scalar.addi v2 arg2
  let c0_i32 : BitVec 32 := 0#32
  let c0_i32_0 : BitVec 32 := 0#32
  ![v3.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli v1 c4_i32
  let v3 : BitVec 32 := Scalar.addi v2 arg2
  let c0_i32 : BitVec 32 := 0#32
  let c0_i32_0 : BitVec 32 := 0#32
  ![v3.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x8x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S16x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S16x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S64x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== Kernel3Ideal.lean ====
variable {F : FTy → Type} [FloatOps F] [Named F]
def κ : String → Option EReal := fun
  | "mask" => some ⊥
  | _ => none
-- ==== Reference3Ideal.lean ====
abbrev S257 : Shape := ⟨1, ![257]⟩
abbrev S4x1024x4096 : Shape := ⟨3, ![4, 1024, 4096]⟩
abbrev S4x4096x1024 : Shape := ⟨3, ![4, 4096, 1024]⟩
abbrev S4x8x1024x512 : Shape := ⟨4, ![4, 8, 1024, 512]⟩
abbrev S2048x4096 : Shape := ⟨2, ![2048, 4096]⟩
abbrev S8192x1024 : Shape := ⟨2, ![8192, 1024]⟩
abbrev S4x16x64x4096 : Shape := ⟨4, ![4, 16, 64, 4096]⟩
abbrev S4x16x4096x64 : Shape := ⟨4, ![4, 16, 4096, 64]⟩
abbrev S4x4096x16x64 : Shape := ⟨4, ![4, 4096, 16, 64]⟩
abbrev S4x8x512x1024 : Shape := ⟨4, ![4, 8, 512, 1024]⟩
abbrev S4x8x128x4096 : Shape := ⟨4, ![4, 8, 128, 4096]⟩
abbrev S4x8x6x4096 : Shape := ⟨4, ![4, 8, 6, 4096]⟩
abbrev S4x16x3x4096 : Shape := ⟨4, ![4, 16, 3, 4096]⟩
abbrev S_ : Shape := ⟨0, ![]⟩
abbrev S4x16x4096 : Shape := ⟨3, ![4, 16, 4096]⟩
abbrev S4x4096x8x128 : Shape := ⟨4, ![4, 4096, 8, 128]⟩
abbrev S4x4096x8x6 : Shape := ⟨4, ![4, 4096, 8, 6]⟩
abbrev S4x4096x16x3 : Shape := ⟨4, ![4, 4096, 16, 3]⟩
abbrev S4x4096x16 : Shape := ⟨3, ![4, 4096, 16]⟩
abbrev S4x16x4096x4096 : Shape := ⟨4, ![4, 16, 4096, 4096]⟩
abbrev S4x16x4096x1 : Shape := ⟨4, ![4, 16, 4096, 1]⟩
abbrev S4x16x1x4096 : Shape := ⟨4, ![4, 16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩

abbrev nBuf : Space → Nat
  | .hbm => 70
  | .vmem => 0
  | .smem => 0
  | _ => 0

abbrev bufTy : (tb : Table) → Fin (tcTables nBuf tb) → BufTy
  | .hbm, ⟨0, _⟩ => ⟨S257, .i32⟩
  | .hbm, ⟨1, _⟩ => ⟨S4x1024x4096, .bf16⟩
  | .hbm, ⟨2, _⟩ => ⟨S4x1024x4096, .bf16⟩
  | .hbm, ⟨3, _⟩ => ⟨S4x4096x1024, .bf16⟩
  | .hbm, ⟨4, _⟩ => ⟨S4x4096x1024, .bf16⟩
  | .hbm, ⟨5, _⟩ => ⟨S4x8x1024x512, .bf16⟩
  | .hbm, ⟨6, _⟩ => ⟨S2048x4096, .f32⟩
  | .hbm, ⟨7, _⟩ => ⟨S8192x1024, .f32⟩
  | .hbm, ⟨8, _⟩ => ⟨S4x1024x4096, .f32⟩
  | .hbm, ⟨9, _⟩ => ⟨S4x16x64x4096, .f32⟩
  | .hbm, ⟨10, _⟩ => ⟨S4x16x4096x64, .f32⟩
  | .hbm, ⟨11, _⟩ => ⟨S4x4096x1024, .f32⟩
  | .hbm, ⟨12, _⟩ => ⟨S4x4096x16x64, .f32⟩
  | .hbm, ⟨13, _⟩ => ⟨S4x16x4096x64, .f32⟩
  | .hbm, ⟨14, _⟩ => ⟨S4x8x1024x512, .f32⟩
  | .hbm, ⟨15, _⟩ => ⟨S4x8x512x1024, .f32⟩
  | .hbm, ⟨16, _⟩ => ⟨S4x4096x16x64, .f32⟩
  | .hbm, ⟨17, _⟩ => ⟨S4x16x4096x64, .f32⟩
  | .hbm, ⟨18, _⟩ => ⟨S4x1024x4096, .f32⟩
  | .hbm, ⟨19, _⟩ => ⟨S4x8x128x4096, .f32⟩
  | .hbm, ⟨20, _⟩ => ⟨S4x8x6x4096, .f32⟩
  | .hbm, ⟨21, _⟩ => ⟨S4x16x3x4096, .f32⟩
  | .hbm, ⟨22, _⟩ => ⟨S_, .f32⟩
  | .hbm, ⟨23, _⟩ => ⟨S4x16x4096, .f32⟩
  | .hbm, ⟨24, _⟩ => ⟨S4x4096x1024, .f32⟩
  | .hbm, ⟨25, _⟩ => ⟨S4x4096x8x128, .f32⟩
  | .hbm, ⟨26, _⟩ => ⟨S4x4096x8x6, .f32⟩
  | .hbm, ⟨27, _⟩ => ⟨S4x4096x16x3, .f32⟩
  | .hbm, ⟨28, _⟩ => ⟨S_, .f32⟩
  | .hbm, ⟨29, _⟩ => ⟨S4x4096x16, .f32⟩
  | .hbm, ⟨30, _⟩ => ⟨S4x16x4096, .f32⟩
  | .hbm, ⟨31, _⟩ => ⟨S4x16x4096x4096, .f32⟩
  | .hbm, ⟨32, _⟩ => ⟨S4x16x4096x1, .f32⟩
  | .hbm, ⟨33, _⟩ => ⟨S4x16x4096x4096, .f32⟩
  | .hbm, ⟨34, _⟩ => ⟨S4x16x4096x4096, .f32⟩
  | .hbm, ⟨35, _⟩ => ⟨S4x16x1x4096, .f32⟩
  | .hbm, ⟨36, _⟩ => ⟨S4x16x4096x4096, .f32⟩
  | .hbm, ⟨37, _⟩ => ⟨S4x16x4096x4096, .f32⟩
  | .hbm, ⟨38, _⟩ => ⟨S4096, .i32⟩
  | .hbm, ⟨39, _⟩ => ⟨S1x4096, .i32⟩
  | .hbm, ⟨40, _⟩ => ⟨S4096, .i32⟩
  | .hbm, ⟨41, _⟩ => ⟨S4096x1, .i32⟩
  | .hbm, ⟨42, _⟩ => ⟨S4096x4096, .i32⟩
  | .hbm, ⟨43, _⟩ => ⟨S4096x4096, .i32⟩
  | .hbm, ⟨44, _⟩ => ⟨S4096x4096, .i1⟩
  | .hbm, ⟨45, _⟩ => ⟨S1x1x4096x4096, .i1⟩
  | .hbm, ⟨46, _⟩ => ⟨S_, .f32⟩
  | .hbm, ⟨47, _⟩ => ⟨S_, .f32⟩
  | .hbm, ⟨48, _⟩ => ⟨S4x16x4096x4096, .i1⟩
  | .hbm, ⟨49, _⟩ => ⟨S4x16x4096x4096, .f32⟩
  | .hbm, ⟨50, _⟩ => ⟨S4x16x4096x4096, .f32⟩
  | .hbm, ⟨51, _⟩ => ⟨S_, .f32⟩
  | .hbm, ⟨52, _⟩ => ⟨S4x16x4096, .f32⟩
  | .hbm, ⟨53, _⟩ => ⟨S4x16x4096x1, .f32⟩
  | .hbm, ⟨54, _⟩ => ⟨S4x16x4096x4096, .f32⟩
  | .hbm, ⟨55, _⟩ => ⟨S4x16x4096x4096, .f32⟩
  | .hbm, ⟨56, _⟩ => ⟨S_, .f32⟩
  | .hbm, ⟨57, _⟩ => ⟨S4x16x4096x4096, .f32⟩
  | .hbm, ⟨58, _⟩ => ⟨S4x16x4096x4096, .f32⟩
  | .hbm, ⟨59, _⟩ => ⟨S_, .f32⟩
  | .hbm, ⟨60, _⟩ => ⟨S4x16x4096, .f32⟩
  | .hbm, ⟨61, _⟩ => ⟨S4x16x4096x1, .f32⟩
  | .hbm, ⟨62, _⟩ => ⟨S4x16x4096x4096, .f32⟩
  | .hbm, ⟨63, _⟩ => ⟨S4x16x4096x4096, .f32⟩
  | .hbm, ⟨64, _⟩ => ⟨S4x16x4096x64, .f32⟩
  | .hbm, ⟨65, _⟩ => ⟨S4x4096x16x64, .f32⟩
  | .hbm, ⟨66, _⟩ => ⟨S4x4096x1024, .f32⟩
  | .hbm, ⟨67, _⟩ => ⟨S4x4096x1024, .bf16⟩
  | .hbm, ⟨68, _⟩ => ⟨S2048x4096, .bf16⟩
  | .hbm, ⟨69, _⟩ => ⟨S8192x1024, .bf16⟩
  | _, _ => ⟨S257, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_1 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_v36 : Ref sig .tc := ⟨.hbm, 50, rfl⟩
abbrev main_cst_2 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_3 : Ref sig .tc := ⟨.hbm, 56, rfl⟩
abbrev main_v41 : Ref sig .tc := ⟨.hbm, 57, rfl⟩
abbrev main_v42 : Ref sig .tc := ⟨.hbm, 58, rfl⟩
abbrev main_cst_4 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]
-- ==== Kernel4.lean ====
abbrev S4x4096x1024 : Shape := ⟨3, ![4, 4096, 1024]⟩
abbrev S2x1024 : Shape := ⟨2, ![2, 1024]⟩
abbrev S1x1024x3088 : Shape := ⟨3, ![1, 1024, 3088]⟩
abbrev S1x16 : Shape := ⟨2, ![1, 16]⟩
abbrev S1x64 : Shape := ⟨2, ![1, 64]⟩
abbrev S1024x3088 : Shape := ⟨2, ![1024, 3088]⟩
abbrev S1024x16 : Shape := ⟨2, ![1024, 16]⟩
abbrev S_ : Shape := ⟨0, ![]⟩
abbrev S1024x128 : Shape := ⟨2, ![1024, 128]⟩
abbrev S1024x1024 : Shape := ⟨2, ![1024, 1024]⟩
abbrev S1024x1152 : Shape := ⟨2, ![1024, 1152]⟩
abbrev S1024x2048 : Shape := ⟨2, ![1024, 2048]⟩
abbrev S2048x1024 : Shape := ⟨2, ![2048, 1024]⟩
abbrev S4x64 : Shape := ⟨2, ![4, 64]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S64 : Shape := ⟨1, ![64]⟩
abbrev S16x64 : Shape := ⟨2, ![16, 64]⟩
abbrev S1024 : Shape := ⟨1, ![1024]⟩
abbrev S1x1024 : Shape := ⟨2, ![1, 1024]⟩
abbrev S1024x1 : Shape := ⟨2, ![1024, 1]⟩
abbrev S16 : Shape := ⟨1, ![16]⟩
abbrev S128 : Shape := ⟨1, ![128]⟩
abbrev S1x128 : Shape := ⟨2, ![1, 128]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S128x1 : Shape := ⟨2, ![128, 1]⟩
abbrev S128x1024 : Shape := ⟨2, ![128, 1024]⟩
abbrev S128x8 : Shape := ⟨2, ![128, 8]⟩
abbrev S128x1016 : Shape := ⟨2, ![128, 1016]⟩
abbrev S4x1024x4096 : Shape := ⟨3, ![4, 1024, 4096]⟩
abbrev S4x8x1024x512 : Shape := ⟨4, ![4, 8, 1024, 512]⟩
abbrev S4x8x8x128 : Shape := ⟨4, ![4, 8, 8, 128]⟩
abbrev S1x512x1024 : Shape := ⟨3, ![1, 512, 1024]⟩
abbrev S1x1024x512 : Shape := ⟨3, ![1, 1024, 512]⟩
abbrev S1x1x1024x512 : Shape := ⟨4, ![1, 1, 1024, 512]⟩
abbrev S1x1x8x128 : Shape := ⟨4, ![1, 1, 8, 128]⟩
abbrev S512x1024 : Shape := ⟨2, ![512, 1024]⟩
abbrev S512x1152 : Shape := ⟨2, ![512, 1152]⟩
abbrev S1024x512 : Shape := ⟨2, ![1024, 512]⟩
abbrev S512x256 : Shape := ⟨2, ![512, 256]⟩
abbrev S1x512x256 : Shape := ⟨3, ![1, 512, 256]⟩
abbrev S256x512 : Shape := ⟨2, ![256, 512]⟩
abbrev S256x128 : Shape := ⟨2, ![256, 128]⟩
abbrev S1x256x512 : Shape := ⟨3, ![1, 256, 512]⟩
abbrev S512x128 : Shape := ⟨2, ![512, 128]⟩
abbrev S6x128 : Shape := ⟨2, ![6, 128]⟩
abbrev S8x128 : Shape := ⟨2, ![8, 128]⟩
abbrev S128x512 : Shape := ⟨2, ![128, 512]⟩

abbrev nBuf : Space → Nat
  | .hbm => 195
  | .vmem => 26
  | .smem => 0
  | _ => 0

abbrev hbmTy0_0 (i : Nat) : BufTy := match i % 128 with
  | 0 => ⟨S4x4096x1024, .f32⟩
  | 1 => ⟨S2x1024, .f32⟩
  | 2 => ⟨S1x1024x3088, .f32⟩
  | 3 => ⟨S1x16, .f32⟩
  | 4 => ⟨S1x64, .f32⟩
  | 5 => ⟨S1x64, .f32⟩
  | 6 => ⟨S1024x3088, .f32⟩
  | 7 => ⟨S1024x16, .f32⟩
  | 8 => ⟨S_, .i32⟩
  | 9 => ⟨S_, .f32⟩
  | 10 => ⟨S1024x128, .f32⟩
  | 11 => ⟨S1024x1024, .f32⟩
  | 12 => ⟨S1024x1152, .f32⟩
  | 13 => ⟨S1024x1152, .bf16⟩
  | 14 => ⟨S1024x1024, .f32⟩
  | 15 => ⟨S1024x1024, .f32⟩
  | 16 => ⟨S1024x2048, .f32⟩
  | 17 => ⟨S2048x1024, .f32⟩
  | 18 => ⟨S2048x1024, .bf16⟩
  | 19 => ⟨S4x64, .i32⟩
  | 20 => ⟨S256, .i32⟩
  | 21 => ⟨S256x1, .i32⟩
  | 22 => ⟨S1x256, .i32⟩
  | 23 => ⟨S256x256, .i32⟩
  | 24 => ⟨S256x256, .i32⟩
  | 25 => ⟨S256x256, .i1⟩
  | 26 => ⟨S_, .f32⟩
  | 27 => ⟨S_, .f32⟩
  | 28 => ⟨S256x256, .f32⟩
  | 29 => ⟨S256x256, .f32⟩
  | 30 => ⟨S256x256, .f32⟩
  | 31 => ⟨S256x256, .bf16⟩
  | 32 => ⟨S64, .f32⟩
  | 33 => ⟨S1x64, .f32⟩
  | 34 => ⟨S16x64, .f32⟩
  | 35 => ⟨S1024, .f32⟩
  | 36 => ⟨S1x1024, .f32⟩
  | 37 => ⟨S64, .f32⟩
  | 38 => ⟨S1x64, .f32⟩
  | 39 => ⟨S16x64, .f32⟩
  | 40 => ⟨S1024, .f32⟩
  | 41 => ⟨S_, .f32⟩
  | 42 => ⟨S1024, .f32⟩
  | 43 => ⟨S1024, .f32⟩
  | 44 => ⟨S1024x1, .f32⟩
  | 45 => ⟨S1024x128, .f32⟩
  | 46 => ⟨S16, .f32⟩
  | 47 => ⟨S_, .i32⟩
  | 48 => ⟨S_, .f32⟩
  | 49 => ⟨S128, .f32⟩
  | 50 => ⟨S1x128, .f32⟩
  | 51 => ⟨S512, .i32⟩
  | 52 => ⟨S512x1, .i32⟩
  | 53 => ⟨S1x512, .i32⟩
  | 54 => ⟨S512x512, .i32⟩
  | 55 => ⟨S512x512, .i32⟩
  | 56 => ⟨S512x512, .i1⟩
  | 57 => ⟨S_, .f32⟩
  | 58 => ⟨S_, .f32⟩
  | 59 => ⟨S512x512, .f32⟩
  | 60 => ⟨S512x512, .f32⟩
  | 61 => ⟨S512x512, .f32⟩
  | 62 => ⟨S512x512, .bf16⟩
  | 63 => ⟨S128, .i32⟩
  | 64 => ⟨S128x1, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S128x1, .i32⟩
  | 72 => ⟨S128x1, .i32⟩
  | 73 => ⟨S_, .i32⟩
  | 74 => ⟨S128x1, .i32⟩
  | 75 => ⟨S128x1, .i1⟩
  | 76 => ⟨S_, .i32⟩
  | 77 => ⟨S128x1, .i32⟩
  | 78 => ⟨S128x1, .i1⟩
  | 79 => ⟨S_, .i32⟩
  | 80 => ⟨S_, .i1⟩
  | 81 => ⟨S128x1, .i1⟩
  | 82 => ⟨S128x1, .i1⟩
  | 83 => ⟨S128x1, .i1⟩
  | 84 => ⟨S128x1, .i32⟩
  | 85 => ⟨S128x1, .i32⟩
  | 86 => ⟨S128x1, .i32⟩
  | 87 => ⟨S_, .i32⟩
  | 88 => ⟨S_, .i32⟩
  | 89 => ⟨S128x1, .i32⟩
  | 90 => ⟨S128x1, .i32⟩
  | 91 => ⟨S128x1, .i32⟩
  | 92 => ⟨S_, .i32⟩
  | 93 => ⟨S128x1, .i32⟩
  | 94 => ⟨S128x1, .i1⟩
  | 95 => ⟨S128x1, .i32⟩
  | 96 => ⟨S128x1, .i32⟩
  | 97 => ⟨S_, .i32⟩
  | 98 => ⟨S128x1, .i32⟩
  | 99 => ⟨S128x1, .i1⟩
  | 100 => ⟨S128x1, .i1⟩
  | 101 => ⟨S_, .i32⟩
  | 102 => ⟨S128x1, .i32⟩
  | 103 => ⟨S128x1, .i32⟩
  | 104 => ⟨S128x1, .i32⟩
  | 105 => ⟨S_, .i32⟩
  | 106 => ⟨S128x1, .i32⟩
  | 107 => ⟨S128x1, .i32⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S128x1, .i32⟩
  | 115 => ⟨S128x1, .i32⟩
  | 116 => ⟨S_, .i32⟩
  | 117 => ⟨S128x1, .i32⟩
  | 118 => ⟨S128x1, .i1⟩
  | 119 => ⟨S_, .i32⟩
  | 120 => ⟨S128x1, .i32⟩
  | 121 => ⟨S128x1, .i1⟩
  | 122 => ⟨S_, .i32⟩
  | 123 => ⟨S_, .i1⟩
  | 124 => ⟨S128x1, .i1⟩
  | 125 => ⟨S128x1, .i1⟩
  | 126 => ⟨S128x1, .i1⟩
  | 127 => ⟨S128x1, .i32⟩
  | _ => ⟨S4x4096x1024, .f32⟩

abbrev hbmTy0_1 (i : Nat) : BufTy := match i % 128 with
  | 0 => ⟨S128x1, .i32⟩
  | 1 => ⟨S128x1, .i32⟩
  | 2 => ⟨S_, .i32⟩
  | 3 => ⟨S128x1, .i32⟩
  | 4 => ⟨S128x1, .i32⟩
  | 5 => ⟨S128x1, .i32⟩
  | 6 => ⟨S_, .i32⟩
  | 7 => ⟨S_, .i32⟩
  | 8 => ⟨S128x1, .i32⟩
  | 9 => ⟨S128x1, .i32⟩
  | 10 => ⟨S128x1, .i32⟩
  | 11 => ⟨S_, .i32⟩
  | 12 => ⟨S128x1, .i32⟩
  | 13 => ⟨S128x1, .i1⟩
  | 14 => ⟨S128x1, .i32⟩
  | 15 => ⟨S128x1, .i32⟩
  | 16 => ⟨S_, .i32⟩
  | 17 => ⟨S128x1, .i32⟩
  | 18 => ⟨S128x1, .i1⟩
  | 19 => ⟨S128x1, .i1⟩
  | 20 => ⟨S_, .i32⟩
  | 21 => ⟨S128x1, .i32⟩
  | 22 => ⟨S128x1, .i32⟩
  | 23 => ⟨S128x1, .i32⟩
  | 24 => ⟨S128x1, .i32⟩
  | 25 => ⟨S_, .i32⟩
  | 26 => ⟨S128x1, .i32⟩
  | 27 => ⟨S128x1, .i1⟩
  | 28 => ⟨S1024, .i32⟩
  | 29 => ⟨S1x1024, .i32⟩
  | 30 => ⟨S128x1024, .i32⟩
  | 31 => ⟨S128x1024, .i32⟩
  | 32 => ⟨S128x1024, .i1⟩
  | 33 => ⟨S128x1024, .i1⟩
  | 34 => ⟨S128x1024, .i1⟩
  | 35 => ⟨S_, .f32⟩
  | 36 => ⟨S_, .f32⟩
  | 37 => ⟨S128x1024, .f32⟩
  | 38 => ⟨S128x1024, .f32⟩
  | 39 => ⟨S128x1024, .f32⟩
  | 40 => ⟨S128x8, .f32⟩
  | 41 => ⟨S128x1016, .f32⟩
  | 42 => ⟨S128x1024, .f32⟩
  | 43 => ⟨S1024x128, .f32⟩
  | 44 => ⟨S64, .f32⟩
  | 45 => ⟨S64, .f32⟩
  | 46 => ⟨S_, .f32⟩
  | 47 => ⟨S_, .f32⟩
  | 48 => ⟨S_, .f32⟩
  | 49 => ⟨S_, .f32⟩
  | 50 => ⟨S64, .f32⟩
  | 51 => ⟨S64, .f32⟩
  | 52 => ⟨S_, .f32⟩
  | 53 => ⟨S_, .f32⟩
  | 54 => ⟨S_, .f32⟩
  | 55 => ⟨S1x1024, .f32⟩
  | 56 => ⟨S1024, .f32⟩
  | 57 => ⟨S1x1024, .f32⟩
  | 58 => ⟨S128x1024, .bf16⟩
  | 59 => ⟨S1024x128, .bf16⟩
  | 60 => ⟨S1x128, .f32⟩
  | 61 => ⟨S4x1024x4096, .bf16⟩
  | 62 => ⟨S4x4096x1024, .bf16⟩
  | 63 => ⟨S4x8x1024x512, .bf16⟩
  | 64 => ⟨S4x4096x1024, .bf16⟩
  | 65 => ⟨S4x1024x4096, .bf16⟩
  | 66 => ⟨S4x8x8x128, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1152, .bf16⟩
  | .local _ .vmem, ⟨4, _⟩ => ⟨S2048x1024, .bf16⟩
  | .local _ .vmem, ⟨5, _⟩ => ⟨S256x256, .bf16⟩
  | .local _ .vmem, ⟨6, _⟩ => ⟨S1x1024, .f32⟩
  | .local _ .vmem, ⟨7, _⟩ => ⟨S1024x128, .f32⟩
  | .local _ .vmem, ⟨8, _⟩ => ⟨S1x128, .f32⟩
  | .local _ .vmem, ⟨9, _⟩ => ⟨S512x512, .bf16⟩
  | .local _ .vmem, ⟨10, _⟩ => ⟨S128x1024, .bf16⟩
  | .local _ .vmem, ⟨11, _⟩ => ⟨S1024x128, .bf16⟩
  | .local _ .vmem, ⟨12, _⟩ => ⟨S1x128, .f32⟩
  | .local _ .vmem, ⟨13, _⟩ => ⟨S1x1024x512, .bf16⟩
  | .local _ .vmem, ⟨14, _⟩ => ⟨S1x1024x512, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x1x1024x512, .bf16⟩
  | .local _ .vmem, ⟨18, _⟩ => ⟨S1x1x1024x512, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x1024x512, .bf16⟩
  | .local _ .vmem, ⟨22, _⟩ => ⟨S1x1024x512, .bf16⟩
  | .local _ .vmem, ⟨23, _⟩ => ⟨S1x1x8x128, .f32⟩
  | .local _ .vmem, ⟨24, _⟩ => ⟨S1x1x8x128, .f32⟩
  | .local _ .vmem, ⟨25, _⟩ => ⟨S1x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_cst_0 : Ref sig .tc := ⟨.hbm, 27, rfl⟩
abbrev main_call1_v0 : Ref sig .tc := ⟨.hbm, 28, rfl⟩
abbrev main_call1_v1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_1 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_2 : Ref sig .tc := ⟨.hbm, 47, rfl⟩
abbrev main_call2_v0 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_3 : Ref sig .tc := ⟨.hbm, 57, rfl⟩
abbrev main_cst_4 : Ref sig .tc := ⟨.hbm, 58, rfl⟩
abbrev main_call3_v0 : Ref sig .tc := ⟨.hbm, 59, rfl⟩
abbrev main_call3_v1 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_5 : Ref sig .tc := ⟨.hbm, 65, rfl⟩
abbrev main_call4_v0 : Ref sig .tc := ⟨.hbm, 66, rfl⟩
abbrev main_call4_c : Ref sig .tc := ⟨.hbm, 67, rfl⟩
abbrev main_call4_v1 : Ref sig .tc := ⟨.hbm, 68, rfl⟩
abbrev main_call4_c_0 : Ref sig .tc := ⟨.hbm, 69, rfl⟩
abbrev main_call4_v2 : Ref sig .tc := ⟨.hbm, 70, rfl⟩
abbrev main_call4_v3 : Ref sig .tc := ⟨.hbm, 71, rfl⟩
abbrev main_call4_v4 : Ref sig .tc := ⟨.hbm, 72, rfl⟩
abbrev main_call4_c_1 : Ref sig .tc := ⟨.hbm, 73, rfl⟩
abbrev main_call4_v5 : Ref sig .tc := ⟨.hbm, 74, rfl⟩
abbrev main_call4_v6 : Ref sig .tc := ⟨.hbm, 75, rfl⟩
abbrev main_call4_c_2 : Ref sig .tc := ⟨.hbm, 76, rfl⟩
abbrev main_call4_v7 : Ref sig .tc := ⟨.hbm, 77, rfl⟩
abbrev main_call4_v8 : Ref sig .tc := ⟨.hbm, 78, rfl⟩
abbrev main_call4_c_3 : Ref sig .tc := ⟨.hbm, 79, rfl⟩
abbrev main_call4_v9 : Ref sig .tc := ⟨.hbm, 80, rfl⟩
abbrev main_call4_v10 : Ref sig .tc := ⟨.hbm, 81, rfl⟩
abbrev main_call4_v11 : Ref sig .tc := ⟨.hbm, 82, rfl⟩
abbrev main_call4_v12 : Ref sig .tc := ⟨.hbm, 83, rfl⟩
abbrev main_call4_v13 : Ref sig .tc := ⟨.hbm, 84, rfl⟩
abbrev main_call4_v14 : Ref sig .tc := ⟨.hbm, 85, rfl⟩
abbrev main_v46 : Ref sig .tc := ⟨.hbm, 86, rfl⟩
abbrev main_c_6 : Ref sig .tc := ⟨.hbm, 87, rfl⟩
abbrev main_call5_v0 : Ref sig .tc := ⟨.hbm, 88, rfl⟩
abbrev main_call5_v1 : Ref sig .tc := ⟨.hbm, 89, rfl⟩
abbrev main_call5_v2 : Ref sig .tc := ⟨.hbm, 90, rfl⟩
abbrev main_call5_v3 : Ref sig .tc := ⟨.hbm, 91, rfl⟩
abbrev main_call5_v4 : Ref sig .tc := ⟨.hbm, 92, rfl⟩
abbrev main_call5_v5 : Ref sig .tc := ⟨.hbm, 93, rfl⟩
abbrev main_call5_v6 : Ref sig .tc := ⟨.hbm, 94, rfl⟩
abbrev main_call5_v7 : Ref sig .tc := ⟨.hbm, 95, rfl⟩
abbrev main_call5_v8 : Ref sig .tc := ⟨.hbm, 96, rfl⟩
abbrev main_call5_c : Ref sig .tc := ⟨.hbm, 97, rfl⟩
abbrev main_call5_v9 : Ref sig .tc := ⟨.hbm, 98, rfl⟩
abbrev main_call5_v10 : Ref sig .tc := ⟨.hbm, 99, rfl⟩
abbrev main_call5_v11 : Ref sig .tc := ⟨.hbm, 100, rfl⟩
abbrev main_call5_c_0 : Ref sig .tc := ⟨.hbm, 101, rfl⟩
abbrev main_call5_v12 : Ref sig .tc := ⟨.hbm, 102, rfl⟩
abbrev main_call5_v13 : Ref sig .tc := ⟨.hbm, 103, rfl⟩
abbrev main_v47 : Ref sig .tc := ⟨.hbm, 104, rfl⟩
abbrev main_c_7 : Ref sig .tc := ⟨.hbm, 105, rfl⟩
abbrev main_v48 : Ref sig .tc := ⟨.hbm, 106, rfl⟩
abbrev main_v49 : Ref sig .tc := ⟨.hbm, 107, rfl⟩
abbrev main_c_8 : Ref sig .tc := ⟨.hbm, 108, rfl⟩
abbrev main_call6_v0 : Ref sig .tc := ⟨.hbm, 109, rfl⟩
abbrev main_call6_c : Ref sig .tc := ⟨.hbm, 110, rfl⟩
abbrev main_call6_v1 : Ref sig .tc := ⟨.hbm, 111, rfl⟩
abbrev main_call6_c_0 : Ref sig .tc := ⟨.hbm, 112, rfl⟩
abbrev main_call6_v2 : Ref sig .tc := ⟨.hbm, 113, rfl⟩
abbrev main_call6_v3 : Ref sig .tc := ⟨.hbm, 114, rfl⟩
abbrev main_call6_v4 : Ref sig .tc := ⟨.hbm, 115, rfl⟩
abbrev main_call6_c_1 : Ref sig .tc := ⟨.hbm, 116, rfl⟩
abbrev main_call6_v5 : Ref sig .tc := ⟨.hbm, 117, rfl⟩
abbrev main_call6_v6 : Ref sig .tc := ⟨.hbm, 118, rfl⟩
abbrev main_call6_c_2 : Ref sig .tc := ⟨.hbm, 119, rfl⟩
abbrev main_call6_v7 : Ref sig .tc := ⟨.hbm, 120, rfl⟩
abbrev main_call6_v8 : Ref sig .tc := ⟨.hbm, 121, rfl⟩
abbrev main_call6_c_3 : Ref sig .tc := ⟨.hbm, 122, rfl⟩
abbrev main_call6_v9 : Ref sig .tc := ⟨.hbm, 123, rfl⟩
abbrev main_call6_v10 : Ref sig .tc := ⟨.hbm, 124, rfl⟩
abbrev main_call6_v11 : Ref sig .tc := ⟨.hbm, 125, rfl⟩
abbrev main_call6_v12 : Ref sig .tc := ⟨.hbm, 126, rfl⟩
abbrev main_call6_v13 : Ref sig .tc := ⟨.hbm, 127, rfl⟩
abbrev main_call6_v14 : Ref sig .tc := ⟨.hbm, 128, rfl⟩
abbrev main_v50 : Ref sig .tc := ⟨.hbm, 129, rfl⟩
abbrev main_c_9 : Ref sig .tc := ⟨.hbm, 130, rfl⟩
abbrev main_v51 : Ref sig .tc := ⟨.hbm, 131, rfl⟩
abbrev main_v52 : Ref sig .tc := ⟨.hbm, 132, rfl⟩
abbrev main_v53 : Ref sig .tc := ⟨.hbm, 133, rfl⟩
abbrev main_c_10 : Ref sig .tc := ⟨.hbm, 134, rfl⟩
abbrev main_call7_v0 : Ref sig .tc := ⟨.hbm, 135, rfl⟩
abbrev main_call7_v1 : Ref sig .tc := ⟨.hbm, 136, rfl⟩
abbrev main_call7_v2 : Ref sig .tc := ⟨.hbm, 137, rfl⟩
abbrev main_call7_v3 : Ref sig .tc := ⟨.hbm, 138, rfl⟩
abbrev main_call7_v4 : Ref sig .tc := ⟨.hbm, 139, rfl⟩
abbrev main_call7_v5 : Ref sig .tc := ⟨.hbm, 140, rfl⟩
abbrev main_call7_v6 : Ref sig .tc := ⟨.hbm, 141, rfl⟩
abbrev main_call7_v7 : Ref sig .tc := ⟨.hbm, 142, rfl⟩
abbrev main_call7_v8 : Ref sig .tc := ⟨.hbm, 143, rfl⟩
abbrev main_call7_c : Ref sig .tc := ⟨.hbm, 144, rfl⟩
abbrev main_call7_v9 : Ref sig .tc := ⟨.hbm, 145, rfl⟩
abbrev main_call7_v10 : Ref sig .tc := ⟨.hbm, 146, rfl⟩
abbrev main_call7_v11 : Ref sig .tc := ⟨.hbm, 147, rfl⟩
abbrev main_call7_c_0 : Ref sig .tc := ⟨.hbm, 148, rfl⟩
abbrev main_call7_v12 : Ref sig .tc := ⟨.hbm, 149, rfl⟩
abbrev main_call7_v13 : Ref sig .tc := ⟨.hbm, 150, rfl⟩
abbrev main_v54 : Ref sig .tc := ⟨.hbm, 151, rfl⟩
abbrev main_v55 : Ref sig .tc := ⟨.hbm, 152, rfl⟩
abbrev main_c_11 : Ref sig .tc := ⟨.hbm, 153, rfl⟩
abbrev main_v56 : Ref sig .tc := ⟨.hbm, 154, rfl⟩
abbrev main_v57 : Ref sig .tc := ⟨.hbm, 155, rfl⟩
abbrev main_v58 : Ref sig .tc := ⟨.hbm, 156, rfl⟩
abbrev main_v59 : Ref sig .tc := ⟨.hbm, 157, rfl⟩
abbrev main_v60 : Ref sig .tc := ⟨.hbm, 158, rfl⟩
abbrev main_v61 : Ref sig .tc := ⟨.hbm, 159, rfl⟩
abbrev main_v62 : Ref sig .tc := ⟨.hbm, 160, rfl⟩
abbrev main_v63 : Ref sig .tc := ⟨.hbm, 161, rfl⟩
abbrev main_v64 : Ref sig .tc := ⟨.hbm, 162, rfl⟩
abbrev main_cst_12 : Ref sig .tc := ⟨.hbm, 163, rfl⟩
abbrev main_cst_13 : Ref sig .tc := ⟨.hbm, 164, rfl⟩
abbrev main_call8_v0 : Ref sig .tc := ⟨.hbm, 165, rfl⟩
abbrev main_call8_v1 : Ref sig .tc := ⟨.hbm, 166, rfl⟩
abbrev main_v65 : Ref sig .tc := ⟨.hbm, 167, rfl⟩
abbrev main_call9_v0 : Ref sig .tc := ⟨.hbm, 168, rfl⟩
abbrev main_call9_v1 : Ref sig .tc := ⟨.hbm, 169, rfl⟩
abbrev main_v66 : Ref sig .tc := ⟨.hbm, 170, rfl⟩
abbrev main_v67 : Ref sig .tc := ⟨.hbm, 171, rfl⟩
abbrev main_v68 : Ref sig .tc := ⟨.hbm, 172, rfl⟩
abbrev main_v69 : Ref sig .tc := ⟨.hbm, 173, rfl⟩
abbrev main_cst_14 : Ref sig .tc := ⟨.hbm, 174, rfl⟩
abbrev main_v70 : Ref sig .tc := ⟨.hbm, 175, rfl⟩
abbrev main_cst_15 : Ref sig .tc := ⟨.hbm, 176, rfl⟩
abbrev main_v71 : Ref sig .tc := ⟨.hbm, 177, rfl⟩
abbrev main_v72 : Ref sig .tc := ⟨.hbm, 178, rfl⟩
abbrev main_v73 : Ref sig .tc := ⟨.hbm, 179, rfl⟩
abbrev main_cst_16 : Ref sig .tc := ⟨.hbm, 180, rfl⟩
abbrev main_v74 : Ref sig .tc := ⟨.hbm, 181, rfl⟩
abbrev main_v75 : Ref sig .tc := ⟨.hbm, 182, rfl⟩
abbrev main_v76 : Ref sig .tc := ⟨.hbm, 183, rfl⟩
abbrev main_v77 : Ref sig .tc := ⟨.hbm, 184, rfl⟩
abbrev main_v78 : Ref sig .tc := ⟨.hbm, 185, rfl⟩
abbrev main_v79 : Ref sig .tc := ⟨.hbm, 186, rfl⟩
abbrev main_v80 : Ref sig .tc := ⟨.hbm, 187, rfl⟩
abbrev main_v81 : Ref sig .tc := ⟨.hbm, 188, rfl⟩
abbrev main_v82_0 : Ref sig .tc := ⟨.hbm, 189, rfl⟩
abbrev main_v82_1 : Ref sig .tc := ⟨.hbm, 190, rfl⟩
abbrev main_v82_2 : Ref sig .tc := ⟨.hbm, 191, rfl⟩
abbrev main_v82_3 : Ref sig .tc := ⟨.hbm, 192, rfl⟩
abbrev main_v82_4 : Ref sig .tc := ⟨.hbm, 193, rfl⟩
abbrev main_v82_5 : Ref sig .tc := ⟨.hbm, 194, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1152 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1x8x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference4Ideal.lean ====
abbrev S4x4096x1024 : Shape := ⟨3, ![4, 4096, 1024]⟩
abbrev S2x1024 : Shape := ⟨2, ![2, 1024]⟩
abbrev S1x1024x3088 : Shape := ⟨3, ![1, 1024, 3088]⟩
abbrev S1x16 : Shape := ⟨2, ![1, 16]⟩
abbrev S1x64 : Shape := ⟨2, ![1, 64]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x3088 : Shape := ⟨2, ![1024, 3088]⟩
abbrev S4x4096x3088 : Shape := ⟨3, ![4, 4096, 3088]⟩
abbrev S4x4096x16 : Shape := ⟨3, ![4, 4096, 16]⟩
abbrev S4x4096x16x64 : Shape := ⟨4, ![4, 4096, 16, 64]⟩
abbrev S64 : Shape := ⟨1, ![64]⟩
abbrev S4x4096x16x1 : Shape := ⟨4, ![4, 4096, 16, 1]⟩
abbrev S1x1x1x64 : Shape := ⟨4, ![1, 1, 1, 64]⟩
abbrev S4x1024x4096 : Shape := ⟨3, ![4, 1024, 4096]⟩
abbrev S4x8x512x1024 : Shape := ⟨4, ![4, 8, 512, 1024]⟩
abbrev S4x8x1024x512 : Shape := ⟨4, ![4, 8, 1024, 512]⟩

abbrev nBuf : Space → Nat
  | .hbm => 77
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S2x1024, .f32⟩
  | .hbm, ⟨2, _⟩ => ⟨S1x1024x3088, .f32⟩
  | .hbm, ⟨3, _⟩ => ⟨S1x16, .f32⟩
  | .hbm, ⟨4, _⟩ => ⟨S1x64, .f32⟩
  | .hbm, ⟨5, _⟩ => ⟨S1x64, .f32⟩
  | .hbm, ⟨6, _⟩ => ⟨S1x1024, .f32⟩
  | .hbm, ⟨7, _⟩ => ⟨S1024, .f32⟩
  | .hbm, ⟨8, _⟩ => ⟨S4x4096x1024, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x1024, .f32⟩
  | .hbm, ⟨20, _⟩ => ⟨S4x4096x1024, .f32⟩
  | .hbm, ⟨21, _⟩ => ⟨S1x1x1024, .f32⟩
  | .hbm, ⟨22, _⟩ => ⟨S4x4096x1024, .f32⟩
  | .hbm, ⟨23, _⟩ => ⟨S4x4096x1024, .f32⟩
  | .hbm, ⟨24, _⟩ => ⟨S1024x3088, .f32⟩
  | .hbm, ⟨25, _⟩ => ⟨S4x4096x3088, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | .hbm, ⟨29, _⟩ => ⟨S4x4096x16, .f32⟩
  | .hbm, ⟨30, _⟩ => ⟨S4x4096x16x64, .f32⟩
  | .hbm, ⟨31, _⟩ => ⟨S64, .f32⟩
  | .hbm, ⟨32, _⟩ => ⟨S4x4096x16x64, .f32⟩
  | .hbm, ⟨33, _⟩ => ⟨S_, .f32⟩
  | .hbm, ⟨34, _⟩ => ⟨S4x4096x16, .f32⟩
  | .hbm, ⟨35, _⟩ => ⟨S4x4096x16x1, .f32⟩
  | .hbm, ⟨36, _⟩ => ⟨S_, .f32⟩
  | .hbm, ⟨37, _⟩ => ⟨S4x4096x16x1, .f32⟩
  | .hbm, ⟨38, _⟩ => ⟨S4x4096x16x1, .f32⟩
  | .hbm, ⟨39, _⟩ => ⟨S_, .f32⟩
  | .hbm, ⟨40, _⟩ => ⟨S4x4096x16x1, .f32⟩
  | .hbm, ⟨41, _⟩ => ⟨S4x4096x16x1, .f32⟩
  | .hbm, ⟨42, _⟩ => ⟨S4x4096x16x1, .f32⟩
  | .hbm, ⟨43, _⟩ => ⟨S4x4096x16x64, .f32⟩
  | .hbm, ⟨44, _⟩ => ⟨S4x4096x16x64, .f32⟩
  | .hbm, ⟨45, _⟩ => ⟨S1x1x1x64, .f32⟩
  | .hbm, ⟨46, _⟩ => ⟨S4x4096x16x64, .f32⟩
  | .hbm, ⟨47, _⟩ => ⟨S4x4096x16x64, .f32⟩
  | .hbm, ⟨48, _⟩ => ⟨S_, .f32⟩
  | .hbm, ⟨49, _⟩ => ⟨S4x4096x16x64, .f32⟩
  | .hbm, ⟨50, _⟩ => ⟨S4x4096x16x64, .f32⟩
  | .hbm, ⟨51, _⟩ => ⟨S4x4096x16x64, .f32⟩
  | .hbm, ⟨52, _⟩ => ⟨S64, .f32⟩
  | .hbm, ⟨53, _⟩ => ⟨S4x4096x16x64, .f32⟩
  | .hbm, ⟨54, _⟩ => ⟨S_, .f32⟩
  | .hbm, ⟨55, _⟩ => ⟨S4x4096x16, .f32⟩
  | .hbm, ⟨56, _⟩ => ⟨S4x4096x16x1, .f32⟩
  | .hbm, ⟨57, _⟩ => ⟨S_, .f32⟩
  | .hbm, ⟨58, _⟩ => ⟨S4x4096x16x1, .f32⟩
  | .hbm, ⟨59, _⟩ => ⟨S4x4096x16x1, .f32⟩
  | .hbm, ⟨60, _⟩ => ⟨S_, .f32⟩
  | .hbm, ⟨61, _⟩ => ⟨S4x4096x16x1, .f32⟩
  | .hbm, ⟨62, _⟩ => ⟨S4x4096x16x1, .f32⟩
  | .hbm, ⟨63, _⟩ => ⟨S4x4096x16x1, .f32⟩
  | .hbm, ⟨64, _⟩ => ⟨S4x4096x16x64, .f32⟩
  | .hbm, ⟨65, _⟩ => ⟨S4x4096x16x64, .f32⟩
  | .hbm, ⟨66, _⟩ => ⟨S1x1x1x64, .f32⟩
  | .hbm, ⟨67, _⟩ => ⟨S4x4096x16x64, .f32⟩
  | .hbm, ⟨68, _⟩ => ⟨S4x4096x16x64, .f32⟩
  | .hbm, ⟨69, _⟩ => ⟨S4x4096x1024, .f32⟩
  | .hbm, ⟨70, _⟩ => ⟨S4x1024x4096, .f32⟩
  | .hbm, ⟨71, _⟩ => ⟨S4x8x512x1024, .f32⟩
  | .hbm, ⟨72, _⟩ => ⟨S4x8x1024x512, .f32⟩
  | .hbm, ⟨73, _⟩ => ⟨S4x1024x4096, .bf16⟩
  | .hbm, ⟨74, _⟩ => ⟨S4x4096x1024, .f32⟩
  | .hbm, ⟨75, _⟩ => ⟨S4x4096x1024, .bf16⟩
  | .hbm, ⟨76, _⟩ => ⟨S4x8x1024x512, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩

abbrev nD : Nat := 1
abbrev τ : Topo := Topo.v7x

variable {F : FTy → Type} [FloatOps F]
-- ==== Proof.RowMath.lean ====
/- The mathematics of one token's row, shared by the two feed-forward calls: the RMS norm, the squared-ReLU
   feed-forward part, and the cutting of its hidden width into four chunks. -/
module

public import Idealize.ShloMosaic.Lib.Pointwise

@[expose] public section

noncomputable section

namespace RowMath

open Idealize.ShloMosaic

/-- The RMS norm of a row `x` of 1024 channels with gains `g`, read at channel `j`; the two words are 1024 and 1e-6. -/
def nrm (x g : Fin 1024 → EReal) (j : Fin 1024) : EReal :=
  x j * Ideal.rsqrt (Ideal.div (∑ k, x k * x k) (Ideal.ofBits .f32 0x44800000#32) + Ideal.ofBits .f32 0x358637BD#32) * g j

/-- Hidden unit `f` of the feed-forward part before the square: the positive part of its projection. -/
def hid (x g : Fin 1024 → EReal) (w : Fin 1024 → Fin 4096 → EReal) (f : Fin 4096) : EReal :=
  max (∑ k, nrm x g k * w k f) 0

/-- The row after the feed-forward part and its residual connection, at channel `j`. -/
def mlp (x g : Fin 1024 → EReal) (w₁ : Fin 1024 → Fin 4096 → EReal) (w₂ : Fin 4096 → Fin 1024 → EReal) (j : Fin 1024) : EReal :=
  x j + ∑ f, hid x g w₁ f * hid x g w₁ f * w₂ f j

/-- A sum over the 4096 hidden units, accumulated chunk by chunk of 1024 onto `a` from the first chunk on. -/
theorem add_four_chunks (a : EReal) (F : Fin 4096 → EReal) :
    a + (∑ f : Fin 1024, F ⟨f, by omega⟩) + (∑ f : Fin 1024, F ⟨1024 + f, by omega⟩)
      + (∑ f : Fin 1024, F ⟨2048 + f, by omega⟩) + (∑ f : Fin 1024, F ⟨3072 + f, by omega⟩) = a + ∑ f, F f := by
  rw [Fin.sum_univ_two_halves 1024 3072 rfl F, Fin.sum_univ_two_halves 1024 2048 rfl, Fin.sum_univ_two_halves 1024 1024 rfl]
  simp only [add_assoc]
  rfl

/-- The row of the token mixed with a gated projection: `x + (a · v) · sigmoid (a · w)`, where the gate's columns follow
    the value's. -/
def gated (x a : Fin 1024 → EReal) (w : Fin 1024 → Fin 2048 → EReal) (j : Fin 1024) : EReal :=
  x j + (∑ k, a k * w k ⟨j, by omega⟩) * Ideal.logistic (∑ k, a k * w k ⟨1024 + j, by omega⟩)

/-- The residual row plus a projection of the row `a`. -/
def plain (x a : Fin 1024 → EReal) (w : Fin 1024 → Fin 1024 → EReal) (j : Fin 1024) : EReal :=
  x j + ∑ k, a k * w k j

/-- Within its block of 256 = 16 · 16 rows, row `r` with the two digits of its number swapped. -/
def swap (n r : ℕ) (h : r < n) (hn : n % 256 = 0) : Fin n :=
  ⟨r / 256 * 256 + r % 16 * 16 + r % 256 / 16, by omega⟩

/-- A row of the digit-swapping permutation matrix picks the swapped entry. -/
theorem sum_pick (p : Fin 256 → EReal) (s : Fin 256) (hp : ∀ b, p b = if b = s then 1 else 0) (F : Fin 256 → EReal) :
    ∑ b, p b * F b = F s := by
  simp only [hp, ite_mul, one_mul, zero_mul, Finset.sum_ite_eq', Finset.mem_univ, if_true]

/-- A sum whose terms vanish outside a window of positions is the sum over the window. -/
theorem sum_window {N : ℕ} (n a : ℕ) (h : a + n ≤ N) (f : Fin N → EReal) (h0 : ∀ i : Fin N, ¬ (a ≤ (i : ℕ) ∧ (i : ℕ) < a + n) → f i = 0) :
    ∑ i, f i = ∑ j : Fin n, f ⟨a + j, by omega⟩ := by
  symm
  refine Finset.sum_of_injOn (fun j : Fin n => (⟨a + j, by omega⟩ : Fin N)) ?_ ?_ ?_ ?_
  · intro i _ j _ e
    have := Fin.mk.inj_iff.1 e
    exact Fin.ext (by omega)
  · intro i _; exact Finset.mem_coe.2 (Finset.mem_univ _)
  · intro i _ hi
    refine h0 i fun hw => hi ⟨⟨i - a, by omega⟩, Finset.mem_coe.2 (Finset.mem_univ _), Fin.ext ?_⟩
    show a + ((i : ℕ) - a) = i
    omega
  · intro i _; rfl

/-- A square is nonnegative. -/
theorem sq_nonneg (a : EReal) : 0 ≤ a * a := by
  rcases le_total 0 a with h | h
  · exact mul_nonneg h h
  · exact EReal.mul_nonneg_iff.2 (Or.inr ⟨h, h⟩)

/-- A sum of squares times a constant, term by term. -/
theorem sum_sq_mul {n : ℕ} (f : Fin n → EReal) (c : EReal) : (∑ k, f k * f k) * c = ∑ k, f k * f k * c := by
  have : ∀ s : Finset (Fin n), 0 ≤ ∑ k ∈ s, f k * f k ∧ (∑ k ∈ s, f k * f k) * c = ∑ k ∈ s, f k * f k * c := by
    intro s
    induction s using Finset.cons_induction with
    | empty => simp
    | cons a s ha ih =>
      rw [Finset.sum_cons, Finset.sum_cons, EReal.right_distrib_of_nonneg (sq_nonneg _) ih.1, ih.2]
      exact ⟨add_nonneg (sq_nonneg _) ih.1, rfl⟩
  exact (this Finset.univ).2

/-- Column `j` of the projection of one normed row. -/
def col (x g : Fin 1024 → EReal) (w : Fin 1024 → Fin 3088 → EReal) (j : Fin 3088) : EReal :=
  ∑ k, nrm x g k * w k j

/-- The RMS norm of 64 channels `z` with the gains `g`, at one of them; the two words are 64 and 1e-6. -/
def head (z g : Fin 64 → EReal) (e : Fin 64) : EReal :=
  z e * Ideal.rsqrt (Ideal.div (∑ k, z k * z k) (Ideal.ofBits .f32 0x42800000#32) + Ideal.ofBits .f32 0x358637BD#32) * g e

/-- The mean over a group of 64 channels, computed as a product with a matrix column that holds 1/64 at the group's
    channels and 0 elsewhere; the words are 1/64 and 64. -/
theorem mean_at (F B : Fin 256 → EReal) (e : Fin 256)
    (hB : ∀ a, B a = if (a : ℕ) / 64 = e / 64 then Ideal.ofBits .f32 0x3C800000#32 else 0) :
    ∑ a, F a * F a * B a
      = Ideal.div (∑ k : Fin 64, F ⟨64 * (e / 64) + k, by omega⟩ * F ⟨64 * (e / 64) + k, by omega⟩) (Ideal.ofBits .f32 0x42800000#32) := by
  have h64 : Ideal.ofBits .f32 0x42800000#32 = ((64 : ℝ) : EReal) := by

    simp [Ideal.ofBits, Ideal.ieee]
    norm_num
    rw [← EReal.coe_mul]
    norm_num
  have hc : Ideal.ofBits .f32 0x3C800000#32 = ((1 / 64 : ℝ) : EReal) := by

    simp [Ideal.ofBits, Ideal.ieee]
    norm_num
    rw [← EReal.coe_mul]
    norm_num
  rw [sum_window 64 (64 * (e / 64)) (by omega)]
  · rw [h64, Ideal.div_coe (by norm_num), sum_sq_mul]
    refine Finset.sum_congr rfl fun k _ => ?_
    rw [hB, if_pos (show (64 * ((e : ℕ) / 64) + k) / 64 = e / 64 by omega), hc]
  · intro a ha
    rw [hB, if_neg (by omega), mul_zero]

/-- One channel of the norm of a head, where the channels lie in a tile of 256 that starts at channel `o`. -/
theorem tile_head (F B : Fin 256 → EReal) (Y : Fin 1024 → EReal) (o : ℕ) (ho : o % 256 = 0) (hl : o + 256 ≤ 1024)
    (hF : ∀ a : Fin 256, F a = Y ⟨o + a, by omega⟩) (e : Fin 256)
    (hB : ∀ a, B a = if (a : ℕ) / 64 = e / 64 then Ideal.ofBits .f32 0x3C800000#32 else 0) (G : Fin 64 → EReal) (g : EReal)
    (hg : g = G ⟨(o + e) % 64, by omega⟩) :
    F e * Ideal.rsqrt ((∑ a, F a * F a * B a) + Ideal.ofBits .f32 0x358637BD#32) * g
      = head (fun k => Y ⟨64 * ((o + e) / 64) + k, by omega⟩) G ⟨(o + e) % 64, by omega⟩ := by
  rw [mean_at F B e hB, hg]
  unfold head
  simp only [hF]
  have h1 : ∀ k : Fin 64, (⟨o + (64 * (e / 64) + k), by omega⟩ : Fin 1024) = ⟨64 * ((o + e) / 64) + k, by omega⟩ := fun k =>
    Fin.ext (show o + (64 * ((e : ℕ) / 64) + k) = 64 * ((o + e) / 64) + k by omega)
  have h2 : (⟨o + e, by omega⟩ : Fin 1024) = ⟨64 * ((o + e) / 64) + (o + e) % 64, by omega⟩ :=
    Fin.ext (show o + (e : ℕ) = 64 * ((o + e) / 64) + (o + e) % 64 by omega)
  simp only [h1, h2]

end RowMath

end
-- ==== Proof.GluBlock.lean ====
/- What one grid point of the gated output projection and feed-forward call stores, as a function of its blocks. -/
module

public import proofs.«01_k».proof.Proof.Gen.KernelIdeal.Skeleton
public import proofs.«01_k».proof.Proof.RowMath

@[expose] public section

set_option maxRecDepth 16384

noncomputable section

open Idealize.ShloMosaic Idealize.ShloMosaic.TcCoe Idealize.SL.Sem
namespace Cert.KernelIdeal.GluBlock
open Cert.KernelIdeal Cert.KernelIdeal.Gen RowMath

/-- The matrix `p` swaps the digits of the row number: row `a` has its one at column `16 (a mod 16) + a / 16`. -/
def IsSwap (p : FVec Ideal S256x256 .bf16) : Prop :=
  ∀ a b : Fin 256, p (ix2 a b) = if b = ⟨a % 16 * 16 + a / 16, by omega⟩ then 1 else 0

variable {p : FVec Ideal S256x256 .bf16} (hp : IsSwap p)
  (z : FVec Ideal S512x1024 .bf16) (w : FVec Ideal S1024x2048 .bf16) (x : FVec Ideal S512x1024 .f32)
  (g : FVec Ideal S1x1024 .f32)

include hp in
/-- The mixed row: the residual row plus the gated projection of the token's own row of `z`. -/
theorem mixed (r : Fin 512) (j : Fin 1024) :
    k0_pay2 (F := Ideal) p z w x (ix2 r j)
      = gated (fun k => x (ix2 r k)) (fun k => z (ix2 (swap 512 r r.2 rfl) k)) (fun k c => w (ix2 k c)) j := by
  have hz : ∀ k : Fin 1024,
      (if h : (r : ℕ) < 256 then ∑ b : Fin 256, p (ix2 ⟨r, h⟩ b) * z (ix2 ⟨b, by omega⟩ k)
        else ∑ b : Fin 256, p (ix2 ⟨r - 256, by omega⟩ b) * z (ix2 ⟨256 + b, by omega⟩ k))
      = z (ix2 (swap 512 r r.2 rfl) k) := by
    intro k
    split
    · rw [sum_pick _ _ (hp _)]
      refine congrArg z (ix2_inj .. |>.2 ⟨?_, rfl⟩)
      apply Fin.ext; simp only [swap]; omega
    · rw [sum_pick _ _ (hp _)]
      refine congrArg z (ix2_inj .. |>.2 ⟨?_, rfl⟩)
      apply Fin.ext; simp only [swap]; omega
  pointwise [k0_pay2]
  simp only [hz]
  rfl

include hp in
/-- The normed row that the feed-forward part reads. -/
theorem normed (r : Fin 512) (j : Fin 1024) :
    k0_pay3 (F := Ideal) p z w x g (ix2 r j)
      = nrm (gated (fun k => x (ix2 r k)) (fun k => z (ix2 (swap 512 r r.2 rfl) k)) (fun k c => w (ix2 k c)))
          (fun k => g (ix2 0 k)) j := by
  pointwise [k0_pay3]
  simp only [mixed hp]
  rfl

include hp in
/-- The stored row: the mixed row after the feed-forward part, the hidden width read in four chunks. -/
theorem stored (w₁ : Fin 1024 → Fin 4096 → EReal) (w₂ : Fin 4096 → Fin 1024 → EReal)
    (a0 b0 a1 b1 a2 b2 a3 b3 : FVec Ideal S1x1024x1024 .bf16)
    (ha0 : ∀ k f : Fin 1024, a0 (ix3 0 k f) = w₁ k ⟨f, by omega⟩) (hb0 : ∀ f j : Fin 1024, b0 (ix3 0 f j) = w₂ ⟨f, by omega⟩ j)
    (ha1 : ∀ k f : Fin 1024, a1 (ix3 0 k f) = w₁ k ⟨1024 + f, by omega⟩) (hb1 : ∀ f j : Fin 1024, b1 (ix3 0 f j) = w₂ ⟨1024 + f, by omega⟩ j)
    (ha2 : ∀ k f : Fin 1024, a2 (ix3 0 k f) = w₁ k ⟨2048 + f, by omega⟩) (hb2 : ∀ f j : Fin 1024, b2 (ix3 0 f j) = w₂ ⟨2048 + f, by omega⟩ j)
    (ha3 : ∀ k f : Fin 1024, a3 (ix3 0 k f) = w₁ k ⟨3072 + f, by omega⟩) (hb3 : ∀ f j : Fin 1024, b3 (ix3 0 f j) = w₂ ⟨3072 + f, by omega⟩ j)
    (r : Fin 512) (j : Fin 1024) :
    k0_pay1 (k0_pay6 (k0_pay2 p z w x) (k0_pay3 p z w x g) (k0_pay4 p z w x g a0) (k0_pay5 (F := Ideal)) b0 a1 b1 a2 b2)
        (k0_pay7 (k0_pay3 p z w x g) a3) k0_pay8 b3 (ix2 r j)
      = mlp (gated (fun k => x (ix2 r k)) (fun k => z (ix2 (swap 512 r r.2 rfl) k)) (fun k c => w (ix2 k c)))
          (fun k => g (ix2 0 k)) w₁ w₂ j := by
  pointwise [k0_pay1, k0_pay6, k0_pay4, k0_pay5, k0_pay7, k0_pay8]
  simp only [mixed hp, normed hp, ha0, hb0, ha1, hb1, ha2, hb2, ha3, hb3]
  exact add_four_chunks _ (fun f => hid _ _ w₁ f * hid _ _ w₁ f * w₂ f j)

end Cert.KernelIdeal.GluBlock

end
-- ==== Proof.GluTab.lean ====
/- What the host code hands the gated call: the weight and gain tables and the digit-swapping matrix. -/
module

public import proofs.«01_k».proof.Proof.Gen.KernelIdeal.Value
public import proofs.«01_k».proof.Proof.GluBlock
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
namespace Cert.KernelIdeal.GluTab
open Cert.KernelIdeal Cert.KernelIdeal.Gen RowMath GluBlock

variable (m : (ℓ : Loc nD τ sig) → Buf (Elt Ideal) ℓ) (c : Dev nD)

/-- The gate weight reaches the call as it is given. -/
theorem tab_w (k : Fin 1024) (j : Fin 2048) :
    (V m c main_v1 : FVec Ideal S1024x2048 .bf16) (ix2 k j) = (m ((c : Thread nD τ).loc main_arg2) : FVec Ideal S1x1024x2048 .f32) (ix3 0 k j) := by
  simp only [V, hostOps0, hostOps0_1, hostOps0_2, hostOps0_3, hostOps0_4, hostOps0_5, hostOps0_6, List.flatten_cons, List.flatten_nil,
    List.append_nil, List.cons_append, List.nil_append, StableHlo.TRef.binary, StableHlo.TRef.nullary, StableHlo.TRef.unary,
    StableHlo.TRef.ternary, StableHlo.TRef.toBuf, StableHlo.TRef.ofBuf, cast_eq]
  after_results_simp
  pointwise

/-- The gain row is the second row of the gain table. -/
theorem tab_g (k : Fin 1024) :
    (V m c main_v4 : FVec Ideal S1x1024 .f32) (ix2 0 k) = (m ((c : Thread nD τ).loc main_arg3) : FVec Ideal S2x1024 .f32) (ix2 1 k) := by
  simp only [V, hostOps0, hostOps0_1, hostOps0_2, hostOps0_3, hostOps0_4, hostOps0_5, hostOps0_6, List.flatten_cons, List.flatten_nil,
    List.append_nil, List.cons_append, List.nil_append, StableHlo.TRef.binary, StableHlo.TRef.nullary, StableHlo.TRef.unary,
    StableHlo.TRef.ternary, StableHlo.TRef.toBuf, StableHlo.TRef.ofBuf, cast_eq]
  after_results_simp
  pointwise

/-- Comparing two numbers below 256 as words is comparing them. -/
theorem select_word (b : Fin 256) (n : ℕ) (hn : n < 256) :
    Scalar.select (IntOp.cmpi .eq (BitVec.ofNat 32 b) (BitVec.ofNat 32 n)) (1 : EReal) 0 = if b = ⟨n, hn⟩ then 1 else 0 := by
  have h : BitVec.ofNat 32 (b : ℕ) = BitVec.ofNat 32 n ↔ b = ⟨n, hn⟩ := by
    rw [Fin.ext_iff, ← BitVec.toNat_inj, BitVec.toNat_ofNat, BitVec.toNat_ofNat]
    have := b.2
    constructor <;> intro h <;> simp only at * <;> omega
  by_cases e : b = ⟨n, hn⟩
  · simp [Scalar.select, IntOp.cmpi, h.mpr e, e]
  · rw [if_neg e]
    simp only [Scalar.select, IntOp.cmpi, beq_eq_false_iff_ne.mpr (mt h.mp e)]
    rfl

/-- The matrix built on the host swaps the digits of the row number. -/
theorem tab_p : IsSwap (V m c main_v18 : FVec Ideal S256x256 .bf16) := by
  intro a b
  simp only [V, hostOps0, hostOps0_1, hostOps0_2, hostOps0_3, hostOps0_4, hostOps0_5, hostOps0_6, List.flatten_cons, List.flatten_nil,
    List.append_nil, List.cons_append, List.nil_append, StableHlo.TRef.binary, StableHlo.TRef.nullary, StableHlo.TRef.unary,
    StableHlo.TRef.ternary, StableHlo.TRef.toBuf, StableHlo.TRef.ofBuf, cast_eq]
  after_results_simp
  pointwise
  refine (congrArg (fun w => Scalar.select (IntOp.cmpi .eq (BitVec.ofNat 32 b) w) (1 : EReal) 0)
    (?_ : _ = BitVec.ofNat 32 (a % 16 * 16 + a / 16))).trans (select_word b _ _)
  revert a
  decide +kernel

end Cert.KernelIdeal.GluTab

end
-- ==== Proof.GluRef.lean ====
/- The reference of the gated call in named stages, and each stage at an index. -/
module

public import proofs.«01_k».proof.Proof.Gen.ReferenceIdeal.Run
public import proofs.«01_k».proof.Proof.RowMath
public import Idealize.ShloMosaic.Lib.Pointwise

@[expose] public section

set_option maxRecDepth 16384

noncomputable section

open Idealize.ShloMosaic Idealize.ShloMosaic.TcCoe Idealize.SL.Sem
namespace Cert.ReferenceIdeal.Stages
open Cert.ReferenceIdeal Cert.ReferenceIdeal.Gen RowMath

/-- The state-space activations with the tokens back in order. -/
def turned (z : FVec Ideal S16384x1024 .bf16) : FVec Ideal S16384x1024 .f32 :=
  (shapeCast _ (transpose S64x16x16x1024 [0, 2, 1, 3] (shapeCast _ (extf .f32 z bitsLt_bf16_f32) shapeCasts_S16384x1024_S64x16x16x1024) transposes_S64x16x16x1024_S64x16x16x1024_0_2_1_3) shapeCasts_S64x16x16x1024_S16384x1024)

/-- The residual plus the gated projection. -/
def mid (x : FVec Ideal S16384x1024 .f32) (z : FVec Ideal S16384x1024 .bf16) (w : FVec Ideal S1x1024x2048 .f32) : FVec Ideal S16384x1024 .f32 :=
  (addf x (mulf (extractStridedSlice S16384x1024 ![0, 0] (Host.dotGeneral dot_S16384x1024_S1024x2048_S16384x2048_1_0_0_1_n_n none (turned z) (shapeCast _ w shapeCasts_S1x1024x2048_S1024x2048)) slices_S16384x2048_S16384x1024_0_0) (Host.divf (broadcastInDim S16384x1024 ![] bcast_S_S16384x1024 (constant S_ .f32 0x3F800000#32)) (addf (broadcastInDim S16384x1024 ![] bcast_S_S16384x1024 (constant S_ .f32 0x3F800000#32)) (Host.exp (Host.negf (extractStridedSlice S16384x1024 ![0, 1024] (Host.dotGeneral dot_S16384x1024_S1024x2048_S16384x2048_1_0_0_1_n_n none (turned z) (shapeCast _ w shapeCasts_S1x1024x2048_S1024x2048)) slices_S16384x2048_S16384x1024_0_1024)))))))

/-- The normed rows. -/
def normed (y : FVec Ideal S16384x1024 .f32) (g : FVec Ideal S2x1024 .f32) : FVec Ideal S16384x1024 .f32 :=
  (mulf (mulf y (broadcastInDim S16384x1024 ![0, 1] bcast_S16384x1_S16384x1024_0_1 (Host.rsqrt (addf (Host.divf (broadcastInDim S16384x1 ![0] bcast_S16384_S16384x1_0 (Host.reduceAdd (mulf y y) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ (extractStridedSlice S1x1024 ![1, 0] g slices_S2x1024_S1x1024_1_0) shapeCasts_S1x1024_S1024))))

/-- The whole reference. -/
def whole (x : FVec Ideal S16384x1024 .f32) (z : FVec Ideal S16384x1024 .bf16) (w : FVec Ideal S1x1024x2048 .f32)
    (g : FVec Ideal S2x1024 .f32) (w₁ : FVec Ideal S2x1024x4096 .bf16) (w₂ : FVec Ideal S2x4096x1024 .bf16) : FVec Ideal S16384x1024 .f32 :=
  addf (mid x z w) (Host.dotGeneral dot_S16384x4096_S4096x1024_S16384x1024_1_0_0_1_n_n none (mulf (maximumf (Host.dotGeneral dot_S16384x1024_S1024x4096_S16384x4096_1_0_0_1_n_n none (normed (mid x z w) g) (extf .f32 (shapeCast _ (extractStridedSlice S1x1024x4096 ![1, 0, 0] w₁ slices_S2x1024x4096_S1x1024x4096_1_0_0) shapeCasts_S1x1024x4096_S1024x4096) bitsLt_bf16_f32)) (broadcastInDim S16384x4096 ![] bcast_S_S16384x4096 (constant S_ .f32 0x00000000#32))) (maximumf (Host.dotGeneral dot_S16384x1024_S1024x4096_S16384x4096_1_0_0_1_n_n none (normed (mid x z w) g) (extf .f32 (shapeCast _ (extractStridedSlice S1x1024x4096 ![1, 0, 0] w₁ slices_S2x1024x4096_S1x1024x4096_1_0_0) shapeCasts_S1x1024x4096_S1024x4096) bitsLt_bf16_f32)) (broadcastInDim S16384x4096 ![] bcast_S_S16384x4096 (constant S_ .f32 0x00000000#32)))) (extf .f32 (shapeCast _ (extractStridedSlice S1x4096x1024 ![1, 0, 0] w₂ slices_S2x4096x1024_S1x4096x1024_1_0_0) shapeCasts_S1x4096x1024_S4096x1024) bitsLt_bf16_f32))

/-- The reference's result is the staged term of its arguments. -/
theorem res_eq (m : (ℓ : Loc nD τ sig) → Buf (Elt Ideal) ℓ) (c : Dev nD) :
    Cert.ReferenceIdeal.Value.res_out0 m c
      = whole (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := rfl

/-- The turned activations at a token: the row whose digits are swapped. -/
theorem turned_apply (z : FVec Ideal S16384x1024 .bf16) (t : Fin 16384) (j : Fin 1024) :
    turned z (ix2 t j) = z (ix2 (swap 16384 t t.2 rfl) j) := by
  pointwise [turned]
  refine congrArg z (ix2_inj .. |>.2 ⟨?_, ?_⟩) <;> apply Fin.ext <;> simp only [swap] <;> omega

/-- The mixed row of a token. -/
theorem mid_apply (x : FVec Ideal S16384x1024 .f32) (z : FVec Ideal S16384x1024 .bf16) (w : FVec Ideal S1x1024x2048 .f32)
    (t : Fin 16384) (j : Fin 1024) :
    mid x z w (ix2 t j) = gated (fun k => x (ix2 t k)) (fun k => z (ix2 (swap 16384 t t.2 rfl) k)) (fun k c => w (ix3 0 k c)) j := by
  pointwise [mid]
  simp only [turned_apply]
  rfl

/-- The normed row of a token. -/
theorem normed_apply (y : FVec Ideal S16384x1024 .f32) (g : FVec Ideal S2x1024 .f32) (t : Fin 16384) (j : Fin 1024) :
    normed y g (ix2 t j) = nrm (fun k => y (ix2 t k)) (fun k => g (ix2 1 k)) j := by
  pointwise [normed]
  rfl

/-- The reference's result at a token. -/
theorem whole_apply (x : FVec Ideal S16384x1024 .f32) (z : FVec Ideal S16384x1024 .bf16) (w : FVec Ideal S1x1024x2048 .f32)
    (g : FVec Ideal S2x1024 .f32) (w₁ : FVec Ideal S2x1024x4096 .bf16) (w₂ : FVec Ideal S2x4096x1024 .bf16) (t : Fin 16384) (j : Fin 1024) :
    whole x z w g w₁ w₂ (ix2 t j)
      = mlp (gated (fun k => x (ix2 t k)) (fun k => z (ix2 (swap 16384 t t.2 rfl) k)) (fun k c => w (ix3 0 k c)))
          (fun k => g (ix2 1 k)) (fun k f => w₁ (ix3 1 k f)) (fun f j => w₂ (ix3 1 f j)) j := by
  pointwise [whole]
  simp only [normed_apply, mid_apply]
  rfl

end Cert.ReferenceIdeal.Stages

end
-- ==== Proof.GluValue.lean ====
/- The result array of the gated call is the reference's. -/
module

public import proofs.«01_k».proof.Proof.GluTab
public import proofs.«01_k».proof.Proof.GluRef

@[expose] public section

set_option maxRecDepth 16384

noncomputable section

open Idealize.ShloMosaic Idealize.ShloMosaic.TcCoe Idealize.SL.Sem
open Idealize.ShloMosaic.Pipeline (Dat)
namespace Cert.KernelIdeal.GluValue
open Cert.KernelIdeal Cert.KernelIdeal.Gen RowMath GluBlock GluTab

variable (m : (ℓ : Loc nD τ sig) → Buf (Elt Ideal) ℓ)

/-- Where every window stands at grid point `t`. -/
theorem idx : ∀ t : Fin cfg0.N, win0_0.index t = ![t.val, 0] ∧ win0_1.index t = ![t.val, 0] ∧ win0_2.index t = ![0, 0]
    ∧ win0_3.index t = ![0, 0] ∧ win0_4.index t = ![1, 0, 0] ∧ win0_5.index t = ![1, 0, 0] ∧ win0_6.index t = ![0, 0]
    ∧ win0_7.index t = ![t.val, 0] ∧ t.val < 32 :=
  (by decide +kernel : ∀ t : Fin grid0.N, _)

variable (c : Dev nD) (t : Fin cfg0.N)

/-- The row of the whole array at row `r` of the point's block. -/
def row (r : Fin 512) : Fin 16384 := ⟨512 * t.val + r, by have := (idx t).2.2.2.2.2.2.2.2; omega⟩

/-- The point's block of the residual rows, read in the whole array. -/
theorem blk_x (r : Fin 512) (k : Fin 1024) : iblk m c 0 t (ix2 r k) = m ((c : Thread nD τ).loc main_arg0) (ix2 (row t r) k) := by
  blk_simp [iblk]
  rw [V_main_arg0]
  blk_ext [idx t, row]

/-- The point's block of the state-space activations, read in the whole array. -/
theorem blk_z (r : Fin 512) (k : Fin 1024) : iblk m c 1 t (ix2 r k) = m ((c : Thread nD τ).loc main_arg1) (ix2 (row t r) k) := by
  blk_simp [iblk]
  rw [V_main_arg1]
  blk_ext [idx t, row]

/-- The point's weight block is the whole projection weight. -/
theorem blk_w (k : Fin 1024) (j : Fin 2048) : iblk m c 2 t (ix2 k j) = m ((c : Thread nD τ).loc main_arg2) (ix3 0 k j) := by
  refine Eq.trans ?_ (tab_w m c k j)
  blk_simp [iblk]
  blk_ext [idx t]

/-- The point's gain block is the layer's row of the gain table. -/
theorem blk_g (k : Fin 1024) : iblk m c 3 t (ix2 0 k) = m ((c : Thread nD τ).loc main_arg3) (ix2 1 k) := by
  refine Eq.trans ?_ (tab_g m c k)
  blk_simp [iblk]
  blk_ext [idx t]

/-- The point's block of the first feed-forward weight is the layer's slice. -/
theorem blk_w₁ (k : Fin 1024) (f : Fin 4096) : iblk m c 4 t (ix3 0 k f) = m ((c : Thread nD τ).loc main_arg4) (ix3 1 k f) := by
  blk_simp [iblk]
  rw [V_main_arg4]
  blk_ext [idx t]

/-- The point's block of the second feed-forward weight is the layer's slice. -/
theorem blk_w₂ (f : Fin 4096) (j : Fin 1024) : iblk m c 5 t (ix3 0 f j) = m ((c : Thread nD τ).loc main_arg5) (ix3 1 f j) := by
  blk_simp [iblk]
  rw [V_main_arg5]
  blk_ext [idx t]

/-- The point's matrix block swaps the digits of the row number. -/
theorem blk_p : IsSwap (iblk m c 6 t) := by
  intro a b
  refine Eq.trans ?_ (tab_p m c a b)
  blk_simp [iblk]
  blk_ext [idx t]

/-- Swapping digits in the whole array is swapping them in the point's block. -/
theorem row_swap (r : Fin 512) : swap 16384 (row t r) (row t r).2 rfl = row t (swap 512 r r.2 rfl) := by
  apply Fin.ext; simp only [swap, row]; omega

/-- Where a row of the point's block stands in the result array. -/
theorem at_block (r : Fin 512) (j : Fin 1024) : ((View.whole main_v19).slice (win0_7.rect t)).emb (ix2 r j) = ix2 (row t r) j := by
  blk_ext [idx t, row]

/-- What a grid point stores, over any blocks: the weights' chunks are rectangles of the weight blocks. -/
theorem stored_blocks (x0 x1 x2 x3 x4 x5 x6) (hp : IsSwap x6) (r : Fin 512) (j : Fin 1024) :
    k0_pay1 (k0_pay6 (k0_pay2 x6 x1 x2 x0) (k0_pay9 x0 x1 x2 x3 x4 x5 x6) (k0_pay4 x6 x1 x2 x0 x3 (View.ld x4 r0_4))
          (k0_pay5 (F := Ideal)) (View.ld x5 r0_5) (View.ld x4 r0_6) (View.ld x5 r0_7) (View.ld x4 r0_8) (View.ld x5 r0_9))
        (k0_pay7 (k0_pay9 x0 x1 x2 x3 x4 x5 x6) (View.ld x4 r0_10)) k0_pay8 (View.ld x5 r0_11) (ix2 r j)
      = mlp (gated (fun k => x0 (ix2 r k)) (fun k => x1 (ix2 (swap 512 r r.2 rfl) k)) (fun k c => x2 (ix2 k c)))
          (fun k => x3 (ix2 0 k)) (fun k f => x4 (ix3 0 k f)) (fun f j => x5 (ix3 0 f j)) j := by
  have e : k0_pay9 x0 x1 x2 x3 x4 x5 x6 = k0_pay3 x6 x1 x2 x0 x3 := by
    unfold k0_pay9; frame_out
  rw [e]
  refine stored hp x1 x2 x0 x3 (fun k f => x4 (ix3 0 k f)) (fun f j => x5 (ix3 0 f j)) _ _ _ _ _ _ _ _ ?_ ?_ ?_ ?_ ?_ ?_ ?_ ?_ r j
  all_goals (intro k f; pointwise)

/-- The result array is the staged reference of the argument arrays. -/
theorem final : (dats m 0 c).arrAt 7 (cfgs 0).N
    = Cert.ReferenceIdeal.Stages.whole (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 7 _ (by decide +kernel) fun t _ y => ?_
  blk_simp
  rw [after0_7]
  frame_out
  idx_vars y
  refine (stored_blocks _ _ _ _ _ _ _ (blk_p m c t) y0 y1).trans ?_
  rw [at_block, Cert.ReferenceIdeal.Stages.whole_apply, row_swap]
  simp only [blk_x, blk_z, blk_w, blk_g, blk_w₁, blk_w₂]

end Cert.KernelIdeal.GluValue

end
-- ==== Proof.MixBlock.lean ====
/- What one grid point of the output projection, feed-forward and input projection call stores, as a function of its blocks. -/
module

public import proofs.«01_k».proof.Proof.Gen.Kernel2Ideal.Skeleton
public import proofs.«01_k».proof.Proof.RowMath

@[expose] public section

set_option maxRecDepth 16384

noncomputable section

open Idealize.ShloMosaic Idealize.ShloMosaic.TcCoe Idealize.SL.Sem
namespace Cert.Kernel2Ideal.MixBlock
open Cert.Kernel2Ideal Cert.Kernel2Ideal.Gen RowMath

/-- The matrix `p` swaps the digits of the row number: row `a` has its one at column `16 (a mod 16) + a / 16`. -/
def IsSwap (p : FVec Ideal S256x256 .bf16) : Prop :=
  ∀ a b : Fin 256, p (ix2 a b) = if b = ⟨a % 16 * 16 + a / 16, by omega⟩ then 1 else 0

variable (a : FVec Ideal S512x1024 .bf16) (w : FVec Ideal S1024x1024 .bf16) (x : FVec Ideal S512x1024 .f32)
  (g : FVec Ideal S1x1024 .f32)

/-- The mixed row: the residual row plus the output projection. -/
theorem mixed (r : Fin 512) (j : Fin 1024) :
    k0_pay2 (F := Ideal) a w x (ix2 r j) = plain (fun k => x (ix2 r k)) (fun k => a (ix2 r k)) (fun k c => w (ix2 k c)) j := by
  pointwise [k0_pay2]
  rfl

/-- The normed row that the feed-forward part reads. -/
theorem normed (r : Fin 512) (j : Fin 1024) :
    k0_pay3 (F := Ideal) a w x g (ix2 r j)
      = nrm (plain (fun k => x (ix2 r k)) (fun k => a (ix2 r k)) (fun k c => w (ix2 k c))) (fun k => g (ix2 0 k)) j := by
  pointwise [k0_pay3]
  simp only [mixed]
  rfl

/-- The stored row: the mixed row after the feed-forward part, the hidden width read in four chunks. -/
theorem stored (w₁ : Fin 1024 → Fin 4096 → EReal) (w₂ : Fin 4096 → Fin 1024 → EReal)
    (a0 b0 a1 b1 a2 b2 a3 b3 : FVec Ideal S1x1024x1024 .bf16)
    (ha0 : ∀ k f : Fin 1024, a0 (ix3 0 k f) = w₁ k ⟨f, by omega⟩) (hb0 : ∀ f j : Fin 1024, b0 (ix3 0 f j) = w₂ ⟨f, by omega⟩ j)
    (ha1 : ∀ k f : Fin 1024, a1 (ix3 0 k f) = w₁ k ⟨1024 + f, by omega⟩) (hb1 : ∀ f j : Fin 1024, b1 (ix3 0 f j) = w₂ ⟨1024 + f, by omega⟩ j)
    (ha2 : ∀ k f : Fin 1024, a2 (ix3 0 k f) = w₁ k ⟨2048 + f, by omega⟩) (hb2 : ∀ f j : Fin 1024, b2 (ix3 0 f j) = w₂ ⟨2048 + f, by omega⟩ j)
    (ha3 : ∀ k f : Fin 1024, a3 (ix3 0 k f) = w₁ k ⟨3072 + f, by omega⟩) (hb3 : ∀ f j : Fin 1024, b3 (ix3 0 f j) = w₂ ⟨3072 + f, by omega⟩ j)
    (r : Fin 512) (j : Fin 1024) :
    k0_pay5 (F := Ideal) (k0_pay3 a w x g) (k0_pay4 a w x g a0 b0) a1 b1 a2 b2 a3 b3 (ix2 r j)
      = mlp (plain (fun k => x (ix2 r k)) (fun k => a (ix2 r k)) (fun k c => w (ix2 k c))) (fun k => g (ix2 0 k)) w₁ w₂ j := by
  pointwise [k0_pay5, k0_pay4]
  simp only [mixed, normed, ha0, hb0, ha1, hb1, ha2, hb2, ha3, hb3]
  exact add_four_chunks _ (fun f => hid _ _ w₁ f * hid _ _ w₁ f * w₂ f j)

/-- The second stored row: the normed result row of the swapped token times the next layer's input weight. -/
theorem next_stored (y : FVec Ideal S512x1024 .f32) (v : FVec Ideal S1024x1024 .bf16) {p : FVec Ideal S256x256 .bf16} (hp : IsSwap p)
    (r : Fin 512) (j : Fin 1024) :
    k0_pay1 (F := Ideal) y (k0_pay6 g) v p (ix2 r j)
      = ∑ k, nrm (fun k => y (ix2 (swap 512 r r.2 rfl) k)) (fun k => g (ix2 0 k)) k * v (ix2 k j) := by
  pointwise [k0_pay1, k0_pay6]
  split
  · rw [sum_pick _ _ (hp _)]
    have e : swap 512 r r.2 rfl = ⟨(r : ℕ) % 16 * 16 + r / 16, by omega⟩ := Fin.ext (by simp only [swap]; omega)
    rw [e]
    rfl
  · rw [sum_pick _ _ (hp _)]
    have e : swap 512 r r.2 rfl = ⟨256 + (((r : ℕ) - 256) % 16 * 16 + (r - 256) / 16), by omega⟩ := Fin.ext (by simp only [swap]; omega)
    rw [e]
    rfl

end Cert.Kernel2Ideal.MixBlock

end
-- ==== Proof.MixTab.lean ====
/- What the host code hands the projection call: its rows, the weight and gain tables and the digit-swapping matrix. -/
module

public import proofs.«01_k».proof.Proof.Gen.Kernel2Ideal.Value
public import proofs.«01_k».proof.Proof.MixBlock
public import proofs.«01_k».proof.Proof.GluTab
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
namespace Cert.Kernel2Ideal.MixTab
open Cert.Kernel2Ideal Cert.Kernel2Ideal.Gen RowMath MixBlock

variable (m : (ℓ : Loc nD τ sig) → Buf (Elt Ideal) ℓ) (c : Dev nD)

/-- The residual rows reach the call flattened. -/
theorem tab_x (t : Fin 16384) (k : Fin 1024) :
    (V m c main_v0 : FVec Ideal S16384x1024 .f32) (ix2 t k)
      = (m ((c : Thread nD τ).loc main_arg0) : FVec Ideal S4x4096x1024 .f32) (ix3 ⟨t / 4096, by omega⟩ ⟨t % 4096, by omega⟩ k) := by
  simp only [V, hostOps0, hostOps0_1, hostOps0_2, hostOps0_3, hostOps0_4, hostOps0_5, hostOps0_6, List.flatten_cons, List.flatten_nil,
    List.append_nil, List.cons_append, List.nil_append, StableHlo.TRef.binary, StableHlo.TRef.nullary, StableHlo.TRef.unary,
    StableHlo.TRef.ternary, StableHlo.TRef.toBuf, StableHlo.TRef.ofBuf, cast_eq]
  after_results_simp
  pointwise

/-- The attention's rows reach the call flattened. -/
theorem tab_o (t : Fin 16384) (k : Fin 1024) :
    (V m c main_v1 : FVec Ideal S16384x1024 .bf16) (ix2 t k)
      = (m ((c : Thread nD τ).loc main_arg1) : FVec Ideal S4x4096x1024 .bf16) (ix3 ⟨t / 4096, by omega⟩ ⟨t % 4096, by omega⟩ k) := by
  simp only [V, hostOps0, hostOps0_1, hostOps0_2, hostOps0_3, hostOps0_4, hostOps0_5, hostOps0_6, List.flatten_cons, List.flatten_nil,
    List.append_nil, List.cons_append, List.nil_append, StableHlo.TRef.binary, StableHlo.TRef.nullary, StableHlo.TRef.unary,
    StableHlo.TRef.ternary, StableHlo.TRef.toBuf, StableHlo.TRef.ofBuf, cast_eq]
  after_results_simp
  pointwise

/-- The output weight reaches the call as it is given. -/
theorem tab_w (k j : Fin 1024) :
    (V m c main_v3 : FVec Ideal S1024x1024 .bf16) (ix2 k j)
      = (m ((c : Thread nD τ).loc main_arg2) : FVec Ideal S1x1024x1024 .f32) (ix3 0 k j) := by
  simp only [V, hostOps0, hostOps0_1, hostOps0_2, hostOps0_3, hostOps0_4, hostOps0_5, hostOps0_6, List.flatten_cons, List.flatten_nil,
    List.append_nil, List.cons_append, List.nil_append, StableHlo.TRef.binary, StableHlo.TRef.nullary, StableHlo.TRef.unary,
    StableHlo.TRef.ternary, StableHlo.TRef.toBuf, StableHlo.TRef.ofBuf, cast_eq]
  after_results_simp
  pointwise

/-- The gain row is the first row of the gain table. -/
theorem tab_g (k : Fin 1024) :
    (V m c main_v6 : FVec Ideal S1x1024 .f32) (ix2 0 k)
      = (m ((c : Thread nD τ).loc main_arg3) : FVec Ideal S2x1024 .f32) (ix2 0 k) := by
  simp only [V, hostOps0, hostOps0_1, hostOps0_2, hostOps0_3, hostOps0_4, hostOps0_5, hostOps0_6, List.flatten_cons, List.flatten_nil,
    List.append_nil, List.cons_append, List.nil_append, StableHlo.TRef.binary, StableHlo.TRef.nullary, StableHlo.TRef.unary,
    StableHlo.TRef.ternary, StableHlo.TRef.toBuf, StableHlo.TRef.ofBuf, cast_eq]
  after_results_simp
  pointwise

/-- The next layer's gain row is the second row of its table. -/
theorem tab_g' (k : Fin 1024) :
    (V m c main_v23 : FVec Ideal S1x1024 .f32) (ix2 0 k)
      = (m ((c : Thread nD τ).loc main_arg6) : FVec Ideal S2x1024 .f32) (ix2 1 k) := by
  simp only [V, hostOps0, hostOps0_1, hostOps0_2, hostOps0_3, hostOps0_4, hostOps0_5, hostOps0_6, List.flatten_cons, List.flatten_nil,
    List.append_nil, List.cons_append, List.nil_append, StableHlo.TRef.binary, StableHlo.TRef.nullary, StableHlo.TRef.unary,
    StableHlo.TRef.ternary, StableHlo.TRef.toBuf, StableHlo.TRef.ofBuf, cast_eq]
  after_results_simp
  pointwise

/-- The next layer's input weight reaches the call as it is given. -/
theorem tab_w' (k j : Fin 1024) :
    (V m c main_v25 : FVec Ideal S1024x1024 .bf16) (ix2 k j)
      = (m ((c : Thread nD τ).loc main_arg7) : FVec Ideal S1x1024x1024 .f32) (ix3 0 k j) := by
  simp only [V, hostOps0, hostOps0_1, hostOps0_2, hostOps0_3, hostOps0_4, hostOps0_5, hostOps0_6, List.flatten_cons, List.flatten_nil,
    List.append_nil, List.cons_append, List.nil_append, StableHlo.TRef.binary, StableHlo.TRef.nullary, StableHlo.TRef.unary,
    StableHlo.TRef.ternary, StableHlo.TRef.toBuf, StableHlo.TRef.ofBuf, cast_eq]
  after_results_simp
  pointwise

/-- The matrix built on the host swaps the digits of the row number. -/
theorem tab_p : IsSwap (V m c main_v20 : FVec Ideal S256x256 .bf16) := by
  intro a b
  simp only [V, hostOps0, hostOps0_1, hostOps0_2, hostOps0_3, hostOps0_4, hostOps0_5, hostOps0_6, List.flatten_cons, List.flatten_nil,
    List.append_nil, List.cons_append, List.nil_append, StableHlo.TRef.binary, StableHlo.TRef.nullary, StableHlo.TRef.unary,
    StableHlo.TRef.ternary, StableHlo.TRef.toBuf, StableHlo.TRef.ofBuf, cast_eq]
  after_results_simp
  pointwise
  refine (congrArg (fun w => Scalar.select (IntOp.cmpi .eq (BitVec.ofNat 32 b) w) (1 : EReal) 0)
    (?_ : _ = BitVec.ofNat 32 (a % 16 * 16 + a / 16))).trans (Cert.KernelIdeal.GluTab.select_word b _ _)
  revert a
  decide +kernel

end Cert.Kernel2Ideal.MixTab

end
-- ==== Proof.MixRef.lean ====
/- The reference of the output projection, feed-forward and input projection call in named stages, and each stage at an index. -/
module

public import proofs.«01_k».proof.Proof.Gen.Reference2Ideal.Run
public import proofs.«01_k».proof.Proof.RowMath
public import Idealize.ShloMosaic.Lib.Pointwise

@[expose] public section

set_option maxRecDepth 16384

noncomputable section

open Idealize.ShloMosaic Idealize.ShloMosaic.TcCoe Idealize.SL.Sem
namespace Cert.Reference2Ideal.Stages
open Cert.Reference2Ideal Cert.Reference2Ideal.Gen RowMath

/-- The residual plus the output projection. -/
def mid (x : FVec Ideal S4x4096x1024 .f32) (o : FVec Ideal S4x4096x1024 .bf16) (w : FVec Ideal S1x1024x1024 .f32) : FVec Ideal S4x4096x1024 .f32 :=
  (addf x (Host.dotGeneral dot_S4x4096x1024_S1024x1024_S4x4096x1024_2_0_01_1_n_n none (extf .f32 o bitsLt_bf16_f32) (shapeCast _ w shapeCasts_S1x1024x1024_S1024x1024)))

/-- The normed rows that the feed-forward part reads. -/
def normed (y : FVec Ideal S4x4096x1024 .f32) (g : FVec Ideal S2x1024 .f32) : FVec Ideal S4x4096x1024 .f32 :=
  (mulf (mulf y (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf y y) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast _ (extractStridedSlice S1x1024 ![0, 0] g slices_S2x1024_S1x1024_0_0) shapeCasts_S1x1024_S1024))))

/-- The normed rows that the next layer's input projection reads. -/
def normed' (y : FVec Ideal S4x4096x1024 .f32) (g : FVec Ideal S2x1024 .f32) : FVec Ideal S4x4096x1024 .f32 :=
  (mulf (mulf y (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf y y) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast _ (extractStridedSlice S1x1024 ![1, 0] g slices_S2x1024_S1x1024_1_0) shapeCasts_S1x1024_S1024))))

/-- The layer's output. -/
def fed (x : FVec Ideal S4x4096x1024 .f32) (o : FVec Ideal S4x4096x1024 .bf16) (w : FVec Ideal S1x1024x1024 .f32)
    (g : FVec Ideal S2x1024 .f32) (w₁ : FVec Ideal S2x1024x4096 .bf16) (w₂ : FVec Ideal S2x4096x1024 .bf16) : FVec Ideal S4x4096x1024 .f32 :=
  (addf (mid x o w) (Host.dotGeneral dot_S4x4096x4096_S4096x1024_S4x4096x1024_2_0_01_1_n_n none (mulf (maximumf (Host.dotGeneral dot_S4x4096x1024_S1024x4096_S4x4096x4096_2_0_01_1_n_n none (normed (mid x o w) g) (extf .f32 (shapeCast _ (extractStridedSlice S1x1024x4096 ![0, 0, 0] w₁ slices_S2x1024x4096_S1x1024x4096_0_0_0) shapeCasts_S1x1024x4096_S1024x4096) bitsLt_bf16_f32)) (broadcastInDim S4x4096x4096 ![] bcast_S_S4x4096x4096 (constant S_ .f32 0x00000000#32))) (maximumf (Host.dotGeneral dot_S4x4096x1024_S1024x4096_S4x4096x4096_2_0_01_1_n_n none (normed (mid x o w) g) (extf .f32 (shapeCast _ (extractStridedSlice S1x1024x4096 ![0, 0, 0] w₁ slices_S2x1024x4096_S1x1024x4096_0_0_0) shapeCasts_S1x1024x4096_S1024x4096) bitsLt_bf16_f32)) (broadcastInDim S4x4096x4096 ![] bcast_S_S4x4096x4096 (constant S_ .f32 0x00000000#32)))) (extf .f32 (shapeCast _ (extractStridedSlice S1x4096x1024 ![0, 0, 0] w₂ slices_S2x4096x1024_S1x4096x1024_0_0_0) shapeCasts_S1x4096x1024_S4096x1024) bitsLt_bf16_f32)))

/-- The first result: the layer's output, one row per token. -/
def first (x : FVec Ideal S4x4096x1024 .f32) (o : FVec Ideal S4x4096x1024 .bf16) (w : FVec Ideal S1x1024x1024 .f32)
    (g : FVec Ideal S2x1024 .f32) (w₁ : FVec Ideal S2x1024x4096 .bf16) (w₂ : FVec Ideal S2x4096x1024 .bf16) : FVec Ideal S16384x1024 .f32 :=
  shapeCast _ (fed x o w g w₁ w₂) shapeCasts_S4x4096x1024_S16384x1024

/-- The second result: the next layer's projected input, the tokens of a block of 256 in swapped order. -/
def second (x : FVec Ideal S4x4096x1024 .f32) (o : FVec Ideal S4x4096x1024 .bf16) (w : FVec Ideal S1x1024x1024 .f32)
    (g : FVec Ideal S2x1024 .f32) (w₁ : FVec Ideal S2x1024x4096 .bf16) (w₂ : FVec Ideal S2x4096x1024 .bf16) (g' : FVec Ideal S2x1024 .f32) (w' : FVec Ideal S1x1024x1024 .f32) : FVec Ideal S16384x1024 .bf16 :=
  truncf .bf16 (shapeCast _ (transpose S64x16x16x1024 [0, 2, 1, 3] (shapeCast _ (shapeCast _ (Host.dotGeneral dot_S4x4096x1024_S1024x1024_S4x4096x1024_2_0_01_1_n_n none (normed' (fed x o w g w₁ w₂) g') (shapeCast _ w' shapeCasts_S1x1024x1024_S1024x1024)) shapeCasts_S4x4096x1024_S16384x1024) shapeCasts_S16384x1024_S64x16x16x1024) transposes_S64x16x16x1024_S64x16x16x1024_0_2_1_3) shapeCasts_S64x16x16x1024_S16384x1024) bitsLt_bf16_f32

/-- The reference's first result is the staged term of its arguments. -/
theorem res_eq0 (m : (ℓ : Loc nD τ sig) → Buf (Elt Ideal) ℓ) (c : Dev nD) :
    Cert.Reference2Ideal.Value.res_out0 m c = first (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := rfl

/-- The reference's second result is the staged term of its arguments. -/
theorem res_eq1 (m : (ℓ : Loc nD τ sig) → Buf (Elt Ideal) ℓ) (c : Dev nD) :
    Cert.Reference2Ideal.Value.res_out1 m c = second (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := rfl

/-- The mixed row of a token. -/
theorem mid_apply (x : FVec Ideal S4x4096x1024 .f32) (o : FVec Ideal S4x4096x1024 .bf16) (w : FVec Ideal S1x1024x1024 .f32) (b : Fin 4) (t : Fin 4096) (j : Fin 1024) :
    mid x o w (ix3 b t j) = plain (fun k => x (ix3 b t k)) (fun k => o (ix3 b t k)) (fun k c => w (ix3 0 k c)) j := by
  pointwise [mid]
  rfl

/-- The normed row of a token. -/
theorem normed_apply (y : FVec Ideal S4x4096x1024 .f32) (g : FVec Ideal S2x1024 .f32) (b : Fin 4) (t : Fin 4096) (j : Fin 1024) :
    normed y g (ix3 b t j) = nrm (fun k => y (ix3 b t k)) (fun k => g (ix2 0 k)) j := by
  pointwise [normed]
  rfl

/-- The normed row that the next projection reads. -/
theorem normed'_apply (y : FVec Ideal S4x4096x1024 .f32) (g : FVec Ideal S2x1024 .f32) (b : Fin 4) (t : Fin 4096) (j : Fin 1024) :
    normed' y g (ix3 b t j) = nrm (fun k => y (ix3 b t k)) (fun k => g (ix2 1 k)) j := by
  pointwise [normed']
  rfl

/-- The layer's output at a token. -/
theorem fed_apply (x : FVec Ideal S4x4096x1024 .f32) (o : FVec Ideal S4x4096x1024 .bf16) (w : FVec Ideal S1x1024x1024 .f32)
    (g : FVec Ideal S2x1024 .f32) (w₁ : FVec Ideal S2x1024x4096 .bf16) (w₂ : FVec Ideal S2x4096x1024 .bf16) (b : Fin 4) (t : Fin 4096) (j : Fin 1024) :
    fed x o w g w₁ w₂ (ix3 b t j)
      = mlp (plain (fun k => x (ix3 b t k)) (fun k => o (ix3 b t k)) (fun k c => w (ix3 0 k c)))
          (fun k => g (ix2 0 k)) (fun k f => w₁ (ix3 0 k f)) (fun f j => w₂ (ix3 0 f j)) j := by
  pointwise [fed]
  simp only [normed_apply, mid_apply]
  rfl

/-- The first result at a row. -/
theorem first_apply (x : FVec Ideal S4x4096x1024 .f32) (o : FVec Ideal S4x4096x1024 .bf16) (w : FVec Ideal S1x1024x1024 .f32)
    (g : FVec Ideal S2x1024 .f32) (w₁ : FVec Ideal S2x1024x4096 .bf16) (w₂ : FVec Ideal S2x4096x1024 .bf16) (t : Fin 16384) (j : Fin 1024) :
    first x o w g w₁ w₂ (ix2 t j)
      = mlp (plain (fun k => x (ix3 ⟨t / 4096, by omega⟩ ⟨t % 4096, by omega⟩ k)) (fun k => o (ix3 ⟨t / 4096, by omega⟩ ⟨t % 4096, by omega⟩ k))
            (fun k c => w (ix3 0 k c)))
          (fun k => g (ix2 0 k)) (fun k f => w₁ (ix3 0 k f)) (fun f j => w₂ (ix3 0 f j)) j := by
  pointwise [first]
  exact fed_apply x o w g w₁ w₂ _ _ _

/-- The second result at a row: the projected normed row of the token whose digits are swapped. -/
theorem second_apply (x : FVec Ideal S4x4096x1024 .f32) (o : FVec Ideal S4x4096x1024 .bf16) (w : FVec Ideal S1x1024x1024 .f32)
    (g : FVec Ideal S2x1024 .f32) (w₁ : FVec Ideal S2x1024x4096 .bf16) (w₂ : FVec Ideal S2x4096x1024 .bf16) (g' : FVec Ideal S2x1024 .f32) (w' : FVec Ideal S1x1024x1024 .f32) (t : Fin 16384) (j : Fin 1024) :
    second x o w g w₁ w₂ g' w' (ix2 t j)
      = ∑ k, nrm (fun k => first x o w g w₁ w₂ (ix2 (swap 16384 t t.2 rfl) k)) (fun k => g' (ix2 1 k)) k * w' (ix3 0 k j) := by
  pointwise [second, first]
  simp only [normed'_apply]
  have hs : (swap 16384 t t.2 rfl : ℕ) = t / 256 * 256 + (t % 16 * 16 + t / 16 % 16) := by simp only [swap]; omega
  have hl : (t : ℕ) % 16 * 16 + t / 16 % 16 < 256 := by omega
  have e₀ : (⟨(t : ℕ) / 256 / 16, by omega⟩ : Fin 4) = ⟨(swap 16384 t t.2 rfl : ℕ) / 4096, by omega⟩ := by
    apply Fin.ext; simp only [hs]; generalize (t : ℕ) / 256 = q at *; generalize (t : ℕ) % 16 * 16 + t / 16 % 16 = l at *; omega
  have e₁ : (⟨(t : ℕ) / 256 % 16 * 256 + t % 16 * 16 + t / 16 % 16, by omega⟩ : Fin 4096) = ⟨(swap 16384 t t.2 rfl : ℕ) % 4096, by omega⟩ := by
    clear e₀; apply Fin.ext; simp only [hs, Nat.add_assoc]; generalize (t : ℕ) / 256 = q at *; generalize (t : ℕ) % 16 * 16 + t / 16 % 16 = l at *; omega
  rw [e₀, e₁]

end Cert.Reference2Ideal.Stages

end
-- ==== Proof.MixValue.lean ====
/- The result array of the projection call is the reference's. -/
module

public import proofs.«01_k».proof.Proof.MixTab
public import proofs.«01_k».proof.Proof.MixRef

@[expose] public section

set_option maxRecDepth 16384

noncomputable section

open Idealize.ShloMosaic Idealize.ShloMosaic.TcCoe Idealize.SL.Sem
open Idealize.ShloMosaic.Pipeline (Dat)
namespace Cert.Kernel2Ideal.MixValue
open Cert.Kernel2Ideal Cert.Kernel2Ideal.Gen RowMath MixBlock MixTab

variable (m : (ℓ : Loc nD τ sig) → Buf (Elt Ideal) ℓ)

/-- Where every window stands at grid point `t`. -/
theorem idx : ∀ t : Fin cfg0.N, win0_0.index t = ![t.val, 0] ∧ win0_1.index t = ![t.val, 0] ∧ win0_2.index t = ![0, 0]
    ∧ win0_3.index t = ![0, 0] ∧ win0_4.index t = ![0, 0, 0] ∧ win0_5.index t = ![0, 0, 0] ∧ win0_6.index t = ![0, 0]
    ∧ win0_7.index t = ![0, 0] ∧ win0_8.index t = ![0, 0] ∧ win0_9.index t = ![t.val, 0] ∧ win0_10.index t = ![t.val, 0] ∧ t.val < 32 :=
  (by decide +kernel : ∀ t : Fin grid0.N, _)

variable (c : Dev nD) (t : Fin cfg0.N)

/-- The row of the whole array at row `r` of the point's block. -/
def row (r : Fin 512) : Fin 16384 := ⟨512 * t.val + r, by have := (idx t).2.2.2.2.2.2.2.2.2.2.2; omega⟩

/-- The point's block of the residual rows, read in the whole array. -/
theorem blk_x (r : Fin 512) (k : Fin 1024) :
    iblk m c 0 t (ix2 r k) = m ((c : Thread nD τ).loc main_arg0) (ix3 ⟨row t r / 4096, by omega⟩ ⟨row t r % 4096, by omega⟩ k) := by
  refine Eq.trans ?_ (tab_x m c (row t r) k)
  blk_simp [iblk]
  blk_ext [idx t, row]

/-- The point's block of the attention's rows, read in the whole array. -/
theorem blk_o (r : Fin 512) (k : Fin 1024) :
    iblk m c 1 t (ix2 r k) = m ((c : Thread nD τ).loc main_arg1) (ix3 ⟨row t r / 4096, by omega⟩ ⟨row t r % 4096, by omega⟩ k) := by
  refine Eq.trans ?_ (tab_o m c (row t r) k)
  blk_simp [iblk]
  blk_ext [idx t, row]

/-- The point's weight block is the whole projection weight. -/
theorem blk_w (k j : Fin 1024) : iblk m c 2 t (ix2 k j) = m ((c : Thread nD τ).loc main_arg2) (ix3 0 k j) := by
  refine Eq.trans ?_ (tab_w m c k j)
  blk_simp [iblk]
  blk_ext [idx t]

/-- The point's gain block is the layer's row of the gain table. -/
theorem blk_g (k : Fin 1024) : iblk m c 3 t (ix2 0 k) = m ((c : Thread nD τ).loc main_arg3) (ix2 0 k) := by
  refine Eq.trans ?_ (tab_g m c k)
  blk_simp [iblk]
  blk_ext [idx t]

/-- The point's block of the first feed-forward weight is the layer's slice. -/
theorem blk_w₁ (k : Fin 1024) (f : Fin 4096) : iblk m c 4 t (ix3 0 k f) = m ((c : Thread nD τ).loc main_arg4) (ix3 0 k f) := by
  blk_simp [iblk]
  rw [V_main_arg4]
  blk_ext [idx t]

/-- The point's block of the second feed-forward weight is the layer's slice. -/
theorem blk_w₂ (f : Fin 4096) (j : Fin 1024) : iblk m c 5 t (ix3 0 f j) = m ((c : Thread nD τ).loc main_arg5) (ix3 0 f j) := by
  blk_simp [iblk]
  rw [V_main_arg5]
  blk_ext [idx t]

/-- The point's matrix block swaps the digits of the row number. -/
theorem blk_p : IsSwap (iblk m c 6 t) := by
  intro a b
  refine Eq.trans ?_ (tab_p m c a b)
  blk_simp [iblk]
  blk_ext [idx t]

/-- The point's second gain block is the next layer's row of its gain table. -/
theorem blk_g' (k : Fin 1024) : iblk m c 7 t (ix2 0 k) = m ((c : Thread nD τ).loc main_arg6) (ix2 1 k) := by
  refine Eq.trans ?_ (tab_g' m c k)
  blk_simp [iblk]
  blk_ext [idx t]

/-- The point's last weight block is the whole next input weight. -/
theorem blk_w' (k j : Fin 1024) : iblk m c 8 t (ix2 k j) = m ((c : Thread nD τ).loc main_arg7) (ix3 0 k j) := by
  refine Eq.trans ?_ (tab_w' m c k j)
  blk_simp [iblk]
  blk_ext [idx t]

/-- Swapping digits in the whole array is swapping them in the point's block. -/
theorem row_swap (r : Fin 512) : swap 16384 (row t r) (row t r).2 rfl = row t (swap 512 r r.2 rfl) := by
  apply Fin.ext; simp only [swap, row]; omega

/-- Where a row of the point's block stands in the result array. -/
theorem at_block (r : Fin 512) (j : Fin 1024) : ((View.whole main_v26_0).slice (win0_9.rect t)).emb (ix2 r j) = ix2 (row t r) j := by
  blk_ext [idx t, row]

/-- Where a row of the point's block stands in the second result array. -/
theorem at_block' (r : Fin 512) (j : Fin 1024) : ((View.whole main_v26_1).slice (win0_10.rect t)).emb (ix2 r j) = ix2 (row t r) j := by
  blk_ext [idx t, row]

/-- What a grid point stores first, over any blocks: the weights' chunks are rectangles of the weight blocks. -/
theorem stored_blocks (x0 x1 x2 x3 x4 x5 x6 x7 x8) (r : Fin 512) (j : Fin 1024) :
    k0_pay7 (F := Ideal) x0 x1 x2 x3 x4 x5 x6 x7 x8 (ix2 r j)
      = mlp (plain (fun k => x0 (ix2 r k)) (fun k => x1 (ix2 r k)) (fun k c => x2 (ix2 k c)))
          (fun k => x3 (ix2 0 k)) (fun k f => x4 (ix3 0 k f)) (fun f j => x5 (ix3 0 f j)) j := by
  unfold k0_pay7
  frame_out
  refine stored x1 x2 x0 x3 (fun k f => x4 (ix3 0 k f)) (fun f j => x5 (ix3 0 f j)) _ _ _ _ _ _ _ _ ?_ ?_ ?_ ?_ ?_ ?_ ?_ ?_ r j
  all_goals (intro k f; pointwise)

/-- What the point's blocks hold at a row is the staged reference's first result at the row's place. -/
theorem first_point (r : Fin 512) (j : Fin 1024) :
    k0_pay7 (F := Ideal) (iblk m c 0 t) (iblk m c 1 t) (iblk m c 2 t) (iblk m c 3 t) (iblk m c 4 t) (iblk m c 5 t) (iblk m c 6 t)
        (iblk m c 7 t) (iblk m c 8 t) (ix2 r j)
      = Cert.Reference2Ideal.Stages.first (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (ix2 (row t r) j) := by
  rw [Cert.Reference2Ideal.Stages.first_apply]
  refine (stored_blocks _ _ _ _ _ _ _ _ _ r j).trans ?_
  simp only [blk_x, blk_o, blk_w, blk_g, blk_w₁, blk_w₂]

/-- The first result array is the staged reference's. -/
theorem final : (dats m 0 c).arrAt 9 (cfgs 0).N
    = Cert.Reference2Ideal.Stages.first (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 9 _ (by decide +kernel) fun t _ y => ?_
  blk_simp
  rw [after0_9]
  frame_out
  idx_vars y
  rw [at_block]
  exact first_point m c t y0 y1

/-- The second result array is the staged reference's. -/
theorem final' : (dats m 0 c).arrAt 10 (cfgs 0).N
    = Cert.Reference2Ideal.Stages.second (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (dats m 0 c).arrAt_eq_of_covers 10 _ (by decide +kernel) fun t _ y => ?_
  blk_simp
  rw [after0_10]
  frame_out
  idx_vars y
  rw [at_block']
  refine (next_stored _ _ _ (blk_p m c t) y0 y1).trans ?_
  rw [Cert.Reference2Ideal.Stages.second_apply, row_swap]
  simp only [first_point, blk_g', blk_w']

end Cert.Kernel2Ideal.MixValue

end
-- ==== Proof.AttRunI.lean ====
module

public import proofs.«01_k».proof.Proof.Gen.Kernel3Ideal.Loops
public import proofs.«01_k».proof.Proof.Gen.Kernel3Ideal.Launch
public import Idealize.ShloMosaic.Lib.LoopRemainder

@[expose] public section

set_option maxRecDepth 65536
set_option Elab.async false

noncomputable section

namespace Cert.Kernel3Ideal.Att

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The prefetched table and the four scratch buffers, whole. -/
abbrev tab : Memref sig .tc .smem S257 .i32 := Memref.whole main_arg0
abbrev scr0 : Memref sig .tc .vmem S2x512x1024 .f32 := Memref.whole cc0_scratch0
abbrev scr1 : Memref sig .tc .vmem S2x512x1024 .f32 := Memref.whole cc0_scratch1
abbrev scr2 : Memref sig .tc .vmem S2x512x1024 .bf16 := Memref.whole cc0_scratch2
abbrev scr3 : Memref sig .tc .vmem S2x512x1024 .bf16 := Memref.whole cc0_scratch3

section
variable {F : FTy → Type} [FloatOps F] [Named F]

/-- The loop's invariant with the values its region does not read fixed. -/
@[sl_loop] def loop_t9 (𝒱 : Variants) (c : Dev nD) (bd : Option 𝒱.V) (E : Set ℕ) (i : grid0.Coords) (arg3 : Memref sig .tc .smem S257 .i32) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole) (arg14 : Memref sig .tc .vmem S2x512x1024 .f32) (harg14 : arg14.IsWhole) (arg15 : Memref sig .tc .vmem S2x512x1024 .f32) (harg15 : arg15.IsWhole) (arg16 : Memref sig .tc .vmem S2x512x1024 .bf16) (harg16 : arg16.IsWhole) (arg17 : Memref sig .tc .vmem S2x512x1024 .bf16) (harg17 : arg17.IsWhole) (v23 : IVec S512x128 1) (v48 : FVec F S256x1024 .bf16) (cst_55 : F .bf16) (X_arg6 : BufTy.Contents (Elt F) arg6.view.ty) (X_arg7 : BufTy.Contents (Elt F) arg7.view.ty) (X_arg8 : BufTy.Contents (Elt F) arg8.view.ty) (G_arg14 : BufTy.Contents (Elt F) arg14.view.ty) (G_arg15 : BufTy.Contents (Elt F) arg15.view.ty) (init : FVec F S1x1024 .f32 × FVec F S1x1024 .f32 × FVec F S64x1024 .f32) :=
  loopInv_k0_t9 (F := F) 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v48 (k0_pay452 (F := F)) (k0_pay453 (F := F)) (k0_pay452 (F := F)) (0#32) (0#32) (0#32) (0#32) cst_55 X_arg6 X_arg7 X_arg8 G_arg14 G_arg15 init

/-- The loop's invariant with the values its region does not read fixed. -/
@[sl_loop] def loop_t11 (𝒱 : Variants) (c : Dev nD) (bd : Option 𝒱.V) (E : Set ℕ) (i : grid0.Coords) (arg3 : Memref sig .tc .smem S257 .i32) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole) (arg14 : Memref sig .tc .vmem S2x512x1024 .f32) (harg14 : arg14.IsWhole) (arg15 : Memref sig .tc .vmem S2x512x1024 .f32) (harg15 : arg15.IsWhole) (arg16 : Memref sig .tc .vmem S2x512x1024 .bf16) (harg16 : arg16.IsWhole) (arg17 : Memref sig .tc .vmem S2x512x1024 .bf16) (harg17 : arg17.IsWhole) (v23 : IVec S512x128 1) (v48 : FVec F S256x1024 .bf16) (v132 : BitVec 32) (cst_69 : F .bf16) (X_arg6 : BufTy.Contents (Elt F) arg6.view.ty) (X_arg7 : BufTy.Contents (Elt F) arg7.view.ty) (X_arg8 : BufTy.Contents (Elt F) arg8.view.ty) (G_arg14 : BufTy.Contents (Elt F) arg14.view.ty) (G_arg15 : BufTy.Contents (Elt F) arg15.view.ty) (init : FVec F S1x1024 .f32 × FVec F S1x1024 .f32 × FVec F S64x1024 .f32) :=
  loopInv_k0_t11 (F := F) 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v48 (k0_pay286 (fun _ => Scalar.ofBits .bf16 0#16) (fun _ => Scalar.ofBits .bf16 0#16)) (0#32) (0#32) (k0_pay452 (F := F)) (k0_pay452 (F := F)) (k0_pay453 (F := F)) (0#32) v132 cst_69 X_arg6 X_arg7 X_arg8 G_arg14 G_arg15 init

/-- The loop's invariant with the values its region does not read fixed. -/
@[sl_loop] def loop_t13 (𝒱 : Variants) (c : Dev nD) (bd : Option 𝒱.V) (E : Set ℕ) (i : grid0.Coords) (arg3 : Memref sig .tc .smem S257 .i32) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole) (arg14 : Memref sig .tc .vmem S2x512x1024 .f32) (harg14 : arg14.IsWhole) (arg15 : Memref sig .tc .vmem S2x512x1024 .f32) (harg15 : arg15.IsWhole) (arg16 : Memref sig .tc .vmem S2x512x1024 .bf16) (harg16 : arg16.IsWhole) (arg17 : Memref sig .tc .vmem S2x512x1024 .bf16) (harg17 : arg17.IsWhole) (v23 : IVec S512x128 1) (v70 : FVec F S256x1024 .bf16) (cst_122 : F .bf16) (X_arg6 : BufTy.Contents (Elt F) arg6.view.ty) (X_arg7 : BufTy.Contents (Elt F) arg7.view.ty) (X_arg8 : BufTy.Contents (Elt F) arg8.view.ty) (G_arg14 : BufTy.Contents (Elt F) arg14.view.ty) (G_arg15 : BufTy.Contents (Elt F) arg15.view.ty) (init : FVec F S1x1024 .f32 × FVec F S1x1024 .f32 × FVec F S64x1024 .f32) :=
  loopInv_k0_t13 (F := F) 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v70 (k0_pay452 (F := F)) (k0_pay453 (F := F)) (k0_pay452 (F := F)) (0#32) (0#32) (0#1) (0#32) cst_122 X_arg6 X_arg7 X_arg8 G_arg14 G_arg15 init

/-- The loop's invariant with the values its region does not read fixed. -/
@[sl_loop] def loop_t15 (𝒱 : Variants) (c : Dev nD) (bd : Option 𝒱.V) (E : Set ℕ) (i : grid0.Coords) (arg3 : Memref sig .tc .smem S257 .i32) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole) (arg14 : Memref sig .tc .vmem S2x512x1024 .f32) (harg14 : arg14.IsWhole) (arg15 : Memref sig .tc .vmem S2x512x1024 .f32) (harg15 : arg15.IsWhole) (arg16 : Memref sig .tc .vmem S2x512x1024 .bf16) (harg16 : arg16.IsWhole) (arg17 : Memref sig .tc .vmem S2x512x1024 .bf16) (harg17 : arg17.IsWhole) (v23 : IVec S512x128 1) (v26 : IVec S512x512 1) (v70 : FVec F S256x1024 .bf16) (v288 : BitVec 32) (v293 : BitVec 32) (v295 : BitVec 32) (cst_136 : F .bf16) (X_arg6 : BufTy.Contents (Elt F) arg6.view.ty) (X_arg7 : BufTy.Contents (Elt F) arg7.view.ty) (X_arg8 : BufTy.Contents (Elt F) arg8.view.ty) (G_arg14 : BufTy.Contents (Elt F) arg14.view.ty) (G_arg15 : BufTy.Contents (Elt F) arg15.view.ty) (init : FVec F S1x1024 .f32 × FVec F S1x1024 .f32 × FVec F S64x1024 .f32) :=
  loopInv_k0_t15 (F := F) 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v26 v70 (0#32) (k0_pay452 (F := F)) (k0_pay452 (F := F)) (k0_pay453 (F := F)) (0#32) (0#32) v288 v293 v295 cst_136 X_arg6 X_arg7 X_arg8 G_arg14 G_arg15 init

end

set_option backward.proofsInPublic true in
set_option maxHeartbeats 16000000 in
/-- One call of the body where the flag word selects the branch with the running maximum: what it stores in each of the
    three outputs, with the proof that it runs from the input blocks, the table and the scratch buffers at any contents. -/
noncomputable def bodyRun (c : Dev nD) (i : grid0.Coords) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole)
    (T : S257.Idx → Elt Ideal .i32) (x0 : S1x128x1024.Idx → Elt Ideal .bf16) (x1 : S1x128x1024.Idx → Elt Ideal .bf16) (x2 : S1x4096x128.Idx → Elt Ideal .bf16) (x3 : S1x4096x128.Idx → Elt Ideal .bf16) (x4 : S1x8x128x512.Idx → Elt Ideal .bf16) (x5 : S16x4096.Idx → Elt Ideal .f32) (x6 : S64x1024.Idx → Elt Ideal .f32)
    (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3))
    (k0_h1 : ¬(k0_cond1 (View.readAt (Elt Ideal) (tab).view (Rect.unit (s := S257) ![256] S1.size inb_S257_S1_256).toLoadRect T (Shape.Idx.first (numel1_S1.symm ▸ Nat.one_pos))) = 1#1))
    (k0_h6 : k0_cond6 (View.readAt (Elt Ideal) (tab).view (Rect.unit (s := S257) ![256] S1.size inb_S257_S1_256).toLoadRect T (Shape.Idx.first (numel1_S1.symm ▸ Nat.one_pos))) = 1#1) :
    Σ' (out0 : List (View.Piece (Elt Ideal) S1x1024x128 .bf16)) (out1 : List (View.Piece (Elt Ideal) S16x4096 .bf16)), { out2 : List (View.Piece (Elt Ideal) S64x1024 .bf16) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (arg10.view.loc (c : Thread nD τ) ↦[arg10.view.set]{fullShare} arg10.view.rep x6)
          ∗ (tab.view.loc (c : Thread nD τ) ↦{fullShare.right} T)
          ∗ (∃ d, owns (c : Thread nD τ) arg11 fullShare d)
          ∗ (∃ d, owns (c : Thread nD τ) arg12 fullShare d)
          ∗ (∃ d, owns (c : Thread nD τ) arg13 fullShare d)
          ∗ (scr0.view.loc (c : Thread nD τ) ↦[scr0.view.set]{fullShare} xa0)
          ∗ (scr1.view.loc (c : Thread nD τ) ↦[scr1.view.set]{fullShare} xa1)
          ∗ (scr2.view.loc (c : Thread nD τ) ↦[scr2.view.set]{fullShare} xa2)
          ∗ (scr3.view.loc (c : Thread nD τ) ↦[scr3.view.set]{fullShare} xa3)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (arg10.view.loc (c : Thread nD τ) ↦[arg10.view.set]{fullShare} arg10.view.rep x6)
          ∗ (tab.view.loc (c : Thread nD τ) ↦{fullShare.right} T)
          ∗ (∃ f, arg11.view.loc (c : Thread nD τ) ↦[arg11.view.set]{fullShare} arg11.view.writes (Elt Ideal) f out0)
          ∗ (∃ f, arg12.view.loc (c : Thread nD τ) ↦[arg12.view.set]{fullShare} arg12.view.writes (Elt Ideal) f out1)
          ∗ (∃ f, arg13.view.loc (c : Thread nD τ) ↦[arg13.view.set]{fullShare} arg13.view.writes (Elt Ideal) f out2)
          ∗ (∃ a, scr0.view.loc (c : Thread nD τ) ↦[scr0.view.set]{fullShare} a)
          ∗ (∃ a, scr1.view.loc (c : Thread nD τ) ↦[scr1.view.set]{fullShare} a)
          ∗ (∃ a, scr2.view.loc (c : Thread nD τ) ↦[scr2.view.set]{fullShare} a)
          ∗ (∃ a, scr3.view.loc (c : Thread nD τ) ↦[scr3.view.set]{fullShare} a)) -∗ K ⟨⟩))
          ⊢ wp frame (wpE (defs₀ (F := Ideal)) Variants.none c none) Set.univ (cc0_fox_attention i tab (Memref.isWhole_whole _) arg4 harg4 arg5 harg5 arg6 harg6 arg7 harg7 arg8 harg8 arg9 harg9 arg10 harg10 arg11 harg11 arg12 harg12 arg13 harg13 scr0 (Memref.isWhole_whole _) scr1 (Memref.isWhole_whole _) scr2 (Memref.isWhole_whole _) scr3 (Memref.isWhole_whole _)) K } :=
  ⟨_, _, _, fun K => by
    unfold owns
    rw [cc0_fox_attention_eq_skeleton]; unfold cc0_fox_attention_skel
    iintro ⟨H0, H1, H2, H3, H4, H5, H6, HT0, ⟨%d7, %f7, -, HO7⟩, ⟨%d8, %f8, -, HO8⟩, ⟨%d9, %f9, -, HO9⟩, HS0, HS1, HS2, HS3, Hk⟩
    have hS0 : scr0.IsWhole := Memref.isWhole_whole _
    have hS1 : scr1.IsWhole := Memref.isWhole_whole _
    have hS2 : scr2.IsWhole := Memref.isWhole_whole _
    have hS3 : scr3.IsWhole := Memref.isWhole_whole _
    have hT0 : tab.IsWhole := Memref.isWhole_whole _
    sl_exec! (disch := first | (guard_target = ¬(k0_cond1 _ = _); exact k0_h1) | (guard_target = k0_cond6 _ = _; exact k0_h6))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HO7]; · iexists _; iexact HO7
    isplitl [HO8]; · iexists _; iexact HO8
    isplitl [HO9]; · iexists _; iexact HO9
    isplitl [HS0]; · iexists _; iexact HS0
    isplitl [HS1]; · iexists _; iexact HS1
    isplitl [HS2]; · iexists _; iexact HS2
    iexists _; iexact HS3⟩

end Cert.Kernel3Ideal.Att

end
-- ==== Proof.AttTripI.lean ====
/- The attention call's loops written out: what the body stores in its first result, as one recursion over the blocks of
   keys, whatever its scratch buffers hold at the start. -/
module

public import proofs.«01_k».proof.Proof.AttRunI
public import Idealize.ShloMosaic.Lib.VecWindow

@[expose] public section

set_option maxRecDepth 65536

noncomputable section

namespace Cert.Kernel3Ideal.Att

open Cert.Kernel3Ideal Cert.Kernel3Ideal.Gen
open Idealize.ShloMosaic
open Idealize.ShloMosaic.TcCoe Idealize.ShloMosaic.Tactic

section
variable {F : FTy → Type} [FloatOps F] [Named F]

/-- The state the loops carry: the running maxima, the running sums, the accumulated rows. -/
abbrev St (F : FTy → Type) : Type := FVec F S1x1024 .f32 × FVec F S1x1024 .f32 × FVec F S64x1024 .f32

/-- A load of the rectangle last stored reads what was stored. -/
theorem readAt_cons {sig : RefSig} {κ : Kind} {sp : Space} {s : Shape} {e : EltTy} {Val : EltTy → Type} (v : View sig κ sp s e) (f : v.ty.Contents Val)
    {off size : Fin s.rank → ℕ} (inb : ∀ a, off a + size a ≤ s.size a) (w : (Rect.unit off size inb).shape.Idx → Val e) (L : List (View.Piece Val s e)) :
    v.readAt Val (Rect.unit off size inb).toLoadRect (v.writes Val f (⟨Rect.unit off size inb, w⟩ :: L)) = w := by
  funext y
  exact View.read_writes_cons_unit_of_mem v f inb w L _ y rfl fun a => by show off a + 1 * (y a).val = off a + (y a).val; omega

theorem readCov_cons {sig : RefSig} {κ : Kind} {sp : Space} {s : Shape} {e : EltTy} {Val : EltTy → Type} [∀ e, Nonempty (Val e)] (v : View sig κ sp s e)
    {off size : Fin s.rank → ℕ} (inb : ∀ a, off a + size a ≤ s.size a) (w : (Rect.unit off size inb).shape.Idx → Val e) (L : List (View.Piece Val s e)) :
    v.readCov (⟨Rect.unit off size inb, w⟩ :: L) (Rect.unit off size inb).toLoadRect = w :=
  readAt_cons v _ inb w L

/-- The scores of one block of keys against the tile's queries, as stored. -/
def scoreF (v23 : IVec S512x128 1) (cst : F .bf16) (q : FVec F S256x1024 .bf16) (kb k : Vec F S1x512x128 .bf16) : FVec F S1x512x1024 .f32 :=
  k0_pay289 v23 q cst kb k

/-- One block's step of the running softmax. -/
def stepF (st : St F) (s : Vec F S1x512x1024 .f32) (v : Vec F S1x1x64x512 .bf16) : St F :=
  (k0_pay292 st.1 s, k0_pay295 st.2.1 (k0_pay293 st.1 s) (k0_pay294 st.1 s),
    k0_pay296 st.2.2 (k0_pay291 v) (k0_pay293 st.1 s) (k0_pay294 st.1 s))

/-- The same step in another of the program's spellings. -/
def step9_0 (st : St F) (s : Vec F S1x512x1024 .f32) (v : Vec F S1x1x64x512 .bf16) : St F :=
  (k0_pay292 st.1 s, k0_pay295 st.2.1 (k0_pay293 st.1 s) (k0_pay294 st.1 s), k0_pay296 st.2.2 (k0_pay291 v) (k0_pay293 st.1 s) (k0_pay294 st.1 s))

theorem step9_0_eq (st : St F) (s : Vec F S1x512x1024 .f32) (v : Vec F S1x1x64x512 .bf16) : step9_0 st s v = stepF st s v := rfl

/-- The same step in another of the program's spellings. -/
def step9_1 (st : St F) (s : Vec F S1x512x1024 .f32) (v : Vec F S1x1x64x512 .bf16) : St F :=
  (k0_pay300 st.1 (k0_pay298 s), k0_pay303 st.1 st.2.1 (k0_pay298 s), k0_pay304 st.1 st.2.2 (k0_pay298 s) (k0_pay299 v))

theorem step9_1_eq (st : St F) (s : Vec F S1x512x1024 .f32) (v : Vec F S1x1x64x512 .bf16) : step9_1 st s v = stepF st s v := rfl

/-- The same step in another of the program's spellings. -/
def step9_2 (st : St F) (s : Vec F S1x512x1024 .f32) (v : Vec F S1x1x64x512 .bf16) : St F :=
  (k0_pay307 st.1 (k0_pay306 s), k0_pay310 st.1 st.2.1 (k0_pay306 s), k0_pay311 st.1 st.2.2 (k0_pay306 s) v)

theorem step9_2_eq (st : St F) (s : Vec F S1x512x1024 .f32) (v : Vec F S1x1x64x512 .bf16) : step9_2 st s v = stepF st s v := rfl

/-- The same step in another of the program's spellings. -/
def step9_3 (st : St F) (s : Vec F S1x512x1024 .f32) (v : Vec F S1x1x64x512 .bf16) : St F :=
  (k0_pay457 st.1 s, k0_pay460 st.1 st.2.1 s, k0_pay461 st.1 st.2.2 s v)

theorem step9_3_eq (st : St F) (s : Vec F S1x512x1024 .f32) (v : Vec F S1x1x64x512 .bf16) : step9_3 st s v = stepF st s v := rfl

theorem word9_0 (i : grid0.Coords) (arg6 arg7 : Memref sig .tc .vmem S1x4096x128 .bf16) (arg15 : Memref sig .tc .vmem S2x512x1024 .f32)
    (v23 : IVec S512x128 1) (v48 : FVec F S256x1024 .bf16) (cst_55 : F .bf16) (X_arg6 : BufTy.Contents (Elt F) arg6.view.ty) (X_arg7 : BufTy.Contents (Elt F) arg7.view.ty) (k : Fin (k0_t9_loop i).trips) :
    (trip_k0_t9.sl.v453 i arg6 arg7 arg15 v23 v48 cst_55 X_arg6 X_arg7 k) = (scoreF v23 cst_55 v48 (View.readAt (Elt F) arg7.view (Rect.unit (s := S1x4096x128) (k0_off80 i k 0#32 1#32) S1x512x128.size (k0_off80_inb i k 0 0)).toLoadRect X_arg7) (View.readAt (Elt F) arg6.view (Rect.unit (s := S1x4096x128) (k0_off80 i k 0#32 1#32) S1x512x128.size (k0_off80_inb i k 0 0)).toLoadRect X_arg6)) := by
  unfold trip_k0_t9.sl.v453
  exact readCov_cons ..

theorem word9_1 (i : grid0.Coords) (arg6 arg7 : Memref sig .tc .vmem S1x4096x128 .bf16) (arg14 : Memref sig .tc .vmem S2x512x1024 .f32)
    (v23 : IVec S512x128 1) (v48 : FVec F S256x1024 .bf16) (cst_55 : F .bf16) (X_arg6 : BufTy.Contents (Elt F) arg6.view.ty) (X_arg7 : BufTy.Contents (Elt F) arg7.view.ty) (k : Fin (k0_t9_loop i).trips) :
    (trip_k0_t9.sl.v496 i arg6 arg7 arg14 v23 v48 cst_55 X_arg6 X_arg7 k) = (scoreF v23 cst_55 v48 (View.readAt (Elt F) arg7.view (Rect.unit (s := S1x4096x128) (k0_off80 i k 0#32 2#32) S1x512x128.size (k0_off80_inb i k 0 1)).toLoadRect X_arg7) (View.readAt (Elt F) arg6.view (Rect.unit (s := S1x4096x128) (k0_off80 i k 0#32 2#32) S1x512x128.size (k0_off80_inb i k 0 1)).toLoadRect X_arg6)) := by
  unfold trip_k0_t9.sl.v496
  exact readCov_cons ..

theorem word9_2 (i : grid0.Coords) (arg6 arg7 : Memref sig .tc .vmem S1x4096x128 .bf16) (arg15 : Memref sig .tc .vmem S2x512x1024 .f32)
    (v23 : IVec S512x128 1) (v48 : FVec F S256x1024 .bf16) (cst_55 : F .bf16) (X_arg6 : BufTy.Contents (Elt F) arg6.view.ty) (X_arg7 : BufTy.Contents (Elt F) arg7.view.ty) (k : Fin (k0_t9_loop i).trips) :
    (trip_k0_t9.sl.v538 i arg6 arg7 arg15 v23 v48 cst_55 X_arg6 X_arg7 k) = (scoreF v23 cst_55 v48 (View.readAt (Elt F) arg7.view (Rect.unit (s := S1x4096x128) (k0_off80 i k 1#32 1#32) S1x512x128.size (k0_off80_inb i k 1 0)).toLoadRect X_arg7) (View.readAt (Elt F) arg6.view (Rect.unit (s := S1x4096x128) (k0_off80 i k 1#32 1#32) S1x512x128.size (k0_off80_inb i k 1 0)).toLoadRect X_arg6)) := by
  unfold trip_k0_t9.sl.v538
  exact readCov_cons ..

/-- What one trip of the loop yields. -/
theorem tripR9  (𝒱 : Variants) (c : Dev nD) (bd : Option 𝒱.V) (i : grid0.Coords) (arg3 : Memref sig .tc .smem S257 .i32) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole) (arg14 : Memref sig .tc .vmem S2x512x1024 .f32) (harg14 : arg14.IsWhole) (arg15 : Memref sig .tc .vmem S2x512x1024 .f32) (harg15 : arg15.IsWhole) (arg16 : Memref sig .tc .vmem S2x512x1024 .bf16) (harg16 : arg16.IsWhole) (arg17 : Memref sig .tc .vmem S2x512x1024 .bf16) (harg17 : arg17.IsWhole) (v23 : IVec S512x128 1) (v48 : FVec F S256x1024 .bf16) (v71 : FVec F S1x1024 .f32) (v72 : FVec F S64x1024 .f32) (v73 : FVec F S1x1024 .f32) (v74 : BitVec 32) (c2_i32_41 : BitVec 32) (v89 : BitVec 32) (c0_i32_42 : BitVec 32) (cst_55 : F .bf16) (X_arg6 : BufTy.Contents (Elt F) arg6.view.ty) (X_arg7 : BufTy.Contents (Elt F) arg7.view.ty) (X_arg8 : BufTy.Contents (Elt F) arg8.view.ty) (k : Fin (k0_t9_loop i).trips) (acc : FVec F S1x1024 .f32 × FVec F S1x1024 .f32 × FVec F S64x1024 .f32) (f_arg14 : BufTy.Contents (Elt F) arg14.view.ty) (f_arg15 : BufTy.Contents (Elt F) arg15.view.ty) :
    tripR_k0_t9 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v48 v71 v72 v73 v74 c2_i32_41 v89 c0_i32_42 cst_55 X_arg6 X_arg7 X_arg8 k acc f_arg14 f_arg15 = stepF (stepF (stepF (stepF acc (View.readAt (Elt F) arg14.view (Rect.unit (s := S2x512x1024) ![0, 0, 0] S1x512x1024.size inb_S2x512x1024_S1x512x1024_0_0_0).toLoadRect f_arg14) (View.readAt (Elt F) arg8.view (Rect.unit (s := S1x8x128x512) (k0_off81 i k 0#32) S1x1x64x512.size (k0_off81_inb i k 0)).toLoadRect X_arg8)) (scoreF v23 cst_55 v48 (View.readAt (Elt F) arg7.view (Rect.unit (s := S1x4096x128) (k0_off80 i k 0#32 1#32) S1x512x128.size (k0_off80_inb i k 0 0)).toLoadRect X_arg7) (View.readAt (Elt F) arg6.view (Rect.unit (s := S1x4096x128) (k0_off80 i k 0#32 1#32) S1x512x128.size (k0_off80_inb i k 0 0)).toLoadRect X_arg6)) (View.readAt (Elt F) arg8.view (Rect.unit (s := S1x8x128x512) (k0_off82 i k 0#32) S1x1x64x512.size (k0_off82_inb i k 0)).toLoadRect X_arg8)) (scoreF v23 cst_55 v48 (View.readAt (Elt F) arg7.view (Rect.unit (s := S1x4096x128) (k0_off80 i k 0#32 2#32) S1x512x128.size (k0_off80_inb i k 0 1)).toLoadRect X_arg7) (View.readAt (Elt F) arg6.view (Rect.unit (s := S1x4096x128) (k0_off80 i k 0#32 2#32) S1x512x128.size (k0_off80_inb i k 0 1)).toLoadRect X_arg6)) (View.readAt (Elt F) arg8.view (Rect.unit (s := S1x8x128x512) (k0_off81 i k 1#32) S1x1x64x512.size (k0_off81_inb i k 1)).toLoadRect X_arg8)) (scoreF v23 cst_55 v48 (View.readAt (Elt F) arg7.view (Rect.unit (s := S1x4096x128) (k0_off80 i k 1#32 1#32) S1x512x128.size (k0_off80_inb i k 1 0)).toLoadRect X_arg7) (View.readAt (Elt F) arg6.view (Rect.unit (s := S1x4096x128) (k0_off80 i k 1#32 1#32) S1x512x128.size (k0_off80_inb i k 1 0)).toLoadRect X_arg6)) (View.readAt (Elt F) arg8.view (Rect.unit (s := S1x8x128x512) (k0_off82 i k 1#32) S1x1x64x512.size (k0_off82_inb i k 1)).toLoadRect X_arg8) := by
  have h : tripR_k0_t9 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v48 v71 v72 v73 v74 c2_i32_41 v89 c0_i32_42 cst_55 X_arg6 X_arg7 X_arg8 k acc f_arg14 f_arg15 = step9_3 (step9_2 (step9_1 (step9_0 acc (View.readAt (Elt F) arg14.view (Rect.unit (s := S2x512x1024) ![0, 0, 0] S1x512x1024.size inb_S2x512x1024_S1x512x1024_0_0_0).toLoadRect f_arg14) (View.readAt (Elt F) arg8.view (Rect.unit (s := S1x8x128x512) (k0_off81 i k 0#32) S1x1x64x512.size (k0_off81_inb i k 0)).toLoadRect X_arg8)) (trip_k0_t9.sl.v453 i arg6 arg7 arg15 v23 v48 cst_55 X_arg6 X_arg7 k) (View.readAt (Elt F) arg8.view (Rect.unit (s := S1x8x128x512) (k0_off82 i k 0#32) S1x1x64x512.size (k0_off82_inb i k 0)).toLoadRect X_arg8)) (trip_k0_t9.sl.v496 i arg6 arg7 arg14 v23 v48 cst_55 X_arg6 X_arg7 k) (View.readAt (Elt F) arg8.view (Rect.unit (s := S1x8x128x512) (k0_off81 i k 1#32) S1x1x64x512.size (k0_off81_inb i k 1)).toLoadRect X_arg8)) (trip_k0_t9.sl.v538 i arg6 arg7 arg15 v23 v48 cst_55 X_arg6 X_arg7 k) (View.readAt (Elt F) arg8.view (Rect.unit (s := S1x8x128x512) (k0_off82 i k 1#32) S1x1x64x512.size (k0_off82_inb i k 1)).toLoadRect X_arg8) := by
    obtain ⟨a0, a1, a2⟩ := acc
    unfold tripR_k0_t9 trip_k0_t9
    rfl
  rw [h]
  simp only [step9_0_eq, step9_1_eq, step9_2_eq, step9_3_eq, word9_0, word9_1, word9_2]

/-- The last scores one trip of the loop stores. -/
theorem tripL9  (𝒱 : Variants) (c : Dev nD) (bd : Option 𝒱.V) (i : grid0.Coords) (arg3 : Memref sig .tc .smem S257 .i32) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole) (arg14 : Memref sig .tc .vmem S2x512x1024 .f32) (harg14 : arg14.IsWhole) (arg15 : Memref sig .tc .vmem S2x512x1024 .f32) (harg15 : arg15.IsWhole) (arg16 : Memref sig .tc .vmem S2x512x1024 .bf16) (harg16 : arg16.IsWhole) (arg17 : Memref sig .tc .vmem S2x512x1024 .bf16) (harg17 : arg17.IsWhole) (v23 : IVec S512x128 1) (v48 : FVec F S256x1024 .bf16) (v71 : FVec F S1x1024 .f32) (v72 : FVec F S64x1024 .f32) (v73 : FVec F S1x1024 .f32) (v74 : BitVec 32) (c2_i32_41 : BitVec 32) (v89 : BitVec 32) (c0_i32_42 : BitVec 32) (cst_55 : F .bf16) (X_arg6 : BufTy.Contents (Elt F) arg6.view.ty) (X_arg7 : BufTy.Contents (Elt F) arg7.view.ty) (X_arg8 : BufTy.Contents (Elt F) arg8.view.ty) (k : Fin (k0_t9_loop i).trips) (acc : FVec F S1x1024 .f32 × FVec F S1x1024 .f32 × FVec F S64x1024 .f32) (f_arg14 : BufTy.Contents (Elt F) arg14.view.ty) (f_arg15 : BufTy.Contents (Elt F) arg15.view.ty) :
    ∃ L, (tripL_k0_t9 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v48 v71 v72 v73 v74 c2_i32_41 v89 c0_i32_42 cst_55 X_arg6 X_arg7 X_arg8 k acc f_arg14 f_arg15).1 = ⟨(Rect.unit (s := S2x512x1024) ![0, 0, 0] S1x512x1024.size inb_S2x512x1024_S1x512x1024_0_0_0), (scoreF v23 cst_55 v48 (View.readAt (Elt F) arg7.view (Rect.unit (s := S1x4096x128) (k0_off80 i k 1#32 2#32) S1x512x128.size (k0_off80_inb i k 1 1)).toLoadRect X_arg7) (View.readAt (Elt F) arg6.view (Rect.unit (s := S1x4096x128) (k0_off80 i k 1#32 2#32) S1x512x128.size (k0_off80_inb i k 1 1)).toLoadRect X_arg6))⟩ :: L := by
  unfold tripL_k0_t9 trip_k0_t9
  exact ⟨_, rfl⟩

/-- The same step in another of the program's spellings. -/
def step11_0 (st : St F) (s : Vec F S1x512x1024 .f32) (v : Vec F S1x1x64x512 .bf16) : St F :=
  (k0_pay340 st.1 s, k0_pay345 (k0_pay343 st.1 st.2.1 s) (k0_pay344 st.1 s), k0_pay346 st.2.2 (k0_pay339 v) (k0_pay341 st.1 s) (k0_pay342 st.1 s))

theorem step11_0_eq (st : St F) (s : Vec F S1x512x1024 .f32) (v : Vec F S1x1x64x512 .bf16) : step11_0 st s v = stepF st s v := rfl

/-- The same step in another of the program's spellings. -/
def step11_1 (st : St F) (s : Vec F S1x512x1024 .f32) (v : Vec F S1x1x64x512 .bf16) : St F :=
  (k0_pay350 st.1 s, k0_pay470 st.2.1 (k0_pay348 s) (k0_pay350 st.1 s) (k0_pay351 st.1 s), k0_pay471 st.2.2 (k0_pay348 s) (k0_pay349 v) (k0_pay350 st.1 s) (k0_pay351 st.1 s))

theorem step11_1_eq (st : St F) (s : Vec F S1x512x1024 .f32) (v : Vec F S1x1x64x512 .bf16) : step11_1 st s v = stepF st s v := rfl

theorem word11_0 (i : grid0.Coords) (arg6 arg7 : Memref sig .tc .vmem S1x4096x128 .bf16) (arg15 : Memref sig .tc .vmem S2x512x1024 .f32)
    (v23 : IVec S512x128 1) (v48 : FVec F S256x1024 .bf16) (cst_69 : F .bf16) (X_arg6 : BufTy.Contents (Elt F) arg6.view.ty) (X_arg7 : BufTy.Contents (Elt F) arg7.view.ty) (k : Fin (k0_t11_loop i).trips) :
    (trip_k0_t11.sl.v451 i arg6 arg7 arg15 v23 v48 cst_69 X_arg6 X_arg7 k) = (scoreF v23 cst_69 v48 (View.readAt (Elt F) arg7.view (Rect.unit (s := S1x4096x128) (k0_off86 i k 1#32) S1x512x128.size (k0_off86_inb i k 0)).toLoadRect X_arg7) (View.readAt (Elt F) arg6.view (Rect.unit (s := S1x4096x128) (k0_off86 i k 1#32) S1x512x128.size (k0_off86_inb i k 0)).toLoadRect X_arg6)) := by
  unfold trip_k0_t11.sl.v451
  exact readCov_cons ..

/-- What one trip of the loop yields. -/
theorem tripR11  (𝒱 : Variants) (c : Dev nD) (bd : Option 𝒱.V) (i : grid0.Coords) (arg3 : Memref sig .tc .smem S257 .i32) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole) (arg14 : Memref sig .tc .vmem S2x512x1024 .f32) (harg14 : arg14.IsWhole) (arg15 : Memref sig .tc .vmem S2x512x1024 .f32) (harg15 : arg15.IsWhole) (arg16 : Memref sig .tc .vmem S2x512x1024 .bf16) (harg16 : arg16.IsWhole) (arg17 : Memref sig .tc .vmem S2x512x1024 .bf16) (harg17 : arg17.IsWhole) (v23 : IVec S512x128 1) (v48 : FVec F S256x1024 .bf16) (v70 : FVec F S256x1024 .bf16) (v74 : BitVec 32) (v123 : BitVec 32) (v130_0 : FVec F S1x1024 .f32) (v130_1 : FVec F S1x1024 .f32) (v130_2 : FVec F S64x1024 .f32) (c2_i32_60 : BitVec 32) (v132 : BitVec 32) (cst_69 : F .bf16) (X_arg6 : BufTy.Contents (Elt F) arg6.view.ty) (X_arg7 : BufTy.Contents (Elt F) arg7.view.ty) (X_arg8 : BufTy.Contents (Elt F) arg8.view.ty) (k : Fin (k0_t11_loop i).trips) (acc : FVec F S1x1024 .f32 × FVec F S1x1024 .f32 × FVec F S64x1024 .f32) (f_arg14 : BufTy.Contents (Elt F) arg14.view.ty) (f_arg15 : BufTy.Contents (Elt F) arg15.view.ty) :
    tripR_k0_t11 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v48 v70 v74 v123 v130_0 v130_1 v130_2 c2_i32_60 v132 cst_69 X_arg6 X_arg7 X_arg8 k acc f_arg14 f_arg15 = stepF (stepF acc (View.readAt (Elt F) arg14.view (Rect.unit (s := S2x512x1024) ![0, 0, 0] S1x512x1024.size inb_S2x512x1024_S1x512x1024_0_0_0).toLoadRect f_arg14) (View.readAt (Elt F) arg8.view (Rect.unit (s := S1x8x128x512) (k0_off87 i k) S1x1x64x512.size (k0_off87_inb i k)).toLoadRect X_arg8)) (scoreF v23 cst_69 v48 (View.readAt (Elt F) arg7.view (Rect.unit (s := S1x4096x128) (k0_off86 i k 1#32) S1x512x128.size (k0_off86_inb i k 0)).toLoadRect X_arg7) (View.readAt (Elt F) arg6.view (Rect.unit (s := S1x4096x128) (k0_off86 i k 1#32) S1x512x128.size (k0_off86_inb i k 0)).toLoadRect X_arg6)) (View.readAt (Elt F) arg8.view (Rect.unit (s := S1x8x128x512) (k0_off88 i k) S1x1x64x512.size (k0_off88_inb i k)).toLoadRect X_arg8) := by
  have h : tripR_k0_t11 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v48 v70 v74 v123 v130_0 v130_1 v130_2 c2_i32_60 v132 cst_69 X_arg6 X_arg7 X_arg8 k acc f_arg14 f_arg15 = step11_1 (step11_0 acc (View.readAt (Elt F) arg14.view (Rect.unit (s := S2x512x1024) ![0, 0, 0] S1x512x1024.size inb_S2x512x1024_S1x512x1024_0_0_0).toLoadRect f_arg14) (View.readAt (Elt F) arg8.view (Rect.unit (s := S1x8x128x512) (k0_off87 i k) S1x1x64x512.size (k0_off87_inb i k)).toLoadRect X_arg8)) (trip_k0_t11.sl.v451 i arg6 arg7 arg15 v23 v48 cst_69 X_arg6 X_arg7 k) (View.readAt (Elt F) arg8.view (Rect.unit (s := S1x8x128x512) (k0_off88 i k) S1x1x64x512.size (k0_off88_inb i k)).toLoadRect X_arg8) := by
    obtain ⟨a0, a1, a2⟩ := acc
    unfold tripR_k0_t11 trip_k0_t11
    rfl
  rw [h]
  simp only [step11_0_eq, step11_1_eq, word11_0]

/-- The last scores one trip of the loop stores. -/
theorem tripL11  (𝒱 : Variants) (c : Dev nD) (bd : Option 𝒱.V) (i : grid0.Coords) (arg3 : Memref sig .tc .smem S257 .i32) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole) (arg14 : Memref sig .tc .vmem S2x512x1024 .f32) (harg14 : arg14.IsWhole) (arg15 : Memref sig .tc .vmem S2x512x1024 .f32) (harg15 : arg15.IsWhole) (arg16 : Memref sig .tc .vmem S2x512x1024 .bf16) (harg16 : arg16.IsWhole) (arg17 : Memref sig .tc .vmem S2x512x1024 .bf16) (harg17 : arg17.IsWhole) (v23 : IVec S512x128 1) (v48 : FVec F S256x1024 .bf16) (v70 : FVec F S256x1024 .bf16) (v74 : BitVec 32) (v123 : BitVec 32) (v130_0 : FVec F S1x1024 .f32) (v130_1 : FVec F S1x1024 .f32) (v130_2 : FVec F S64x1024 .f32) (c2_i32_60 : BitVec 32) (v132 : BitVec 32) (cst_69 : F .bf16) (X_arg6 : BufTy.Contents (Elt F) arg6.view.ty) (X_arg7 : BufTy.Contents (Elt F) arg7.view.ty) (X_arg8 : BufTy.Contents (Elt F) arg8.view.ty) (k : Fin (k0_t11_loop i).trips) (acc : FVec F S1x1024 .f32 × FVec F S1x1024 .f32 × FVec F S64x1024 .f32) (f_arg14 : BufTy.Contents (Elt F) arg14.view.ty) (f_arg15 : BufTy.Contents (Elt F) arg15.view.ty) :
    ∃ L, (tripL_k0_t11 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v48 v70 v74 v123 v130_0 v130_1 v130_2 c2_i32_60 v132 cst_69 X_arg6 X_arg7 X_arg8 k acc f_arg14 f_arg15).1 = ⟨(Rect.unit (s := S2x512x1024) ![0, 0, 0] S1x512x1024.size inb_S2x512x1024_S1x512x1024_0_0_0), (scoreF v23 cst_69 v48 (View.readAt (Elt F) arg7.view (Rect.unit (s := S1x4096x128) (k0_off86 i k 2#32) S1x512x128.size (k0_off86_inb i k 1)).toLoadRect X_arg7) (View.readAt (Elt F) arg6.view (Rect.unit (s := S1x4096x128) (k0_off86 i k 2#32) S1x512x128.size (k0_off86_inb i k 1)).toLoadRect X_arg6))⟩ :: L := by
  unfold tripL_k0_t11 trip_k0_t11
  exact ⟨_, rfl⟩

/-- The same step in another of the program's spellings. -/
def step13_0 (st : St F) (s : Vec F S1x512x1024 .f32) (v : Vec F S1x1x64x512 .bf16) : St F :=
  (k0_pay370 st.1 s, k0_pay373 st.2.1 (k0_pay371 st.1 s) (k0_pay372 st.1 s), k0_pay374 st.2.2 (k0_pay369 v) (k0_pay371 st.1 s) (k0_pay372 st.1 s))

theorem step13_0_eq (st : St F) (s : Vec F S1x512x1024 .f32) (v : Vec F S1x1x64x512 .bf16) : step13_0 st s v = stepF st s v := rfl

/-- The same step in another of the program's spellings. -/
def step13_1 (st : St F) (s : Vec F S1x512x1024 .f32) (v : Vec F S1x1x64x512 .bf16) : St F :=
  (k0_pay378 st.1 (k0_pay376 s), k0_pay381 st.1 st.2.1 (k0_pay376 s), k0_pay382 st.1 st.2.2 (k0_pay376 s) (k0_pay377 v))

theorem step13_1_eq (st : St F) (s : Vec F S1x512x1024 .f32) (v : Vec F S1x1x64x512 .bf16) : step13_1 st s v = stepF st s v := rfl

/-- The same step in another of the program's spellings. -/
def step13_2 (st : St F) (s : Vec F S1x512x1024 .f32) (v : Vec F S1x1x64x512 .bf16) : St F :=
  (k0_pay385 st.1 (k0_pay384 s), k0_pay388 st.1 st.2.1 (k0_pay384 s), k0_pay389 st.1 st.2.2 (k0_pay384 s) v)

theorem step13_2_eq (st : St F) (s : Vec F S1x512x1024 .f32) (v : Vec F S1x1x64x512 .bf16) : step13_2 st s v = stepF st s v := rfl

/-- The same step in another of the program's spellings. -/
def step13_3 (st : St F) (s : Vec F S1x512x1024 .f32) (v : Vec F S1x1x64x512 .bf16) : St F :=
  (k0_pay489 st.1 s, k0_pay492 st.1 st.2.1 s, k0_pay493 st.1 st.2.2 s v)

theorem step13_3_eq (st : St F) (s : Vec F S1x512x1024 .f32) (v : Vec F S1x1x64x512 .bf16) : step13_3 st s v = stepF st s v := rfl

theorem word13_0 (i : grid0.Coords) (arg6 arg7 : Memref sig .tc .vmem S1x4096x128 .bf16) (arg15 : Memref sig .tc .vmem S2x512x1024 .f32)
    (v23 : IVec S512x128 1) (v70 : FVec F S256x1024 .bf16) (cst_122 : F .bf16) (X_arg6 : BufTy.Contents (Elt F) arg6.view.ty) (X_arg7 : BufTy.Contents (Elt F) arg7.view.ty) (k : Fin (k0_t13_loop i).trips) :
    (trip_k0_t13.sl.v453 i arg6 arg7 arg15 v23 v70 cst_122 X_arg6 X_arg7 k) = (scoreF v23 cst_122 v70 (View.readAt (Elt F) arg7.view (Rect.unit (s := S1x4096x128) (k0_off95 i k 0#32 1#32) S1x512x128.size (k0_off95_inb i k 0 0)).toLoadRect X_arg7) (View.readAt (Elt F) arg6.view (Rect.unit (s := S1x4096x128) (k0_off95 i k 0#32 1#32) S1x512x128.size (k0_off95_inb i k 0 0)).toLoadRect X_arg6)) := by
  unfold trip_k0_t13.sl.v453
  exact readCov_cons ..

theorem word13_1 (i : grid0.Coords) (arg6 arg7 : Memref sig .tc .vmem S1x4096x128 .bf16) (arg14 : Memref sig .tc .vmem S2x512x1024 .f32)
    (v23 : IVec S512x128 1) (v70 : FVec F S256x1024 .bf16) (cst_122 : F .bf16) (X_arg6 : BufTy.Contents (Elt F) arg6.view.ty) (X_arg7 : BufTy.Contents (Elt F) arg7.view.ty) (k : Fin (k0_t13_loop i).trips) :
    (trip_k0_t13.sl.v496 i arg6 arg7 arg14 v23 v70 cst_122 X_arg6 X_arg7 k) = (scoreF v23 cst_122 v70 (View.readAt (Elt F) arg7.view (Rect.unit (s := S1x4096x128) (k0_off95 i k 0#32 2#32) S1x512x128.size (k0_off95_inb i k 0 1)).toLoadRect X_arg7) (View.readAt (Elt F) arg6.view (Rect.unit (s := S1x4096x128) (k0_off95 i k 0#32 2#32) S1x512x128.size (k0_off95_inb i k 0 1)).toLoadRect X_arg6)) := by
  unfold trip_k0_t13.sl.v496
  exact readCov_cons ..

theorem word13_2 (i : grid0.Coords) (arg6 arg7 : Memref sig .tc .vmem S1x4096x128 .bf16) (arg15 : Memref sig .tc .vmem S2x512x1024 .f32)
    (v23 : IVec S512x128 1) (v70 : FVec F S256x1024 .bf16) (cst_122 : F .bf16) (X_arg6 : BufTy.Contents (Elt F) arg6.view.ty) (X_arg7 : BufTy.Contents (Elt F) arg7.view.ty) (k : Fin (k0_t13_loop i).trips) :
    (trip_k0_t13.sl.v538 i arg6 arg7 arg15 v23 v70 cst_122 X_arg6 X_arg7 k) = (scoreF v23 cst_122 v70 (View.readAt (Elt F) arg7.view (Rect.unit (s := S1x4096x128) (k0_off95 i k 1#32 1#32) S1x512x128.size (k0_off95_inb i k 1 0)).toLoadRect X_arg7) (View.readAt (Elt F) arg6.view (Rect.unit (s := S1x4096x128) (k0_off95 i k 1#32 1#32) S1x512x128.size (k0_off95_inb i k 1 0)).toLoadRect X_arg6)) := by
  unfold trip_k0_t13.sl.v538
  exact readCov_cons ..

/-- What one trip of the loop yields. -/
theorem tripR13  (𝒱 : Variants) (c : Dev nD) (bd : Option 𝒱.V) (i : grid0.Coords) (arg3 : Memref sig .tc .smem S257 .i32) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole) (arg14 : Memref sig .tc .vmem S2x512x1024 .f32) (harg14 : arg14.IsWhole) (arg15 : Memref sig .tc .vmem S2x512x1024 .f32) (harg15 : arg15.IsWhole) (arg16 : Memref sig .tc .vmem S2x512x1024 .bf16) (harg16 : arg16.IsWhole) (arg17 : Memref sig .tc .vmem S2x512x1024 .bf16) (harg17 : arg17.IsWhole) (v23 : IVec S512x128 1) (v70 : FVec F S256x1024 .bf16) (v71 : FVec F S1x1024 .f32) (v72 : FVec F S64x1024 .f32) (v73 : FVec F S1x1024 .f32) (v74 : BitVec 32) (v244 : BitVec 32) (v255 : BitVec 1) (v256 : BitVec 32) (cst_122 : F .bf16) (X_arg6 : BufTy.Contents (Elt F) arg6.view.ty) (X_arg7 : BufTy.Contents (Elt F) arg7.view.ty) (X_arg8 : BufTy.Contents (Elt F) arg8.view.ty) (k : Fin (k0_t13_loop i).trips) (acc : FVec F S1x1024 .f32 × FVec F S1x1024 .f32 × FVec F S64x1024 .f32) (f_arg14 : BufTy.Contents (Elt F) arg14.view.ty) (f_arg15 : BufTy.Contents (Elt F) arg15.view.ty) :
    tripR_k0_t13 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v70 v71 v72 v73 v74 v244 v255 v256 cst_122 X_arg6 X_arg7 X_arg8 k acc f_arg14 f_arg15 = stepF (stepF (stepF (stepF acc (View.readAt (Elt F) arg14.view (Rect.unit (s := S2x512x1024) ![1, 0, 0] S1x512x1024.size inb_S2x512x1024_S1x512x1024_1_0_0).toLoadRect f_arg14) (View.readAt (Elt F) arg8.view (Rect.unit (s := S1x8x128x512) (k0_off96 i k 0#32) S1x1x64x512.size (k0_off96_inb i k 0)).toLoadRect X_arg8)) (scoreF v23 cst_122 v70 (View.readAt (Elt F) arg7.view (Rect.unit (s := S1x4096x128) (k0_off95 i k 0#32 1#32) S1x512x128.size (k0_off95_inb i k 0 0)).toLoadRect X_arg7) (View.readAt (Elt F) arg6.view (Rect.unit (s := S1x4096x128) (k0_off95 i k 0#32 1#32) S1x512x128.size (k0_off95_inb i k 0 0)).toLoadRect X_arg6)) (View.readAt (Elt F) arg8.view (Rect.unit (s := S1x8x128x512) (k0_off97 i k 0#32) S1x1x64x512.size (k0_off97_inb i k 0)).toLoadRect X_arg8)) (scoreF v23 cst_122 v70 (View.readAt (Elt F) arg7.view (Rect.unit (s := S1x4096x128) (k0_off95 i k 0#32 2#32) S1x512x128.size (k0_off95_inb i k 0 1)).toLoadRect X_arg7) (View.readAt (Elt F) arg6.view (Rect.unit (s := S1x4096x128) (k0_off95 i k 0#32 2#32) S1x512x128.size (k0_off95_inb i k 0 1)).toLoadRect X_arg6)) (View.readAt (Elt F) arg8.view (Rect.unit (s := S1x8x128x512) (k0_off96 i k 1#32) S1x1x64x512.size (k0_off96_inb i k 1)).toLoadRect X_arg8)) (scoreF v23 cst_122 v70 (View.readAt (Elt F) arg7.view (Rect.unit (s := S1x4096x128) (k0_off95 i k 1#32 1#32) S1x512x128.size (k0_off95_inb i k 1 0)).toLoadRect X_arg7) (View.readAt (Elt F) arg6.view (Rect.unit (s := S1x4096x128) (k0_off95 i k 1#32 1#32) S1x512x128.size (k0_off95_inb i k 1 0)).toLoadRect X_arg6)) (View.readAt (Elt F) arg8.view (Rect.unit (s := S1x8x128x512) (k0_off97 i k 1#32) S1x1x64x512.size (k0_off97_inb i k 1)).toLoadRect X_arg8) := by
  have h : tripR_k0_t13 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v70 v71 v72 v73 v74 v244 v255 v256 cst_122 X_arg6 X_arg7 X_arg8 k acc f_arg14 f_arg15 = step13_3 (step13_2 (step13_1 (step13_0 acc (View.readAt (Elt F) arg14.view (Rect.unit (s := S2x512x1024) ![1, 0, 0] S1x512x1024.size inb_S2x512x1024_S1x512x1024_1_0_0).toLoadRect f_arg14) (View.readAt (Elt F) arg8.view (Rect.unit (s := S1x8x128x512) (k0_off96 i k 0#32) S1x1x64x512.size (k0_off96_inb i k 0)).toLoadRect X_arg8)) (trip_k0_t13.sl.v453 i arg6 arg7 arg15 v23 v70 cst_122 X_arg6 X_arg7 k) (View.readAt (Elt F) arg8.view (Rect.unit (s := S1x8x128x512) (k0_off97 i k 0#32) S1x1x64x512.size (k0_off97_inb i k 0)).toLoadRect X_arg8)) (trip_k0_t13.sl.v496 i arg6 arg7 arg14 v23 v70 cst_122 X_arg6 X_arg7 k) (View.readAt (Elt F) arg8.view (Rect.unit (s := S1x8x128x512) (k0_off96 i k 1#32) S1x1x64x512.size (k0_off96_inb i k 1)).toLoadRect X_arg8)) (trip_k0_t13.sl.v538 i arg6 arg7 arg15 v23 v70 cst_122 X_arg6 X_arg7 k) (View.readAt (Elt F) arg8.view (Rect.unit (s := S1x8x128x512) (k0_off97 i k 1#32) S1x1x64x512.size (k0_off97_inb i k 1)).toLoadRect X_arg8) := by
    obtain ⟨a0, a1, a2⟩ := acc
    unfold tripR_k0_t13 trip_k0_t13
    rfl
  rw [h]
  simp only [step13_0_eq, step13_1_eq, step13_2_eq, step13_3_eq, word13_0, word13_1, word13_2]

/-- The last scores one trip of the loop stores. -/
theorem tripL13  (𝒱 : Variants) (c : Dev nD) (bd : Option 𝒱.V) (i : grid0.Coords) (arg3 : Memref sig .tc .smem S257 .i32) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole) (arg14 : Memref sig .tc .vmem S2x512x1024 .f32) (harg14 : arg14.IsWhole) (arg15 : Memref sig .tc .vmem S2x512x1024 .f32) (harg15 : arg15.IsWhole) (arg16 : Memref sig .tc .vmem S2x512x1024 .bf16) (harg16 : arg16.IsWhole) (arg17 : Memref sig .tc .vmem S2x512x1024 .bf16) (harg17 : arg17.IsWhole) (v23 : IVec S512x128 1) (v70 : FVec F S256x1024 .bf16) (v71 : FVec F S1x1024 .f32) (v72 : FVec F S64x1024 .f32) (v73 : FVec F S1x1024 .f32) (v74 : BitVec 32) (v244 : BitVec 32) (v255 : BitVec 1) (v256 : BitVec 32) (cst_122 : F .bf16) (X_arg6 : BufTy.Contents (Elt F) arg6.view.ty) (X_arg7 : BufTy.Contents (Elt F) arg7.view.ty) (X_arg8 : BufTy.Contents (Elt F) arg8.view.ty) (k : Fin (k0_t13_loop i).trips) (acc : FVec F S1x1024 .f32 × FVec F S1x1024 .f32 × FVec F S64x1024 .f32) (f_arg14 : BufTy.Contents (Elt F) arg14.view.ty) (f_arg15 : BufTy.Contents (Elt F) arg15.view.ty) :
    ∃ L, (tripL_k0_t13 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v70 v71 v72 v73 v74 v244 v255 v256 cst_122 X_arg6 X_arg7 X_arg8 k acc f_arg14 f_arg15).1 = ⟨(Rect.unit (s := S2x512x1024) ![1, 0, 0] S1x512x1024.size inb_S2x512x1024_S1x512x1024_1_0_0), (scoreF v23 cst_122 v70 (View.readAt (Elt F) arg7.view (Rect.unit (s := S1x4096x128) (k0_off95 i k 1#32 2#32) S1x512x128.size (k0_off95_inb i k 1 1)).toLoadRect X_arg7) (View.readAt (Elt F) arg6.view (Rect.unit (s := S1x4096x128) (k0_off95 i k 1#32 2#32) S1x512x128.size (k0_off95_inb i k 1 1)).toLoadRect X_arg6))⟩ :: L := by
  unfold tripL_k0_t13 trip_k0_t13
  exact ⟨_, rfl⟩

/-- The same step in another of the program's spellings. -/
def step15_0 (st : St F) (s : Vec F S1x512x1024 .f32) (v : Vec F S1x1x64x512 .bf16) : St F :=
  (k0_pay418 st.1 s, k0_pay423 (k0_pay421 st.1 st.2.1 s) (k0_pay422 st.1 s), k0_pay424 st.2.2 (k0_pay417 v) (k0_pay419 st.1 s) (k0_pay420 st.1 s))

theorem step15_0_eq (st : St F) (s : Vec F S1x512x1024 .f32) (v : Vec F S1x1x64x512 .bf16) : step15_0 st s v = stepF st s v := rfl

/-- The same step in another of the program's spellings. -/
def step15_1 (st : St F) (s : Vec F S1x512x1024 .f32) (v : Vec F S1x1x64x512 .bf16) : St F :=
  (k0_pay428 st.1 s, k0_pay502 st.2.1 (k0_pay426 s) (k0_pay428 st.1 s) (k0_pay429 st.1 s), k0_pay503 st.2.2 (k0_pay426 s) (k0_pay427 v) (k0_pay428 st.1 s) (k0_pay429 st.1 s))

theorem step15_1_eq (st : St F) (s : Vec F S1x512x1024 .f32) (v : Vec F S1x1x64x512 .bf16) : step15_1 st s v = stepF st s v := rfl

theorem word15_0 (i : grid0.Coords) (arg6 arg7 : Memref sig .tc .vmem S1x4096x128 .bf16) (arg15 : Memref sig .tc .vmem S2x512x1024 .f32)
    (v23 : IVec S512x128 1) (v70 : FVec F S256x1024 .bf16) (cst_136 : F .bf16) (X_arg6 : BufTy.Contents (Elt F) arg6.view.ty) (X_arg7 : BufTy.Contents (Elt F) arg7.view.ty) (k : Fin (k0_t15_loop i).trips) :
    (trip_k0_t15.sl.v451 i arg6 arg7 arg15 v23 v70 cst_136 X_arg6 X_arg7 k) = (scoreF v23 cst_136 v70 (View.readAt (Elt F) arg7.view (Rect.unit (s := S1x4096x128) (k0_off101 i k 1#32) S1x512x128.size (k0_off101_inb i k 0)).toLoadRect X_arg7) (View.readAt (Elt F) arg6.view (Rect.unit (s := S1x4096x128) (k0_off101 i k 1#32) S1x512x128.size (k0_off101_inb i k 0)).toLoadRect X_arg6)) := by
  unfold trip_k0_t15.sl.v451
  exact readCov_cons ..

/-- What one trip of the loop yields. -/
theorem tripR15  (𝒱 : Variants) (c : Dev nD) (bd : Option 𝒱.V) (i : grid0.Coords) (arg3 : Memref sig .tc .smem S257 .i32) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole) (arg14 : Memref sig .tc .vmem S2x512x1024 .f32) (harg14 : arg14.IsWhole) (arg15 : Memref sig .tc .vmem S2x512x1024 .f32) (harg15 : arg15.IsWhole) (arg16 : Memref sig .tc .vmem S2x512x1024 .bf16) (harg16 : arg16.IsWhole) (arg17 : Memref sig .tc .vmem S2x512x1024 .bf16) (harg17 : arg17.IsWhole) (v23 : IVec S512x128 1) (v26 : IVec S512x512 1) (v70 : FVec F S256x1024 .bf16) (v74 : BitVec 32) (v285_0 : FVec F S1x1024 .f32) (v285_1 : FVec F S1x1024 .f32) (v285_2 : FVec F S64x1024 .f32) (v287 : BitVec 32) (c2_i32_129 : BitVec 32) (v288 : BitVec 32) (v293 : BitVec 32) (v295 : BitVec 32) (cst_136 : F .bf16) (X_arg6 : BufTy.Contents (Elt F) arg6.view.ty) (X_arg7 : BufTy.Contents (Elt F) arg7.view.ty) (X_arg8 : BufTy.Contents (Elt F) arg8.view.ty) (k : Fin (k0_t15_loop i).trips) (acc : FVec F S1x1024 .f32 × FVec F S1x1024 .f32 × FVec F S64x1024 .f32) (f_arg14 : BufTy.Contents (Elt F) arg14.view.ty) (f_arg15 : BufTy.Contents (Elt F) arg15.view.ty) :
    tripR_k0_t15 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v26 v70 v74 v285_0 v285_1 v285_2 v287 c2_i32_129 v288 v293 v295 cst_136 X_arg6 X_arg7 X_arg8 k acc f_arg14 f_arg15 = stepF (stepF acc (View.readAt (Elt F) arg14.view (Rect.unit (s := S2x512x1024) ![1, 0, 0] S1x512x1024.size inb_S2x512x1024_S1x512x1024_1_0_0).toLoadRect f_arg14) (View.readAt (Elt F) arg8.view (Rect.unit (s := S1x8x128x512) (k0_off102 i k) S1x1x64x512.size (k0_off102_inb i k)).toLoadRect X_arg8)) (scoreF v23 cst_136 v70 (View.readAt (Elt F) arg7.view (Rect.unit (s := S1x4096x128) (k0_off101 i k 1#32) S1x512x128.size (k0_off101_inb i k 0)).toLoadRect X_arg7) (View.readAt (Elt F) arg6.view (Rect.unit (s := S1x4096x128) (k0_off101 i k 1#32) S1x512x128.size (k0_off101_inb i k 0)).toLoadRect X_arg6)) (View.readAt (Elt F) arg8.view (Rect.unit (s := S1x8x128x512) (k0_off103 i k) S1x1x64x512.size (k0_off103_inb i k)).toLoadRect X_arg8) := by
  have h : tripR_k0_t15 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v26 v70 v74 v285_0 v285_1 v285_2 v287 c2_i32_129 v288 v293 v295 cst_136 X_arg6 X_arg7 X_arg8 k acc f_arg14 f_arg15 = step15_1 (step15_0 acc (View.readAt (Elt F) arg14.view (Rect.unit (s := S2x512x1024) ![1, 0, 0] S1x512x1024.size inb_S2x512x1024_S1x512x1024_1_0_0).toLoadRect f_arg14) (View.readAt (Elt F) arg8.view (Rect.unit (s := S1x8x128x512) (k0_off102 i k) S1x1x64x512.size (k0_off102_inb i k)).toLoadRect X_arg8)) (trip_k0_t15.sl.v451 i arg6 arg7 arg15 v23 v70 cst_136 X_arg6 X_arg7 k) (View.readAt (Elt F) arg8.view (Rect.unit (s := S1x8x128x512) (k0_off103 i k) S1x1x64x512.size (k0_off103_inb i k)).toLoadRect X_arg8) := by
    obtain ⟨a0, a1, a2⟩ := acc
    unfold tripR_k0_t15 trip_k0_t15
    rfl
  rw [h]
  simp only [step15_0_eq, step15_1_eq, word15_0]

/-- The last scores one trip of the loop stores. -/
theorem tripL15  (𝒱 : Variants) (c : Dev nD) (bd : Option 𝒱.V) (i : grid0.Coords) (arg3 : Memref sig .tc .smem S257 .i32) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole) (arg14 : Memref sig .tc .vmem S2x512x1024 .f32) (harg14 : arg14.IsWhole) (arg15 : Memref sig .tc .vmem S2x512x1024 .f32) (harg15 : arg15.IsWhole) (arg16 : Memref sig .tc .vmem S2x512x1024 .bf16) (harg16 : arg16.IsWhole) (arg17 : Memref sig .tc .vmem S2x512x1024 .bf16) (harg17 : arg17.IsWhole) (v23 : IVec S512x128 1) (v26 : IVec S512x512 1) (v70 : FVec F S256x1024 .bf16) (v74 : BitVec 32) (v285_0 : FVec F S1x1024 .f32) (v285_1 : FVec F S1x1024 .f32) (v285_2 : FVec F S64x1024 .f32) (v287 : BitVec 32) (c2_i32_129 : BitVec 32) (v288 : BitVec 32) (v293 : BitVec 32) (v295 : BitVec 32) (cst_136 : F .bf16) (X_arg6 : BufTy.Contents (Elt F) arg6.view.ty) (X_arg7 : BufTy.Contents (Elt F) arg7.view.ty) (X_arg8 : BufTy.Contents (Elt F) arg8.view.ty) (k : Fin (k0_t15_loop i).trips) (acc : FVec F S1x1024 .f32 × FVec F S1x1024 .f32 × FVec F S64x1024 .f32) (f_arg14 : BufTy.Contents (Elt F) arg14.view.ty) (f_arg15 : BufTy.Contents (Elt F) arg15.view.ty) :
    ∃ L, (tripL_k0_t15 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v26 v70 v74 v285_0 v285_1 v285_2 v287 c2_i32_129 v288 v293 v295 cst_136 X_arg6 X_arg7 X_arg8 k acc f_arg14 f_arg15).1 = ⟨(Rect.unit (s := S2x512x1024) ![1, 0, 0] S1x512x1024.size inb_S2x512x1024_S1x512x1024_1_0_0), (scoreF v23 cst_136 v70 (View.readAt (Elt F) arg7.view (Rect.unit (s := S1x4096x128) (k0_off101 i k 2#32) S1x512x128.size (k0_off101_inb i k 1)).toLoadRect X_arg7) (View.readAt (Elt F) arg6.view (Rect.unit (s := S1x4096x128) (k0_off101 i k 2#32) S1x512x128.size (k0_off101_inb i k 1)).toLoadRect X_arg6))⟩ :: L := by
  unfold tripL_k0_t15 trip_k0_t15
  exact ⟨_, rfl⟩

/-- Block `j` of 512 keys (or of the keys' bias columns). -/
def kblk {e : EltTy} (x : Vec F S1x4096x128 e) (j : ℕ) : Vec F S1x512x128 e :=
  VecWindow.window x ![0, 512 * (j % 8), 0] S1x512x128.size (by
    have h := Nat.mod_lt j (show 0 < 8 by norm_num)
    intro a
    fin_cases a
    · show 0 + 1 ≤ 1; omega
    · show 512 * (j % 8) + 512 ≤ 4096; omega
    · show 0 + 128 ≤ 128; omega)

/-- Block `j` of 512 values of the pair's head `hh`. -/
def vblk (x : Vec F S1x8x128x512 .bf16) (hh : Fin 2) (j : ℕ) : Vec F S1x1x64x512 .bf16 :=
  VecWindow.window x ![0, j % 8, 64 * hh.val, 0] S1x1x64x512.size (by
    have h := Nat.mod_lt j (show 0 < 8 by norm_num)
    have h' := hh.isLt
    intro a
    fin_cases a
    · show 0 + 1 ≤ 1; omega
    · show j % 8 + 1 ≤ 8; omega
    · show 64 * hh.val + 64 ≤ 128; omega
    · show 0 + 512 ≤ 512; omega)

theorem kread (v : Memref sig .tc .vmem S1x4096x128 .bf16) (x : Vec F S1x4096x128 .bf16) {off : Fin 3 → ℕ} {j : ℕ} (h : off = ![0, 512 * (j % 8), 0])
    (inb : ∀ a, off a + S1x512x128.size a ≤ S1x4096x128.size a) :
    View.readAt (Elt F) v.view (Rect.unit (s := S1x4096x128) off S1x512x128.size inb).toLoadRect (v.view.rep x) = kblk x j :=
  View.readAt_rep_unit _ _ _ h _

theorem vread (v : Memref sig .tc .vmem S1x8x128x512 .bf16) (x : Vec F S1x8x128x512 .bf16) {off : Fin 4 → ℕ} {j : ℕ} (hh : Fin 2)
    (h : off = ![0, j % 8, 64 * hh.val, 0]) (inb : ∀ a, off a + S1x1x64x512.size a ≤ S1x8x128x512.size a) :
    View.readAt (Elt F) v.view (Rect.unit (s := S1x8x128x512) off S1x1x64x512.size inb).toLoadRect (v.view.rep x) = vblk x hh j :=
  View.readAt_rep_unit _ _ _ h _

/-- The scores of block `j`. -/
def blkS (v23 : IVec S512x128 1) (cst : F .bf16) (q : FVec F S256x1024 .bf16) (x2 x3 : Vec F S1x4096x128 .bf16) (j : ℕ) : FVec F S1x512x1024 .f32 :=
  scoreF v23 cst q (kblk x3 j) (kblk x2 j)

/-- The state before any block. -/
def stInit : St F := (k0_pay454, k0_pay452, k0_pay453)

/-- The state after the first `n` blocks. -/
def seqS (v23 : IVec S512x128 1) (cst : F .bf16) (q : FVec F S256x1024 .bf16) (x2 x3 : Vec F S1x4096x128 .bf16) (x4 : Vec F S1x8x128x512 .bf16) (hh : Fin 2) : ℕ → St F
  | 0 => stInit
  | n + 1 => stepF (seqS v23 cst q x2 x3 x4 hh n) (blkS v23 cst q x2 x3 n) (vblk x4 hh n)

theorem trips9 : ∀ i : grid0.Coords, Scf.trips (k0_t9_loop i).lb (k0_t9_loop i).ub (k0_t9_loop i).st = (i 2).val / 2 := by decide +kernel

theorem offk9_1 : ∀ (i : grid0.Coords) (h : 0 < (k0_t9_loop i).trips), k0_off80 i ⟨0, h⟩ 0#32 1#32 = ![0, 512 * ((0 + 1) % 8), 0] := by decide +kernel
theorem offk9_2 : ∀ (i : grid0.Coords) (h : 0 < (k0_t9_loop i).trips), k0_off80 i ⟨0, h⟩ 0#32 2#32 = ![0, 512 * ((0 + 2) % 8), 0] := by decide +kernel
theorem offk9_3 : ∀ (i : grid0.Coords) (h : 0 < (k0_t9_loop i).trips), k0_off80 i ⟨0, h⟩ 1#32 1#32 = ![0, 512 * ((0 + 3) % 8), 0] := by decide +kernel
theorem offk9_4 : ∀ (i : grid0.Coords) (h : 0 < (k0_t9_loop i).trips), k0_off80 i ⟨0, h⟩ 1#32 2#32 = ![0, 512 * ((0 + 4) % 8), 0] := by decide +kernel
theorem offv9_0 : ∀ (i : grid0.Coords) (h : 0 < (k0_t9_loop i).trips), k0_off81 i ⟨0, h⟩ 0#32 = ![0, 0 % 8, 64 * (0 : Fin 2).val, 0] := by decide +kernel
theorem offv9_1 : ∀ (i : grid0.Coords) (h : 0 < (k0_t9_loop i).trips), k0_off82 i ⟨0, h⟩ 0#32 = ![0, (0 + 1) % 8, 64 * (0 : Fin 2).val, 0] := by decide +kernel
theorem offv9_2 : ∀ (i : grid0.Coords) (h : 0 < (k0_t9_loop i).trips), k0_off81 i ⟨0, h⟩ 1#32 = ![0, (0 + 2) % 8, 64 * (0 : Fin 2).val, 0] := by decide +kernel
theorem offv9_3 : ∀ (i : grid0.Coords) (h : 0 < (k0_t9_loop i).trips), k0_off82 i ⟨0, h⟩ 1#32 = ![0, (0 + 3) % 8, 64 * (0 : Fin 2).val, 0] := by decide +kernel

/-- The loop takes the state over its blocks and leaves the next block's scores stored. -/
theorem loop9  (𝒱 : Variants) (c : Dev nD) (bd : Option 𝒱.V) (i : grid0.Coords) (arg3 : Memref sig .tc .smem S257 .i32) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole) (arg14 : Memref sig .tc .vmem S2x512x1024 .f32) (harg14 : arg14.IsWhole) (arg15 : Memref sig .tc .vmem S2x512x1024 .f32) (harg15 : arg15.IsWhole) (arg16 : Memref sig .tc .vmem S2x512x1024 .bf16) (harg16 : arg16.IsWhole) (arg17 : Memref sig .tc .vmem S2x512x1024 .bf16) (harg17 : arg17.IsWhole) (v23 : IVec S512x128 1) (v48 : FVec F S256x1024 .bf16) (v71 : FVec F S1x1024 .f32) (v72 : FVec F S64x1024 .f32) (v73 : FVec F S1x1024 .f32) (v74 : BitVec 32) (c2_i32_41 : BitVec 32) (v89 : BitVec 32) (c0_i32_42 : BitVec 32) (cst_55 : F .bf16) (X_arg6 : BufTy.Contents (Elt F) arg6.view.ty) (X_arg7 : BufTy.Contents (Elt F) arg7.view.ty) (X_arg8 : BufTy.Contents (Elt F) arg8.view.ty) (G_arg14 : BufTy.Contents (Elt F) arg14.view.ty) (G_arg15 : BufTy.Contents (Elt F) arg15.view.ty) (init : FVec F S1x1024 .f32 × FVec F S1x1024 .f32 × FVec F S64x1024 .f32)  (x2 x3 : Vec F S1x4096x128 .bf16) (x4 : Vec F S1x8x128x512 .bf16)
    (hX6 : X_arg6 = arg6.view.rep x2) (hX7 : X_arg7 = arg7.view.rep x3) (hX8 : X_arg8 = arg8.view.rep x4) (H : BufTy.Contents (Elt F) arg14.view.ty)
    (Lb : List (View.Piece (Elt F) S2x512x1024 .f32)) (hG : G_arg14 = arg14.view.writes (Elt F) H (⟨(Rect.unit (s := S2x512x1024) ![0, 0, 0] S1x512x1024.size inb_S2x512x1024_S1x512x1024_0_0_0), blkS v23 cst_55 v48 x2 x3 0⟩ :: Lb))
    (hinit : init = seqS v23 cst_55 v48 x2 x3 x4 0 0) :
    (st_k0_t9 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v48 v71 v72 v73 v74 c2_i32_41 v89 c0_i32_42 cst_55 X_arg6 X_arg7 X_arg8 G_arg14 G_arg15 init (Scf.trips (k0_t9_loop i).lb (k0_t9_loop i).ub (k0_t9_loop i).st)).1 = seqS v23 cst_55 v48 x2 x3 x4 0 (0 + 4 * ((i 2).val / 2))
    ∧ ∃ L, (st_k0_t9 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v48 v71 v72 v73 v74 c2_i32_41 v89 c0_i32_42 cst_55 X_arg6 X_arg7 X_arg8 G_arg14 G_arg15 init (Scf.trips (k0_t9_loop i).lb (k0_t9_loop i).ub (k0_t9_loop i).st)).2.1 ++ (⟨(Rect.unit (s := S2x512x1024) ![0, 0, 0] S1x512x1024.size inb_S2x512x1024_S1x512x1024_0_0_0), blkS v23 cst_55 v48 x2 x3 0⟩ :: Lb) = ⟨(Rect.unit (s := S2x512x1024) ![0, 0, 0] S1x512x1024.size inb_S2x512x1024_S1x512x1024_0_0_0), blkS v23 cst_55 v48 x2 x3 (0 + 4 * ((i 2).val / 2))⟩ :: L := by
  subst hX6 hX7 hX8
  have ht := trips9 i
  have hi : (i 2).val < 4 := (i 2).isLt
  have hz : st_k0_t9 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v48 v71 v72 v73 v74 c2_i32_41 v89 c0_i32_42 cst_55 (arg6.view.rep x2) (arg7.view.rep x3) (arg8.view.rep x4) G_arg14 G_arg15 init 0 = (init, [], []) := rfl
  rcases Nat.eq_zero_or_pos (Scf.trips (k0_t9_loop i).lb (k0_t9_loop i).ub (k0_t9_loop i).st) with h | h
  · have e : (0 + 4 * ((i 2).val / 2)) = 0 := by omega
    rw [h, hz, e]
    exact ⟨hinit, Lb, rfl⟩
  · have h1 : (Scf.trips (k0_t9_loop i).lb (k0_t9_loop i).ub (k0_t9_loop i).st) = (⟨0, h⟩ : Fin (k0_t9_loop i).trips).val + 1 := by show (Scf.trips (k0_t9_loop i).lb (k0_t9_loop i).ub (k0_t9_loop i).st) = 0 + 1; omega
    have e : (0 + 4 * ((i 2).val / 2)) = 0 + 4 := by omega
    have hz' : st_k0_t9 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v48 v71 v72 v73 v74 c2_i32_41 v89 c0_i32_42 cst_55 (arg6.view.rep x2) (arg7.view.rep x3) (arg8.view.rep x4) G_arg14 G_arg15 init (⟨0, h⟩ : Fin (k0_t9_loop i).trips).val = (init, [], []) := hz
    have hr : View.readAt (Elt F) arg14.view (Rect.unit (s := S2x512x1024) ![0, 0, 0] S1x512x1024.size inb_S2x512x1024_S1x512x1024_0_0_0).toLoadRect (arg14.view.writes (Elt F) G_arg14 []) = blkS v23 cst_55 v48 x2 x3 0 := by
      have hw : arg14.view.writes (Elt F) G_arg14 [] = G_arg14 := rfl
      rw [hw, hG]
      exact readAt_cons ..
    rw [h1, e, st_k0_t9_succ, hz']
    refine ⟨?_, ?_⟩
    · show tripR_k0_t9 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v48 v71 v72 v73 v74 c2_i32_41 v89 c0_i32_42 cst_55 (arg6.view.rep x2) (arg7.view.rep x3) (arg8.view.rep x4) ⟨0, h⟩ init (arg14.view.writes (Elt F) G_arg14 []) (arg15.view.writes (Elt F) G_arg15 []) = _
      rw [tripR9, hr]
      simp only [kread (h := offk9_1 i h), kread (h := offk9_2 i h), kread (h := offk9_3 i h), kread (h := offk9_4 i h), vread (hh := 0) (h := offv9_0 i h), vread (hh := 0) (h := offv9_1 i h), vread (hh := 0) (h := offv9_2 i h), vread (hh := 0) (h := offv9_3 i h)]
      rw [hinit]
      rfl
    · obtain ⟨L, hL⟩ := tripL9 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v48 v71 v72 v73 v74 c2_i32_41 v89 c0_i32_42 cst_55 (arg6.view.rep x2) (arg7.view.rep x3) (arg8.view.rep x4) ⟨0, h⟩ init (arg14.view.writes (Elt F) G_arg14 []) (arg15.view.writes (Elt F) G_arg15 [])
      refine ⟨(L ++ []) ++ (⟨(Rect.unit (s := S2x512x1024) ![0, 0, 0] S1x512x1024.size inb_S2x512x1024_S1x512x1024_0_0_0), blkS v23 cst_55 v48 x2 x3 0⟩ :: Lb), ?_⟩
      show ((tripL_k0_t9 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v48 v71 v72 v73 v74 c2_i32_41 v89 c0_i32_42 cst_55 (arg6.view.rep x2) (arg7.view.rep x3) (arg8.view.rep x4) ⟨0, h⟩ init (arg14.view.writes (Elt F) G_arg14 []) (arg15.view.writes (Elt F) G_arg15 [])).1 ++ []) ++ (⟨(Rect.unit (s := S2x512x1024) ![0, 0, 0] S1x512x1024.size inb_S2x512x1024_S1x512x1024_0_0_0), blkS v23 cst_55 v48 x2 x3 0⟩ :: Lb) = _
      rw [hL]
      simp only [kread (h := offk9_1 i h), kread (h := offk9_2 i h), kread (h := offk9_3 i h), kread (h := offk9_4 i h)]
      rfl

theorem trips11 : ∀ i : grid0.Coords, Scf.trips (k0_t11_loop i).lb (k0_t11_loop i).ub (k0_t11_loop i).st = (i 2).val % 2 := by decide +kernel

theorem offk11_1 : ∀ (i : grid0.Coords) (h : 0 < (k0_t11_loop i).trips), k0_off86 i ⟨0, h⟩ 1#32 = ![0, 512 * (((4 * ((i 2).val / 2)) + 1) % 8), 0] := by decide +kernel
theorem offk11_2 : ∀ (i : grid0.Coords) (h : 0 < (k0_t11_loop i).trips), k0_off86 i ⟨0, h⟩ 2#32 = ![0, 512 * (((4 * ((i 2).val / 2)) + 2) % 8), 0] := by decide +kernel
theorem offv11_0 : ∀ (i : grid0.Coords) (h : 0 < (k0_t11_loop i).trips), k0_off87 i ⟨0, h⟩ = ![0, (4 * ((i 2).val / 2)) % 8, 64 * (0 : Fin 2).val, 0] := by decide +kernel
theorem offv11_1 : ∀ (i : grid0.Coords) (h : 0 < (k0_t11_loop i).trips), k0_off88 i ⟨0, h⟩ = ![0, ((4 * ((i 2).val / 2)) + 1) % 8, 64 * (0 : Fin 2).val, 0] := by decide +kernel

/-- The loop takes the state over its blocks and leaves the next block's scores stored. -/
theorem loop11  (𝒱 : Variants) (c : Dev nD) (bd : Option 𝒱.V) (i : grid0.Coords) (arg3 : Memref sig .tc .smem S257 .i32) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole) (arg14 : Memref sig .tc .vmem S2x512x1024 .f32) (harg14 : arg14.IsWhole) (arg15 : Memref sig .tc .vmem S2x512x1024 .f32) (harg15 : arg15.IsWhole) (arg16 : Memref sig .tc .vmem S2x512x1024 .bf16) (harg16 : arg16.IsWhole) (arg17 : Memref sig .tc .vmem S2x512x1024 .bf16) (harg17 : arg17.IsWhole) (v23 : IVec S512x128 1) (v48 : FVec F S256x1024 .bf16) (v70 : FVec F S256x1024 .bf16) (v74 : BitVec 32) (v123 : BitVec 32) (v130_0 : FVec F S1x1024 .f32) (v130_1 : FVec F S1x1024 .f32) (v130_2 : FVec F S64x1024 .f32) (c2_i32_60 : BitVec 32) (v132 : BitVec 32) (cst_69 : F .bf16) (X_arg6 : BufTy.Contents (Elt F) arg6.view.ty) (X_arg7 : BufTy.Contents (Elt F) arg7.view.ty) (X_arg8 : BufTy.Contents (Elt F) arg8.view.ty) (G_arg14 : BufTy.Contents (Elt F) arg14.view.ty) (G_arg15 : BufTy.Contents (Elt F) arg15.view.ty) (init : FVec F S1x1024 .f32 × FVec F S1x1024 .f32 × FVec F S64x1024 .f32)  (x2 x3 : Vec F S1x4096x128 .bf16) (x4 : Vec F S1x8x128x512 .bf16)
    (hX6 : X_arg6 = arg6.view.rep x2) (hX7 : X_arg7 = arg7.view.rep x3) (hX8 : X_arg8 = arg8.view.rep x4) (H : BufTy.Contents (Elt F) arg14.view.ty)
    (Lb : List (View.Piece (Elt F) S2x512x1024 .f32)) (hG : G_arg14 = arg14.view.writes (Elt F) H (⟨(Rect.unit (s := S2x512x1024) ![0, 0, 0] S1x512x1024.size inb_S2x512x1024_S1x512x1024_0_0_0), blkS v23 cst_69 v48 x2 x3 (4 * ((i 2).val / 2))⟩ :: Lb))
    (hinit : init = seqS v23 cst_69 v48 x2 x3 x4 0 (4 * ((i 2).val / 2))) :
    (st_k0_t11 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v48 v70 v74 v123 v130_0 v130_1 v130_2 c2_i32_60 v132 cst_69 X_arg6 X_arg7 X_arg8 G_arg14 G_arg15 init (Scf.trips (k0_t11_loop i).lb (k0_t11_loop i).ub (k0_t11_loop i).st)).1 = seqS v23 cst_69 v48 x2 x3 x4 0 ((4 * ((i 2).val / 2)) + 2 * ((i 2).val % 2))
    ∧ ∃ L, (st_k0_t11 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v48 v70 v74 v123 v130_0 v130_1 v130_2 c2_i32_60 v132 cst_69 X_arg6 X_arg7 X_arg8 G_arg14 G_arg15 init (Scf.trips (k0_t11_loop i).lb (k0_t11_loop i).ub (k0_t11_loop i).st)).2.1 ++ (⟨(Rect.unit (s := S2x512x1024) ![0, 0, 0] S1x512x1024.size inb_S2x512x1024_S1x512x1024_0_0_0), blkS v23 cst_69 v48 x2 x3 (4 * ((i 2).val / 2))⟩ :: Lb) = ⟨(Rect.unit (s := S2x512x1024) ![0, 0, 0] S1x512x1024.size inb_S2x512x1024_S1x512x1024_0_0_0), blkS v23 cst_69 v48 x2 x3 ((4 * ((i 2).val / 2)) + 2 * ((i 2).val % 2))⟩ :: L := by
  subst hX6 hX7 hX8
  have ht := trips11 i
  have hi : (i 2).val < 4 := (i 2).isLt
  have hz : st_k0_t11 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v48 v70 v74 v123 v130_0 v130_1 v130_2 c2_i32_60 v132 cst_69 (arg6.view.rep x2) (arg7.view.rep x3) (arg8.view.rep x4) G_arg14 G_arg15 init 0 = (init, [], []) := rfl
  rcases Nat.eq_zero_or_pos (Scf.trips (k0_t11_loop i).lb (k0_t11_loop i).ub (k0_t11_loop i).st) with h | h
  · have e : ((4 * ((i 2).val / 2)) + 2 * ((i 2).val % 2)) = (4 * ((i 2).val / 2)) := by omega
    rw [h, hz, e]
    exact ⟨hinit, Lb, rfl⟩
  · have h1 : (Scf.trips (k0_t11_loop i).lb (k0_t11_loop i).ub (k0_t11_loop i).st) = (⟨0, h⟩ : Fin (k0_t11_loop i).trips).val + 1 := by show (Scf.trips (k0_t11_loop i).lb (k0_t11_loop i).ub (k0_t11_loop i).st) = 0 + 1; omega
    have e : ((4 * ((i 2).val / 2)) + 2 * ((i 2).val % 2)) = (4 * ((i 2).val / 2)) + 2 := by omega
    have hz' : st_k0_t11 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v48 v70 v74 v123 v130_0 v130_1 v130_2 c2_i32_60 v132 cst_69 (arg6.view.rep x2) (arg7.view.rep x3) (arg8.view.rep x4) G_arg14 G_arg15 init (⟨0, h⟩ : Fin (k0_t11_loop i).trips).val = (init, [], []) := hz
    have hr : View.readAt (Elt F) arg14.view (Rect.unit (s := S2x512x1024) ![0, 0, 0] S1x512x1024.size inb_S2x512x1024_S1x512x1024_0_0_0).toLoadRect (arg14.view.writes (Elt F) G_arg14 []) = blkS v23 cst_69 v48 x2 x3 (4 * ((i 2).val / 2)) := by
      have hw : arg14.view.writes (Elt F) G_arg14 [] = G_arg14 := rfl
      rw [hw, hG]
      exact readAt_cons ..
    rw [h1, e, st_k0_t11_succ, hz']
    refine ⟨?_, ?_⟩
    · show tripR_k0_t11 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v48 v70 v74 v123 v130_0 v130_1 v130_2 c2_i32_60 v132 cst_69 (arg6.view.rep x2) (arg7.view.rep x3) (arg8.view.rep x4) ⟨0, h⟩ init (arg14.view.writes (Elt F) G_arg14 []) (arg15.view.writes (Elt F) G_arg15 []) = _
      rw [tripR11, hr]
      simp only [kread (h := offk11_1 i h), kread (h := offk11_2 i h), vread (hh := 0) (h := offv11_0 i h), vread (hh := 0) (h := offv11_1 i h)]
      rw [hinit]
      rfl
    · obtain ⟨L, hL⟩ := tripL11 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v48 v70 v74 v123 v130_0 v130_1 v130_2 c2_i32_60 v132 cst_69 (arg6.view.rep x2) (arg7.view.rep x3) (arg8.view.rep x4) ⟨0, h⟩ init (arg14.view.writes (Elt F) G_arg14 []) (arg15.view.writes (Elt F) G_arg15 [])
      refine ⟨(L ++ []) ++ (⟨(Rect.unit (s := S2x512x1024) ![0, 0, 0] S1x512x1024.size inb_S2x512x1024_S1x512x1024_0_0_0), blkS v23 cst_69 v48 x2 x3 (4 * ((i 2).val / 2))⟩ :: Lb), ?_⟩
      show ((tripL_k0_t11 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v48 v70 v74 v123 v130_0 v130_1 v130_2 c2_i32_60 v132 cst_69 (arg6.view.rep x2) (arg7.view.rep x3) (arg8.view.rep x4) ⟨0, h⟩ init (arg14.view.writes (Elt F) G_arg14 []) (arg15.view.writes (Elt F) G_arg15 [])).1 ++ []) ++ (⟨(Rect.unit (s := S2x512x1024) ![0, 0, 0] S1x512x1024.size inb_S2x512x1024_S1x512x1024_0_0_0), blkS v23 cst_69 v48 x2 x3 (4 * ((i 2).val / 2))⟩ :: Lb) = _
      rw [hL]
      simp only [kread (h := offk11_1 i h), kread (h := offk11_2 i h)]
      rfl

theorem trips13 : ∀ i : grid0.Coords, Scf.trips (k0_t13_loop i).lb (k0_t13_loop i).ub (k0_t13_loop i).st = (i 2).val / 2 := by decide +kernel

theorem offk13_1 : ∀ (i : grid0.Coords) (h : 0 < (k0_t13_loop i).trips), k0_off95 i ⟨0, h⟩ 0#32 1#32 = ![0, 512 * ((0 + 1) % 8), 0] := by decide +kernel
theorem offk13_2 : ∀ (i : grid0.Coords) (h : 0 < (k0_t13_loop i).trips), k0_off95 i ⟨0, h⟩ 0#32 2#32 = ![0, 512 * ((0 + 2) % 8), 0] := by decide +kernel
theorem offk13_3 : ∀ (i : grid0.Coords) (h : 0 < (k0_t13_loop i).trips), k0_off95 i ⟨0, h⟩ 1#32 1#32 = ![0, 512 * ((0 + 3) % 8), 0] := by decide +kernel
theorem offk13_4 : ∀ (i : grid0.Coords) (h : 0 < (k0_t13_loop i).trips), k0_off95 i ⟨0, h⟩ 1#32 2#32 = ![0, 512 * ((0 + 4) % 8), 0] := by decide +kernel
theorem offv13_0 : ∀ (i : grid0.Coords) (h : 0 < (k0_t13_loop i).trips), k0_off96 i ⟨0, h⟩ 0#32 = ![0, 0 % 8, 64 * (1 : Fin 2).val, 0] := by decide +kernel
theorem offv13_1 : ∀ (i : grid0.Coords) (h : 0 < (k0_t13_loop i).trips), k0_off97 i ⟨0, h⟩ 0#32 = ![0, (0 + 1) % 8, 64 * (1 : Fin 2).val, 0] := by decide +kernel
theorem offv13_2 : ∀ (i : grid0.Coords) (h : 0 < (k0_t13_loop i).trips), k0_off96 i ⟨0, h⟩ 1#32 = ![0, (0 + 2) % 8, 64 * (1 : Fin 2).val, 0] := by decide +kernel
theorem offv13_3 : ∀ (i : grid0.Coords) (h : 0 < (k0_t13_loop i).trips), k0_off97 i ⟨0, h⟩ 1#32 = ![0, (0 + 3) % 8, 64 * (1 : Fin 2).val, 0] := by decide +kernel

/-- The loop takes the state over its blocks and leaves the next block's scores stored. -/
theorem loop13  (𝒱 : Variants) (c : Dev nD) (bd : Option 𝒱.V) (i : grid0.Coords) (arg3 : Memref sig .tc .smem S257 .i32) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole) (arg14 : Memref sig .tc .vmem S2x512x1024 .f32) (harg14 : arg14.IsWhole) (arg15 : Memref sig .tc .vmem S2x512x1024 .f32) (harg15 : arg15.IsWhole) (arg16 : Memref sig .tc .vmem S2x512x1024 .bf16) (harg16 : arg16.IsWhole) (arg17 : Memref sig .tc .vmem S2x512x1024 .bf16) (harg17 : arg17.IsWhole) (v23 : IVec S512x128 1) (v70 : FVec F S256x1024 .bf16) (v71 : FVec F S1x1024 .f32) (v72 : FVec F S64x1024 .f32) (v73 : FVec F S1x1024 .f32) (v74 : BitVec 32) (v244 : BitVec 32) (v255 : BitVec 1) (v256 : BitVec 32) (cst_122 : F .bf16) (X_arg6 : BufTy.Contents (Elt F) arg6.view.ty) (X_arg7 : BufTy.Contents (Elt F) arg7.view.ty) (X_arg8 : BufTy.Contents (Elt F) arg8.view.ty) (G_arg14 : BufTy.Contents (Elt F) arg14.view.ty) (G_arg15 : BufTy.Contents (Elt F) arg15.view.ty) (init : FVec F S1x1024 .f32 × FVec F S1x1024 .f32 × FVec F S64x1024 .f32)  (x2 x3 : Vec F S1x4096x128 .bf16) (x4 : Vec F S1x8x128x512 .bf16)
    (hX6 : X_arg6 = arg6.view.rep x2) (hX7 : X_arg7 = arg7.view.rep x3) (hX8 : X_arg8 = arg8.view.rep x4) (H : BufTy.Contents (Elt F) arg14.view.ty)
    (Lb : List (View.Piece (Elt F) S2x512x1024 .f32)) (hG : G_arg14 = arg14.view.writes (Elt F) H (⟨(Rect.unit (s := S2x512x1024) ![1, 0, 0] S1x512x1024.size inb_S2x512x1024_S1x512x1024_1_0_0), blkS v23 cst_122 v70 x2 x3 0⟩ :: Lb))
    (hinit : init = seqS v23 cst_122 v70 x2 x3 x4 1 0) :
    (st_k0_t13 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v70 v71 v72 v73 v74 v244 v255 v256 cst_122 X_arg6 X_arg7 X_arg8 G_arg14 G_arg15 init (Scf.trips (k0_t13_loop i).lb (k0_t13_loop i).ub (k0_t13_loop i).st)).1 = seqS v23 cst_122 v70 x2 x3 x4 1 (0 + 4 * ((i 2).val / 2))
    ∧ ∃ L, (st_k0_t13 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v70 v71 v72 v73 v74 v244 v255 v256 cst_122 X_arg6 X_arg7 X_arg8 G_arg14 G_arg15 init (Scf.trips (k0_t13_loop i).lb (k0_t13_loop i).ub (k0_t13_loop i).st)).2.1 ++ (⟨(Rect.unit (s := S2x512x1024) ![1, 0, 0] S1x512x1024.size inb_S2x512x1024_S1x512x1024_1_0_0), blkS v23 cst_122 v70 x2 x3 0⟩ :: Lb) = ⟨(Rect.unit (s := S2x512x1024) ![1, 0, 0] S1x512x1024.size inb_S2x512x1024_S1x512x1024_1_0_0), blkS v23 cst_122 v70 x2 x3 (0 + 4 * ((i 2).val / 2))⟩ :: L := by
  subst hX6 hX7 hX8
  have ht := trips13 i
  have hi : (i 2).val < 4 := (i 2).isLt
  have hz : st_k0_t13 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v70 v71 v72 v73 v74 v244 v255 v256 cst_122 (arg6.view.rep x2) (arg7.view.rep x3) (arg8.view.rep x4) G_arg14 G_arg15 init 0 = (init, [], []) := rfl
  rcases Nat.eq_zero_or_pos (Scf.trips (k0_t13_loop i).lb (k0_t13_loop i).ub (k0_t13_loop i).st) with h | h
  · have e : (0 + 4 * ((i 2).val / 2)) = 0 := by omega
    rw [h, hz, e]
    exact ⟨hinit, Lb, rfl⟩
  · have h1 : (Scf.trips (k0_t13_loop i).lb (k0_t13_loop i).ub (k0_t13_loop i).st) = (⟨0, h⟩ : Fin (k0_t13_loop i).trips).val + 1 := by show (Scf.trips (k0_t13_loop i).lb (k0_t13_loop i).ub (k0_t13_loop i).st) = 0 + 1; omega
    have e : (0 + 4 * ((i 2).val / 2)) = 0 + 4 := by omega
    have hz' : st_k0_t13 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v70 v71 v72 v73 v74 v244 v255 v256 cst_122 (arg6.view.rep x2) (arg7.view.rep x3) (arg8.view.rep x4) G_arg14 G_arg15 init (⟨0, h⟩ : Fin (k0_t13_loop i).trips).val = (init, [], []) := hz
    have hr : View.readAt (Elt F) arg14.view (Rect.unit (s := S2x512x1024) ![1, 0, 0] S1x512x1024.size inb_S2x512x1024_S1x512x1024_1_0_0).toLoadRect (arg14.view.writes (Elt F) G_arg14 []) = blkS v23 cst_122 v70 x2 x3 0 := by
      have hw : arg14.view.writes (Elt F) G_arg14 [] = G_arg14 := rfl
      rw [hw, hG]
      exact readAt_cons ..
    rw [h1, e, st_k0_t13_succ, hz']
    refine ⟨?_, ?_⟩
    · show tripR_k0_t13 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v70 v71 v72 v73 v74 v244 v255 v256 cst_122 (arg6.view.rep x2) (arg7.view.rep x3) (arg8.view.rep x4) ⟨0, h⟩ init (arg14.view.writes (Elt F) G_arg14 []) (arg15.view.writes (Elt F) G_arg15 []) = _
      rw [tripR13, hr]
      simp only [kread (h := offk13_1 i h), kread (h := offk13_2 i h), kread (h := offk13_3 i h), kread (h := offk13_4 i h), vread (hh := 1) (h := offv13_0 i h), vread (hh := 1) (h := offv13_1 i h), vread (hh := 1) (h := offv13_2 i h), vread (hh := 1) (h := offv13_3 i h)]
      rw [hinit]
      rfl
    · obtain ⟨L, hL⟩ := tripL13 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v70 v71 v72 v73 v74 v244 v255 v256 cst_122 (arg6.view.rep x2) (arg7.view.rep x3) (arg8.view.rep x4) ⟨0, h⟩ init (arg14.view.writes (Elt F) G_arg14 []) (arg15.view.writes (Elt F) G_arg15 [])
      refine ⟨(L ++ []) ++ (⟨(Rect.unit (s := S2x512x1024) ![1, 0, 0] S1x512x1024.size inb_S2x512x1024_S1x512x1024_1_0_0), blkS v23 cst_122 v70 x2 x3 0⟩ :: Lb), ?_⟩
      show ((tripL_k0_t13 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v70 v71 v72 v73 v74 v244 v255 v256 cst_122 (arg6.view.rep x2) (arg7.view.rep x3) (arg8.view.rep x4) ⟨0, h⟩ init (arg14.view.writes (Elt F) G_arg14 []) (arg15.view.writes (Elt F) G_arg15 [])).1 ++ []) ++ (⟨(Rect.unit (s := S2x512x1024) ![1, 0, 0] S1x512x1024.size inb_S2x512x1024_S1x512x1024_1_0_0), blkS v23 cst_122 v70 x2 x3 0⟩ :: Lb) = _
      rw [hL]
      simp only [kread (h := offk13_1 i h), kread (h := offk13_2 i h), kread (h := offk13_3 i h), kread (h := offk13_4 i h)]
      rfl

theorem trips15 : ∀ i : grid0.Coords, Scf.trips (k0_t15_loop i).lb (k0_t15_loop i).ub (k0_t15_loop i).st = (i 2).val % 2 := by decide +kernel

theorem offk15_1 : ∀ (i : grid0.Coords) (h : 0 < (k0_t15_loop i).trips), k0_off101 i ⟨0, h⟩ 1#32 = ![0, 512 * (((4 * ((i 2).val / 2)) + 1) % 8), 0] := by decide +kernel
theorem offk15_2 : ∀ (i : grid0.Coords) (h : 0 < (k0_t15_loop i).trips), k0_off101 i ⟨0, h⟩ 2#32 = ![0, 512 * (((4 * ((i 2).val / 2)) + 2) % 8), 0] := by decide +kernel
theorem offv15_0 : ∀ (i : grid0.Coords) (h : 0 < (k0_t15_loop i).trips), k0_off102 i ⟨0, h⟩ = ![0, (4 * ((i 2).val / 2)) % 8, 64 * (1 : Fin 2).val, 0] := by decide +kernel
theorem offv15_1 : ∀ (i : grid0.Coords) (h : 0 < (k0_t15_loop i).trips), k0_off103 i ⟨0, h⟩ = ![0, ((4 * ((i 2).val / 2)) + 1) % 8, 64 * (1 : Fin 2).val, 0] := by decide +kernel

/-- The loop takes the state over its blocks and leaves the next block's scores stored. -/
theorem loop15  (𝒱 : Variants) (c : Dev nD) (bd : Option 𝒱.V) (i : grid0.Coords) (arg3 : Memref sig .tc .smem S257 .i32) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole) (arg14 : Memref sig .tc .vmem S2x512x1024 .f32) (harg14 : arg14.IsWhole) (arg15 : Memref sig .tc .vmem S2x512x1024 .f32) (harg15 : arg15.IsWhole) (arg16 : Memref sig .tc .vmem S2x512x1024 .bf16) (harg16 : arg16.IsWhole) (arg17 : Memref sig .tc .vmem S2x512x1024 .bf16) (harg17 : arg17.IsWhole) (v23 : IVec S512x128 1) (v26 : IVec S512x512 1) (v70 : FVec F S256x1024 .bf16) (v74 : BitVec 32) (v285_0 : FVec F S1x1024 .f32) (v285_1 : FVec F S1x1024 .f32) (v285_2 : FVec F S64x1024 .f32) (v287 : BitVec 32) (c2_i32_129 : BitVec 32) (v288 : BitVec 32) (v293 : BitVec 32) (v295 : BitVec 32) (cst_136 : F .bf16) (X_arg6 : BufTy.Contents (Elt F) arg6.view.ty) (X_arg7 : BufTy.Contents (Elt F) arg7.view.ty) (X_arg8 : BufTy.Contents (Elt F) arg8.view.ty) (G_arg14 : BufTy.Contents (Elt F) arg14.view.ty) (G_arg15 : BufTy.Contents (Elt F) arg15.view.ty) (init : FVec F S1x1024 .f32 × FVec F S1x1024 .f32 × FVec F S64x1024 .f32)  (x2 x3 : Vec F S1x4096x128 .bf16) (x4 : Vec F S1x8x128x512 .bf16)
    (hX6 : X_arg6 = arg6.view.rep x2) (hX7 : X_arg7 = arg7.view.rep x3) (hX8 : X_arg8 = arg8.view.rep x4) (H : BufTy.Contents (Elt F) arg14.view.ty)
    (Lb : List (View.Piece (Elt F) S2x512x1024 .f32)) (hG : G_arg14 = arg14.view.writes (Elt F) H (⟨(Rect.unit (s := S2x512x1024) ![1, 0, 0] S1x512x1024.size inb_S2x512x1024_S1x512x1024_1_0_0), blkS v23 cst_136 v70 x2 x3 (4 * ((i 2).val / 2))⟩ :: Lb))
    (hinit : init = seqS v23 cst_136 v70 x2 x3 x4 1 (4 * ((i 2).val / 2))) :
    (st_k0_t15 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v26 v70 v74 v285_0 v285_1 v285_2 v287 c2_i32_129 v288 v293 v295 cst_136 X_arg6 X_arg7 X_arg8 G_arg14 G_arg15 init (Scf.trips (k0_t15_loop i).lb (k0_t15_loop i).ub (k0_t15_loop i).st)).1 = seqS v23 cst_136 v70 x2 x3 x4 1 ((4 * ((i 2).val / 2)) + 2 * ((i 2).val % 2))
    ∧ ∃ L, (st_k0_t15 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v26 v70 v74 v285_0 v285_1 v285_2 v287 c2_i32_129 v288 v293 v295 cst_136 X_arg6 X_arg7 X_arg8 G_arg14 G_arg15 init (Scf.trips (k0_t15_loop i).lb (k0_t15_loop i).ub (k0_t15_loop i).st)).2.1 ++ (⟨(Rect.unit (s := S2x512x1024) ![1, 0, 0] S1x512x1024.size inb_S2x512x1024_S1x512x1024_1_0_0), blkS v23 cst_136 v70 x2 x3 (4 * ((i 2).val / 2))⟩ :: Lb) = ⟨(Rect.unit (s := S2x512x1024) ![1, 0, 0] S1x512x1024.size inb_S2x512x1024_S1x512x1024_1_0_0), blkS v23 cst_136 v70 x2 x3 ((4 * ((i 2).val / 2)) + 2 * ((i 2).val % 2))⟩ :: L := by
  subst hX6 hX7 hX8
  have ht := trips15 i
  have hi : (i 2).val < 4 := (i 2).isLt
  have hz : st_k0_t15 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v26 v70 v74 v285_0 v285_1 v285_2 v287 c2_i32_129 v288 v293 v295 cst_136 (arg6.view.rep x2) (arg7.view.rep x3) (arg8.view.rep x4) G_arg14 G_arg15 init 0 = (init, [], []) := rfl
  rcases Nat.eq_zero_or_pos (Scf.trips (k0_t15_loop i).lb (k0_t15_loop i).ub (k0_t15_loop i).st) with h | h
  · have e : ((4 * ((i 2).val / 2)) + 2 * ((i 2).val % 2)) = (4 * ((i 2).val / 2)) := by omega
    rw [h, hz, e]
    exact ⟨hinit, Lb, rfl⟩
  · have h1 : (Scf.trips (k0_t15_loop i).lb (k0_t15_loop i).ub (k0_t15_loop i).st) = (⟨0, h⟩ : Fin (k0_t15_loop i).trips).val + 1 := by show (Scf.trips (k0_t15_loop i).lb (k0_t15_loop i).ub (k0_t15_loop i).st) = 0 + 1; omega
    have e : ((4 * ((i 2).val / 2)) + 2 * ((i 2).val % 2)) = (4 * ((i 2).val / 2)) + 2 := by omega
    have hz' : st_k0_t15 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v26 v70 v74 v285_0 v285_1 v285_2 v287 c2_i32_129 v288 v293 v295 cst_136 (arg6.view.rep x2) (arg7.view.rep x3) (arg8.view.rep x4) G_arg14 G_arg15 init (⟨0, h⟩ : Fin (k0_t15_loop i).trips).val = (init, [], []) := hz
    have hr : View.readAt (Elt F) arg14.view (Rect.unit (s := S2x512x1024) ![1, 0, 0] S1x512x1024.size inb_S2x512x1024_S1x512x1024_1_0_0).toLoadRect (arg14.view.writes (Elt F) G_arg14 []) = blkS v23 cst_136 v70 x2 x3 (4 * ((i 2).val / 2)) := by
      have hw : arg14.view.writes (Elt F) G_arg14 [] = G_arg14 := rfl
      rw [hw, hG]
      exact readAt_cons ..
    rw [h1, e, st_k0_t15_succ, hz']
    refine ⟨?_, ?_⟩
    · show tripR_k0_t15 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v26 v70 v74 v285_0 v285_1 v285_2 v287 c2_i32_129 v288 v293 v295 cst_136 (arg6.view.rep x2) (arg7.view.rep x3) (arg8.view.rep x4) ⟨0, h⟩ init (arg14.view.writes (Elt F) G_arg14 []) (arg15.view.writes (Elt F) G_arg15 []) = _
      rw [tripR15, hr]
      simp only [kread (h := offk15_1 i h), kread (h := offk15_2 i h), vread (hh := 1) (h := offv15_0 i h), vread (hh := 1) (h := offv15_1 i h)]
      rw [hinit]
      rfl
    · obtain ⟨L, hL⟩ := tripL15 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v26 v70 v74 v285_0 v285_1 v285_2 v287 c2_i32_129 v288 v293 v295 cst_136 (arg6.view.rep x2) (arg7.view.rep x3) (arg8.view.rep x4) ⟨0, h⟩ init (arg14.view.writes (Elt F) G_arg14 []) (arg15.view.writes (Elt F) G_arg15 [])
      refine ⟨(L ++ []) ++ (⟨(Rect.unit (s := S2x512x1024) ![1, 0, 0] S1x512x1024.size inb_S2x512x1024_S1x512x1024_1_0_0), blkS v23 cst_136 v70 x2 x3 (4 * ((i 2).val / 2))⟩ :: Lb), ?_⟩
      show ((tripL_k0_t15 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v26 v70 v74 v285_0 v285_1 v285_2 v287 c2_i32_129 v288 v293 v295 cst_136 (arg6.view.rep x2) (arg7.view.rep x3) (arg8.view.rep x4) ⟨0, h⟩ init (arg14.view.writes (Elt F) G_arg14 []) (arg15.view.writes (Elt F) G_arg15 [])).1 ++ []) ++ (⟨(Rect.unit (s := S2x512x1024) ![1, 0, 0] S1x512x1024.size inb_S2x512x1024_S1x512x1024_1_0_0), blkS v23 cst_136 v70 x2 x3 (4 * ((i 2).val / 2))⟩ :: Lb) = _
      rw [hL]
      simp only [kread (h := offk15_1 i h), kread (h := offk15_2 i h)]
      rfl

/-- The two heads' queries over 256 lanes: the head's own 64 rows of the pair, and its three bias pieces against ones. -/
def q0 (x0 x1 : Vec F S1x128x1024 .bf16) : FVec F S256x1024 .bf16 := k0_pay286 x0 x1

def q1 (x0 x1 : Vec F S1x128x1024 .bf16) : FVec F S256x1024 .bf16 :=
  k0_pay451 (k0_pay282 x0) (k0_pay283 x1) (iota .tc S128x1024 32 [0] iota_S128x1024_d0_w32) k0_pay287

/-- The number one, as the keys' bias lanes hold it. -/
def one : F .bf16 := Scalar.ofBits .bf16 0x3F80#16

/-- The first head's closing steps, over the two blocks on the diagonal. -/
def fin0 (q : FVec F S256x1024 .bf16) (st : St F) (s : FVec F S1x512x1024 .f32) (kb k : Vec F S1x512x128 .bf16) (vA vB : Vec F S1x1x64x512 .bf16) : FVec F S64x1024 .f32 :=
  k0_pay487 k0_pay285 (k0_pay478 k0_pay284 q kb k) (k0_pay480 vA) (k0_pay481 k0_pay285 st.1 s) (k0_pay484 k0_pay285 st.1 st.2.1 s)
    (k0_pay485 k0_pay285 st.1 st.2.2 s) (k0_pay486 k0_pay285 st.1 s) (constant S64x1024 .f32 0x00000000#32) vB

/-- The second head's closing sums. -/
def finL (q : FVec F S256x1024 .bf16) (st : St F) (s : FVec F S1x512x1024 .f32) (kb k : Vec F S1x512x128 .bf16) : FVec F S1x1024 .f32 :=
  k0_pay518 k0_pay285 st.1 st.2.1 (k0_pay508 k0_pay284 q kb k) (k0_pay509 k0_pay285 s)

/-- The second head's closing rows. -/
def finA (q : FVec F S256x1024 .bf16) (st : St F) (s : FVec F S1x512x1024 .f32) (kb k : Vec F S1x512x128 .bf16) (vA vB : Vec F S1x1x64x512 .bf16) : FVec F S64x1024 .f32 :=
  k0_pay519 k0_pay285 st.1 st.2.2 (k0_pay508 k0_pay284 q kb k) (k0_pay509 k0_pay285 s) vA vB

/-- The tile's result, from `n` whole blocks and the two on the diagonal. -/
def outN (n : ℕ) (x0 x1 : Vec F S1x128x1024 .bf16) (x2 x3 : Vec F S1x4096x128 .bf16) (x4 : Vec F S1x8x128x512 .bf16) : FVec F S1x1024x128 .bf16 :=
  k0_pay6
    (fin0 (q0 x0 x1) (seqS k0_pay284 one (q0 x0 x1) x2 x3 x4 0 n) (blkS k0_pay284 one (q0 x0 x1) x2 x3 n) (kblk x3 (n + 1)) (kblk x2 (n + 1)) (vblk x4 0 n) (vblk x4 0 (n + 1)))
    (finL (q1 x0 x1) (seqS k0_pay284 one (q1 x0 x1) x2 x3 x4 1 n) (blkS k0_pay284 one (q1 x0 x1) x2 x3 n) (kblk x3 (n + 1)) (kblk x2 (n + 1)))
    (finA (q1 x0 x1) (seqS k0_pay284 one (q1 x0 x1) x2 x3 x4 1 n) (blkS k0_pay284 one (q1 x0 x1) x2 x3 n) (kblk x3 (n + 1)) (kblk x2 (n + 1)) (vblk x4 1 n) (vblk x4 1 (n + 1)))

theorem offd92 : ∀ i : grid0.Coords, k0_off92 i = ![0, 512 * ((2 * (i 2).val + 1) % 8), 0] := by decide +kernel
theorem offd93 : ∀ i : grid0.Coords, k0_off93 i = ![0, (2 * (i 2).val) % 8, 64 * (0 : Fin 2).val, 0] := by decide +kernel
theorem offd94 : ∀ i : grid0.Coords, k0_off94 i = ![0, (2 * (i 2).val + 1) % 8, 64 * (0 : Fin 2).val, 0] := by decide +kernel
theorem offd107 : ∀ i : grid0.Coords, k0_off107 i = ![0, (2 * (i 2).val) % 8, 64 * (1 : Fin 2).val, 0] := by decide +kernel
theorem offd108 : ∀ i : grid0.Coords, k0_off108 i = ![0, (2 * (i 2).val + 1) % 8, 64 * (1 : Fin 2).val, 0] := by decide +kernel

end

section

/-- The first head's queries as the body builds them. -/
theorem q0_word (arg4 arg5 : Memref sig .tc .vmem S1x128x1024 .bf16) (x0 x1 : Vec Ideal S1x128x1024 .bf16) :
    bodyRun.sl.v48 arg4 arg5 x0 x1 = q0 (F := Ideal) x0 x1 := by
  have h : bodyRun.sl.v48 arg4 arg5 x0 x1 = q0 (F := Ideal)
      (View.readAt (Elt Ideal) arg4.view (Rect.unit (s := S1x128x1024) ![0, 0, 0] S1x128x1024.size inb_S1x128x1024_S1x128x1024_0_0_0).toLoadRect (arg4.view.rep x0))
      (View.readAt (Elt Ideal) arg5.view (Rect.unit (s := S1x128x1024) ![0, 0, 0] S1x128x1024.size inb_S1x128x1024_S1x128x1024_0_0_0).toLoadRect (arg5.view.rep x1)) := rfl
  rw [h, View.readAt_rep_full, View.readAt_rep_full]

/-- The second head's. -/
theorem q1_word (arg4 arg5 : Memref sig .tc .vmem S1x128x1024 .bf16) (x0 x1 : Vec Ideal S1x128x1024 .bf16) :
    bodyRun.sl.r_1 arg4 arg5 x0 x1 = q1 (F := Ideal) x0 x1 := by
  have h : bodyRun.sl.r_1 arg4 arg5 x0 x1 = q1 (F := Ideal)
      (View.readAt (Elt Ideal) arg4.view (Rect.unit (s := S1x128x1024) ![0, 0, 0] S1x128x1024.size inb_S1x128x1024_S1x128x1024_0_0_0).toLoadRect (arg4.view.rep x0))
      (View.readAt (Elt Ideal) arg5.view (Rect.unit (s := S1x128x1024) ![0, 0, 0] S1x128x1024.size inb_S1x128x1024_S1x128x1024_0_0_0).toLoadRect (arg5.view.rep x1)) := rfl
  rw [h, View.readAt_rep_full, View.readAt_rep_full]

/-- The block of keys at the start. -/
theorem kread0 (v : Memref sig .tc .vmem S1x4096x128 .bf16) (x : Vec Ideal S1x4096x128 .bf16) (inb : ∀ a, ![0, 0, 0] a + S1x512x128.size a ≤ S1x4096x128.size a) :
    View.readAt (Elt Ideal) v.view (Rect.unit (s := S1x4096x128) ![0, 0, 0] S1x512x128.size inb).toLoadRect (v.view.rep x) = kblk (F := Ideal) x 0 :=
  kread v x (by decide) inb

/-- The scores of block 0 the body stores before the first head's loop. -/
abbrev P0 (c : Dev nD) (i : grid0.Coords) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole)
    (x0 x1 : Vec Ideal S1x128x1024 .bf16) (x2 x3 : Vec Ideal S1x4096x128 .bf16) (x4 : Vec Ideal S1x8x128x512 .bf16) (xa0 : Buf (Elt Ideal) ((c : Thread nD τ).loc cc0_scratch0)) (xa1 : Buf (Elt Ideal) ((c : Thread nD τ).loc cc0_scratch1)) : View.Piece (Elt Ideal) S2x512x1024 .f32 :=
  ⟨Rect.unit (s := S2x512x1024) ![0, 0, 0] S1x512x1024.size inb_S2x512x1024_S1x512x1024_0_0_0, k0_pay455 bodyRun.sl.v23 (bodyRun.sl.v48 arg4 arg5 x0 x1)
    (View.readAt (Elt Ideal) arg7.view (Rect.unit (s := S1x4096x128) ![0, 0, 0] S1x512x128.size inb_S1x4096x128_S1x512x128_0_0_0).toLoadRect (arg7.view.rep x3))
    (View.readAt (Elt Ideal) arg6.view (Rect.unit (s := S1x4096x128) ![0, 0, 0] S1x512x128.size inb_S1x4096x128_S1x512x128_0_0_0).toLoadRect (arg6.view.rep x2))⟩

/-- What the first head's first loop leaves. -/
abbrev S9 (c : Dev nD) (i : grid0.Coords) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole)
    (x0 x1 : Vec Ideal S1x128x1024 .bf16) (x2 x3 : Vec Ideal S1x4096x128 .bf16) (x4 : Vec Ideal S1x8x128x512 .bf16) (xa0 : Buf (Elt Ideal) ((c : Thread nD τ).loc cc0_scratch0)) (xa1 : Buf (Elt Ideal) ((c : Thread nD τ).loc cc0_scratch1)) :=
  st_k0_t9 (F := Ideal) Variants.none c none i tab (Memref.isWhole_whole _) arg4 harg4 arg5 harg5 arg6 harg6 arg7 harg7 arg8 harg8 arg9 harg9 arg10 harg10 arg11 harg11 arg12 harg12 arg13 harg13 scr0 (Memref.isWhole_whole _) scr1 (Memref.isWhole_whole _) scr2 (Memref.isWhole_whole _) scr3 (Memref.isWhole_whole _) bodyRun.sl.v23 (bodyRun.sl.v48 arg4 arg5 x0 x1) (k0_pay452 (F := Ideal)) (k0_pay453 (F := Ideal)) (k0_pay452 (F := Ideal)) (0#32) (0#32) (0#32) (0#32) bodyRun.sl.cst_20
    (arg6.view.rep x2) (arg7.view.rep x3) (arg8.view.rep x4) (scr0.view.writes (Elt Ideal) xa0 [P0 c i arg4 harg4 arg5 harg5 arg6 harg6 arg7 harg7 arg8 harg8 arg9 harg9 arg10 harg10 arg11 harg11 arg12 harg12 arg13 harg13 x0 x1 x2 x3 x4 xa0 xa1]) xa1 (k0_pay454, k0_pay452, k0_pay453) (Scf.trips (k0_t9_loop i).lb (k0_t9_loop i).ub (k0_t9_loop i).st)

/-- What its second loop leaves. -/
abbrev S11 (c : Dev nD) (i : grid0.Coords) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole)
    (x0 x1 : Vec Ideal S1x128x1024 .bf16) (x2 x3 : Vec Ideal S1x4096x128 .bf16) (x4 : Vec Ideal S1x8x128x512 .bf16) (xa0 : Buf (Elt Ideal) ((c : Thread nD τ).loc cc0_scratch0)) (xa1 : Buf (Elt Ideal) ((c : Thread nD τ).loc cc0_scratch1)) :=
  st_k0_t11 (F := Ideal) Variants.none c none i tab (Memref.isWhole_whole _) arg4 harg4 arg5 harg5 arg6 harg6 arg7 harg7 arg8 harg8 arg9 harg9 arg10 harg10 arg11 harg11 arg12 harg12 arg13 harg13 scr0 (Memref.isWhole_whole _) scr1 (Memref.isWhole_whole _) scr2 (Memref.isWhole_whole _) scr3 (Memref.isWhole_whole _) bodyRun.sl.v23 (bodyRun.sl.v48 arg4 arg5 x0 x1) (k0_pay286 (F := Ideal) (fun _ => Scalar.ofBits (F := Ideal) .bf16 0#16) (fun _ => Scalar.ofBits (F := Ideal) .bf16 0#16)) (0#32) (0#32)
    (k0_pay452 (F := Ideal)) (k0_pay452 (F := Ideal)) (k0_pay453 (F := Ideal)) (0#32) (bodyRun.sl.v132 i) bodyRun.sl.cst_69
    (arg6.view.rep x2) (arg7.view.rep x3) (arg8.view.rep x4) (scr0.view.writes (Elt Ideal) xa0 ((S9 c i arg4 harg4 arg5 harg5 arg6 harg6 arg7 harg7 arg8 harg8 arg9 harg9 arg10 harg10 arg11 harg11 arg12 harg12 arg13 harg13 x0 x1 x2 x3 x4 xa0 xa1).2.1 ++ [P0 c i arg4 harg4 arg5 harg5 arg6 harg6 arg7 harg7 arg8 harg8 arg9 harg9 arg10 harg10 arg11 harg11 arg12 harg12 arg13 harg13 x0 x1 x2 x3 x4 xa0 xa1])) (scr1.view.writes (Elt Ideal) xa1 (S9 c i arg4 harg4 arg5 harg5 arg6 harg6 arg7 harg7 arg8 harg8 arg9 harg9 arg10 harg10 arg11 harg11 arg12 harg12 arg13 harg13 x0 x1 x2 x3 x4 xa0 xa1).2.2)
    ((S9 c i arg4 harg4 arg5 harg5 arg6 harg6 arg7 harg7 arg8 harg8 arg9 harg9 arg10 harg10 arg11 harg11 arg12 harg12 arg13 harg13 x0 x1 x2 x3 x4 xa0 xa1).1.1, (S9 c i arg4 harg4 arg5 harg5 arg6 harg6 arg7 harg7 arg8 harg8 arg9 harg9 arg10 harg10 arg11 harg11 arg12 harg12 arg13 harg13 x0 x1 x2 x3 x4 xa0 xa1).1.2.1, (S9 c i arg4 harg4 arg5 harg5 arg6 harg6 arg7 harg7 arg8 harg8 arg9 harg9 arg10 harg10 arg11 harg11 arg12 harg12 arg13 harg13 x0 x1 x2 x3 x4 xa0 xa1).1.2.2) (Scf.trips (k0_t11_loop i).lb (k0_t11_loop i).ub (k0_t11_loop i).st)

/-- The scores stored when the second head's loops start. -/
abbrev H0 (c : Dev nD) (i : grid0.Coords) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole)
    (x0 x1 : Vec Ideal S1x128x1024 .bf16) (x2 x3 : Vec Ideal S1x4096x128 .bf16) (x4 : Vec Ideal S1x8x128x512 .bf16) (xa0 : Buf (Elt Ideal) ((c : Thread nD τ).loc cc0_scratch0)) (xa1 : Buf (Elt Ideal) ((c : Thread nD τ).loc cc0_scratch1)) : List (View.Piece (Elt Ideal) S2x512x1024 .f32) :=
  ⟨Rect.unit (s := S2x512x1024) ![1, 0, 0] S1x512x1024.size inb_S2x512x1024_S1x512x1024_1_0_0, k0_pay477 (bodyRun.sl.v167 arg4 arg5 arg6 arg7 x0 x1 x2 x3)⟩ :: ((S11 c i arg4 harg4 arg5 harg5 arg6 harg6 arg7 harg7 arg8 harg8 arg9 harg9 arg10 harg10 arg11 harg11 arg12 harg12 arg13 harg13 x0 x1 x2 x3 x4 xa0 xa1).2.1 ++ ((S9 c i arg4 harg4 arg5 harg5 arg6 harg6 arg7 harg7 arg8 harg8 arg9 harg9 arg10 harg10 arg11 harg11 arg12 harg12 arg13 harg13 x0 x1 x2 x3 x4 xa0 xa1).2.1 ++ [P0 c i arg4 harg4 arg5 harg5 arg6 harg6 arg7 harg7 arg8 harg8 arg9 harg9 arg10 harg10 arg11 harg11 arg12 harg12 arg13 harg13 x0 x1 x2 x3 x4 xa0 xa1]))

/-- What the second head's first loop leaves. -/
abbrev S13 (c : Dev nD) (i : grid0.Coords) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole)
    (x0 x1 : Vec Ideal S1x128x1024 .bf16) (x2 x3 : Vec Ideal S1x4096x128 .bf16) (x4 : Vec Ideal S1x8x128x512 .bf16) (xa0 : Buf (Elt Ideal) ((c : Thread nD τ).loc cc0_scratch0)) (xa1 : Buf (Elt Ideal) ((c : Thread nD τ).loc cc0_scratch1)) :=
  st_k0_t13 (F := Ideal) Variants.none c none i tab (Memref.isWhole_whole _) arg4 harg4 arg5 harg5 arg6 harg6 arg7 harg7 arg8 harg8 arg9 harg9 arg10 harg10 arg11 harg11 arg12 harg12 arg13 harg13 scr0 (Memref.isWhole_whole _) scr1 (Memref.isWhole_whole _) scr2 (Memref.isWhole_whole _) scr3 (Memref.isWhole_whole _) bodyRun.sl.v23 (bodyRun.sl.r_1 arg4 arg5 x0 x1) (k0_pay452 (F := Ideal)) (k0_pay453 (F := Ideal)) (k0_pay452 (F := Ideal)) (0#32) (0#32) (0#1) (0#32) bodyRun.sl.cst_76
    (arg6.view.rep x2) (arg7.view.rep x3) (arg8.view.rep x4) (scr0.view.writes (Elt Ideal) xa0 (H0 c i arg4 harg4 arg5 harg5 arg6 harg6 arg7 harg7 arg8 harg8 arg9 harg9 arg10 harg10 arg11 harg11 arg12 harg12 arg13 harg13 x0 x1 x2 x3 x4 xa0 xa1)) (scr1.view.writes (Elt Ideal) xa1 ((S11 c i arg4 harg4 arg5 harg5 arg6 harg6 arg7 harg7 arg8 harg8 arg9 harg9 arg10 harg10 arg11 harg11 arg12 harg12 arg13 harg13 x0 x1 x2 x3 x4 xa0 xa1).2.2 ++ (S9 c i arg4 harg4 arg5 harg5 arg6 harg6 arg7 harg7 arg8 harg8 arg9 harg9 arg10 harg10 arg11 harg11 arg12 harg12 arg13 harg13 x0 x1 x2 x3 x4 xa0 xa1).2.2)) (k0_pay454, k0_pay452, k0_pay453) (Scf.trips (k0_t13_loop i).lb (k0_t13_loop i).ub (k0_t13_loop i).st)

/-- What its second loop leaves. -/
abbrev S15 (c : Dev nD) (i : grid0.Coords) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole)
    (x0 x1 : Vec Ideal S1x128x1024 .bf16) (x2 x3 : Vec Ideal S1x4096x128 .bf16) (x4 : Vec Ideal S1x8x128x512 .bf16) (xa0 : Buf (Elt Ideal) ((c : Thread nD τ).loc cc0_scratch0)) (xa1 : Buf (Elt Ideal) ((c : Thread nD τ).loc cc0_scratch1)) :=
  st_k0_t15 (F := Ideal) Variants.none c none i tab (Memref.isWhole_whole _) arg4 harg4 arg5 harg5 arg6 harg6 arg7 harg7 arg8 harg8 arg9 harg9 arg10 harg10 arg11 harg11 arg12 harg12 arg13 harg13 scr0 (Memref.isWhole_whole _) scr1 (Memref.isWhole_whole _) scr2 (Memref.isWhole_whole _) scr3 (Memref.isWhole_whole _) bodyRun.sl.v23 (cmpi .sle bodyRun.sl.v24 bodyRun.sl.v25) (bodyRun.sl.r_1 arg4 arg5 x0 x1) (bodyRun.sl.v74 i)
    (S13 c i arg4 harg4 arg5 harg5 arg6 harg6 arg7 harg7 arg8 harg8 arg9 harg9 arg10 harg10 arg11 harg11 arg12 harg12 arg13 harg13 x0 x1 x2 x3 x4 xa0 xa1).1.1 (S13 c i arg4 harg4 arg5 harg5 arg6 harg6 arg7 harg7 arg8 harg8 arg9 harg9 arg10 harg10 arg11 harg11 arg12 harg12 arg13 harg13 x0 x1 x2 x3 x4 xa0 xa1).1.2.1 (S13 c i arg4 harg4 arg5 harg5 arg6 harg6 arg7 harg7 arg8 harg8 arg9 harg9 arg10 harg10 arg11 harg11 arg12 harg12 arg13 harg13 x0 x1 x2 x3 x4 xa0 xa1).1.2.2 (bodyRun.sl.v287 i) (2#32) (bodyRun.sl.v288 i) (bodyRun.sl.v293 i) (1#32) bodyRun.sl.cst_136
    (arg6.view.rep x2) (arg7.view.rep x3) (arg8.view.rep x4) (scr0.view.writes (Elt Ideal) xa0 ((S13 c i arg4 harg4 arg5 harg5 arg6 harg6 arg7 harg7 arg8 harg8 arg9 harg9 arg10 harg10 arg11 harg11 arg12 harg12 arg13 harg13 x0 x1 x2 x3 x4 xa0 xa1).2.1 ++ H0 c i arg4 harg4 arg5 harg5 arg6 harg6 arg7 harg7 arg8 harg8 arg9 harg9 arg10 harg10 arg11 harg11 arg12 harg12 arg13 harg13 x0 x1 x2 x3 x4 xa0 xa1)) (scr1.view.writes (Elt Ideal) xa1 ((S13 c i arg4 harg4 arg5 harg5 arg6 harg6 arg7 harg7 arg8 harg8 arg9 harg9 arg10 harg10 arg11 harg11 arg12 harg12 arg13 harg13 x0 x1 x2 x3 x4 xa0 xa1).2.2 ++ ((S11 c i arg4 harg4 arg5 harg5 arg6 harg6 arg7 harg7 arg8 harg8 arg9 harg9 arg10 harg10 arg11 harg11 arg12 harg12 arg13 harg13 x0 x1 x2 x3 x4 xa0 xa1).2.2 ++ (S9 c i arg4 harg4 arg5 harg5 arg6 harg6 arg7 harg7 arg8 harg8 arg9 harg9 arg10 harg10 arg11 harg11 arg12 harg12 arg13 harg13 x0 x1 x2 x3 x4 xa0 xa1).2.2)))
    ((S13 c i arg4 harg4 arg5 harg5 arg6 harg6 arg7 harg7 arg8 harg8 arg9 harg9 arg10 harg10 arg11 harg11 arg12 harg12 arg13 harg13 x0 x1 x2 x3 x4 xa0 xa1).1.1, (S13 c i arg4 harg4 arg5 harg5 arg6 harg6 arg7 harg7 arg8 harg8 arg9 harg9 arg10 harg10 arg11 harg11 arg12 harg12 arg13 harg13 x0 x1 x2 x3 x4 xa0 xa1).1.2.1, (S13 c i arg4 harg4 arg5 harg5 arg6 harg6 arg7 harg7 arg8 harg8 arg9 harg9 arg10 harg10 arg11 harg11 arg12 harg12 arg13 harg13 x0 x1 x2 x3 x4 xa0 xa1).1.2.2) (Scf.trips (k0_t15_loop i).lb (k0_t15_loop i).ub (k0_t15_loop i).st)

theorem P0_eq (c : Dev nD) (i : grid0.Coords) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole)
    (x0 x1 : Vec Ideal S1x128x1024 .bf16) (x2 x3 : Vec Ideal S1x4096x128 .bf16) (x4 : Vec Ideal S1x8x128x512 .bf16) (xa0 : Buf (Elt Ideal) ((c : Thread nD τ).loc cc0_scratch0)) (xa1 : Buf (Elt Ideal) ((c : Thread nD τ).loc cc0_scratch1)) : P0 c i arg4 harg4 arg5 harg5 arg6 harg6 arg7 harg7 arg8 harg8 arg9 harg9 arg10 harg10 arg11 harg11 arg12 harg12 arg13 harg13 x0 x1 x2 x3 x4 xa0 xa1 = ⟨Rect.unit (s := S2x512x1024) ![0, 0, 0] S1x512x1024.size inb_S2x512x1024_S1x512x1024_0_0_0, blkS (F := Ideal) k0_pay284 one (q0 x0 x1) x2 x3 0⟩ := by
  show (⟨Rect.unit (s := S2x512x1024) ![0, 0, 0] S1x512x1024.size inb_S2x512x1024_S1x512x1024_0_0_0, k0_pay455 bodyRun.sl.v23 (bodyRun.sl.v48 arg4 arg5 x0 x1) _ _⟩ : View.Piece (Elt Ideal) S2x512x1024 .f32) = _
  rw [kread0, kread0, q0_word]
  rfl

theorem S9_eq (c : Dev nD) (i : grid0.Coords) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole)
    (x0 x1 : Vec Ideal S1x128x1024 .bf16) (x2 x3 : Vec Ideal S1x4096x128 .bf16) (x4 : Vec Ideal S1x8x128x512 .bf16) (xa0 : Buf (Elt Ideal) ((c : Thread nD τ).loc cc0_scratch0)) (xa1 : Buf (Elt Ideal) ((c : Thread nD τ).loc cc0_scratch1)) :
    (S9 c i arg4 harg4 arg5 harg5 arg6 harg6 arg7 harg7 arg8 harg8 arg9 harg9 arg10 harg10 arg11 harg11 arg12 harg12 arg13 harg13 x0 x1 x2 x3 x4 xa0 xa1).1 = seqS (F := Ideal) k0_pay284 one (q0 x0 x1) x2 x3 x4 0 (4 * ((i 2).val / 2)) ∧ ∃ L, (S9 c i arg4 harg4 arg5 harg5 arg6 harg6 arg7 harg7 arg8 harg8 arg9 harg9 arg10 harg10 arg11 harg11 arg12 harg12 arg13 harg13 x0 x1 x2 x3 x4 xa0 xa1).2.1 ++ [P0 c i arg4 harg4 arg5 harg5 arg6 harg6 arg7 harg7 arg8 harg8 arg9 harg9 arg10 harg10 arg11 harg11 arg12 harg12 arg13 harg13 x0 x1 x2 x3 x4 xa0 xa1] = ⟨Rect.unit (s := S2x512x1024) ![0, 0, 0] S1x512x1024.size inb_S2x512x1024_S1x512x1024_0_0_0, blkS (F := Ideal) k0_pay284 one (q0 x0 x1) x2 x3 (4 * ((i 2).val / 2))⟩ :: L := by
  unfold S9
  rw [P0_eq, q0_word]
  have h := loop9 (F := Ideal) Variants.none c none i tab (Memref.isWhole_whole _) arg4 harg4 arg5 harg5 arg6 harg6 arg7 harg7 arg8 harg8 arg9 harg9 arg10 harg10 arg11 harg11 arg12 harg12 arg13 harg13 scr0 (Memref.isWhole_whole _) scr1 (Memref.isWhole_whole _) scr2 (Memref.isWhole_whole _) scr3 (Memref.isWhole_whole _) k0_pay284 (q0 (F := Ideal) x0 x1) (k0_pay452 (F := Ideal)) (k0_pay453 (F := Ideal)) (k0_pay452 (F := Ideal)) (0#32) (0#32) (0#32) (0#32) one (arg6.view.rep x2) (arg7.view.rep x3) (arg8.view.rep x4)
    (scr0.view.writes (Elt Ideal) xa0 [⟨Rect.unit (s := S2x512x1024) ![0, 0, 0] S1x512x1024.size inb_S2x512x1024_S1x512x1024_0_0_0, blkS (F := Ideal) k0_pay284 one (q0 x0 x1) x2 x3 0⟩]) xa1 (k0_pay454, k0_pay452, k0_pay453) x2 x3 x4 rfl rfl rfl xa0 [] rfl rfl
  rw [Nat.zero_add] at h
  exact h

theorem S11_eq (c : Dev nD) (i : grid0.Coords) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole)
    (x0 x1 : Vec Ideal S1x128x1024 .bf16) (x2 x3 : Vec Ideal S1x4096x128 .bf16) (x4 : Vec Ideal S1x8x128x512 .bf16) (xa0 : Buf (Elt Ideal) ((c : Thread nD τ).loc cc0_scratch0)) (xa1 : Buf (Elt Ideal) ((c : Thread nD τ).loc cc0_scratch1)) :
    (S11 c i arg4 harg4 arg5 harg5 arg6 harg6 arg7 harg7 arg8 harg8 arg9 harg9 arg10 harg10 arg11 harg11 arg12 harg12 arg13 harg13 x0 x1 x2 x3 x4 xa0 xa1).1 = seqS (F := Ideal) k0_pay284 one (q0 x0 x1) x2 x3 x4 0 (2 * (i 2).val) ∧ ∃ L, (S11 c i arg4 harg4 arg5 harg5 arg6 harg6 arg7 harg7 arg8 harg8 arg9 harg9 arg10 harg10 arg11 harg11 arg12 harg12 arg13 harg13 x0 x1 x2 x3 x4 xa0 xa1).2.1 ++ ((S9 c i arg4 harg4 arg5 harg5 arg6 harg6 arg7 harg7 arg8 harg8 arg9 harg9 arg10 harg10 arg11 harg11 arg12 harg12 arg13 harg13 x0 x1 x2 x3 x4 xa0 xa1).2.1 ++ [P0 c i arg4 harg4 arg5 harg5 arg6 harg6 arg7 harg7 arg8 harg8 arg9 harg9 arg10 harg10 arg11 harg11 arg12 harg12 arg13 harg13 x0 x1 x2 x3 x4 xa0 xa1]) = ⟨Rect.unit (s := S2x512x1024) ![0, 0, 0] S1x512x1024.size inb_S2x512x1024_S1x512x1024_0_0_0, blkS (F := Ideal) k0_pay284 one (q0 x0 x1) x2 x3 (2 * (i 2).val)⟩ :: L := by
  obtain ⟨h9, L, hL⟩ := S9_eq c i arg4 harg4 arg5 harg5 arg6 harg6 arg7 harg7 arg8 harg8 arg9 harg9 arg10 harg10 arg11 harg11 arg12 harg12 arg13 harg13 x0 x1 x2 x3 x4 xa0 xa1
  have e : 4 * ((i 2).val / 2) + 2 * ((i 2).val % 2) = 2 * (i 2).val := by omega
  unfold S11
  rw [hL, q0_word]
  have h := loop11 (F := Ideal) Variants.none c none i tab (Memref.isWhole_whole _) arg4 harg4 arg5 harg5 arg6 harg6 arg7 harg7 arg8 harg8 arg9 harg9 arg10 harg10 arg11 harg11 arg12 harg12 arg13 harg13 scr0 (Memref.isWhole_whole _) scr1 (Memref.isWhole_whole _) scr2 (Memref.isWhole_whole _) scr3 (Memref.isWhole_whole _) k0_pay284 (q0 (F := Ideal) x0 x1) (k0_pay286 (F := Ideal) (fun _ => Scalar.ofBits (F := Ideal) .bf16 0#16) (fun _ => Scalar.ofBits (F := Ideal) .bf16 0#16)) (0#32) (0#32)
    (k0_pay452 (F := Ideal)) (k0_pay452 (F := Ideal)) (k0_pay453 (F := Ideal)) (0#32) (bodyRun.sl.v132 i) one (arg6.view.rep x2) (arg7.view.rep x3) (arg8.view.rep x4)
    (scr0.view.writes (Elt Ideal) xa0 (⟨Rect.unit (s := S2x512x1024) ![0, 0, 0] S1x512x1024.size inb_S2x512x1024_S1x512x1024_0_0_0, blkS (F := Ideal) k0_pay284 one (q0 x0 x1) x2 x3 (4 * ((i 2).val / 2))⟩ :: L)) (scr1.view.writes (Elt Ideal) xa1 (S9 c i arg4 harg4 arg5 harg5 arg6 harg6 arg7 harg7 arg8 harg8 arg9 harg9 arg10 harg10 arg11 harg11 arg12 harg12 arg13 harg13 x0 x1 x2 x3 x4 xa0 xa1).2.2)
    ((S9 c i arg4 harg4 arg5 harg5 arg6 harg6 arg7 harg7 arg8 harg8 arg9 harg9 arg10 harg10 arg11 harg11 arg12 harg12 arg13 harg13 x0 x1 x2 x3 x4 xa0 xa1).1.1, (S9 c i arg4 harg4 arg5 harg5 arg6 harg6 arg7 harg7 arg8 harg8 arg9 harg9 arg10 harg10 arg11 harg11 arg12 harg12 arg13 harg13 x0 x1 x2 x3 x4 xa0 xa1).1.2.1, (S9 c i arg4 harg4 arg5 harg5 arg6 harg6 arg7 harg7 arg8 harg8 arg9 harg9 arg10 harg10 arg11 harg11 arg12 harg12 arg13 harg13 x0 x1 x2 x3 x4 xa0 xa1).1.2.2) x2 x3 x4 rfl rfl rfl xa0 L rfl h9
  rw [e] at h
  exact h

theorem H0_eq (c : Dev nD) (i : grid0.Coords) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole)
    (x0 x1 : Vec Ideal S1x128x1024 .bf16) (x2 x3 : Vec Ideal S1x4096x128 .bf16) (x4 : Vec Ideal S1x8x128x512 .bf16) (xa0 : Buf (Elt Ideal) ((c : Thread nD τ).loc cc0_scratch0)) (xa1 : Buf (Elt Ideal) ((c : Thread nD τ).loc cc0_scratch1)) : ∃ L, H0 c i arg4 harg4 arg5 harg5 arg6 harg6 arg7 harg7 arg8 harg8 arg9 harg9 arg10 harg10 arg11 harg11 arg12 harg12 arg13 harg13 x0 x1 x2 x3 x4 xa0 xa1 = ⟨Rect.unit (s := S2x512x1024) ![1, 0, 0] S1x512x1024.size inb_S2x512x1024_S1x512x1024_1_0_0, blkS (F := Ideal) k0_pay284 one (q1 x0 x1) x2 x3 0⟩ :: ⟨Rect.unit (s := S2x512x1024) ![0, 0, 0] S1x512x1024.size inb_S2x512x1024_S1x512x1024_0_0_0, blkS (F := Ideal) k0_pay284 one (q0 x0 x1) x2 x3 (2 * (i 2).val)⟩ :: L := by
  obtain ⟨-, L, hL⟩ := S11_eq c i arg4 harg4 arg5 harg5 arg6 harg6 arg7 harg7 arg8 harg8 arg9 harg9 arg10 harg10 arg11 harg11 arg12 harg12 arg13 harg13 x0 x1 x2 x3 x4 xa0 xa1
  refine ⟨L, ?_⟩
  unfold H0
  rw [hL]
  have h : k0_pay477 (bodyRun.sl.v167 arg4 arg5 arg6 arg7 x0 x1 x2 x3) = k0_pay455 (F := Ideal) bodyRun.sl.v23 (bodyRun.sl.r_1 arg4 arg5 x0 x1)
    (View.readAt (Elt Ideal) arg7.view (Rect.unit (s := S1x4096x128) ![0, 0, 0] S1x512x128.size inb_S1x4096x128_S1x512x128_0_0_0).toLoadRect (arg7.view.rep x3))
    (View.readAt (Elt Ideal) arg6.view (Rect.unit (s := S1x4096x128) ![0, 0, 0] S1x512x128.size inb_S1x4096x128_S1x512x128_0_0_0).toLoadRect (arg6.view.rep x2)) := rfl
  rw [h, kread0, kread0, q1_word]
  rfl

theorem S13_eq (c : Dev nD) (i : grid0.Coords) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole)
    (x0 x1 : Vec Ideal S1x128x1024 .bf16) (x2 x3 : Vec Ideal S1x4096x128 .bf16) (x4 : Vec Ideal S1x8x128x512 .bf16) (xa0 : Buf (Elt Ideal) ((c : Thread nD τ).loc cc0_scratch0)) (xa1 : Buf (Elt Ideal) ((c : Thread nD τ).loc cc0_scratch1)) :
    (S13 c i arg4 harg4 arg5 harg5 arg6 harg6 arg7 harg7 arg8 harg8 arg9 harg9 arg10 harg10 arg11 harg11 arg12 harg12 arg13 harg13 x0 x1 x2 x3 x4 xa0 xa1).1 = seqS (F := Ideal) k0_pay284 one (q1 x0 x1) x2 x3 x4 1 (4 * ((i 2).val / 2)) ∧ ∃ L, (S13 c i arg4 harg4 arg5 harg5 arg6 harg6 arg7 harg7 arg8 harg8 arg9 harg9 arg10 harg10 arg11 harg11 arg12 harg12 arg13 harg13 x0 x1 x2 x3 x4 xa0 xa1).2.1 ++ H0 c i arg4 harg4 arg5 harg5 arg6 harg6 arg7 harg7 arg8 harg8 arg9 harg9 arg10 harg10 arg11 harg11 arg12 harg12 arg13 harg13 x0 x1 x2 x3 x4 xa0 xa1 = ⟨Rect.unit (s := S2x512x1024) ![1, 0, 0] S1x512x1024.size inb_S2x512x1024_S1x512x1024_1_0_0, blkS (F := Ideal) k0_pay284 one (q1 x0 x1) x2 x3 (4 * ((i 2).val / 2))⟩ :: L := by
  obtain ⟨L, hL⟩ := H0_eq c i arg4 harg4 arg5 harg5 arg6 harg6 arg7 harg7 arg8 harg8 arg9 harg9 arg10 harg10 arg11 harg11 arg12 harg12 arg13 harg13 x0 x1 x2 x3 x4 xa0 xa1
  unfold S13
  rw [hL, q1_word]
  have h := loop13 (F := Ideal) Variants.none c none i tab (Memref.isWhole_whole _) arg4 harg4 arg5 harg5 arg6 harg6 arg7 harg7 arg8 harg8 arg9 harg9 arg10 harg10 arg11 harg11 arg12 harg12 arg13 harg13 scr0 (Memref.isWhole_whole _) scr1 (Memref.isWhole_whole _) scr2 (Memref.isWhole_whole _) scr3 (Memref.isWhole_whole _) k0_pay284 (q1 (F := Ideal) x0 x1) (k0_pay452 (F := Ideal)) (k0_pay453 (F := Ideal)) (k0_pay452 (F := Ideal)) (0#32) (0#32) (0#1) (0#32) one (arg6.view.rep x2) (arg7.view.rep x3) (arg8.view.rep x4)
    (scr0.view.writes (Elt Ideal) xa0 (⟨Rect.unit (s := S2x512x1024) ![1, 0, 0] S1x512x1024.size inb_S2x512x1024_S1x512x1024_1_0_0, blkS (F := Ideal) k0_pay284 one (q1 x0 x1) x2 x3 0⟩ :: ⟨Rect.unit (s := S2x512x1024) ![0, 0, 0] S1x512x1024.size inb_S2x512x1024_S1x512x1024_0_0_0, blkS (F := Ideal) k0_pay284 one (q0 x0 x1) x2 x3 (2 * (i 2).val)⟩ :: L)) (scr1.view.writes (Elt Ideal) xa1 ((S11 c i arg4 harg4 arg5 harg5 arg6 harg6 arg7 harg7 arg8 harg8 arg9 harg9 arg10 harg10 arg11 harg11 arg12 harg12 arg13 harg13 x0 x1 x2 x3 x4 xa0 xa1).2.2 ++ (S9 c i arg4 harg4 arg5 harg5 arg6 harg6 arg7 harg7 arg8 harg8 arg9 harg9 arg10 harg10 arg11 harg11 arg12 harg12 arg13 harg13 x0 x1 x2 x3 x4 xa0 xa1).2.2))
    (k0_pay454, k0_pay452, k0_pay453) x2 x3 x4 rfl rfl rfl xa0 _ rfl rfl
  rw [Nat.zero_add] at h
  exact h

theorem S15_eq (c : Dev nD) (i : grid0.Coords) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole)
    (x0 x1 : Vec Ideal S1x128x1024 .bf16) (x2 x3 : Vec Ideal S1x4096x128 .bf16) (x4 : Vec Ideal S1x8x128x512 .bf16) (xa0 : Buf (Elt Ideal) ((c : Thread nD τ).loc cc0_scratch0)) (xa1 : Buf (Elt Ideal) ((c : Thread nD τ).loc cc0_scratch1)) :
    (S15 c i arg4 harg4 arg5 harg5 arg6 harg6 arg7 harg7 arg8 harg8 arg9 harg9 arg10 harg10 arg11 harg11 arg12 harg12 arg13 harg13 x0 x1 x2 x3 x4 xa0 xa1).1 = seqS (F := Ideal) k0_pay284 one (q1 x0 x1) x2 x3 x4 1 (2 * (i 2).val) ∧ ∃ L, (S15 c i arg4 harg4 arg5 harg5 arg6 harg6 arg7 harg7 arg8 harg8 arg9 harg9 arg10 harg10 arg11 harg11 arg12 harg12 arg13 harg13 x0 x1 x2 x3 x4 xa0 xa1).2.1 ++ ((S13 c i arg4 harg4 arg5 harg5 arg6 harg6 arg7 harg7 arg8 harg8 arg9 harg9 arg10 harg10 arg11 harg11 arg12 harg12 arg13 harg13 x0 x1 x2 x3 x4 xa0 xa1).2.1 ++ H0 c i arg4 harg4 arg5 harg5 arg6 harg6 arg7 harg7 arg8 harg8 arg9 harg9 arg10 harg10 arg11 harg11 arg12 harg12 arg13 harg13 x0 x1 x2 x3 x4 xa0 xa1) = ⟨Rect.unit (s := S2x512x1024) ![1, 0, 0] S1x512x1024.size inb_S2x512x1024_S1x512x1024_1_0_0, blkS (F := Ideal) k0_pay284 one (q1 x0 x1) x2 x3 (2 * (i 2).val)⟩ :: L := by
  obtain ⟨h13, L, hL⟩ := S13_eq c i arg4 harg4 arg5 harg5 arg6 harg6 arg7 harg7 arg8 harg8 arg9 harg9 arg10 harg10 arg11 harg11 arg12 harg12 arg13 harg13 x0 x1 x2 x3 x4 xa0 xa1
  have e : 4 * ((i 2).val / 2) + 2 * ((i 2).val % 2) = 2 * (i 2).val := by omega
  unfold S15
  rw [hL, q1_word]
  have h := loop15 (F := Ideal) Variants.none c none i tab (Memref.isWhole_whole _) arg4 harg4 arg5 harg5 arg6 harg6 arg7 harg7 arg8 harg8 arg9 harg9 arg10 harg10 arg11 harg11 arg12 harg12 arg13 harg13 scr0 (Memref.isWhole_whole _) scr1 (Memref.isWhole_whole _) scr2 (Memref.isWhole_whole _) scr3 (Memref.isWhole_whole _) k0_pay284 (cmpi .sle bodyRun.sl.v24 bodyRun.sl.v25) (q1 (F := Ideal) x0 x1) (bodyRun.sl.v74 i)
    (S13 c i arg4 harg4 arg5 harg5 arg6 harg6 arg7 harg7 arg8 harg8 arg9 harg9 arg10 harg10 arg11 harg11 arg12 harg12 arg13 harg13 x0 x1 x2 x3 x4 xa0 xa1).1.1 (S13 c i arg4 harg4 arg5 harg5 arg6 harg6 arg7 harg7 arg8 harg8 arg9 harg9 arg10 harg10 arg11 harg11 arg12 harg12 arg13 harg13 x0 x1 x2 x3 x4 xa0 xa1).1.2.1 (S13 c i arg4 harg4 arg5 harg5 arg6 harg6 arg7 harg7 arg8 harg8 arg9 harg9 arg10 harg10 arg11 harg11 arg12 harg12 arg13 harg13 x0 x1 x2 x3 x4 xa0 xa1).1.2.2 (bodyRun.sl.v287 i) (2#32) (bodyRun.sl.v288 i) (bodyRun.sl.v293 i) (1#32) one (arg6.view.rep x2) (arg7.view.rep x3) (arg8.view.rep x4)
    (scr0.view.writes (Elt Ideal) xa0 (⟨Rect.unit (s := S2x512x1024) ![1, 0, 0] S1x512x1024.size inb_S2x512x1024_S1x512x1024_1_0_0, blkS (F := Ideal) k0_pay284 one (q1 x0 x1) x2 x3 (4 * ((i 2).val / 2))⟩ :: L)) (scr1.view.writes (Elt Ideal) xa1 ((S13 c i arg4 harg4 arg5 harg5 arg6 harg6 arg7 harg7 arg8 harg8 arg9 harg9 arg10 harg10 arg11 harg11 arg12 harg12 arg13 harg13 x0 x1 x2 x3 x4 xa0 xa1).2.2 ++ ((S11 c i arg4 harg4 arg5 harg5 arg6 harg6 arg7 harg7 arg8 harg8 arg9 harg9 arg10 harg10 arg11 harg11 arg12 harg12 arg13 harg13 x0 x1 x2 x3 x4 xa0 xa1).2.2 ++ (S9 c i arg4 harg4 arg5 harg5 arg6 harg6 arg7 harg7 arg8 harg8 arg9 harg9 arg10 harg10 arg11 harg11 arg12 harg12 arg13 harg13 x0 x1 x2 x3 x4 xa0 xa1).2.2)))
    ((S13 c i arg4 harg4 arg5 harg5 arg6 harg6 arg7 harg7 arg8 harg8 arg9 harg9 arg10 harg10 arg11 harg11 arg12 harg12 arg13 harg13 x0 x1 x2 x3 x4 xa0 xa1).1.1, (S13 c i arg4 harg4 arg5 harg5 arg6 harg6 arg7 harg7 arg8 harg8 arg9 harg9 arg10 harg10 arg11 harg11 arg12 harg12 arg13 harg13 x0 x1 x2 x3 x4 xa0 xa1).1.2.1, (S13 c i arg4 harg4 arg5 harg5 arg6 harg6 arg7 harg7 arg8 harg8 arg9 harg9 arg10 harg10 arg11 harg11 arg12 harg12 arg13 harg13 x0 x1 x2 x3 x4 xa0 xa1).1.2.2) x2 x3 x4 rfl rfl rfl xa0 L rfl h13
  rw [e] at h
  exact h

/-- A piece stored outside the loaded rectangle is not met by the load. -/
theorem readCov_skip {sig : RefSig} {κ : Kind} {sp : Space} {s : Shape} {e : EltTy} {Val : EltTy → Type} [∀ e, Nonempty (Val e)] (v : View sig κ sp s e)
    {off size off' size' : Fin s.rank → ℕ} (inb : ∀ a, off a + size a ≤ s.size a) (inb' : ∀ a, off' a + size' a ≤ s.size a)
    (w : (Rect.unit off size inb).shape.Idx → Val e) (w' : (Rect.unit off' size' inb').shape.Idx → Val e) (L : List (View.Piece Val s e))
    (a : Fin s.rank) (ha : off' a + size' a ≤ off a) :
    v.readCov (⟨Rect.unit off size inb, w⟩ :: ⟨Rect.unit off' size' inb', w'⟩ :: L) (Rect.unit off' size' inb').toLoadRect = w' := by
  funext y
  refine (View.read_writes_cons_unit_of_not_mem v _ inb w _ _ rfl a (.inl ?_)).trans (congrFun (readCov_cons v inb' w' L) y)
  have h : (y a).val < size' a := (y a).isLt
  show off' a + 1 * (y a).val < off a
  omega

set_option maxHeartbeats 2000000 in
/-- What the body stores in its first result: the tile's result, whatever the scratch buffers hold. -/
theorem body_out (c : Dev nD) (i : grid0.Coords) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole)
    (x0 x1 : Vec Ideal S1x128x1024 .bf16) (x2 x3 : Vec Ideal S1x4096x128 .bf16) (x4 : Vec Ideal S1x8x128x512 .bf16) (xa0 : Buf (Elt Ideal) ((c : Thread nD τ).loc cc0_scratch0)) (xa1 : Buf (Elt Ideal) ((c : Thread nD τ).loc cc0_scratch1))
    (T : S257.Idx → Elt Ideal .i32) (x5 : S16x4096.Idx → Elt Ideal .f32) (x6 : S64x1024.Idx → Elt Ideal .f32)
    (xa2 : Buf (Elt Ideal) ((c : Thread nD τ).loc cc0_scratch2)) (xa3 : Buf (Elt Ideal) ((c : Thread nD τ).loc cc0_scratch3)) (k0_h1) (k0_h6) :
    (bodyRun c i arg4 harg4 arg5 harg5 arg6 harg6 arg7 harg7 arg8 harg8 arg9 harg9 arg10 harg10 arg11 harg11 arg12 harg12 arg13 harg13 T x0 x1 x2 x3 x4 x5 x6 xa0 xa1 xa2 xa3 k0_h1 k0_h6).1
      = [⟨Rect.unit (s := S1x1024x128) ![0, 0, 0] S1x1024x128.size inb_S1x1024x128_S1x1024x128_0_0_0, outN (2 * (i 2).val) x0 x1 x2 x3 x4⟩] := by
  have h : (bodyRun c i arg4 harg4 arg5 harg5 arg6 harg6 arg7 harg7 arg8 harg8 arg9 harg9 arg10 harg10 arg11 harg11 arg12 harg12 arg13 harg13 T x0 x1 x2 x3 x4 x5 x6 xa0 xa1 xa2 xa3 k0_h1 k0_h6).1
      = [⟨Rect.unit (s := S1x1024x128) ![0, 0, 0] S1x1024x128.size inb_S1x1024x128_S1x1024x128_0_0_0,
        k0_pay6
          (fin0 (bodyRun.sl.v48 arg4 arg5 x0 x1) ((S11 c i arg4 harg4 arg5 harg5 arg6 harg6 arg7 harg7 arg8 harg8 arg9 harg9 arg10 harg10 arg11 harg11 arg12 harg12 arg13 harg13 x0 x1 x2 x3 x4 xa0 xa1).1.1, (S11 c i arg4 harg4 arg5 harg5 arg6 harg6 arg7 harg7 arg8 harg8 arg9 harg9 arg10 harg10 arg11 harg11 arg12 harg12 arg13 harg13 x0 x1 x2 x3 x4 xa0 xa1).1.2.1, (S11 c i arg4 harg4 arg5 harg5 arg6 harg6 arg7 harg7 arg8 harg8 arg9 harg9 arg10 harg10 arg11 harg11 arg12 harg12 arg13 harg13 x0 x1 x2 x3 x4 xa0 xa1).1.2.2) (scr0.view.readCov (H0 c i arg4 harg4 arg5 harg5 arg6 harg6 arg7 harg7 arg8 harg8 arg9 harg9 arg10 harg10 arg11 harg11 arg12 harg12 arg13 harg13 x0 x1 x2 x3 x4 xa0 xa1) (Rect.unit (s := S2x512x1024) ![0, 0, 0] S1x512x1024.size inb_S2x512x1024_S1x512x1024_0_0_0).toLoadRect)
            (View.readAt (Elt Ideal) arg7.view (Rect.unit (s := S1x4096x128) (k0_off92 i) S1x512x128.size (k0_off92_inb i)).toLoadRect (arg7.view.rep x3))
            (View.readAt (Elt Ideal) arg6.view (Rect.unit (s := S1x4096x128) (k0_off92 i) S1x512x128.size (k0_off92_inb i)).toLoadRect (arg6.view.rep x2))
            (View.readAt (Elt Ideal) arg8.view (Rect.unit (s := S1x8x128x512) (k0_off93 i) S1x1x64x512.size (k0_off93_inb i)).toLoadRect (arg8.view.rep x4))
            (View.readAt (Elt Ideal) arg8.view (Rect.unit (s := S1x8x128x512) (k0_off94 i) S1x1x64x512.size (k0_off94_inb i)).toLoadRect (arg8.view.rep x4)))
          (finL (bodyRun.sl.r_1 arg4 arg5 x0 x1) ((S15 c i arg4 harg4 arg5 harg5 arg6 harg6 arg7 harg7 arg8 harg8 arg9 harg9 arg10 harg10 arg11 harg11 arg12 harg12 arg13 harg13 x0 x1 x2 x3 x4 xa0 xa1).1.1, (S15 c i arg4 harg4 arg5 harg5 arg6 harg6 arg7 harg7 arg8 harg8 arg9 harg9 arg10 harg10 arg11 harg11 arg12 harg12 arg13 harg13 x0 x1 x2 x3 x4 xa0 xa1).1.2.1, (S15 c i arg4 harg4 arg5 harg5 arg6 harg6 arg7 harg7 arg8 harg8 arg9 harg9 arg10 harg10 arg11 harg11 arg12 harg12 arg13 harg13 x0 x1 x2 x3 x4 xa0 xa1).1.2.2)
            (scr0.view.readCov ((S15 c i arg4 harg4 arg5 harg5 arg6 harg6 arg7 harg7 arg8 harg8 arg9 harg9 arg10 harg10 arg11 harg11 arg12 harg12 arg13 harg13 x0 x1 x2 x3 x4 xa0 xa1).2.1 ++ ((S13 c i arg4 harg4 arg5 harg5 arg6 harg6 arg7 harg7 arg8 harg8 arg9 harg9 arg10 harg10 arg11 harg11 arg12 harg12 arg13 harg13 x0 x1 x2 x3 x4 xa0 xa1).2.1 ++ H0 c i arg4 harg4 arg5 harg5 arg6 harg6 arg7 harg7 arg8 harg8 arg9 harg9 arg10 harg10 arg11 harg11 arg12 harg12 arg13 harg13 x0 x1 x2 x3 x4 xa0 xa1)) (Rect.unit (s := S2x512x1024) ![1, 0, 0] S1x512x1024.size inb_S2x512x1024_S1x512x1024_1_0_0).toLoadRect)
            (View.readAt (Elt Ideal) arg7.view (Rect.unit (s := S1x4096x128) (k0_off92 i) S1x512x128.size (k0_off92_inb i)).toLoadRect (arg7.view.rep x3))
            (View.readAt (Elt Ideal) arg6.view (Rect.unit (s := S1x4096x128) (k0_off92 i) S1x512x128.size (k0_off92_inb i)).toLoadRect (arg6.view.rep x2)))
          (finA (bodyRun.sl.r_1 arg4 arg5 x0 x1) ((S15 c i arg4 harg4 arg5 harg5 arg6 harg6 arg7 harg7 arg8 harg8 arg9 harg9 arg10 harg10 arg11 harg11 arg12 harg12 arg13 harg13 x0 x1 x2 x3 x4 xa0 xa1).1.1, (S15 c i arg4 harg4 arg5 harg5 arg6 harg6 arg7 harg7 arg8 harg8 arg9 harg9 arg10 harg10 arg11 harg11 arg12 harg12 arg13 harg13 x0 x1 x2 x3 x4 xa0 xa1).1.2.1, (S15 c i arg4 harg4 arg5 harg5 arg6 harg6 arg7 harg7 arg8 harg8 arg9 harg9 arg10 harg10 arg11 harg11 arg12 harg12 arg13 harg13 x0 x1 x2 x3 x4 xa0 xa1).1.2.2)
            (scr0.view.readCov ((S15 c i arg4 harg4 arg5 harg5 arg6 harg6 arg7 harg7 arg8 harg8 arg9 harg9 arg10 harg10 arg11 harg11 arg12 harg12 arg13 harg13 x0 x1 x2 x3 x4 xa0 xa1).2.1 ++ ((S13 c i arg4 harg4 arg5 harg5 arg6 harg6 arg7 harg7 arg8 harg8 arg9 harg9 arg10 harg10 arg11 harg11 arg12 harg12 arg13 harg13 x0 x1 x2 x3 x4 xa0 xa1).2.1 ++ H0 c i arg4 harg4 arg5 harg5 arg6 harg6 arg7 harg7 arg8 harg8 arg9 harg9 arg10 harg10 arg11 harg11 arg12 harg12 arg13 harg13 x0 x1 x2 x3 x4 xa0 xa1)) (Rect.unit (s := S2x512x1024) ![1, 0, 0] S1x512x1024.size inb_S2x512x1024_S1x512x1024_1_0_0).toLoadRect)
            (View.readAt (Elt Ideal) arg7.view (Rect.unit (s := S1x4096x128) (k0_off92 i) S1x512x128.size (k0_off92_inb i)).toLoadRect (arg7.view.rep x3))
            (View.readAt (Elt Ideal) arg6.view (Rect.unit (s := S1x4096x128) (k0_off92 i) S1x512x128.size (k0_off92_inb i)).toLoadRect (arg6.view.rep x2))
            (View.readAt (Elt Ideal) arg8.view (Rect.unit (s := S1x8x128x512) (k0_off107 i) S1x1x64x512.size (k0_off107_inb i)).toLoadRect (arg8.view.rep x4))
            (View.readAt (Elt Ideal) arg8.view (Rect.unit (s := S1x8x128x512) (k0_off108 i) S1x1x64x512.size (k0_off108_inb i)).toLoadRect (arg8.view.rep x4)))⟩] := rfl
  obtain ⟨h11, -⟩ := S11_eq c i arg4 harg4 arg5 harg5 arg6 harg6 arg7 harg7 arg8 harg8 arg9 harg9 arg10 harg10 arg11 harg11 arg12 harg12 arg13 harg13 x0 x1 x2 x3 x4 xa0 xa1
  obtain ⟨h15, L15, hL15⟩ := S15_eq c i arg4 harg4 arg5 harg5 arg6 harg6 arg7 harg7 arg8 harg8 arg9 harg9 arg10 harg10 arg11 harg11 arg12 harg12 arg13 harg13 x0 x1 x2 x3 x4 xa0 xa1
  obtain ⟨L0, hL0⟩ := H0_eq c i arg4 harg4 arg5 harg5 arg6 harg6 arg7 harg7 arg8 harg8 arg9 harg9 arg10 harg10 arg11 harg11 arg12 harg12 arg13 harg13 x0 x1 x2 x3 x4 xa0 xa1
  have h11' : ((S11 c i arg4 harg4 arg5 harg5 arg6 harg6 arg7 harg7 arg8 harg8 arg9 harg9 arg10 harg10 arg11 harg11 arg12 harg12 arg13 harg13 x0 x1 x2 x3 x4 xa0 xa1).1.1, (S11 c i arg4 harg4 arg5 harg5 arg6 harg6 arg7 harg7 arg8 harg8 arg9 harg9 arg10 harg10 arg11 harg11 arg12 harg12 arg13 harg13 x0 x1 x2 x3 x4 xa0 xa1).1.2.1, (S11 c i arg4 harg4 arg5 harg5 arg6 harg6 arg7 harg7 arg8 harg8 arg9 harg9 arg10 harg10 arg11 harg11 arg12 harg12 arg13 harg13 x0 x1 x2 x3 x4 xa0 xa1).1.2.2) = seqS (F := Ideal) k0_pay284 one (q0 x0 x1) x2 x3 x4 0 (2 * (i 2).val) := h11
  have h15' : ((S15 c i arg4 harg4 arg5 harg5 arg6 harg6 arg7 harg7 arg8 harg8 arg9 harg9 arg10 harg10 arg11 harg11 arg12 harg12 arg13 harg13 x0 x1 x2 x3 x4 xa0 xa1).1.1, (S15 c i arg4 harg4 arg5 harg5 arg6 harg6 arg7 harg7 arg8 harg8 arg9 harg9 arg10 harg10 arg11 harg11 arg12 harg12 arg13 harg13 x0 x1 x2 x3 x4 xa0 xa1).1.2.1, (S15 c i arg4 harg4 arg5 harg5 arg6 harg6 arg7 harg7 arg8 harg8 arg9 harg9 arg10 harg10 arg11 harg11 arg12 harg12 arg13 harg13 x0 x1 x2 x3 x4 xa0 xa1).1.2.2) = seqS (F := Ideal) k0_pay284 one (q1 x0 x1) x2 x3 x4 1 (2 * (i 2).val) := h15
  rw [h, h11', h15', hL15, readCov_cons, hL0, readCov_skip _ _ _ _ _ _ (0 : Fin 3) (by decide), q0_word, q1_word]
  simp only [kread (h := offd92 i), vread (hh := 0) (h := offd93 i), vread (hh := 0) (h := offd94 i), vread (hh := 1) (h := offd107 i), vread (hh := 1) (h := offd108 i)]
  rfl

end

end Cert.Kernel3Ideal.Att

end
-- ==== Proof.AttI.lean ====
/- The attention call runs from any memory whose table asks for the running maximum: it ends, leaves its arguments as they
   were, and leaves each result at what the body stores point by point. -/
module

public import proofs.«01_k».proof.Proof.AttTripI
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init
public import Mathlib.Tactic.FinCases

@[expose] public section

set_option maxRecDepth 16384
set_option Elab.async false

noncomputable section

namespace Cert.Kernel3Ideal.Att

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The proof's resource algebra, embedded whole. -/
abbrev EP : Emb (UR sig nD τ) 𝕄 := emb₁

variable (m : (ℓ : Loc nD τ sig) → Buf (Elt Ideal) ℓ)

/-- The table as memory holds it. -/
abbrev tabv : S257.Idx → Elt Ideal .i32 := m (((0 : Dev nD) : Thread nD τ).loc main_arg0)

/-- The table's last place. -/
def lastIdx : S257.Idx := fun k => ⟨256, by fin_cases k; show 256 < 257; omega⟩

/-- The table's last word is not zero: the branch with the running maximum. -/
def Online : Prop := tabv m lastIdx ≠ 0#32

/-- The table's contents, admissible for the pipeline; the pipeline at them. -/
def adm : (pcfg0 (F := Ideal)).Adm := ⟨fun j => m (((0 : Dev nD) : Thread nD τ).loc (pre0.ref j)), trivial⟩
abbrev cfgA : Pipeline.Cfg sig Λ₀ := cfg0 (F := Ideal) (adm m)
abbrev pcs : Fin 1 → Pipeline.Cfg sig Λ₀ := Pipeline.pin (pcfgs (F := Ideal)) fun _ => adm m

/-- The coordinates of point `t`. -/
abbrev crd (t : Fin (cfgA m).N) : (cfgA m).grid.Coords := (cfgA m).grid.coords t

/-- The staging buffers at point `t`, and that each is whole. -/
abbrev st0 (t : Fin (cfgA m).N) : Memref sig .tc .vmem S1x128x1024 .bf16 := spec0_0.stage ((cfgA m).slots t (0 : Fin 10))
abbrev hst0 (t : Fin (cfgA m).N) : (st0 m t).IsWhole := hstage0_0 (((cfgA m).slots t (0 : Fin 10)).cast nbuf0_0)
abbrev st1 (t : Fin (cfgA m).N) : Memref sig .tc .vmem S1x128x1024 .bf16 := spec0_1.stage ((cfgA m).slots t (1 : Fin 10))
abbrev hst1 (t : Fin (cfgA m).N) : (st1 m t).IsWhole := hstage0_1 (((cfgA m).slots t (1 : Fin 10)).cast nbuf0_1)
abbrev st2 (t : Fin (cfgA m).N) : Memref sig .tc .vmem S1x4096x128 .bf16 := spec0_2.stage ((cfgA m).slots t (2 : Fin 10))
abbrev hst2 (t : Fin (cfgA m).N) : (st2 m t).IsWhole := hstage0_2 (((cfgA m).slots t (2 : Fin 10)).cast nbuf0_2)
abbrev st3 (t : Fin (cfgA m).N) : Memref sig .tc .vmem S1x4096x128 .bf16 := spec0_3.stage ((cfgA m).slots t (3 : Fin 10))
abbrev hst3 (t : Fin (cfgA m).N) : (st3 m t).IsWhole := hstage0_3 (((cfgA m).slots t (3 : Fin 10)).cast nbuf0_3)
abbrev st4 (t : Fin (cfgA m).N) : Memref sig .tc .vmem S1x8x128x512 .bf16 := spec0_4.stage ((cfgA m).slots t (4 : Fin 10))
abbrev hst4 (t : Fin (cfgA m).N) : (st4 m t).IsWhole := hstage0_4 (((cfgA m).slots t (4 : Fin 10)).cast nbuf0_4)
abbrev st5 (t : Fin (cfgA m).N) : Memref sig .tc .vmem S16x4096 .f32 := spec0_5.stage ((cfgA m).slots t (5 : Fin 10))
abbrev hst5 (t : Fin (cfgA m).N) : (st5 m t).IsWhole := hstage0_5 (((cfgA m).slots t (5 : Fin 10)).cast nbuf0_5)
abbrev st6 (t : Fin (cfgA m).N) : Memref sig .tc .vmem S64x1024 .f32 := spec0_6.stage ((cfgA m).slots t (6 : Fin 10))
abbrev hst6 (t : Fin (cfgA m).N) : (st6 m t).IsWhole := hstage0_6 (((cfgA m).slots t (6 : Fin 10)).cast nbuf0_6)
abbrev st7 (t : Fin (cfgA m).N) : Memref sig .tc .vmem S1x1024x128 .bf16 := spec0_7.stage ((cfgA m).slots t (7 : Fin 10))
abbrev hst7 (t : Fin (cfgA m).N) : (st7 m t).IsWhole := hstage0_7 (((cfgA m).slots t (7 : Fin 10)).cast nbuf0_7)
abbrev st8 (t : Fin (cfgA m).N) : Memref sig .tc .vmem S16x4096 .bf16 := spec0_8.stage ((cfgA m).slots t (8 : Fin 10))
abbrev hst8 (t : Fin (cfgA m).N) : (st8 m t).IsWhole := hstage0_8 (((cfgA m).slots t (8 : Fin 10)).cast nbuf0_8)
abbrev st9 (t : Fin (cfgA m).N) : Memref sig .tc .vmem S64x1024 .bf16 := spec0_9.stage ((cfgA m).slots t (9 : Fin 10))
abbrev hst9 (t : Fin (cfgA m).N) : (st9 m t).IsWhole := hstage0_9 (((cfgA m).slots t (9 : Fin 10)).cast nbuf0_9)

/-- Window `w`'s block at point `t`, read off its array at launch. -/
def iblk (c : Dev nD) (w : Fin (cfgA m).W) (t : Fin (cfgA m).N) : (((cfgA m).win w).xblock (crd m t)).Idx → Elt Ideal ((cfgA m).win w).elt :=
  (((cfgA m).win w).blk t).view.read (Elt Ideal) (m (((cfgA m).win w).arr.view.loc (c : Thread nD τ)))

/-- The blocks at their shapes. -/
abbrev jblk0 (c : Dev nD) (t : Fin (cfgA m).N) : S1x128x1024.Idx → Elt Ideal .bf16 := iblk m c (0 : Fin 10) t
abbrev jblk1 (c : Dev nD) (t : Fin (cfgA m).N) : S1x128x1024.Idx → Elt Ideal .bf16 := iblk m c (1 : Fin 10) t
abbrev jblk2 (c : Dev nD) (t : Fin (cfgA m).N) : S1x4096x128.Idx → Elt Ideal .bf16 := iblk m c (2 : Fin 10) t
abbrev jblk3 (c : Dev nD) (t : Fin (cfgA m).N) : S1x4096x128.Idx → Elt Ideal .bf16 := iblk m c (3 : Fin 10) t
abbrev jblk4 (c : Dev nD) (t : Fin (cfgA m).N) : S1x8x128x512.Idx → Elt Ideal .bf16 := iblk m c (4 : Fin 10) t
abbrev jblk5 (c : Dev nD) (t : Fin (cfgA m).N) : S16x4096.Idx → Elt Ideal .f32 := iblk m c (5 : Fin 10) t
abbrev jblk6 (c : Dev nD) (t : Fin (cfgA m).N) : S64x1024.Idx → Elt Ideal .f32 := iblk m c (6 : Fin 10) t

/-- The word the body reads is the table's last. -/
theorem word_eq : (View.readAt (Elt Ideal) (tab).view (Rect.unit (s := S257) ![256] S1.size inb_S257_S1_256).toLoadRect (tabv m) (Shape.Idx.first (numel1_S1.symm ▸ Nat.one_pos))) = tabv m lastIdx := by
  show tabv m _ = tabv m _
  refine congrArg (tabv m) (funext fun k => Fin.ext ?_)
  fin_cases k
  rfl

/-- A table word other than zero is not the question's zero, -/
theorem word_h1 (w : BitVec 32) (h : w ≠ 0#32) : ¬(k0_cond1 w = 1#1) := by
  have e : (w == 0#32) = false := beq_eq_false_iff_ne.mpr h
  simp only [k0_cond1, Scalar.cmpi, Scalar.extui, IntOp.cmpi, e]
  decide

/-- and answers the other. -/
theorem word_h6 (w : BitVec 32) (h : w ≠ 0#32) : k0_cond6 w = 1#1 := by
  have e : (w != 0#32) = true := bne_iff_ne.mpr h
  simp only [k0_cond6, Scalar.cmpi, Scalar.extui, IntOp.cmpi, e]
  decide

theorem h1 (hp : Online m) : ¬(k0_cond1 (View.readAt (Elt Ideal) (tab).view (Rect.unit (s := S257) ![256] S1.size inb_S257_S1_256).toLoadRect (tabv m) (Shape.Idx.first (numel1_S1.symm ▸ Nat.one_pos))) = 1#1) := by
  rw [word_eq]
  exact word_h1 _ hp

theorem h6 (hp : Online m) : k0_cond6 (View.readAt (Elt Ideal) (tab).view (Rect.unit (s := S257) ![256] S1.size inb_S257_S1_256).toLoadRect (tabv m) (Shape.Idx.first (numel1_S1.symm ▸ Nat.one_pos))) = 1#1 := by
  rw [word_eq]
  exact word_h6 _ hp

/-- The result window of the attention is stored at every point. -/
theorem idle_7 (hp : Online m) (i : grid0.Coords) : idle0 (F := Ideal) (adm m).1 (7 : Fin 10) i = false := by
  have h : k0_cond6 ((adm m).1.atD 0 ![256]) = 1#1 := h6 m hp
  simp only [idle0, h, beq_self_eq_true, Bool.not_true, Bool.and_false]

/-- What point `t` leaves in output 7. -/
def val7 (hp : Online m) (c : Dev nD) (t : Fin (cfgA m).N) : S1x1024x128.Idx → Elt Ideal .bf16 :=
  outN (F := Ideal) (2 * (crd m t 2).val) (jblk0 m c t) (jblk1 m c t) (jblk2 m c t) (jblk3 m c t) (jblk4 m c t)

/-- What point `t` leaves in output 8. -/
def val8 (hp : Online m) (c : Dev nD) (t : Fin (cfgA m).N) : S16x4096.Idx → Elt Ideal .bf16 := k0_pay1 (jblk5 m c t)

/-- What point `t` leaves in output 9. -/
def val9 (hp : Online m) (c : Dev nD) (t : Fin (cfgA m).N) : S64x1024.Idx → Elt Ideal .bf16 := k0_pay2 (jblk6 m c t)

/-- The body's stores into output 7 leave it. -/
theorem leaves7 (hp : Online m) (c : Dev nD) (t : Fin (cfgA m).N) (a0 a1 a2 a3) (f) :
    (st7 m t).view.read (Elt Ideal) ((st7 m t).view.writes (Elt Ideal) f (bodyRun c (crd m t) (st0 m t) (hst0 m t) (st1 m t) (hst1 m t) (st2 m t) (hst2 m t) (st3 m t) (hst3 m t) (st4 m t) (hst4 m t) (st5 m t) (hst5 m t) (st6 m t) (hst6 m t) (st7 m t) (hst7 m t) (st8 m t) (hst8 m t) (st9 m t) (hst9 m t) (tabv m) (jblk0 m c t) (jblk1 m c t) (jblk2 m c t) (jblk3 m c t) (jblk4 m c t) (jblk5 m c t) (jblk6 m c t) a0 a1 a2 a3 (h1 m hp) (h6 m hp)).1) = val7 m hp c t := by
  have h : (bodyRun c (crd m t) (st0 m t) (hst0 m t) (st1 m t) (hst1 m t) (st2 m t) (hst2 m t) (st3 m t) (hst3 m t) (st4 m t) (hst4 m t) (st5 m t) (hst5 m t) (st6 m t) (hst6 m t) (st7 m t) (hst7 m t) (st8 m t) (hst8 m t) (st9 m t) (hst9 m t) (tabv m) (jblk0 m c t) (jblk1 m c t) (jblk2 m c t) (jblk3 m c t) (jblk4 m c t) (jblk5 m c t) (jblk6 m c t) a0 a1 a2 a3 (h1 m hp) (h6 m hp)).1 = _ := body_out c (crd m t) (st0 m t) (hst0 m t) (st1 m t) (hst1 m t) (st2 m t) (hst2 m t) (st3 m t) (hst3 m t) (st4 m t) (hst4 m t) (st5 m t) (hst5 m t) (st6 m t) (hst6 m t) (st7 m t) (hst7 m t) (st8 m t) (hst8 m t) (st9 m t) (hst9 m t) (jblk0 m c t) (jblk1 m c t) (jblk2 m c t) (jblk3 m c t) (jblk4 m c t) a0 a1 (tabv m) (jblk5 m c t) (jblk6 m c t) a2 a3 (h1 m hp) (h6 m hp)
  rw [h]
  exact View.read_writes_full ..

/-- The body's stores into output 8 leave it. -/
theorem leaves8 (hp : Online m) (c : Dev nD) (t : Fin (cfgA m).N) (a0 a1 a2 a3) (f) :
    (st8 m t).view.read (Elt Ideal) ((st8 m t).view.writes (Elt Ideal) f (bodyRun c (crd m t) (st0 m t) (hst0 m t) (st1 m t) (hst1 m t) (st2 m t) (hst2 m t) (st3 m t) (hst3 m t) (st4 m t) (hst4 m t) (st5 m t) (hst5 m t) (st6 m t) (hst6 m t) (st7 m t) (hst7 m t) (st8 m t) (hst8 m t) (st9 m t) (hst9 m t) (tabv m) (jblk0 m c t) (jblk1 m c t) (jblk2 m c t) (jblk3 m c t) (jblk4 m c t) (jblk5 m c t) (jblk6 m c t) a0 a1 a2 a3 (h1 m hp) (h6 m hp)).2.1) = val8 m hp c t := by
  have h : (bodyRun c (crd m t) (st0 m t) (hst0 m t) (st1 m t) (hst1 m t) (st2 m t) (hst2 m t) (st3 m t) (hst3 m t) (st4 m t) (hst4 m t) (st5 m t) (hst5 m t) (st6 m t) (hst6 m t) (st7 m t) (hst7 m t) (st8 m t) (hst8 m t) (st9 m t) (hst9 m t) (tabv m) (jblk0 m c t) (jblk1 m c t) (jblk2 m c t) (jblk3 m c t) (jblk4 m c t) (jblk5 m c t) (jblk6 m c t) a0 a1 a2 a3 (h1 m hp) (h6 m hp)).2.1 = [⟨Rect.unit (s := S16x4096) ![0, 0] S16x4096.size inb_S16x4096_S16x4096_0_0,
      k0_pay1 (View.readAt (Elt Ideal) (st5 m t).view (Rect.unit (s := S16x4096) ![0, 0] S16x4096.size inb_S16x4096_S16x4096_0_0).toLoadRect ((st5 m t).view.rep (jblk5 m c t)))⟩] := rfl
  rw [h]
  refine (View.read_writes_full ..).trans ?_
  exact congrArg _ (View.readAt_rep_full ..)

/-- The body's stores into output 9 leave it. -/
theorem leaves9 (hp : Online m) (c : Dev nD) (t : Fin (cfgA m).N) (a0 a1 a2 a3) (f) :
    (st9 m t).view.read (Elt Ideal) ((st9 m t).view.writes (Elt Ideal) f (bodyRun c (crd m t) (st0 m t) (hst0 m t) (st1 m t) (hst1 m t) (st2 m t) (hst2 m t) (st3 m t) (hst3 m t) (st4 m t) (hst4 m t) (st5 m t) (hst5 m t) (st6 m t) (hst6 m t) (st7 m t) (hst7 m t) (st8 m t) (hst8 m t) (st9 m t) (hst9 m t) (tabv m) (jblk0 m c t) (jblk1 m c t) (jblk2 m c t) (jblk3 m c t) (jblk4 m c t) (jblk5 m c t) (jblk6 m c t) a0 a1 a2 a3 (h1 m hp) (h6 m hp)).2.2.1) = val9 m hp c t := by
  have h : (bodyRun c (crd m t) (st0 m t) (hst0 m t) (st1 m t) (hst1 m t) (st2 m t) (hst2 m t) (st3 m t) (hst3 m t) (st4 m t) (hst4 m t) (st5 m t) (hst5 m t) (st6 m t) (hst6 m t) (st7 m t) (hst7 m t) (st8 m t) (hst8 m t) (st9 m t) (hst9 m t) (tabv m) (jblk0 m c t) (jblk1 m c t) (jblk2 m c t) (jblk3 m c t) (jblk4 m c t) (jblk5 m c t) (jblk6 m c t) a0 a1 a2 a3 (h1 m hp) (h6 m hp)).2.2.1 = [⟨Rect.unit (s := S64x1024) ![0, 0] S64x1024.size inb_S64x1024_S64x1024_0_0,
      k0_pay2 (View.readAt (Elt Ideal) (st6 m t).view (Rect.unit (s := S64x1024) ![0, 0] S64x1024.size inb_S64x1024_S64x1024_0_0).toLoadRect ((st6 m t).view.rep (jblk6 m c t)))⟩] := rfl
  rw [h]
  refine (View.read_writes_full ..).trans ?_
  exact congrArg _ (View.readAt_rep_full ..)

theorem scr_set0 : scr0.view.set = Finset.univ := View.set_whole _
theorem scr_set1 : scr1.view.set = Finset.univ := View.set_whole _
theorem scr_set2 : scr2.view.set = Finset.univ := View.set_whole _
theorem scr_set3 : scr3.view.set = Finset.univ := View.set_whole _

/-- Between points: the scratch buffers at any contents and the body's half of the table. -/
def Phi (c : Dev nD) : sProp 𝕄 :=
  iprop((∃ a, scr0.view.loc (c : Thread nD τ) ↦{fullShare} a) ∗ (∃ a, scr1.view.loc (c : Thread nD τ) ↦{fullShare} a)
    ∗ (∃ a, scr2.view.loc (c : Thread nD τ) ↦{fullShare} a) ∗ (∃ a, scr3.view.loc (c : Thread nD τ) ↦{fullShare} a)
    ∗ (tab.view.loc (c : Thread nD τ) ↦{fullShare.right} tabv m))

variable (hp : Online m)

/-- The proof data of the pipeline on core `c`. -/
def dats (_ : Fin 1) (c : Dev nD) : Dat τ (Elt Ideal) Unit ℕ (UR sig nD τ) ℕ (cfgA m) c where
  A w := m (((cfgA m).win w).arr.view.loc (c : Thread nD τ))
  after w t := match w with
    | ⟨0, _⟩ => iblk m c (0 : Fin 10) t
    | ⟨1, _⟩ => iblk m c (1 : Fin 10) t
    | ⟨2, _⟩ => iblk m c (2 : Fin 10) t
    | ⟨3, _⟩ => iblk m c (3 : Fin 10) t
    | ⟨4, _⟩ => iblk m c (4 : Fin 10) t
    | ⟨5, _⟩ => iblk m c (5 : Fin 10) t
    | ⟨6, _⟩ => iblk m c (6 : Fin 10) t
    | ⟨7, _⟩ => val7 m hp c t
    | ⟨8, _⟩ => val8 m hp c t
    | ⟨9, _⟩ => val9 m hp c t
  Φ _ := Phi m c
  q _ := fullShare
  owed _ := 0

theorem after_0 (c : Dev nD) (t : Fin (cfgA m).N) : (dats m hp 0 c).after (0 : Fin 10) t = iblk m c (0 : Fin 10) t := rfl
theorem after_1 (c : Dev nD) (t : Fin (cfgA m).N) : (dats m hp 0 c).after (1 : Fin 10) t = iblk m c (1 : Fin 10) t := rfl
theorem after_2 (c : Dev nD) (t : Fin (cfgA m).N) : (dats m hp 0 c).after (2 : Fin 10) t = iblk m c (2 : Fin 10) t := rfl
theorem after_3 (c : Dev nD) (t : Fin (cfgA m).N) : (dats m hp 0 c).after (3 : Fin 10) t = iblk m c (3 : Fin 10) t := rfl
theorem after_4 (c : Dev nD) (t : Fin (cfgA m).N) : (dats m hp 0 c).after (4 : Fin 10) t = iblk m c (4 : Fin 10) t := rfl
theorem after_5 (c : Dev nD) (t : Fin (cfgA m).N) : (dats m hp 0 c).after (5 : Fin 10) t = iblk m c (5 : Fin 10) t := rfl
theorem after_6 (c : Dev nD) (t : Fin (cfgA m).N) : (dats m hp 0 c).after (6 : Fin 10) t = iblk m c (6 : Fin 10) t := rfl
theorem after_7 (c : Dev nD) (t : Fin (cfgA m).N) : (dats m hp 0 c).after (7 : Fin 10) t = val7 m hp c t := rfl
theorem after_8 (c : Dev nD) (t : Fin (cfgA m).N) : (dats m hp 0 c).after (8 : Fin 10) t = val8 m hp c t := rfl
theorem after_9 (c : Dev nD) (t : Fin (cfgA m).N) : (dats m hp 0 c).after (9 : Fin 10) t = val9 m hp c t := rfl

theorem before_0 (c : Dev nD) (t : Fin (cfgA m).N) (d) : (dats m hp 0 c).before (0 : Fin 10) t d = iblk m c 0 t :=
  ((dats m hp 0 c).before_in_eq_fetched (0 : Fin 10) rfl (fun _ => rfl) (fun _ _ _ => rfl) (fun t => by rw [after_0]; unfold Dat.blockOf iblk; rfl) t d).trans
    (by unfold Dat.fetched Dat.blockOf iblk; rfl)
theorem before_1 (c : Dev nD) (t : Fin (cfgA m).N) (d) : (dats m hp 0 c).before (1 : Fin 10) t d = iblk m c 1 t :=
  ((dats m hp 0 c).before_in_eq_fetched (1 : Fin 10) rfl (fun _ => rfl) (fun _ _ _ => rfl) (fun t => by rw [after_1]; unfold Dat.blockOf iblk; rfl) t d).trans
    (by unfold Dat.fetched Dat.blockOf iblk; rfl)
theorem before_2 (c : Dev nD) (t : Fin (cfgA m).N) (d) : (dats m hp 0 c).before (2 : Fin 10) t d = iblk m c 2 t :=
  ((dats m hp 0 c).before_in_eq_fetched (2 : Fin 10) rfl (fun _ => rfl) (fun _ _ _ => rfl) (fun t => by rw [after_2]; unfold Dat.blockOf iblk; rfl) t d).trans
    (by unfold Dat.fetched Dat.blockOf iblk; rfl)
theorem before_3 (c : Dev nD) (t : Fin (cfgA m).N) (d) : (dats m hp 0 c).before (3 : Fin 10) t d = iblk m c 3 t :=
  ((dats m hp 0 c).before_in_eq_fetched (3 : Fin 10) rfl (fun _ => rfl) (fun _ _ _ => rfl) (fun t => by rw [after_3]; unfold Dat.blockOf iblk; rfl) t d).trans
    (by unfold Dat.fetched Dat.blockOf iblk; rfl)
theorem before_4 (c : Dev nD) (t : Fin (cfgA m).N) (d) : (dats m hp 0 c).before (4 : Fin 10) t d = iblk m c 4 t :=
  ((dats m hp 0 c).before_in_eq_fetched (4 : Fin 10) rfl (fun _ => rfl) (fun _ _ _ => rfl) (fun t => by rw [after_4]; unfold Dat.blockOf iblk; rfl) t d).trans
    (by unfold Dat.fetched Dat.blockOf iblk; rfl)
theorem before_5 (c : Dev nD) (t : Fin (cfgA m).N) (d) : (dats m hp 0 c).before (5 : Fin 10) t d = iblk m c 5 t :=
  ((dats m hp 0 c).before_in_eq_fetched (5 : Fin 10) rfl (fun _ => rfl) (fun _ _ _ => rfl) (fun t => by rw [after_5]; unfold Dat.blockOf iblk; rfl) t d).trans
    (by unfold Dat.fetched Dat.blockOf iblk; rfl)
theorem before_6 (c : Dev nD) (t : Fin (cfgA m).N) (d) : (dats m hp 0 c).before (6 : Fin 10) t d = iblk m c 6 t :=
  ((dats m hp 0 c).before_in_eq_fetched (6 : Fin 10) rfl (fun _ => rfl) (fun _ _ _ => rfl) (fun t => by rw [after_6]; unfold Dat.blockOf iblk; rfl) t d).trans
    (by unfold Dat.fetched Dat.blockOf iblk; rfl)

/-- The body at point `t` on its staging buffers. -/
abbrev bodyAt (t : Fin (cfgA m).N) : Prog (TpuEff nD τ sig (Elt Ideal) Λ₀ .tc) PUnit :=
  cc0_fox_attention (crd m t) tab (Memref.isWhole_whole _) (st0 m t) (hst0 m t) (st1 m t) (hst1 m t) (st2 m t) (hst2 m t) (st3 m t) (hst3 m t) (st4 m t) (hst4 m t) (st5 m t) (hst5 m t) (st6 m t) (hst6 m t) (st7 m t) (hst7 m t) (st8 m t) (hst8 m t) (st9 m t) (hst9 m t) scr0 (Memref.isWhole_whole _) scr1 (Memref.isWhole_whole _) scr2 (Memref.isWhole_whole _) scr3 (Memref.isWhole_whole _)

set_option maxHeartbeats 6400000 in
/-- The body keeps what holds between points and leaves each window's buffer as the data say. -/
theorem sound_body (c : Dev nD) (t : Fin (cfgA m).N) :
    iprop((dats m hp 0 c).Φ t.castSucc ∗ (dats m hp 0 c).owesAt () t.castSucc
        ∗ (∃ d, owns (c : Thread nD τ) (st0 m t) fullShare ((dats m hp 0 c).before (0 : Fin 10) t d))
        ∗ (∃ d, owns (c : Thread nD τ) (st1 m t) fullShare ((dats m hp 0 c).before (1 : Fin 10) t d))
        ∗ (∃ d, owns (c : Thread nD τ) (st2 m t) fullShare ((dats m hp 0 c).before (2 : Fin 10) t d))
        ∗ (∃ d, owns (c : Thread nD τ) (st3 m t) fullShare ((dats m hp 0 c).before (3 : Fin 10) t d))
        ∗ (∃ d, owns (c : Thread nD τ) (st4 m t) fullShare ((dats m hp 0 c).before (4 : Fin 10) t d))
        ∗ (∃ d, owns (c : Thread nD τ) (st5 m t) fullShare ((dats m hp 0 c).before (5 : Fin 10) t d))
        ∗ (∃ d, owns (c : Thread nD τ) (st6 m t) fullShare ((dats m hp 0 c).before (6 : Fin 10) t d))
        ∗ (∃ d, owns (c : Thread nD τ) (st7 m t) fullShare ((dats m hp 0 c).before (7 : Fin 10) t d))
        ∗ (∃ d, owns (c : Thread nD τ) (st8 m t) fullShare ((dats m hp 0 c).before (8 : Fin 10) t d))
        ∗ (∃ d, owns (c : Thread nD τ) (st9 m t) fullShare ((dats m hp 0 c).before (9 : Fin 10) t d)))
      ⊢ wp frame (wpE (defs₀ (F := Ideal)) Variants.none c none) Set.univ (bodyAt m t) fun _ =>
          iprop((dats m hp 0 c).Φ t.succ ∗ (dats m hp 0 c).owesAt () t.succ
            ∗ bigSep Finset.univ fun w : Fin (cfgA m).W =>
                match (cfgA m).idle w ((cfgA m).grid.coords t) with
                | true =>
                  match ((cfgA m).win w).flush t with
                  | false => iprop(∃ d, owns (c : Thread nD τ) (((cfgA m).win w).stage ((cfgA m).slots t w)) fullShare ((dats m hp 0 c).before w t d))
                  | true => owns (c : Thread nD τ) (((cfgA m).win w).stage ((cfgA m).slots t w)) fullShare ((dats m hp 0 c).after w t)
                | false => owns (c : Thread nD τ) (((cfgA m).win w).stage ((cfgA m).slots t w)) fullShare ((dats m hp 0 c).after w t)) := by
  rw [bigSep_W0]
  rewrite [show (cfgA m).idle (7 : Fin 10) ((cfgA m).grid.coords t) = false from idle_7 m hp _]
  simp only [before_0, before_1, before_2, before_3, before_4, before_5, before_6, after_0, after_1, after_2, after_3, after_4, after_5, after_6, after_7, after_8, after_9]
  rewrite [show (dats m hp 0 c).Φ t.succ = Phi m c from rfl, show (dats m hp 0 c).Φ t.castSucc = Phi m c from rfl,
    show (dats m hp 0 c).owesAt () t.succ = (dats m hp 0 c).owesAt () t.castSucc from rfl]
  unfold Phi
  iintro ⟨⟨⟨%a0, HS0⟩, ⟨%a1, HS1⟩, ⟨%a2, HS2⟩, ⟨%a3, HS3⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((bodyRun c (crd m t) (st0 m t) (hst0 m t) (st1 m t) (hst1 m t) (st2 m t) (hst2 m t) (st3 m t) (hst3 m t) (st4 m t) (hst4 m t) (st5 m t) (hst5 m t) (st6 m t) (hst6 m t) (st7 m t) (hst7 m t) (st8 m t) (hst8 m t) (st9 m t) (hst9 m t) (tabv m) (jblk0 m c t) (jblk1 m c t) (jblk2 m c t) (jblk3 m c t) (jblk4 m c t) (jblk5 m c t) (jblk6 m c t) a0 a1 a2 a3 (h1 m hp) (h6 m hp)).2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [H7]; · iexists _; iexact H7
  isplitl [H8]; · iexists _; iexact H8
  isplitl [H9]; · iexists _; iexact H9
  isplitl [HS0]; · rw [scr_set0]; iexact HS0
  isplitl [HS1]; · rw [scr_set1]; iexact HS1
  isplitl [HS2]; · rw [scr_set2]; iexact HS2
  isplitl [HS3]; · rw [scr_set3]; iexact HS3
  iintro ⟨H0, H1, H2, H3, H4, H5, H6, HT0, ⟨%e7, H7⟩, ⟨%e8, H8⟩, ⟨%e9, H9⟩, ⟨%b0, HS0⟩, ⟨%b1, HS1⟩, ⟨%b2, HS2⟩, ⟨%b3, HS3⟩⟩
  isplitl [HS0 HS1 HS2 HS3 HT0]
  · isplitl [HS0]; · iexists b0; rw [scr_set0]; iexact HS0
    isplitl [HS1]; · iexists b1; rw [scr_set1]; iexact HS1
    isplitl [HS2]; · iexists b2; rw [scr_set2]; iexact HS2
    isplitl [HS3]; · iexists b3; rw [scr_set3]; iexact HS3
    iexact HT0
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  isplitl [H7]
  · unfold owns; iexists _; isplitr; swap
    · iexact H7
    · ipureintro; exact leaves7 m hp c t a0 a1 a2 a3 _
  isplitl [H8]
  · unfold owns; iexists _; isplitr; swap
    · iexact H8
    · ipureintro; exact leaves8 m hp c t a0 a1 a2 a3 _
  unfold owns; iexists _; isplitr; swap
  · iexact H9
  · ipureintro; exact leaves9 m hp c t a0 a1 a2 a3 _

/-- The obligation the pipeline asks of its body. -/
theorem body_obligation (c : Dev nD) : BodyObligation (dats m hp 0 c) (defs₀ (F := Ideal)) Variants.none () Set.univ := fun t => by
  rw [bigSep_W0]
  exact sound_body m hp c t

/-- The launch's ghost state. -/
def u₀ : UR sig nD τ :=
  initOf (Pipeline.cells (pcs m) ((launch0 (F := Ideal)).cellOf_inj fun _ => adm m))
    (Pipeline.launchToks (pcs m) ((launch0 (F := Ideal)).cellOf_inj fun _ => adm m))

theorem share_full (c : Dev nD) (w : Fin (cfgA m).W) : (dats m hp 0 c).share w = fullShare := by unfold Dat.share; split <;> rfl

/-- The prefetched table as the launch hands it over. -/
theorem table_held (c : Dev nD) (q : Fin 1 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0)) := by
  unfold Pipeline.prefHeld
  rw [show (Finset.univ : Finset (Fin 1)) = {(0 : Fin 1)} from by decide, bigSep_singleton]
  rfl

/-- What holds between points, at the start. -/
theorem phi_start (c : Dev nD) :
    iprop(BI.emp ∗ Pipeline.prefHeld pre0 c (fun _ => fullShare.right) (adm m).1 ∗ Pipeline.scopedRest spec0 c) ⊢ (dats m hp 0 c).Φ 0 := by
  rw [table_held, scopedRest0_eq, show (dats m hp 0 c).Φ 0 = Phi m c from rfl]
  unfold Phi
  iintro ⟨-, ⟨HT0⟩, ⟨%a0, HS0⟩, ⟨%a1, HS1⟩, ⟨%a2, HS2⟩, ⟨%a3, HS3⟩⟩
  isplitl [HS0]; · iexists a0; iexact HS0
  isplitl [HS1]; · iexists a1; iexact HS1
  isplitl [HS2]; · iexists a2; iexact HS2
  isplitl [HS3]; · iexists a3; iexact HS3
  iexact HT0

/-- It gives the scratch buffers back at the end. -/
theorem phi_end (c : Dev nD) : (dats m hp 0 c).Φ (Fin.last (cfgA m).N) ⊢ iprop(BI.emp ∗ Pipeline.scopedRest spec0 c) := by
  rw [scopedRest0_eq, show (dats m hp 0 c).Φ (Fin.last (cfgA m).N) = Phi m c from rfl]
  unfold Phi
  iintro ⟨⟨%a0, HS0⟩, ⟨%a1, HS1⟩, ⟨%a2, HS2⟩, ⟨%a3, HS3⟩, -⟩
  isplitr; · iempintro
  isplitl [HS0]; · iexists a0; iexact HS0
  isplitl [HS1]; · iexists a1; iexact HS1
  isplitl [HS2]; · iexists a2; iexact HS2
  iexists a3; iexact HS3

/-- Every array at what the pipeline computes, the table as it was. -/
def Post : PUnit × MemSt nD τ sig (Elt Ideal) → Prop := fun r =>
  ∀ c : Dev nD, (∀ w : Fin (cfgA m).W, r.2.mem (((cfgA m).win w).arr.view.loc (c : Thread nD τ)) = (dats m hp 0 c).arrAt w (cfgA m).N)
    ∧ ∀ j, r.2.mem ((c : Thread nD τ).loc (pre0.ref j)) = (adm m).1 j

/-- The table in memory is the one the pipeline runs at. -/
theorem table_mem (c : Dev nD) (j : Fin 1) : m ((c : Thread nD τ).loc (pre0.ref j)) = (adm m).1 j := by
  fin_cases j
  obtain rfl := Subsingleton.elim c (0 : Dev nD)
  rfl

variable (ρ : Dev nD → PrngReg)

set_option backward.isDefEq.respectTransparency.types false in
set_option maxHeartbeats 4000000 in
/-- The call ends with every array at what the pipeline computes and every counter at zero. -/
theorem run : θ_run (defs (F := Ideal)) (onTc (τ := τ) (main (F := Ideal))) ⟨m, fun _ => 0, ρ⟩ (fun r => Post m hp r ∧ r.2.sem = fun _ => 0) :=
  Pipeline.θ_run_region_noSem_pf_quiescent pcfgs (fun _ => adm m) (dats m hp) () ((launch0 (F := Ideal)).cellOf_inj fun _ => adm m) (0 : Fin 1)
    (launch0 (F := Ideal)).win.to₀ (launch0 (F := Ideal)).pre EP defs₀ Variants.none m ρ main
    (hbody := fun c => (body_obligation m hp c).loose) (hne := (launch0 (F := Ideal)).block_pos)
    (harr := (launch0 (F := Ideal)).arr_whole) (hstage := (launch0 (F := Ideal)).stage_whole) (howed := fun _ _ => rfl)
    (u₀ := u₀ m) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m) (dats m hp) 0 (launch0 (F := Ideal)).win.arr_inj c (launch0 (F := Ideal)).arr_whole
      (share_full m hp c) _ _ fun _ => rfl)
    (hpf := table_mem m)
    (X := fun _ => iprop(emp)) (Y := fun _ => iprop(emp)) (Z := fun _ => iprop(emp))
    (hX := fun c => by rw [unscopedRestP0_eq]; iintro -; isplitr <;> iempintro)
    (hin := phi_start m hp)
    (hout := phi_end m hp)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The call ends with the three result arrays at what the pipeline computes, its arguments as they were and every counter at
    zero. -/
theorem run_blocks : θ_run (defs (F := Ideal)) (onTc (τ := τ) (main (F := Ideal))) ⟨m, fun _ => 0, ρ⟩ (fun r => (∀ c : Dev nD,
      r.2.mem ((c.tc : Thread nD τ).loc main_v0_0) = (dats m hp 0 c).arrAt (7 : Fin 10) (cfgA m).N
      ∧ r.2.mem ((c.tc : Thread nD τ).loc main_v0_1) = (dats m hp 0 c).arrAt (8 : Fin 10) (cfgA m).N
      ∧ r.2.mem ((c.tc : Thread nD τ).loc main_v0_2) = (dats m hp 0 c).arrAt (9 : Fin 10) (cfgA m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨(h.1 c).1 (7 : Fin 10), (h.1 c).1 (8 : Fin 10), (h.1 c).1 (9 : Fin 10),
    ((h.1 c).2 0).trans (table_mem m c 0).symm, ((h.1 c).1 (0 : Fin 10)).trans ((dats m hp 0 c).arrAt_in (0 : Fin 10) rfl _), ((h.1 c).1 (1 : Fin 10)).trans ((dats m hp 0 c).arrAt_in (1 : Fin 10) rfl _), ((h.1 c).1 (2 : Fin 10)).trans ((dats m hp 0 c).arrAt_in (2 : Fin 10) rfl _), ((h.1 c).1 (3 : Fin 10)).trans ((dats m hp 0 c).arrAt_in (3 : Fin 10) rfl _), ((h.1 c).1 (4 : Fin 10)).trans ((dats m hp 0 c).arrAt_in (4 : Fin 10) rfl _), ((h.1 c).1 (5 : Fin 10)).trans ((dats m hp 0 c).arrAt_in (5 : Fin 10) rfl _), ((h.1 c).1 (6 : Fin 10)).trans ((dats m hp 0 c).arrAt_in (6 : Fin 10) rfl _)⟩, h.2⟩) (run m hp ρ)

end Cert.Kernel3Ideal.Att

end
-- ==== Proof.AttIdx.lean ====
/- Where the blocks of the attention call stand in its arrays. -/
module

public import proofs.«01_k».proof.Proof.AttI
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
namespace Cert.Kernel3Ideal.AttIdx
open Cert.Kernel3Ideal Cert.Kernel3Ideal.Gen Cert.Kernel3Ideal.Att

variable (m : (ℓ : Loc nD τ sig) → Buf (Elt Ideal) ℓ)

/-- Where every window stands at grid point `t`. -/
theorem idx0 : ∀ t : Fin grid0.N, cc0_transform_0 (grid0.coords t) = ![t.val / 32, t.val / 4 % 8, t.val % 4]
    ∧ cc0_transform_1 (grid0.coords t) = ![t.val / 32, t.val / 4 % 8, t.val % 4]
    ∧ cc0_transform_2 (grid0.coords t) = ![t.val / 32, 0, t.val / 4 % 8]
    ∧ cc0_transform_3 (grid0.coords t) = ![t.val / 32, 0, t.val / 4 % 8]
    ∧ cc0_transform_4 (grid0.coords t) = ![t.val / 32, 0, t.val / 4 % 8, 0]
    ∧ cc0_transform_5 (grid0.coords t) = ![t.val, 0] ∧ cc0_transform_6 (grid0.coords t) = ![t.val, 0]
    ∧ cc0_transform_7 (grid0.coords t) = ![t.val / 32, t.val % 4, t.val / 4 % 8]
    ∧ cc0_transform_8 (grid0.coords t) = ![t.val, 0] ∧ cc0_transform_9 (grid0.coords t) = ![t.val, 0]
    ∧ (grid0.coords t 2).val = t.val % 4 ∧ t.val < 128 := by decide +kernel

/-- A table of zeros: no window stands elsewhere for the table's words. -/
def adm₀ : (pcfg0 (F := Ideal)).Adm := ⟨fun j => match j with | ⟨0, _⟩ => fun _ => (0#32 : BitVec 32), trivial⟩

theorem cov7₀ : ((cfg0 adm₀).win (7 : Fin 10)).Covers := by decide +kernel
theorem cov8₀ : ((cfg0 adm₀).win (8 : Fin 10)).Covers := by decide +kernel
theorem cov9₀ : ((cfg0 adm₀).win (9 : Fin 10)).Covers := by decide +kernel

/-- The blocks of each result fill it. -/
theorem cov7 : ((cfgA m).win (7 : Fin 10)).Covers := cov7₀
theorem cov8 : ((cfgA m).win (8 : Fin 10)).Covers := cov8₀
theorem cov9 : ((cfgA m).win (9 : Fin 10)).Covers := cov9₀

/-- The batch, the pair of heads and the tile of rows of grid point `t`. -/
def bOf (t : Fin grid0.N) : Fin 4 := ⟨t.val / 32, by have := (idx0 t).2.2.2.2.2.2.2.2.2.2.2; omega⟩
def hOf (t : Fin grid0.N) : Fin 8 := ⟨t.val / 4 % 8, by omega⟩
def iOf (t : Fin grid0.N) : Fin 4 := ⟨t.val % 4, by omega⟩

/-- Where place `d` of a pair of heads, row `q` of a tile, and row `r` of point `t`'s slabs of weights stand in the whole arrays. -/
def chan (h : Fin 8) (d : Fin 128) : Fin 1024 := ⟨h.val * 128 + d.val, by omega⟩
def trow (i : Fin 4) (q : Fin 1024) : Fin 4096 := ⟨i.val * 1024 + q.val, by omega⟩
def slab1 (t : Fin grid0.N) (r : Fin 16) : Fin 2048 := ⟨t.val * 16 + r.val, by have := (idx0 t).2.2.2.2.2.2.2.2.2.2.2; omega⟩
def slab2 (t : Fin grid0.N) (r : Fin 64) : Fin 8192 := ⟨t.val * 64 + r.val, by have := (idx0 t).2.2.2.2.2.2.2.2.2.2.2; omega⟩

/-- The tile a point computes is its last grid coordinate. -/
theorem tile_of (t : Fin grid0.N) : (grid0.coords t 2).val = (iOf t).val := (idx0 t).2.2.2.2.2.2.2.2.2.2.1

variable (c : Dev nD) (t : Fin grid0.N)

/-- The queries of point `t` in the whole array. -/
theorem blk0 (d : Fin 128) (q : Fin 1024) : jblk0 m c t (ix3 0 d q) = m ((c : Thread nD τ).loc main_arg1) (ix3 (bOf t) (chan (hOf t) d) (trow (iOf t) q)) := by
  have h := (idx0 t).1
  show m ((c : Thread nD τ).loc main_arg1) _ = _
  refine congrArg (m ((c : Thread nD τ).loc main_arg1)) (funext fun a => Fin.ext ?_)
  fin_cases a
  · show cc0_transform_0 (grid0.coords t) 0 * 1 + 1 * 0 = (bOf t).val
    rw [h]; simp [bOf, hOf, iOf, chan, trow, slab1, slab2]
  · show cc0_transform_0 (grid0.coords t) 1 * 128 + 1 * d.val = (chan (hOf t) d).val
    rw [h]; simp [bOf, hOf, iOf, chan, trow, slab1, slab2]
  · show cc0_transform_0 (grid0.coords t) 2 * 1024 + 1 * q.val = (trow (iOf t) q).val
    rw [h]; simp [bOf, hOf, iOf, chan, trow, slab1, slab2]

/-- The queries' bias pieces of point `t` in the whole array. -/
theorem blk1 (d : Fin 128) (q : Fin 1024) : jblk1 m c t (ix3 0 d q) = m ((c : Thread nD τ).loc main_arg2) (ix3 (bOf t) (chan (hOf t) d) (trow (iOf t) q)) := by
  have h := (idx0 t).2.1
  show m ((c : Thread nD τ).loc main_arg2) _ = _
  refine congrArg (m ((c : Thread nD τ).loc main_arg2)) (funext fun a => Fin.ext ?_)
  fin_cases a
  · show cc0_transform_1 (grid0.coords t) 0 * 1 + 1 * 0 = (bOf t).val
    rw [h]; simp [bOf, hOf, iOf, chan, trow, slab1, slab2]
  · show cc0_transform_1 (grid0.coords t) 1 * 128 + 1 * d.val = (chan (hOf t) d).val
    rw [h]; simp [bOf, hOf, iOf, chan, trow, slab1, slab2]
  · show cc0_transform_1 (grid0.coords t) 2 * 1024 + 1 * q.val = (trow (iOf t) q).val
    rw [h]; simp [bOf, hOf, iOf, chan, trow, slab1, slab2]

/-- The keys of point `t` in the whole array. -/
theorem blk2 (k : Fin 4096) (d : Fin 128) : jblk2 m c t (ix3 0 k d) = m ((c : Thread nD τ).loc main_arg3) (ix3 (bOf t) k (chan (hOf t) d)) := by
  have h := (idx0 t).2.2.1
  show m ((c : Thread nD τ).loc main_arg3) _ = _
  refine congrArg (m ((c : Thread nD τ).loc main_arg3)) (funext fun a => Fin.ext ?_)
  fin_cases a
  · show cc0_transform_2 (grid0.coords t) 0 * 1 + 1 * 0 = (bOf t).val
    rw [h]; simp [bOf, hOf, iOf, chan, trow, slab1, slab2]
  · show cc0_transform_2 (grid0.coords t) 1 * 4096 + 1 * k.val = k.val
    rw [h]; simp [bOf, hOf, iOf, chan, trow, slab1, slab2]
  · show cc0_transform_2 (grid0.coords t) 2 * 128 + 1 * d.val = (chan (hOf t) d).val
    rw [h]; simp [bOf, hOf, iOf, chan, trow, slab1, slab2]

/-- The keys' bias pieces of point `t` in the whole array. -/
theorem blk3 (k : Fin 4096) (d : Fin 128) : jblk3 m c t (ix3 0 k d) = m ((c : Thread nD τ).loc main_arg4) (ix3 (bOf t) k (chan (hOf t) d)) := by
  have h := (idx0 t).2.2.2.1
  show m ((c : Thread nD τ).loc main_arg4) _ = _
  refine congrArg (m ((c : Thread nD τ).loc main_arg4)) (funext fun a => Fin.ext ?_)
  fin_cases a
  · show cc0_transform_3 (grid0.coords t) 0 * 1 + 1 * 0 = (bOf t).val
    rw [h]; simp [bOf, hOf, iOf, chan, trow, slab1, slab2]
  · show cc0_transform_3 (grid0.coords t) 1 * 4096 + 1 * k.val = k.val
    rw [h]; simp [bOf, hOf, iOf, chan, trow, slab1, slab2]
  · show cc0_transform_3 (grid0.coords t) 2 * 128 + 1 * d.val = (chan (hOf t) d).val
    rw [h]; simp [bOf, hOf, iOf, chan, trow, slab1, slab2]

/-- The values of point `t` in the whole array. -/
theorem blk4 (g : Fin 8) (d : Fin 128) (k : Fin 512) : jblk4 m c t (ix4 0 g d k) = m ((c : Thread nD τ).loc main_arg5) (ix4 (bOf t) g (chan (hOf t) d) k) := by
  have h := (idx0 t).2.2.2.2.1
  show m ((c : Thread nD τ).loc main_arg5) _ = _
  refine congrArg (m ((c : Thread nD τ).loc main_arg5)) (funext fun a => Fin.ext ?_)
  fin_cases a
  · show cc0_transform_4 (grid0.coords t) 0 * 1 + 1 * 0 = (bOf t).val
    rw [h]; simp [bOf, hOf, iOf, chan, trow, slab1, slab2]
  · show cc0_transform_4 (grid0.coords t) 1 * 8 + 1 * g.val = g.val
    rw [h]; simp [bOf, hOf, iOf, chan, trow, slab1, slab2]
  · show cc0_transform_4 (grid0.coords t) 2 * 128 + 1 * d.val = (chan (hOf t) d).val
    rw [h]; simp [bOf, hOf, iOf, chan, trow, slab1, slab2]
  · show cc0_transform_4 (grid0.coords t) 3 * 512 + 1 * k.val = k.val
    rw [h]; simp [bOf, hOf, iOf, chan, trow, slab1, slab2]

/-- The first weight of point `t` in the whole array. -/
theorem blk5 (r : Fin 16) (f : Fin 4096) : jblk5 m c t (ix2 r f) = m ((c : Thread nD τ).loc main_arg6) (ix2 (slab1 t r) f) := by
  have h := (idx0 t).2.2.2.2.2.1
  show m ((c : Thread nD τ).loc main_arg6) _ = _
  refine congrArg (m ((c : Thread nD τ).loc main_arg6)) (funext fun a => Fin.ext ?_)
  fin_cases a
  · show cc0_transform_5 (grid0.coords t) 0 * 16 + 1 * r.val = (slab1 t r).val
    rw [h]; simp [bOf, hOf, iOf, chan, trow, slab1, slab2]
  · show cc0_transform_5 (grid0.coords t) 1 * 4096 + 1 * f.val = f.val
    rw [h]; simp [bOf, hOf, iOf, chan, trow, slab1, slab2]

/-- The second weight of point `t` in the whole array. -/
theorem blk6 (r : Fin 64) (f : Fin 1024) : jblk6 m c t (ix2 r f) = m ((c : Thread nD τ).loc main_arg7) (ix2 (slab2 t r) f) := by
  have h := (idx0 t).2.2.2.2.2.2.1
  show m ((c : Thread nD τ).loc main_arg7) _ = _
  refine congrArg (m ((c : Thread nD τ).loc main_arg7)) (funext fun a => Fin.ext ?_)
  fin_cases a
  · show cc0_transform_6 (grid0.coords t) 0 * 64 + 1 * r.val = (slab2 t r).val
    rw [h]; simp [bOf, hOf, iOf, chan, trow, slab1, slab2]
  · show cc0_transform_6 (grid0.coords t) 1 * 1024 + 1 * f.val = f.val
    rw [h]; simp [bOf, hOf, iOf, chan, trow, slab1, slab2]

/-- Where point `t` writes its block of result 0. -/
theorem out7 (q : Fin 1024) (d : Fin 128) : (((cfgA m).win (7 : Fin 10)).blk t).view.emb (ix3 0 q d) = ix3 (bOf t) (trow (iOf t) q) (chan (hOf t) d) := by
  have h := (idx0 t).2.2.2.2.2.2.2.1
  refine funext fun a => Fin.ext ?_
  fin_cases a
  · show cc0_transform_7 (grid0.coords t) 0 * 1 + 1 * 0 = (bOf t).val
    rw [h]; simp [bOf, hOf, iOf, chan, trow, slab1, slab2]
  · show cc0_transform_7 (grid0.coords t) 1 * 1024 + 1 * q.val = (trow (iOf t) q).val
    rw [h]; simp [bOf, hOf, iOf, chan, trow, slab1, slab2]
  · show cc0_transform_7 (grid0.coords t) 2 * 128 + 1 * d.val = (chan (hOf t) d).val
    rw [h]; simp [bOf, hOf, iOf, chan, trow, slab1, slab2]

/-- Where point `t` writes its block of result 1. -/
theorem out8 (r : Fin 16) (f : Fin 4096) : (((cfgA m).win (8 : Fin 10)).blk t).view.emb (ix2 r f) = ix2 (slab1 t r) f := by
  have h := (idx0 t).2.2.2.2.2.2.2.2.1
  refine funext fun a => Fin.ext ?_
  fin_cases a
  · show cc0_transform_8 (grid0.coords t) 0 * 16 + 1 * r.val = (slab1 t r).val
    rw [h]; simp [bOf, hOf, iOf, chan, trow, slab1, slab2]
  · show cc0_transform_8 (grid0.coords t) 1 * 4096 + 1 * f.val = f.val
    rw [h]; simp [bOf, hOf, iOf, chan, trow, slab1, slab2]

/-- Where point `t` writes its block of result 2. -/
theorem out9 (r : Fin 64) (f : Fin 1024) : (((cfgA m).win (9 : Fin 10)).blk t).view.emb (ix2 r f) = ix2 (slab2 t r) f := by
  have h := (idx0 t).2.2.2.2.2.2.2.2.2.1
  refine funext fun a => Fin.ext ?_
  fin_cases a
  · show cc0_transform_9 (grid0.coords t) 0 * 64 + 1 * r.val = (slab2 t r).val
    rw [h]; simp [bOf, hOf, iOf, chan, trow, slab1, slab2]
  · show cc0_transform_9 (grid0.coords t) 1 * 1024 + 1 * f.val = f.val
    rw [h]; simp [bOf, hOf, iOf, chan, trow, slab1, slab2]

end Cert.Kernel3Ideal.AttIdx
-- ==== Proof.AttMath.lean ====
/- The mathematics of one query of the attention: the running maximum, weight sum and weighted value sum of the online
   softmax stand for plain sums of base-2 weights, and both softmax forms give the same quotient of those sums. -/
module

public import Idealize.ShloMosaic.Lib.Pointwise

@[expose] public section

noncomputable section

namespace AttMath

open Idealize.ShloMosaic

/-- The base-2 weight of a score; a score of −∞ weighs nothing. -/
def wt (s : EReal) : ℝ := if s = ⊥ then 0 else Real.rpow 2 s.toReal

theorem wt_bot : wt ⊥ = 0 := if_pos rfl

theorem wt_coe (r : ℝ) : wt r = Real.rpow 2 r := by
  rw [wt, if_neg (EReal.coe_ne_bot r), EReal.toReal_coe]

theorem wt_nonneg (s : EReal) : 0 ≤ wt s := by
  unfold wt
  split
  · exact le_rfl
  · exact (Real.rpow_pos_of_pos (by norm_num) _).le

theorem two_pos' (r : ℝ) : 0 < Real.rpow 2 r := Real.rpow_pos_of_pos (by norm_num) _

theorem two_add (a b : ℝ) : Real.rpow 2 (a + b) = Real.rpow 2 a * Real.rpow 2 b := Real.rpow_add (by norm_num) a b

/-- A shifted score's power of two is its weight scaled. -/
theorem exp2_sub (s : EReal) (hs : s ≠ ⊤) (μ : ℝ) : Ideal.exp2 (s - μ) = ((Real.rpow 2 (-μ) * wt s : ℝ) : EReal) := by
  induction s with
  | bot => rw [EReal.bot_sub, wt_bot, mul_zero]; rfl
  | top => exact absurd rfl hs
  | coe r =>
    rw [← EReal.coe_sub, Ideal.exp2_coe, wt_coe, ← two_add]
    congr 2; ring

/-- The same in the reference's spelling as a power with base two. -/
theorem pow_sub (s : EReal) (hs : s ≠ ⊤) (μ : ℝ) :
    Ideal.pow ((2 : ℝ) : EReal) (s - μ) = ((Real.rpow 2 (-μ) * wt s : ℝ) : EReal) := by
  induction s with
  | bot => rw [EReal.bot_sub, wt_bot, mul_zero, Ideal.pow_coe_bot]; norm_num
  | top => exact absurd rfl hs
  | coe r =>
    rw [← EReal.coe_sub, Ideal.pow_coe_coe, wt_coe, ← two_add]
    congr 2; ring

/-- A finite sum of real numbers, as an extended real. -/
theorem coe_sum {ι : Type*} (t : Finset ι) (f : ι → ℝ) : ((∑ k ∈ t, f k : ℝ) : EReal) = ∑ k ∈ t, (f k : EReal) :=
  map_sum (⟨⟨Real.toEReal, EReal.coe_zero⟩, EReal.coe_add⟩ : ℝ →+ EReal) f t

/-- The maximum of scores below +∞ of which one is real, is real. -/
theorem fold_real {ι : Type*} [Fintype ι] (s : ι → EReal) (hs : ∀ k, s k ≠ ⊤) (h1 : ∃ k, s k ≠ ⊥) :
    ∃ μ : ℝ, (Finset.univ : Finset ι).fold max ⊥ s = (μ : EReal) := by
  have h : (Finset.univ : Finset ι).fold max ⊥ s = Finset.univ.sup s := rfl
  obtain ⟨k, hk⟩ := h1
  have ht : (Finset.univ.sup s) ≠ ⊤ := by
    have : Finset.univ.sup s < ⊤ := (Finset.sup_lt_iff bot_lt_top).2 fun k _ => lt_top_iff_ne_top.2 (hs k)
    exact this.ne
  have hb : (Finset.univ.sup s) ≠ ⊥ := by
    intro e
    have := Finset.le_sup (f := s) (Finset.mem_univ k)
    rw [e] at this
    exact hk (le_bot_iff.1 this)
  exact ⟨(Finset.univ.sup s).toReal, by rw [h, EReal.coe_toReal ht hb]⟩

/-- The running state (maximum, weight sum, weighted sum) stands for the plain sums `L` and `A`. -/
def Rep (m l a : EReal) (L A : ℝ) : Prop :=
  (m = ⊥ ∧ l = 0 ∧ a = 0 ∧ L = 0 ∧ A = 0) ∨
    ∃ μ : ℝ, m = μ ∧ l = ((Real.rpow 2 (-μ) * L : ℝ) : EReal) ∧ a = ((Real.rpow 2 (-μ) * A : ℝ) : EReal)

theorem rep_init : Rep ⊥ 0 0 0 0 := .inl ⟨rfl, rfl, rfl, rfl, rfl⟩

/-- One step of the online softmax adds the block's weights and weighted values. -/
theorem rep_step {ι : Type*} [Fintype ι] {m l a : EReal} {L A : ℝ} (h : Rep m l a L A) (s : ι → EReal) (v : ι → ℝ)
    (hs : ∀ k, s k ≠ ⊤) (h1 : ∃ k, s k ≠ ⊥) :
    Rep (max m (Finset.univ.fold max ⊥ s))
      (Ideal.exp2 (m - max m (Finset.univ.fold max ⊥ s)) * l
        + ∑ k, Ideal.exp2 (s k - max m (Finset.univ.fold max ⊥ s)))
      (Ideal.exp2 (m - max m (Finset.univ.fold max ⊥ s)) * a
        + ∑ k, (v k : EReal) * Ideal.exp2 (s k - max m (Finset.univ.fold max ⊥ s)))
      (L + ∑ k, wt (s k)) (A + ∑ k, v k * wt (s k)) := by
  obtain ⟨β, hβ⟩ := fold_real s hs h1
  rw [hβ]
  obtain ⟨μ', hμ'⟩ : ∃ μ' : ℝ, max m (β : EReal) = μ' := by
    rcases h with ⟨rfl, -⟩ | ⟨μ, rfl, -⟩
    · exact ⟨β, max_eq_right bot_le⟩
    · rcases le_total μ β with h | h
      · exact ⟨β, max_eq_right (EReal.coe_le_coe_iff.2 h)⟩
      · exact ⟨μ, max_eq_left (EReal.coe_le_coe_iff.2 h)⟩
  rw [hμ']
  refine .inr ⟨μ', rfl, ?_, ?_⟩
  · have e : ∑ k, Ideal.exp2 (s k - μ') = ((Real.rpow 2 (-μ') * ∑ k, wt (s k) : ℝ) : EReal) := by
      rw [Finset.mul_sum, coe_sum]
      exact Finset.sum_congr rfl fun k _ => exp2_sub (s k) (hs k) μ'
    rw [e]
    rcases h with ⟨rfl, rfl, rfl, rfl, rfl⟩ | ⟨μ, rfl, rfl, rfl⟩
    · rw [mul_zero, zero_add, zero_add]
    · rw [exp2_sub _ (EReal.coe_ne_top μ), wt_coe, ← EReal.coe_mul, ← EReal.coe_add, mul_add]
      congr 2
      have := two_add μ (-μ)
      rw [add_neg_cancel] at this
      rw [show Real.rpow 2 0 = 1 from Real.rpow_zero 2] at this
      calc Real.rpow 2 (-μ') * Real.rpow 2 μ * (Real.rpow 2 (-μ) * L)
          = Real.rpow 2 (-μ') * L * (Real.rpow 2 μ * Real.rpow 2 (-μ)) := by ring
        _ = _ := by rw [← this, mul_one]
  · have e : ∑ k, (v k : EReal) * Ideal.exp2 (s k - μ') = ((Real.rpow 2 (-μ') * ∑ k, v k * wt (s k) : ℝ) : EReal) := by
      rw [Finset.mul_sum, coe_sum]
      refine Finset.sum_congr rfl fun k _ => ?_
      rw [exp2_sub (s k) (hs k) μ', ← EReal.coe_mul]
      congr 1; ring
    rw [e]
    rcases h with ⟨rfl, rfl, rfl, rfl, rfl⟩ | ⟨μ, rfl, rfl, rfl⟩
    · rw [mul_zero, zero_add, zero_add]
    · rw [exp2_sub _ (EReal.coe_ne_top μ), wt_coe, ← EReal.coe_mul, ← EReal.coe_add, mul_add]
      congr 2
      have := two_add μ (-μ)
      rw [add_neg_cancel] at this
      rw [show Real.rpow 2 0 = 1 from Real.rpow_zero 2] at this
      calc Real.rpow 2 (-μ') * Real.rpow 2 μ * (Real.rpow 2 (-μ) * A)
          = Real.rpow 2 (-μ') * A * (Real.rpow 2 μ * Real.rpow 2 (-μ)) := by ring
        _ = _ := by rw [← this, mul_one]

/-- The quotient of the running sums is the quotient of the plain sums. -/
theorem rep_div {m l a : EReal} {L A : ℝ} (h : Rep m l a L A) (hL : 0 < L) : Ideal.div a l = ((A / L : ℝ) : EReal) := by
  rcases h with ⟨-, -, -, rfl, -⟩ | ⟨μ, -, rfl, rfl⟩
  · exact absurd hL (lt_irrefl 0)
  · have hp := two_pos' (-μ)
    rw [Ideal.div_coe (mul_pos hp hL).ne', ← EReal.coe_mul]
    congr 1
    field_simp

/-- The plain softmax's average of real values `v` under scores `s`: the quotient of the same sums. -/
theorem softmax_eq {ι : Type*} [Fintype ι] (s : ι → EReal) (v : ι → ℝ) (hs : ∀ k, s k ≠ ⊤) (h1 : ∃ k, s k ≠ ⊥) :
    ∑ k, Ideal.div (Ideal.pow ((2 : ℝ) : EReal) (s k - Finset.univ.fold max ⊥ s))
        (∑ k', Ideal.pow ((2 : ℝ) : EReal) (s k' - Finset.univ.fold max ⊥ s)) * (v k : EReal)
      = (((∑ k, v k * wt (s k)) / ∑ k, wt (s k) : ℝ) : EReal) := by
  obtain ⟨μ, hμ⟩ := fold_real s hs h1
  rw [hμ]
  have e : ∑ k, Ideal.pow ((2 : ℝ) : EReal) (s k - μ) = ((Real.rpow 2 (-μ) * ∑ k, wt (s k) : ℝ) : EReal) := by
    rw [Finset.mul_sum, coe_sum]
    exact Finset.sum_congr rfl fun k _ => pow_sub (s k) (hs k) μ
  have hp := two_pos' (-μ)
  have hL : 0 < ∑ k, wt (s k) := by
    obtain ⟨k, hk⟩ := h1
    refine Finset.sum_pos' (fun k _ => wt_nonneg _) ⟨k, Finset.mem_univ k, ?_⟩
    rw [wt, if_neg hk]
    exact two_pos' _
  rw [e, Finset.sum_div, coe_sum]
  refine Finset.sum_congr rfl fun k _ => ?_
  rw [pow_sub (s k) (hs k) μ, Ideal.div_coe (mul_pos hp hL).ne', ← EReal.coe_mul, ← EReal.coe_mul]
  congr 1
  field_simp

/-- The plain base-2 softmax average of the values `v` under the scores `T`. -/
def soft (T v : Fin 4096 → EReal) : EReal :=
  ∑ k, Ideal.div (Ideal.pow ((2 : ℝ) : EReal) (T k - Finset.univ.fold max ⊥ T))
    (∑ k', Ideal.pow ((2 : ℝ) : EReal) (T k' - Finset.univ.fold max ⊥ T)) * v k

/-- The plain sum of a block of 512 terms onto the sum of the terms before it. -/
theorem sum_block (w : ℕ → ℝ) (n : ℕ) :
    ∑ k ∈ Finset.range (512 * (n + 1)), w k = ∑ k ∈ Finset.range (512 * n), w k + ∑ k : Fin 512, w (512 * n + k) := by
  rw [Nat.mul_add, Nat.mul_one, Finset.sum_range_add, Finset.sum_range (n := 512)]

/-- Terms that are zero from `n` on do not count. -/
theorem sum_tail (w : ℕ → ℝ) (n N : ℕ) (h : n ≤ N) (hw : ∀ k, n ≤ k → w k = 0) :
    ∑ k ∈ Finset.range n, w k = ∑ k : Fin N, w k := by
  rw [← Finset.sum_range (f := w) (n := N)]
  refine Finset.sum_subset (fun k hk => ?_) (fun k _ hk => hw k ?_)
  · rw [Finset.mem_range] at hk ⊢; omega
  · rw [Finset.mem_range] at hk; omega

end AttMath

end
-- ==== Proof.AttBlock.lean ====
/- What one grid point of the attention stores, entry by entry, over the extended reals. -/
module

public import proofs.«01_k».proof.Proof.AttTripI
public import proofs.«01_k».proof.Proof.AttMath
public import Idealize.ShloMosaic.Lib.WordCmp

@[expose] public section

set_option maxRecDepth 16384

noncomputable section

open Idealize.ShloMosaic Idealize.ShloMosaic.TcCoe Idealize.SL.Sem
namespace Cert.Kernel3Ideal.AttBlock
open Cert.Kernel3Ideal Cert.Kernel3Ideal.Gen Cert.Kernel3Ideal.Att AttMath WordCmp

theorem ninf : Ideal.ofBits .f32 0xFF800000#32 = (⊥ : EReal) := by simp [Ideal.ofBits, Ideal.ieee]

theorem and_one (x y : BitVec 1) : IntOp.andi x y = 1 ↔ x = 1 ∧ y = 1 := by revert x y; decide

/-- The maximum after a column of scores `s`. -/
def nm (m : EReal) (s : Fin 512 → EReal) : EReal := max m (Finset.univ.fold max ⊥ s)

/-- The weight sum after a column of scores `s`. -/
def nl (m l : EReal) (s : Fin 512 → EReal) : EReal := Ideal.exp2 (m - nm m s) * l + ∑ k, Ideal.exp2 (s k - nm m s)

/-- The weighted value sum after a column of scores `s` and values `v`. -/
def na (m a : EReal) (s v : Fin 512 → EReal) : EReal :=
  Ideal.exp2 (m - nm m s) * a + ∑ k, v k * Ideal.exp2 (s k - nm m s)

/-- The new maximum of query column `q`. -/
theorem pay292_at (m : FVec Ideal S1x1024 .f32) (s : FVec Ideal S1x512x1024 .f32) (q : Fin 1024) :
    k0_pay292 (F := Ideal) m s (ix2 0 q) = nm (m (ix2 0 q)) fun k => s (ix3 0 k q) := by
  pointwise [k0_pay292, k0_pay290]
  rw [ninf]; rfl

theorem pay293_at (m : FVec Ideal S1x1024 .f32) (s : FVec Ideal S1x512x1024 .f32) (q : Fin 1024) :
    k0_pay293 (F := Ideal) m s (ix2 0 q) = Ideal.exp2 (m (ix2 0 q) - nm (m (ix2 0 q)) fun k => s (ix3 0 k q)) := by
  pointwise [k0_pay293]
  rw [pay292_at]; rfl

theorem pay294_at (m : FVec Ideal S1x1024 .f32) (s : FVec Ideal S1x512x1024 .f32) (k : Fin 512) (q : Fin 1024) :
    k0_pay294 (F := Ideal) m s (ix2 k q)
      = Ideal.exp2 (s (ix3 0 k q) - nm (m (ix2 0 q)) fun k => s (ix3 0 k q)) := by
  pointwise [k0_pay294, k0_pay290]
  rw [pay292_at]; rfl

theorem pay291_at (v : FVec Ideal S1x1x64x512 .bf16) (d : Fin 64) (k : Fin 512) :
    k0_pay291 (F := Ideal) v (ix2 d k) = v (ix4 0 0 d k) := by
  pointwise [k0_pay291]

/-- One step's running maximum at a query column. -/
theorem step_m (st : St Ideal) (s : FVec Ideal S1x512x1024 .f32) (v : FVec Ideal S1x1x64x512 .bf16) (q : Fin 1024) :
    (stepF st s v).1 (ix2 0 q) = nm (st.1 (ix2 0 q)) fun k => s (ix3 0 k q) := pay292_at ..

/-- One step's weight sum at a query column. -/
theorem step_l (st : St Ideal) (s : FVec Ideal S1x512x1024 .f32) (v : FVec Ideal S1x1x64x512 .bf16) (q : Fin 1024) :
    (stepF st s v).2.1 (ix2 0 q) = nl (st.1 (ix2 0 q)) (st.2.1 (ix2 0 q)) fun k => s (ix3 0 k q) := by
  show k0_pay295 (F := Ideal) _ _ _ _ = _
  pointwise [k0_pay295]
  simp only [pay293_at, pay294_at]
  rfl

/-- One step's weighted value sum at a query column and a value lane. -/
theorem step_a (st : St Ideal) (s : FVec Ideal S1x512x1024 .f32) (v : FVec Ideal S1x1x64x512 .bf16) (d : Fin 64) (q : Fin 1024) :
    (stepF st s v).2.2 (ix2 d q)
      = na (st.1 (ix2 0 q)) (st.2.2 (ix2 d q)) (fun k => s (ix3 0 k q)) fun k => v (ix4 0 0 d k) := by
  show k0_pay296 (F := Ideal) _ _ _ _ _ = _
  pointwise [k0_pay296]
  simp only [pay291_at, pay293_at, pay294_at]
  rfl

/-- The score of key row `r` of a block against query column `q` of a 256-row query array. -/
def sc (x : FVec Ideal S256x1024 .bf16) (kb k : FVec Ideal S1x512x128 .bf16) (r : Fin 512) (q : Fin 1024) : EReal :=
  (∑ i : Fin 128, k (ix3 0 r i) * x (ix2 ⟨i, by omega⟩ q))
    + ∑ i : Fin 128, (if 8 ≤ (i : ℕ) ∧ (i : ℕ) < 14 then 1 else kb (ix3 0 r i)) * x (ix2 ⟨128 + i, by omega⟩ q)

theorem cmp (n : ℕ) (hn : n < 2 ^ 31) (b : ℕ) (hb : b < 2 ^ 31) :
    (IntOp.cmpi .sge (BitVec.ofNat 32 n) (BitVec.ofNat 32 b) = 1 ↔ b ≤ n)
      ∧ (IntOp.cmpi .slt (BitVec.ofNat 32 n) (BitVec.ofNat 32 b) = 1 ↔ n < b) :=
  ⟨cmpi_sge_ofNat_eq_one_iff hn hb, cmpi_slt_ofNat_eq_one_iff hn hb⟩

theorem sel284 (r : Fin 512) (c : Fin 128) (a b : EReal) :
    Scalar.select (k0_pay284 (ix2 r c)) a b = if 8 ≤ (c : ℕ) ∧ (c : ℕ) < 14 then a else b := by
  have h : k0_pay284 (ix2 r c) = 1 ↔ 8 ≤ (c : ℕ) ∧ (c : ℕ) < 14 := by
    pointwise [k0_pay284]
    rw [and_one]
    exact and_congr (cmp c (by omega) 8 (by omega)).1 (cmp c (by omega) 14 (by omega)).2
  simp only [Scalar.select, h]

theorem sel285 (r c : Fin 512) (a b : EReal) :
    Scalar.select (k0_pay285 (ix2 r c)) a b = if (r : ℕ) ≤ c then a else b := by
  have h : k0_pay285 (ix2 r c) = 1 ↔ (r : ℕ) ≤ c := by
    pointwise [k0_pay285]
    exact cmpi_sle_ofNat_eq_one_iff (w := 32) (show (r : ℕ) < 2 ^ 31 by omega) (show (c : ℕ) < 2 ^ 31 by omega)
  simp only [Scalar.select, h]

theorem one_eq : (one : Ideal .bf16) = (1 : EReal) := by
  show Ideal.ofBits .bf16 0x3F80#16 = 1
  simp only [pointwise]

theorem score_at (x : FVec Ideal S256x1024 .bf16) (kb k : FVec Ideal S1x512x128 .bf16) (r : Fin 512) (q : Fin 1024) :
    scoreF (F := Ideal) k0_pay284 one x kb k (ix3 0 r q) = sc x kb k r q := by
  rw [scoreF, one_eq]
  pointwise [k0_pay289]
  simp only [sel284]
  rfl

theorem pay478_at (x : FVec Ideal S256x1024 .bf16) (kb k : FVec Ideal S1x512x128 .bf16) (r c : Fin 512) :
    k0_pay478 (F := Ideal) k0_pay284 x kb k (ix2 r c) = sc x kb k r ⟨512 + c, by omega⟩ := by
  pointwise [k0_pay478]
  simp only [sel284]
  rfl

theorem pay508_at (x : FVec Ideal S256x1024 .bf16) (kb k : FVec Ideal S1x512x128 .bf16) (r c : Fin 512) :
    k0_pay508 (F := Ideal) k0_pay284 x kb k (ix2 r c) = sc x kb k r ⟨512 + c, by omega⟩ := by
  pointwise [k0_pay508]
  simp only [sel284]
  rfl

theorem q0_at (x0 x1 : FVec Ideal S1x128x1024 .bf16) (i : Fin 256) (q : Fin 1024) :
    q0 (F := Ideal) x0 x1 (ix2 i q)
      = if h : (i : ℕ) < 128 then (if (i : ℕ) < 64 then x0 (ix3 0 ⟨i, h⟩ q) else 0)
        else if (i : ℕ) - 128 < 3 then 1
          else if 8 ≤ (i : ℕ) - 128 ∧ (i : ℕ) - 128 < 11 then x1 (ix3 0 ⟨i - 128, by omega⟩ q) else 0 := by
  rw [q0]
  pointwise [k0_pay286, k0_pay282, k0_pay283]
  by_cases h : (i : ℕ) < 128
  · rw [dif_pos h, dif_pos h]
    simp only [Scalar.select, and_one, (cmp i (by omega) 0 (by omega)).1, (cmp i (by omega) 64 (by omega)).2, Nat.zero_le, true_and]
  · rw [dif_neg h, dif_neg h]
    simp only [Scalar.select, and_one, (cmp (i - 128) (by omega) 0 (by omega)).1, (cmp (i - 128) (by omega) 3 (by omega)).2,
      (cmp (i - 128) (by omega) 8 (by omega)).1, (cmp (i - 128) (by omega) 11 (by omega)).2, Nat.zero_le, true_and]

theorem q1_at (x0 x1 : FVec Ideal S1x128x1024 .bf16) (i : Fin 256) (q : Fin 1024) :
    q1 (F := Ideal) x0 x1 (ix2 i q)
      = if h : (i : ℕ) < 128 then (if 64 ≤ (i : ℕ) then x0 (ix3 0 ⟨i, h⟩ q) else 0)
        else if 3 ≤ (i : ℕ) - 128 ∧ (i : ℕ) - 128 < 6 then 1
          else if 11 ≤ (i : ℕ) - 128 ∧ (i : ℕ) - 128 < 14 then x1 (ix3 0 ⟨i - 128, by omega⟩ q) else 0 := by
  rw [q1]
  pointwise [k0_pay451, k0_pay282, k0_pay283, k0_pay287]
  by_cases h : (i : ℕ) < 128
  · rw [dif_pos h, dif_pos h]
    simp only [Scalar.select, and_one, (cmp i (by omega) 64 (by omega)).1, (cmp i (by omega) 128 (by omega)).2, h, and_true]
  · rw [dif_neg h, dif_neg h]
    simp only [Scalar.select, and_one, (cmp (i - 128) (by omega) 3 (by omega)).1, (cmp (i - 128) (by omega) 6 (by omega)).2,
      (cmp (i - 128) (by omega) 11 (by omega)).1, (cmp (i - 128) (by omega) 14 (by omega)).2]

theorem mask_eq : (Named.named Cert.Kernel3Ideal.κ "mask" 0xF149F2CA#32 : Ideal .f32) = (⊥ : EReal) := rfl

theorem fold_bot (s : Fin 512 → EReal) : Finset.univ.fold max (Ideal.ofBits .f32 0xFF800000#32) s = Finset.univ.fold max ⊥ s := by
  rw [ninf]

/-- The diagonal block's scores at query column `q`: the first 512 columns keep rows up to their own. -/
def dsc (s : FVec Ideal S1x512x1024 .f32) (q : Fin 1024) (k : Fin 512) : EReal :=
  if (q : ℕ) < 512 then (if (k : ℕ) ≤ q then s (ix3 0 k q) else ⊥) else s (ix3 0 k q)

theorem pay479_at (s : FVec Ideal S1x512x1024 .f32) (k : Fin 512) (q : Fin 1024) :
    k0_pay479 (F := Ideal) k0_pay285 s (ix2 k q) = dsc s q k := by
  pointwise [k0_pay479]
  by_cases h : (q : ℕ) < 512
  · rw [dif_pos h, dsc, if_pos h, sel285, mask_eq]
  · rw [dif_neg h, dsc, if_neg h]
    exact congrArg (fun c => s (ix3 0 k c)) (Fin.ext (show 512 + ((q : ℕ) - 512) = q by omega))

theorem pay509_at (s : FVec Ideal S1x512x1024 .f32) (k : Fin 512) (q : Fin 1024) :
    k0_pay509 (F := Ideal) k0_pay285 s (ix2 k q) = dsc s q k := by
  pointwise [k0_pay509]
  by_cases h : (q : ℕ) < 512
  · rw [dif_pos h, dsc, if_pos h, sel285, mask_eq]
  · rw [dif_neg h, dsc, if_neg h]
    exact congrArg (fun c => s (ix3 0 k c)) (Fin.ext (show 512 + ((q : ℕ) - 512) = q by omega))

theorem pay481_at (m : FVec Ideal S1x1024 .f32) (s : FVec Ideal S1x512x1024 .f32) (q : Fin 1024) :
    k0_pay481 (F := Ideal) k0_pay285 m s (ix2 0 q) = nm (m (ix2 0 q)) (dsc s q) := by
  pointwise [k0_pay481]
  simp only [pay479_at, fold_bot]
  rfl

theorem pay482_at (m : FVec Ideal S1x1024 .f32) (s : FVec Ideal S1x512x1024 .f32) (q : Fin 1024) :
    k0_pay482 (F := Ideal) k0_pay285 m s (ix2 0 q) = Ideal.exp2 (m (ix2 0 q) - nm (m (ix2 0 q)) (dsc s q)) := by
  pointwise [k0_pay482]
  simp only [pay481_at]
  rfl

theorem pay483_at (m : FVec Ideal S1x1024 .f32) (s : FVec Ideal S1x512x1024 .f32) (k : Fin 512) (q : Fin 1024) :
    k0_pay483 (F := Ideal) k0_pay285 m s (ix2 k q) = Ideal.exp2 (dsc s q k - nm (m (ix2 0 q)) (dsc s q)) := by
  pointwise [k0_pay483]
  simp only [pay481_at, pay479_at]
  rfl

theorem pay484_at (m l : FVec Ideal S1x1024 .f32) (s : FVec Ideal S1x512x1024 .f32) (q : Fin 1024) :
    k0_pay484 (F := Ideal) k0_pay285 m l s (ix2 0 q) = nl (m (ix2 0 q)) (l (ix2 0 q)) (dsc s q) := by
  pointwise [k0_pay484]
  simp only [pay482_at, pay483_at]
  rfl

theorem pay485_at (m : FVec Ideal S1x1024 .f32) (a : FVec Ideal S64x1024 .f32) (s : FVec Ideal S1x512x1024 .f32) (d : Fin 64) (q : Fin 1024) :
    k0_pay485 (F := Ideal) k0_pay285 m a s (ix2 d q) = Ideal.exp2 (m (ix2 0 q) - nm (m (ix2 0 q)) (dsc s q)) * a (ix2 d q) := by
  pointwise [k0_pay485]
  simp only [pay482_at]

theorem pay486_at (m : FVec Ideal S1x1024 .f32) (s : FVec Ideal S1x512x1024 .f32) (k : Fin 512) (q : Fin 1024) :
    k0_pay486 (F := Ideal) k0_pay285 m s (ix2 k q) = Ideal.exp2 (dsc s q k - nm (m (ix2 0 q)) (dsc s q)) := by
  pointwise [k0_pay486]
  simp only [pay483_at]

theorem pay480_at (v : FVec Ideal S1x1x64x512 .bf16) (d : Fin 64) (k : Fin 512) :
    k0_pay480 (F := Ideal) v (ix2 d k) = v (ix4 0 0 d k) := by
  pointwise [k0_pay480]

/-- The second diagonal block's scores at query column `q` of the second half. -/
def esc (x : FVec Ideal S256x1024 .bf16) (kb k : FVec Ideal S1x512x128 .bf16) (q : Fin 1024) (r : Fin 512) : EReal :=
  if (r : ℕ) ≤ (q : ℕ) - 512 then sc x kb k r q else ⊥

/-- The first head's row at a query column of the first half. -/
theorem fin0_lo (x : FVec Ideal S256x1024 .bf16) (st : St Ideal) (s : FVec Ideal S1x512x1024 .f32)
    (kb k : FVec Ideal S1x512x128 .bf16) (vA vB : FVec Ideal S1x1x64x512 .bf16) (d : Fin 64) (q : Fin 1024) (hq : (q : ℕ) < 512) :
    fin0 (F := Ideal) x st s kb k vA vB (ix2 d q)
      = Ideal.div (na (st.1 (ix2 0 q)) (st.2.2 (ix2 d q)) (dsc s q) fun k => vA (ix4 0 0 d k))
          (nl (st.1 (ix2 0 q)) (st.2.1 (ix2 0 q)) (dsc s q)) := by
  rw [fin0]
  pointwise [k0_pay487]
  rw [dif_pos hq, dif_pos hq]
  simp only [pay484_at, pay485_at, pay486_at, pay480_at]
  rfl

/-- The first head's row at a query column of the second half. -/
theorem fin0_hi (x : FVec Ideal S256x1024 .bf16) (st : St Ideal) (s : FVec Ideal S1x512x1024 .f32)
    (kb k : FVec Ideal S1x512x128 .bf16) (vA vB : FVec Ideal S1x1x64x512 .bf16) (d : Fin 64) (q : Fin 1024) (hq : ¬ (q : ℕ) < 512) :
    fin0 (F := Ideal) x st s kb k vA vB (ix2 d q)
      = Ideal.div (na (nm (st.1 (ix2 0 q)) (dsc s q)) (na (st.1 (ix2 0 q)) (st.2.2 (ix2 d q)) (dsc s q) fun k => vA (ix4 0 0 d k))
            (esc x kb k q) fun k => vB (ix4 0 0 d k))
          (nl (nm (st.1 (ix2 0 q)) (dsc s q)) (nl (st.1 (ix2 0 q)) (st.2.1 (ix2 0 q)) (dsc s q))
            (esc x kb k q)) := by
  rw [fin0]
  pointwise [k0_pay487]
  rw [dif_neg hq, dif_neg hq]
  simp only [pay481_at, pay484_at, pay485_at, pay486_at, pay480_at, sel285, pay478_at, fold_bot, mask_eq]
  have hc : ∀ h, (⟨512 + ((q : ℕ) - 512), h⟩ : Fin 1024) = q := fun _ => Fin.ext (show 512 + ((q : ℕ) - 512) = q by omega)
  simp only [hc]
  rfl

theorem pay510_at (m : FVec Ideal S1x1024 .f32) (s : FVec Ideal S1x512x1024 .f32) (q : Fin 1024) :
    k0_pay510 (F := Ideal) m (k0_pay509 k0_pay285 s) (ix2 0 q) = nm (m (ix2 0 q)) (dsc s q) := by
  pointwise [k0_pay510]
  simp only [pay509_at, fold_bot]
  rfl

theorem pay511_at (m : FVec Ideal S1x1024 .f32) (s : FVec Ideal S1x512x1024 .f32) (q : Fin 1024) :
    k0_pay511 (F := Ideal) m (k0_pay509 k0_pay285 s) (ix2 0 q) = Ideal.exp2 (m (ix2 0 q) - nm (m (ix2 0 q)) (dsc s q)) := by
  pointwise [k0_pay511]
  simp only [pay510_at]
  rfl

theorem pay512_at (m : FVec Ideal S1x1024 .f32) (s : FVec Ideal S1x512x1024 .f32) (k : Fin 512) (q : Fin 1024) :
    k0_pay512 (F := Ideal) m (k0_pay509 k0_pay285 s) (ix2 k q) = Ideal.exp2 (dsc s q k - nm (m (ix2 0 q)) (dsc s q)) := by
  pointwise [k0_pay512]
  simp only [pay510_at, pay509_at]
  rfl

theorem pay513_at (m : FVec Ideal S1x1024 .f32) (s : FVec Ideal S1x512x1024 .f32) (c : Fin 512) :
    k0_pay513 (F := Ideal) m (k0_pay509 k0_pay285 s) (ix2 0 c)
      = nm (m (ix2 0 ⟨512 + c, by omega⟩)) (dsc s ⟨512 + c, by omega⟩) := by
  pointwise [k0_pay513]
  simp only [pay510_at]

theorem pay514_at (x : FVec Ideal S256x1024 .bf16) (kb k : FVec Ideal S1x512x128 .bf16) (r c : Fin 512) :
    k0_pay514 (F := Ideal) k0_pay285 (k0_pay508 k0_pay284 x kb k) (ix2 r c) = esc x kb k ⟨512 + c, by omega⟩ r := by
  pointwise [k0_pay514]
  simp only [sel285, pay508_at, mask_eq, esc, Nat.add_sub_cancel_left]

theorem pay515_at (x : FVec Ideal S256x1024 .bf16) (kb k : FVec Ideal S1x512x128 .bf16) (m : FVec Ideal S1x1024 .f32)
    (s : FVec Ideal S1x512x1024 .f32) (c : Fin 512) :
    k0_pay515 (F := Ideal) k0_pay285 m (k0_pay508 k0_pay284 x kb k) (k0_pay509 k0_pay285 s) (ix2 0 c)
      = nm (nm (m (ix2 0 ⟨512 + c, by omega⟩)) (dsc s ⟨512 + c, by omega⟩)) (esc x kb k ⟨512 + c, by omega⟩) := by
  pointwise [k0_pay515]
  simp only [pay513_at, pay514_at, fold_bot]
  rfl

theorem pay516_at (x : FVec Ideal S256x1024 .bf16) (kb k : FVec Ideal S1x512x128 .bf16) (m : FVec Ideal S1x1024 .f32)
    (s : FVec Ideal S1x512x1024 .f32) (c : Fin 512) :
    k0_pay516 (F := Ideal) k0_pay285 m (k0_pay508 k0_pay284 x kb k) (k0_pay509 k0_pay285 s) (ix2 0 c)
      = Ideal.exp2 (nm (m (ix2 0 ⟨512 + c, by omega⟩)) (dsc s ⟨512 + c, by omega⟩)
          - nm (nm (m (ix2 0 ⟨512 + c, by omega⟩)) (dsc s ⟨512 + c, by omega⟩)) (esc x kb k ⟨512 + c, by omega⟩)) := by
  pointwise [k0_pay516]
  simp only [pay513_at, pay515_at]
  rfl

theorem pay517_at (x : FVec Ideal S256x1024 .bf16) (kb k : FVec Ideal S1x512x128 .bf16) (m : FVec Ideal S1x1024 .f32)
    (s : FVec Ideal S1x512x1024 .f32) (r c : Fin 512) :
    k0_pay517 (F := Ideal) k0_pay285 m (k0_pay508 k0_pay284 x kb k) (k0_pay509 k0_pay285 s) (ix2 r c)
      = Ideal.exp2 (esc x kb k ⟨512 + c, by omega⟩ r
          - nm (nm (m (ix2 0 ⟨512 + c, by omega⟩)) (dsc s ⟨512 + c, by omega⟩)) (esc x kb k ⟨512 + c, by omega⟩)) := by
  pointwise [k0_pay517]
  simp only [pay514_at, pay515_at]
  rfl

/-- The second head's weight sum at a query column of the first half. -/
theorem finL_lo (x : FVec Ideal S256x1024 .bf16) (st : St Ideal) (s : FVec Ideal S1x512x1024 .f32)
    (kb k : FVec Ideal S1x512x128 .bf16) (q : Fin 1024) (hq : (q : ℕ) < 512) :
    finL (F := Ideal) x st s kb k (ix2 0 q) = nl (st.1 (ix2 0 q)) (st.2.1 (ix2 0 q)) (dsc s q) := by
  rw [finL]
  pointwise [k0_pay518]
  rw [dif_pos hq]
  simp only [pay511_at, pay512_at]
  rfl

/-- The second head's weight sum at a query column of the second half. -/
theorem finL_hi (x : FVec Ideal S256x1024 .bf16) (st : St Ideal) (s : FVec Ideal S1x512x1024 .f32)
    (kb k : FVec Ideal S1x512x128 .bf16) (q : Fin 1024) (hq : ¬ (q : ℕ) < 512) :
    finL (F := Ideal) x st s kb k (ix2 0 q)
      = nl (nm (st.1 (ix2 0 q)) (dsc s q)) (nl (st.1 (ix2 0 q)) (st.2.1 (ix2 0 q)) (dsc s q)) (esc x kb k q) := by
  rw [finL]
  pointwise [k0_pay518]
  rw [dif_neg hq]
  simp only [pay511_at, pay512_at, pay516_at, pay517_at]
  have hc : ∀ h, (⟨512 + ((q : ℕ) - 512), h⟩ : Fin 1024) = q := fun _ => Fin.ext (show 512 + ((q : ℕ) - 512) = q by omega)
  simp only [hc]
  rfl

/-- The second head's weighted sum at a query column of the first half. -/
theorem finA_lo (x : FVec Ideal S256x1024 .bf16) (st : St Ideal) (s : FVec Ideal S1x512x1024 .f32)
    (kb k : FVec Ideal S1x512x128 .bf16) (vA vB : FVec Ideal S1x1x64x512 .bf16) (d : Fin 64) (q : Fin 1024) (hq : (q : ℕ) < 512) :
    finA (F := Ideal) x st s kb k vA vB (ix2 d q)
      = na (st.1 (ix2 0 q)) (st.2.2 (ix2 d q)) (dsc s q) fun k => vA (ix4 0 0 d k) := by
  rw [finA]
  pointwise [k0_pay519]
  rw [dif_pos hq]
  simp only [pay511_at, pay512_at]
  rfl

/-- The second head's weighted sum at a query column of the second half. -/
theorem finA_hi (x : FVec Ideal S256x1024 .bf16) (st : St Ideal) (s : FVec Ideal S1x512x1024 .f32)
    (kb k : FVec Ideal S1x512x128 .bf16) (vA vB : FVec Ideal S1x1x64x512 .bf16) (d : Fin 64) (q : Fin 1024) (hq : ¬ (q : ℕ) < 512) :
    finA (F := Ideal) x st s kb k vA vB (ix2 d q)
      = na (nm (st.1 (ix2 0 q)) (dsc s q)) (na (st.1 (ix2 0 q)) (st.2.2 (ix2 d q)) (dsc s q) fun k => vA (ix4 0 0 d k))
          (esc x kb k q) fun k => vB (ix4 0 0 d k) := by
  rw [finA]
  pointwise [k0_pay519]
  rw [dif_neg hq]
  simp only [pay511_at, pay512_at, pay516_at, pay517_at]
  have hc : ∀ h, (⟨512 + ((q : ℕ) - 512), h⟩ : Fin 1024) = q := fun _ => Fin.ext (show 512 + ((q : ℕ) - 512) = q by omega)
  simp only [hc]
  rfl

/-- The two heads' rows side by side, the second still to be divided. -/
theorem pay6_at (o : FVec Ideal S64x1024 .f32) (l : FVec Ideal S1x1024 .f32) (a : FVec Ideal S64x1024 .f32) (q : Fin 1024) (D : Fin 128) :
    k0_pay6 (F := Ideal) o l a (ix3 0 q D)
      = if h : (D : ℕ) < 64 then o (ix2 ⟨D, h⟩ q)
        else Ideal.div (a (ix2 ⟨D - 64, by omega⟩ q)) (l (ix2 0 q)) := by
  pointwise [k0_pay6]

end Cert.Kernel3Ideal.AttBlock

end
-- ==== Proof.AttOut.lean ====
/- The tile that one grid point of the attention stores is the softmax average of the values, at finite inputs. -/
module

public import proofs.«01_k».proof.Proof.AttBlock
public import proofs.«01_k».proof.Proof.RowMath

@[expose] public section

set_option maxRecDepth 16384

noncomputable section

open Idealize.ShloMosaic Idealize.ShloMosaic.TcCoe Idealize.SL.Sem
namespace Cert.Kernel3Ideal.AttOut
open Cert.Kernel3Ideal Cert.Kernel3Ideal.Gen Cert.Kernel3Ideal.Att Cert.Kernel3Ideal.AttBlock AttMath

/-- An extended real that is a real number. -/
def IsR (e : EReal) : Prop := ∃ r : ℝ, e = r

theorem IsR.ne_top {e : EReal} (h : IsR e) : e ≠ ⊤ := by obtain ⟨r, rfl⟩ := h; exact EReal.coe_ne_top r
theorem IsR.ne_bot {e : EReal} (h : IsR e) : e ≠ ⊥ := by obtain ⟨r, rfl⟩ := h; exact EReal.coe_ne_bot r
theorem IsR.add {a b : EReal} (ha : IsR a) (hb : IsR b) : IsR (a + b) := by
  obtain ⟨r, rfl⟩ := ha; obtain ⟨s, rfl⟩ := hb; exact ⟨r + s, (EReal.coe_add r s).symm⟩
theorem IsR.mul {a b : EReal} (ha : IsR a) (hb : IsR b) : IsR (a * b) := by
  obtain ⟨r, rfl⟩ := ha; obtain ⟨s, rfl⟩ := hb; exact ⟨r * s, (EReal.coe_mul r s).symm⟩
theorem IsR.sum {n : ℕ} {f : Fin n → EReal} (h : ∀ i, IsR (f i)) : IsR (∑ i, f i) := by
  choose g hg using h
  exact ⟨∑ i, g i, by rw [coe_sum]; exact Finset.sum_congr rfl fun i _ => hg i⟩
theorem IsR.coe_toReal {e : EReal} (h : IsR e) : ((e.toReal : ℝ) : EReal) = e := EReal.coe_toReal h.ne_top h.ne_bot

/-- A head's score of key `k` against query column `q`: the product of the head's lanes and the two biases, each the sum of
    three pieces. -/
def hs (x0 x1 : FVec Ideal S1x128x1024 .bf16) (x2 x3 : FVec Ideal S1x4096x128 .bf16) (hh : Fin 2) (k : Fin 4096) (q : Fin 1024) : EReal :=
  (∑ d : Fin 64, x2 (ix3 0 k ⟨64 * hh + d, by omega⟩) * x0 (ix3 0 ⟨64 * hh + d, by omega⟩ q))
    + ((∑ i : Fin 3, x3 (ix3 0 k ⟨3 * hh + i, by omega⟩)) + ∑ i : Fin 3, x1 (ix3 0 ⟨8 + 3 * hh + i, by omega⟩ q))

theorem kblk_at (x : FVec Ideal S1x4096x128 .bf16) (j : ℕ) (hj : j < 8) (r : Fin 512) (i : Fin 128) :
    kblk (F := Ideal) (e := .bf16) x j (ix3 0 r i) = x (ix3 0 ⟨512 * j + r, by omega⟩ i) := by
  show x _ = x _
  refine congrArg x (funext fun a => Fin.ext ?_)
  fin_cases a
  · rfl
  · show 512 * (j % 8) + 1 * (r : ℕ) = 512 * j + r
    rw [Nat.mod_eq_of_lt hj, Nat.one_mul]
  · show 0 + 1 * (i : ℕ) = i
    omega

theorem vblk_at (x : FVec Ideal S1x8x128x512 .bf16) (hh : Fin 2) (j : ℕ) (hj : j < 8) (d : Fin 64) (r : Fin 512) :
    vblk (F := Ideal) x hh j (ix4 0 0 d r) = x (ix4 0 ⟨j, hj⟩ ⟨64 * hh + d, by omega⟩ r) := by
  show x _ = x _
  refine congrArg x (funext fun a => Fin.ext ?_)
  fin_cases a
  · rfl
  · show j % 8 + 1 * 0 = j
    rw [Nat.mod_eq_of_lt hj]; omega
  · show 64 * (hh : ℕ) + 1 * (d : ℕ) = 64 * hh + d
    omega
  · show 0 + 1 * (r : ℕ) = r
    omega

theorem sc_eq (x : FVec Ideal S256x1024 .bf16) (x0 x1 : FVec Ideal S1x128x1024 .bf16) (hh : Fin 2) (q : Fin 1024)
    (hlo : ∀ i : Fin 128, x (ix2 ⟨i, by omega⟩ q) = if 64 * (hh : ℕ) ≤ i ∧ (i : ℕ) < 64 * hh + 64 then x0 (ix3 0 i q) else 0)
    (hhi : ∀ i : Fin 128, x (ix2 ⟨128 + i, by omega⟩ q) = if 3 * (hh : ℕ) ≤ i ∧ (i : ℕ) < 3 * hh + 3 then 1
      else if 8 + 3 * (hh : ℕ) ≤ i ∧ (i : ℕ) < 8 + 3 * hh + 3 then x1 (ix3 0 i q) else 0)
    (x2 x3 : FVec Ideal S1x4096x128 .bf16) (j : ℕ) (hj : j < 8) (r : Fin 512) :
    sc x (kblk (F := Ideal) (e := .bf16) x3 j) (kblk (F := Ideal) (e := .bf16) x2 j) r q
      = hs x0 x1 x2 x3 hh ⟨512 * j + r, by omega⟩ q := by
  have h2 := hh.isLt
  unfold sc hs
  simp only [kblk_at _ j hj, hlo, hhi]
  congr 1
  · rw [RowMath.sum_window 64 (64 * hh) (by omega)]
    · refine Finset.sum_congr rfl fun d _ => ?_
      rw [if_pos ⟨Nat.le_add_right .., Nat.add_lt_add_left d.isLt _⟩]
    · intro i hi
      rw [if_neg hi, mul_zero]
  · rw [show (∑ i : Fin 128, (if 8 ≤ (i : ℕ) ∧ (i : ℕ) < 14 then 1 else x3 (ix3 0 ⟨512 * j + r, by omega⟩ i))
          * (if 3 * (hh : ℕ) ≤ i ∧ (i : ℕ) < 3 * hh + 3 then 1
              else if 8 + 3 * (hh : ℕ) ≤ i ∧ (i : ℕ) < 8 + 3 * hh + 3 then x1 (ix3 0 i q) else 0))
        = ∑ i : Fin 128, ((if 3 * (hh : ℕ) ≤ i ∧ (i : ℕ) < 3 * hh + 3 then x3 (ix3 0 ⟨512 * j + r, by omega⟩ i) else 0)
            + if 8 + 3 * (hh : ℕ) ≤ i ∧ (i : ℕ) < 8 + 3 * hh + 3 then x1 (ix3 0 i q) else 0) from
        Finset.sum_congr rfl fun i _ => ?_]
    · rw [Finset.sum_add_distrib]
      congr 1
      · rw [RowMath.sum_window 3 (3 * hh) (by omega)]
        · refine Finset.sum_congr rfl fun d _ => ?_
          rw [if_pos ⟨Nat.le_add_right .., Nat.add_lt_add_left d.isLt _⟩]
        · intro i hi; rw [if_neg hi]
      · rw [RowMath.sum_window 3 (8 + 3 * hh) (by omega)]
        · refine Finset.sum_congr rfl fun d _ => ?_
          rw [if_pos ⟨Nat.le_add_right .., Nat.add_lt_add_left d.isLt _⟩]
        · intro i hi; rw [if_neg hi]
    · by_cases h3 : 3 * (hh : ℕ) ≤ i ∧ (i : ℕ) < 3 * hh + 3
      · rw [if_neg (by omega), if_pos h3, if_pos h3, if_neg (by omega), mul_one, add_zero]
      · rw [if_neg h3, if_neg h3, zero_add]
        by_cases h8 : 8 + 3 * (hh : ℕ) ≤ i ∧ (i : ℕ) < 8 + 3 * hh + 3
        · rw [if_pos (by omega), if_pos h8, one_mul]
        · rw [if_neg h8, mul_zero]

theorem sc0 (x0 x1 : FVec Ideal S1x128x1024 .bf16) (q : Fin 1024) (x2 x3 : FVec Ideal S1x4096x128 .bf16) (j : ℕ) (hj : j < 8) (r : Fin 512) :
    sc (q0 (F := Ideal) x0 x1) (kblk (F := Ideal) (e := .bf16) x3 j) (kblk (F := Ideal) (e := .bf16) x2 j) r q
      = hs x0 x1 x2 x3 0 ⟨512 * j + r, by omega⟩ q := by
  refine sc_eq _ x0 x1 0 q (fun i => ?_) (fun i => ?_) x2 x3 j hj r
  · rw [q0_at, dif_pos (show ((⟨i, by omega⟩ : Fin 256) : ℕ) < 128 from i.isLt)]
    show (if (i : ℕ) < 64 then _ else _) = if 64 * 0 ≤ (i : ℕ) ∧ (i : ℕ) < 64 * 0 + 64 then _ else _
    simp only [Nat.mul_zero, Nat.zero_le, true_and, Nat.zero_add]
  · rw [q0_at, dif_neg (show ¬ 128 + (i : ℕ) < 128 by omega)]
    have e : 128 + (i : ℕ) - 128 = i := Nat.add_sub_cancel_left ..
    simp only [e]
    show _ = if 3 * 0 ≤ (i : ℕ) ∧ (i : ℕ) < 3 * 0 + 3 then _ else if 8 + 3 * 0 ≤ (i : ℕ) ∧ (i : ℕ) < 8 + 3 * 0 + 3 then _ else _
    simp only [Nat.mul_zero, Nat.zero_le, true_and, Nat.zero_add, Nat.add_zero]

theorem sc1 (x0 x1 : FVec Ideal S1x128x1024 .bf16) (q : Fin 1024) (x2 x3 : FVec Ideal S1x4096x128 .bf16) (j : ℕ) (hj : j < 8) (r : Fin 512) :
    sc (q1 (F := Ideal) x0 x1) (kblk (F := Ideal) (e := .bf16) x3 j) (kblk (F := Ideal) (e := .bf16) x2 j) r q
      = hs x0 x1 x2 x3 1 ⟨512 * j + r, by omega⟩ q := by
  refine sc_eq _ x0 x1 1 q (fun i => ?_) (fun i => ?_) x2 x3 j hj r
  · rw [q1_at, dif_pos (show ((⟨i, by omega⟩ : Fin 256) : ℕ) < 128 from i.isLt)]
    have hi : (i : ℕ) < 64 * 1 + 64 := i.isLt
    show (if 64 ≤ (i : ℕ) then _ else _) = if 64 * 1 ≤ (i : ℕ) ∧ (i : ℕ) < 64 * 1 + 64 then _ else _
    simp only [hi, Nat.mul_one, and_true]
  · rw [q1_at, dif_neg (show ¬ 128 + (i : ℕ) < 128 by omega)]
    have e : 128 + (i : ℕ) - 128 = i := Nat.add_sub_cancel_left ..
    simp only [e]
    rfl

/-- One block of the online softmax, against the plain sums up to it. -/
theorem rep_blk {m l a : EReal} (T : ℕ → EReal) (V : ℕ → ℝ) (n : ℕ) (hT : ∀ k, T k ≠ ⊤)
    (h : Rep m l a (∑ k ∈ Finset.range (512 * n), wt (T k)) (∑ k ∈ Finset.range (512 * n), V k * wt (T k)))
    (s v : Fin 512 → EReal) (hs : ∀ r, s r = T (512 * n + r)) (hv : ∀ r, v r = V (512 * n + r)) (h0 : T (512 * n) ≠ ⊥) :
    Rep (nm m s) (nl m l s) (na m a s v) (∑ k ∈ Finset.range (512 * (n + 1)), wt (T k))
      (∑ k ∈ Finset.range (512 * (n + 1)), V k * wt (T k)) := by
  obtain rfl : s = fun r : Fin 512 => T (512 * n + r) := funext hs
  obtain rfl : v = fun r : Fin 512 => ((V (512 * n + r) : ℝ) : EReal) := funext hv
  rw [sum_block, sum_block]
  exact rep_step h (fun r : Fin 512 => T (512 * n + r)) (fun r => V (512 * n + r)) (fun r => hT _) ⟨0, h0⟩

section Column

variable (x : FVec Ideal S256x1024 .bf16) (x2 x3 : FVec Ideal S1x4096x128 .bf16) (x4 : FVec Ideal S1x8x128x512 .bf16) (hh : Fin 2)
  (q : Fin 1024) (d : Fin 64) (T : ℕ → EReal) (V : ℕ → ℝ) (n : ℕ) (hn : n + 1 < 8) (hT : ∀ k, T k ≠ ⊤)
  (hb : ∀ k, k ≤ 512 * n + q → T k ≠ ⊥) (ht : ∀ k, 512 * n + q < k → T k = ⊥)
  (hS : ∀ j (hj : j < 8) (r : Fin 512), 512 * j + r ≤ 512 * n + (q : ℕ) →
    sc x (kblk (F := Ideal) (e := .bf16) x3 j) (kblk (F := Ideal) (e := .bf16) x2 j) r q = T (512 * j + r))
  (hV : ∀ j (hj : j < 8) (r : Fin 512), vblk (F := Ideal) x4 hh j (ix4 0 0 d r) = V (512 * j + r))

include hn hT hb hS hV in
/-- The state after the first `k` whole blocks stands for the plain sums over them. -/
theorem seq_rep (k : ℕ) (hk : k ≤ n) :
    Rep ((seqS (F := Ideal) k0_pay284 one x x2 x3 x4 hh k).1 (ix2 0 q)) ((seqS (F := Ideal) k0_pay284 one x x2 x3 x4 hh k).2.1 (ix2 0 q))
      ((seqS (F := Ideal) k0_pay284 one x x2 x3 x4 hh k).2.2 (ix2 d q)) (∑ k ∈ Finset.range (512 * k), wt (T k))
      (∑ k ∈ Finset.range (512 * k), V k * wt (T k)) := by
  induction k with
  | zero =>
    have e1 : k0_pay454 (F := Ideal) (ix2 0 q) = ⊥ := by
      pointwise [k0_pay454]
      exact mask_eq
    have e2 : k0_pay452 (F := Ideal) (ix2 0 q) = 0 := by
      pointwise [k0_pay452]
    have e3 : k0_pay453 (F := Ideal) (ix2 d q) = 0 := by
      pointwise [k0_pay453]
    show Rep (k0_pay454 (F := Ideal) (ix2 0 q)) (k0_pay452 (F := Ideal) (ix2 0 q)) (k0_pay453 (F := Ideal) (ix2 d q)) _ _
    rw [e1, e2, e3, Nat.mul_zero, Finset.range_zero, Finset.sum_empty, Finset.sum_empty]
    exact rep_init
  | succ k ih =>
    have ih := ih (by omega)
    rw [seqS, step_m, step_l, step_a]
    refine rep_blk T V k hT ih _ _ (fun r => ?_) (fun r => hV k (by omega) r) (hb _ (by omega))
    rw [blkS, score_at]
    exact hS k (by omega) r (by omega)

/-- The closing quotient as the plain sums over all keys. -/
theorem div_all {m l a : EReal} (N : ℕ) (hN : N ≤ 4096) (hqN : 512 * n + (q : ℕ) < N)
    (hb : ∀ k, k ≤ 512 * n + q → T k ≠ ⊥) (ht : ∀ k, 512 * n + q < k → T k = ⊥) (hT : ∀ k, T k ≠ ⊤)
    (h : Rep m l a (∑ k ∈ Finset.range N, wt (T k)) (∑ k ∈ Finset.range N, V k * wt (T k))) :
    Ideal.div a l = soft (fun k => T k) (fun k => V k) := by
  rw [sum_tail (fun k => wt (T k)) N 4096 hN (fun k hk => by rw [ht k (by omega), wt_bot]),
    sum_tail (fun k => V k * wt (T k)) N 4096 hN (fun k hk => by rw [ht k (by omega), wt_bot, mul_zero])] at h
  have hL : 0 < ∑ k : Fin 4096, wt (T k) := by
    refine Finset.sum_pos' (fun k _ => wt_nonneg _) ⟨0, Finset.mem_univ _, ?_⟩
    show 0 < wt (T 0)
    rw [wt, if_neg (hb _ (Nat.zero_le _))]
    exact two_pos' _
  rw [rep_div h hL, soft, softmax_eq (fun k : Fin 4096 => T k) (fun k : Fin 4096 => V k) (fun k => hT k) ⟨0, hb _ (Nat.zero_le _)⟩]

include hn hT hb ht hS in
theorem dsc_eq (r : Fin 512) : dsc (blkS (F := Ideal) k0_pay284 one x x2 x3 n) q r = T (512 * n + r) := by
  unfold dsc
  rw [blkS, score_at]
  by_cases hq : (q : ℕ) < 512
  · rw [if_pos hq]
    by_cases hr : (r : ℕ) ≤ q
    · rw [if_pos hr, hS n (by omega) r (by omega)]
    · rw [if_neg hr, ht _ (by omega)]
  · rw [if_neg hq, hS n (by omega) r (by omega)]

include hn hT hb ht hS in
theorem esc_eq (hq : ¬ (q : ℕ) < 512) (r : Fin 512) :
    esc x (kblk (F := Ideal) (e := .bf16) x3 (n + 1)) (kblk (F := Ideal) (e := .bf16) x2 (n + 1)) q r = T (512 * (n + 1) + r) := by
  unfold esc
  by_cases hr : (r : ℕ) ≤ (q : ℕ) - 512
  · rw [if_pos hr, hS (n + 1) hn r (by omega)]
  · rw [if_neg hr, ht _ (by omega)]

include hn hT hb ht hS hV in
/-- The first head's stored row is the softmax average. -/
theorem fin0_eq :
    fin0 (F := Ideal) x (seqS k0_pay284 one x x2 x3 x4 hh n) (blkS k0_pay284 one x x2 x3 n) (kblk x3 (n + 1)) (kblk x2 (n + 1))
        (vblk x4 hh n) (vblk x4 hh (n + 1)) (ix2 d q) = soft (fun k => T k) (fun k => V k) := by
  have h := seq_rep x x2 x3 x4 hh q d T V n hn hT hb hS hV n le_rfl
  have h1 := rep_blk T V n hT h (dsc (blkS (F := Ideal) k0_pay284 one x x2 x3 n) q) (fun k => vblk (F := Ideal) x4 hh n (ix4 0 0 d k))
    (dsc_eq x x2 x3 q T n hn hT hb ht hS) (hV n (by omega)) (hb _ (by omega))
  by_cases hq : (q : ℕ) < 512
  · rw [fin0_lo _ _ _ _ _ _ _ _ _ hq]
    exact div_all q T V n (512 * (n + 1)) (by omega) (by omega) hb ht hT h1
  · rw [fin0_hi _ _ _ _ _ _ _ _ _ hq]
    have h2 := rep_blk T V (n + 1) hT h1 _ (fun k => vblk (F := Ideal) x4 hh (n + 1) (ix4 0 0 d k))
      (esc_eq x x2 x3 q T n hn hT hb ht hS hq) (hV (n + 1) hn) (hb _ (by omega))
    exact div_all q T V n (512 * (n + 1 + 1)) (by omega) (by omega) hb ht hT h2

include hn hT hb ht hS hV in
/-- The second head's stored row is the softmax average. -/
theorem fin1_eq :
    Ideal.div
      (finA (F := Ideal) x (seqS k0_pay284 one x x2 x3 x4 hh n) (blkS k0_pay284 one x x2 x3 n) (kblk x3 (n + 1)) (kblk x2 (n + 1))
        (vblk x4 hh n) (vblk x4 hh (n + 1)) (ix2 d q))
      (finL (F := Ideal) x (seqS k0_pay284 one x x2 x3 x4 hh n) (blkS k0_pay284 one x x2 x3 n) (kblk x3 (n + 1)) (kblk x2 (n + 1)) (ix2 0 q))
      = soft (fun k => T k) (fun k => V k) := by
  have h := seq_rep x x2 x3 x4 hh q d T V n hn hT hb hS hV n le_rfl
  have h1 := rep_blk T V n hT h (dsc (blkS (F := Ideal) k0_pay284 one x x2 x3 n) q) (fun k => vblk (F := Ideal) x4 hh n (ix4 0 0 d k))
    (dsc_eq x x2 x3 q T n hn hT hb ht hS) (hV n (by omega)) (hb _ (by omega))
  by_cases hq : (q : ℕ) < 512
  · rw [finA_lo _ _ _ _ _ _ _ _ _ hq, finL_lo _ _ _ _ _ _ hq]
    exact div_all q T V n (512 * (n + 1)) (by omega) (by omega) hb ht hT h1
  · rw [finA_hi _ _ _ _ _ _ _ _ _ hq, finL_hi _ _ _ _ _ _ hq]
    have h2 := rep_blk T V (n + 1) hT h1 _ (fun k => vblk (F := Ideal) x4 hh (n + 1) (ix4 0 0 d k))
      (esc_eq x x2 x3 q T n hn hT hb ht hS hq) (hV (n + 1) hn) (hb _ (by omega))
    exact div_all q T V n (512 * (n + 1 + 1)) (by omega) (by omega) hb ht hT h2

end Column

/-- The masked scores of query column `q` of the tile that starts at row `512 n`. -/
def msc (x0 x1 : FVec Ideal S1x128x1024 .bf16) (x2 x3 : FVec Ideal S1x4096x128 .bf16) (hh : Fin 2) (n : ℕ) (q : Fin 1024) (k : Fin 4096) : EReal :=
  if (k : ℕ) ≤ 512 * n + q then hs x0 x1 x2 x3 hh k q else ⊥

variable (x0 x1 : FVec Ideal S1x128x1024 .bf16) (x2 x3 : FVec Ideal S1x4096x128 .bf16) (x4 : FVec Ideal S1x8x128x512 .bf16)
  (h0 : ∀ i, IsR (x0 i)) (h1 : ∀ i, IsR (x1 i)) (h2 : ∀ i, IsR (x2 i)) (h3 : ∀ i, IsR (x3 i)) (h4 : ∀ i, IsR (x4 i))

include h0 h1 h2 h3 in
theorem hs_real (hh : Fin 2) (k : Fin 4096) (q : Fin 1024) : IsR (hs x0 x1 x2 x3 hh k q) :=
  (IsR.sum fun _ => (h2 _).mul (h0 _)).add ((IsR.sum fun _ => h3 _).add (IsR.sum fun _ => h1 _))

include h0 h1 h2 h3 h4 in
/-- The tile's entry at query column `q` and channel `D` is the softmax average of its head's values. -/
theorem outN_at (n : ℕ) (hn : n + 1 < 8) (q : Fin 1024) (D : Fin 128) :
    outN (F := Ideal) n x0 x1 x2 x3 x4 (ix3 0 q D)
      = soft (msc x0 x1 x2 x3 ⟨D / 64, by omega⟩ n q) fun k => x4 (ix4 0 ⟨k / 512, by omega⟩ D ⟨k % 512, by omega⟩) := by
  -- the scores and values by key number, whatever the head
  have key : ∀ (hh : Fin 2) (d : Fin 64) (hD : (D : ℕ) = 64 * hh + d),
      ∃ (T : ℕ → EReal) (V : ℕ → ℝ), (∀ k, T k ≠ ⊤) ∧ (∀ k, k ≤ 512 * n + q → T k ≠ ⊥) ∧ (∀ k, 512 * n + q < k → T k = ⊥)
        ∧ (∀ j (hj : j < 8) (r : Fin 512), 512 * j + r ≤ 512 * n + (q : ℕ) → hs x0 x1 x2 x3 hh ⟨512 * j + r, by omega⟩ q = T (512 * j + r))
        ∧ (∀ j (hj : j < 8) (r : Fin 512), vblk (F := Ideal) x4 hh j (ix4 0 0 d r) = V (512 * j + r))
        ∧ soft (fun k => T k) (fun k => V k)
          = soft (msc x0 x1 x2 x3 hh n q) fun k => x4 (ix4 0 ⟨k / 512, by omega⟩ D ⟨k % 512, by omega⟩) := by
    intro hh d hD
    have hr := hs_real x0 x1 x2 x3 h0 h1 h2 h3 hh
    refine ⟨fun k => if k ≤ 512 * n + q then (if h : k < 4096 then hs x0 x1 x2 x3 hh ⟨k, h⟩ q else 0) else ⊥,
      fun k => if h : k < 4096 then (x4 (ix4 0 ⟨k / 512, by omega⟩ D ⟨k % 512, by omega⟩)).toReal else 0, ?_, ?_, ?_, ?_, ?_, ?_⟩
    · intro k
      dsimp only
      split
      · split
        · exact (hr _ _).ne_top
        · exact EReal.zero_ne_top
      · exact bot_ne_top
    · intro k hk
      dsimp only
      rw [if_pos hk]
      split
      · exact (hr _ _).ne_bot
      · exact EReal.zero_ne_bot
    · intro k hk
      exact if_neg (by omega)
    · intro j hj r h
      dsimp only
      rw [if_pos h, dif_pos (show 512 * j + (r : ℕ) < 4096 by omega)]
    · intro j hj r
      dsimp only
      rw [dif_pos (show 512 * j + (r : ℕ) < 4096 by omega), (h4 _).coe_toReal, vblk_at _ _ _ hj]
      refine congrArg x4 (ix4_inj .. |>.2 ⟨rfl, Fin.ext ?_, Fin.ext ?_, Fin.ext ?_⟩)
      · show j = (512 * j + (r : ℕ)) / 512
        omega
      · exact hD.symm
      · show (r : ℕ) = (512 * j + (r : ℕ)) % 512
        omega
    · congr 1
      · funext k
        dsimp only
        rw [dif_pos k.isLt]
        rfl
      · funext k
        dsimp only
        rw [dif_pos k.isLt, (h4 _).coe_toReal]
  rw [outN, pay6_at]
  by_cases hD : (D : ℕ) < 64
  · rw [dif_pos hD]
    obtain ⟨T, V, hT, hb, ht, hS, hV, e⟩ := key 0 ⟨D, hD⟩ (by show (D : ℕ) = 64 * 0 + D; omega)
    rw [fin0_eq (q0 (F := Ideal) x0 x1) x2 x3 x4 0 q ⟨D, hD⟩ T V n hn hT hb ht
      (fun j hj r h => (sc0 x0 x1 q x2 x3 j hj r).trans (hS j hj r h)) hV, e]
    have : (⟨(D : ℕ) / 64, by omega⟩ : Fin 2) = 0 := Fin.ext (show (D : ℕ) / 64 = 0 by omega)
    rw [this]
  · rw [dif_neg hD]
    obtain ⟨T, V, hT, hb, ht, hS, hV, e⟩ := key 1 ⟨D - 64, by omega⟩ (by show (D : ℕ) = 64 * 1 + (D - 64); omega)
    rw [fin1_eq (q1 (F := Ideal) x0 x1) x2 x3 x4 1 q ⟨D - 64, by omega⟩ T V n hn hT hb ht
      (fun j hj r h => (sc1 x0 x1 q x2 x3 j hj r).trans (hS j hj r h)) hV, e]
    have : (⟨(D : ℕ) / 64, by omega⟩ : Fin 2) = 1 := Fin.ext (show (D : ℕ) / 64 = 1 by omega)
    rw [this]

end Cert.Kernel3Ideal.AttOut

end
-- ==== Proof.AttRef.lean ====
/- The reference of the attention in named stages, and each stage at an index. -/
module

public import proofs.«01_k».proof.Proof.Gen.Reference3Ideal.Run
public import proofs.«01_k».proof.Proof.AttMath
public import Idealize.ShloMosaic.Lib.Pointwise
public import Idealize.ShloMosaic.Lib.WordCmp

@[expose] public section

set_option maxRecDepth 16384

noncomputable section

open Idealize.ShloMosaic Idealize.ShloMosaic.TcCoe Idealize.SL.Sem
namespace Cert.Reference3Ideal.Stages
open Cert.Reference3Ideal Cert.Reference3Ideal.Gen AttMath WordCmp

/-- The scores: products of queries and keys plus the two biases. -/
def score (q qb : FVec Ideal S4x1024x4096 .bf16) (k kb : FVec Ideal S4x4096x1024 .bf16) : FVec Ideal S4x16x4096x4096 .f32 :=
  (addf (addf (Host.dotGeneral dot_S4x16x4096x64_S4x16x4096x64_S4x16x4096x4096_3_3_2_2_01_01 none (transpose S4x16x4096x64 [0, 1, 3, 2] (shapeCast _ (extf .f32 q bitsLt_bf16_f32) shapeCasts_S4x1024x4096_S4x16x64x4096) transposes_S4x16x64x4096_S4x16x4096x64_0_1_3_2) (transpose S4x16x4096x64 [0, 2, 1, 3] (shapeCast _ (extf .f32 k bitsLt_bf16_f32) shapeCasts_S4x4096x1024_S4x4096x16x64) transposes_S4x4096x16x64_S4x16x4096x64_0_2_1_3)) (broadcastInDim S4x16x4096x4096 ![0, 1, 2, 3] bcast_S4x16x4096x1_S4x16x4096x4096_0_1_2_3 (broadcastInDim S4x16x4096x1 ![0, 1, 2] bcast_S4x16x4096_S4x16x4096x1_0_1_2 (Host.reduceAdd (shapeCast _ (extractStridedSlice S4x8x6x4096 ![0, 0, 8, 0] (shapeCast _ (extf .f32 qb bitsLt_bf16_f32) shapeCasts_S4x1024x4096_S4x8x128x4096) slices_S4x8x128x4096_S4x8x6x4096_0_0_8_0) shapeCasts_S4x8x6x4096_S4x16x3x4096) (constant S_ .f32 0x00000000#32) reducesTo_S4x16x3x4096_S4x16x4096_d2 h_S_)))) (broadcastInDim S4x16x4096x4096 ![0, 1, 2, 3] bcast_S4x16x1x4096_S4x16x4096x4096_0_1_2_3 (broadcastInDim S4x16x1x4096 ![0, 1, 3] bcast_S4x16x4096_S4x16x1x4096_0_1_3 (transpose S4x16x4096 [0, 2, 1] (Host.reduceAdd (shapeCast _ (extractStridedSlice S4x4096x8x6 ![0, 0, 0, 0] (shapeCast _ (extf .f32 kb bitsLt_bf16_f32) shapeCasts_S4x4096x1024_S4x4096x8x128) slices_S4x4096x8x128_S4x4096x8x6_0_0_0_0) shapeCasts_S4x4096x8x6_S4x4096x16x3) (constant S_ .f32 0x00000000#32) reducesTo_S4x4096x16x3_S4x4096x16_d3 h_S_) transposes_S4x4096x16_S4x16x4096_0_2_1))))

/-- The scores with every key after the query at −∞. -/
def masked (q qb : FVec Ideal S4x1024x4096 .bf16) (k kb : FVec Ideal S4x4096x1024 .bf16) : FVec Ideal S4x16x4096x4096 .f32 :=
  (select (broadcastInDim S4x16x4096x4096 ![0, 1, 2, 3] bcast_S1x1x4096x4096_S4x16x4096x4096_0_1_2_3 (broadcastInDim S1x1x4096x4096 ![2, 3] bcast_S4096x4096_S1x1x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))) (score q qb k kb) (broadcastInDim S4x16x4096x4096 ![] bcast_S_S4x16x4096x4096 (id (constant S_ .f32 0xFF800000#32))))

/-- Each query's greatest score. -/
def rowMax (x : FVec Ideal S4x16x4096x4096 .f32) : FVec Ideal S4x16x4096 .f32 :=
  (Host.reduce FloatOps.maximumf x (constant S_ .f32 0xFF800000#32) reducesTo_S4x16x4096x4096_S4x16x4096_d3 h_S_)

/-- The base-2 weights against the greatest score. -/
def weight (x : FVec Ideal S4x16x4096x4096 .f32) : FVec Ideal S4x16x4096x4096 .f32 :=
  (Host.powf (broadcastInDim S4x16x4096x4096 ![] bcast_S_S4x16x4096x4096 (constant S_ .f32 0x40000000#32)) (subf x (broadcastInDim S4x16x4096x4096 ![0, 1, 2, 3] bcast_S4x16x4096x1_S4x16x4096x4096_0_1_2_3 (broadcastInDim S4x16x4096x1 ![0, 1, 2] bcast_S4x16x4096_S4x16x4096x1_0_1_2 (rowMax x)))))

/-- The weights over their sum. -/
def prob (x : FVec Ideal S4x16x4096x4096 .f32) : FVec Ideal S4x16x4096x4096 .f32 :=
  (Host.divf (weight x) (broadcastInDim S4x16x4096x4096 ![0, 1, 2, 3] bcast_S4x16x4096x1_S4x16x4096x4096_0_1_2_3 (broadcastInDim S4x16x4096x1 ![0, 1, 2] bcast_S4x16x4096_S4x16x4096x1_0_1_2 (Host.reduceAdd (weight x) (constant S_ .f32 0x00000000#32) reducesTo_S4x16x4096x4096_S4x16x4096_d3 h_S_))))

/-- The attention's result. -/
def att (q qb : FVec Ideal S4x1024x4096 .bf16) (k kb : FVec Ideal S4x4096x1024 .bf16) (v : FVec Ideal S4x8x1024x512 .bf16) : FVec Ideal S4x4096x1024 .bf16 :=
  truncf .bf16 (shapeCast _ (transpose S4x4096x16x64 [0, 2, 1, 3] (Host.dotGeneral dot_S4x16x4096x4096_S4x16x4096x64_S4x16x4096x64_3_2_2_3_01_01 none (prob (masked q qb k kb)) (transpose S4x16x4096x64 [0, 2, 1, 3] (shapeCast _ (transpose S4x8x512x1024 [0, 1, 3, 2] (extf .f32 v bitsLt_bf16_f32) transposes_S4x8x1024x512_S4x8x512x1024_0_1_3_2) shapeCasts_S4x8x512x1024_S4x4096x16x64) transposes_S4x4096x16x64_S4x16x4096x64_0_2_1_3)) transposes_S4x16x4096x64_S4x4096x16x64_0_2_1_3) shapeCasts_S4x4096x16x64_S4x4096x1024) bitsLt_bf16_f32

/-- The reference's first result is the staged term of its arguments. -/
theorem res_eq (m : (ℓ : Loc nD τ sig) → Buf (Elt Ideal) ℓ) (c : Dev nD) :
    Cert.Reference3Ideal.Value.res_out0 m c = att (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := rfl

theorem two : Ideal.ofBits .f32 0x40000000#32 = ((2 : ℝ) : EReal) := by
  have h : ((8388608 : ℝ) : EReal) * (((2 ^ 22 : ℝ)⁻¹ : ℝ) : EReal) = ((2 : ℝ) : EReal) := by
    rw [← EReal.coe_mul]; congr 1; norm_num
  simp [Ideal.ofBits, Ideal.ieee]
  exact_mod_cast h

theorem ninf : Ideal.ofBits .f32 0xFF800000#32 = (⊥ : EReal) := by simp [Ideal.ofBits, Ideal.ieee]

/-- The score of key `t` for query `s` of head `h`. -/
def rs (q qb : FVec Ideal S4x1024x4096 .bf16) (k kb : FVec Ideal S4x4096x1024 .bf16) (b : Fin 4) (h : Fin 16) (s t : Fin 4096) : EReal :=
  (∑ d : Fin 64, q (ix3 b ⟨h * 64 + d, by omega⟩ s) * k (ix3 b t ⟨h * 64 + d, by omega⟩))
    + (∑ i : Fin 3, qb (ix3 b ⟨h / 2 * 128 + (8 + (h % 2 * 3 + i)), by omega⟩ s))
    + ∑ i : Fin 3, kb (ix3 b t ⟨h / 2 * 128 + (h % 2 * 3 + i), by omega⟩)

theorem score_apply (q qb : FVec Ideal S4x1024x4096 .bf16) (k kb : FVec Ideal S4x4096x1024 .bf16) (b : Fin 4) (h : Fin 16) (s t : Fin 4096) :
    score q qb k kb (ix4 b h s t) = rs q qb k kb b h s t := by
  pointwise [score]
  rfl

theorem masked_apply (q qb : FVec Ideal S4x1024x4096 .bf16) (k kb : FVec Ideal S4x4096x1024 .bf16) (b : Fin 4) (h : Fin 16) (s t : Fin 4096) :
    masked q qb k kb (ix4 b h s t) = if (t : ℕ) ≤ s then rs q qb k kb b h s t else ⊥ := by
  pointwise [masked]
  rw [score_apply]
  have h : IntOp.cmpi .sle (BitVec.ofNat 32 t) (BitVec.ofNat 32 s) = 1 ↔ (t : ℕ) ≤ s :=
    cmpi_sle_ofNat_eq_one_iff (w := 32) (show (t : ℕ) < 2 ^ 31 by omega) (show (s : ℕ) < 2 ^ 31 by omega)
  have e : id (constant (F := Ideal) S_ FTy.f32 0xFF800000#32) ix0 = (⊥ : EReal) := by
    show Ideal.ofBits .f32 0xFF800000#32 = ⊥
    exact ninf
  rw [e]
  simp only [Scalar.select, h]

theorem rowMax_apply (x : FVec Ideal S4x16x4096x4096 .f32) (b : Fin 4) (h : Fin 16) (s : Fin 4096) :
    rowMax x (ix3 b h s) = Finset.univ.fold max ⊥ fun t => x (ix4 b h s t) := by
  pointwise [rowMax]
  rw [ninf]

theorem weight_apply (x : FVec Ideal S4x16x4096x4096 .f32) (b : Fin 4) (h : Fin 16) (s t : Fin 4096) :
    weight x (ix4 b h s t) = Ideal.pow ((2 : ℝ) : EReal) (x (ix4 b h s t) - Finset.univ.fold max ⊥ fun t => x (ix4 b h s t)) := by
  pointwise [weight]
  simp only [rowMax_apply]
  rw [two]

theorem prob_apply (x : FVec Ideal S4x16x4096x4096 .f32) (b : Fin 4) (h : Fin 16) (s t : Fin 4096) :
    prob x (ix4 b h s t) = Ideal.div (weight x (ix4 b h s t)) (∑ t, weight x (ix4 b h s t)) := by
  pointwise [prob]

/-- The attention's result at a token and channel: the softmax average of the head's values. -/
theorem att_apply (q qb : FVec Ideal S4x1024x4096 .bf16) (k kb : FVec Ideal S4x4096x1024 .bf16) (v : FVec Ideal S4x8x1024x512 .bf16) (b : Fin 4) (s : Fin 4096) (j : Fin 1024) :
    att q qb k kb v (ix3 b s j)
      = soft (fun t => if (t : ℕ) ≤ s then rs q qb k kb b ⟨j / 64, by omega⟩ s t else ⊥)
          (fun t => v (ix4 b ⟨t / 512, by omega⟩ j ⟨t % 512, by omega⟩)) := by
  pointwise [att]
  simp only [prob_apply, weight_apply, masked_apply]
  rfl

end Cert.Reference3Ideal.Stages

end
-- ==== Proof.AttValue.lean ====
/- The result arrays of the attention call are the reference's, at finite inputs. -/
module

public import proofs.«01_k».proof.Proof.AttIdx
public import proofs.«01_k».proof.Proof.AttOut
public import proofs.«01_k».proof.Proof.AttRef

@[expose] public section

set_option maxRecDepth 16384

noncomputable section

open Idealize.ShloMosaic Idealize.ShloMosaic.TcCoe Idealize.SL.Sem
open Idealize.ShloMosaic.Pipeline (Dat)
namespace Cert.Kernel3Ideal.AttValue
open Cert.Kernel3Ideal Cert.Kernel3Ideal.Gen Cert.Kernel3Ideal.Att Cert.Kernel3Ideal.AttIdx Cert.Kernel3Ideal.AttOut AttMath
open Cert.Reference3Ideal.Stages (att rs att_apply)

section tile
variable (q qb : FVec Ideal S4x1024x4096 .bf16) (k kb : FVec Ideal S4x4096x1024 .bf16) (v : FVec Ideal S4x8x1024x512 .bf16)
  (b : Fin 4) (h : Fin 8) (i : Fin 4)
  (x0 x1 : FVec Ideal S1x128x1024 .bf16) (x2 x3 : FVec Ideal S1x4096x128 .bf16) (x4 : FVec Ideal S1x8x128x512 .bf16)
  (e0 : ∀ d s, x0 (ix3 0 d s) = q (ix3 b (chan h d) (trow i s))) (e1 : ∀ d s, x1 (ix3 0 d s) = qb (ix3 b (chan h d) (trow i s)))
  (e2 : ∀ s d, x2 (ix3 0 s d) = k (ix3 b s (chan h d))) (e3 : ∀ s d, x3 (ix3 0 s d) = kb (ix3 b s (chan h d)))
  (e4 : ∀ g d s, x4 (ix4 0 g d s) = v (ix4 b g (chan h d) s))

include e0 e1 e2 e3 in
/-- A head's score in the blocks of a tile is the reference's score of that head in the whole arrays. -/
theorem score_eq (D : Fin 128) (s : Fin 1024) (t : Fin 4096) :
    hs x0 x1 x2 x3 ⟨D / 64, by omega⟩ t s = rs q qb k kb b ⟨chan h D / 64, by omega⟩ (trow i s) t := by
  have hD : (D : ℕ) < 128 := D.2
  have c0 : ∀ d : Fin 64, chan h ⟨64 * ((⟨(D : ℕ) / 64, by omega⟩ : Fin 2) : ℕ) + d, by show 64 * ((D : ℕ) / 64) + (d : ℕ) < 128; omega⟩
      = (⟨((⟨chan h D / 64, by omega⟩ : Fin 16) : ℕ) * 64 + d, by show (chan h D : ℕ) / 64 * 64 + (d : ℕ) < 1024; omega⟩ : Fin 1024) := by
    intro d; apply Fin.ext; simp only [chan]; omega
  have c1 : ∀ j : Fin 3, chan h ⟨3 * ((⟨(D : ℕ) / 64, by omega⟩ : Fin 2) : ℕ) + j, by show 3 * ((D : ℕ) / 64) + (j : ℕ) < 128; omega⟩
      = (⟨((⟨chan h D / 64, by omega⟩ : Fin 16) : ℕ) / 2 * 128 + (((⟨chan h D / 64, by omega⟩ : Fin 16) : ℕ) % 2 * 3 + j), by
          show (chan h D : ℕ) / 64 / 2 * 128 + ((chan h D : ℕ) / 64 % 2 * 3 + (j : ℕ)) < 1024; omega⟩ : Fin 1024) := by
    intro j; apply Fin.ext; simp only [chan]; omega
  have c2 : ∀ j : Fin 3, chan h ⟨8 + 3 * ((⟨(D : ℕ) / 64, by omega⟩ : Fin 2) : ℕ) + j, by show 8 + 3 * ((D : ℕ) / 64) + (j : ℕ) < 128; omega⟩
      = (⟨((⟨chan h D / 64, by omega⟩ : Fin 16) : ℕ) / 2 * 128 + (8 + (((⟨chan h D / 64, by omega⟩ : Fin 16) : ℕ) % 2 * 3 + j)), by
          show (chan h D : ℕ) / 64 / 2 * 128 + (8 + ((chan h D : ℕ) / 64 % 2 * 3 + (j : ℕ))) < 1024; omega⟩ : Fin 1024) := by
    intro j; apply Fin.ext; simp only [chan]; omega
  unfold hs rs
  simp only [e0, e1, e2, e3, c0, c1, c2]
  rw [add_assoc]
  refine congrArg₂ _ (Finset.sum_congr rfl fun d _ => mul_comm _ _) (add_comm _ _)

include e0 e1 e2 e3 e4 in
/-- The tile a point stores is the reference's first result at the tile's place. -/
theorem tile_eq (h0 : ∀ i, IsR (x0 i)) (h1 : ∀ i, IsR (x1 i)) (h2 : ∀ i, IsR (x2 i)) (h3 : ∀ i, IsR (x3 i)) (h4 : ∀ i, IsR (x4 i))
    (s : Fin 1024) (D : Fin 128) :
    outN (F := Ideal) (2 * i.val) x0 x1 x2 x3 x4 (ix3 0 s D) = att q qb k kb v (ix3 b (trow i s) (chan h D)) := by
  rw [outN_at x0 x1 x2 x3 x4 h0 h1 h2 h3 h4 (2 * i.val) (by omega) s D, att_apply]
  refine congrArg₂ soft (funext fun t => ?_) (funext fun t => ?_)
  · unfold msc
    rw [score_eq q qb k kb b h i x0 x1 x2 x3 e0 e1 e2 e3 D s t]
    have e : (512 * (2 * i.val) + (s : ℕ)) = (trow i s : ℕ) := by simp only [trow]; omega
    rw [e]
  · exact e4 _ _ _

end tile

variable (m : (ℓ : Loc nD τ sig) → Buf (Elt Ideal) ℓ) (hp : Online m) (c : Dev nD)

/-- Every entry of the queries, keys, values and bias pieces is a real number. -/
structure Finite : Prop where
  q : ∀ i, IsR (m ((c : Thread nD τ).loc main_arg1) i)
  qb : ∀ i, IsR (m ((c : Thread nD τ).loc main_arg2) i)
  k : ∀ i, IsR (m ((c : Thread nD τ).loc main_arg3) i)
  kb : ∀ i, IsR (m ((c : Thread nD τ).loc main_arg4) i)
  v : ∀ i, IsR (m ((c : Thread nD τ).loc main_arg5) i)

/-- The first result array is the reference's. -/
theorem final7 (hf : Finite m c) : (dats m hp 0 c).arrAt (7 : Fin 10) (cfgA m).N
    = att (m ((c : Thread nD τ).loc main_arg1)) (m ((c : Thread nD τ).loc main_arg2)) (m ((c : Thread nD τ).loc main_arg3))
        (m ((c : Thread nD τ).loc main_arg4)) (m ((c : Thread nD τ).loc main_arg5)) := by
  refine (dats m hp 0 c).arrAt_eq_of_covers (7 : Fin 10) _ (cov7 m) (fun t _ y => ?_) (Memref.isWhole_whole _)
  rw [after_7]
  obtain ⟨s, D, rfl⟩ : ∃ (s : Fin 1024) (D : Fin 128), y = (ix3 0 s D : S1x1024x128.Idx) :=
    ⟨y 1, y 2, funext fun a => by
      fin_cases a
      · exact Subsingleton.elim (α := Fin 1) _ _
      · rfl
      · rfl⟩
  rw [out7 m t s D]
  refine Eq.trans ?_ (tile_eq _ _ _ _ _ (bOf t) (hOf t) (iOf t) (jblk0 m c t) (jblk1 m c t) (jblk2 m c t) (jblk3 m c t) (jblk4 m c t)
    (blk0 m c t) (blk1 m c t) (blk2 m c t) (blk3 m c t) (blk4 m c t) (fun i => hf.q _) (fun i => hf.qb _) (fun i => hf.k _) (fun i => hf.kb _) (fun i => hf.v _) s D)
  show val7 m hp c t (ix3 0 s D) = _
  unfold val7
  rw [show (crd m t 2).val = (iOf t).val from tile_of t]

/-- The second result array is the first weight, cast. -/
theorem final8 : (dats m hp 0 c).arrAt (8 : Fin 10) (cfgA m).N
    = (truncf .bf16 (φ := .f32) (m ((c : Thread nD τ).loc main_arg6)) (by decide) : FVec Ideal S2048x4096 .bf16) := by
  refine (dats m hp 0 c).arrAt_eq_of_covers (8 : Fin 10) _ (cov8 m) (fun t _ y => ?_) (Memref.isWhole_whole _)
  rw [after_8]
  obtain ⟨r, f, rfl⟩ : ∃ (r : Fin 16) (f : Fin 4096), y = (ix2 r f : S16x4096.Idx) :=
    ⟨y 0, y 1, funext fun a => by fin_cases a <;> rfl⟩
  rw [out8 m t r f]
  show k0_pay1 (F := Ideal) (jblk5 m c t) (ix2 r f) = _
  unfold k0_pay1
  exact blk5 m c t r f

/-- The third result array is the second weight, cast. -/
theorem final9 : (dats m hp 0 c).arrAt (9 : Fin 10) (cfgA m).N
    = (truncf .bf16 (φ := .f32) (m ((c : Thread nD τ).loc main_arg7)) (by decide) : FVec Ideal S8192x1024 .bf16) := by
  refine (dats m hp 0 c).arrAt_eq_of_covers (9 : Fin 10) _ (cov9 m) (fun t _ y => ?_) (Memref.isWhole_whole _)
  rw [after_9]
  obtain ⟨r, f, rfl⟩ : ∃ (r : Fin 64) (f : Fin 1024), y = (ix2 r f : S64x1024.Idx) :=
    ⟨y 0, y 1, funext fun a => by fin_cases a <;> rfl⟩
  rw [out9 m t r f]
  show k0_pay2 (F := Ideal) (jblk6 m c t) (ix2 r f) = _
  unfold k0_pay2
  exact blk6 m c t r f

end Cert.Kernel3Ideal.AttValue
-- ==== Proof.AttRun.lean ====
module

public import proofs.«01_k».proof.Proof.Gen.Kernel3.Loops
public import proofs.«01_k».proof.Proof.Gen.Kernel3.Launch
public import Idealize.ShloMosaic.PureOps.BitExact
public import Idealize.ShloMosaic.Lib.LoopRemainder

@[expose] public section

set_option maxRecDepth 65536
set_option Elab.async false

noncomputable section

namespace Cert.Kernel3.Att

open Cert.Kernel3 Cert.Kernel3.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The prefetched table and the four scratch buffers, whole. -/
abbrev tab : Memref sig .tc .smem S257 .i32 := Memref.whole main_arg0
abbrev scr0 : Memref sig .tc .vmem S2x512x1024 .f32 := Memref.whole cc0_scratch0
abbrev scr1 : Memref sig .tc .vmem S2x512x1024 .f32 := Memref.whole cc0_scratch1
abbrev scr2 : Memref sig .tc .vmem S2x512x1024 .bf16 := Memref.whole cc0_scratch2
abbrev scr3 : Memref sig .tc .vmem S2x512x1024 .bf16 := Memref.whole cc0_scratch3

section
variable {F : FTy → Type} [FloatOps F]

/-- The loop's invariant with the values its region does not read fixed. -/
@[sl_loop] def loop_t9 (𝒱 : Variants) (c : Dev nD) (bd : Option 𝒱.V) (E : Set ℕ) (i : grid0.Coords) (arg3 : Memref sig .tc .smem S257 .i32) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole) (arg14 : Memref sig .tc .vmem S2x512x1024 .f32) (harg14 : arg14.IsWhole) (arg15 : Memref sig .tc .vmem S2x512x1024 .f32) (harg15 : arg15.IsWhole) (arg16 : Memref sig .tc .vmem S2x512x1024 .bf16) (harg16 : arg16.IsWhole) (arg17 : Memref sig .tc .vmem S2x512x1024 .bf16) (harg17 : arg17.IsWhole) (v23 : IVec S512x128 1) (v48 : FVec F S256x1024 .bf16) (cst_55 : F .bf16) (X_arg6 : BufTy.Contents (Elt F) arg6.view.ty) (X_arg7 : BufTy.Contents (Elt F) arg7.view.ty) (X_arg8 : BufTy.Contents (Elt F) arg8.view.ty) (G_arg14 : BufTy.Contents (Elt F) arg14.view.ty) (G_arg15 : BufTy.Contents (Elt F) arg15.view.ty) (init : FVec F S1x1024 .f32 × FVec F S1x1024 .f32 × FVec F S64x1024 .f32) :=
  loopInv_k0_t9 (F := F) 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v48 (k0_pay452 (F := F)) (k0_pay453 (F := F)) (k0_pay452 (F := F)) (0#32) (0#32) (0#32) (0#32) cst_55 X_arg6 X_arg7 X_arg8 G_arg14 G_arg15 init

/-- The loop's invariant with the values its region does not read fixed. -/
@[sl_loop] def loop_t11 (𝒱 : Variants) (c : Dev nD) (bd : Option 𝒱.V) (E : Set ℕ) (i : grid0.Coords) (arg3 : Memref sig .tc .smem S257 .i32) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole) (arg14 : Memref sig .tc .vmem S2x512x1024 .f32) (harg14 : arg14.IsWhole) (arg15 : Memref sig .tc .vmem S2x512x1024 .f32) (harg15 : arg15.IsWhole) (arg16 : Memref sig .tc .vmem S2x512x1024 .bf16) (harg16 : arg16.IsWhole) (arg17 : Memref sig .tc .vmem S2x512x1024 .bf16) (harg17 : arg17.IsWhole) (v23 : IVec S512x128 1) (v48 : FVec F S256x1024 .bf16) (v132 : BitVec 32) (cst_69 : F .bf16) (X_arg6 : BufTy.Contents (Elt F) arg6.view.ty) (X_arg7 : BufTy.Contents (Elt F) arg7.view.ty) (X_arg8 : BufTy.Contents (Elt F) arg8.view.ty) (G_arg14 : BufTy.Contents (Elt F) arg14.view.ty) (G_arg15 : BufTy.Contents (Elt F) arg15.view.ty) (init : FVec F S1x1024 .f32 × FVec F S1x1024 .f32 × FVec F S64x1024 .f32) :=
  loopInv_k0_t11 (F := F) 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v48 (k0_pay286 (fun _ => Scalar.ofBits .bf16 0#16) (fun _ => Scalar.ofBits .bf16 0#16)) (0#32) (0#32) (k0_pay452 (F := F)) (k0_pay452 (F := F)) (k0_pay453 (F := F)) (0#32) v132 cst_69 X_arg6 X_arg7 X_arg8 G_arg14 G_arg15 init

/-- The loop's invariant with the values its region does not read fixed. -/
@[sl_loop] def loop_t13 (𝒱 : Variants) (c : Dev nD) (bd : Option 𝒱.V) (E : Set ℕ) (i : grid0.Coords) (arg3 : Memref sig .tc .smem S257 .i32) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole) (arg14 : Memref sig .tc .vmem S2x512x1024 .f32) (harg14 : arg14.IsWhole) (arg15 : Memref sig .tc .vmem S2x512x1024 .f32) (harg15 : arg15.IsWhole) (arg16 : Memref sig .tc .vmem S2x512x1024 .bf16) (harg16 : arg16.IsWhole) (arg17 : Memref sig .tc .vmem S2x512x1024 .bf16) (harg17 : arg17.IsWhole) (v23 : IVec S512x128 1) (v70 : FVec F S256x1024 .bf16) (cst_122 : F .bf16) (X_arg6 : BufTy.Contents (Elt F) arg6.view.ty) (X_arg7 : BufTy.Contents (Elt F) arg7.view.ty) (X_arg8 : BufTy.Contents (Elt F) arg8.view.ty) (G_arg14 : BufTy.Contents (Elt F) arg14.view.ty) (G_arg15 : BufTy.Contents (Elt F) arg15.view.ty) (init : FVec F S1x1024 .f32 × FVec F S1x1024 .f32 × FVec F S64x1024 .f32) :=
  loopInv_k0_t13 (F := F) 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v70 (k0_pay452 (F := F)) (k0_pay453 (F := F)) (k0_pay452 (F := F)) (0#32) (0#32) (0#1) (0#32) cst_122 X_arg6 X_arg7 X_arg8 G_arg14 G_arg15 init

/-- The loop's invariant with the values its region does not read fixed. -/
@[sl_loop] def loop_t15 (𝒱 : Variants) (c : Dev nD) (bd : Option 𝒱.V) (E : Set ℕ) (i : grid0.Coords) (arg3 : Memref sig .tc .smem S257 .i32) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole) (arg14 : Memref sig .tc .vmem S2x512x1024 .f32) (harg14 : arg14.IsWhole) (arg15 : Memref sig .tc .vmem S2x512x1024 .f32) (harg15 : arg15.IsWhole) (arg16 : Memref sig .tc .vmem S2x512x1024 .bf16) (harg16 : arg16.IsWhole) (arg17 : Memref sig .tc .vmem S2x512x1024 .bf16) (harg17 : arg17.IsWhole) (v23 : IVec S512x128 1) (v26 : IVec S512x512 1) (v70 : FVec F S256x1024 .bf16) (v288 : BitVec 32) (v293 : BitVec 32) (v295 : BitVec 32) (cst_136 : F .bf16) (X_arg6 : BufTy.Contents (Elt F) arg6.view.ty) (X_arg7 : BufTy.Contents (Elt F) arg7.view.ty) (X_arg8 : BufTy.Contents (Elt F) arg8.view.ty) (G_arg14 : BufTy.Contents (Elt F) arg14.view.ty) (G_arg15 : BufTy.Contents (Elt F) arg15.view.ty) (init : FVec F S1x1024 .f32 × FVec F S1x1024 .f32 × FVec F S64x1024 .f32) :=
  loopInv_k0_t15 (F := F) 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v26 v70 (0#32) (k0_pay452 (F := F)) (k0_pay452 (F := F)) (k0_pay453 (F := F)) (0#32) (0#32) v288 v293 v295 cst_136 X_arg6 X_arg7 X_arg8 G_arg14 G_arg15 init

end

set_option backward.proofsInPublic true in
set_option maxHeartbeats 16000000 in
/-- One call of the body where the flag word selects the branch with the running maximum: what it stores in each of the
    three outputs, with the proof that it runs from the input blocks, the table and the scratch buffers at any contents. -/
noncomputable def bodyRun (c : Dev nD) (i : grid0.Coords) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole)
    (T : S257.Idx → Elt Bits .i32) (x0 : S1x128x1024.Idx → Elt Bits .bf16) (x1 : S1x128x1024.Idx → Elt Bits .bf16) (x2 : S1x4096x128.Idx → Elt Bits .bf16) (x3 : S1x4096x128.Idx → Elt Bits .bf16) (x4 : S1x8x128x512.Idx → Elt Bits .bf16) (x5 : S16x4096.Idx → Elt Bits .f32) (x6 : S64x1024.Idx → Elt Bits .f32)
    (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3))
    (k0_h1 : ¬(k0_cond1 (View.readAt (Elt Bits) (tab).view (Rect.unit (s := S257) ![256] S1.size inb_S257_S1_256).toLoadRect T (Shape.Idx.first (numel1_S1.symm ▸ Nat.one_pos))) = 1#1))
    (k0_h6 : k0_cond6 (View.readAt (Elt Bits) (tab).view (Rect.unit (s := S257) ![256] S1.size inb_S257_S1_256).toLoadRect T (Shape.Idx.first (numel1_S1.symm ▸ Nat.one_pos))) = 1#1) :
    Σ' (out0 : List (View.Piece (Elt Bits) S1x1024x128 .bf16)) (out1 : List (View.Piece (Elt Bits) S16x4096 .bf16)), { out2 : List (View.Piece (Elt Bits) S64x1024 .bf16) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (arg10.view.loc (c : Thread nD τ) ↦[arg10.view.set]{fullShare} arg10.view.rep x6)
          ∗ (tab.view.loc (c : Thread nD τ) ↦{fullShare.right} T)
          ∗ (∃ d, owns (c : Thread nD τ) arg11 fullShare d)
          ∗ (∃ d, owns (c : Thread nD τ) arg12 fullShare d)
          ∗ (∃ d, owns (c : Thread nD τ) arg13 fullShare d)
          ∗ (scr0.view.loc (c : Thread nD τ) ↦[scr0.view.set]{fullShare} xa0)
          ∗ (scr1.view.loc (c : Thread nD τ) ↦[scr1.view.set]{fullShare} xa1)
          ∗ (scr2.view.loc (c : Thread nD τ) ↦[scr2.view.set]{fullShare} xa2)
          ∗ (scr3.view.loc (c : Thread nD τ) ↦[scr3.view.set]{fullShare} xa3)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (arg10.view.loc (c : Thread nD τ) ↦[arg10.view.set]{fullShare} arg10.view.rep x6)
          ∗ (tab.view.loc (c : Thread nD τ) ↦{fullShare.right} T)
          ∗ (∃ f, arg11.view.loc (c : Thread nD τ) ↦[arg11.view.set]{fullShare} arg11.view.writes (Elt Bits) f out0)
          ∗ (∃ f, arg12.view.loc (c : Thread nD τ) ↦[arg12.view.set]{fullShare} arg12.view.writes (Elt Bits) f out1)
          ∗ (∃ f, arg13.view.loc (c : Thread nD τ) ↦[arg13.view.set]{fullShare} arg13.view.writes (Elt Bits) f out2)
          ∗ (∃ a, scr0.view.loc (c : Thread nD τ) ↦[scr0.view.set]{fullShare} a)
          ∗ (∃ a, scr1.view.loc (c : Thread nD τ) ↦[scr1.view.set]{fullShare} a)
          ∗ (∃ a, scr2.view.loc (c : Thread nD τ) ↦[scr2.view.set]{fullShare} a)
          ∗ (∃ a, scr3.view.loc (c : Thread nD τ) ↦[scr3.view.set]{fullShare} a)) -∗ K ⟨⟩))
          ⊢ wp frame (wpE (defs₀ (F := Bits)) Variants.none c none) Set.univ (cc0_fox_attention i tab (Memref.isWhole_whole _) arg4 harg4 arg5 harg5 arg6 harg6 arg7 harg7 arg8 harg8 arg9 harg9 arg10 harg10 arg11 harg11 arg12 harg12 arg13 harg13 scr0 (Memref.isWhole_whole _) scr1 (Memref.isWhole_whole _) scr2 (Memref.isWhole_whole _) scr3 (Memref.isWhole_whole _)) K } :=
  ⟨_, _, _, fun K => by
    unfold owns
    rw [cc0_fox_attention_eq_skeleton]; unfold cc0_fox_attention_skel
    iintro ⟨H0, H1, H2, H3, H4, H5, H6, HT0, ⟨%d7, %f7, -, HO7⟩, ⟨%d8, %f8, -, HO8⟩, ⟨%d9, %f9, -, HO9⟩, HS0, HS1, HS2, HS3, Hk⟩
    have hS0 : scr0.IsWhole := Memref.isWhole_whole _
    have hS1 : scr1.IsWhole := Memref.isWhole_whole _
    have hS2 : scr2.IsWhole := Memref.isWhole_whole _
    have hS3 : scr3.IsWhole := Memref.isWhole_whole _
    have hT0 : tab.IsWhole := Memref.isWhole_whole _
    sl_exec! (disch := first | (guard_target = ¬(k0_cond1 _ = _); exact k0_h1) | (guard_target = k0_cond6 _ = _; exact k0_h6))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HO7]; · iexists _; iexact HO7
    isplitl [HO8]; · iexists _; iexact HO8
    isplitl [HO9]; · iexists _; iexact HO9
    isplitl [HS0]; · iexists _; iexact HS0
    isplitl [HS1]; · iexists _; iexact HS1
    isplitl [HS2]; · iexists _; iexact HS2
    iexists _; iexact HS3⟩

end Cert.Kernel3.Att

end
-- ==== Proof.AttTrip.lean ====
/- The attention call's loops written out: what the body stores in its first result, as one recursion over the blocks of
   keys, whatever its scratch buffers hold at the start. -/
module

public import proofs.«01_k».proof.Proof.AttRun
public import Idealize.ShloMosaic.Lib.VecWindow
public import Mathlib.Tactic.FinCases
public import Mathlib.Tactic.NormNum

@[expose] public section

set_option maxRecDepth 65536

noncomputable section

namespace Cert.Kernel3.Att

open Cert.Kernel3 Cert.Kernel3.Gen
open Idealize.ShloMosaic
open Idealize.ShloMosaic.TcCoe Idealize.ShloMosaic.Tactic

section
variable {F : FTy → Type} [FloatOps F]

/-- The state the loops carry: the running maxima, the running sums, the accumulated rows. -/
abbrev St (F : FTy → Type) : Type := FVec F S1x1024 .f32 × FVec F S1x1024 .f32 × FVec F S64x1024 .f32

/-- A load of the rectangle last stored reads what was stored. -/
theorem readAt_cons {sig : RefSig} {κ : Kind} {sp : Space} {s : Shape} {e : EltTy} {Val : EltTy → Type} (v : View sig κ sp s e) (f : v.ty.Contents Val)
    {off size : Fin s.rank → ℕ} (inb : ∀ a, off a + size a ≤ s.size a) (w : (Rect.unit off size inb).shape.Idx → Val e) (L : List (View.Piece Val s e)) :
    v.readAt Val (Rect.unit off size inb).toLoadRect (v.writes Val f (⟨Rect.unit off size inb, w⟩ :: L)) = w := by
  funext y
  exact View.read_writes_cons_unit_of_mem v f inb w L _ y rfl fun a => by show off a + 1 * (y a).val = off a + (y a).val; omega

theorem readCov_cons {sig : RefSig} {κ : Kind} {sp : Space} {s : Shape} {e : EltTy} {Val : EltTy → Type} [∀ e, Nonempty (Val e)] (v : View sig κ sp s e)
    {off size : Fin s.rank → ℕ} (inb : ∀ a, off a + size a ≤ s.size a) (w : (Rect.unit off size inb).shape.Idx → Val e) (L : List (View.Piece Val s e)) :
    v.readCov (⟨Rect.unit off size inb, w⟩ :: L) (Rect.unit off size inb).toLoadRect = w :=
  readAt_cons v _ inb w L

/-- The scores of one block of keys against the tile's queries, as stored. -/
def scoreF (v23 : IVec S512x128 1) (cst : F .bf16) (q : FVec F S256x1024 .bf16) (kb k : Vec F S1x512x128 .bf16) : FVec F S1x512x1024 .f32 :=
  k0_pay289 v23 q cst kb k

/-- One block's step of the running softmax. -/
def stepF (st : St F) (s : Vec F S1x512x1024 .f32) (v : Vec F S1x1x64x512 .bf16) : St F :=
  (k0_pay292 st.1 s, k0_pay295 st.2.1 (k0_pay293 st.1 s) (k0_pay294 st.1 s),
    k0_pay296 st.2.2 (k0_pay291 v) (k0_pay293 st.1 s) (k0_pay294 st.1 s))

/-- The same step in another of the program's spellings. -/
def step9_0 (st : St F) (s : Vec F S1x512x1024 .f32) (v : Vec F S1x1x64x512 .bf16) : St F :=
  (k0_pay292 st.1 s, k0_pay295 st.2.1 (k0_pay293 st.1 s) (k0_pay294 st.1 s), k0_pay296 st.2.2 (k0_pay291 v) (k0_pay293 st.1 s) (k0_pay294 st.1 s))

theorem step9_0_eq (st : St F) (s : Vec F S1x512x1024 .f32) (v : Vec F S1x1x64x512 .bf16) : step9_0 st s v = stepF st s v := rfl

/-- The same step in another of the program's spellings. -/
def step9_1 (st : St F) (s : Vec F S1x512x1024 .f32) (v : Vec F S1x1x64x512 .bf16) : St F :=
  (k0_pay300 st.1 (k0_pay298 s), k0_pay303 st.1 st.2.1 (k0_pay298 s), k0_pay304 st.1 st.2.2 (k0_pay298 s) (k0_pay299 v))

theorem step9_1_eq (st : St F) (s : Vec F S1x512x1024 .f32) (v : Vec F S1x1x64x512 .bf16) : step9_1 st s v = stepF st s v := rfl

/-- The same step in another of the program's spellings. -/
def step9_2 (st : St F) (s : Vec F S1x512x1024 .f32) (v : Vec F S1x1x64x512 .bf16) : St F :=
  (k0_pay307 st.1 (k0_pay306 s), k0_pay310 st.1 st.2.1 (k0_pay306 s), k0_pay311 st.1 st.2.2 (k0_pay306 s) v)

theorem step9_2_eq (st : St F) (s : Vec F S1x512x1024 .f32) (v : Vec F S1x1x64x512 .bf16) : step9_2 st s v = stepF st s v := rfl

/-- The same step in another of the program's spellings. -/
def step9_3 (st : St F) (s : Vec F S1x512x1024 .f32) (v : Vec F S1x1x64x512 .bf16) : St F :=
  (k0_pay457 st.1 s, k0_pay460 st.1 st.2.1 s, k0_pay461 st.1 st.2.2 s v)

theorem step9_3_eq (st : St F) (s : Vec F S1x512x1024 .f32) (v : Vec F S1x1x64x512 .bf16) : step9_3 st s v = stepF st s v := rfl

theorem word9_0 (i : grid0.Coords) (arg6 arg7 : Memref sig .tc .vmem S1x4096x128 .bf16) (arg15 : Memref sig .tc .vmem S2x512x1024 .f32)
    (v23 : IVec S512x128 1) (v48 : FVec F S256x1024 .bf16) (cst_55 : F .bf16) (X_arg6 : BufTy.Contents (Elt F) arg6.view.ty) (X_arg7 : BufTy.Contents (Elt F) arg7.view.ty) (k : Fin (k0_t9_loop i).trips) :
    (trip_k0_t9.sl.v453 i arg6 arg7 arg15 v23 v48 cst_55 X_arg6 X_arg7 k) = (scoreF v23 cst_55 v48 (View.readAt (Elt F) arg7.view (Rect.unit (s := S1x4096x128) (k0_off80 i k 0#32 1#32) S1x512x128.size (k0_off80_inb i k 0 0)).toLoadRect X_arg7) (View.readAt (Elt F) arg6.view (Rect.unit (s := S1x4096x128) (k0_off80 i k 0#32 1#32) S1x512x128.size (k0_off80_inb i k 0 0)).toLoadRect X_arg6)) := by
  unfold trip_k0_t9.sl.v453
  exact readCov_cons ..

theorem word9_1 (i : grid0.Coords) (arg6 arg7 : Memref sig .tc .vmem S1x4096x128 .bf16) (arg14 : Memref sig .tc .vmem S2x512x1024 .f32)
    (v23 : IVec S512x128 1) (v48 : FVec F S256x1024 .bf16) (cst_55 : F .bf16) (X_arg6 : BufTy.Contents (Elt F) arg6.view.ty) (X_arg7 : BufTy.Contents (Elt F) arg7.view.ty) (k : Fin (k0_t9_loop i).trips) :
    (trip_k0_t9.sl.v496 i arg6 arg7 arg14 v23 v48 cst_55 X_arg6 X_arg7 k) = (scoreF v23 cst_55 v48 (View.readAt (Elt F) arg7.view (Rect.unit (s := S1x4096x128) (k0_off80 i k 0#32 2#32) S1x512x128.size (k0_off80_inb i k 0 1)).toLoadRect X_arg7) (View.readAt (Elt F) arg6.view (Rect.unit (s := S1x4096x128) (k0_off80 i k 0#32 2#32) S1x512x128.size (k0_off80_inb i k 0 1)).toLoadRect X_arg6)) := by
  unfold trip_k0_t9.sl.v496
  exact readCov_cons ..

theorem word9_2 (i : grid0.Coords) (arg6 arg7 : Memref sig .tc .vmem S1x4096x128 .bf16) (arg15 : Memref sig .tc .vmem S2x512x1024 .f32)
    (v23 : IVec S512x128 1) (v48 : FVec F S256x1024 .bf16) (cst_55 : F .bf16) (X_arg6 : BufTy.Contents (Elt F) arg6.view.ty) (X_arg7 : BufTy.Contents (Elt F) arg7.view.ty) (k : Fin (k0_t9_loop i).trips) :
    (trip_k0_t9.sl.v538 i arg6 arg7 arg15 v23 v48 cst_55 X_arg6 X_arg7 k) = (scoreF v23 cst_55 v48 (View.readAt (Elt F) arg7.view (Rect.unit (s := S1x4096x128) (k0_off80 i k 1#32 1#32) S1x512x128.size (k0_off80_inb i k 1 0)).toLoadRect X_arg7) (View.readAt (Elt F) arg6.view (Rect.unit (s := S1x4096x128) (k0_off80 i k 1#32 1#32) S1x512x128.size (k0_off80_inb i k 1 0)).toLoadRect X_arg6)) := by
  unfold trip_k0_t9.sl.v538
  exact readCov_cons ..

/-- What one trip of the loop yields. -/
theorem tripR9  (𝒱 : Variants) (c : Dev nD) (bd : Option 𝒱.V) (i : grid0.Coords) (arg3 : Memref sig .tc .smem S257 .i32) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole) (arg14 : Memref sig .tc .vmem S2x512x1024 .f32) (harg14 : arg14.IsWhole) (arg15 : Memref sig .tc .vmem S2x512x1024 .f32) (harg15 : arg15.IsWhole) (arg16 : Memref sig .tc .vmem S2x512x1024 .bf16) (harg16 : arg16.IsWhole) (arg17 : Memref sig .tc .vmem S2x512x1024 .bf16) (harg17 : arg17.IsWhole) (v23 : IVec S512x128 1) (v48 : FVec F S256x1024 .bf16) (v71 : FVec F S1x1024 .f32) (v72 : FVec F S64x1024 .f32) (v73 : FVec F S1x1024 .f32) (v74 : BitVec 32) (c2_i32_41 : BitVec 32) (v89 : BitVec 32) (c0_i32_42 : BitVec 32) (cst_55 : F .bf16) (X_arg6 : BufTy.Contents (Elt F) arg6.view.ty) (X_arg7 : BufTy.Contents (Elt F) arg7.view.ty) (X_arg8 : BufTy.Contents (Elt F) arg8.view.ty) (k : Fin (k0_t9_loop i).trips) (acc : FVec F S1x1024 .f32 × FVec F S1x1024 .f32 × FVec F S64x1024 .f32) (f_arg14 : BufTy.Contents (Elt F) arg14.view.ty) (f_arg15 : BufTy.Contents (Elt F) arg15.view.ty) :
    tripR_k0_t9 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v48 v71 v72 v73 v74 c2_i32_41 v89 c0_i32_42 cst_55 X_arg6 X_arg7 X_arg8 k acc f_arg14 f_arg15 = stepF (stepF (stepF (stepF acc (View.readAt (Elt F) arg14.view (Rect.unit (s := S2x512x1024) ![0, 0, 0] S1x512x1024.size inb_S2x512x1024_S1x512x1024_0_0_0).toLoadRect f_arg14) (View.readAt (Elt F) arg8.view (Rect.unit (s := S1x8x128x512) (k0_off81 i k 0#32) S1x1x64x512.size (k0_off81_inb i k 0)).toLoadRect X_arg8)) (scoreF v23 cst_55 v48 (View.readAt (Elt F) arg7.view (Rect.unit (s := S1x4096x128) (k0_off80 i k 0#32 1#32) S1x512x128.size (k0_off80_inb i k 0 0)).toLoadRect X_arg7) (View.readAt (Elt F) arg6.view (Rect.unit (s := S1x4096x128) (k0_off80 i k 0#32 1#32) S1x512x128.size (k0_off80_inb i k 0 0)).toLoadRect X_arg6)) (View.readAt (Elt F) arg8.view (Rect.unit (s := S1x8x128x512) (k0_off82 i k 0#32) S1x1x64x512.size (k0_off82_inb i k 0)).toLoadRect X_arg8)) (scoreF v23 cst_55 v48 (View.readAt (Elt F) arg7.view (Rect.unit (s := S1x4096x128) (k0_off80 i k 0#32 2#32) S1x512x128.size (k0_off80_inb i k 0 1)).toLoadRect X_arg7) (View.readAt (Elt F) arg6.view (Rect.unit (s := S1x4096x128) (k0_off80 i k 0#32 2#32) S1x512x128.size (k0_off80_inb i k 0 1)).toLoadRect X_arg6)) (View.readAt (Elt F) arg8.view (Rect.unit (s := S1x8x128x512) (k0_off81 i k 1#32) S1x1x64x512.size (k0_off81_inb i k 1)).toLoadRect X_arg8)) (scoreF v23 cst_55 v48 (View.readAt (Elt F) arg7.view (Rect.unit (s := S1x4096x128) (k0_off80 i k 1#32 1#32) S1x512x128.size (k0_off80_inb i k 1 0)).toLoadRect X_arg7) (View.readAt (Elt F) arg6.view (Rect.unit (s := S1x4096x128) (k0_off80 i k 1#32 1#32) S1x512x128.size (k0_off80_inb i k 1 0)).toLoadRect X_arg6)) (View.readAt (Elt F) arg8.view (Rect.unit (s := S1x8x128x512) (k0_off82 i k 1#32) S1x1x64x512.size (k0_off82_inb i k 1)).toLoadRect X_arg8) := by
  have h : tripR_k0_t9 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v48 v71 v72 v73 v74 c2_i32_41 v89 c0_i32_42 cst_55 X_arg6 X_arg7 X_arg8 k acc f_arg14 f_arg15 = step9_3 (step9_2 (step9_1 (step9_0 acc (View.readAt (Elt F) arg14.view (Rect.unit (s := S2x512x1024) ![0, 0, 0] S1x512x1024.size inb_S2x512x1024_S1x512x1024_0_0_0).toLoadRect f_arg14) (View.readAt (Elt F) arg8.view (Rect.unit (s := S1x8x128x512) (k0_off81 i k 0#32) S1x1x64x512.size (k0_off81_inb i k 0)).toLoadRect X_arg8)) (trip_k0_t9.sl.v453 i arg6 arg7 arg15 v23 v48 cst_55 X_arg6 X_arg7 k) (View.readAt (Elt F) arg8.view (Rect.unit (s := S1x8x128x512) (k0_off82 i k 0#32) S1x1x64x512.size (k0_off82_inb i k 0)).toLoadRect X_arg8)) (trip_k0_t9.sl.v496 i arg6 arg7 arg14 v23 v48 cst_55 X_arg6 X_arg7 k) (View.readAt (Elt F) arg8.view (Rect.unit (s := S1x8x128x512) (k0_off81 i k 1#32) S1x1x64x512.size (k0_off81_inb i k 1)).toLoadRect X_arg8)) (trip_k0_t9.sl.v538 i arg6 arg7 arg15 v23 v48 cst_55 X_arg6 X_arg7 k) (View.readAt (Elt F) arg8.view (Rect.unit (s := S1x8x128x512) (k0_off82 i k 1#32) S1x1x64x512.size (k0_off82_inb i k 1)).toLoadRect X_arg8) := by
    obtain ⟨a0, a1, a2⟩ := acc
    unfold tripR_k0_t9 trip_k0_t9
    rfl
  rw [h]
  simp only [step9_0_eq, step9_1_eq, step9_2_eq, step9_3_eq, word9_0, word9_1, word9_2]

/-- The last scores one trip of the loop stores. -/
theorem tripL9  (𝒱 : Variants) (c : Dev nD) (bd : Option 𝒱.V) (i : grid0.Coords) (arg3 : Memref sig .tc .smem S257 .i32) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole) (arg14 : Memref sig .tc .vmem S2x512x1024 .f32) (harg14 : arg14.IsWhole) (arg15 : Memref sig .tc .vmem S2x512x1024 .f32) (harg15 : arg15.IsWhole) (arg16 : Memref sig .tc .vmem S2x512x1024 .bf16) (harg16 : arg16.IsWhole) (arg17 : Memref sig .tc .vmem S2x512x1024 .bf16) (harg17 : arg17.IsWhole) (v23 : IVec S512x128 1) (v48 : FVec F S256x1024 .bf16) (v71 : FVec F S1x1024 .f32) (v72 : FVec F S64x1024 .f32) (v73 : FVec F S1x1024 .f32) (v74 : BitVec 32) (c2_i32_41 : BitVec 32) (v89 : BitVec 32) (c0_i32_42 : BitVec 32) (cst_55 : F .bf16) (X_arg6 : BufTy.Contents (Elt F) arg6.view.ty) (X_arg7 : BufTy.Contents (Elt F) arg7.view.ty) (X_arg8 : BufTy.Contents (Elt F) arg8.view.ty) (k : Fin (k0_t9_loop i).trips) (acc : FVec F S1x1024 .f32 × FVec F S1x1024 .f32 × FVec F S64x1024 .f32) (f_arg14 : BufTy.Contents (Elt F) arg14.view.ty) (f_arg15 : BufTy.Contents (Elt F) arg15.view.ty) :
    ∃ L, (tripL_k0_t9 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v48 v71 v72 v73 v74 c2_i32_41 v89 c0_i32_42 cst_55 X_arg6 X_arg7 X_arg8 k acc f_arg14 f_arg15).1 = ⟨(Rect.unit (s := S2x512x1024) ![0, 0, 0] S1x512x1024.size inb_S2x512x1024_S1x512x1024_0_0_0), (scoreF v23 cst_55 v48 (View.readAt (Elt F) arg7.view (Rect.unit (s := S1x4096x128) (k0_off80 i k 1#32 2#32) S1x512x128.size (k0_off80_inb i k 1 1)).toLoadRect X_arg7) (View.readAt (Elt F) arg6.view (Rect.unit (s := S1x4096x128) (k0_off80 i k 1#32 2#32) S1x512x128.size (k0_off80_inb i k 1 1)).toLoadRect X_arg6))⟩ :: L := by
  unfold tripL_k0_t9 trip_k0_t9
  exact ⟨_, rfl⟩

/-- The same step in another of the program's spellings. -/
def step11_0 (st : St F) (s : Vec F S1x512x1024 .f32) (v : Vec F S1x1x64x512 .bf16) : St F :=
  (k0_pay340 st.1 s, k0_pay345 (k0_pay343 st.1 st.2.1 s) (k0_pay344 st.1 s), k0_pay346 st.2.2 (k0_pay339 v) (k0_pay341 st.1 s) (k0_pay342 st.1 s))

theorem step11_0_eq (st : St F) (s : Vec F S1x512x1024 .f32) (v : Vec F S1x1x64x512 .bf16) : step11_0 st s v = stepF st s v := rfl

/-- The same step in another of the program's spellings. -/
def step11_1 (st : St F) (s : Vec F S1x512x1024 .f32) (v : Vec F S1x1x64x512 .bf16) : St F :=
  (k0_pay350 st.1 s, k0_pay470 st.2.1 (k0_pay348 s) (k0_pay350 st.1 s) (k0_pay351 st.1 s), k0_pay471 st.2.2 (k0_pay348 s) (k0_pay349 v) (k0_pay350 st.1 s) (k0_pay351 st.1 s))

theorem step11_1_eq (st : St F) (s : Vec F S1x512x1024 .f32) (v : Vec F S1x1x64x512 .bf16) : step11_1 st s v = stepF st s v := rfl

theorem word11_0 (i : grid0.Coords) (arg6 arg7 : Memref sig .tc .vmem S1x4096x128 .bf16) (arg15 : Memref sig .tc .vmem S2x512x1024 .f32)
    (v23 : IVec S512x128 1) (v48 : FVec F S256x1024 .bf16) (cst_69 : F .bf16) (X_arg6 : BufTy.Contents (Elt F) arg6.view.ty) (X_arg7 : BufTy.Contents (Elt F) arg7.view.ty) (k : Fin (k0_t11_loop i).trips) :
    (trip_k0_t11.sl.v451 i arg6 arg7 arg15 v23 v48 cst_69 X_arg6 X_arg7 k) = (scoreF v23 cst_69 v48 (View.readAt (Elt F) arg7.view (Rect.unit (s := S1x4096x128) (k0_off86 i k 1#32) S1x512x128.size (k0_off86_inb i k 0)).toLoadRect X_arg7) (View.readAt (Elt F) arg6.view (Rect.unit (s := S1x4096x128) (k0_off86 i k 1#32) S1x512x128.size (k0_off86_inb i k 0)).toLoadRect X_arg6)) := by
  unfold trip_k0_t11.sl.v451
  exact readCov_cons ..

/-- What one trip of the loop yields. -/
theorem tripR11  (𝒱 : Variants) (c : Dev nD) (bd : Option 𝒱.V) (i : grid0.Coords) (arg3 : Memref sig .tc .smem S257 .i32) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole) (arg14 : Memref sig .tc .vmem S2x512x1024 .f32) (harg14 : arg14.IsWhole) (arg15 : Memref sig .tc .vmem S2x512x1024 .f32) (harg15 : arg15.IsWhole) (arg16 : Memref sig .tc .vmem S2x512x1024 .bf16) (harg16 : arg16.IsWhole) (arg17 : Memref sig .tc .vmem S2x512x1024 .bf16) (harg17 : arg17.IsWhole) (v23 : IVec S512x128 1) (v48 : FVec F S256x1024 .bf16) (v70 : FVec F S256x1024 .bf16) (v74 : BitVec 32) (v123 : BitVec 32) (v130_0 : FVec F S1x1024 .f32) (v130_1 : FVec F S1x1024 .f32) (v130_2 : FVec F S64x1024 .f32) (c2_i32_60 : BitVec 32) (v132 : BitVec 32) (cst_69 : F .bf16) (X_arg6 : BufTy.Contents (Elt F) arg6.view.ty) (X_arg7 : BufTy.Contents (Elt F) arg7.view.ty) (X_arg8 : BufTy.Contents (Elt F) arg8.view.ty) (k : Fin (k0_t11_loop i).trips) (acc : FVec F S1x1024 .f32 × FVec F S1x1024 .f32 × FVec F S64x1024 .f32) (f_arg14 : BufTy.Contents (Elt F) arg14.view.ty) (f_arg15 : BufTy.Contents (Elt F) arg15.view.ty) :
    tripR_k0_t11 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v48 v70 v74 v123 v130_0 v130_1 v130_2 c2_i32_60 v132 cst_69 X_arg6 X_arg7 X_arg8 k acc f_arg14 f_arg15 = stepF (stepF acc (View.readAt (Elt F) arg14.view (Rect.unit (s := S2x512x1024) ![0, 0, 0] S1x512x1024.size inb_S2x512x1024_S1x512x1024_0_0_0).toLoadRect f_arg14) (View.readAt (Elt F) arg8.view (Rect.unit (s := S1x8x128x512) (k0_off87 i k) S1x1x64x512.size (k0_off87_inb i k)).toLoadRect X_arg8)) (scoreF v23 cst_69 v48 (View.readAt (Elt F) arg7.view (Rect.unit (s := S1x4096x128) (k0_off86 i k 1#32) S1x512x128.size (k0_off86_inb i k 0)).toLoadRect X_arg7) (View.readAt (Elt F) arg6.view (Rect.unit (s := S1x4096x128) (k0_off86 i k 1#32) S1x512x128.size (k0_off86_inb i k 0)).toLoadRect X_arg6)) (View.readAt (Elt F) arg8.view (Rect.unit (s := S1x8x128x512) (k0_off88 i k) S1x1x64x512.size (k0_off88_inb i k)).toLoadRect X_arg8) := by
  have h : tripR_k0_t11 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v48 v70 v74 v123 v130_0 v130_1 v130_2 c2_i32_60 v132 cst_69 X_arg6 X_arg7 X_arg8 k acc f_arg14 f_arg15 = step11_1 (step11_0 acc (View.readAt (Elt F) arg14.view (Rect.unit (s := S2x512x1024) ![0, 0, 0] S1x512x1024.size inb_S2x512x1024_S1x512x1024_0_0_0).toLoadRect f_arg14) (View.readAt (Elt F) arg8.view (Rect.unit (s := S1x8x128x512) (k0_off87 i k) S1x1x64x512.size (k0_off87_inb i k)).toLoadRect X_arg8)) (trip_k0_t11.sl.v451 i arg6 arg7 arg15 v23 v48 cst_69 X_arg6 X_arg7 k) (View.readAt (Elt F) arg8.view (Rect.unit (s := S1x8x128x512) (k0_off88 i k) S1x1x64x512.size (k0_off88_inb i k)).toLoadRect X_arg8) := by
    obtain ⟨a0, a1, a2⟩ := acc
    unfold tripR_k0_t11 trip_k0_t11
    rfl
  rw [h]
  simp only [step11_0_eq, step11_1_eq, word11_0]

/-- The last scores one trip of the loop stores. -/
theorem tripL11  (𝒱 : Variants) (c : Dev nD) (bd : Option 𝒱.V) (i : grid0.Coords) (arg3 : Memref sig .tc .smem S257 .i32) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole) (arg14 : Memref sig .tc .vmem S2x512x1024 .f32) (harg14 : arg14.IsWhole) (arg15 : Memref sig .tc .vmem S2x512x1024 .f32) (harg15 : arg15.IsWhole) (arg16 : Memref sig .tc .vmem S2x512x1024 .bf16) (harg16 : arg16.IsWhole) (arg17 : Memref sig .tc .vmem S2x512x1024 .bf16) (harg17 : arg17.IsWhole) (v23 : IVec S512x128 1) (v48 : FVec F S256x1024 .bf16) (v70 : FVec F S256x1024 .bf16) (v74 : BitVec 32) (v123 : BitVec 32) (v130_0 : FVec F S1x1024 .f32) (v130_1 : FVec F S1x1024 .f32) (v130_2 : FVec F S64x1024 .f32) (c2_i32_60 : BitVec 32) (v132 : BitVec 32) (cst_69 : F .bf16) (X_arg6 : BufTy.Contents (Elt F) arg6.view.ty) (X_arg7 : BufTy.Contents (Elt F) arg7.view.ty) (X_arg8 : BufTy.Contents (Elt F) arg8.view.ty) (k : Fin (k0_t11_loop i).trips) (acc : FVec F S1x1024 .f32 × FVec F S1x1024 .f32 × FVec F S64x1024 .f32) (f_arg14 : BufTy.Contents (Elt F) arg14.view.ty) (f_arg15 : BufTy.Contents (Elt F) arg15.view.ty) :
    ∃ L, (tripL_k0_t11 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v48 v70 v74 v123 v130_0 v130_1 v130_2 c2_i32_60 v132 cst_69 X_arg6 X_arg7 X_arg8 k acc f_arg14 f_arg15).1 = ⟨(Rect.unit (s := S2x512x1024) ![0, 0, 0] S1x512x1024.size inb_S2x512x1024_S1x512x1024_0_0_0), (scoreF v23 cst_69 v48 (View.readAt (Elt F) arg7.view (Rect.unit (s := S1x4096x128) (k0_off86 i k 2#32) S1x512x128.size (k0_off86_inb i k 1)).toLoadRect X_arg7) (View.readAt (Elt F) arg6.view (Rect.unit (s := S1x4096x128) (k0_off86 i k 2#32) S1x512x128.size (k0_off86_inb i k 1)).toLoadRect X_arg6))⟩ :: L := by
  unfold tripL_k0_t11 trip_k0_t11
  exact ⟨_, rfl⟩

/-- The same step in another of the program's spellings. -/
def step13_0 (st : St F) (s : Vec F S1x512x1024 .f32) (v : Vec F S1x1x64x512 .bf16) : St F :=
  (k0_pay370 st.1 s, k0_pay373 st.2.1 (k0_pay371 st.1 s) (k0_pay372 st.1 s), k0_pay374 st.2.2 (k0_pay369 v) (k0_pay371 st.1 s) (k0_pay372 st.1 s))

theorem step13_0_eq (st : St F) (s : Vec F S1x512x1024 .f32) (v : Vec F S1x1x64x512 .bf16) : step13_0 st s v = stepF st s v := rfl

/-- The same step in another of the program's spellings. -/
def step13_1 (st : St F) (s : Vec F S1x512x1024 .f32) (v : Vec F S1x1x64x512 .bf16) : St F :=
  (k0_pay378 st.1 (k0_pay376 s), k0_pay381 st.1 st.2.1 (k0_pay376 s), k0_pay382 st.1 st.2.2 (k0_pay376 s) (k0_pay377 v))

theorem step13_1_eq (st : St F) (s : Vec F S1x512x1024 .f32) (v : Vec F S1x1x64x512 .bf16) : step13_1 st s v = stepF st s v := rfl

/-- The same step in another of the program's spellings. -/
def step13_2 (st : St F) (s : Vec F S1x512x1024 .f32) (v : Vec F S1x1x64x512 .bf16) : St F :=
  (k0_pay385 st.1 (k0_pay384 s), k0_pay388 st.1 st.2.1 (k0_pay384 s), k0_pay389 st.1 st.2.2 (k0_pay384 s) v)

theorem step13_2_eq (st : St F) (s : Vec F S1x512x1024 .f32) (v : Vec F S1x1x64x512 .bf16) : step13_2 st s v = stepF st s v := rfl

/-- The same step in another of the program's spellings. -/
def step13_3 (st : St F) (s : Vec F S1x512x1024 .f32) (v : Vec F S1x1x64x512 .bf16) : St F :=
  (k0_pay489 st.1 s, k0_pay492 st.1 st.2.1 s, k0_pay493 st.1 st.2.2 s v)

theorem step13_3_eq (st : St F) (s : Vec F S1x512x1024 .f32) (v : Vec F S1x1x64x512 .bf16) : step13_3 st s v = stepF st s v := rfl

theorem word13_0 (i : grid0.Coords) (arg6 arg7 : Memref sig .tc .vmem S1x4096x128 .bf16) (arg15 : Memref sig .tc .vmem S2x512x1024 .f32)
    (v23 : IVec S512x128 1) (v70 : FVec F S256x1024 .bf16) (cst_122 : F .bf16) (X_arg6 : BufTy.Contents (Elt F) arg6.view.ty) (X_arg7 : BufTy.Contents (Elt F) arg7.view.ty) (k : Fin (k0_t13_loop i).trips) :
    (trip_k0_t13.sl.v453 i arg6 arg7 arg15 v23 v70 cst_122 X_arg6 X_arg7 k) = (scoreF v23 cst_122 v70 (View.readAt (Elt F) arg7.view (Rect.unit (s := S1x4096x128) (k0_off95 i k 0#32 1#32) S1x512x128.size (k0_off95_inb i k 0 0)).toLoadRect X_arg7) (View.readAt (Elt F) arg6.view (Rect.unit (s := S1x4096x128) (k0_off95 i k 0#32 1#32) S1x512x128.size (k0_off95_inb i k 0 0)).toLoadRect X_arg6)) := by
  unfold trip_k0_t13.sl.v453
  exact readCov_cons ..

theorem word13_1 (i : grid0.Coords) (arg6 arg7 : Memref sig .tc .vmem S1x4096x128 .bf16) (arg14 : Memref sig .tc .vmem S2x512x1024 .f32)
    (v23 : IVec S512x128 1) (v70 : FVec F S256x1024 .bf16) (cst_122 : F .bf16) (X_arg6 : BufTy.Contents (Elt F) arg6.view.ty) (X_arg7 : BufTy.Contents (Elt F) arg7.view.ty) (k : Fin (k0_t13_loop i).trips) :
    (trip_k0_t13.sl.v496 i arg6 arg7 arg14 v23 v70 cst_122 X_arg6 X_arg7 k) = (scoreF v23 cst_122 v70 (View.readAt (Elt F) arg7.view (Rect.unit (s := S1x4096x128) (k0_off95 i k 0#32 2#32) S1x512x128.size (k0_off95_inb i k 0 1)).toLoadRect X_arg7) (View.readAt (Elt F) arg6.view (Rect.unit (s := S1x4096x128) (k0_off95 i k 0#32 2#32) S1x512x128.size (k0_off95_inb i k 0 1)).toLoadRect X_arg6)) := by
  unfold trip_k0_t13.sl.v496
  exact readCov_cons ..

theorem word13_2 (i : grid0.Coords) (arg6 arg7 : Memref sig .tc .vmem S1x4096x128 .bf16) (arg15 : Memref sig .tc .vmem S2x512x1024 .f32)
    (v23 : IVec S512x128 1) (v70 : FVec F S256x1024 .bf16) (cst_122 : F .bf16) (X_arg6 : BufTy.Contents (Elt F) arg6.view.ty) (X_arg7 : BufTy.Contents (Elt F) arg7.view.ty) (k : Fin (k0_t13_loop i).trips) :
    (trip_k0_t13.sl.v538 i arg6 arg7 arg15 v23 v70 cst_122 X_arg6 X_arg7 k) = (scoreF v23 cst_122 v70 (View.readAt (Elt F) arg7.view (Rect.unit (s := S1x4096x128) (k0_off95 i k 1#32 1#32) S1x512x128.size (k0_off95_inb i k 1 0)).toLoadRect X_arg7) (View.readAt (Elt F) arg6.view (Rect.unit (s := S1x4096x128) (k0_off95 i k 1#32 1#32) S1x512x128.size (k0_off95_inb i k 1 0)).toLoadRect X_arg6)) := by
  unfold trip_k0_t13.sl.v538
  exact readCov_cons ..

/-- What one trip of the loop yields. -/
theorem tripR13  (𝒱 : Variants) (c : Dev nD) (bd : Option 𝒱.V) (i : grid0.Coords) (arg3 : Memref sig .tc .smem S257 .i32) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole) (arg14 : Memref sig .tc .vmem S2x512x1024 .f32) (harg14 : arg14.IsWhole) (arg15 : Memref sig .tc .vmem S2x512x1024 .f32) (harg15 : arg15.IsWhole) (arg16 : Memref sig .tc .vmem S2x512x1024 .bf16) (harg16 : arg16.IsWhole) (arg17 : Memref sig .tc .vmem S2x512x1024 .bf16) (harg17 : arg17.IsWhole) (v23 : IVec S512x128 1) (v70 : FVec F S256x1024 .bf16) (v71 : FVec F S1x1024 .f32) (v72 : FVec F S64x1024 .f32) (v73 : FVec F S1x1024 .f32) (v74 : BitVec 32) (v244 : BitVec 32) (v255 : BitVec 1) (v256 : BitVec 32) (cst_122 : F .bf16) (X_arg6 : BufTy.Contents (Elt F) arg6.view.ty) (X_arg7 : BufTy.Contents (Elt F) arg7.view.ty) (X_arg8 : BufTy.Contents (Elt F) arg8.view.ty) (k : Fin (k0_t13_loop i).trips) (acc : FVec F S1x1024 .f32 × FVec F S1x1024 .f32 × FVec F S64x1024 .f32) (f_arg14 : BufTy.Contents (Elt F) arg14.view.ty) (f_arg15 : BufTy.Contents (Elt F) arg15.view.ty) :
    tripR_k0_t13 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v70 v71 v72 v73 v74 v244 v255 v256 cst_122 X_arg6 X_arg7 X_arg8 k acc f_arg14 f_arg15 = stepF (stepF (stepF (stepF acc (View.readAt (Elt F) arg14.view (Rect.unit (s := S2x512x1024) ![1, 0, 0] S1x512x1024.size inb_S2x512x1024_S1x512x1024_1_0_0).toLoadRect f_arg14) (View.readAt (Elt F) arg8.view (Rect.unit (s := S1x8x128x512) (k0_off96 i k 0#32) S1x1x64x512.size (k0_off96_inb i k 0)).toLoadRect X_arg8)) (scoreF v23 cst_122 v70 (View.readAt (Elt F) arg7.view (Rect.unit (s := S1x4096x128) (k0_off95 i k 0#32 1#32) S1x512x128.size (k0_off95_inb i k 0 0)).toLoadRect X_arg7) (View.readAt (Elt F) arg6.view (Rect.unit (s := S1x4096x128) (k0_off95 i k 0#32 1#32) S1x512x128.size (k0_off95_inb i k 0 0)).toLoadRect X_arg6)) (View.readAt (Elt F) arg8.view (Rect.unit (s := S1x8x128x512) (k0_off97 i k 0#32) S1x1x64x512.size (k0_off97_inb i k 0)).toLoadRect X_arg8)) (scoreF v23 cst_122 v70 (View.readAt (Elt F) arg7.view (Rect.unit (s := S1x4096x128) (k0_off95 i k 0#32 2#32) S1x512x128.size (k0_off95_inb i k 0 1)).toLoadRect X_arg7) (View.readAt (Elt F) arg6.view (Rect.unit (s := S1x4096x128) (k0_off95 i k 0#32 2#32) S1x512x128.size (k0_off95_inb i k 0 1)).toLoadRect X_arg6)) (View.readAt (Elt F) arg8.view (Rect.unit (s := S1x8x128x512) (k0_off96 i k 1#32) S1x1x64x512.size (k0_off96_inb i k 1)).toLoadRect X_arg8)) (scoreF v23 cst_122 v70 (View.readAt (Elt F) arg7.view (Rect.unit (s := S1x4096x128) (k0_off95 i k 1#32 1#32) S1x512x128.size (k0_off95_inb i k 1 0)).toLoadRect X_arg7) (View.readAt (Elt F) arg6.view (Rect.unit (s := S1x4096x128) (k0_off95 i k 1#32 1#32) S1x512x128.size (k0_off95_inb i k 1 0)).toLoadRect X_arg6)) (View.readAt (Elt F) arg8.view (Rect.unit (s := S1x8x128x512) (k0_off97 i k 1#32) S1x1x64x512.size (k0_off97_inb i k 1)).toLoadRect X_arg8) := by
  have h : tripR_k0_t13 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v70 v71 v72 v73 v74 v244 v255 v256 cst_122 X_arg6 X_arg7 X_arg8 k acc f_arg14 f_arg15 = step13_3 (step13_2 (step13_1 (step13_0 acc (View.readAt (Elt F) arg14.view (Rect.unit (s := S2x512x1024) ![1, 0, 0] S1x512x1024.size inb_S2x512x1024_S1x512x1024_1_0_0).toLoadRect f_arg14) (View.readAt (Elt F) arg8.view (Rect.unit (s := S1x8x128x512) (k0_off96 i k 0#32) S1x1x64x512.size (k0_off96_inb i k 0)).toLoadRect X_arg8)) (trip_k0_t13.sl.v453 i arg6 arg7 arg15 v23 v70 cst_122 X_arg6 X_arg7 k) (View.readAt (Elt F) arg8.view (Rect.unit (s := S1x8x128x512) (k0_off97 i k 0#32) S1x1x64x512.size (k0_off97_inb i k 0)).toLoadRect X_arg8)) (trip_k0_t13.sl.v496 i arg6 arg7 arg14 v23 v70 cst_122 X_arg6 X_arg7 k) (View.readAt (Elt F) arg8.view (Rect.unit (s := S1x8x128x512) (k0_off96 i k 1#32) S1x1x64x512.size (k0_off96_inb i k 1)).toLoadRect X_arg8)) (trip_k0_t13.sl.v538 i arg6 arg7 arg15 v23 v70 cst_122 X_arg6 X_arg7 k) (View.readAt (Elt F) arg8.view (Rect.unit (s := S1x8x128x512) (k0_off97 i k 1#32) S1x1x64x512.size (k0_off97_inb i k 1)).toLoadRect X_arg8) := by
    obtain ⟨a0, a1, a2⟩ := acc
    unfold tripR_k0_t13 trip_k0_t13
    rfl
  rw [h]
  simp only [step13_0_eq, step13_1_eq, step13_2_eq, step13_3_eq, word13_0, word13_1, word13_2]

/-- The last scores one trip of the loop stores. -/
theorem tripL13  (𝒱 : Variants) (c : Dev nD) (bd : Option 𝒱.V) (i : grid0.Coords) (arg3 : Memref sig .tc .smem S257 .i32) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole) (arg14 : Memref sig .tc .vmem S2x512x1024 .f32) (harg14 : arg14.IsWhole) (arg15 : Memref sig .tc .vmem S2x512x1024 .f32) (harg15 : arg15.IsWhole) (arg16 : Memref sig .tc .vmem S2x512x1024 .bf16) (harg16 : arg16.IsWhole) (arg17 : Memref sig .tc .vmem S2x512x1024 .bf16) (harg17 : arg17.IsWhole) (v23 : IVec S512x128 1) (v70 : FVec F S256x1024 .bf16) (v71 : FVec F S1x1024 .f32) (v72 : FVec F S64x1024 .f32) (v73 : FVec F S1x1024 .f32) (v74 : BitVec 32) (v244 : BitVec 32) (v255 : BitVec 1) (v256 : BitVec 32) (cst_122 : F .bf16) (X_arg6 : BufTy.Contents (Elt F) arg6.view.ty) (X_arg7 : BufTy.Contents (Elt F) arg7.view.ty) (X_arg8 : BufTy.Contents (Elt F) arg8.view.ty) (k : Fin (k0_t13_loop i).trips) (acc : FVec F S1x1024 .f32 × FVec F S1x1024 .f32 × FVec F S64x1024 .f32) (f_arg14 : BufTy.Contents (Elt F) arg14.view.ty) (f_arg15 : BufTy.Contents (Elt F) arg15.view.ty) :
    ∃ L, (tripL_k0_t13 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v70 v71 v72 v73 v74 v244 v255 v256 cst_122 X_arg6 X_arg7 X_arg8 k acc f_arg14 f_arg15).1 = ⟨(Rect.unit (s := S2x512x1024) ![1, 0, 0] S1x512x1024.size inb_S2x512x1024_S1x512x1024_1_0_0), (scoreF v23 cst_122 v70 (View.readAt (Elt F) arg7.view (Rect.unit (s := S1x4096x128) (k0_off95 i k 1#32 2#32) S1x512x128.size (k0_off95_inb i k 1 1)).toLoadRect X_arg7) (View.readAt (Elt F) arg6.view (Rect.unit (s := S1x4096x128) (k0_off95 i k 1#32 2#32) S1x512x128.size (k0_off95_inb i k 1 1)).toLoadRect X_arg6))⟩ :: L := by
  unfold tripL_k0_t13 trip_k0_t13
  exact ⟨_, rfl⟩

/-- The same step in another of the program's spellings. -/
def step15_0 (st : St F) (s : Vec F S1x512x1024 .f32) (v : Vec F S1x1x64x512 .bf16) : St F :=
  (k0_pay418 st.1 s, k0_pay423 (k0_pay421 st.1 st.2.1 s) (k0_pay422 st.1 s), k0_pay424 st.2.2 (k0_pay417 v) (k0_pay419 st.1 s) (k0_pay420 st.1 s))

theorem step15_0_eq (st : St F) (s : Vec F S1x512x1024 .f32) (v : Vec F S1x1x64x512 .bf16) : step15_0 st s v = stepF st s v := rfl

/-- The same step in another of the program's spellings. -/
def step15_1 (st : St F) (s : Vec F S1x512x1024 .f32) (v : Vec F S1x1x64x512 .bf16) : St F :=
  (k0_pay428 st.1 s, k0_pay502 st.2.1 (k0_pay426 s) (k0_pay428 st.1 s) (k0_pay429 st.1 s), k0_pay503 st.2.2 (k0_pay426 s) (k0_pay427 v) (k0_pay428 st.1 s) (k0_pay429 st.1 s))

theorem step15_1_eq (st : St F) (s : Vec F S1x512x1024 .f32) (v : Vec F S1x1x64x512 .bf16) : step15_1 st s v = stepF st s v := rfl

theorem word15_0 (i : grid0.Coords) (arg6 arg7 : Memref sig .tc .vmem S1x4096x128 .bf16) (arg15 : Memref sig .tc .vmem S2x512x1024 .f32)
    (v23 : IVec S512x128 1) (v70 : FVec F S256x1024 .bf16) (cst_136 : F .bf16) (X_arg6 : BufTy.Contents (Elt F) arg6.view.ty) (X_arg7 : BufTy.Contents (Elt F) arg7.view.ty) (k : Fin (k0_t15_loop i).trips) :
    (trip_k0_t15.sl.v451 i arg6 arg7 arg15 v23 v70 cst_136 X_arg6 X_arg7 k) = (scoreF v23 cst_136 v70 (View.readAt (Elt F) arg7.view (Rect.unit (s := S1x4096x128) (k0_off101 i k 1#32) S1x512x128.size (k0_off101_inb i k 0)).toLoadRect X_arg7) (View.readAt (Elt F) arg6.view (Rect.unit (s := S1x4096x128) (k0_off101 i k 1#32) S1x512x128.size (k0_off101_inb i k 0)).toLoadRect X_arg6)) := by
  unfold trip_k0_t15.sl.v451
  exact readCov_cons ..

/-- What one trip of the loop yields. -/
theorem tripR15  (𝒱 : Variants) (c : Dev nD) (bd : Option 𝒱.V) (i : grid0.Coords) (arg3 : Memref sig .tc .smem S257 .i32) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole) (arg14 : Memref sig .tc .vmem S2x512x1024 .f32) (harg14 : arg14.IsWhole) (arg15 : Memref sig .tc .vmem S2x512x1024 .f32) (harg15 : arg15.IsWhole) (arg16 : Memref sig .tc .vmem S2x512x1024 .bf16) (harg16 : arg16.IsWhole) (arg17 : Memref sig .tc .vmem S2x512x1024 .bf16) (harg17 : arg17.IsWhole) (v23 : IVec S512x128 1) (v26 : IVec S512x512 1) (v70 : FVec F S256x1024 .bf16) (v74 : BitVec 32) (v285_0 : FVec F S1x1024 .f32) (v285_1 : FVec F S1x1024 .f32) (v285_2 : FVec F S64x1024 .f32) (v287 : BitVec 32) (c2_i32_129 : BitVec 32) (v288 : BitVec 32) (v293 : BitVec 32) (v295 : BitVec 32) (cst_136 : F .bf16) (X_arg6 : BufTy.Contents (Elt F) arg6.view.ty) (X_arg7 : BufTy.Contents (Elt F) arg7.view.ty) (X_arg8 : BufTy.Contents (Elt F) arg8.view.ty) (k : Fin (k0_t15_loop i).trips) (acc : FVec F S1x1024 .f32 × FVec F S1x1024 .f32 × FVec F S64x1024 .f32) (f_arg14 : BufTy.Contents (Elt F) arg14.view.ty) (f_arg15 : BufTy.Contents (Elt F) arg15.view.ty) :
    tripR_k0_t15 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v26 v70 v74 v285_0 v285_1 v285_2 v287 c2_i32_129 v288 v293 v295 cst_136 X_arg6 X_arg7 X_arg8 k acc f_arg14 f_arg15 = stepF (stepF acc (View.readAt (Elt F) arg14.view (Rect.unit (s := S2x512x1024) ![1, 0, 0] S1x512x1024.size inb_S2x512x1024_S1x512x1024_1_0_0).toLoadRect f_arg14) (View.readAt (Elt F) arg8.view (Rect.unit (s := S1x8x128x512) (k0_off102 i k) S1x1x64x512.size (k0_off102_inb i k)).toLoadRect X_arg8)) (scoreF v23 cst_136 v70 (View.readAt (Elt F) arg7.view (Rect.unit (s := S1x4096x128) (k0_off101 i k 1#32) S1x512x128.size (k0_off101_inb i k 0)).toLoadRect X_arg7) (View.readAt (Elt F) arg6.view (Rect.unit (s := S1x4096x128) (k0_off101 i k 1#32) S1x512x128.size (k0_off101_inb i k 0)).toLoadRect X_arg6)) (View.readAt (Elt F) arg8.view (Rect.unit (s := S1x8x128x512) (k0_off103 i k) S1x1x64x512.size (k0_off103_inb i k)).toLoadRect X_arg8) := by
  have h : tripR_k0_t15 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v26 v70 v74 v285_0 v285_1 v285_2 v287 c2_i32_129 v288 v293 v295 cst_136 X_arg6 X_arg7 X_arg8 k acc f_arg14 f_arg15 = step15_1 (step15_0 acc (View.readAt (Elt F) arg14.view (Rect.unit (s := S2x512x1024) ![1, 0, 0] S1x512x1024.size inb_S2x512x1024_S1x512x1024_1_0_0).toLoadRect f_arg14) (View.readAt (Elt F) arg8.view (Rect.unit (s := S1x8x128x512) (k0_off102 i k) S1x1x64x512.size (k0_off102_inb i k)).toLoadRect X_arg8)) (trip_k0_t15.sl.v451 i arg6 arg7 arg15 v23 v70 cst_136 X_arg6 X_arg7 k) (View.readAt (Elt F) arg8.view (Rect.unit (s := S1x8x128x512) (k0_off103 i k) S1x1x64x512.size (k0_off103_inb i k)).toLoadRect X_arg8) := by
    obtain ⟨a0, a1, a2⟩ := acc
    unfold tripR_k0_t15 trip_k0_t15
    rfl
  rw [h]
  simp only [step15_0_eq, step15_1_eq, word15_0]

/-- The last scores one trip of the loop stores. -/
theorem tripL15  (𝒱 : Variants) (c : Dev nD) (bd : Option 𝒱.V) (i : grid0.Coords) (arg3 : Memref sig .tc .smem S257 .i32) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole) (arg14 : Memref sig .tc .vmem S2x512x1024 .f32) (harg14 : arg14.IsWhole) (arg15 : Memref sig .tc .vmem S2x512x1024 .f32) (harg15 : arg15.IsWhole) (arg16 : Memref sig .tc .vmem S2x512x1024 .bf16) (harg16 : arg16.IsWhole) (arg17 : Memref sig .tc .vmem S2x512x1024 .bf16) (harg17 : arg17.IsWhole) (v23 : IVec S512x128 1) (v26 : IVec S512x512 1) (v70 : FVec F S256x1024 .bf16) (v74 : BitVec 32) (v285_0 : FVec F S1x1024 .f32) (v285_1 : FVec F S1x1024 .f32) (v285_2 : FVec F S64x1024 .f32) (v287 : BitVec 32) (c2_i32_129 : BitVec 32) (v288 : BitVec 32) (v293 : BitVec 32) (v295 : BitVec 32) (cst_136 : F .bf16) (X_arg6 : BufTy.Contents (Elt F) arg6.view.ty) (X_arg7 : BufTy.Contents (Elt F) arg7.view.ty) (X_arg8 : BufTy.Contents (Elt F) arg8.view.ty) (k : Fin (k0_t15_loop i).trips) (acc : FVec F S1x1024 .f32 × FVec F S1x1024 .f32 × FVec F S64x1024 .f32) (f_arg14 : BufTy.Contents (Elt F) arg14.view.ty) (f_arg15 : BufTy.Contents (Elt F) arg15.view.ty) :
    ∃ L, (tripL_k0_t15 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v26 v70 v74 v285_0 v285_1 v285_2 v287 c2_i32_129 v288 v293 v295 cst_136 X_arg6 X_arg7 X_arg8 k acc f_arg14 f_arg15).1 = ⟨(Rect.unit (s := S2x512x1024) ![1, 0, 0] S1x512x1024.size inb_S2x512x1024_S1x512x1024_1_0_0), (scoreF v23 cst_136 v70 (View.readAt (Elt F) arg7.view (Rect.unit (s := S1x4096x128) (k0_off101 i k 2#32) S1x512x128.size (k0_off101_inb i k 1)).toLoadRect X_arg7) (View.readAt (Elt F) arg6.view (Rect.unit (s := S1x4096x128) (k0_off101 i k 2#32) S1x512x128.size (k0_off101_inb i k 1)).toLoadRect X_arg6))⟩ :: L := by
  unfold tripL_k0_t15 trip_k0_t15
  exact ⟨_, rfl⟩

/-- Block `j` of 512 keys (or of the keys' bias columns). -/
def kblk {e : EltTy} (x : Vec F S1x4096x128 e) (j : ℕ) : Vec F S1x512x128 e :=
  VecWindow.window x ![0, 512 * (j % 8), 0] S1x512x128.size (by
    have h := Nat.mod_lt j (show 0 < 8 by norm_num)
    intro a
    fin_cases a
    · show 0 + 1 ≤ 1; omega
    · show 512 * (j % 8) + 512 ≤ 4096; omega
    · show 0 + 128 ≤ 128; omega)

/-- Block `j` of 512 values of the pair's head `hh`. -/
def vblk (x : Vec F S1x8x128x512 .bf16) (hh : Fin 2) (j : ℕ) : Vec F S1x1x64x512 .bf16 :=
  VecWindow.window x ![0, j % 8, 64 * hh.val, 0] S1x1x64x512.size (by
    have h := Nat.mod_lt j (show 0 < 8 by norm_num)
    have h' := hh.isLt
    intro a
    fin_cases a
    · show 0 + 1 ≤ 1; omega
    · show j % 8 + 1 ≤ 8; omega
    · show 64 * hh.val + 64 ≤ 128; omega
    · show 0 + 512 ≤ 512; omega)

theorem kread (v : Memref sig .tc .vmem S1x4096x128 .bf16) (x : Vec F S1x4096x128 .bf16) {off : Fin 3 → ℕ} {j : ℕ} (h : off = ![0, 512 * (j % 8), 0])
    (inb : ∀ a, off a + S1x512x128.size a ≤ S1x4096x128.size a) :
    View.readAt (Elt F) v.view (Rect.unit (s := S1x4096x128) off S1x512x128.size inb).toLoadRect (v.view.rep x) = kblk x j :=
  View.readAt_rep_unit _ _ _ h _

theorem vread (v : Memref sig .tc .vmem S1x8x128x512 .bf16) (x : Vec F S1x8x128x512 .bf16) {off : Fin 4 → ℕ} {j : ℕ} (hh : Fin 2)
    (h : off = ![0, j % 8, 64 * hh.val, 0]) (inb : ∀ a, off a + S1x1x64x512.size a ≤ S1x8x128x512.size a) :
    View.readAt (Elt F) v.view (Rect.unit (s := S1x8x128x512) off S1x1x64x512.size inb).toLoadRect (v.view.rep x) = vblk x hh j :=
  View.readAt_rep_unit _ _ _ h _

/-- The scores of block `j`. -/
def blkS (v23 : IVec S512x128 1) (cst : F .bf16) (q : FVec F S256x1024 .bf16) (x2 x3 : Vec F S1x4096x128 .bf16) (j : ℕ) : FVec F S1x512x1024 .f32 :=
  scoreF v23 cst q (kblk x3 j) (kblk x2 j)

/-- The state before any block. -/
def stInit : St F := (k0_pay454, k0_pay452, k0_pay453)

/-- The state after the first `n` blocks. -/
def seqS (v23 : IVec S512x128 1) (cst : F .bf16) (q : FVec F S256x1024 .bf16) (x2 x3 : Vec F S1x4096x128 .bf16) (x4 : Vec F S1x8x128x512 .bf16) (hh : Fin 2) : ℕ → St F
  | 0 => stInit
  | n + 1 => stepF (seqS v23 cst q x2 x3 x4 hh n) (blkS v23 cst q x2 x3 n) (vblk x4 hh n)

theorem trips9 : ∀ i : grid0.Coords, Scf.trips (k0_t9_loop i).lb (k0_t9_loop i).ub (k0_t9_loop i).st = (i 2).val / 2 := by decide +kernel

theorem offk9_1 : ∀ (i : grid0.Coords) (h : 0 < (k0_t9_loop i).trips), k0_off80 i ⟨0, h⟩ 0#32 1#32 = ![0, 512 * ((0 + 1) % 8), 0] := by decide +kernel
theorem offk9_2 : ∀ (i : grid0.Coords) (h : 0 < (k0_t9_loop i).trips), k0_off80 i ⟨0, h⟩ 0#32 2#32 = ![0, 512 * ((0 + 2) % 8), 0] := by decide +kernel
theorem offk9_3 : ∀ (i : grid0.Coords) (h : 0 < (k0_t9_loop i).trips), k0_off80 i ⟨0, h⟩ 1#32 1#32 = ![0, 512 * ((0 + 3) % 8), 0] := by decide +kernel
theorem offk9_4 : ∀ (i : grid0.Coords) (h : 0 < (k0_t9_loop i).trips), k0_off80 i ⟨0, h⟩ 1#32 2#32 = ![0, 512 * ((0 + 4) % 8), 0] := by decide +kernel
theorem offv9_0 : ∀ (i : grid0.Coords) (h : 0 < (k0_t9_loop i).trips), k0_off81 i ⟨0, h⟩ 0#32 = ![0, 0 % 8, 64 * (0 : Fin 2).val, 0] := by decide +kernel
theorem offv9_1 : ∀ (i : grid0.Coords) (h : 0 < (k0_t9_loop i).trips), k0_off82 i ⟨0, h⟩ 0#32 = ![0, (0 + 1) % 8, 64 * (0 : Fin 2).val, 0] := by decide +kernel
theorem offv9_2 : ∀ (i : grid0.Coords) (h : 0 < (k0_t9_loop i).trips), k0_off81 i ⟨0, h⟩ 1#32 = ![0, (0 + 2) % 8, 64 * (0 : Fin 2).val, 0] := by decide +kernel
theorem offv9_3 : ∀ (i : grid0.Coords) (h : 0 < (k0_t9_loop i).trips), k0_off82 i ⟨0, h⟩ 1#32 = ![0, (0 + 3) % 8, 64 * (0 : Fin 2).val, 0] := by decide +kernel

/-- The loop takes the state over its blocks and leaves the next block's scores stored. -/
theorem loop9  (𝒱 : Variants) (c : Dev nD) (bd : Option 𝒱.V) (i : grid0.Coords) (arg3 : Memref sig .tc .smem S257 .i32) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole) (arg14 : Memref sig .tc .vmem S2x512x1024 .f32) (harg14 : arg14.IsWhole) (arg15 : Memref sig .tc .vmem S2x512x1024 .f32) (harg15 : arg15.IsWhole) (arg16 : Memref sig .tc .vmem S2x512x1024 .bf16) (harg16 : arg16.IsWhole) (arg17 : Memref sig .tc .vmem S2x512x1024 .bf16) (harg17 : arg17.IsWhole) (v23 : IVec S512x128 1) (v48 : FVec F S256x1024 .bf16) (v71 : FVec F S1x1024 .f32) (v72 : FVec F S64x1024 .f32) (v73 : FVec F S1x1024 .f32) (v74 : BitVec 32) (c2_i32_41 : BitVec 32) (v89 : BitVec 32) (c0_i32_42 : BitVec 32) (cst_55 : F .bf16) (X_arg6 : BufTy.Contents (Elt F) arg6.view.ty) (X_arg7 : BufTy.Contents (Elt F) arg7.view.ty) (X_arg8 : BufTy.Contents (Elt F) arg8.view.ty) (G_arg14 : BufTy.Contents (Elt F) arg14.view.ty) (G_arg15 : BufTy.Contents (Elt F) arg15.view.ty) (init : FVec F S1x1024 .f32 × FVec F S1x1024 .f32 × FVec F S64x1024 .f32)  (x2 x3 : Vec F S1x4096x128 .bf16) (x4 : Vec F S1x8x128x512 .bf16)
    (hX6 : X_arg6 = arg6.view.rep x2) (hX7 : X_arg7 = arg7.view.rep x3) (hX8 : X_arg8 = arg8.view.rep x4) (H : BufTy.Contents (Elt F) arg14.view.ty)
    (Lb : List (View.Piece (Elt F) S2x512x1024 .f32)) (hG : G_arg14 = arg14.view.writes (Elt F) H (⟨(Rect.unit (s := S2x512x1024) ![0, 0, 0] S1x512x1024.size inb_S2x512x1024_S1x512x1024_0_0_0), blkS v23 cst_55 v48 x2 x3 0⟩ :: Lb))
    (hinit : init = seqS v23 cst_55 v48 x2 x3 x4 0 0) :
    (st_k0_t9 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v48 v71 v72 v73 v74 c2_i32_41 v89 c0_i32_42 cst_55 X_arg6 X_arg7 X_arg8 G_arg14 G_arg15 init (Scf.trips (k0_t9_loop i).lb (k0_t9_loop i).ub (k0_t9_loop i).st)).1 = seqS v23 cst_55 v48 x2 x3 x4 0 (0 + 4 * ((i 2).val / 2))
    ∧ ∃ L, (st_k0_t9 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v48 v71 v72 v73 v74 c2_i32_41 v89 c0_i32_42 cst_55 X_arg6 X_arg7 X_arg8 G_arg14 G_arg15 init (Scf.trips (k0_t9_loop i).lb (k0_t9_loop i).ub (k0_t9_loop i).st)).2.1 ++ (⟨(Rect.unit (s := S2x512x1024) ![0, 0, 0] S1x512x1024.size inb_S2x512x1024_S1x512x1024_0_0_0), blkS v23 cst_55 v48 x2 x3 0⟩ :: Lb) = ⟨(Rect.unit (s := S2x512x1024) ![0, 0, 0] S1x512x1024.size inb_S2x512x1024_S1x512x1024_0_0_0), blkS v23 cst_55 v48 x2 x3 (0 + 4 * ((i 2).val / 2))⟩ :: L := by
  subst hX6 hX7 hX8
  have ht := trips9 i
  have hi : (i 2).val < 4 := (i 2).isLt
  have hz : st_k0_t9 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v48 v71 v72 v73 v74 c2_i32_41 v89 c0_i32_42 cst_55 (arg6.view.rep x2) (arg7.view.rep x3) (arg8.view.rep x4) G_arg14 G_arg15 init 0 = (init, [], []) := rfl
  rcases Nat.eq_zero_or_pos (Scf.trips (k0_t9_loop i).lb (k0_t9_loop i).ub (k0_t9_loop i).st) with h | h
  · have e : (0 + 4 * ((i 2).val / 2)) = 0 := by omega
    rw [h, hz, e]
    exact ⟨hinit, Lb, rfl⟩
  · have h1 : (Scf.trips (k0_t9_loop i).lb (k0_t9_loop i).ub (k0_t9_loop i).st) = (⟨0, h⟩ : Fin (k0_t9_loop i).trips).val + 1 := by show (Scf.trips (k0_t9_loop i).lb (k0_t9_loop i).ub (k0_t9_loop i).st) = 0 + 1; omega
    have e : (0 + 4 * ((i 2).val / 2)) = 0 + 4 := by omega
    have hz' : st_k0_t9 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v48 v71 v72 v73 v74 c2_i32_41 v89 c0_i32_42 cst_55 (arg6.view.rep x2) (arg7.view.rep x3) (arg8.view.rep x4) G_arg14 G_arg15 init (⟨0, h⟩ : Fin (k0_t9_loop i).trips).val = (init, [], []) := hz
    have hr : View.readAt (Elt F) arg14.view (Rect.unit (s := S2x512x1024) ![0, 0, 0] S1x512x1024.size inb_S2x512x1024_S1x512x1024_0_0_0).toLoadRect (arg14.view.writes (Elt F) G_arg14 []) = blkS v23 cst_55 v48 x2 x3 0 := by
      have hw : arg14.view.writes (Elt F) G_arg14 [] = G_arg14 := rfl
      rw [hw, hG]
      exact readAt_cons ..
    rw [h1, e, st_k0_t9_succ, hz']
    refine ⟨?_, ?_⟩
    · show tripR_k0_t9 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v48 v71 v72 v73 v74 c2_i32_41 v89 c0_i32_42 cst_55 (arg6.view.rep x2) (arg7.view.rep x3) (arg8.view.rep x4) ⟨0, h⟩ init (arg14.view.writes (Elt F) G_arg14 []) (arg15.view.writes (Elt F) G_arg15 []) = _
      rw [tripR9, hr]
      simp only [kread (h := offk9_1 i h), kread (h := offk9_2 i h), kread (h := offk9_3 i h), kread (h := offk9_4 i h), vread (hh := 0) (h := offv9_0 i h), vread (hh := 0) (h := offv9_1 i h), vread (hh := 0) (h := offv9_2 i h), vread (hh := 0) (h := offv9_3 i h)]
      rw [hinit]
      rfl
    · obtain ⟨L, hL⟩ := tripL9 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v48 v71 v72 v73 v74 c2_i32_41 v89 c0_i32_42 cst_55 (arg6.view.rep x2) (arg7.view.rep x3) (arg8.view.rep x4) ⟨0, h⟩ init (arg14.view.writes (Elt F) G_arg14 []) (arg15.view.writes (Elt F) G_arg15 [])
      refine ⟨(L ++ []) ++ (⟨(Rect.unit (s := S2x512x1024) ![0, 0, 0] S1x512x1024.size inb_S2x512x1024_S1x512x1024_0_0_0), blkS v23 cst_55 v48 x2 x3 0⟩ :: Lb), ?_⟩
      show ((tripL_k0_t9 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v48 v71 v72 v73 v74 c2_i32_41 v89 c0_i32_42 cst_55 (arg6.view.rep x2) (arg7.view.rep x3) (arg8.view.rep x4) ⟨0, h⟩ init (arg14.view.writes (Elt F) G_arg14 []) (arg15.view.writes (Elt F) G_arg15 [])).1 ++ []) ++ (⟨(Rect.unit (s := S2x512x1024) ![0, 0, 0] S1x512x1024.size inb_S2x512x1024_S1x512x1024_0_0_0), blkS v23 cst_55 v48 x2 x3 0⟩ :: Lb) = _
      rw [hL]
      simp only [kread (h := offk9_1 i h), kread (h := offk9_2 i h), kread (h := offk9_3 i h), kread (h := offk9_4 i h)]
      rfl

theorem trips11 : ∀ i : grid0.Coords, Scf.trips (k0_t11_loop i).lb (k0_t11_loop i).ub (k0_t11_loop i).st = (i 2).val % 2 := by decide +kernel

theorem offk11_1 : ∀ (i : grid0.Coords) (h : 0 < (k0_t11_loop i).trips), k0_off86 i ⟨0, h⟩ 1#32 = ![0, 512 * (((4 * ((i 2).val / 2)) + 1) % 8), 0] := by decide +kernel
theorem offk11_2 : ∀ (i : grid0.Coords) (h : 0 < (k0_t11_loop i).trips), k0_off86 i ⟨0, h⟩ 2#32 = ![0, 512 * (((4 * ((i 2).val / 2)) + 2) % 8), 0] := by decide +kernel
theorem offv11_0 : ∀ (i : grid0.Coords) (h : 0 < (k0_t11_loop i).trips), k0_off87 i ⟨0, h⟩ = ![0, (4 * ((i 2).val / 2)) % 8, 64 * (0 : Fin 2).val, 0] := by decide +kernel
theorem offv11_1 : ∀ (i : grid0.Coords) (h : 0 < (k0_t11_loop i).trips), k0_off88 i ⟨0, h⟩ = ![0, ((4 * ((i 2).val / 2)) + 1) % 8, 64 * (0 : Fin 2).val, 0] := by decide +kernel

/-- The loop takes the state over its blocks and leaves the next block's scores stored. -/
theorem loop11  (𝒱 : Variants) (c : Dev nD) (bd : Option 𝒱.V) (i : grid0.Coords) (arg3 : Memref sig .tc .smem S257 .i32) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole) (arg14 : Memref sig .tc .vmem S2x512x1024 .f32) (harg14 : arg14.IsWhole) (arg15 : Memref sig .tc .vmem S2x512x1024 .f32) (harg15 : arg15.IsWhole) (arg16 : Memref sig .tc .vmem S2x512x1024 .bf16) (harg16 : arg16.IsWhole) (arg17 : Memref sig .tc .vmem S2x512x1024 .bf16) (harg17 : arg17.IsWhole) (v23 : IVec S512x128 1) (v48 : FVec F S256x1024 .bf16) (v70 : FVec F S256x1024 .bf16) (v74 : BitVec 32) (v123 : BitVec 32) (v130_0 : FVec F S1x1024 .f32) (v130_1 : FVec F S1x1024 .f32) (v130_2 : FVec F S64x1024 .f32) (c2_i32_60 : BitVec 32) (v132 : BitVec 32) (cst_69 : F .bf16) (X_arg6 : BufTy.Contents (Elt F) arg6.view.ty) (X_arg7 : BufTy.Contents (Elt F) arg7.view.ty) (X_arg8 : BufTy.Contents (Elt F) arg8.view.ty) (G_arg14 : BufTy.Contents (Elt F) arg14.view.ty) (G_arg15 : BufTy.Contents (Elt F) arg15.view.ty) (init : FVec F S1x1024 .f32 × FVec F S1x1024 .f32 × FVec F S64x1024 .f32)  (x2 x3 : Vec F S1x4096x128 .bf16) (x4 : Vec F S1x8x128x512 .bf16)
    (hX6 : X_arg6 = arg6.view.rep x2) (hX7 : X_arg7 = arg7.view.rep x3) (hX8 : X_arg8 = arg8.view.rep x4) (H : BufTy.Contents (Elt F) arg14.view.ty)
    (Lb : List (View.Piece (Elt F) S2x512x1024 .f32)) (hG : G_arg14 = arg14.view.writes (Elt F) H (⟨(Rect.unit (s := S2x512x1024) ![0, 0, 0] S1x512x1024.size inb_S2x512x1024_S1x512x1024_0_0_0), blkS v23 cst_69 v48 x2 x3 (4 * ((i 2).val / 2))⟩ :: Lb))
    (hinit : init = seqS v23 cst_69 v48 x2 x3 x4 0 (4 * ((i 2).val / 2))) :
    (st_k0_t11 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v48 v70 v74 v123 v130_0 v130_1 v130_2 c2_i32_60 v132 cst_69 X_arg6 X_arg7 X_arg8 G_arg14 G_arg15 init (Scf.trips (k0_t11_loop i).lb (k0_t11_loop i).ub (k0_t11_loop i).st)).1 = seqS v23 cst_69 v48 x2 x3 x4 0 ((4 * ((i 2).val / 2)) + 2 * ((i 2).val % 2))
    ∧ ∃ L, (st_k0_t11 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v48 v70 v74 v123 v130_0 v130_1 v130_2 c2_i32_60 v132 cst_69 X_arg6 X_arg7 X_arg8 G_arg14 G_arg15 init (Scf.trips (k0_t11_loop i).lb (k0_t11_loop i).ub (k0_t11_loop i).st)).2.1 ++ (⟨(Rect.unit (s := S2x512x1024) ![0, 0, 0] S1x512x1024.size inb_S2x512x1024_S1x512x1024_0_0_0), blkS v23 cst_69 v48 x2 x3 (4 * ((i 2).val / 2))⟩ :: Lb) = ⟨(Rect.unit (s := S2x512x1024) ![0, 0, 0] S1x512x1024.size inb_S2x512x1024_S1x512x1024_0_0_0), blkS v23 cst_69 v48 x2 x3 ((4 * ((i 2).val / 2)) + 2 * ((i 2).val % 2))⟩ :: L := by
  subst hX6 hX7 hX8
  have ht := trips11 i
  have hi : (i 2).val < 4 := (i 2).isLt
  have hz : st_k0_t11 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v48 v70 v74 v123 v130_0 v130_1 v130_2 c2_i32_60 v132 cst_69 (arg6.view.rep x2) (arg7.view.rep x3) (arg8.view.rep x4) G_arg14 G_arg15 init 0 = (init, [], []) := rfl
  rcases Nat.eq_zero_or_pos (Scf.trips (k0_t11_loop i).lb (k0_t11_loop i).ub (k0_t11_loop i).st) with h | h
  · have e : ((4 * ((i 2).val / 2)) + 2 * ((i 2).val % 2)) = (4 * ((i 2).val / 2)) := by omega
    rw [h, hz, e]
    exact ⟨hinit, Lb, rfl⟩
  · have h1 : (Scf.trips (k0_t11_loop i).lb (k0_t11_loop i).ub (k0_t11_loop i).st) = (⟨0, h⟩ : Fin (k0_t11_loop i).trips).val + 1 := by show (Scf.trips (k0_t11_loop i).lb (k0_t11_loop i).ub (k0_t11_loop i).st) = 0 + 1; omega
    have e : ((4 * ((i 2).val / 2)) + 2 * ((i 2).val % 2)) = (4 * ((i 2).val / 2)) + 2 := by omega
    have hz' : st_k0_t11 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v48 v70 v74 v123 v130_0 v130_1 v130_2 c2_i32_60 v132 cst_69 (arg6.view.rep x2) (arg7.view.rep x3) (arg8.view.rep x4) G_arg14 G_arg15 init (⟨0, h⟩ : Fin (k0_t11_loop i).trips).val = (init, [], []) := hz
    have hr : View.readAt (Elt F) arg14.view (Rect.unit (s := S2x512x1024) ![0, 0, 0] S1x512x1024.size inb_S2x512x1024_S1x512x1024_0_0_0).toLoadRect (arg14.view.writes (Elt F) G_arg14 []) = blkS v23 cst_69 v48 x2 x3 (4 * ((i 2).val / 2)) := by
      have hw : arg14.view.writes (Elt F) G_arg14 [] = G_arg14 := rfl
      rw [hw, hG]
      exact readAt_cons ..
    rw [h1, e, st_k0_t11_succ, hz']
    refine ⟨?_, ?_⟩
    · show tripR_k0_t11 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v48 v70 v74 v123 v130_0 v130_1 v130_2 c2_i32_60 v132 cst_69 (arg6.view.rep x2) (arg7.view.rep x3) (arg8.view.rep x4) ⟨0, h⟩ init (arg14.view.writes (Elt F) G_arg14 []) (arg15.view.writes (Elt F) G_arg15 []) = _
      rw [tripR11, hr]
      simp only [kread (h := offk11_1 i h), kread (h := offk11_2 i h), vread (hh := 0) (h := offv11_0 i h), vread (hh := 0) (h := offv11_1 i h)]
      rw [hinit]
      rfl
    · obtain ⟨L, hL⟩ := tripL11 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v48 v70 v74 v123 v130_0 v130_1 v130_2 c2_i32_60 v132 cst_69 (arg6.view.rep x2) (arg7.view.rep x3) (arg8.view.rep x4) ⟨0, h⟩ init (arg14.view.writes (Elt F) G_arg14 []) (arg15.view.writes (Elt F) G_arg15 [])
      refine ⟨(L ++ []) ++ (⟨(Rect.unit (s := S2x512x1024) ![0, 0, 0] S1x512x1024.size inb_S2x512x1024_S1x512x1024_0_0_0), blkS v23 cst_69 v48 x2 x3 (4 * ((i 2).val / 2))⟩ :: Lb), ?_⟩
      show ((tripL_k0_t11 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v48 v70 v74 v123 v130_0 v130_1 v130_2 c2_i32_60 v132 cst_69 (arg6.view.rep x2) (arg7.view.rep x3) (arg8.view.rep x4) ⟨0, h⟩ init (arg14.view.writes (Elt F) G_arg14 []) (arg15.view.writes (Elt F) G_arg15 [])).1 ++ []) ++ (⟨(Rect.unit (s := S2x512x1024) ![0, 0, 0] S1x512x1024.size inb_S2x512x1024_S1x512x1024_0_0_0), blkS v23 cst_69 v48 x2 x3 (4 * ((i 2).val / 2))⟩ :: Lb) = _
      rw [hL]
      simp only [kread (h := offk11_1 i h), kread (h := offk11_2 i h)]
      rfl

theorem trips13 : ∀ i : grid0.Coords, Scf.trips (k0_t13_loop i).lb (k0_t13_loop i).ub (k0_t13_loop i).st = (i 2).val / 2 := by decide +kernel

theorem offk13_1 : ∀ (i : grid0.Coords) (h : 0 < (k0_t13_loop i).trips), k0_off95 i ⟨0, h⟩ 0#32 1#32 = ![0, 512 * ((0 + 1) % 8), 0] := by decide +kernel
theorem offk13_2 : ∀ (i : grid0.Coords) (h : 0 < (k0_t13_loop i).trips), k0_off95 i ⟨0, h⟩ 0#32 2#32 = ![0, 512 * ((0 + 2) % 8), 0] := by decide +kernel
theorem offk13_3 : ∀ (i : grid0.Coords) (h : 0 < (k0_t13_loop i).trips), k0_off95 i ⟨0, h⟩ 1#32 1#32 = ![0, 512 * ((0 + 3) % 8), 0] := by decide +kernel
theorem offk13_4 : ∀ (i : grid0.Coords) (h : 0 < (k0_t13_loop i).trips), k0_off95 i ⟨0, h⟩ 1#32 2#32 = ![0, 512 * ((0 + 4) % 8), 0] := by decide +kernel
theorem offv13_0 : ∀ (i : grid0.Coords) (h : 0 < (k0_t13_loop i).trips), k0_off96 i ⟨0, h⟩ 0#32 = ![0, 0 % 8, 64 * (1 : Fin 2).val, 0] := by decide +kernel
theorem offv13_1 : ∀ (i : grid0.Coords) (h : 0 < (k0_t13_loop i).trips), k0_off97 i ⟨0, h⟩ 0#32 = ![0, (0 + 1) % 8, 64 * (1 : Fin 2).val, 0] := by decide +kernel
theorem offv13_2 : ∀ (i : grid0.Coords) (h : 0 < (k0_t13_loop i).trips), k0_off96 i ⟨0, h⟩ 1#32 = ![0, (0 + 2) % 8, 64 * (1 : Fin 2).val, 0] := by decide +kernel
theorem offv13_3 : ∀ (i : grid0.Coords) (h : 0 < (k0_t13_loop i).trips), k0_off97 i ⟨0, h⟩ 1#32 = ![0, (0 + 3) % 8, 64 * (1 : Fin 2).val, 0] := by decide +kernel

/-- The loop takes the state over its blocks and leaves the next block's scores stored. -/
theorem loop13  (𝒱 : Variants) (c : Dev nD) (bd : Option 𝒱.V) (i : grid0.Coords) (arg3 : Memref sig .tc .smem S257 .i32) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole) (arg14 : Memref sig .tc .vmem S2x512x1024 .f32) (harg14 : arg14.IsWhole) (arg15 : Memref sig .tc .vmem S2x512x1024 .f32) (harg15 : arg15.IsWhole) (arg16 : Memref sig .tc .vmem S2x512x1024 .bf16) (harg16 : arg16.IsWhole) (arg17 : Memref sig .tc .vmem S2x512x1024 .bf16) (harg17 : arg17.IsWhole) (v23 : IVec S512x128 1) (v70 : FVec F S256x1024 .bf16) (v71 : FVec F S1x1024 .f32) (v72 : FVec F S64x1024 .f32) (v73 : FVec F S1x1024 .f32) (v74 : BitVec 32) (v244 : BitVec 32) (v255 : BitVec 1) (v256 : BitVec 32) (cst_122 : F .bf16) (X_arg6 : BufTy.Contents (Elt F) arg6.view.ty) (X_arg7 : BufTy.Contents (Elt F) arg7.view.ty) (X_arg8 : BufTy.Contents (Elt F) arg8.view.ty) (G_arg14 : BufTy.Contents (Elt F) arg14.view.ty) (G_arg15 : BufTy.Contents (Elt F) arg15.view.ty) (init : FVec F S1x1024 .f32 × FVec F S1x1024 .f32 × FVec F S64x1024 .f32)  (x2 x3 : Vec F S1x4096x128 .bf16) (x4 : Vec F S1x8x128x512 .bf16)
    (hX6 : X_arg6 = arg6.view.rep x2) (hX7 : X_arg7 = arg7.view.rep x3) (hX8 : X_arg8 = arg8.view.rep x4) (H : BufTy.Contents (Elt F) arg14.view.ty)
    (Lb : List (View.Piece (Elt F) S2x512x1024 .f32)) (hG : G_arg14 = arg14.view.writes (Elt F) H (⟨(Rect.unit (s := S2x512x1024) ![1, 0, 0] S1x512x1024.size inb_S2x512x1024_S1x512x1024_1_0_0), blkS v23 cst_122 v70 x2 x3 0⟩ :: Lb))
    (hinit : init = seqS v23 cst_122 v70 x2 x3 x4 1 0) :
    (st_k0_t13 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v70 v71 v72 v73 v74 v244 v255 v256 cst_122 X_arg6 X_arg7 X_arg8 G_arg14 G_arg15 init (Scf.trips (k0_t13_loop i).lb (k0_t13_loop i).ub (k0_t13_loop i).st)).1 = seqS v23 cst_122 v70 x2 x3 x4 1 (0 + 4 * ((i 2).val / 2))
    ∧ ∃ L, (st_k0_t13 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v70 v71 v72 v73 v74 v244 v255 v256 cst_122 X_arg6 X_arg7 X_arg8 G_arg14 G_arg15 init (Scf.trips (k0_t13_loop i).lb (k0_t13_loop i).ub (k0_t13_loop i).st)).2.1 ++ (⟨(Rect.unit (s := S2x512x1024) ![1, 0, 0] S1x512x1024.size inb_S2x512x1024_S1x512x1024_1_0_0), blkS v23 cst_122 v70 x2 x3 0⟩ :: Lb) = ⟨(Rect.unit (s := S2x512x1024) ![1, 0, 0] S1x512x1024.size inb_S2x512x1024_S1x512x1024_1_0_0), blkS v23 cst_122 v70 x2 x3 (0 + 4 * ((i 2).val / 2))⟩ :: L := by
  subst hX6 hX7 hX8
  have ht := trips13 i
  have hi : (i 2).val < 4 := (i 2).isLt
  have hz : st_k0_t13 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v70 v71 v72 v73 v74 v244 v255 v256 cst_122 (arg6.view.rep x2) (arg7.view.rep x3) (arg8.view.rep x4) G_arg14 G_arg15 init 0 = (init, [], []) := rfl
  rcases Nat.eq_zero_or_pos (Scf.trips (k0_t13_loop i).lb (k0_t13_loop i).ub (k0_t13_loop i).st) with h | h
  · have e : (0 + 4 * ((i 2).val / 2)) = 0 := by omega
    rw [h, hz, e]
    exact ⟨hinit, Lb, rfl⟩
  · have h1 : (Scf.trips (k0_t13_loop i).lb (k0_t13_loop i).ub (k0_t13_loop i).st) = (⟨0, h⟩ : Fin (k0_t13_loop i).trips).val + 1 := by show (Scf.trips (k0_t13_loop i).lb (k0_t13_loop i).ub (k0_t13_loop i).st) = 0 + 1; omega
    have e : (0 + 4 * ((i 2).val / 2)) = 0 + 4 := by omega
    have hz' : st_k0_t13 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v70 v71 v72 v73 v74 v244 v255 v256 cst_122 (arg6.view.rep x2) (arg7.view.rep x3) (arg8.view.rep x4) G_arg14 G_arg15 init (⟨0, h⟩ : Fin (k0_t13_loop i).trips).val = (init, [], []) := hz
    have hr : View.readAt (Elt F) arg14.view (Rect.unit (s := S2x512x1024) ![1, 0, 0] S1x512x1024.size inb_S2x512x1024_S1x512x1024_1_0_0).toLoadRect (arg14.view.writes (Elt F) G_arg14 []) = blkS v23 cst_122 v70 x2 x3 0 := by
      have hw : arg14.view.writes (Elt F) G_arg14 [] = G_arg14 := rfl
      rw [hw, hG]
      exact readAt_cons ..
    rw [h1, e, st_k0_t13_succ, hz']
    refine ⟨?_, ?_⟩
    · show tripR_k0_t13 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v70 v71 v72 v73 v74 v244 v255 v256 cst_122 (arg6.view.rep x2) (arg7.view.rep x3) (arg8.view.rep x4) ⟨0, h⟩ init (arg14.view.writes (Elt F) G_arg14 []) (arg15.view.writes (Elt F) G_arg15 []) = _
      rw [tripR13, hr]
      simp only [kread (h := offk13_1 i h), kread (h := offk13_2 i h), kread (h := offk13_3 i h), kread (h := offk13_4 i h), vread (hh := 1) (h := offv13_0 i h), vread (hh := 1) (h := offv13_1 i h), vread (hh := 1) (h := offv13_2 i h), vread (hh := 1) (h := offv13_3 i h)]
      rw [hinit]
      rfl
    · obtain ⟨L, hL⟩ := tripL13 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v70 v71 v72 v73 v74 v244 v255 v256 cst_122 (arg6.view.rep x2) (arg7.view.rep x3) (arg8.view.rep x4) ⟨0, h⟩ init (arg14.view.writes (Elt F) G_arg14 []) (arg15.view.writes (Elt F) G_arg15 [])
      refine ⟨(L ++ []) ++ (⟨(Rect.unit (s := S2x512x1024) ![1, 0, 0] S1x512x1024.size inb_S2x512x1024_S1x512x1024_1_0_0), blkS v23 cst_122 v70 x2 x3 0⟩ :: Lb), ?_⟩
      show ((tripL_k0_t13 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v70 v71 v72 v73 v74 v244 v255 v256 cst_122 (arg6.view.rep x2) (arg7.view.rep x3) (arg8.view.rep x4) ⟨0, h⟩ init (arg14.view.writes (Elt F) G_arg14 []) (arg15.view.writes (Elt F) G_arg15 [])).1 ++ []) ++ (⟨(Rect.unit (s := S2x512x1024) ![1, 0, 0] S1x512x1024.size inb_S2x512x1024_S1x512x1024_1_0_0), blkS v23 cst_122 v70 x2 x3 0⟩ :: Lb) = _
      rw [hL]
      simp only [kread (h := offk13_1 i h), kread (h := offk13_2 i h), kread (h := offk13_3 i h), kread (h := offk13_4 i h)]
      rfl

theorem trips15 : ∀ i : grid0.Coords, Scf.trips (k0_t15_loop i).lb (k0_t15_loop i).ub (k0_t15_loop i).st = (i 2).val % 2 := by decide +kernel

theorem offk15_1 : ∀ (i : grid0.Coords) (h : 0 < (k0_t15_loop i).trips), k0_off101 i ⟨0, h⟩ 1#32 = ![0, 512 * (((4 * ((i 2).val / 2)) + 1) % 8), 0] := by decide +kernel
theorem offk15_2 : ∀ (i : grid0.Coords) (h : 0 < (k0_t15_loop i).trips), k0_off101 i ⟨0, h⟩ 2#32 = ![0, 512 * (((4 * ((i 2).val / 2)) + 2) % 8), 0] := by decide +kernel
theorem offv15_0 : ∀ (i : grid0.Coords) (h : 0 < (k0_t15_loop i).trips), k0_off102 i ⟨0, h⟩ = ![0, (4 * ((i 2).val / 2)) % 8, 64 * (1 : Fin 2).val, 0] := by decide +kernel
theorem offv15_1 : ∀ (i : grid0.Coords) (h : 0 < (k0_t15_loop i).trips), k0_off103 i ⟨0, h⟩ = ![0, ((4 * ((i 2).val / 2)) + 1) % 8, 64 * (1 : Fin 2).val, 0] := by decide +kernel

/-- The loop takes the state over its blocks and leaves the next block's scores stored. -/
theorem loop15  (𝒱 : Variants) (c : Dev nD) (bd : Option 𝒱.V) (i : grid0.Coords) (arg3 : Memref sig .tc .smem S257 .i32) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole) (arg14 : Memref sig .tc .vmem S2x512x1024 .f32) (harg14 : arg14.IsWhole) (arg15 : Memref sig .tc .vmem S2x512x1024 .f32) (harg15 : arg15.IsWhole) (arg16 : Memref sig .tc .vmem S2x512x1024 .bf16) (harg16 : arg16.IsWhole) (arg17 : Memref sig .tc .vmem S2x512x1024 .bf16) (harg17 : arg17.IsWhole) (v23 : IVec S512x128 1) (v26 : IVec S512x512 1) (v70 : FVec F S256x1024 .bf16) (v74 : BitVec 32) (v285_0 : FVec F S1x1024 .f32) (v285_1 : FVec F S1x1024 .f32) (v285_2 : FVec F S64x1024 .f32) (v287 : BitVec 32) (c2_i32_129 : BitVec 32) (v288 : BitVec 32) (v293 : BitVec 32) (v295 : BitVec 32) (cst_136 : F .bf16) (X_arg6 : BufTy.Contents (Elt F) arg6.view.ty) (X_arg7 : BufTy.Contents (Elt F) arg7.view.ty) (X_arg8 : BufTy.Contents (Elt F) arg8.view.ty) (G_arg14 : BufTy.Contents (Elt F) arg14.view.ty) (G_arg15 : BufTy.Contents (Elt F) arg15.view.ty) (init : FVec F S1x1024 .f32 × FVec F S1x1024 .f32 × FVec F S64x1024 .f32)  (x2 x3 : Vec F S1x4096x128 .bf16) (x4 : Vec F S1x8x128x512 .bf16)
    (hX6 : X_arg6 = arg6.view.rep x2) (hX7 : X_arg7 = arg7.view.rep x3) (hX8 : X_arg8 = arg8.view.rep x4) (H : BufTy.Contents (Elt F) arg14.view.ty)
    (Lb : List (View.Piece (Elt F) S2x512x1024 .f32)) (hG : G_arg14 = arg14.view.writes (Elt F) H (⟨(Rect.unit (s := S2x512x1024) ![1, 0, 0] S1x512x1024.size inb_S2x512x1024_S1x512x1024_1_0_0), blkS v23 cst_136 v70 x2 x3 (4 * ((i 2).val / 2))⟩ :: Lb))
    (hinit : init = seqS v23 cst_136 v70 x2 x3 x4 1 (4 * ((i 2).val / 2))) :
    (st_k0_t15 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v26 v70 v74 v285_0 v285_1 v285_2 v287 c2_i32_129 v288 v293 v295 cst_136 X_arg6 X_arg7 X_arg8 G_arg14 G_arg15 init (Scf.trips (k0_t15_loop i).lb (k0_t15_loop i).ub (k0_t15_loop i).st)).1 = seqS v23 cst_136 v70 x2 x3 x4 1 ((4 * ((i 2).val / 2)) + 2 * ((i 2).val % 2))
    ∧ ∃ L, (st_k0_t15 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v26 v70 v74 v285_0 v285_1 v285_2 v287 c2_i32_129 v288 v293 v295 cst_136 X_arg6 X_arg7 X_arg8 G_arg14 G_arg15 init (Scf.trips (k0_t15_loop i).lb (k0_t15_loop i).ub (k0_t15_loop i).st)).2.1 ++ (⟨(Rect.unit (s := S2x512x1024) ![1, 0, 0] S1x512x1024.size inb_S2x512x1024_S1x512x1024_1_0_0), blkS v23 cst_136 v70 x2 x3 (4 * ((i 2).val / 2))⟩ :: Lb) = ⟨(Rect.unit (s := S2x512x1024) ![1, 0, 0] S1x512x1024.size inb_S2x512x1024_S1x512x1024_1_0_0), blkS v23 cst_136 v70 x2 x3 ((4 * ((i 2).val / 2)) + 2 * ((i 2).val % 2))⟩ :: L := by
  subst hX6 hX7 hX8
  have ht := trips15 i
  have hi : (i 2).val < 4 := (i 2).isLt
  have hz : st_k0_t15 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v26 v70 v74 v285_0 v285_1 v285_2 v287 c2_i32_129 v288 v293 v295 cst_136 (arg6.view.rep x2) (arg7.view.rep x3) (arg8.view.rep x4) G_arg14 G_arg15 init 0 = (init, [], []) := rfl
  rcases Nat.eq_zero_or_pos (Scf.trips (k0_t15_loop i).lb (k0_t15_loop i).ub (k0_t15_loop i).st) with h | h
  · have e : ((4 * ((i 2).val / 2)) + 2 * ((i 2).val % 2)) = (4 * ((i 2).val / 2)) := by omega
    rw [h, hz, e]
    exact ⟨hinit, Lb, rfl⟩
  · have h1 : (Scf.trips (k0_t15_loop i).lb (k0_t15_loop i).ub (k0_t15_loop i).st) = (⟨0, h⟩ : Fin (k0_t15_loop i).trips).val + 1 := by show (Scf.trips (k0_t15_loop i).lb (k0_t15_loop i).ub (k0_t15_loop i).st) = 0 + 1; omega
    have e : ((4 * ((i 2).val / 2)) + 2 * ((i 2).val % 2)) = (4 * ((i 2).val / 2)) + 2 := by omega
    have hz' : st_k0_t15 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v26 v70 v74 v285_0 v285_1 v285_2 v287 c2_i32_129 v288 v293 v295 cst_136 (arg6.view.rep x2) (arg7.view.rep x3) (arg8.view.rep x4) G_arg14 G_arg15 init (⟨0, h⟩ : Fin (k0_t15_loop i).trips).val = (init, [], []) := hz
    have hr : View.readAt (Elt F) arg14.view (Rect.unit (s := S2x512x1024) ![1, 0, 0] S1x512x1024.size inb_S2x512x1024_S1x512x1024_1_0_0).toLoadRect (arg14.view.writes (Elt F) G_arg14 []) = blkS v23 cst_136 v70 x2 x3 (4 * ((i 2).val / 2)) := by
      have hw : arg14.view.writes (Elt F) G_arg14 [] = G_arg14 := rfl
      rw [hw, hG]
      exact readAt_cons ..
    rw [h1, e, st_k0_t15_succ, hz']
    refine ⟨?_, ?_⟩
    · show tripR_k0_t15 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v26 v70 v74 v285_0 v285_1 v285_2 v287 c2_i32_129 v288 v293 v295 cst_136 (arg6.view.rep x2) (arg7.view.rep x3) (arg8.view.rep x4) ⟨0, h⟩ init (arg14.view.writes (Elt F) G_arg14 []) (arg15.view.writes (Elt F) G_arg15 []) = _
      rw [tripR15, hr]
      simp only [kread (h := offk15_1 i h), kread (h := offk15_2 i h), vread (hh := 1) (h := offv15_0 i h), vread (hh := 1) (h := offv15_1 i h)]
      rw [hinit]
      rfl
    · obtain ⟨L, hL⟩ := tripL15 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v26 v70 v74 v285_0 v285_1 v285_2 v287 c2_i32_129 v288 v293 v295 cst_136 (arg6.view.rep x2) (arg7.view.rep x3) (arg8.view.rep x4) ⟨0, h⟩ init (arg14.view.writes (Elt F) G_arg14 []) (arg15.view.writes (Elt F) G_arg15 [])
      refine ⟨(L ++ []) ++ (⟨(Rect.unit (s := S2x512x1024) ![1, 0, 0] S1x512x1024.size inb_S2x512x1024_S1x512x1024_1_0_0), blkS v23 cst_136 v70 x2 x3 (4 * ((i 2).val / 2))⟩ :: Lb), ?_⟩
      show ((tripL_k0_t15 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v23 v26 v70 v74 v285_0 v285_1 v285_2 v287 c2_i32_129 v288 v293 v295 cst_136 (arg6.view.rep x2) (arg7.view.rep x3) (arg8.view.rep x4) ⟨0, h⟩ init (arg14.view.writes (Elt F) G_arg14 []) (arg15.view.writes (Elt F) G_arg15 [])).1 ++ []) ++ (⟨(Rect.unit (s := S2x512x1024) ![1, 0, 0] S1x512x1024.size inb_S2x512x1024_S1x512x1024_1_0_0), blkS v23 cst_136 v70 x2 x3 (4 * ((i 2).val / 2))⟩ :: Lb) = _
      rw [hL]
      simp only [kread (h := offk15_1 i h), kread (h := offk15_2 i h)]
      rfl

/-- The two heads' queries over 256 lanes: the head's own 64 rows of the pair, and its three bias pieces against ones. -/
def q0 (x0 x1 : Vec F S1x128x1024 .bf16) : FVec F S256x1024 .bf16 := k0_pay286 x0 x1

def q1 (x0 x1 : Vec F S1x128x1024 .bf16) : FVec F S256x1024 .bf16 :=
  k0_pay451 (k0_pay282 x0) (k0_pay283 x1) (iota .tc S128x1024 32 [0] iota_S128x1024_d0_w32) k0_pay287

/-- The number one, as the keys' bias lanes hold it. -/
def one : F .bf16 := Scalar.ofBits .bf16 0x3F80#16

/-- The first head's closing steps, over the two blocks on the diagonal. -/
def fin0 (q : FVec F S256x1024 .bf16) (st : St F) (s : FVec F S1x512x1024 .f32) (kb k : Vec F S1x512x128 .bf16) (vA vB : Vec F S1x1x64x512 .bf16) : FVec F S64x1024 .f32 :=
  k0_pay487 k0_pay285 (k0_pay478 k0_pay284 q kb k) (k0_pay480 vA) (k0_pay481 k0_pay285 st.1 s) (k0_pay484 k0_pay285 st.1 st.2.1 s)
    (k0_pay485 k0_pay285 st.1 st.2.2 s) (k0_pay486 k0_pay285 st.1 s) (constant S64x1024 .f32 0x00000000#32) vB

/-- The second head's closing sums. -/
def finL (q : FVec F S256x1024 .bf16) (st : St F) (s : FVec F S1x512x1024 .f32) (kb k : Vec F S1x512x128 .bf16) : FVec F S1x1024 .f32 :=
  k0_pay518 k0_pay285 st.1 st.2.1 (k0_pay508 k0_pay284 q kb k) (k0_pay509 k0_pay285 s)

/-- The second head's closing rows. -/
def finA (q : FVec F S256x1024 .bf16) (st : St F) (s : FVec F S1x512x1024 .f32) (kb k : Vec F S1x512x128 .bf16) (vA vB : Vec F S1x1x64x512 .bf16) : FVec F S64x1024 .f32 :=
  k0_pay519 k0_pay285 st.1 st.2.2 (k0_pay508 k0_pay284 q kb k) (k0_pay509 k0_pay285 s) vA vB

/-- The tile's result, from `n` whole blocks and the two on the diagonal. -/
def outN (n : ℕ) (x0 x1 : Vec F S1x128x1024 .bf16) (x2 x3 : Vec F S1x4096x128 .bf16) (x4 : Vec F S1x8x128x512 .bf16) : FVec F S1x1024x128 .bf16 :=
  k0_pay6
    (fin0 (q0 x0 x1) (seqS k0_pay284 one (q0 x0 x1) x2 x3 x4 0 n) (blkS k0_pay284 one (q0 x0 x1) x2 x3 n) (kblk x3 (n + 1)) (kblk x2 (n + 1)) (vblk x4 0 n) (vblk x4 0 (n + 1)))
    (finL (q1 x0 x1) (seqS k0_pay284 one (q1 x0 x1) x2 x3 x4 1 n) (blkS k0_pay284 one (q1 x0 x1) x2 x3 n) (kblk x3 (n + 1)) (kblk x2 (n + 1)))
    (finA (q1 x0 x1) (seqS k0_pay284 one (q1 x0 x1) x2 x3 x4 1 n) (blkS k0_pay284 one (q1 x0 x1) x2 x3 n) (kblk x3 (n + 1)) (kblk x2 (n + 1)) (vblk x4 1 n) (vblk x4 1 (n + 1)))

theorem offd92 : ∀ i : grid0.Coords, k0_off92 i = ![0, 512 * ((2 * (i 2).val + 1) % 8), 0] := by decide +kernel
theorem offd93 : ∀ i : grid0.Coords, k0_off93 i = ![0, (2 * (i 2).val) % 8, 64 * (0 : Fin 2).val, 0] := by decide +kernel
theorem offd94 : ∀ i : grid0.Coords, k0_off94 i = ![0, (2 * (i 2).val + 1) % 8, 64 * (0 : Fin 2).val, 0] := by decide +kernel
theorem offd107 : ∀ i : grid0.Coords, k0_off107 i = ![0, (2 * (i 2).val) % 8, 64 * (1 : Fin 2).val, 0] := by decide +kernel
theorem offd108 : ∀ i : grid0.Coords, k0_off108 i = ![0, (2 * (i 2).val + 1) % 8, 64 * (1 : Fin 2).val, 0] := by decide +kernel

end

section

/-- The first head's queries as the body builds them. -/
theorem q0_word (arg4 arg5 : Memref sig .tc .vmem S1x128x1024 .bf16) (x0 x1 : Vec Bits S1x128x1024 .bf16) :
    bodyRun.sl.r_3 arg4 arg5 x0 x1 = q0 (F := Bits) x0 x1 := by
  have h : bodyRun.sl.r_3 arg4 arg5 x0 x1 = q0 (F := Bits)
      (View.readAt (Elt Bits) arg4.view (Rect.unit (s := S1x128x1024) ![0, 0, 0] S1x128x1024.size inb_S1x128x1024_S1x128x1024_0_0_0).toLoadRect (arg4.view.rep x0))
      (View.readAt (Elt Bits) arg5.view (Rect.unit (s := S1x128x1024) ![0, 0, 0] S1x128x1024.size inb_S1x128x1024_S1x128x1024_0_0_0).toLoadRect (arg5.view.rep x1)) := rfl
  rw [h, View.readAt_rep_full, View.readAt_rep_full]

/-- The second head's. -/
theorem q1_word (arg4 arg5 : Memref sig .tc .vmem S1x128x1024 .bf16) (x0 x1 : Vec Bits S1x128x1024 .bf16) :
    bodyRun.sl.r_4 arg4 arg5 x0 x1 = q1 (F := Bits) x0 x1 := by
  have h : bodyRun.sl.r_4 arg4 arg5 x0 x1 = q1 (F := Bits)
      (View.readAt (Elt Bits) arg4.view (Rect.unit (s := S1x128x1024) ![0, 0, 0] S1x128x1024.size inb_S1x128x1024_S1x128x1024_0_0_0).toLoadRect (arg4.view.rep x0))
      (View.readAt (Elt Bits) arg5.view (Rect.unit (s := S1x128x1024) ![0, 0, 0] S1x128x1024.size inb_S1x128x1024_S1x128x1024_0_0_0).toLoadRect (arg5.view.rep x1)) := rfl
  rw [h, View.readAt_rep_full, View.readAt_rep_full]

/-- The block of keys at the start. -/
theorem kread0 (v : Memref sig .tc .vmem S1x4096x128 .bf16) (x : Vec Bits S1x4096x128 .bf16) (inb : ∀ a, ![0, 0, 0] a + S1x512x128.size a ≤ S1x4096x128.size a) :
    View.readAt (Elt Bits) v.view (Rect.unit (s := S1x4096x128) ![0, 0, 0] S1x512x128.size inb).toLoadRect (v.view.rep x) = kblk (F := Bits) x 0 :=
  kread v x (by decide) inb

/-- The scores of block 0 the body stores before the first head's loop. -/
abbrev P0 (c : Dev nD) (i : grid0.Coords) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole)
    (x0 x1 : Vec Bits S1x128x1024 .bf16) (x2 x3 : Vec Bits S1x4096x128 .bf16) (x4 : Vec Bits S1x8x128x512 .bf16) (xa0 : Buf (Elt Bits) ((c : Thread nD τ).loc cc0_scratch0)) (xa1 : Buf (Elt Bits) ((c : Thread nD τ).loc cc0_scratch1)) : View.Piece (Elt Bits) S2x512x1024 .f32 :=
  ⟨Rect.unit (s := S2x512x1024) ![0, 0, 0] S1x512x1024.size inb_S2x512x1024_S1x512x1024_0_0_0, k0_pay455 k0_pay447 (bodyRun.sl.r_3 arg4 arg5 x0 x1)
    (View.readAt (Elt Bits) arg7.view (Rect.unit (s := S1x4096x128) ![0, 0, 0] S1x512x128.size inb_S1x4096x128_S1x512x128_0_0_0).toLoadRect (arg7.view.rep x3))
    (View.readAt (Elt Bits) arg6.view (Rect.unit (s := S1x4096x128) ![0, 0, 0] S1x512x128.size inb_S1x4096x128_S1x512x128_0_0_0).toLoadRect (arg6.view.rep x2))⟩

/-- What the first head's first loop leaves. -/
abbrev S9 (c : Dev nD) (i : grid0.Coords) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole)
    (x0 x1 : Vec Bits S1x128x1024 .bf16) (x2 x3 : Vec Bits S1x4096x128 .bf16) (x4 : Vec Bits S1x8x128x512 .bf16) (xa0 : Buf (Elt Bits) ((c : Thread nD τ).loc cc0_scratch0)) (xa1 : Buf (Elt Bits) ((c : Thread nD τ).loc cc0_scratch1)) :=
  st_k0_t9 (F := Bits) Variants.none c none i tab (Memref.isWhole_whole _) arg4 harg4 arg5 harg5 arg6 harg6 arg7 harg7 arg8 harg8 arg9 harg9 arg10 harg10 arg11 harg11 arg12 harg12 arg13 harg13 scr0 (Memref.isWhole_whole _) scr1 (Memref.isWhole_whole _) scr2 (Memref.isWhole_whole _) scr3 (Memref.isWhole_whole _) k0_pay447 (bodyRun.sl.r_3 arg4 arg5 x0 x1) (k0_pay452 (F := Bits)) (k0_pay453 (F := Bits)) (k0_pay452 (F := Bits)) (0#32) (0#32) (0#32) (0#32) (one (F := Bits))
    (arg6.view.rep x2) (arg7.view.rep x3) (arg8.view.rep x4) (scr0.view.writes (Elt Bits) xa0 [P0 c i arg4 harg4 arg5 harg5 arg6 harg6 arg7 harg7 arg8 harg8 arg9 harg9 arg10 harg10 arg11 harg11 arg12 harg12 arg13 harg13 x0 x1 x2 x3 x4 xa0 xa1]) xa1 (k0_pay454, k0_pay452, k0_pay453) (Scf.trips (k0_t9_loop i).lb (k0_t9_loop i).ub (k0_t9_loop i).st)

/-- What its second loop leaves. -/
abbrev S11 (c : Dev nD) (i : grid0.Coords) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole)
    (x0 x1 : Vec Bits S1x128x1024 .bf16) (x2 x3 : Vec Bits S1x4096x128 .bf16) (x4 : Vec Bits S1x8x128x512 .bf16) (xa0 : Buf (Elt Bits) ((c : Thread nD τ).loc cc0_scratch0)) (xa1 : Buf (Elt Bits) ((c : Thread nD τ).loc cc0_scratch1)) :=
  st_k0_t11 (F := Bits) Variants.none c none i tab (Memref.isWhole_whole _) arg4 harg4 arg5 harg5 arg6 harg6 arg7 harg7 arg8 harg8 arg9 harg9 arg10 harg10 arg11 harg11 arg12 harg12 arg13 harg13 scr0 (Memref.isWhole_whole _) scr1 (Memref.isWhole_whole _) scr2 (Memref.isWhole_whole _) scr3 (Memref.isWhole_whole _) k0_pay447 (bodyRun.sl.r_3 arg4 arg5 x0 x1) (k0_pay286 (F := Bits) (fun _ => Scalar.ofBits (F := Bits) .bf16 0#16) (fun _ => Scalar.ofBits (F := Bits) .bf16 0#16)) (0#32) (0#32)
    (k0_pay452 (F := Bits)) (k0_pay452 (F := Bits)) (k0_pay453 (F := Bits)) (0#32) (bodyRun.sl.v132 i) (one (F := Bits))
    (arg6.view.rep x2) (arg7.view.rep x3) (arg8.view.rep x4) (scr0.view.writes (Elt Bits) xa0 ((S9 c i arg4 harg4 arg5 harg5 arg6 harg6 arg7 harg7 arg8 harg8 arg9 harg9 arg10 harg10 arg11 harg11 arg12 harg12 arg13 harg13 x0 x1 x2 x3 x4 xa0 xa1).2.1 ++ [P0 c i arg4 harg4 arg5 harg5 arg6 harg6 arg7 harg7 arg8 harg8 arg9 harg9 arg10 harg10 arg11 harg11 arg12 harg12 arg13 harg13 x0 x1 x2 x3 x4 xa0 xa1])) (scr1.view.writes (Elt Bits) xa1 (S9 c i arg4 harg4 arg5 harg5 arg6 harg6 arg7 harg7 arg8 harg8 arg9 harg9 arg10 harg10 arg11 harg11 arg12 harg12 arg13 harg13 x0 x1 x2 x3 x4 xa0 xa1).2.2)
    ((S9 c i arg4 harg4 arg5 harg5 arg6 harg6 arg7 harg7 arg8 harg8 arg9 harg9 arg10 harg10 arg11 harg11 arg12 harg12 arg13 harg13 x0 x1 x2 x3 x4 xa0 xa1).1.1, (S9 c i arg4 harg4 arg5 harg5 arg6 harg6 arg7 harg7 arg8 harg8 arg9 harg9 arg10 harg10 arg11 harg11 arg12 harg12 arg13 harg13 x0 x1 x2 x3 x4 xa0 xa1).1.2.1, (S9 c i arg4 harg4 arg5 harg5 arg6 harg6 arg7 harg7 arg8 harg8 arg9 harg9 arg10 harg10 arg11 harg11 arg12 harg12 arg13 harg13 x0 x1 x2 x3 x4 xa0 xa1).1.2.2) (Scf.trips (k0_t11_loop i).lb (k0_t11_loop i).ub (k0_t11_loop i).st)

/-- The scores stored when the second head's loops start. -/
abbrev H0 (c : Dev nD) (i : grid0.Coords) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole)
    (x0 x1 : Vec Bits S1x128x1024 .bf16) (x2 x3 : Vec Bits S1x4096x128 .bf16) (x4 : Vec Bits S1x8x128x512 .bf16) (xa0 : Buf (Elt Bits) ((c : Thread nD τ).loc cc0_scratch0)) (xa1 : Buf (Elt Bits) ((c : Thread nD τ).loc cc0_scratch1)) : List (View.Piece (Elt Bits) S2x512x1024 .f32) :=
  ⟨Rect.unit (s := S2x512x1024) ![1, 0, 0] S1x512x1024.size inb_S2x512x1024_S1x512x1024_1_0_0, k0_pay477 (bodyRun.sl.r_11 arg4 arg5 arg6 arg7 x0 x1 x2 x3)⟩ :: ((S11 c i arg4 harg4 arg5 harg5 arg6 harg6 arg7 harg7 arg8 harg8 arg9 harg9 arg10 harg10 arg11 harg11 arg12 harg12 arg13 harg13 x0 x1 x2 x3 x4 xa0 xa1).2.1 ++ ((S9 c i arg4 harg4 arg5 harg5 arg6 harg6 arg7 harg7 arg8 harg8 arg9 harg9 arg10 harg10 arg11 harg11 arg12 harg12 arg13 harg13 x0 x1 x2 x3 x4 xa0 xa1).2.1 ++ [P0 c i arg4 harg4 arg5 harg5 arg6 harg6 arg7 harg7 arg8 harg8 arg9 harg9 arg10 harg10 arg11 harg11 arg12 harg12 arg13 harg13 x0 x1 x2 x3 x4 xa0 xa1]))

/-- What the second head's first loop leaves. -/
abbrev S13 (c : Dev nD) (i : grid0.Coords) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole)
    (x0 x1 : Vec Bits S1x128x1024 .bf16) (x2 x3 : Vec Bits S1x4096x128 .bf16) (x4 : Vec Bits S1x8x128x512 .bf16) (xa0 : Buf (Elt Bits) ((c : Thread nD τ).loc cc0_scratch0)) (xa1 : Buf (Elt Bits) ((c : Thread nD τ).loc cc0_scratch1)) :=
  st_k0_t13 (F := Bits) Variants.none c none i tab (Memref.isWhole_whole _) arg4 harg4 arg5 harg5 arg6 harg6 arg7 harg7 arg8 harg8 arg9 harg9 arg10 harg10 arg11 harg11 arg12 harg12 arg13 harg13 scr0 (Memref.isWhole_whole _) scr1 (Memref.isWhole_whole _) scr2 (Memref.isWhole_whole _) scr3 (Memref.isWhole_whole _) k0_pay447 (bodyRun.sl.r_4 arg4 arg5 x0 x1) (k0_pay452 (F := Bits)) (k0_pay453 (F := Bits)) (k0_pay452 (F := Bits)) (0#32) (0#32) (0#1) (0#32) (one (F := Bits))
    (arg6.view.rep x2) (arg7.view.rep x3) (arg8.view.rep x4) (scr0.view.writes (Elt Bits) xa0 (H0 c i arg4 harg4 arg5 harg5 arg6 harg6 arg7 harg7 arg8 harg8 arg9 harg9 arg10 harg10 arg11 harg11 arg12 harg12 arg13 harg13 x0 x1 x2 x3 x4 xa0 xa1)) (scr1.view.writes (Elt Bits) xa1 ((S11 c i arg4 harg4 arg5 harg5 arg6 harg6 arg7 harg7 arg8 harg8 arg9 harg9 arg10 harg10 arg11 harg11 arg12 harg12 arg13 harg13 x0 x1 x2 x3 x4 xa0 xa1).2.2 ++ (S9 c i arg4 harg4 arg5 harg5 arg6 harg6 arg7 harg7 arg8 harg8 arg9 harg9 arg10 harg10 arg11 harg11 arg12 harg12 arg13 harg13 x0 x1 x2 x3 x4 xa0 xa1).2.2)) (k0_pay454, k0_pay452, k0_pay453) (Scf.trips (k0_t13_loop i).lb (k0_t13_loop i).ub (k0_t13_loop i).st)

/-- What its second loop leaves. -/
abbrev S15 (c : Dev nD) (i : grid0.Coords) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole)
    (x0 x1 : Vec Bits S1x128x1024 .bf16) (x2 x3 : Vec Bits S1x4096x128 .bf16) (x4 : Vec Bits S1x8x128x512 .bf16) (xa0 : Buf (Elt Bits) ((c : Thread nD τ).loc cc0_scratch0)) (xa1 : Buf (Elt Bits) ((c : Thread nD τ).loc cc0_scratch1)) :=
  st_k0_t15 (F := Bits) Variants.none c none i tab (Memref.isWhole_whole _) arg4 harg4 arg5 harg5 arg6 harg6 arg7 harg7 arg8 harg8 arg9 harg9 arg10 harg10 arg11 harg11 arg12 harg12 arg13 harg13 scr0 (Memref.isWhole_whole _) scr1 (Memref.isWhole_whole _) scr2 (Memref.isWhole_whole _) scr3 (Memref.isWhole_whole _) k0_pay447 k0_pay448 (bodyRun.sl.r_4 arg4 arg5 x0 x1) (bodyRun.sl.v74 i)
    (S13 c i arg4 harg4 arg5 harg5 arg6 harg6 arg7 harg7 arg8 harg8 arg9 harg9 arg10 harg10 arg11 harg11 arg12 harg12 arg13 harg13 x0 x1 x2 x3 x4 xa0 xa1).1.1 (S13 c i arg4 harg4 arg5 harg5 arg6 harg6 arg7 harg7 arg8 harg8 arg9 harg9 arg10 harg10 arg11 harg11 arg12 harg12 arg13 harg13 x0 x1 x2 x3 x4 xa0 xa1).1.2.1 (S13 c i arg4 harg4 arg5 harg5 arg6 harg6 arg7 harg7 arg8 harg8 arg9 harg9 arg10 harg10 arg11 harg11 arg12 harg12 arg13 harg13 x0 x1 x2 x3 x4 xa0 xa1).1.2.2 (bodyRun.sl.v287 i) (2#32) (bodyRun.sl.v288 i) (bodyRun.sl.v293 i) (1#32) (one (F := Bits))
    (arg6.view.rep x2) (arg7.view.rep x3) (arg8.view.rep x4) (scr0.view.writes (Elt Bits) xa0 ((S13 c i arg4 harg4 arg5 harg5 arg6 harg6 arg7 harg7 arg8 harg8 arg9 harg9 arg10 harg10 arg11 harg11 arg12 harg12 arg13 harg13 x0 x1 x2 x3 x4 xa0 xa1).2.1 ++ H0 c i arg4 harg4 arg5 harg5 arg6 harg6 arg7 harg7 arg8 harg8 arg9 harg9 arg10 harg10 arg11 harg11 arg12 harg12 arg13 harg13 x0 x1 x2 x3 x4 xa0 xa1)) (scr1.view.writes (Elt Bits) xa1 ((S13 c i arg4 harg4 arg5 harg5 arg6 harg6 arg7 harg7 arg8 harg8 arg9 harg9 arg10 harg10 arg11 harg11 arg12 harg12 arg13 harg13 x0 x1 x2 x3 x4 xa0 xa1).2.2 ++ ((S11 c i arg4 harg4 arg5 harg5 arg6 harg6 arg7 harg7 arg8 harg8 arg9 harg9 arg10 harg10 arg11 harg11 arg12 harg12 arg13 harg13 x0 x1 x2 x3 x4 xa0 xa1).2.2 ++ (S9 c i arg4 harg4 arg5 harg5 arg6 harg6 arg7 harg7 arg8 harg8 arg9 harg9 arg10 harg10 arg11 harg11 arg12 harg12 arg13 harg13 x0 x1 x2 x3 x4 xa0 xa1).2.2)))
    ((S13 c i arg4 harg4 arg5 harg5 arg6 harg6 arg7 harg7 arg8 harg8 arg9 harg9 arg10 harg10 arg11 harg11 arg12 harg12 arg13 harg13 x0 x1 x2 x3 x4 xa0 xa1).1.1, (S13 c i arg4 harg4 arg5 harg5 arg6 harg6 arg7 harg7 arg8 harg8 arg9 harg9 arg10 harg10 arg11 harg11 arg12 harg12 arg13 harg13 x0 x1 x2 x3 x4 xa0 xa1).1.2.1, (S13 c i arg4 harg4 arg5 harg5 arg6 harg6 arg7 harg7 arg8 harg8 arg9 harg9 arg10 harg10 arg11 harg11 arg12 harg12 arg13 harg13 x0 x1 x2 x3 x4 xa0 xa1).1.2.2) (Scf.trips (k0_t15_loop i).lb (k0_t15_loop i).ub (k0_t15_loop i).st)

theorem P0_eq (c : Dev nD) (i : grid0.Coords) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole)
    (x0 x1 : Vec Bits S1x128x1024 .bf16) (x2 x3 : Vec Bits S1x4096x128 .bf16) (x4 : Vec Bits S1x8x128x512 .bf16) (xa0 : Buf (Elt Bits) ((c : Thread nD τ).loc cc0_scratch0)) (xa1 : Buf (Elt Bits) ((c : Thread nD τ).loc cc0_scratch1)) : P0 c i arg4 harg4 arg5 harg5 arg6 harg6 arg7 harg7 arg8 harg8 arg9 harg9 arg10 harg10 arg11 harg11 arg12 harg12 arg13 harg13 x0 x1 x2 x3 x4 xa0 xa1 = ⟨Rect.unit (s := S2x512x1024) ![0, 0, 0] S1x512x1024.size inb_S2x512x1024_S1x512x1024_0_0_0, blkS (F := Bits) k0_pay284 one (q0 x0 x1) x2 x3 0⟩ := by
  show (⟨Rect.unit (s := S2x512x1024) ![0, 0, 0] S1x512x1024.size inb_S2x512x1024_S1x512x1024_0_0_0, k0_pay455 k0_pay447 (bodyRun.sl.r_3 arg4 arg5 x0 x1) _ _⟩ : View.Piece (Elt Bits) S2x512x1024 .f32) = _
  rw [kread0, kread0, q0_word]
  rfl

theorem S9_eq (c : Dev nD) (i : grid0.Coords) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole)
    (x0 x1 : Vec Bits S1x128x1024 .bf16) (x2 x3 : Vec Bits S1x4096x128 .bf16) (x4 : Vec Bits S1x8x128x512 .bf16) (xa0 : Buf (Elt Bits) ((c : Thread nD τ).loc cc0_scratch0)) (xa1 : Buf (Elt Bits) ((c : Thread nD τ).loc cc0_scratch1)) :
    (S9 c i arg4 harg4 arg5 harg5 arg6 harg6 arg7 harg7 arg8 harg8 arg9 harg9 arg10 harg10 arg11 harg11 arg12 harg12 arg13 harg13 x0 x1 x2 x3 x4 xa0 xa1).1 = seqS (F := Bits) k0_pay284 one (q0 x0 x1) x2 x3 x4 0 (4 * ((i 2).val / 2)) ∧ ∃ L, (S9 c i arg4 harg4 arg5 harg5 arg6 harg6 arg7 harg7 arg8 harg8 arg9 harg9 arg10 harg10 arg11 harg11 arg12 harg12 arg13 harg13 x0 x1 x2 x3 x4 xa0 xa1).2.1 ++ [P0 c i arg4 harg4 arg5 harg5 arg6 harg6 arg7 harg7 arg8 harg8 arg9 harg9 arg10 harg10 arg11 harg11 arg12 harg12 arg13 harg13 x0 x1 x2 x3 x4 xa0 xa1] = ⟨Rect.unit (s := S2x512x1024) ![0, 0, 0] S1x512x1024.size inb_S2x512x1024_S1x512x1024_0_0_0, blkS (F := Bits) k0_pay284 one (q0 x0 x1) x2 x3 (4 * ((i 2).val / 2))⟩ :: L := by
  unfold S9
  rw [P0_eq, q0_word]
  have h := loop9 (F := Bits) Variants.none c none i tab (Memref.isWhole_whole _) arg4 harg4 arg5 harg5 arg6 harg6 arg7 harg7 arg8 harg8 arg9 harg9 arg10 harg10 arg11 harg11 arg12 harg12 arg13 harg13 scr0 (Memref.isWhole_whole _) scr1 (Memref.isWhole_whole _) scr2 (Memref.isWhole_whole _) scr3 (Memref.isWhole_whole _) k0_pay284 (q0 (F := Bits) x0 x1) (k0_pay452 (F := Bits)) (k0_pay453 (F := Bits)) (k0_pay452 (F := Bits)) (0#32) (0#32) (0#32) (0#32) one (arg6.view.rep x2) (arg7.view.rep x3) (arg8.view.rep x4)
    (scr0.view.writes (Elt Bits) xa0 [⟨Rect.unit (s := S2x512x1024) ![0, 0, 0] S1x512x1024.size inb_S2x512x1024_S1x512x1024_0_0_0, blkS (F := Bits) k0_pay284 one (q0 x0 x1) x2 x3 0⟩]) xa1 (k0_pay454, k0_pay452, k0_pay453) x2 x3 x4 rfl rfl rfl xa0 [] rfl rfl
  rw [Nat.zero_add] at h
  exact h

theorem S11_eq (c : Dev nD) (i : grid0.Coords) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole)
    (x0 x1 : Vec Bits S1x128x1024 .bf16) (x2 x3 : Vec Bits S1x4096x128 .bf16) (x4 : Vec Bits S1x8x128x512 .bf16) (xa0 : Buf (Elt Bits) ((c : Thread nD τ).loc cc0_scratch0)) (xa1 : Buf (Elt Bits) ((c : Thread nD τ).loc cc0_scratch1)) :
    (S11 c i arg4 harg4 arg5 harg5 arg6 harg6 arg7 harg7 arg8 harg8 arg9 harg9 arg10 harg10 arg11 harg11 arg12 harg12 arg13 harg13 x0 x1 x2 x3 x4 xa0 xa1).1 = seqS (F := Bits) k0_pay284 one (q0 x0 x1) x2 x3 x4 0 (2 * (i 2).val) ∧ ∃ L, (S11 c i arg4 harg4 arg5 harg5 arg6 harg6 arg7 harg7 arg8 harg8 arg9 harg9 arg10 harg10 arg11 harg11 arg12 harg12 arg13 harg13 x0 x1 x2 x3 x4 xa0 xa1).2.1 ++ ((S9 c i arg4 harg4 arg5 harg5 arg6 harg6 arg7 harg7 arg8 harg8 arg9 harg9 arg10 harg10 arg11 harg11 arg12 harg12 arg13 harg13 x0 x1 x2 x3 x4 xa0 xa1).2.1 ++ [P0 c i arg4 harg4 arg5 harg5 arg6 harg6 arg7 harg7 arg8 harg8 arg9 harg9 arg10 harg10 arg11 harg11 arg12 harg12 arg13 harg13 x0 x1 x2 x3 x4 xa0 xa1]) = ⟨Rect.unit (s := S2x512x1024) ![0, 0, 0] S1x512x1024.size inb_S2x512x1024_S1x512x1024_0_0_0, blkS (F := Bits) k0_pay284 one (q0 x0 x1) x2 x3 (2 * (i 2).val)⟩ :: L := by
  obtain ⟨h9, L, hL⟩ := S9_eq c i arg4 harg4 arg5 harg5 arg6 harg6 arg7 harg7 arg8 harg8 arg9 harg9 arg10 harg10 arg11 harg11 arg12 harg12 arg13 harg13 x0 x1 x2 x3 x4 xa0 xa1
  have e : 4 * ((i 2).val / 2) + 2 * ((i 2).val % 2) = 2 * (i 2).val := by omega
  unfold S11
  rw [hL, q0_word]
  have h := loop11 (F := Bits) Variants.none c none i tab (Memref.isWhole_whole _) arg4 harg4 arg5 harg5 arg6 harg6 arg7 harg7 arg8 harg8 arg9 harg9 arg10 harg10 arg11 harg11 arg12 harg12 arg13 harg13 scr0 (Memref.isWhole_whole _) scr1 (Memref.isWhole_whole _) scr2 (Memref.isWhole_whole _) scr3 (Memref.isWhole_whole _) k0_pay284 (q0 (F := Bits) x0 x1) (k0_pay286 (F := Bits) (fun _ => Scalar.ofBits (F := Bits) .bf16 0#16) (fun _ => Scalar.ofBits (F := Bits) .bf16 0#16)) (0#32) (0#32)
    (k0_pay452 (F := Bits)) (k0_pay452 (F := Bits)) (k0_pay453 (F := Bits)) (0#32) (bodyRun.sl.v132 i) one (arg6.view.rep x2) (arg7.view.rep x3) (arg8.view.rep x4)
    (scr0.view.writes (Elt Bits) xa0 (⟨Rect.unit (s := S2x512x1024) ![0, 0, 0] S1x512x1024.size inb_S2x512x1024_S1x512x1024_0_0_0, blkS (F := Bits) k0_pay284 one (q0 x0 x1) x2 x3 (4 * ((i 2).val / 2))⟩ :: L)) (scr1.view.writes (Elt Bits) xa1 (S9 c i arg4 harg4 arg5 harg5 arg6 harg6 arg7 harg7 arg8 harg8 arg9 harg9 arg10 harg10 arg11 harg11 arg12 harg12 arg13 harg13 x0 x1 x2 x3 x4 xa0 xa1).2.2)
    ((S9 c i arg4 harg4 arg5 harg5 arg6 harg6 arg7 harg7 arg8 harg8 arg9 harg9 arg10 harg10 arg11 harg11 arg12 harg12 arg13 harg13 x0 x1 x2 x3 x4 xa0 xa1).1.1, (S9 c i arg4 harg4 arg5 harg5 arg6 harg6 arg7 harg7 arg8 harg8 arg9 harg9 arg10 harg10 arg11 harg11 arg12 harg12 arg13 harg13 x0 x1 x2 x3 x4 xa0 xa1).1.2.1, (S9 c i arg4 harg4 arg5 harg5 arg6 harg6 arg7 harg7 arg8 harg8 arg9 harg9 arg10 harg10 arg11 harg11 arg12 harg12 arg13 harg13 x0 x1 x2 x3 x4 xa0 xa1).1.2.2) x2 x3 x4 rfl rfl rfl xa0 L rfl h9
  rw [e] at h
  exact h

theorem H0_eq (c : Dev nD) (i : grid0.Coords) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole)
    (x0 x1 : Vec Bits S1x128x1024 .bf16) (x2 x3 : Vec Bits S1x4096x128 .bf16) (x4 : Vec Bits S1x8x128x512 .bf16) (xa0 : Buf (Elt Bits) ((c : Thread nD τ).loc cc0_scratch0)) (xa1 : Buf (Elt Bits) ((c : Thread nD τ).loc cc0_scratch1)) : ∃ L, H0 c i arg4 harg4 arg5 harg5 arg6 harg6 arg7 harg7 arg8 harg8 arg9 harg9 arg10 harg10 arg11 harg11 arg12 harg12 arg13 harg13 x0 x1 x2 x3 x4 xa0 xa1 = ⟨Rect.unit (s := S2x512x1024) ![1, 0, 0] S1x512x1024.size inb_S2x512x1024_S1x512x1024_1_0_0, blkS (F := Bits) k0_pay284 one (q1 x0 x1) x2 x3 0⟩ :: ⟨Rect.unit (s := S2x512x1024) ![0, 0, 0] S1x512x1024.size inb_S2x512x1024_S1x512x1024_0_0_0, blkS (F := Bits) k0_pay284 one (q0 x0 x1) x2 x3 (2 * (i 2).val)⟩ :: L := by
  obtain ⟨-, L, hL⟩ := S11_eq c i arg4 harg4 arg5 harg5 arg6 harg6 arg7 harg7 arg8 harg8 arg9 harg9 arg10 harg10 arg11 harg11 arg12 harg12 arg13 harg13 x0 x1 x2 x3 x4 xa0 xa1
  refine ⟨L, ?_⟩
  unfold H0
  rw [hL]
  have h : k0_pay477 (bodyRun.sl.r_11 arg4 arg5 arg6 arg7 x0 x1 x2 x3) = k0_pay455 (F := Bits) k0_pay447 (bodyRun.sl.r_4 arg4 arg5 x0 x1)
    (View.readAt (Elt Bits) arg7.view (Rect.unit (s := S1x4096x128) ![0, 0, 0] S1x512x128.size inb_S1x4096x128_S1x512x128_0_0_0).toLoadRect (arg7.view.rep x3))
    (View.readAt (Elt Bits) arg6.view (Rect.unit (s := S1x4096x128) ![0, 0, 0] S1x512x128.size inb_S1x4096x128_S1x512x128_0_0_0).toLoadRect (arg6.view.rep x2)) := rfl
  rw [h, kread0, kread0, q1_word]
  rfl

theorem S13_eq (c : Dev nD) (i : grid0.Coords) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole)
    (x0 x1 : Vec Bits S1x128x1024 .bf16) (x2 x3 : Vec Bits S1x4096x128 .bf16) (x4 : Vec Bits S1x8x128x512 .bf16) (xa0 : Buf (Elt Bits) ((c : Thread nD τ).loc cc0_scratch0)) (xa1 : Buf (Elt Bits) ((c : Thread nD τ).loc cc0_scratch1)) :
    (S13 c i arg4 harg4 arg5 harg5 arg6 harg6 arg7 harg7 arg8 harg8 arg9 harg9 arg10 harg10 arg11 harg11 arg12 harg12 arg13 harg13 x0 x1 x2 x3 x4 xa0 xa1).1 = seqS (F := Bits) k0_pay284 one (q1 x0 x1) x2 x3 x4 1 (4 * ((i 2).val / 2)) ∧ ∃ L, (S13 c i arg4 harg4 arg5 harg5 arg6 harg6 arg7 harg7 arg8 harg8 arg9 harg9 arg10 harg10 arg11 harg11 arg12 harg12 arg13 harg13 x0 x1 x2 x3 x4 xa0 xa1).2.1 ++ H0 c i arg4 harg4 arg5 harg5 arg6 harg6 arg7 harg7 arg8 harg8 arg9 harg9 arg10 harg10 arg11 harg11 arg12 harg12 arg13 harg13 x0 x1 x2 x3 x4 xa0 xa1 = ⟨Rect.unit (s := S2x512x1024) ![1, 0, 0] S1x512x1024.size inb_S2x512x1024_S1x512x1024_1_0_0, blkS (F := Bits) k0_pay284 one (q1 x0 x1) x2 x3 (4 * ((i 2).val / 2))⟩ :: L := by
  obtain ⟨L, hL⟩ := H0_eq c i arg4 harg4 arg5 harg5 arg6 harg6 arg7 harg7 arg8 harg8 arg9 harg9 arg10 harg10 arg11 harg11 arg12 harg12 arg13 harg13 x0 x1 x2 x3 x4 xa0 xa1
  unfold S13
  rw [hL, q1_word]
  have h := loop13 (F := Bits) Variants.none c none i tab (Memref.isWhole_whole _) arg4 harg4 arg5 harg5 arg6 harg6 arg7 harg7 arg8 harg8 arg9 harg9 arg10 harg10 arg11 harg11 arg12 harg12 arg13 harg13 scr0 (Memref.isWhole_whole _) scr1 (Memref.isWhole_whole _) scr2 (Memref.isWhole_whole _) scr3 (Memref.isWhole_whole _) k0_pay284 (q1 (F := Bits) x0 x1) (k0_pay452 (F := Bits)) (k0_pay453 (F := Bits)) (k0_pay452 (F := Bits)) (0#32) (0#32) (0#1) (0#32) one (arg6.view.rep x2) (arg7.view.rep x3) (arg8.view.rep x4)
    (scr0.view.writes (Elt Bits) xa0 (⟨Rect.unit (s := S2x512x1024) ![1, 0, 0] S1x512x1024.size inb_S2x512x1024_S1x512x1024_1_0_0, blkS (F := Bits) k0_pay284 one (q1 x0 x1) x2 x3 0⟩ :: ⟨Rect.unit (s := S2x512x1024) ![0, 0, 0] S1x512x1024.size inb_S2x512x1024_S1x512x1024_0_0_0, blkS (F := Bits) k0_pay284 one (q0 x0 x1) x2 x3 (2 * (i 2).val)⟩ :: L)) (scr1.view.writes (Elt Bits) xa1 ((S11 c i arg4 harg4 arg5 harg5 arg6 harg6 arg7 harg7 arg8 harg8 arg9 harg9 arg10 harg10 arg11 harg11 arg12 harg12 arg13 harg13 x0 x1 x2 x3 x4 xa0 xa1).2.2 ++ (S9 c i arg4 harg4 arg5 harg5 arg6 harg6 arg7 harg7 arg8 harg8 arg9 harg9 arg10 harg10 arg11 harg11 arg12 harg12 arg13 harg13 x0 x1 x2 x3 x4 xa0 xa1).2.2))
    (k0_pay454, k0_pay452, k0_pay453) x2 x3 x4 rfl rfl rfl xa0 _ rfl rfl
  rw [Nat.zero_add] at h
  exact h

theorem S15_eq (c : Dev nD) (i : grid0.Coords) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole)
    (x0 x1 : Vec Bits S1x128x1024 .bf16) (x2 x3 : Vec Bits S1x4096x128 .bf16) (x4 : Vec Bits S1x8x128x512 .bf16) (xa0 : Buf (Elt Bits) ((c : Thread nD τ).loc cc0_scratch0)) (xa1 : Buf (Elt Bits) ((c : Thread nD τ).loc cc0_scratch1)) :
    (S15 c i arg4 harg4 arg5 harg5 arg6 harg6 arg7 harg7 arg8 harg8 arg9 harg9 arg10 harg10 arg11 harg11 arg12 harg12 arg13 harg13 x0 x1 x2 x3 x4 xa0 xa1).1 = seqS (F := Bits) k0_pay284 one (q1 x0 x1) x2 x3 x4 1 (2 * (i 2).val) ∧ ∃ L, (S15 c i arg4 harg4 arg5 harg5 arg6 harg6 arg7 harg7 arg8 harg8 arg9 harg9 arg10 harg10 arg11 harg11 arg12 harg12 arg13 harg13 x0 x1 x2 x3 x4 xa0 xa1).2.1 ++ ((S13 c i arg4 harg4 arg5 harg5 arg6 harg6 arg7 harg7 arg8 harg8 arg9 harg9 arg10 harg10 arg11 harg11 arg12 harg12 arg13 harg13 x0 x1 x2 x3 x4 xa0 xa1).2.1 ++ H0 c i arg4 harg4 arg5 harg5 arg6 harg6 arg7 harg7 arg8 harg8 arg9 harg9 arg10 harg10 arg11 harg11 arg12 harg12 arg13 harg13 x0 x1 x2 x3 x4 xa0 xa1) = ⟨Rect.unit (s := S2x512x1024) ![1, 0, 0] S1x512x1024.size inb_S2x512x1024_S1x512x1024_1_0_0, blkS (F := Bits) k0_pay284 one (q1 x0 x1) x2 x3 (2 * (i 2).val)⟩ :: L := by
  obtain ⟨h13, L, hL⟩ := S13_eq c i arg4 harg4 arg5 harg5 arg6 harg6 arg7 harg7 arg8 harg8 arg9 harg9 arg10 harg10 arg11 harg11 arg12 harg12 arg13 harg13 x0 x1 x2 x3 x4 xa0 xa1
  have e : 4 * ((i 2).val / 2) + 2 * ((i 2).val % 2) = 2 * (i 2).val := by omega
  unfold S15
  rw [hL, q1_word]
  have h := loop15 (F := Bits) Variants.none c none i tab (Memref.isWhole_whole _) arg4 harg4 arg5 harg5 arg6 harg6 arg7 harg7 arg8 harg8 arg9 harg9 arg10 harg10 arg11 harg11 arg12 harg12 arg13 harg13 scr0 (Memref.isWhole_whole _) scr1 (Memref.isWhole_whole _) scr2 (Memref.isWhole_whole _) scr3 (Memref.isWhole_whole _) k0_pay284 k0_pay448 (q1 (F := Bits) x0 x1) (bodyRun.sl.v74 i)
    (S13 c i arg4 harg4 arg5 harg5 arg6 harg6 arg7 harg7 arg8 harg8 arg9 harg9 arg10 harg10 arg11 harg11 arg12 harg12 arg13 harg13 x0 x1 x2 x3 x4 xa0 xa1).1.1 (S13 c i arg4 harg4 arg5 harg5 arg6 harg6 arg7 harg7 arg8 harg8 arg9 harg9 arg10 harg10 arg11 harg11 arg12 harg12 arg13 harg13 x0 x1 x2 x3 x4 xa0 xa1).1.2.1 (S13 c i arg4 harg4 arg5 harg5 arg6 harg6 arg7 harg7 arg8 harg8 arg9 harg9 arg10 harg10 arg11 harg11 arg12 harg12 arg13 harg13 x0 x1 x2 x3 x4 xa0 xa1).1.2.2 (bodyRun.sl.v287 i) (2#32) (bodyRun.sl.v288 i) (bodyRun.sl.v293 i) (1#32) one (arg6.view.rep x2) (arg7.view.rep x3) (arg8.view.rep x4)
    (scr0.view.writes (Elt Bits) xa0 (⟨Rect.unit (s := S2x512x1024) ![1, 0, 0] S1x512x1024.size inb_S2x512x1024_S1x512x1024_1_0_0, blkS (F := Bits) k0_pay284 one (q1 x0 x1) x2 x3 (4 * ((i 2).val / 2))⟩ :: L)) (scr1.view.writes (Elt Bits) xa1 ((S13 c i arg4 harg4 arg5 harg5 arg6 harg6 arg7 harg7 arg8 harg8 arg9 harg9 arg10 harg10 arg11 harg11 arg12 harg12 arg13 harg13 x0 x1 x2 x3 x4 xa0 xa1).2.2 ++ ((S11 c i arg4 harg4 arg5 harg5 arg6 harg6 arg7 harg7 arg8 harg8 arg9 harg9 arg10 harg10 arg11 harg11 arg12 harg12 arg13 harg13 x0 x1 x2 x3 x4 xa0 xa1).2.2 ++ (S9 c i arg4 harg4 arg5 harg5 arg6 harg6 arg7 harg7 arg8 harg8 arg9 harg9 arg10 harg10 arg11 harg11 arg12 harg12 arg13 harg13 x0 x1 x2 x3 x4 xa0 xa1).2.2)))
    ((S13 c i arg4 harg4 arg5 harg5 arg6 harg6 arg7 harg7 arg8 harg8 arg9 harg9 arg10 harg10 arg11 harg11 arg12 harg12 arg13 harg13 x0 x1 x2 x3 x4 xa0 xa1).1.1, (S13 c i arg4 harg4 arg5 harg5 arg6 harg6 arg7 harg7 arg8 harg8 arg9 harg9 arg10 harg10 arg11 harg11 arg12 harg12 arg13 harg13 x0 x1 x2 x3 x4 xa0 xa1).1.2.1, (S13 c i arg4 harg4 arg5 harg5 arg6 harg6 arg7 harg7 arg8 harg8 arg9 harg9 arg10 harg10 arg11 harg11 arg12 harg12 arg13 harg13 x0 x1 x2 x3 x4 xa0 xa1).1.2.2) x2 x3 x4 rfl rfl rfl xa0 L rfl h13
  rw [e] at h
  exact h

/-- A piece stored outside the loaded rectangle is not met by the load. -/
theorem readCov_skip {sig : RefSig} {κ : Kind} {sp : Space} {s : Shape} {e : EltTy} {Val : EltTy → Type} [∀ e, Nonempty (Val e)] (v : View sig κ sp s e)
    {off size off' size' : Fin s.rank → ℕ} (inb : ∀ a, off a + size a ≤ s.size a) (inb' : ∀ a, off' a + size' a ≤ s.size a)
    (w : (Rect.unit off size inb).shape.Idx → Val e) (w' : (Rect.unit off' size' inb').shape.Idx → Val e) (L : List (View.Piece Val s e))
    (a : Fin s.rank) (ha : off' a + size' a ≤ off a) :
    v.readCov (⟨Rect.unit off size inb, w⟩ :: ⟨Rect.unit off' size' inb', w'⟩ :: L) (Rect.unit off' size' inb').toLoadRect = w' := by
  funext y
  refine (View.read_writes_cons_unit_of_not_mem v _ inb w _ _ rfl a (.inl ?_)).trans (congrFun (readCov_cons v inb' w' L) y)
  have h : (y a).val < size' a := (y a).isLt
  show off' a + 1 * (y a).val < off a
  omega

set_option maxHeartbeats 2000000 in
/-- What the body stores in its first result: the tile's result, whatever the scratch buffers hold. -/
theorem body_out (c : Dev nD) (i : grid0.Coords) (arg4 : Memref sig .tc .vmem S1x128x1024 .bf16) (harg4 : arg4.IsWhole) (arg5 : Memref sig .tc .vmem S1x128x1024 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x8x128x512 .bf16) (harg8 : arg8.IsWhole) (arg9 : Memref sig .tc .vmem S16x4096 .f32) (harg9 : arg9.IsWhole) (arg10 : Memref sig .tc .vmem S64x1024 .f32) (harg10 : arg10.IsWhole) (arg11 : Memref sig .tc .vmem S1x1024x128 .bf16) (harg11 : arg11.IsWhole) (arg12 : Memref sig .tc .vmem S16x4096 .bf16) (harg12 : arg12.IsWhole) (arg13 : Memref sig .tc .vmem S64x1024 .bf16) (harg13 : arg13.IsWhole)
    (x0 x1 : Vec Bits S1x128x1024 .bf16) (x2 x3 : Vec Bits S1x4096x128 .bf16) (x4 : Vec Bits S1x8x128x512 .bf16) (xa0 : Buf (Elt Bits) ((c : Thread nD τ).loc cc0_scratch0)) (xa1 : Buf (Elt Bits) ((c : Thread nD τ).loc cc0_scratch1))
    (T : S257.Idx → Elt Bits .i32) (x5 : S16x4096.Idx → Elt Bits .f32) (x6 : S64x1024.Idx → Elt Bits .f32)
    (xa2 : Buf (Elt Bits) ((c : Thread nD τ).loc cc0_scratch2)) (xa3 : Buf (Elt Bits) ((c : Thread nD τ).loc cc0_scratch3)) (k0_h1) (k0_h6) :
    (bodyRun c i arg4 harg4 arg5 harg5 arg6 harg6 arg7 harg7 arg8 harg8 arg9 harg9 arg10 harg10 arg11 harg11 arg12 harg12 arg13 harg13 T x0 x1 x2 x3 x4 x5 x6 xa0 xa1 xa2 xa3 k0_h1 k0_h6).1
      = [⟨Rect.unit (s := S1x1024x128) ![0, 0, 0] S1x1024x128.size inb_S1x1024x128_S1x1024x128_0_0_0, outN (2 * (i 2).val) x0 x1 x2 x3 x4⟩] := by
  have h : (bodyRun c i arg4 harg4 arg5 harg5 arg6 harg6 arg7 harg7 arg8 harg8 arg9 harg9 arg10 harg10 arg11 harg11 arg12 harg12 arg13 harg13 T x0 x1 x2 x3 x4 x5 x6 xa0 xa1 xa2 xa3 k0_h1 k0_h6).1
      = [⟨Rect.unit (s := S1x1024x128) ![0, 0, 0] S1x1024x128.size inb_S1x1024x128_S1x1024x128_0_0_0,
        k0_pay6
          (fin0 (bodyRun.sl.r_3 arg4 arg5 x0 x1) ((S11 c i arg4 harg4 arg5 harg5 arg6 harg6 arg7 harg7 arg8 harg8 arg9 harg9 arg10 harg10 arg11 harg11 arg12 harg12 arg13 harg13 x0 x1 x2 x3 x4 xa0 xa1).1.1, (S11 c i arg4 harg4 arg5 harg5 arg6 harg6 arg7 harg7 arg8 harg8 arg9 harg9 arg10 harg10 arg11 harg11 arg12 harg12 arg13 harg13 x0 x1 x2 x3 x4 xa0 xa1).1.2.1, (S11 c i arg4 harg4 arg5 harg5 arg6 harg6 arg7 harg7 arg8 harg8 arg9 harg9 arg10 harg10 arg11 harg11 arg12 harg12 arg13 harg13 x0 x1 x2 x3 x4 xa0 xa1).1.2.2) (scr0.view.readCov (H0 c i arg4 harg4 arg5 harg5 arg6 harg6 arg7 harg7 arg8 harg8 arg9 harg9 arg10 harg10 arg11 harg11 arg12 harg12 arg13 harg13 x0 x1 x2 x3 x4 xa0 xa1) (Rect.unit (s := S2x512x1024) ![0, 0, 0] S1x512x1024.size inb_S2x512x1024_S1x512x1024_0_0_0).toLoadRect)
            (View.readAt (Elt Bits) arg7.view (Rect.unit (s := S1x4096x128) (k0_off92 i) S1x512x128.size (k0_off92_inb i)).toLoadRect (arg7.view.rep x3))
            (View.readAt (Elt Bits) arg6.view (Rect.unit (s := S1x4096x128) (k0_off92 i) S1x512x128.size (k0_off92_inb i)).toLoadRect (arg6.view.rep x2))
            (View.readAt (Elt Bits) arg8.view (Rect.unit (s := S1x8x128x512) (k0_off93 i) S1x1x64x512.size (k0_off93_inb i)).toLoadRect (arg8.view.rep x4))
            (View.readAt (Elt Bits) arg8.view (Rect.unit (s := S1x8x128x512) (k0_off94 i) S1x1x64x512.size (k0_off94_inb i)).toLoadRect (arg8.view.rep x4)))
          (finL (bodyRun.sl.r_4 arg4 arg5 x0 x1) ((S15 c i arg4 harg4 arg5 harg5 arg6 harg6 arg7 harg7 arg8 harg8 arg9 harg9 arg10 harg10 arg11 harg11 arg12 harg12 arg13 harg13 x0 x1 x2 x3 x4 xa0 xa1).1.1, (S15 c i arg4 harg4 arg5 harg5 arg6 harg6 arg7 harg7 arg8 harg8 arg9 harg9 arg10 harg10 arg11 harg11 arg12 harg12 arg13 harg13 x0 x1 x2 x3 x4 xa0 xa1).1.2.1, (S15 c i arg4 harg4 arg5 harg5 arg6 harg6 arg7 harg7 arg8 harg8 arg9 harg9 arg10 harg10 arg11 harg11 arg12 harg12 arg13 harg13 x0 x1 x2 x3 x4 xa0 xa1).1.2.2)
            (scr0.view.readCov ((S15 c i arg4 harg4 arg5 harg5 arg6 harg6 arg7 harg7 arg8 harg8 arg9 harg9 arg10 harg10 arg11 harg11 arg12 harg12 arg13 harg13 x0 x1 x2 x3 x4 xa0 xa1).2.1 ++ ((S13 c i arg4 harg4 arg5 harg5 arg6 harg6 arg7 harg7 arg8 harg8 arg9 harg9 arg10 harg10 arg11 harg11 arg12 harg12 arg13 harg13 x0 x1 x2 x3 x4 xa0 xa1).2.1 ++ H0 c i arg4 harg4 arg5 harg5 arg6 harg6 arg7 harg7 arg8 harg8 arg9 harg9 arg10 harg10 arg11 harg11 arg12 harg12 arg13 harg13 x0 x1 x2 x3 x4 xa0 xa1)) (Rect.unit (s := S2x512x1024) ![1, 0, 0] S1x512x1024.size inb_S2x512x1024_S1x512x1024_1_0_0).toLoadRect)
            (View.readAt (Elt Bits) arg7.view (Rect.unit (s := S1x4096x128) (k0_off92 i) S1x512x128.size (k0_off92_inb i)).toLoadRect (arg7.view.rep x3))
            (View.readAt (Elt Bits) arg6.view (Rect.unit (s := S1x4096x128) (k0_off92 i) S1x512x128.size (k0_off92_inb i)).toLoadRect (arg6.view.rep x2)))
          (finA (bodyRun.sl.r_4 arg4 arg5 x0 x1) ((S15 c i arg4 harg4 arg5 harg5 arg6 harg6 arg7 harg7 arg8 harg8 arg9 harg9 arg10 harg10 arg11 harg11 arg12 harg12 arg13 harg13 x0 x1 x2 x3 x4 xa0 xa1).1.1, (S15 c i arg4 harg4 arg5 harg5 arg6 harg6 arg7 harg7 arg8 harg8 arg9 harg9 arg10 harg10 arg11 harg11 arg12 harg12 arg13 harg13 x0 x1 x2 x3 x4 xa0 xa1).1.2.1, (S15 c i arg4 harg4 arg5 harg5 arg6 harg6 arg7 harg7 arg8 harg8 arg9 harg9 arg10 harg10 arg11 harg11 arg12 harg12 arg13 harg13 x0 x1 x2 x3 x4 xa0 xa1).1.2.2)
            (scr0.view.readCov ((S15 c i arg4 harg4 arg5 harg5 arg6 harg6 arg7 harg7 arg8 harg8 arg9 harg9 arg10 harg10 arg11 harg11 arg12 harg12 arg13 harg13 x0 x1 x2 x3 x4 xa0 xa1).2.1 ++ ((S13 c i arg4 harg4 arg5 harg5 arg6 harg6 arg7 harg7 arg8 harg8 arg9 harg9 arg10 harg10 arg11 harg11 arg12 harg12 arg13 harg13 x0 x1 x2 x3 x4 xa0 xa1).2.1 ++ H0 c i arg4 harg4 arg5 harg5 arg6 harg6 arg7 harg7 arg8 harg8 arg9 harg9 arg10 harg10 arg11 harg11 arg12 harg12 arg13 harg13 x0 x1 x2 x3 x4 xa0 xa1)) (Rect.unit (s := S2x512x1024) ![1, 0, 0] S1x512x1024.size inb_S2x512x1024_S1x512x1024_1_0_0).toLoadRect)
            (View.readAt (Elt Bits) arg7.view (Rect.unit (s := S1x4096x128) (k0_off92 i) S1x512x128.size (k0_off92_inb i)).toLoadRect (arg7.view.rep x3))
            (View.readAt (Elt Bits) arg6.view (Rect.unit (s := S1x4096x128) (k0_off92 i) S1x512x128.size (k0_off92_inb i)).toLoadRect (arg6.view.rep x2))
            (View.readAt (Elt Bits) arg8.view (Rect.unit (s := S1x8x128x512) (k0_off107 i) S1x1x64x512.size (k0_off107_inb i)).toLoadRect (arg8.view.rep x4))
            (View.readAt (Elt Bits) arg8.view (Rect.unit (s := S1x8x128x512) (k0_off108 i) S1x1x64x512.size (k0_off108_inb i)).toLoadRect (arg8.view.rep x4)))⟩] := rfl
  obtain ⟨h11, -⟩ := S11_eq c i arg4 harg4 arg5 harg5 arg6 harg6 arg7 harg7 arg8 harg8 arg9 harg9 arg10 harg10 arg11 harg11 arg12 harg12 arg13 harg13 x0 x1 x2 x3 x4 xa0 xa1
  obtain ⟨h15, L15, hL15⟩ := S15_eq c i arg4 harg4 arg5 harg5 arg6 harg6 arg7 harg7 arg8 harg8 arg9 harg9 arg10 harg10 arg11 harg11 arg12 harg12 arg13 harg13 x0 x1 x2 x3 x4 xa0 xa1
  obtain ⟨L0, hL0⟩ := H0_eq c i arg4 harg4 arg5 harg5 arg6 harg6 arg7 harg7 arg8 harg8 arg9 harg9 arg10 harg10 arg11 harg11 arg12 harg12 arg13 harg13 x0 x1 x2 x3 x4 xa0 xa1
  have h11' : ((S11 c i arg4 harg4 arg5 harg5 arg6 harg6 arg7 harg7 arg8 harg8 arg9 harg9 arg10 harg10 arg11 harg11 arg12 harg12 arg13 harg13 x0 x1 x2 x3 x4 xa0 xa1).1.1, (S11 c i arg4 harg4 arg5 harg5 arg6 harg6 arg7 harg7 arg8 harg8 arg9 harg9 arg10 harg10 arg11 harg11 arg12 harg12 arg13 harg13 x0 x1 x2 x3 x4 xa0 xa1).1.2.1, (S11 c i arg4 harg4 arg5 harg5 arg6 harg6 arg7 harg7 arg8 harg8 arg9 harg9 arg10 harg10 arg11 harg11 arg12 harg12 arg13 harg13 x0 x1 x2 x3 x4 xa0 xa1).1.2.2) = seqS (F := Bits) k0_pay284 one (q0 x0 x1) x2 x3 x4 0 (2 * (i 2).val) := h11
  have h15' : ((S15 c i arg4 harg4 arg5 harg5 arg6 harg6 arg7 harg7 arg8 harg8 arg9 harg9 arg10 harg10 arg11 harg11 arg12 harg12 arg13 harg13 x0 x1 x2 x3 x4 xa0 xa1).1.1, (S15 c i arg4 harg4 arg5 harg5 arg6 harg6 arg7 harg7 arg8 harg8 arg9 harg9 arg10 harg10 arg11 harg11 arg12 harg12 arg13 harg13 x0 x1 x2 x3 x4 xa0 xa1).1.2.1, (S15 c i arg4 harg4 arg5 harg5 arg6 harg6 arg7 harg7 arg8 harg8 arg9 harg9 arg10 harg10 arg11 harg11 arg12 harg12 arg13 harg13 x0 x1 x2 x3 x4 xa0 xa1).1.2.2) = seqS (F := Bits) k0_pay284 one (q1 x0 x1) x2 x3 x4 1 (2 * (i 2).val) := h15
  rw [h, h11', h15', hL15, readCov_cons, hL0, readCov_skip _ _ _ _ _ _ (0 : Fin 3) (by decide), q0_word, q1_word]
  simp only [kread (h := offd92 i), vread (hh := 0) (h := offd93 i), vread (hh := 0) (h := offd94 i), vread (hh := 1) (h := offd107 i), vread (hh := 1) (h := offd108 i)]
  rfl

end

end Cert.Kernel3.Att

end
-- ==== Proof.Att.lean ====
/- The attention call runs from any memory whose table asks for the running maximum: it ends, leaves its arguments as they
   were, and leaves each result at what the body stores point by point. -/
module

public import proofs.«01_k».proof.Proof.AttTrip
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init
public import Mathlib.Tactic.FinCases
public import Mathlib.Tactic.NormNum

@[expose] public section

set_option maxRecDepth 16384
set_option Elab.async false

noncomputable section

namespace Cert.Kernel3.Att

open Cert.Kernel3 Cert.Kernel3.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The proof's resource algebra, embedded whole. -/
abbrev EP : Emb (UR sig nD τ) 𝕄 := emb₁

variable (m : (ℓ : Loc nD τ sig) → Buf (Elt Bits) ℓ)

/-- The table as memory holds it. -/
abbrev tabv : S257.Idx → Elt Bits .i32 := m (((0 : Dev nD) : Thread nD τ).loc main_arg0)

/-- The table's last place. -/
def lastIdx : S257.Idx := fun k => ⟨256, by fin_cases k; show 256 < 257; omega⟩

/-- The table's last word is not zero: the branch with the running maximum. -/
def Online : Prop := tabv m lastIdx ≠ 0#32

/-- The table's contents, admissible for the pipeline; the pipeline at them. -/
def adm : (pcfg0 (F := Bits)).Adm := ⟨fun j => m (((0 : Dev nD) : Thread nD τ).loc (pre0.ref j)), trivial⟩
abbrev cfgA : Pipeline.Cfg sig Λ₀ := cfg0 (F := Bits) (adm m)
abbrev pcs : Fin 1 → Pipeline.Cfg sig Λ₀ := Pipeline.pin (pcfgs (F := Bits)) fun _ => adm m

/-- The coordinates of point `t`. -/
abbrev crd (t : Fin (cfgA m).N) : (cfgA m).grid.Coords := (cfgA m).grid.coords t

/-- The staging buffers at point `t`, and that each is whole. -/
abbrev st0 (t : Fin (cfgA m).N) : Memref sig .tc .vmem S1x128x1024 .bf16 := spec0_0.stage ((cfgA m).slots t (0 : Fin 10))
abbrev hst0 (t : Fin (cfgA m).N) : (st0 m t).IsWhole := hstage0_0 (((cfgA m).slots t (0 : Fin 10)).cast nbuf0_0)
abbrev st1 (t : Fin (cfgA m).N) : Memref sig .tc .vmem S1x128x1024 .bf16 := spec0_1.stage ((cfgA m).slots t (1 : Fin 10))
abbrev hst1 (t : Fin (cfgA m).N) : (st1 m t).IsWhole := hstage0_1 (((cfgA m).slots t (1 : Fin 10)).cast nbuf0_1)
abbrev st2 (t : Fin (cfgA m).N) : Memref sig .tc .vmem S1x4096x128 .bf16 := spec0_2.stage ((cfgA m).slots t (2 : Fin 10))
abbrev hst2 (t : Fin (cfgA m).N) : (st2 m t).IsWhole := hstage0_2 (((cfgA m).slots t (2 : Fin 10)).cast nbuf0_2)
abbrev st3 (t : Fin (cfgA m).N) : Memref sig .tc .vmem S1x4096x128 .bf16 := spec0_3.stage ((cfgA m).slots t (3 : Fin 10))
abbrev hst3 (t : Fin (cfgA m).N) : (st3 m t).IsWhole := hstage0_3 (((cfgA m).slots t (3 : Fin 10)).cast nbuf0_3)
abbrev st4 (t : Fin (cfgA m).N) : Memref sig .tc .vmem S1x8x128x512 .bf16 := spec0_4.stage ((cfgA m).slots t (4 : Fin 10))
abbrev hst4 (t : Fin (cfgA m).N) : (st4 m t).IsWhole := hstage0_4 (((cfgA m).slots t (4 : Fin 10)).cast nbuf0_4)
abbrev st5 (t : Fin (cfgA m).N) : Memref sig .tc .vmem S16x4096 .f32 := spec0_5.stage ((cfgA m).slots t (5 : Fin 10))
abbrev hst5 (t : Fin (cfgA m).N) : (st5 m t).IsWhole := hstage0_5 (((cfgA m).slots t (5 : Fin 10)).cast nbuf0_5)
abbrev st6 (t : Fin (cfgA m).N) : Memref sig .tc .vmem S64x1024 .f32 := spec0_6.stage ((cfgA m).slots t (6 : Fin 10))
abbrev hst6 (t : Fin (cfgA m).N) : (st6 m t).IsWhole := hstage0_6 (((cfgA m).slots t (6 : Fin 10)).cast nbuf0_6)
abbrev st7 (t : Fin (cfgA m).N) : Memref sig .tc .vmem S1x1024x128 .bf16 := spec0_7.stage ((cfgA m).slots t (7 : Fin 10))
abbrev hst7 (t : Fin (cfgA m).N) : (st7 m t).IsWhole := hstage0_7 (((cfgA m).slots t (7 : Fin 10)).cast nbuf0_7)
abbrev st8 (t : Fin (cfgA m).N) : Memref sig .tc .vmem S16x4096 .bf16 := spec0_8.stage ((cfgA m).slots t (8 : Fin 10))
abbrev hst8 (t : Fin (cfgA m).N) : (st8 m t).IsWhole := hstage0_8 (((cfgA m).slots t (8 : Fin 10)).cast nbuf0_8)
abbrev st9 (t : Fin (cfgA m).N) : Memref sig .tc .vmem S64x1024 .bf16 := spec0_9.stage ((cfgA m).slots t (9 : Fin 10))
abbrev hst9 (t : Fin (cfgA m).N) : (st9 m t).IsWhole := hstage0_9 (((cfgA m).slots t (9 : Fin 10)).cast nbuf0_9)

/-- Window `w`'s block at point `t`, read off its array at launch. -/
def iblk (c : Dev nD) (w : Fin (cfgA m).W) (t : Fin (cfgA m).N) : (((cfgA m).win w).xblock (crd m t)).Idx → Elt Bits ((cfgA m).win w).elt :=
  (((cfgA m).win w).blk t).view.read (Elt Bits) (m (((cfgA m).win w).arr.view.loc (c : Thread nD τ)))

/-- The blocks at their shapes. -/
abbrev jblk0 (c : Dev nD) (t : Fin (cfgA m).N) : S1x128x1024.Idx → Elt Bits .bf16 := iblk m c (0 : Fin 10) t
abbrev jblk1 (c : Dev nD) (t : Fin (cfgA m).N) : S1x128x1024.Idx → Elt Bits .bf16 := iblk m c (1 : Fin 10) t
abbrev jblk2 (c : Dev nD) (t : Fin (cfgA m).N) : S1x4096x128.Idx → Elt Bits .bf16 := iblk m c (2 : Fin 10) t
abbrev jblk3 (c : Dev nD) (t : Fin (cfgA m).N) : S1x4096x128.Idx → Elt Bits .bf16 := iblk m c (3 : Fin 10) t
abbrev jblk4 (c : Dev nD) (t : Fin (cfgA m).N) : S1x8x128x512.Idx → Elt Bits .bf16 := iblk m c (4 : Fin 10) t
abbrev jblk5 (c : Dev nD) (t : Fin (cfgA m).N) : S16x4096.Idx → Elt Bits .f32 := iblk m c (5 : Fin 10) t
abbrev jblk6 (c : Dev nD) (t : Fin (cfgA m).N) : S64x1024.Idx → Elt Bits .f32 := iblk m c (6 : Fin 10) t

/-- The word the body reads is the table's last. -/
theorem word_eq : (View.readAt (Elt Bits) (tab).view (Rect.unit (s := S257) ![256] S1.size inb_S257_S1_256).toLoadRect (tabv m) (Shape.Idx.first (numel1_S1.symm ▸ Nat.one_pos))) = tabv m lastIdx := by
  show tabv m _ = tabv m _
  refine congrArg (tabv m) (funext fun k => Fin.ext ?_)
  fin_cases k
  rfl

/-- A table word other than zero is not the question's zero, -/
theorem word_h1 (w : BitVec 32) (h : w ≠ 0#32) : ¬(k0_cond1 w = 1#1) := by
  have e : (w == 0#32) = false := beq_eq_false_iff_ne.mpr h
  simp only [k0_cond1, Scalar.cmpi, Scalar.extui, IntOp.cmpi, e]
  decide

/-- and answers the other. -/
theorem word_h6 (w : BitVec 32) (h : w ≠ 0#32) : k0_cond6 w = 1#1 := by
  have e : (w != 0#32) = true := bne_iff_ne.mpr h
  simp only [k0_cond6, Scalar.cmpi, Scalar.extui, IntOp.cmpi, e]
  decide

theorem h1 (hp : Online m) : ¬(k0_cond1 (View.readAt (Elt Bits) (tab).view (Rect.unit (s := S257) ![256] S1.size inb_S257_S1_256).toLoadRect (tabv m) (Shape.Idx.first (numel1_S1.symm ▸ Nat.one_pos))) = 1#1) := by
  rw [word_eq]
  exact word_h1 _ hp

theorem h6 (hp : Online m) : k0_cond6 (View.readAt (Elt Bits) (tab).view (Rect.unit (s := S257) ![256] S1.size inb_S257_S1_256).toLoadRect (tabv m) (Shape.Idx.first (numel1_S1.symm ▸ Nat.one_pos))) = 1#1 := by
  rw [word_eq]
  exact word_h6 _ hp

/-- The result window of the attention is stored at every point. -/
theorem idle_7 (hp : Online m) (i : grid0.Coords) : idle0 (F := Bits) (adm m).1 (7 : Fin 10) i = false := by
  have h : k0_cond6 ((adm m).1.atD 0 ![256]) = 1#1 := h6 m hp
  simp only [idle0, h, beq_self_eq_true, Bool.not_true, Bool.and_false]

/-- What point `t` leaves in output 7. -/
def val7 (hp : Online m) (c : Dev nD) (t : Fin (cfgA m).N) : S1x1024x128.Idx → Elt Bits .bf16 :=
  outN (F := Bits) (2 * (crd m t 2).val) (jblk0 m c t) (jblk1 m c t) (jblk2 m c t) (jblk3 m c t) (jblk4 m c t)

/-- What point `t` leaves in output 8. -/
def val8 (hp : Online m) (c : Dev nD) (t : Fin (cfgA m).N) : S16x4096.Idx → Elt Bits .bf16 := k0_pay1 (jblk5 m c t)

/-- What point `t` leaves in output 9. -/
def val9 (hp : Online m) (c : Dev nD) (t : Fin (cfgA m).N) : S64x1024.Idx → Elt Bits .bf16 := k0_pay2 (jblk6 m c t)

/-- The body's stores into output 7 leave it. -/
theorem leaves7 (hp : Online m) (c : Dev nD) (t : Fin (cfgA m).N) (a0 a1 a2 a3) (f) :
    (st7 m t).view.read (Elt Bits) ((st7 m t).view.writes (Elt Bits) f (bodyRun c (crd m t) (st0 m t) (hst0 m t) (st1 m t) (hst1 m t) (st2 m t) (hst2 m t) (st3 m t) (hst3 m t) (st4 m t) (hst4 m t) (st5 m t) (hst5 m t) (st6 m t) (hst6 m t) (st7 m t) (hst7 m t) (st8 m t) (hst8 m t) (st9 m t) (hst9 m t) (tabv m) (jblk0 m c t) (jblk1 m c t) (jblk2 m c t) (jblk3 m c t) (jblk4 m c t) (jblk5 m c t) (jblk6 m c t) a0 a1 a2 a3 (h1 m hp) (h6 m hp)).1) = val7 m hp c t := by
  have h : (bodyRun c (crd m t) (st0 m t) (hst0 m t) (st1 m t) (hst1 m t) (st2 m t) (hst2 m t) (st3 m t) (hst3 m t) (st4 m t) (hst4 m t) (st5 m t) (hst5 m t) (st6 m t) (hst6 m t) (st7 m t) (hst7 m t) (st8 m t) (hst8 m t) (st9 m t) (hst9 m t) (tabv m) (jblk0 m c t) (jblk1 m c t) (jblk2 m c t) (jblk3 m c t) (jblk4 m c t) (jblk5 m c t) (jblk6 m c t) a0 a1 a2 a3 (h1 m hp) (h6 m hp)).1 = _ := body_out c (crd m t) (st0 m t) (hst0 m t) (st1 m t) (hst1 m t) (st2 m t) (hst2 m t) (st3 m t) (hst3 m t) (st4 m t) (hst4 m t) (st5 m t) (hst5 m t) (st6 m t) (hst6 m t) (st7 m t) (hst7 m t) (st8 m t) (hst8 m t) (st9 m t) (hst9 m t) (jblk0 m c t) (jblk1 m c t) (jblk2 m c t) (jblk3 m c t) (jblk4 m c t) a0 a1 (tabv m) (jblk5 m c t) (jblk6 m c t) a2 a3 (h1 m hp) (h6 m hp)
  rw [h]
  exact View.read_writes_full ..

/-- The body's stores into output 8 leave it. -/
theorem leaves8 (hp : Online m) (c : Dev nD) (t : Fin (cfgA m).N) (a0 a1 a2 a3) (f) :
    (st8 m t).view.read (Elt Bits) ((st8 m t).view.writes (Elt Bits) f (bodyRun c (crd m t) (st0 m t) (hst0 m t) (st1 m t) (hst1 m t) (st2 m t) (hst2 m t) (st3 m t) (hst3 m t) (st4 m t) (hst4 m t) (st5 m t) (hst5 m t) (st6 m t) (hst6 m t) (st7 m t) (hst7 m t) (st8 m t) (hst8 m t) (st9 m t) (hst9 m t) (tabv m) (jblk0 m c t) (jblk1 m c t) (jblk2 m c t) (jblk3 m c t) (jblk4 m c t) (jblk5 m c t) (jblk6 m c t) a0 a1 a2 a3 (h1 m hp) (h6 m hp)).2.1) = val8 m hp c t := by
  have h : (bodyRun c (crd m t) (st0 m t) (hst0 m t) (st1 m t) (hst1 m t) (st2 m t) (hst2 m t) (st3 m t) (hst3 m t) (st4 m t) (hst4 m t) (st5 m t) (hst5 m t) (st6 m t) (hst6 m t) (st7 m t) (hst7 m t) (st8 m t) (hst8 m t) (st9 m t) (hst9 m t) (tabv m) (jblk0 m c t) (jblk1 m c t) (jblk2 m c t) (jblk3 m c t) (jblk4 m c t) (jblk5 m c t) (jblk6 m c t) a0 a1 a2 a3 (h1 m hp) (h6 m hp)).2.1 = [⟨Rect.unit (s := S16x4096) ![0, 0] S16x4096.size inb_S16x4096_S16x4096_0_0,
      k0_pay1 (View.readAt (Elt Bits) (st5 m t).view (Rect.unit (s := S16x4096) ![0, 0] S16x4096.size inb_S16x4096_S16x4096_0_0).toLoadRect ((st5 m t).view.rep (jblk5 m c t)))⟩] := rfl
  rw [h]
  refine (View.read_writes_full ..).trans ?_
  exact congrArg _ (View.readAt_rep_full ..)

/-- The body's stores into output 9 leave it. -/
theorem leaves9 (hp : Online m) (c : Dev nD) (t : Fin (cfgA m).N) (a0 a1 a2 a3) (f) :
    (st9 m t).view.read (Elt Bits) ((st9 m t).view.writes (Elt Bits) f (bodyRun c (crd m t) (st0 m t) (hst0 m t) (st1 m t) (hst1 m t) (st2 m t) (hst2 m t) (st3 m t) (hst3 m t) (st4 m t) (hst4 m t) (st5 m t) (hst5 m t) (st6 m t) (hst6 m t) (st7 m t) (hst7 m t) (st8 m t) (hst8 m t) (st9 m t) (hst9 m t) (tabv m) (jblk0 m c t) (jblk1 m c t) (jblk2 m c t) (jblk3 m c t) (jblk4 m c t) (jblk5 m c t) (jblk6 m c t) a0 a1 a2 a3 (h1 m hp) (h6 m hp)).2.2.1) = val9 m hp c t := by
  have h : (bodyRun c (crd m t) (st0 m t) (hst0 m t) (st1 m t) (hst1 m t) (st2 m t) (hst2 m t) (st3 m t) (hst3 m t) (st4 m t) (hst4 m t) (st5 m t) (hst5 m t) (st6 m t) (hst6 m t) (st7 m t) (hst7 m t) (st8 m t) (hst8 m t) (st9 m t) (hst9 m t) (tabv m) (jblk0 m c t) (jblk1 m c t) (jblk2 m c t) (jblk3 m c t) (jblk4 m c t) (jblk5 m c t) (jblk6 m c t) a0 a1 a2 a3 (h1 m hp) (h6 m hp)).2.2.1 = [⟨Rect.unit (s := S64x1024) ![0, 0] S64x1024.size inb_S64x1024_S64x1024_0_0,
      k0_pay2 (View.readAt (Elt Bits) (st6 m t).view (Rect.unit (s := S64x1024) ![0, 0] S64x1024.size inb_S64x1024_S64x1024_0_0).toLoadRect ((st6 m t).view.rep (jblk6 m c t)))⟩] := rfl
  rw [h]
  refine (View.read_writes_full ..).trans ?_
  exact congrArg _ (View.readAt_rep_full ..)

theorem scr_set0 : scr0.view.set = Finset.univ := View.set_whole _
theorem scr_set1 : scr1.view.set = Finset.univ := View.set_whole _
theorem scr_set2 : scr2.view.set = Finset.univ := View.set_whole _
theorem scr_set3 : scr3.view.set = Finset.univ := View.set_whole _

/-- Between points: the scratch buffers at any contents and the body's half of the table. -/
def Phi (c : Dev nD) : sProp 𝕄 :=
  iprop((∃ a, scr0.view.loc (c : Thread nD τ) ↦{fullShare} a) ∗ (∃ a, scr1.view.loc (c : Thread nD τ) ↦{fullShare} a)
    ∗ (∃ a, scr2.view.loc (c : Thread nD τ) ↦{fullShare} a) ∗ (∃ a, scr3.view.loc (c : Thread nD τ) ↦{fullShare} a)
    ∗ (tab.view.loc (c : Thread nD τ) ↦{fullShare.right} tabv m))

variable (hp : Online m)

/-- The proof data of the pipeline on core `c`. -/
def dats (_ : Fin 1) (c : Dev nD) : Dat τ (Elt Bits) Unit ℕ (UR sig nD τ) ℕ (cfgA m) c where
  A w := m (((cfgA m).win w).arr.view.loc (c : Thread nD τ))
  after w t := match w with
    | ⟨0, _⟩ => iblk m c (0 : Fin 10) t
    | ⟨1, _⟩ => iblk m c (1 : Fin 10) t
    | ⟨2, _⟩ => iblk m c (2 : Fin 10) t
    | ⟨3, _⟩ => iblk m c (3 : Fin 10) t
    | ⟨4, _⟩ => iblk m c (4 : Fin 10) t
    | ⟨5, _⟩ => iblk m c (5 : Fin 10) t
    | ⟨6, _⟩ => iblk m c (6 : Fin 10) t
    | ⟨7, _⟩ => val7 m hp c t
    | ⟨8, _⟩ => val8 m hp c t
    | ⟨9, _⟩ => val9 m hp c t
  Φ _ := Phi m c
  q _ := fullShare
  owed _ := 0

theorem after_0 (c : Dev nD) (t : Fin (cfgA m).N) : (dats m hp 0 c).after (0 : Fin 10) t = iblk m c (0 : Fin 10) t := rfl
theorem after_1 (c : Dev nD) (t : Fin (cfgA m).N) : (dats m hp 0 c).after (1 : Fin 10) t = iblk m c (1 : Fin 10) t := rfl
theorem after_2 (c : Dev nD) (t : Fin (cfgA m).N) : (dats m hp 0 c).after (2 : Fin 10) t = iblk m c (2 : Fin 10) t := rfl
theorem after_3 (c : Dev nD) (t : Fin (cfgA m).N) : (dats m hp 0 c).after (3 : Fin 10) t = iblk m c (3 : Fin 10) t := rfl
theorem after_4 (c : Dev nD) (t : Fin (cfgA m).N) : (dats m hp 0 c).after (4 : Fin 10) t = iblk m c (4 : Fin 10) t := rfl
theorem after_5 (c : Dev nD) (t : Fin (cfgA m).N) : (dats m hp 0 c).after (5 : Fin 10) t = iblk m c (5 : Fin 10) t := rfl
theorem after_6 (c : Dev nD) (t : Fin (cfgA m).N) : (dats m hp 0 c).after (6 : Fin 10) t = iblk m c (6 : Fin 10) t := rfl
theorem after_7 (c : Dev nD) (t : Fin (cfgA m).N) : (dats m hp 0 c).after (7 : Fin 10) t = val7 m hp c t := rfl
theorem after_8 (c : Dev nD) (t : Fin (cfgA m).N) : (dats m hp 0 c).after (8 : Fin 10) t = val8 m hp c t := rfl
theorem after_9 (c : Dev nD) (t : Fin (cfgA m).N) : (dats m hp 0 c).after (9 : Fin 10) t = val9 m hp c t := rfl

theorem before_0 (c : Dev nD) (t : Fin (cfgA m).N) (d) : (dats m hp 0 c).before (0 : Fin 10) t d = iblk m c 0 t :=
  ((dats m hp 0 c).before_in_eq_fetched (0 : Fin 10) rfl (fun _ => rfl) (fun _ _ _ => rfl) (fun t => by rw [after_0]; unfold Dat.blockOf iblk; rfl) t d).trans
    (by unfold Dat.fetched Dat.blockOf iblk; rfl)
theorem before_1 (c : Dev nD) (t : Fin (cfgA m).N) (d) : (dats m hp 0 c).before (1 : Fin 10) t d = iblk m c 1 t :=
  ((dats m hp 0 c).before_in_eq_fetched (1 : Fin 10) rfl (fun _ => rfl) (fun _ _ _ => rfl) (fun t => by rw [after_1]; unfold Dat.blockOf iblk; rfl) t d).trans
    (by unfold Dat.fetched Dat.blockOf iblk; rfl)
theorem before_2 (c : Dev nD) (t : Fin (cfgA m).N) (d) : (dats m hp 0 c).before (2 : Fin 10) t d = iblk m c 2 t :=
  ((dats m hp 0 c).before_in_eq_fetched (2 : Fin 10) rfl (fun _ => rfl) (fun _ _ _ => rfl) (fun t => by rw [after_2]; unfold Dat.blockOf iblk; rfl) t d).trans
    (by unfold Dat.fetched Dat.blockOf iblk; rfl)
theorem before_3 (c : Dev nD) (t : Fin (cfgA m).N) (d) : (dats m hp 0 c).before (3 : Fin 10) t d = iblk m c 3 t :=
  ((dats m hp 0 c).before_in_eq_fetched (3 : Fin 10) rfl (fun _ => rfl) (fun _ _ _ => rfl) (fun t => by rw [after_3]; unfold Dat.blockOf iblk; rfl) t d).trans
    (by unfold Dat.fetched Dat.blockOf iblk; rfl)
theorem before_4 (c : Dev nD) (t : Fin (cfgA m).N) (d) : (dats m hp 0 c).before (4 : Fin 10) t d = iblk m c 4 t :=
  ((dats m hp 0 c).before_in_eq_fetched (4 : Fin 10) rfl (fun _ => rfl) (fun _ _ _ => rfl) (fun t => by rw [after_4]; unfold Dat.blockOf iblk; rfl) t d).trans
    (by unfold Dat.fetched Dat.blockOf iblk; rfl)
theorem before_5 (c : Dev nD) (t : Fin (cfgA m).N) (d) : (dats m hp 0 c).before (5 : Fin 10) t d = iblk m c 5 t :=
  ((dats m hp 0 c).before_in_eq_fetched (5 : Fin 10) rfl (fun _ => rfl) (fun _ _ _ => rfl) (fun t => by rw [after_5]; unfold Dat.blockOf iblk; rfl) t d).trans
    (by unfold Dat.fetched Dat.blockOf iblk; rfl)
theorem before_6 (c : Dev nD) (t : Fin (cfgA m).N) (d) : (dats m hp 0 c).before (6 : Fin 10) t d = iblk m c 6 t :=
  ((dats m hp 0 c).before_in_eq_fetched (6 : Fin 10) rfl (fun _ => rfl) (fun _ _ _ => rfl) (fun t => by rw [after_6]; unfold Dat.blockOf iblk; rfl) t d).trans
    (by unfold Dat.fetched Dat.blockOf iblk; rfl)

/-- The body at point `t` on its staging buffers. -/
abbrev bodyAt (t : Fin (cfgA m).N) : Prog (TpuEff nD τ sig (Elt Bits) Λ₀ .tc) PUnit :=
  cc0_fox_attention (crd m t) tab (Memref.isWhole_whole _) (st0 m t) (hst0 m t) (st1 m t) (hst1 m t) (st2 m t) (hst2 m t) (st3 m t) (hst3 m t) (st4 m t) (hst4 m t) (st5 m t) (hst5 m t) (st6 m t) (hst6 m t) (st7 m t) (hst7 m t) (st8 m t) (hst8 m t) (st9 m t) (hst9 m t) scr0 (Memref.isWhole_whole _) scr1 (Memref.isWhole_whole _) scr2 (Memref.isWhole_whole _) scr3 (Memref.isWhole_whole _)

set_option maxHeartbeats 6400000 in
/-- The body keeps what holds between points and leaves each window's buffer as the data say. -/
theorem sound_body (c : Dev nD) (t : Fin (cfgA m).N) :
    iprop((dats m hp 0 c).Φ t.castSucc ∗ (dats m hp 0 c).owesAt () t.castSucc
        ∗ (∃ d, owns (c : Thread nD τ) (st0 m t) fullShare ((dats m hp 0 c).before (0 : Fin 10) t d))
        ∗ (∃ d, owns (c : Thread nD τ) (st1 m t) fullShare ((dats m hp 0 c).before (1 : Fin 10) t d))
        ∗ (∃ d, owns (c : Thread nD τ) (st2 m t) fullShare ((dats m hp 0 c).before (2 : Fin 10) t d))
        ∗ (∃ d, owns (c : Thread nD τ) (st3 m t) fullShare ((dats m hp 0 c).before (3 : Fin 10) t d))
        ∗ (∃ d, owns (c : Thread nD τ) (st4 m t) fullShare ((dats m hp 0 c).before (4 : Fin 10) t d))
        ∗ (∃ d, owns (c : Thread nD τ) (st5 m t) fullShare ((dats m hp 0 c).before (5 : Fin 10) t d))
        ∗ (∃ d, owns (c : Thread nD τ) (st6 m t) fullShare ((dats m hp 0 c).before (6 : Fin 10) t d))
        ∗ (∃ d, owns (c : Thread nD τ) (st7 m t) fullShare ((dats m hp 0 c).before (7 : Fin 10) t d))
        ∗ (∃ d, owns (c : Thread nD τ) (st8 m t) fullShare ((dats m hp 0 c).before (8 : Fin 10) t d))
        ∗ (∃ d, owns (c : Thread nD τ) (st9 m t) fullShare ((dats m hp 0 c).before (9 : Fin 10) t d)))
      ⊢ wp frame (wpE (defs₀ (F := Bits)) Variants.none c none) Set.univ (bodyAt m t) fun _ =>
          iprop((dats m hp 0 c).Φ t.succ ∗ (dats m hp 0 c).owesAt () t.succ
            ∗ bigSep Finset.univ fun w : Fin (cfgA m).W =>
                match (cfgA m).idle w ((cfgA m).grid.coords t) with
                | true =>
                  match ((cfgA m).win w).flush t with
                  | false => iprop(∃ d, owns (c : Thread nD τ) (((cfgA m).win w).stage ((cfgA m).slots t w)) fullShare ((dats m hp 0 c).before w t d))
                  | true => owns (c : Thread nD τ) (((cfgA m).win w).stage ((cfgA m).slots t w)) fullShare ((dats m hp 0 c).after w t)
                | false => owns (c : Thread nD τ) (((cfgA m).win w).stage ((cfgA m).slots t w)) fullShare ((dats m hp 0 c).after w t)) := by
  rw [bigSep_W0]
  rewrite [show (cfgA m).idle (7 : Fin 10) ((cfgA m).grid.coords t) = false from idle_7 m hp _]
  simp only [before_0, before_1, before_2, before_3, before_4, before_5, before_6, after_0, after_1, after_2, after_3, after_4, after_5, after_6, after_7, after_8, after_9]
  rewrite [show (dats m hp 0 c).Φ t.succ = Phi m c from rfl, show (dats m hp 0 c).Φ t.castSucc = Phi m c from rfl,
    show (dats m hp 0 c).owesAt () t.succ = (dats m hp 0 c).owesAt () t.castSucc from rfl]
  unfold Phi
  iintro ⟨⟨⟨%a0, HS0⟩, ⟨%a1, HS1⟩, ⟨%a2, HS2⟩, ⟨%a3, HS3⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((bodyRun c (crd m t) (st0 m t) (hst0 m t) (st1 m t) (hst1 m t) (st2 m t) (hst2 m t) (st3 m t) (hst3 m t) (st4 m t) (hst4 m t) (st5 m t) (hst5 m t) (st6 m t) (hst6 m t) (st7 m t) (hst7 m t) (st8 m t) (hst8 m t) (st9 m t) (hst9 m t) (tabv m) (jblk0 m c t) (jblk1 m c t) (jblk2 m c t) (jblk3 m c t) (jblk4 m c t) (jblk5 m c t) (jblk6 m c t) a0 a1 a2 a3 (h1 m hp) (h6 m hp)).2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [H7]; · iexists _; iexact H7
  isplitl [H8]; · iexists _; iexact H8
  isplitl [H9]; · iexists _; iexact H9
  isplitl [HS0]; · rw [scr_set0]; iexact HS0
  isplitl [HS1]; · rw [scr_set1]; iexact HS1
  isplitl [HS2]; · rw [scr_set2]; iexact HS2
  isplitl [HS3]; · rw [scr_set3]; iexact HS3
  iintro ⟨H0, H1, H2, H3, H4, H5, H6, HT0, ⟨%e7, H7⟩, ⟨%e8, H8⟩, ⟨%e9, H9⟩, ⟨%b0, HS0⟩, ⟨%b1, HS1⟩, ⟨%b2, HS2⟩, ⟨%b3, HS3⟩⟩
  isplitl [HS0 HS1 HS2 HS3 HT0]
  · isplitl [HS0]; · iexists b0; rw [scr_set0]; iexact HS0
    isplitl [HS1]; · iexists b1; rw [scr_set1]; iexact HS1
    isplitl [HS2]; · iexists b2; rw [scr_set2]; iexact HS2
    isplitl [HS3]; · iexists b3; rw [scr_set3]; iexact HS3
    iexact HT0
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  isplitl [H7]
  · unfold owns; iexists _; isplitr; swap
    · iexact H7
    · ipureintro; exact leaves7 m hp c t a0 a1 a2 a3 _
  isplitl [H8]
  · unfold owns; iexists _; isplitr; swap
    · iexact H8
    · ipureintro; exact leaves8 m hp c t a0 a1 a2 a3 _
  unfold owns; iexists _; isplitr; swap
  · iexact H9
  · ipureintro; exact leaves9 m hp c t a0 a1 a2 a3 _

/-- The obligation the pipeline asks of its body. -/
theorem body_obligation (c : Dev nD) : BodyObligation (dats m hp 0 c) (defs₀ (F := Bits)) Variants.none () Set.univ := fun t => by
  rw [bigSep_W0]
  exact sound_body m hp c t

/-- The launch's ghost state. -/
def u₀ : UR sig nD τ :=
  initOf (Pipeline.cells (pcs m) ((launch0 (F := Bits)).cellOf_inj fun _ => adm m))
    (Pipeline.launchToks (pcs m) ((launch0 (F := Bits)).cellOf_inj fun _ => adm m))

theorem share_full (c : Dev nD) (w : Fin (cfgA m).W) : (dats m hp 0 c).share w = fullShare := by unfold Dat.share; split <;> rfl

/-- The prefetched table as the launch hands it over. -/
theorem table_held (c : Dev nD) (q : Fin 1 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0)) := by
  unfold Pipeline.prefHeld
  rw [show (Finset.univ : Finset (Fin 1)) = {(0 : Fin 1)} from by decide, bigSep_singleton]
  rfl

/-- What holds between points, at the start. -/
theorem phi_start (c : Dev nD) :
    iprop(BI.emp ∗ Pipeline.prefHeld pre0 c (fun _ => fullShare.right) (adm m).1 ∗ Pipeline.scopedRest spec0 c) ⊢ (dats m hp 0 c).Φ 0 := by
  rw [table_held, scopedRest0_eq, show (dats m hp 0 c).Φ 0 = Phi m c from rfl]
  unfold Phi
  iintro ⟨-, ⟨HT0⟩, ⟨%a0, HS0⟩, ⟨%a1, HS1⟩, ⟨%a2, HS2⟩, ⟨%a3, HS3⟩⟩
  isplitl [HS0]; · iexists a0; iexact HS0
  isplitl [HS1]; · iexists a1; iexact HS1
  isplitl [HS2]; · iexists a2; iexact HS2
  isplitl [HS3]; · iexists a3; iexact HS3
  iexact HT0

/-- It gives the scratch buffers back at the end. -/
theorem phi_end (c : Dev nD) : (dats m hp 0 c).Φ (Fin.last (cfgA m).N) ⊢ iprop(BI.emp ∗ Pipeline.scopedRest spec0 c) := by
  rw [scopedRest0_eq, show (dats m hp 0 c).Φ (Fin.last (cfgA m).N) = Phi m c from rfl]
  unfold Phi
  iintro ⟨⟨%a0, HS0⟩, ⟨%a1, HS1⟩, ⟨%a2, HS2⟩, ⟨%a3, HS3⟩, -⟩
  isplitr; · iempintro
  isplitl [HS0]; · iexists a0; iexact HS0
  isplitl [HS1]; · iexists a1; iexact HS1
  isplitl [HS2]; · iexists a2; iexact HS2
  iexists a3; iexact HS3

/-- Every array at what the pipeline computes, the table as it was. -/
def Post : PUnit × MemSt nD τ sig (Elt Bits) → Prop := fun r =>
  ∀ c : Dev nD, (∀ w : Fin (cfgA m).W, r.2.mem (((cfgA m).win w).arr.view.loc (c : Thread nD τ)) = (dats m hp 0 c).arrAt w (cfgA m).N)
    ∧ ∀ j, r.2.mem ((c : Thread nD τ).loc (pre0.ref j)) = (adm m).1 j

/-- The table in memory is the one the pipeline runs at. -/
theorem table_mem (c : Dev nD) (j : Fin 1) : m ((c : Thread nD τ).loc (pre0.ref j)) = (adm m).1 j := by
  fin_cases j
  obtain rfl := Subsingleton.elim c (0 : Dev nD)
  rfl

variable (ρ : Dev nD → PrngReg)

set_option backward.isDefEq.respectTransparency.types false in
set_option maxHeartbeats 4000000 in
/-- The call ends with every array at what the pipeline computes and every counter at zero. -/
theorem run : θ_run (defs (F := Bits)) (onTc (τ := τ) (main (F := Bits))) ⟨m, fun _ => 0, ρ⟩ (fun r => Post m hp r ∧ r.2.sem = fun _ => 0) :=
  Pipeline.θ_run_region_noSem_pf_quiescent pcfgs (fun _ => adm m) (dats m hp) () ((launch0 (F := Bits)).cellOf_inj fun _ => adm m) (0 : Fin 1)
    (launch0 (F := Bits)).win.to₀ (launch0 (F := Bits)).pre EP defs₀ Variants.none m ρ main
    (hbody := fun c => (body_obligation m hp c).loose) (hne := (launch0 (F := Bits)).block_pos)
    (harr := (launch0 (F := Bits)).arr_whole) (hstage := (launch0 (F := Bits)).stage_whole) (howed := fun _ _ => rfl)
    (u₀ := u₀ m) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m) (dats m hp) 0 (launch0 (F := Bits)).win.arr_inj c (launch0 (F := Bits)).arr_whole
      (share_full m hp c) _ _ fun _ => rfl)
    (hpf := table_mem m)
    (X := fun _ => iprop(emp)) (Y := fun _ => iprop(emp)) (Z := fun _ => iprop(emp))
    (hX := fun c => by rw [unscopedRestP0_eq]; iintro -; isplitr <;> iempintro)
    (hin := phi_start m hp)
    (hout := phi_end m hp)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The call ends with the three result arrays at what the pipeline computes, its arguments as they were and every counter at
    zero. -/
theorem run_blocks : θ_run (defs (F := Bits)) (onTc (τ := τ) (main (F := Bits))) ⟨m, fun _ => 0, ρ⟩ (fun r => (∀ c : Dev nD,
      r.2.mem ((c.tc : Thread nD τ).loc main_v0_0) = (dats m hp 0 c).arrAt (7 : Fin 10) (cfgA m).N
      ∧ r.2.mem ((c.tc : Thread nD τ).loc main_v0_1) = (dats m hp 0 c).arrAt (8 : Fin 10) (cfgA m).N
      ∧ r.2.mem ((c.tc : Thread nD τ).loc main_v0_2) = (dats m hp 0 c).arrAt (9 : Fin 10) (cfgA m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨(h.1 c).1 (7 : Fin 10), (h.1 c).1 (8 : Fin 10), (h.1 c).1 (9 : Fin 10),
    ((h.1 c).2 0).trans (table_mem m c 0).symm, ((h.1 c).1 (0 : Fin 10)).trans ((dats m hp 0 c).arrAt_in (0 : Fin 10) rfl _), ((h.1 c).1 (1 : Fin 10)).trans ((dats m hp 0 c).arrAt_in (1 : Fin 10) rfl _), ((h.1 c).1 (2 : Fin 10)).trans ((dats m hp 0 c).arrAt_in (2 : Fin 10) rfl _), ((h.1 c).1 (3 : Fin 10)).trans ((dats m hp 0 c).arrAt_in (3 : Fin 10) rfl _), ((h.1 c).1 (4 : Fin 10)).trans ((dats m hp 0 c).arrAt_in (4 : Fin 10) rfl _), ((h.1 c).1 (5 : Fin 10)).trans ((dats m hp 0 c).arrAt_in (5 : Fin 10) rfl _), ((h.1 c).1 (6 : Fin 10)).trans ((dats m hp 0 c).arrAt_in (6 : Fin 10) rfl _)⟩, h.2⟩) (run m hp ρ)

end Cert.Kernel3.Att

end
-- ==== Proof.AttPre.lean ====
/- What the preconditions of the attention call say: the table asks for the running maximum, and the entries of the queries,
   keys, values and bias pieces are real numbers. -/
module

public import proofs.«01_k».proof.Proof.AttValue
public import proofs.«01_k».proof.Proof.Att
public import proofs.«01_k».proof.Proof.Gen.Pre_online
public import proofs.«01_k».proof.Proof.Gen.Pre_online_finite
public import proofs.«01_k».proof.Defs
public import Idealize.ShloMosaic.Lib.ReduceAll
public import Idealize.ShloMosaic.Lib.WordCmp

@[expose] public section

set_option maxRecDepth 16384

noncomputable section

open Idealize.ShloMosaic Idealize.ShloMosaic.TcCoe Idealize.SL.Sem
namespace AttPre
open Cert.Kernel3Ideal.AttOut (IsR)

theorem and_one (x y : BitVec 1) : IntOp.andi x y = 1#1 ↔ x = 1#1 ∧ y = 1#1 := by revert x y; decide

/-- A comparison of a word with zero that says "different" does so. -/
theorem ne_zero (w : BitVec 32) (h : IntOp.cmpi .ne w 0#32 = 1#1) : w ≠ 0#32 := by
  rintro rfl
  exact absurd h (by decide)

theorem inf : Ideal.ofBits .f32 0x7F800000#32 = (⊤ : EReal) := by simp [Ideal.ofBits, Ideal.ieee]

/-- An extended real whose absolute value is below infinity is a real number. -/
theorem real_of_lt (e : EReal) (h : Ideal.cmp .olt (max e (-e)) (Ideal.ofBits .f32 0x7F800000#32) = 1#1) : IsR e := by
  rw [inf] at h
  induction e with
  | bot => simp [Ideal.cmp] at h
  | top => simp [Ideal.cmp] at h
  | coe r => exact ⟨r, rfl⟩

section flag
variable {F : FTy → Type} [FloatOps F] [Cert.Pre_online.Facts]

/-- The first precondition: the last word of the table is not zero. -/
theorem word_of_online (a0 : IVec Cert.Pre_online.S257 32) (a1 a2 a3 a4 a5 a6 a7)
    (h : Cert.Pre_online.fn (F := F) a0 a1 a2 a3 a4 a5 a6 a7 = fun _ => 1#1) (j : Cert.Pre_online.S257.Idx) (hj : (j 0 : ℕ) = 256) :
    a0 j ≠ 0#32 := by
  have e := congrFun h (ix1 0)
  refine ne_zero _ ?_
  have e' : IntOp.cmpi .ne (a0 (ix1 256)) 0#32 = 1#1 := by
    refine Eq.trans ?_ e
    pointwise [Cert.Pre_online.fn]
  refine Eq.trans ?_ e'
  refine congrArg (fun z => IntOp.cmpi .ne z 0#32) (congrArg a0 (funext fun k => Fin.ext ?_))
  fin_cases k
  exact hj

end flag

section finite
variable [Cert.Pre_online_finite.Facts]

/-- The second precondition: moreover every entry of the five arrays is a real number. -/
theorem all_of_finite (a0 : IVec Cert.Pre_online_finite.S257 32) (a1 a2 a3 a4 a5 a6 a7)
    (h : Cert.Pre_online_finite.fn (F := Ideal) a0 a1 a2 a3 a4 a5 a6 a7 = fun _ => 1#1) :
    (∀ j : Cert.Pre_online_finite.S257.Idx, (j 0 : ℕ) = 256 → a0 j ≠ 0#32)
      ∧ (∀ i, IsR (a1 i)) ∧ (∀ i, IsR (a2 i)) ∧ (∀ i, IsR (a3 i)) ∧ (∀ i, IsR (a4 i)) ∧ ∀ i, IsR (a5 i) := by
  have e := congrFun h ix0
  obtain ⟨e, e5⟩ := (and_one _ _).1 e
  obtain ⟨e, e4⟩ := (and_one _ _).1 e
  obtain ⟨e, e3⟩ := (and_one _ _).1 e
  obtain ⟨e, e2⟩ := (and_one _ _).1 e
  obtain ⟨e0, e1⟩ := (and_one _ _).1 e
  haveI : Subsingleton Cert.Pre_online_finite.S_.Idx := ⟨fun a b => funext fun k => k.elim0⟩
  refine ⟨fun j hj => ?_, fun i => real_of_lt _ (Host.reduce_andi_all _ _ _ _ _ e1 i), fun i => real_of_lt _ (Host.reduce_andi_all _ _ _ _ _ e2 i),
    fun i => real_of_lt _ (Host.reduce_andi_all _ _ _ _ _ e3 i), fun i => real_of_lt _ (Host.reduce_andi_all _ _ _ _ _ e4 i),
    fun i => real_of_lt _ (Host.reduce_andi_all _ _ _ _ _ e5 i)⟩
  refine ne_zero _ ?_
  have e' : IntOp.cmpi .ne (a0 (ix1 256)) 0#32 = 1#1 := by
    refine Eq.trans ?_ e0
    pointwise
  refine Eq.trans ?_ e'
  refine congrArg (fun z => IntOp.cmpi .ne z 0#32) (congrArg a0 (funext fun k => Fin.ext ?_))
  fin_cases k
  exact hj

end finite

/-- The table of the program in bits asks for the running maximum. -/
theorem online_bits [Cert.Pre_online.Facts] (m) (h : Cert.Pre_Kernel3 m) : Cert.Kernel3.Att.Online m :=
  word_of_online _ _ _ _ _ _ _ _ (h 0) _ rfl

/-- The table of the program in reals asks for the running maximum, -/
theorem online_ideal [Cert.Pre_online.Facts] (m) (h : Cert.Pre_Kernel3Ideal m) : Cert.Kernel3Ideal.Att.Online m :=
  word_of_online _ _ _ _ _ _ _ _ (h 0) _ rfl

/-- and so under the second precondition, -/
theorem online_finite [Cert.Pre_online_finite.Facts] (m) (h : Cert.Pre_Kernel3Ideal_online_finite m) : Cert.Kernel3Ideal.Att.Online m :=
  (all_of_finite _ _ _ _ _ _ _ _ (h 0)).1 _ rfl

/-- which makes the entries real numbers. -/
theorem finite_ideal [Cert.Pre_online_finite.Facts] (m) (h : Cert.Pre_Kernel3Ideal_online_finite m) (c : Dev Cert.Kernel3Ideal.nD) :
    Cert.Kernel3Ideal.AttValue.Finite m c :=
  have e := all_of_finite _ _ _ _ _ _ _ _ (h c)
  ⟨e.2.1, e.2.2.1, e.2.2.2.1, e.2.2.2.2.1, e.2.2.2.2.2⟩

end AttPre
-- ==== Proof.QkvBlock.lean ====
/- What one grid point of the projection call stores, as a function of its blocks. -/
module

public import proofs.«01_k».proof.Proof.Gen.Kernel4Ideal.Skeleton
public import proofs.«01_k».proof.Proof.RowMath
public import Idealize.ShloMosaic.Lib.Pointwise

@[expose] public section

set_option maxRecDepth 16384

noncomputable section

open Idealize.ShloMosaic Idealize.ShloMosaic.TcCoe Idealize.SL.Sem
namespace Cert.Kernel4Ideal.QkvBlock
open Cert.Kernel4Ideal Cert.Kernel4Ideal.Gen RowMath

/-- The matrix averages over groups of 64 channels: 1/64 at two channels of one group, 0 elsewhere. -/
def IsMean (bd : FVec Ideal S256x256 .bf16) : Prop :=
  ∀ a b : Fin 256, bd (ix2 a b) = if (a : ℕ) / 64 = b / 64 then Ideal.ofBits .f32 0x3C800000#32 else 0

/-- The normed row. -/
theorem h_at (x : FVec Ideal S1x512x1024 .f32) (g : FVec Ideal S1x1024 .f32) (r : Fin 512) (k : Fin 1024) :
    k0_pay3 (F := Ideal) x g (ix2 r k) = nrm (fun k => x (ix3 0 r k)) (fun k => g (ix2 0 k)) k := by
  pointwise [k0_pay3]
  rfl

/-- The product of the normed rows with the keys' and gates' columns. -/
theorem y_at (x : FVec Ideal S1x512x1024 .f32) (g : FVec Ideal S1x1024 .f32) (w : FVec Ideal S1024x1152 .bf16) (r : Fin 512) (j : Fin 1152) :
    k0_pay4 (F := Ideal) x g w (ix2 r j) = ∑ k, nrm (fun k => x (ix3 0 r k)) (fun k => g (ix2 0 k)) k * w (ix2 k j) := by
  pointwise [k0_pay4]
  simp only [h_at]

/-- The stored values: the product of the values' rows of the weight with the normed rows. -/
theorem v_at (x : FVec Ideal S1x512x1024 .f32) (g : FVec Ideal S1x1024 .f32) (w : FVec Ideal S1024x1024 .bf16) (r : Fin 512) (j : Fin 1024) :
    k0_pay5 (F := Ideal) x g w (ix4 0 0 j r) = ∑ k, nrm (fun k => x (ix3 0 r k)) (fun k => g (ix2 0 k)) k * w (ix2 j k) := by
  pointwise [k0_pay5]
  simp only [h_at]
  exact Finset.sum_congr rfl fun k _ => mul_comm _ _

/-- The product of the queries' rows of the weight with the normed rows. -/
theorem z_at (x : FVec Ideal S1x512x1024 .f32) (g : FVec Ideal S1x1024 .f32) (w : FVec Ideal S1024x1024 .bf16) (r : Fin 512) (j : Fin 1024) :
    k0_pay6 (F := Ideal) x g w (ix2 j r) = ∑ k, nrm (fun k => x (ix3 0 r k)) (fun k => g (ix2 0 k)) k * w (ix2 j k) := by
  pointwise [k0_pay6]
  simp only [h_at]
  exact Finset.sum_congr rfl fun k _ => mul_comm _ _

section Keys
variable (y : FVec Ideal S512x1152 .f32) {bd : FVec Ideal S256x256 .bf16} (hbd : IsMean bd) (g : FVec Ideal S1x256 .f32)
  (G : Fin 64 → EReal) (r : Fin 512) (e : Fin 256)
include hbd

/-- The first 256 channels of the keys. -/
theorem key0 (hg : g (ix2 0 e) = G ⟨e % 64, by omega⟩) :
    k0_pay7 (F := Ideal) y bd g (ix3 0 r e)
      = head (fun k => y (ix2 r ⟨64 * (e / 64) + k, by omega⟩)) G ⟨e % 64, by omega⟩ := by
  pointwise [k0_pay7]
  simpa only [Nat.zero_add] using tile_head (fun a => y (ix2 r ⟨a, by omega⟩)) _ (fun j => y (ix2 r ⟨j, by omega⟩)) 0 rfl (by omega)
    (fun a => by simp only [Nat.zero_add]) e (fun a => hbd a e) G _ (by simpa only [Nat.zero_add] using hg)

/-- The second 256 channels of the keys. -/
theorem key1 (hg : g (ix2 0 e) = G ⟨(256 + e) % 64, by omega⟩) :
    k0_pay11 (F := Ideal) (k0_pay9 y) (k0_pay10 y) bd g (ix3 0 r e)
      = head (fun k => y (ix2 r ⟨64 * ((256 + e) / 64) + k, by omega⟩)) G ⟨(256 + e) % 64, by omega⟩ := by
  pointwise [k0_pay11, k0_pay9, k0_pay10]
  exact tile_head _ _ (fun j => y (ix2 r ⟨j, by omega⟩)) 256 rfl (by omega) (fun a => rfl) e (fun a => hbd a e) G _ hg

/-- The third 256 channels of the keys. -/
theorem key2 (hg : g (ix2 0 e) = G ⟨(512 + e) % 64, by omega⟩) :
    k0_pay16 (F := Ideal) (k0_pay13 y) (k0_pay14 y) (k0_pay15 bd) (constant S512x256 .f32 0#32) g (ix3 0 r e)
      = head (fun k => y (ix2 r ⟨64 * ((512 + e) / 64) + k, by omega⟩)) G ⟨(512 + e) % 64, by omega⟩ := by
  pointwise [k0_pay16, k0_pay13, k0_pay14, k0_pay15]
  exact tile_head _ _ (fun j => y (ix2 r ⟨j, by omega⟩)) 512 rfl (by omega) (fun a => rfl) e (fun a => hbd a e) G _ hg

/-- The last 256 channels of the keys. -/
theorem key3 (hg : g (ix2 0 e) = G ⟨(768 + e) % 64, by omega⟩) :
    k0_pay20 (F := Ideal) (k0_pay18 y) (k0_pay19 y bd) g (ix3 0 r e)
      = head (fun k => y (ix2 r ⟨64 * ((768 + e) / 64) + k, by omega⟩)) G ⟨(768 + e) % 64, by omega⟩ := by
  pointwise [k0_pay20, k0_pay18, k0_pay19]
  exact tile_head _ _ (fun j => y (ix2 r ⟨j, by omega⟩)) 768 rfl (by omega) (fun a => rfl) e (fun a => hbd a e) G _ hg

end Keys

section Queries
variable (y : FVec Ideal S1024x512 .f32) {bd : FVec Ideal S256x256 .bf16} (hbd : IsMean bd) (g : FVec Ideal S256x128 .f32)
  (G : Fin 64 → EReal) (s : EReal) (r : Fin 512) (e : Fin 256)
include hbd

/-- One channel of a query tile, with the products of the averaging matrix in their order and the scale folded into the gain. -/
theorem tile_query (F : Fin 256 → EReal) (Y : Fin 1024 → EReal) (o : ℕ) (ho : o % 256 = 0) (hl : o + 256 ≤ 1024)
    (hF : ∀ a : Fin 256, F a = Y ⟨o + a, by omega⟩) (g : EReal) (hg : g = G ⟨(o + e) % 64, by omega⟩ * s) :
    F e * Ideal.rsqrt ((∑ a, bd (ix2 e a) * (F a * F a)) + Ideal.ofBits .f32 0x358637BD#32) * g
      = head (fun k => Y ⟨64 * ((o + e) / 64) + k, by omega⟩) G ⟨(o + e) % 64, by omega⟩ * s := by
  rw [hg, ← mul_assoc, ← tile_head F (fun a => bd (ix2 e a)) Y o ho hl hF e (fun a => by rw [hbd]; simp only [eq_comm]) G _ rfl]
  simp only [mul_comm (bd _)]

/-- The first 256 channels of the queries. -/
theorem query0 (hg : ∀ l, g (ix2 e l) = G ⟨e % 64, by omega⟩ * s) :
    k0_pay8 (F := Ideal) y bd g (ix3 0 e r)
      = head (fun k => y (ix2 ⟨64 * (e / 64) + k, by omega⟩ r)) G ⟨e % 64, by omega⟩ * s := by
  pointwise [k0_pay8]
  simp only [hg, dite_eq_ite, ite_self]
  simpa only [Nat.zero_add] using tile_query hbd G s e (fun a => y (ix2 ⟨a, by omega⟩ r)) (fun j => y (ix2 ⟨j, by omega⟩ r)) 0 rfl (by omega)
    (fun a => by simp only [Nat.zero_add]) _ (by simp only [Nat.zero_add])

/-- The second 256 channels of the queries. -/
theorem query1 (hg : ∀ l, g (ix2 e l) = G ⟨(256 + e) % 64, by omega⟩ * s) :
    k0_pay12 (F := Ideal) y bd g (ix3 0 e r)
      = head (fun k => y (ix2 ⟨64 * ((256 + e) / 64) + k, by omega⟩ r)) G ⟨(256 + e) % 64, by omega⟩ * s := by
  pointwise [k0_pay12]
  simp only [hg, dite_eq_ite, ite_self]
  exact tile_query hbd G s e _ (fun j => y (ix2 j r)) 256 rfl (by omega) (fun a => rfl) _ rfl

/-- The third 256 channels of the queries. -/
theorem query2 (hg : ∀ l, g (ix2 e l) = G ⟨(512 + e) % 64, by omega⟩ * s) :
    k0_pay17 (F := Ideal) y bd g (ix3 0 e r)
      = head (fun k => y (ix2 ⟨64 * ((512 + e) / 64) + k, by omega⟩ r)) G ⟨(512 + e) % 64, by omega⟩ * s := by
  pointwise [k0_pay17]
  simp only [hg, dite_eq_ite, ite_self]
  exact tile_query hbd G s e _ (fun j => y (ix2 j r)) 512 rfl (by omega) (fun a => rfl) _ rfl

/-- The last 256 channels of the queries. -/
theorem query3 (hg : ∀ l, g (ix2 e l) = G ⟨(768 + e) % 64, by omega⟩ * s) :
    k0_pay21 (F := Ideal) y bd g (ix3 0 e r)
      = head (fun k => y (ix2 ⟨64 * ((768 + e) / 64) + k, by omega⟩ r)) G ⟨(768 + e) % 64, by omega⟩ * s := by
  pointwise [k0_pay21]
  simp only [hg, dite_eq_ite, ite_self]
  exact tile_query hbd G s e _ (fun j => y (ix2 j r)) 768 rfl (by omega) (fun a => rfl) _ rfl

end Queries

end Cert.Kernel4Ideal.QkvBlock

end
-- ==== Proof.QkvTab.lean ====
/- What the host code hands the projection call. -/
module

public import proofs.«01_k».proof.Proof.Gen.Kernel4Ideal.Value
public import proofs.«01_k».proof.Proof.RowMath
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
namespace Cert.Kernel4Ideal.QkvTab
open Cert.Kernel4Ideal Cert.Kernel4Ideal.Gen RowMath

variable (m : (ℓ : Loc nD τ sig) → Buf (Elt Ideal) ℓ) (c : Dev nD)

/-- The gain row is the first row of the gain table. -/
theorem tab_g (k : Fin 1024) :
    (V m c main_v78 : FVec Ideal S1x1024 .f32) (ix2 0 k) = (m ((c : Thread nD τ).loc main_arg1) : FVec Ideal S2x1024 .f32) (ix2 0 k) := by
  simp only [V, hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, hostOps0_17, hostOps0_18, hostOps0_19, List.flatten_cons, List.flatten_nil,
    List.append_nil, List.cons_append, List.nil_append, StableHlo.TRef.binary, StableHlo.TRef.nullary, StableHlo.TRef.unary,
    StableHlo.TRef.ternary, StableHlo.TRef.toBuf, StableHlo.TRef.ofBuf, cast_eq]
  after_results_simp
  pointwise

/-- The keys' columns of the first weight table. -/
theorem tab_wk (k j : Fin 1024) :
    (V m c main_v5 : FVec Ideal S1024x1152 .bf16) (ix2 k ⟨j, by omega⟩)
      = (m ((c : Thread nD τ).loc main_arg2) : FVec Ideal S1x1024x3088 .f32) (ix3 0 k ⟨1024 + j, by omega⟩) := by
  simp only [V, hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, hostOps0_17, hostOps0_18, hostOps0_19, List.flatten_cons, List.flatten_nil,
    List.append_nil, List.cons_append, List.nil_append, StableHlo.TRef.binary, StableHlo.TRef.nullary, StableHlo.TRef.unary,
    StableHlo.TRef.ternary, StableHlo.TRef.toBuf, StableHlo.TRef.ofBuf, cast_eq]
  after_results_simp
  pointwise
  after_results_simp
  pointwise

/-- The queries' columns are the first rows of the second weight table. -/
theorem tab_wq (j k : Fin 1024) :
    (V m c main_v10 : FVec Ideal S2048x1024 .bf16) (ix2 ⟨j, by omega⟩ k)
      = (m ((c : Thread nD τ).loc main_arg2) : FVec Ideal S1x1024x3088 .f32) (ix3 0 k ⟨j, by omega⟩) := by
  simp only [V, hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, hostOps0_17, hostOps0_18, hostOps0_19, List.flatten_cons, List.flatten_nil,
    List.append_nil, List.cons_append, List.nil_append, StableHlo.TRef.binary, StableHlo.TRef.nullary, StableHlo.TRef.unary,
    StableHlo.TRef.ternary, StableHlo.TRef.toBuf, StableHlo.TRef.ofBuf, cast_eq]
  after_results_simp
  pointwise
  after_results_simp
  pointwise

/-- The values' columns are the last rows of the second weight table. -/
theorem tab_wv (j k : Fin 1024) :
    (V m c main_v10 : FVec Ideal S2048x1024 .bf16) (ix2 ⟨1024 + j, by omega⟩ k)
      = (m ((c : Thread nD τ).loc main_arg2) : FVec Ideal S1x1024x3088 .f32) (ix3 0 k ⟨2048 + j, by omega⟩) := by
  simp only [V, hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, hostOps0_17, hostOps0_18, hostOps0_19, List.flatten_cons, List.flatten_nil,
    List.append_nil, List.cons_append, List.nil_append, StableHlo.TRef.binary, StableHlo.TRef.nullary, StableHlo.TRef.unary,
    StableHlo.TRef.ternary, StableHlo.TRef.toBuf, StableHlo.TRef.ofBuf, cast_eq]
  after_results_simp
  pointwise
  after_results_simp
  pointwise

/-- The gain row of the keys repeats the gains of one head. -/
theorem tab_gk (j : Fin 1024) :
    (V m c main_v24 : FVec Ideal S1x1024 .f32) (ix2 0 j)
      = (m ((c : Thread nD τ).loc main_arg5) : FVec Ideal S1x64 .f32) (ix2 0 ⟨j % 64, by omega⟩) := by
  simp only [V, hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, hostOps0_17, hostOps0_18, hostOps0_19, List.flatten_cons, List.flatten_nil,
    List.append_nil, List.cons_append, List.nil_append, StableHlo.TRef.binary, StableHlo.TRef.nullary, StableHlo.TRef.unary,
    StableHlo.TRef.ternary, StableHlo.TRef.toBuf, StableHlo.TRef.ofBuf, cast_eq]
  after_results_simp
  pointwise

/-- The gain table of the queries repeats the gains of one head, with the scale folded in. -/
theorem tab_gq (G : Fin 64 → EReal) (hG : ∀ e, (m ((c : Thread nD τ).loc main_arg4) : FVec Ideal S1x64 .f32) (ix2 0 e) = G e)
    (j : Fin 1024) (l : Fin 128) :
    (V m c main_v32 : FVec Ideal S1024x128 .f32) (ix2 j l)
      = G ⟨j % 64, by omega⟩ * Ideal.ofBits .f32 0x3E38AA3B#32 := by
  rw [← hG]
  simp only [V, hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, hostOps0_17, hostOps0_18, hostOps0_19, List.flatten_cons, List.flatten_nil,
    List.append_nil, List.cons_append, List.nil_append, StableHlo.TRef.binary, StableHlo.TRef.nullary, StableHlo.TRef.unary,
    StableHlo.TRef.ternary, StableHlo.TRef.toBuf, StableHlo.TRef.ofBuf, cast_eq]
  after_results_simp
  pointwise

/-- The matrix built on the host averages over groups of 64 channels. -/
theorem tab_bd (a b : Fin 256) : (V m c main_v19 : FVec Ideal S256x256 .bf16) (ix2 a b)
    = if (a : ℕ) / 64 = b / 64 then Ideal.ofBits .f32 0x3C800000#32 else 0 := by
  simp only [V, hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, hostOps0_17, hostOps0_18, hostOps0_19, List.flatten_cons, List.flatten_nil,
    List.append_nil, List.cons_append, List.nil_append, StableHlo.TRef.binary, StableHlo.TRef.nullary, StableHlo.TRef.unary,
    StableHlo.TRef.ternary, StableHlo.TRef.toBuf, StableHlo.TRef.ofBuf, cast_eq]
  after_results_simp
  pointwise
  have h : BitVec.ofNat 32 ((a : ℕ) / 64) = BitVec.ofNat 32 ((b : ℕ) / 64) ↔ (a : ℕ) / 64 = b / 64 := by
    rw [← BitVec.toNat_inj, BitVec.toNat_ofNat, BitVec.toNat_ofNat, Nat.mod_eq_of_lt (by omega), Nat.mod_eq_of_lt (by omega)]
  by_cases e : (a : ℕ) / 64 = b / 64
  · simp [Scalar.select, IntOp.cmpi, e]
  · rw [if_neg e]
    simp only [Scalar.select, IntOp.cmpi, beq_eq_false_iff_ne.mpr (mt h.mp e)]
    rfl

end Cert.Kernel4Ideal.QkvTab

end
-- ==== Proof.QkvRef.lean ====
/- The reference of the projection call in named stages, and each stage at an index. -/
module

public import proofs.«01_k».proof.Proof.Gen.Reference4Ideal.Run
public import proofs.«01_k».proof.Proof.RowMath
public import Idealize.ShloMosaic.Lib.Pointwise

@[expose] public section

set_option maxRecDepth 16384

noncomputable section

open Idealize.ShloMosaic Idealize.ShloMosaic.TcCoe Idealize.SL.Sem
namespace Cert.Reference4Ideal.Stages
open Cert.Reference4Ideal Cert.Reference4Ideal.Gen RowMath

/-- The normed rows. -/
def normed (x : FVec Ideal S4x4096x1024 .f32) (g : FVec Ideal S2x1024 .f32) : FVec Ideal S4x4096x1024 .f32 :=
  (mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast _ (extractStridedSlice S1x1024 ![0, 0] g slices_S2x1024_S1x1024_0_0) shapeCasts_S1x1024_S1024))))

/-- The projection of the normed rows on all the columns of the input weight. -/
def proj (x : FVec Ideal S4x4096x1024 .f32) (g : FVec Ideal S2x1024 .f32) (w : FVec Ideal S1x1024x3088 .f32) : FVec Ideal S4x4096x3088 .f32 :=
  (Host.dotGeneral dot_S4x4096x1024_S1024x3088_S4x4096x3088_2_0_01_1_n_n none (normed x g) (shapeCast _ w shapeCasts_S1x1024x3088_S1024x3088))

/-- The RMS norm of each head's 64 channels. -/
def headnorm (z : FVec Ideal S4x4096x16x64 .f32) (gk : FVec Ideal S1x64 .f32) : FVec Ideal S4x4096x16x64 .f32 :=
  (mulf (mulf z (broadcastInDim S4x4096x16x64 ![0, 1, 2, 3] bcast_S4x4096x16x1_S4x4096x16x64_0_1_2_3 (Host.rsqrt (addf (Host.divf (broadcastInDim S4x4096x16x1 ![0, 1, 2] bcast_S4x4096x16_S4x4096x16x1_0_1_2 (Host.reduceAdd (mulf z z) (constant S_ .f32 0x00000000#32) reducesTo_S4x4096x16x64_S4x4096x16_d3 h_S_)) (broadcastInDim S4x4096x16x1 ![] bcast_S_S4x4096x16x1 (constant S_ .f32 0x42800000#32))) (broadcastInDim S4x4096x16x1 ![] bcast_S_S4x4096x16x1 (constant S_ .f32 0x358637BD#32)))))) (broadcastInDim S4x4096x16x64 ![0, 1, 2, 3] bcast_S1x1x1x64_S4x4096x16x64_0_1_2_3 (broadcastInDim S1x1x1x64 ![3] bcast_S64_S1x1x1x64_3 (shapeCast _ gk shapeCasts_S1x64_S64))))

/-- The queries' columns, head by head. -/
def heads_q (x : FVec Ideal S4x4096x1024 .f32) (g : FVec Ideal S2x1024 .f32) (w : FVec Ideal S1x1024x3088 .f32) : FVec Ideal S4x4096x16x64 .f32 :=
  (shapeCast _ (extractStridedSlice S4x4096x1024 ![0, 0, 0] (proj x g w) slices_S4x4096x3088_S4x4096x1024_0_0_0) shapeCasts_S4x4096x1024_S4x4096x16x64)

/-- The keys' columns, head by head. -/
def heads_k (x : FVec Ideal S4x4096x1024 .f32) (g : FVec Ideal S2x1024 .f32) (w : FVec Ideal S1x1024x3088 .f32) : FVec Ideal S4x4096x16x64 .f32 :=
  (shapeCast _ (extractStridedSlice S4x4096x1024 ![0, 0, 1024] (proj x g w) slices_S4x4096x3088_S4x4096x1024_0_0_1024) shapeCasts_S4x4096x1024_S4x4096x16x64)

/-- The queries, transposed and scaled. -/
def queries (x : FVec Ideal S4x4096x1024 .f32) (g : FVec Ideal S2x1024 .f32) (w : FVec Ideal S1x1024x3088 .f32) (gq : FVec Ideal S1x64 .f32) : FVec Ideal S4x1024x4096 .bf16 :=
  truncf .bf16 (transpose S4x1024x4096 [0, 2, 1] (shapeCast _ (mulf (headnorm (heads_q x g w) gq) (broadcastInDim S4x4096x16x64 ![] bcast_S_S4x4096x16x64 (constant S_ .f32 0x3E38AA3B#32))) shapeCasts_S4x4096x16x64_S4x4096x1024) transposes_S4x4096x1024_S4x1024x4096_0_2_1) bitsLt_bf16_f32

/-- The keys. -/
def keys (x : FVec Ideal S4x4096x1024 .f32) (g : FVec Ideal S2x1024 .f32) (w : FVec Ideal S1x1024x3088 .f32) (gk : FVec Ideal S1x64 .f32) : FVec Ideal S4x4096x1024 .bf16 :=
  truncf .bf16 (shapeCast _ (headnorm (heads_k x g w) gk) shapeCasts_S4x4096x16x64_S4x4096x1024) bitsLt_bf16_f32

/-- The values, transposed in blocks of 512 tokens. -/
def values (x : FVec Ideal S4x4096x1024 .f32) (g : FVec Ideal S2x1024 .f32) (w : FVec Ideal S1x1024x3088 .f32) : FVec Ideal S4x8x1024x512 .bf16 :=
  truncf .bf16 (transpose S4x8x1024x512 [0, 1, 3, 2] (shapeCast _ (extractStridedSlice S4x4096x1024 ![0, 0, 2048] (proj x g w) slices_S4x4096x3088_S4x4096x1024_0_0_2048) shapeCasts_S4x4096x1024_S4x8x512x1024) transposes_S4x8x512x1024_S4x8x1024x512_0_1_3_2) bitsLt_bf16_f32

/-- The reference's first result is the staged queries. -/
theorem queries_eq (m : (ℓ : Loc nD τ sig) → Buf (Elt Ideal) ℓ) (c : Dev nD) :
    Cert.Reference4Ideal.Value.res_out0 m c
      = queries (m ((c.tc : Thread nD τ).loc main_arg0)) (m ((c.tc : Thread nD τ).loc main_arg1)) (m ((c.tc : Thread nD τ).loc main_arg2))
          (m ((c.tc : Thread nD τ).loc main_arg4)) := rfl

/-- The reference's second result is the staged keys. -/
theorem keys_eq (m : (ℓ : Loc nD τ sig) → Buf (Elt Ideal) ℓ) (c : Dev nD) :
    Cert.Reference4Ideal.Value.res_out1 m c
      = keys (m ((c.tc : Thread nD τ).loc main_arg0)) (m ((c.tc : Thread nD τ).loc main_arg1)) (m ((c.tc : Thread nD τ).loc main_arg2))
          (m ((c.tc : Thread nD τ).loc main_arg5)) := rfl

/-- The normed rows are the RMS norm of each row. -/
theorem normed_apply (x : FVec Ideal S4x4096x1024 .f32) (g : FVec Ideal S2x1024 .f32) (b : Fin 4) (s : Fin 4096) (j : Fin 1024) :
    normed x g (ix3 b s j) = nrm (fun k => x (ix3 b s k)) (fun k => g (ix2 0 k)) j := by
  pointwise [normed]
  rfl

/-- The projection is a column of the product with the normed row. -/
theorem proj_apply (x : FVec Ideal S4x4096x1024 .f32) (g : FVec Ideal S2x1024 .f32) (w : FVec Ideal S1x1024x3088 .f32) (b : Fin 4) (s : Fin 4096) (j : Fin 3088) :
    proj x g w (ix3 b s j) = col (fun k => x (ix3 b s k)) (fun k => g (ix2 0 k)) (fun k j => w (ix3 0 k j)) j := by
  pointwise [proj]
  simp only [normed_apply]
  rfl

/-- The head norm is the norm of the 64 channels of a head. -/
theorem headnorm_apply (z : FVec Ideal S4x4096x16x64 .f32) (g : FVec Ideal S1x64 .f32) (b : Fin 4) (s : Fin 4096) (h : Fin 16) (e : Fin 64) :
    headnorm z g (ix4 b s h e) = head (fun e => z (ix4 b s h e)) (fun e => g (ix2 0 e)) e := by
  pointwise [headnorm]
  rfl

/-- The queries' channels of a head are its columns of the product. -/
theorem heads_q_apply (x : FVec Ideal S4x4096x1024 .f32) (g : FVec Ideal S2x1024 .f32) (w : FVec Ideal S1x1024x3088 .f32) (b : Fin 4) (s : Fin 4096) (h : Fin 16) (e : Fin 64) :
    heads_q x g w (ix4 b s h e) = col (fun k => x (ix3 b s k)) (fun k => g (ix2 0 k)) (fun k j => w (ix3 0 k j)) ⟨64 * h + e, by omega⟩ := by
  pointwise [heads_q]
  refine Eq.trans ?_ (proj_apply x g w b s ⟨64 * h + e, by omega⟩)
  exact congrArg (proj x g w) (by idx_ext)

/-- The keys' channels of a head follow the queries' 1024 columns. -/
theorem heads_k_apply (x : FVec Ideal S4x4096x1024 .f32) (g : FVec Ideal S2x1024 .f32) (w : FVec Ideal S1x1024x3088 .f32) (b : Fin 4) (s : Fin 4096) (h : Fin 16) (e : Fin 64) :
    heads_k x g w (ix4 b s h e) = col (fun k => x (ix3 b s k)) (fun k => g (ix2 0 k)) (fun k j => w (ix3 0 k j)) ⟨1024 + (64 * h + e), by omega⟩ := by
  pointwise [heads_k]
  refine Eq.trans ?_ (proj_apply x g w b s ⟨1024 + (64 * h + e), by omega⟩)
  exact congrArg (proj x g w) (by idx_ext)

/-- One entry of the queries: the normed channel of its head, scaled. -/
theorem queries_apply (x : FVec Ideal S4x4096x1024 .f32) (g : FVec Ideal S2x1024 .f32) (w : FVec Ideal S1x1024x3088 .f32) (gq : FVec Ideal S1x64 .f32)
    (b : Fin 4) (s : Fin 4096) (j : Fin 1024) :
    queries x g w gq (ix3 b j s)
      = head (fun e => col (fun k => x (ix3 b s k)) (fun k => g (ix2 0 k)) (fun k j => w (ix3 0 k j)) ⟨64 * (j / 64) + e, by omega⟩)
          (fun e => gq (ix2 0 e)) ⟨j % 64, by omega⟩ * Ideal.ofBits .f32 0x3E38AA3B#32 := by
  pointwise [queries]
  refine congrArg (· * _) ?_
  refine Eq.trans (congrArg (headnorm (heads_q x g w) gq) (?_ : _ = ix4 b s ⟨j / 64, by omega⟩ ⟨j % 64, by omega⟩)) ?_
  · idx_ext
  · rw [headnorm_apply]
    simp only [heads_q_apply]

/-- One entry of the keys: the normed channel of its head. -/
theorem keys_apply (x : FVec Ideal S4x4096x1024 .f32) (g : FVec Ideal S2x1024 .f32) (w : FVec Ideal S1x1024x3088 .f32) (gk : FVec Ideal S1x64 .f32)
    (b : Fin 4) (s : Fin 4096) (j : Fin 1024) :
    keys x g w gk (ix3 b s j)
      = head (fun e => col (fun k => x (ix3 b s k)) (fun k => g (ix2 0 k)) (fun k j => w (ix3 0 k j)) ⟨1024 + (64 * (j / 64) + e), by omega⟩)
          (fun e => gk (ix2 0 e)) ⟨j % 64, by omega⟩ := by
  pointwise [keys]
  refine Eq.trans (congrArg (headnorm (heads_k x g w) gk) (?_ : _ = ix4 b s ⟨j / 64, by omega⟩ ⟨j % 64, by omega⟩)) ?_
  · idx_ext
  · rw [headnorm_apply]
    simp only [heads_k_apply]

/-- One entry of the values: a column of the product at a token of its block. -/
theorem values_apply (x : FVec Ideal S4x4096x1024 .f32) (g : FVec Ideal S2x1024 .f32) (w : FVec Ideal S1x1024x3088 .f32)
    (b : Fin 4) (s : Fin 8) (j : Fin 1024) (r : Fin 512) :
    values x g w (ix4 b s j r)
      = col (fun k => x (ix3 b ⟨512 * s + r, by omega⟩ k)) (fun k => g (ix2 0 k)) (fun k j => w (ix3 0 k j)) ⟨2048 + j, by omega⟩ := by
  pointwise [values]
  refine Eq.trans ?_ (proj_apply x g w b ⟨512 * s + r, by omega⟩ ⟨2048 + j, by omega⟩)
  exact congrArg (proj x g w) (by idx_ext)

end Cert.Reference4Ideal.Stages

end
-- ==== Proof.QkvValue.lean ====
/- The result arrays of the projection call are the reference's. -/
module

public import proofs.«01_k».proof.Proof.QkvBlock
public import proofs.«01_k».proof.Proof.QkvTab
public import proofs.«01_k».proof.Proof.QkvRef

@[expose] public section

set_option maxRecDepth 16384

noncomputable section

open Idealize.ShloMosaic Idealize.ShloMosaic.TcCoe Idealize.SL.Sem
open Idealize.ShloMosaic.Pipeline (Dat)
namespace Cert.Kernel4Ideal.QkvValue
open Cert.Kernel4Ideal Cert.Kernel4Ideal.Gen RowMath QkvBlock QkvTab

variable (m : (ℓ : Loc nD τ sig) → Buf (Elt Ideal) ℓ)

/-- Where the windows of the input blocks stand at grid point `t`: sequence `t / 8`, block of tokens `t % 8`. -/
theorem idx : ∀ t : Fin grid0.N, win0_0.index t = ![t.val / 8, t.val % 8, 0] ∧ win0_1.index t = ![0, 0] ∧ win0_2.index t = ![0, 0]
    ∧ win0_3.index t = ![0, 0] ∧ win0_4.index t = ![0, 0] ∧ win0_5.index t = ![0, 0] ∧ win0_6.index t = ![0, 0] ∧ t.val < 32 := by
  decide +kernel

/-- Where the windows of the claimed results stand at grid point `t`. -/
theorem idx_out : ∀ t : Fin grid0.N, win0_12.index t = ![t.val / 8, 0, t.val % 8] ∧ win0_13.index t = ![t.val / 8, t.val % 8, 0]
    ∧ win0_14.index t = ![t.val / 8, t.val % 8, 0, 0] := by
  decide +kernel

variable (c : Dev nD) (t : Fin grid0.N)

/-- The sequence of grid point `t`. -/
def seq : Fin 4 := ⟨t.val / 8, by have := (idx t).2.2.2.2.2.2.2; omega⟩

/-- The block of tokens of grid point `t`. -/
def tb : Fin 8 := ⟨t.val % 8, by omega⟩

/-- The token of the sequence at row `r` of the point's block. -/
def tok (r : Fin 512) : Fin 4096 := ⟨512 * (t.val % 8) + r, by omega⟩

/-- The point's block of the rows, read in the whole array. -/
theorem blk_x (r : Fin 512) (k : Fin 1024) :
    iblk m c 0 t (ix3 0 r k) = m ((c : Thread nD τ).loc main_arg0) (ix3 (seq t) (tok t r) k) := by
  blk_simp [iblk]
  rw [V_main_arg0]
  blk_ext [idx t, seq, tok]

/-- The point's gain block is the first row of the gain table. -/
theorem blk_g (k : Fin 1024) : iblk m c 1 t (ix2 0 k) = m ((c : Thread nD τ).loc main_arg1) (ix2 0 k) := by
  refine Eq.trans ?_ (tab_g m c k)
  blk_simp [iblk]
  blk_ext [idx t]

/-- The keys' columns of the point's first weight block. -/
theorem blk_wk (k j : Fin 1024) :
    iblk m c 2 t (ix2 k ⟨j, by omega⟩) = m ((c : Thread nD τ).loc main_arg2) (ix3 0 k ⟨1024 + j, by omega⟩) := by
  refine Eq.trans ?_ (tab_wk m c k j)
  blk_simp [iblk]
  blk_ext [idx t]

/-- The queries' rows of the point's second weight block. -/
theorem blk_wq (j k : Fin 1024) :
    iblk m c 3 t (ix2 ⟨j, by omega⟩ k) = m ((c : Thread nD τ).loc main_arg2) (ix3 0 k ⟨j, by omega⟩) := by
  refine Eq.trans ?_ (tab_wq m c j k)
  blk_simp [iblk]
  blk_ext [idx t]

/-- The values' rows of the point's second weight block. -/
theorem blk_wv (j k : Fin 1024) :
    iblk m c 3 t (ix2 ⟨1024 + j, by omega⟩ k) = m ((c : Thread nD τ).loc main_arg2) (ix3 0 k ⟨2048 + j, by omega⟩) := by
  refine Eq.trans ?_ (tab_wv m c j k)
  blk_simp [iblk]
  blk_ext [idx t]

/-- The point's matrix block averages over groups of 64 channels. -/
theorem blk_bd : IsMean (iblk m c 4 t) := by
  intro a b
  refine Eq.trans ?_ (tab_bd m c a b)
  blk_simp [iblk]
  blk_ext [idx t]

/-- The point's gain row of the keys repeats the gains of one head. -/
theorem blk_gk (j : Fin 1024) :
    iblk m c 5 t (ix2 0 j) = m ((c : Thread nD τ).loc main_arg5) (ix2 0 ⟨j % 64, by omega⟩) := by
  refine Eq.trans ?_ (tab_gk m c j)
  blk_simp [iblk]
  blk_ext [idx t]

/-- The point's gain table of the queries repeats the scaled gains of one head. -/
theorem blk_gq (G : Fin 64 → EReal) (hG : ∀ e, m ((c : Thread nD τ).loc main_arg4) (ix2 0 e) = G e) (j : Fin 1024) (l : Fin 128) :
    iblk m c 6 t (ix2 j l) = G ⟨j % 64, by omega⟩ * Ideal.ofBits .f32 0x3E38AA3B#32 := by
  refine Eq.trans ?_ (tab_gq m c G hG j l)
  blk_simp [iblk]
  blk_ext [idx t]

/-- The keys' channel `n` of the point's product. -/
theorem y_col (r : Fin 512) (n : ℕ) (hn : n < 1024) :
    k0_pay4 (F := Ideal) (iblk m c 0 t) (iblk m c 1 t) (iblk m c 2 t) (ix2 r ⟨n, by omega⟩)
      = col (fun k => m ((c : Thread nD τ).loc main_arg0) (ix3 (seq t) (tok t r) k)) (fun k => m ((c : Thread nD τ).loc main_arg1) (ix2 0 k))
          (fun k j => m ((c : Thread nD τ).loc main_arg2) (ix3 0 k j)) ⟨1024 + n, by omega⟩ := by
  rw [y_at]
  simp only [blk_x, blk_g, blk_wk m c t _ ⟨n, hn⟩]
  rfl

/-- The queries' channel `n` of the point's product, over the first rows of the weight. -/
theorem z_col (w : FVec Ideal S1024x1024 .bf16) (hw : ∀ j k : Fin 1024, w (ix2 j k) = iblk m c 3 t (ix2 ⟨j, by omega⟩ k)) (r : Fin 512)
    (n : ℕ) (hn : n < 1024) :
    k0_pay6 (F := Ideal) (iblk m c 0 t) (iblk m c 1 t) w (ix2 ⟨n, hn⟩ r)
      = col (fun k => m ((c : Thread nD τ).loc main_arg0) (ix3 (seq t) (tok t r) k)) (fun k => m ((c : Thread nD τ).loc main_arg1) (ix2 0 k))
          (fun k j => m ((c : Thread nD τ).loc main_arg2) (ix3 0 k j)) ⟨n, by omega⟩ := by
  rw [z_at]
  simp only [hw, blk_x, blk_g, blk_wq m c t ⟨n, hn⟩]
  rfl

section Tiles
variable (r : Fin 512) (j : Fin 1024) (e : Fin 256)

/-- The first tile of the point's keys, read in the whole arrays. -/
theorem key_tile0 (g : FVec Ideal S1x256 .f32) (hg : ∀ e : Fin 256, g (ix2 0 e) = iblk m c 5 t (ix2 0 ⟨e, by omega⟩)) (hj : (j : ℕ) = e) :
    k0_pay7 (F := Ideal) (k0_pay4 (iblk m c 0 t) (iblk m c 1 t) (iblk m c 2 t)) (iblk m c 4 t) g (ix3 0 r e)
      = head (fun e => col (fun k => m ((c : Thread nD τ).loc main_arg0) (ix3 (seq t) (tok t r) k)) (fun k => m ((c : Thread nD τ).loc main_arg1) (ix2 0 k))
          (fun k j => m ((c : Thread nD τ).loc main_arg2) (ix3 0 k j))
            ⟨1024 + (64 * (j / 64) + e), by omega⟩) (fun e => m ((c : Thread nD τ).loc main_arg5) (ix2 0 e)) ⟨j % 64, by omega⟩ := by
  rw [key0 _ (blk_bd m c t) g (fun e => m ((c : Thread nD τ).loc main_arg5) (ix2 0 e)) r e (by rw [hg]; exact blk_gk m c t _)]
  simp only [hj]
  exact congrArg (fun F => head F _ _) (funext fun k => y_col m c t r _ (by omega))

/-- The second tile of the point's keys, read in the whole arrays. -/
theorem key_tile1 (g : FVec Ideal S1x256 .f32) (hg : ∀ e : Fin 256, g (ix2 0 e) = iblk m c 5 t (ix2 0 ⟨256 + e, by omega⟩)) (hj : (j : ℕ) = 256 + e) :
    k0_pay11 (F := Ideal) (k0_pay9 (k0_pay4 (iblk m c 0 t) (iblk m c 1 t) (iblk m c 2 t))) (k0_pay10 (k0_pay4 (iblk m c 0 t) (iblk m c 1 t) (iblk m c 2 t))) (iblk m c 4 t) g (ix3 0 r e)
      = head (fun e => col (fun k => m ((c : Thread nD τ).loc main_arg0) (ix3 (seq t) (tok t r) k)) (fun k => m ((c : Thread nD τ).loc main_arg1) (ix2 0 k))
          (fun k j => m ((c : Thread nD τ).loc main_arg2) (ix3 0 k j))
            ⟨1024 + (64 * (j / 64) + e), by omega⟩) (fun e => m ((c : Thread nD τ).loc main_arg5) (ix2 0 e)) ⟨j % 64, by omega⟩ := by
  rw [key1 _ (blk_bd m c t) g (fun e => m ((c : Thread nD τ).loc main_arg5) (ix2 0 e)) r e (by rw [hg]; exact blk_gk m c t _)]
  simp only [hj]
  exact congrArg (fun F => head F _ _) (funext fun k => y_col m c t r _ (by omega))

/-- The third tile of the point's keys, read in the whole arrays. -/
theorem key_tile2 (g : FVec Ideal S1x256 .f32) (hg : ∀ e : Fin 256, g (ix2 0 e) = iblk m c 5 t (ix2 0 ⟨512 + e, by omega⟩)) (hj : (j : ℕ) = 512 + e) :
    k0_pay16 (F := Ideal) (k0_pay13 (k0_pay4 (iblk m c 0 t) (iblk m c 1 t) (iblk m c 2 t))) (k0_pay14 (k0_pay4 (iblk m c 0 t) (iblk m c 1 t) (iblk m c 2 t))) (k0_pay15 (iblk m c 4 t)) (constant S512x256 .f32 0#32) g (ix3 0 r e)
      = head (fun e => col (fun k => m ((c : Thread nD τ).loc main_arg0) (ix3 (seq t) (tok t r) k)) (fun k => m ((c : Thread nD τ).loc main_arg1) (ix2 0 k))
          (fun k j => m ((c : Thread nD τ).loc main_arg2) (ix3 0 k j))
            ⟨1024 + (64 * (j / 64) + e), by omega⟩) (fun e => m ((c : Thread nD τ).loc main_arg5) (ix2 0 e)) ⟨j % 64, by omega⟩ := by
  rw [key2 _ (blk_bd m c t) g (fun e => m ((c : Thread nD τ).loc main_arg5) (ix2 0 e)) r e (by rw [hg]; exact blk_gk m c t _)]
  simp only [hj]
  exact congrArg (fun F => head F _ _) (funext fun k => y_col m c t r _ (by omega))

/-- The last tile of the point's keys, read in the whole arrays. -/
theorem key_tile3 (g : FVec Ideal S1x256 .f32) (hg : ∀ e : Fin 256, g (ix2 0 e) = iblk m c 5 t (ix2 0 ⟨768 + e, by omega⟩)) (hj : (j : ℕ) = 768 + e) :
    k0_pay20 (F := Ideal) (k0_pay18 (k0_pay4 (iblk m c 0 t) (iblk m c 1 t) (iblk m c 2 t))) (k0_pay19 (k0_pay4 (iblk m c 0 t) (iblk m c 1 t) (iblk m c 2 t)) (iblk m c 4 t)) g (ix3 0 r e)
      = head (fun e => col (fun k => m ((c : Thread nD τ).loc main_arg0) (ix3 (seq t) (tok t r) k)) (fun k => m ((c : Thread nD τ).loc main_arg1) (ix2 0 k))
          (fun k j => m ((c : Thread nD τ).loc main_arg2) (ix3 0 k j))
            ⟨1024 + (64 * (j / 64) + e), by omega⟩) (fun e => m ((c : Thread nD τ).loc main_arg5) (ix2 0 e)) ⟨j % 64, by omega⟩ := by
  rw [key3 _ (blk_bd m c t) g (fun e => m ((c : Thread nD τ).loc main_arg5) (ix2 0 e)) r e (by rw [hg]; exact blk_gk m c t _)]
  simp only [hj]
  exact congrArg (fun F => head F _ _) (funext fun k => y_col m c t r _ (by omega))

/-- The first tile of the point's queries, read in the whole arrays. -/
theorem query_tile0 (w : FVec Ideal S1024x1024 .bf16) (hw : ∀ j k : Fin 1024, w (ix2 j k) = iblk m c 3 t (ix2 ⟨j, by omega⟩ k))
    (g : FVec Ideal S256x128 .f32) (hg : ∀ (e : Fin 256) (l : Fin 128), g (ix2 e l) = iblk m c 6 t (ix2 ⟨e, by omega⟩ l)) (hj : (j : ℕ) = e) :
    k0_pay8 (F := Ideal) (k0_pay6 (iblk m c 0 t) (iblk m c 1 t) w) (iblk m c 4 t) g (ix3 0 e r)
      = head (fun e => col (fun k => m ((c : Thread nD τ).loc main_arg0) (ix3 (seq t) (tok t r) k)) (fun k => m ((c : Thread nD τ).loc main_arg1) (ix2 0 k))
          (fun k j => m ((c : Thread nD τ).loc main_arg2) (ix3 0 k j))
            ⟨64 * (j / 64) + e, by omega⟩) (fun e => m ((c : Thread nD τ).loc main_arg4) (ix2 0 e)) ⟨j % 64, by omega⟩
          * Ideal.ofBits .f32 0x3E38AA3B#32 := by
  rw [query0 _ (blk_bd m c t) g (fun e => m ((c : Thread nD τ).loc main_arg4) (ix2 0 e)) (Ideal.ofBits .f32 0x3E38AA3B#32) r e
    (fun l => by rw [hg]; exact blk_gq m c t _ (fun _ => rfl) _ l)]
  simp only [hj]
  exact congrArg (fun F => head F _ _ * _) (funext fun k => z_col m c t w hw r _ (by omega))

/-- The second tile of the point's queries, read in the whole arrays. -/
theorem query_tile1 (w : FVec Ideal S1024x1024 .bf16) (hw : ∀ j k : Fin 1024, w (ix2 j k) = iblk m c 3 t (ix2 ⟨j, by omega⟩ k))
    (g : FVec Ideal S256x128 .f32) (hg : ∀ (e : Fin 256) (l : Fin 128), g (ix2 e l) = iblk m c 6 t (ix2 ⟨256 + e, by omega⟩ l)) (hj : (j : ℕ) = 256 + e) :
    k0_pay12 (F := Ideal) (k0_pay6 (iblk m c 0 t) (iblk m c 1 t) w) (iblk m c 4 t) g (ix3 0 e r)
      = head (fun e => col (fun k => m ((c : Thread nD τ).loc main_arg0) (ix3 (seq t) (tok t r) k)) (fun k => m ((c : Thread nD τ).loc main_arg1) (ix2 0 k))
          (fun k j => m ((c : Thread nD τ).loc main_arg2) (ix3 0 k j))
            ⟨64 * (j / 64) + e, by omega⟩) (fun e => m ((c : Thread nD τ).loc main_arg4) (ix2 0 e)) ⟨j % 64, by omega⟩
          * Ideal.ofBits .f32 0x3E38AA3B#32 := by
  rw [query1 _ (blk_bd m c t) g (fun e => m ((c : Thread nD τ).loc main_arg4) (ix2 0 e)) (Ideal.ofBits .f32 0x3E38AA3B#32) r e
    (fun l => by rw [hg]; exact blk_gq m c t _ (fun _ => rfl) _ l)]
  simp only [hj]
  exact congrArg (fun F => head F _ _ * _) (funext fun k => z_col m c t w hw r _ (by omega))

/-- The third tile of the point's queries, read in the whole arrays. -/
theorem query_tile2 (w : FVec Ideal S1024x1024 .bf16) (hw : ∀ j k : Fin 1024, w (ix2 j k) = iblk m c 3 t (ix2 ⟨j, by omega⟩ k))
    (g : FVec Ideal S256x128 .f32) (hg : ∀ (e : Fin 256) (l : Fin 128), g (ix2 e l) = iblk m c 6 t (ix2 ⟨512 + e, by omega⟩ l)) (hj : (j : ℕ) = 512 + e) :
    k0_pay17 (F := Ideal) (k0_pay6 (iblk m c 0 t) (iblk m c 1 t) w) (iblk m c 4 t) g (ix3 0 e r)
      = head (fun e => col (fun k => m ((c : Thread nD τ).loc main_arg0) (ix3 (seq t) (tok t r) k)) (fun k => m ((c : Thread nD τ).loc main_arg1) (ix2 0 k))
          (fun k j => m ((c : Thread nD τ).loc main_arg2) (ix3 0 k j))
            ⟨64 * (j / 64) + e, by omega⟩) (fun e => m ((c : Thread nD τ).loc main_arg4) (ix2 0 e)) ⟨j % 64, by omega⟩
          * Ideal.ofBits .f32 0x3E38AA3B#32 := by
  rw [query2 _ (blk_bd m c t) g (fun e => m ((c : Thread nD τ).loc main_arg4) (ix2 0 e)) (Ideal.ofBits .f32 0x3E38AA3B#32) r e
    (fun l => by rw [hg]; exact blk_gq m c t _ (fun _ => rfl) _ l)]
  simp only [hj]
  exact congrArg (fun F => head F _ _ * _) (funext fun k => z_col m c t w hw r _ (by omega))

/-- The last tile of the point's queries, read in the whole arrays. -/
theorem query_tile3 (w : FVec Ideal S1024x1024 .bf16) (hw : ∀ j k : Fin 1024, w (ix2 j k) = iblk m c 3 t (ix2 ⟨j, by omega⟩ k))
    (g : FVec Ideal S256x128 .f32) (hg : ∀ (e : Fin 256) (l : Fin 128), g (ix2 e l) = iblk m c 6 t (ix2 ⟨768 + e, by omega⟩ l)) (hj : (j : ℕ) = 768 + e) :
    k0_pay21 (F := Ideal) (k0_pay6 (iblk m c 0 t) (iblk m c 1 t) w) (iblk m c 4 t) g (ix3 0 e r)
      = head (fun e => col (fun k => m ((c : Thread nD τ).loc main_arg0) (ix3 (seq t) (tok t r) k)) (fun k => m ((c : Thread nD τ).loc main_arg1) (ix2 0 k))
          (fun k j => m ((c : Thread nD τ).loc main_arg2) (ix3 0 k j))
            ⟨64 * (j / 64) + e, by omega⟩) (fun e => m ((c : Thread nD τ).loc main_arg4) (ix2 0 e)) ⟨j % 64, by omega⟩
          * Ideal.ofBits .f32 0x3E38AA3B#32 := by
  rw [query3 _ (blk_bd m c t) g (fun e => m ((c : Thread nD τ).loc main_arg4) (ix2 0 e)) (Ideal.ofBits .f32 0x3E38AA3B#32) r e
    (fun l => by rw [hg]; exact blk_gq m c t _ (fun _ => rfl) _ l)]
  simp only [hj]
  exact congrArg (fun F => head F _ _ * _) (funext fun k => z_col m c t w hw r _ (by omega))

end Tiles

/-- Where an entry of the point's block of queries stands in the result array. -/
theorem at_q (j : Fin 1024) (r : Fin 512) : ((View.whole main_v82_0).slice (win0_12.rect t)).emb (ix3 0 j r) = ix3 (seq t) j (tok t r) := by
  blk_ext [idx_out t, seq, tok]

/-- Where an entry of the point's block of keys stands in the result array. -/
theorem at_k (r : Fin 512) (j : Fin 1024) : ((View.whole main_v82_1).slice (win0_13.rect t)).emb (ix3 0 r j) = ix3 (seq t) (tok t r) j := by
  blk_ext [idx_out t, seq, tok]

/-- Where an entry of the point's block of values stands in the result array. -/
theorem at_v (j : Fin 1024) (r : Fin 512) : ((View.whole main_v82_2).slice (win0_14.rect t)).emb (ix4 0 0 j r) = ix4 (seq t) (tb t) j r := by
  blk_ext [idx_out t, seq, tb]

/-- The third result array is the reference's values. -/
theorem final_v : (dats m 0 c).arrAt 14 (cfgs 0).N
    = Cert.Reference4Ideal.Stages.values (m ((c : Thread nD τ).loc main_arg0)) (m ((c : Thread nD τ).loc main_arg1))
        (m ((c : Thread nD τ).loc main_arg2)) := by
  refine (dats m 0 c).arrAt_eq_of_covers 14 _ (by decide +kernel) fun t _ y => ?_
  blk_simp
  rw [after0_14]
  idx_vars y
  obtain rfl : y0 = 0 := Subsingleton.elim _ _
  obtain rfl : y1 = 0 := Subsingleton.elim _ _
  rw [at_v, Cert.Reference4Ideal.Stages.values_apply]
  by_cases h : t.val % 8 = 0
  · rw [outsAt0_A m c t h]
    dsimp only
    frame_out
    rw [v_at]
    simp only [View.ld_unit_apply_of, blk_x, blk_g]
    pointwise
    simp only [blk_wv]
    rfl
  · rw [outsAt0_B m c t h]
    dsimp only
    frame_out
    rw [v_at]
    simp only [View.ld_unit_apply_of, blk_x, blk_g]
    pointwise
    simp only [blk_wv]
    rfl

/-- The second result array is the reference's keys. -/
theorem final_k : (dats m 0 c).arrAt 13 (cfgs 0).N
    = Cert.Reference4Ideal.Stages.keys (m ((c : Thread nD τ).loc main_arg0)) (m ((c : Thread nD τ).loc main_arg1))
        (m ((c : Thread nD τ).loc main_arg2)) (m ((c : Thread nD τ).loc main_arg5)) := by
  refine (dats m 0 c).arrAt_eq_of_covers 13 _ (by decide +kernel) fun t _ y => ?_
  blk_simp
  rw [after0_13]
  idx_vars y
  obtain rfl : y0 = 0 := Subsingleton.elim _ _
  rw [at_k, Cert.Reference4Ideal.Stages.keys_apply]
  by_cases h : t.val % 8 = 0
  · rw [outsAt0_A m c t h]
    dsimp only
    frame_out
    canon_tiles x h
    · idx_vars x
      obtain rfl : y1 = x1 := Fin.ext h1
      obtain rfl : x0 = 0 := Subsingleton.elim _ _
      exact key_tile3 m c t y1 y2 x2 _ (fun e => by pointwise) h2
    · idx_vars x
      obtain rfl : y1 = x1 := Fin.ext h1
      obtain rfl : x0 = 0 := Subsingleton.elim _ _
      exact key_tile2 m c t y1 y2 x2 _ (fun e => by pointwise) h2
    · idx_vars x
      obtain rfl : y1 = x1 := Fin.ext h1
      obtain rfl : x0 = 0 := Subsingleton.elim _ _
      exact key_tile1 m c t y1 y2 x2 _ (fun e => by pointwise) h2
    · idx_vars x
      obtain rfl : y1 = x1 := Fin.ext h1
      obtain rfl : x0 = 0 := Subsingleton.elim _ _
      exact key_tile0 m c t y1 y2 x2 _ (fun e => by pointwise) h2
  · rw [outsAt0_B m c t h]
    dsimp only
    frame_out
    canon_tiles x h
    · idx_vars x
      obtain rfl : y1 = x1 := Fin.ext h1
      obtain rfl : x0 = 0 := Subsingleton.elim _ _
      exact key_tile3 m c t y1 y2 x2 _ (fun e => by pointwise) h2
    · idx_vars x
      obtain rfl : y1 = x1 := Fin.ext h1
      obtain rfl : x0 = 0 := Subsingleton.elim _ _
      exact key_tile2 m c t y1 y2 x2 _ (fun e => by pointwise) h2
    · idx_vars x
      obtain rfl : y1 = x1 := Fin.ext h1
      obtain rfl : x0 = 0 := Subsingleton.elim _ _
      exact key_tile1 m c t y1 y2 x2 _ (fun e => by pointwise) h2
    · idx_vars x
      obtain rfl : y1 = x1 := Fin.ext h1
      obtain rfl : x0 = 0 := Subsingleton.elim _ _
      exact key_tile0 m c t y1 y2 x2 _ (fun e => by pointwise) h2

/-- The first result array is the reference's queries. -/
theorem final_q : (dats m 0 c).arrAt 12 (cfgs 0).N
    = Cert.Reference4Ideal.Stages.queries (m ((c : Thread nD τ).loc main_arg0)) (m ((c : Thread nD τ).loc main_arg1))
        (m ((c : Thread nD τ).loc main_arg2)) (m ((c : Thread nD τ).loc main_arg4)) := by
  refine (dats m 0 c).arrAt_eq_of_covers 12 _ (by decide +kernel) fun t _ y => ?_
  blk_simp
  rw [after0_12]
  idx_vars y
  obtain rfl : y0 = 0 := Subsingleton.elim _ _
  rw [at_q, Cert.Reference4Ideal.Stages.queries_apply]
  by_cases h : t.val % 8 = 0
  · rw [outsAt0_A m c t h]
    dsimp only
    frame_out
    canon_tiles x h
    · idx_vars x
      obtain rfl : y2 = x2 := Fin.ext h2
      obtain rfl : x0 = 0 := Subsingleton.elim _ _
      exact query_tile3 m c t y2 y1 x1 _ (fun j k => by pointwise) _ (fun e l => by pointwise) h1
    · idx_vars x
      obtain rfl : y2 = x2 := Fin.ext h2
      obtain rfl : x0 = 0 := Subsingleton.elim _ _
      exact query_tile2 m c t y2 y1 x1 _ (fun j k => by pointwise) _ (fun e l => by pointwise) h1
    · idx_vars x
      obtain rfl : y2 = x2 := Fin.ext h2
      obtain rfl : x0 = 0 := Subsingleton.elim _ _
      exact query_tile1 m c t y2 y1 x1 _ (fun j k => by pointwise) _ (fun e l => by pointwise) h1
    · idx_vars x
      obtain rfl : y2 = x2 := Fin.ext h2
      obtain rfl : x0 = 0 := Subsingleton.elim _ _
      exact query_tile0 m c t y2 y1 x1 _ (fun j k => by pointwise) _ (fun e l => by pointwise) h1
  · rw [outsAt0_B m c t h]
    dsimp only
    frame_out
    canon_tiles x h
    · idx_vars x
      obtain rfl : y2 = x2 := Fin.ext h2
      obtain rfl : x0 = 0 := Subsingleton.elim _ _
      exact query_tile3 m c t y2 y1 x1 _ (fun j k => by pointwise) _ (fun e l => by pointwise) h1
    · idx_vars x
      obtain rfl : y2 = x2 := Fin.ext h2
      obtain rfl : x0 = 0 := Subsingleton.elim _ _
      exact query_tile2 m c t y2 y1 x1 _ (fun j k => by pointwise) _ (fun e l => by pointwise) h1
    · idx_vars x
      obtain rfl : y2 = x2 := Fin.ext h2
      obtain rfl : x0 = 0 := Subsingleton.elim _ _
      exact query_tile1 m c t y2 y1 x1 _ (fun j k => by pointwise) _ (fun e l => by pointwise) h1
    · idx_vars x
      obtain rfl : y2 = x2 := Fin.ext h2
      obtain rfl : x0 = 0 := Subsingleton.elim _ _
      exact query_tile0 m c t y2 y1 x1 _ (fun j k => by pointwise) _ (fun e l => by pointwise) h1

end Cert.Kernel4Ideal.QkvValue

end
-- ==== Proof.lean ====
/- The proof of every claim of this directory (`Cert.Claim`, proofs.«01_k».proof.Defs): the two feed-forward calls, the
   attention and the projection in front of it end and leave their arguments as they were, the named mask constant stands for the one it replaces, and over
   the ideal numbers each call ends with its reference's results. -/
module

public import proofs.«01_k».proof.Proof.GluValue
public import proofs.«01_k».proof.Proof.MixValue
public import proofs.«01_k».proof.Proof.AttPre
public import proofs.«01_k».proof.Proof.QkvValue
public import proofs.«01_k».proof.Proof.Gen.Reference2Ideal.Run
public import proofs.«01_k».proof.Proof.Gen.ReferenceIdeal.Run
public import proofs.«01_k».proof.Proof.Gen.Reference3Ideal.Run
public import proofs.«01_k».proof.Proof.Gen.Kernel2Ideal.Value
public import proofs.«01_k».proof.Proof.Gen.KernelIdeal.Value
public import proofs.«01_k».proof.Proof.Gen.Reference4Ideal.Run
public import proofs.«01_k».proof.Proof.Gen.Kernel4Ideal.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Loops
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Loops
public import proofs.«01_k».proof.Proof.Gen.Kernel3Ideal.Launch
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Pre_online
public import proofs.«01_k».proof.Proof.Gen.Pre_online_finite
public import Idealize.ShloMosaic.Adequacy
public import Idealize.ShloMosaic.Init

@[expose] public section

noncomputable section

namespace Cert.Proof

open Idealize.ShloMosaic Idealize.SL.Sem Cert.Kernel

/-- The gated output projection and feed-forward call, over the ideal numbers, ends with the reference's result. -/
theorem glu_algebraic : Cert.algebraic_KernelIdeal_ReferenceIdeal := by
  pair_intro
  · run_from Cert.KernelIdeal.Value.run_blocks m g
  · run_from Cert.ReferenceIdeal.Value.run m' g'
    refine (Cert.ReferenceIdeal.Stages.res_eq _ _).trans (Eq.trans ?_ (Cert.KernelIdeal.GluValue.final m c).symm)
    obtain ⟨h0, h1, h2, h3, h4, h5⟩ := hagree c
    rw [h0, h1, h2, h3, h4, h5]

/-- The output projection, feed-forward and input projection call, over the ideal numbers, ends with the reference's two results. -/
theorem mix_algebraic : Cert.algebraic_Kernel2Ideal_Reference2Ideal := by
  pair_intro
  · run_from Cert.Kernel2Ideal.Value.run_blocks m g
  · run_from Cert.Reference2Ideal.Value.run m' g'
    · refine (Cert.Reference2Ideal.Stages.res_eq0 _ _).trans (Eq.trans ?_ (Cert.Kernel2Ideal.MixValue.final m c).symm)
      obtain ⟨h0, h1, h2, h3, h4, h5, -, -⟩ := hagree c
      rw [h0, h1, h2, h3, h4, h5]
    · refine (Cert.Reference2Ideal.Stages.res_eq1 _ _).trans (Eq.trans ?_ (Cert.Kernel2Ideal.MixValue.final' m c).symm)
      obtain ⟨h0, h1, h2, h3, h4, h5, h6, h7⟩ := hagree c
      rw [h0, h1, h2, h3, h4, h5, h6, h7]

/-- The attention call, over the ideal numbers, at finite inputs and with the running maximum asked for, ends with the
    reference's three results. -/
theorem att_algebraic : Cert.algebraic_Kernel3Ideal_Reference3Ideal_pre_online_finite := by
  pair_intro
  · run_from Cert.Kernel3Ideal.Att.run_blocks m (AttPre.online_finite m hpre) g
  · refine (θ_run _ _ _).mono (fun _ h c => ⟨(h c).1.trans ?_, (h c).2.1.trans ?_, (h c).2.2.1.trans ?_, (h c).2.2.2⟩)
      (Cert.Reference3Ideal.Value.run m' g')
    · refine (Cert.Reference3Ideal.Stages.res_eq _ _).trans (Eq.trans ?_ (Cert.Kernel3Ideal.AttValue.final7 m _ c (AttPre.finite_ideal m hpre c)).symm)
      obtain ⟨-, h1, h2, h3, h4, h5, -, -⟩ := hagree c
      rw [h1, h2, h3, h4, h5]
    · refine Eq.trans ?_ (Cert.Kernel3Ideal.AttValue.final8 m _ c).symm
      obtain ⟨-, -, -, -, -, -, h6, -⟩ := hagree c
      rw [h6]
    · refine Eq.trans ?_ (Cert.Kernel3Ideal.AttValue.final9 m _ c).symm
      obtain ⟨-, -, -, -, -, -, -, h7⟩ := hagree c
      rw [h7]

/-- The attention's reference ends and leaves its arguments as they were. -/
theorem att_reference : Cert.quiescent_Reference3Ideal := fun m ρ _ =>
  (θ_run _ _ _).mono (fun _ h => ⟨fun c => (h c).2.2.2, sem_eq_zero_of_no_sems rfl _⟩) (Cert.Reference3Ideal.Value.run m ρ)

/-- The projection call, over the ideal numbers, ends with the reference's queries, keys and values. -/
theorem qkv_algebraic : Cert.algebraic_Kernel4Ideal_Reference4Ideal := by
  pair_intro
  · run_from Cert.Kernel4Ideal.Value.run_blocks m g
  · run_from Cert.Reference4Ideal.Value.run m' g'
    · refine (Cert.Reference4Ideal.Stages.queries_eq _ _).trans (Eq.trans ?_ (Cert.Kernel4Ideal.QkvValue.final_q m c).symm)
      obtain ⟨h0, h1, h2, -, h4, -⟩ := hagree c
      rw [h0, h1, h2, h4]
    · refine (Cert.Reference4Ideal.Stages.keys_eq _ _).trans (Eq.trans ?_ (Cert.Kernel4Ideal.QkvValue.final_k m c).symm)
      obtain ⟨h0, h1, h2, -, -, h5⟩ := hagree c
      rw [h0, h1, h2, h5]
    · refine Eq.trans ?_ (Cert.Kernel4Ideal.QkvValue.final_v m c).symm
      obtain ⟨h0, h1, h2, -, -, -⟩ := hagree c
      rw [← h0, ← h1, ← h2]
      rfl

/-- Every claim of this directory. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts, Cert.Pre_online.Gen.facts, Cert.Pre_online_finite.Gen.facts,
  fun m ρ _ => Cert.Kernel.Gen.frame m ρ, fun m ρ _ => Cert.KernelIdeal.Gen.frame m ρ,
  fun m ρ _ => (θ_run _ _ _).mono (fun _ h => ⟨fun c => (h c).2, sem_eq_zero_of_no_sems rfl _⟩) (Cert.ReferenceIdeal.Value.run m ρ),
  fun m ρ _ => Cert.Kernel2.Gen.frame m ρ, fun m ρ _ => Cert.Kernel2Ideal.Gen.frame m ρ,
  fun m ρ _ => (θ_run _ _ _).mono (fun _ h => ⟨fun c => (h c).2.2, sem_eq_zero_of_no_sems rfl _⟩) (Cert.Reference2Ideal.Value.run m ρ),
  fun m ρ hpre => (θ_run _ _ _).mono (fun _ h => ⟨fun c => (h.1 c).2.2.2, h.2⟩) (Cert.Kernel3.Att.run_blocks m (AttPre.online_bits m hpre) ρ),
  fun m ρ hpre => (θ_run _ _ _).mono (fun _ h => ⟨fun c => (h.1 c).2.2.2, h.2⟩) (Cert.Kernel3Ideal.Att.run_blocks m (AttPre.online_ideal m hpre) ρ),
  fun m ρ hpre => (θ_run _ _ _).mono (fun _ h => ⟨fun c => (h.1 c).2.2.2, h.2⟩) (Cert.Kernel3Ideal.Att.run_blocks m (AttPre.online_finite m hpre) ρ),
  att_reference, fun m ρ _ => att_reference m ρ trivial,
  fun m ρ _ => Cert.Kernel4.Gen.frame m ρ, fun m ρ _ => Cert.Kernel4Ideal.Gen.frame m ρ,
  fun m ρ _ => (θ_run _ _ _).mono (fun _ h => ⟨fun c => (h c).2.2.2, sem_eq_zero_of_no_sems rfl _⟩) (Cert.Reference4Ideal.Value.run m ρ),
  trivial, glu_algebraic, trivial, mix_algebraic, IdealRules.named_const.statement Cert.Kernel3Ideal.κ "mask" .f32 0xF149F2CA#32 ⊥ rfl, att_algebraic,
  trivial, qkv_algebraic⟩

end Cert.Proof

end
